-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelLo (m : (ℓ : Loc Cert.KernelLo.nD Cert.KernelLo.τ Cert.KernelLo.sig) → Buf (Elt Bits) ℓ) : Prop :=
  True

def Pre_KernelLoIdeal (m : (ℓ : Loc Cert.KernelLoIdeal.nD Cert.KernelLoIdeal.τ Cert.KernelLoIdeal.sig) → Buf (Elt Ideal) ℓ) : Prop :=
  True

def Pre_ReferenceLoIdeal (m : (ℓ : Loc Cert.ReferenceLoIdeal.nD Cert.ReferenceLoIdeal.τ Cert.ReferenceLoIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDownW (m : (ℓ : Loc Cert.KernelDownW.nD Cert.KernelDownW.τ Cert.KernelDownW.sig) → Buf (Elt Bits) ℓ) : Prop :=
  True

def Pre_KernelDownWIdeal (m : (ℓ : Loc Cert.KernelDownWIdeal.nD Cert.KernelDownWIdeal.τ Cert.KernelDownWIdeal.sig) → Buf (Elt Ideal) ℓ) : Prop :=
  True

def Pre_ReferenceDownWIdeal (m : (ℓ : Loc Cert.ReferenceDownWIdeal.nD Cert.ReferenceDownWIdeal.τ Cert.ReferenceDownWIdeal.sig) → Buf (Elt Ideal) ℓ) : Prop :=
  True

def Pre_KernelDownX (m : (ℓ : Loc Cert.KernelDownX.nD Cert.KernelDownX.τ Cert.KernelDownX.sig) → Buf (Elt Bits) ℓ) : Prop :=
  True

def Pre_KernelDownXIdeal (m : (ℓ : Loc Cert.KernelDownXIdeal.nD Cert.KernelDownXIdeal.τ Cert.KernelDownXIdeal.sig) → Buf (Elt Ideal) ℓ) : Prop :=
  True

def Pre_ReferenceDownXIdeal (m : (ℓ : Loc Cert.ReferenceDownXIdeal.nD Cert.ReferenceDownXIdeal.τ Cert.ReferenceDownXIdeal.sig) → Buf (Elt Ideal) ℓ) : Prop :=
  True

def Pre_KernelUpW (m : (ℓ : Loc Cert.KernelUpW.nD Cert.KernelUpW.τ Cert.KernelUpW.sig) → Buf (Elt Bits) ℓ) : Prop :=
  True

def Pre_KernelUpWIdeal (m : (ℓ : Loc Cert.KernelUpWIdeal.nD Cert.KernelUpWIdeal.τ Cert.KernelUpWIdeal.sig) → Buf (Elt Ideal) ℓ) : Prop :=
  True

def Pre_ReferenceUpWIdeal (m : (ℓ : Loc Cert.ReferenceUpWIdeal.nD Cert.ReferenceUpWIdeal.τ Cert.ReferenceUpWIdeal.sig) → Buf (Elt Ideal) ℓ) : Prop :=
  True

def Pre_KernelUpX (m : (ℓ : Loc Cert.KernelUpX.nD Cert.KernelUpX.τ Cert.KernelUpX.sig) → Buf (Elt Bits) ℓ) : Prop :=
  True

def Pre_KernelUpXIdeal (m : (ℓ : Loc Cert.KernelUpXIdeal.nD Cert.KernelUpXIdeal.τ Cert.KernelUpXIdeal.sig) → Buf (Elt Ideal) ℓ) : Prop :=
  True

def Pre_ReferenceUpXIdeal (m : (ℓ : Loc Cert.ReferenceUpXIdeal.nD Cert.ReferenceUpXIdeal.τ Cert.ReferenceUpXIdeal.sig) → Buf (Elt Ideal) ℓ) : Prop :=
  True

def Pre_KernelOW (m : (ℓ : Loc Cert.KernelOW.nD Cert.KernelOW.τ Cert.KernelOW.sig) → Buf (Elt Bits) ℓ) : Prop :=
  True

def Pre_KernelOWIdeal (m : (ℓ : Loc Cert.KernelOWIdeal.nD Cert.KernelOWIdeal.τ Cert.KernelOWIdeal.sig) → Buf (Elt Ideal) ℓ) : Prop :=
  True

def Pre_ReferenceOWIdeal (m : (ℓ : Loc Cert.ReferenceOWIdeal.nD Cert.ReferenceOWIdeal.τ Cert.ReferenceOWIdeal.sig) → Buf (Elt Ideal) ℓ) : Prop :=
  True

def Pre_KernelOX (m : (ℓ : Loc Cert.KernelOX.nD Cert.KernelOX.τ Cert.KernelOX.sig) → Buf (Elt Bits) ℓ) : Prop :=
  True

def Pre_KernelOXIdeal (m : (ℓ : Loc Cert.KernelOXIdeal.nD Cert.KernelOXIdeal.τ Cert.KernelOXIdeal.sig) → Buf (Elt Ideal) ℓ) : Prop :=
  True

def Pre_ReferenceOXIdeal (m : (ℓ : Loc Cert.ReferenceOXIdeal.nD Cert.ReferenceOXIdeal.τ Cert.ReferenceOXIdeal.sig) → Buf (Elt Ideal) ℓ) : Prop :=
  True

def Pre_KernelLoW (m : (ℓ : Loc Cert.KernelLoW.nD Cert.KernelLoW.τ Cert.KernelLoW.sig) → Buf (Elt Bits) ℓ) : Prop :=
  True

def Pre_KernelLoWIdeal (m : (ℓ : Loc Cert.KernelLoWIdeal.nD Cert.KernelLoWIdeal.τ Cert.KernelLoWIdeal.sig) → Buf (Elt Ideal) ℓ) : Prop :=
  True

def Pre_ReferenceLoWIdeal (m : (ℓ : Loc Cert.ReferenceLoWIdeal.nD Cert.ReferenceLoWIdeal.τ Cert.ReferenceLoWIdeal.sig) → Buf (Elt Ideal) ℓ) : Prop :=
  True

def Pre_KernelLoX (m : (ℓ : Loc Cert.KernelLoX.nD Cert.KernelLoX.τ Cert.KernelLoX.sig) → Buf (Elt Bits) ℓ) : Prop :=
  True

def Pre_KernelLoXIdeal (m : (ℓ : Loc Cert.KernelLoXIdeal.nD Cert.KernelLoXIdeal.τ Cert.KernelLoXIdeal.sig) → Buf (Elt Ideal) ℓ) : Prop :=
  True

def Pre_ReferenceLoXIdeal (m : (ℓ : Loc Cert.ReferenceLoXIdeal.nD Cert.ReferenceLoXIdeal.τ Cert.ReferenceLoXIdeal.sig) → Buf (Elt Ideal) ℓ) : Prop :=
  True

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelInX (m : (ℓ : Loc Cert.KernelInX.nD Cert.KernelInX.τ Cert.KernelInX.sig) → Buf (Elt Bits) ℓ) : Prop :=
  True

def Pre_KernelInXIdeal (m : (ℓ : Loc Cert.KernelInXIdeal.nD Cert.KernelInXIdeal.τ Cert.KernelInXIdeal.sig) → Buf (Elt Ideal) ℓ) : Prop :=
  True

def Pre_ReferenceInXIdeal (m : (ℓ : Loc Cert.ReferenceInXIdeal.nD Cert.ReferenceInXIdeal.τ Cert.ReferenceInXIdeal.sig) → Buf (Elt Ideal) ℓ) : Prop :=
  True

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_KernelFfIdeal_finite [hPre_finite : Cert.Pre_finite.Facts] (m : (ℓ : Loc Cert.KernelFfIdeal.nD Cert.KernelFfIdeal.τ Cert.KernelFfIdeal.sig) → Buf (Elt Ideal) ℓ) : Prop :=
  ∀ c : Dev Cert.KernelFfIdeal.nD,
    (Cert.Pre_finite.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2))).1 = (fun _ => 1#1)
    ∧ (Cert.Pre_finite.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2))).2.1 = (fun _ => 1#1)
    ∧ (Cert.Pre_finite.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2))).2.2 = (fun _ => 1#1)

def Pre_ReferenceFfIdeal (m : (ℓ : Loc Cert.ReferenceFfIdeal.nD Cert.ReferenceFfIdeal.τ Cert.ReferenceFfIdeal.sig) → Buf (Elt Ideal) ℓ) : Prop :=
  True

def Pre_ReferenceFfIdeal_finite [hPre_finite : Cert.Pre_finite.Facts] (m : (ℓ : Loc Cert.ReferenceFfIdeal.nD Cert.ReferenceFfIdeal.τ Cert.ReferenceFfIdeal.sig) → Buf (Elt Ideal) ℓ) : Prop :=
  ∀ c : Dev Cert.ReferenceFfIdeal.nD,
    (Cert.Pre_finite.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2))).1 = (fun _ => 1#1)
    ∧ (Cert.Pre_finite.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2))).2.1 = (fun _ => 1#1)
    ∧ (Cert.Pre_finite.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2))).2.2 = (fun _ => 1#1)

def Pre_KernelMg (m : (ℓ : Loc Cert.KernelMg.nD Cert.KernelMg.τ Cert.KernelMg.sig) → Buf (Elt Bits) ℓ) : Prop :=
  True

def Pre_KernelMgIdeal (m : (ℓ : Loc Cert.KernelMgIdeal.nD Cert.KernelMgIdeal.τ Cert.KernelMgIdeal.sig) → Buf (Elt Ideal) ℓ) : Prop :=
  True

def Pre_ReferenceMgIdeal (m : (ℓ : Loc Cert.ReferenceMgIdeal.nD Cert.ReferenceMgIdeal.τ Cert.ReferenceMgIdeal.sig) → Buf (Elt Ideal) ℓ) : Prop :=
  True

def Pre_KernelMgB (m : (ℓ : Loc Cert.KernelMgB.nD Cert.KernelMgB.τ Cert.KernelMgB.sig) → Buf (Elt Bits) ℓ) : Prop :=
  True

def Pre_KernelMgBIdeal (m : (ℓ : Loc Cert.KernelMgBIdeal.nD Cert.KernelMgBIdeal.τ Cert.KernelMgBIdeal.sig) → Buf (Elt Ideal) ℓ) : Prop :=
  True

def Pre_ReferenceMgBIdeal (m : (ℓ : Loc Cert.ReferenceMgBIdeal.nD Cert.ReferenceMgBIdeal.τ Cert.ReferenceMgBIdeal.sig) → Buf (Elt Ideal) ℓ) : Prop :=
  True

def Pre_KernelRmM (m : (ℓ : Loc Cert.KernelRmM.nD Cert.KernelRmM.τ Cert.KernelRmM.sig) → Buf (Elt Bits) ℓ) : Prop :=
  True

def Pre_KernelRmMIdeal (m : (ℓ : Loc Cert.KernelRmMIdeal.nD Cert.KernelRmMIdeal.τ Cert.KernelRmMIdeal.sig) → Buf (Elt Ideal) ℓ) : Prop :=
  True

def Pre_ReferenceRmMIdeal (m : (ℓ : Loc Cert.ReferenceRmMIdeal.nD Cert.ReferenceRmMIdeal.τ Cert.ReferenceRmMIdeal.sig) → Buf (Elt Ideal) ℓ) : Prop :=
  True

def Pre_KernelRmF (m : (ℓ : Loc Cert.KernelRmF.nD Cert.KernelRmF.τ Cert.KernelRmF.sig) → Buf (Elt Bits) ℓ) : Prop :=
  True

def Pre_KernelRmFIdeal (m : (ℓ : Loc Cert.KernelRmFIdeal.nD Cert.KernelRmFIdeal.τ Cert.KernelRmFIdeal.sig) → Buf (Elt Ideal) ℓ) : Prop :=
  True

def Pre_ReferenceRmFIdeal (m : (ℓ : Loc Cert.ReferenceRmFIdeal.nD Cert.ReferenceRmFIdeal.τ Cert.ReferenceRmFIdeal.sig) → Buf (Elt Ideal) ℓ) : Prop :=
  True

def Pre_KernelRm (m : (ℓ : Loc Cert.KernelRm.nD Cert.KernelRm.τ Cert.KernelRm.sig) → Buf (Elt Bits) ℓ) : Prop :=
  True

def Pre_KernelRmIdeal (m : (ℓ : Loc Cert.KernelRmIdeal.nD Cert.KernelRmIdeal.τ Cert.KernelRmIdeal.sig) → Buf (Elt Ideal) ℓ) : Prop :=
  True

def Pre_ReferenceRmIdeal (m : (ℓ : Loc Cert.ReferenceRmIdeal.nD Cert.ReferenceRmIdeal.τ Cert.ReferenceRmIdeal.sig) → Buf (Elt Ideal) ℓ) : Prop :=
  True

def Pre_KernelScF (m : (ℓ : Loc Cert.KernelScF.nD Cert.KernelScF.τ Cert.KernelScF.sig) → Buf (Elt Bits) ℓ) : Prop :=
  True

def Pre_KernelScFIdeal (m : (ℓ : Loc Cert.KernelScFIdeal.nD Cert.KernelScFIdeal.τ Cert.KernelScFIdeal.sig) → Buf (Elt Ideal) ℓ) : Prop :=
  True

def Pre_ReferenceScFIdeal (m : (ℓ : Loc Cert.ReferenceScFIdeal.nD Cert.ReferenceScFIdeal.τ Cert.ReferenceScFIdeal.sig) → Buf (Elt Ideal) ℓ) : Prop :=
  True

def Pre_KernelFfF (m : (ℓ : Loc Cert.KernelFfF.nD Cert.KernelFfF.τ Cert.KernelFfF.sig) → Buf (Elt Bits) ℓ) : Prop :=
  True

def Pre_KernelFfFIdeal (m : (ℓ : Loc Cert.KernelFfFIdeal.nD Cert.KernelFfFIdeal.τ Cert.KernelFfFIdeal.sig) → Buf (Elt Ideal) ℓ) : Prop :=
  True

def Pre_ReferenceFfFIdeal (m : (ℓ : Loc Cert.ReferenceFfFIdeal.nD Cert.ReferenceFfFIdeal.τ Cert.ReferenceFfFIdeal.sig) → Buf (Elt Ideal) ℓ) : Prop :=
  True

def Pre_KernelLh (m : (ℓ : Loc Cert.KernelLh.nD Cert.KernelLh.τ Cert.KernelLh.sig) → Buf (Elt Bits) ℓ) : Prop :=
  True

def Pre_KernelLhIdeal (m : (ℓ : Loc Cert.KernelLhIdeal.nD Cert.KernelLhIdeal.τ Cert.KernelLhIdeal.sig) → Buf (Elt Ideal) ℓ) : Prop :=
  True

def Pre_ReferenceLhIdeal (m : (ℓ : Loc Cert.ReferenceLhIdeal.nD Cert.ReferenceLhIdeal.τ Cert.ReferenceLhIdeal.sig) → Buf (Elt Ideal) ℓ) : Prop :=
  True

def Pre_KernelAdA (m : (ℓ : Loc Cert.KernelAdA.nD Cert.KernelAdA.τ Cert.KernelAdA.sig) → Buf (Elt Bits) ℓ) : Prop :=
  True

def Pre_KernelAdAIdeal (m : (ℓ : Loc Cert.KernelAdAIdeal.nD Cert.KernelAdAIdeal.τ Cert.KernelAdAIdeal.sig) → Buf (Elt Ideal) ℓ) : Prop :=
  True

def Pre_ReferenceAdAIdeal (m : (ℓ : Loc Cert.ReferenceAdAIdeal.nD Cert.ReferenceAdAIdeal.τ Cert.ReferenceAdAIdeal.sig) → Buf (Elt Ideal) ℓ) : Prop :=
  True

def Pre_KernelAdB (m : (ℓ : Loc Cert.KernelAdB.nD Cert.KernelAdB.τ Cert.KernelAdB.sig) → Buf (Elt Bits) ℓ) : Prop :=
  True

def Pre_KernelAdBIdeal (m : (ℓ : Loc Cert.KernelAdBIdeal.nD Cert.KernelAdBIdeal.τ Cert.KernelAdBIdeal.sig) → Buf (Elt Ideal) ℓ) : Prop :=
  True

def Pre_ReferenceAdBIdeal (m : (ℓ : Loc Cert.ReferenceAdBIdeal.nD Cert.ReferenceAdBIdeal.τ Cert.ReferenceAdBIdeal.sig) → Buf (Elt Ideal) ℓ) : Prop :=
  True

def Pre_KernelAdC (m : (ℓ : Loc Cert.KernelAdC.nD Cert.KernelAdC.τ Cert.KernelAdC.sig) → Buf (Elt Bits) ℓ) : Prop :=
  True

def Pre_KernelAdCIdeal (m : (ℓ : Loc Cert.KernelAdCIdeal.nD Cert.KernelAdCIdeal.τ Cert.KernelAdCIdeal.sig) → Buf (Elt Ideal) ℓ) : Prop :=
  True

def Pre_ReferenceAdCIdeal (m : (ℓ : Loc Cert.ReferenceAdCIdeal.nD Cert.ReferenceAdCIdeal.τ Cert.ReferenceAdCIdeal.sig) → Buf (Elt Ideal) ℓ) : Prop :=
  True

def Pre_KernelAdD (m : (ℓ : Loc Cert.KernelAdD.nD Cert.KernelAdD.τ Cert.KernelAdD.sig) → Buf (Elt Bits) ℓ) : Prop :=
  True

def Pre_KernelAdDIdeal (m : (ℓ : Loc Cert.KernelAdDIdeal.nD Cert.KernelAdDIdeal.τ Cert.KernelAdDIdeal.sig) → Buf (Elt Ideal) ℓ) : Prop :=
  True

def Pre_ReferenceAdDIdeal (m : (ℓ : Loc Cert.ReferenceAdDIdeal.nD Cert.ReferenceAdDIdeal.τ Cert.ReferenceAdDIdeal.sig) → Buf (Elt Ideal) ℓ) : Prop :=
  True

def Pre_KernelAdE (m : (ℓ : Loc Cert.KernelAdE.nD Cert.KernelAdE.τ Cert.KernelAdE.sig) → Buf (Elt Bits) ℓ) : Prop :=
  True

def Pre_KernelAdEIdeal (m : (ℓ : Loc Cert.KernelAdEIdeal.nD Cert.KernelAdEIdeal.τ Cert.KernelAdEIdeal.sig) → Buf (Elt Ideal) ℓ) : Prop :=
  True

def Pre_ReferenceAdEIdeal (m : (ℓ : Loc Cert.ReferenceAdEIdeal.nD Cert.ReferenceAdEIdeal.τ Cert.ReferenceAdEIdeal.sig) → Buf (Elt Ideal) ℓ) : Prop :=
  True

def Pre_KernelAdS (m : (ℓ : Loc Cert.KernelAdS.nD Cert.KernelAdS.τ Cert.KernelAdS.sig) → Buf (Elt Bits) ℓ) : Prop :=
  True

def Pre_KernelAdSIdeal (m : (ℓ : Loc Cert.KernelAdSIdeal.nD Cert.KernelAdSIdeal.τ Cert.KernelAdSIdeal.sig) → Buf (Elt Ideal) ℓ) : Prop :=
  True

def Pre_ReferenceAdSIdeal (m : (ℓ : Loc Cert.ReferenceAdSIdeal.nD Cert.ReferenceAdSIdeal.τ Cert.ReferenceAdSIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelLo [hKernelLo : Cert.KernelLo.Facts] : Prop :=
  ∀ (m : (ℓ : Loc Cert.KernelLo.nD Cert.KernelLo.τ Cert.KernelLo.sig) → Buf (Elt Bits) ℓ) (g : Dev Cert.KernelLo.nD → PrngReg), Pre_KernelLo m →
    θ_run (Cert.KernelLo.defs (F := Bits)) (onTc (τ := Cert.KernelLo.τ) (Cert.KernelLo.main (F := Bits))) ⟨m, fun _ => 0, g⟩ (fun r => (∀ c : Dev Cert.KernelLo.nD,
      r.2.mem ((c.tc : Thread Cert.KernelLo.nD Cert.KernelLo.τ).loc Cert.KernelLo.main_arg0) = m ((c.tc : Thread Cert.KernelLo.nD Cert.KernelLo.τ).loc Cert.KernelLo.main_arg0)
      ∧ r.2.mem ((c.tc : Thread Cert.KernelLo.nD Cert.KernelLo.τ).loc Cert.KernelLo.main_arg1) = m ((c.tc : Thread Cert.KernelLo.nD Cert.KernelLo.τ).loc Cert.KernelLo.main_arg1))
      ∧ r.2.sem = fun _ => 0)

def quiescent_KernelLoIdeal [hKernelLoIdeal : Cert.KernelLoIdeal.Facts] : Prop :=
  ∀ (m : (ℓ : Loc Cert.KernelLoIdeal.nD Cert.KernelLoIdeal.τ Cert.KernelLoIdeal.sig) → Buf (Elt Ideal) ℓ) (g : Dev Cert.KernelLoIdeal.nD → PrngReg), Pre_KernelLoIdeal m →
    θ_run (Cert.KernelLoIdeal.defs (F := Ideal)) (onTc (τ := Cert.KernelLoIdeal.τ) (Cert.KernelLoIdeal.main (F := Ideal))) ⟨m, fun _ => 0, g⟩ (fun r => (∀ c : Dev Cert.KernelLoIdeal.nD,
      r.2.mem ((c.tc : Thread Cert.KernelLoIdeal.nD Cert.KernelLoIdeal.τ).loc Cert.KernelLoIdeal.main_arg0) = m ((c.tc : Thread Cert.KernelLoIdeal.nD Cert.KernelLoIdeal.τ).loc Cert.KernelLoIdeal.main_arg0)
      ∧ r.2.mem ((c.tc : Thread Cert.KernelLoIdeal.nD Cert.KernelLoIdeal.τ).loc Cert.KernelLoIdeal.main_arg1) = m ((c.tc : Thread Cert.KernelLoIdeal.nD Cert.KernelLoIdeal.τ).loc Cert.KernelLoIdeal.main_arg1))
      ∧ r.2.sem = fun _ => 0)

def quiescent_ReferenceLoIdeal [hReferenceLoIdeal : Cert.ReferenceLoIdeal.Facts] : Prop :=
  ∀ (m : (ℓ : Loc Cert.ReferenceLoIdeal.nD Cert.ReferenceLoIdeal.τ Cert.ReferenceLoIdeal.sig) → Buf (Elt Ideal) ℓ) (g : Dev Cert.ReferenceLoIdeal.nD → PrngReg), Pre_ReferenceLoIdeal m →
    θ_run (Cert.ReferenceLoIdeal.defs (F := Ideal)) (onTc (τ := Cert.ReferenceLoIdeal.τ) (Cert.ReferenceLoIdeal.main (F := Ideal))) ⟨m, fun _ => 0, g⟩ (fun r => (∀ c : Dev Cert.ReferenceLoIdeal.nD,
      r.2.mem ((c.tc : Thread Cert.ReferenceLoIdeal.nD Cert.ReferenceLoIdeal.τ).loc Cert.ReferenceLoIdeal.main_arg0) = m ((c.tc : Thread Cert.ReferenceLoIdeal.nD Cert.ReferenceLoIdeal.τ).loc Cert.ReferenceLoIdeal.main_arg0)
      ∧ r.2.mem ((c.tc : Thread Cert.ReferenceLoIdeal.nD Cert.ReferenceLoIdeal.τ).loc Cert.ReferenceLoIdeal.main_arg1) = m ((c.tc : Thread Cert.ReferenceLoIdeal.nD Cert.ReferenceLoIdeal.τ).loc Cert.ReferenceLoIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDownW [hKernelDownW : Cert.KernelDownW.Facts] : Prop :=
  ∀ (m : (ℓ : Loc Cert.KernelDownW.nD Cert.KernelDownW.τ Cert.KernelDownW.sig) → Buf (Elt Bits) ℓ) (g : Dev Cert.KernelDownW.nD → PrngReg), Pre_KernelDownW m →
    θ_run (Cert.KernelDownW.defs (F := Bits)) (onTc (τ := Cert.KernelDownW.τ) (Cert.KernelDownW.main (F := Bits))) ⟨m, fun _ => 0, g⟩ (fun r => (∀ c : Dev Cert.KernelDownW.nD,
      r.2.mem ((c.tc : Thread Cert.KernelDownW.nD Cert.KernelDownW.τ).loc Cert.KernelDownW.main_arg0) = m ((c.tc : Thread Cert.KernelDownW.nD Cert.KernelDownW.τ).loc Cert.KernelDownW.main_arg0)
      ∧ r.2.mem ((c.tc : Thread Cert.KernelDownW.nD Cert.KernelDownW.τ).loc Cert.KernelDownW.main_arg1) = m ((c.tc : Thread Cert.KernelDownW.nD Cert.KernelDownW.τ).loc Cert.KernelDownW.main_arg1))
      ∧ r.2.sem = fun _ => 0)

def quiescent_KernelDownWIdeal [hKernelDownWIdeal : Cert.KernelDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg), Pre_KernelDownWIdeal m →
    θ_run (Cert.KernelDownWIdeal.defs (F := Ideal)) (onTc (τ := Cert.KernelDownWIdeal.τ) (Cert.KernelDownWIdeal.main (F := Ideal))) ⟨m, fun _ => 0, g⟩ (fun r => (∀ c : Dev Cert.KernelDownWIdeal.nD,
      r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
      ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ r.2.sem = fun _ => 0)

def quiescent_ReferenceDownWIdeal [hReferenceDownWIdeal : Cert.ReferenceDownWIdeal.Facts] : Prop :=
  ∀ (m : (ℓ : Loc Cert.ReferenceDownWIdeal.nD Cert.ReferenceDownWIdeal.τ Cert.ReferenceDownWIdeal.sig) → Buf (Elt Ideal) ℓ) (g : Dev Cert.ReferenceDownWIdeal.nD → PrngReg), Pre_ReferenceDownWIdeal m →
    θ_run (Cert.ReferenceDownWIdeal.defs (F := Ideal)) (onTc (τ := Cert.ReferenceDownWIdeal.τ) (Cert.ReferenceDownWIdeal.main (F := Ideal))) ⟨m, fun _ => 0, g⟩ (fun r => (∀ c : Dev Cert.ReferenceDownWIdeal.nD,
      r.2.mem ((c.tc : Thread Cert.ReferenceDownWIdeal.nD Cert.ReferenceDownWIdeal.τ).loc Cert.ReferenceDownWIdeal.main_arg0) = m ((c.tc : Thread Cert.ReferenceDownWIdeal.nD Cert.ReferenceDownWIdeal.τ).loc Cert.ReferenceDownWIdeal.main_arg0)
      ∧ r.2.mem ((c.tc : Thread Cert.ReferenceDownWIdeal.nD Cert.ReferenceDownWIdeal.τ).loc Cert.ReferenceDownWIdeal.main_arg1) = m ((c.tc : Thread Cert.ReferenceDownWIdeal.nD Cert.ReferenceDownWIdeal.τ).loc Cert.ReferenceDownWIdeal.main_arg1))
      ∧ r.2.sem = fun _ => 0)

def quiescent_KernelDownX [hKernelDownX : Cert.KernelDownX.Facts] : Prop :=
  ∀ (m : (ℓ : Loc Cert.KernelDownX.nD Cert.KernelDownX.τ Cert.KernelDownX.sig) → Buf (Elt Bits) ℓ) (g : Dev Cert.KernelDownX.nD → PrngReg), Pre_KernelDownX m →
    θ_run (Cert.KernelDownX.defs (F := Bits)) (onTc (τ := Cert.KernelDownX.τ) (Cert.KernelDownX.main (F := Bits))) ⟨m, fun _ => 0, g⟩ (fun r => (∀ c : Dev Cert.KernelDownX.nD,
      r.2.mem ((c.tc : Thread Cert.KernelDownX.nD Cert.KernelDownX.τ).loc Cert.KernelDownX.main_arg0) = m ((c.tc : Thread Cert.KernelDownX.nD Cert.KernelDownX.τ).loc Cert.KernelDownX.main_arg0)
      ∧ r.2.mem ((c.tc : Thread Cert.KernelDownX.nD Cert.KernelDownX.τ).loc Cert.KernelDownX.main_arg1) = m ((c.tc : Thread Cert.KernelDownX.nD Cert.KernelDownX.τ).loc Cert.KernelDownX.main_arg1))
      ∧ r.2.sem = fun _ => 0)

def quiescent_KernelDownXIdeal [hKernelDownXIdeal : Cert.KernelDownXIdeal.Facts] : Prop :=
  ∀ (m : (ℓ : Loc Cert.KernelDownXIdeal.nD Cert.KernelDownXIdeal.τ Cert.KernelDownXIdeal.sig) → Buf (Elt Ideal) ℓ) (g : Dev Cert.KernelDownXIdeal.nD → PrngReg), Pre_KernelDownXIdeal m →
    θ_run (Cert.KernelDownXIdeal.defs (F := Ideal)) (onTc (τ := Cert.KernelDownXIdeal.τ) (Cert.KernelDownXIdeal.main (F := Ideal))) ⟨m, fun _ => 0, g⟩ (fun r => (∀ c : Dev Cert.KernelDownXIdeal.nD,
      r.2.mem ((c.tc : Thread Cert.KernelDownXIdeal.nD Cert.KernelDownXIdeal.τ).loc Cert.KernelDownXIdeal.main_arg0) = m ((c.tc : Thread Cert.KernelDownXIdeal.nD Cert.KernelDownXIdeal.τ).loc Cert.KernelDownXIdeal.main_arg0)
      ∧ r.2.mem ((c.tc : Thread Cert.KernelDownXIdeal.nD Cert.KernelDownXIdeal.τ).loc Cert.KernelDownXIdeal.main_arg1) = m ((c.tc : Thread Cert.KernelDownXIdeal.nD Cert.KernelDownXIdeal.τ).loc Cert.KernelDownXIdeal.main_arg1))
      ∧ r.2.sem = fun _ => 0)

def quiescent_ReferenceDownXIdeal [hReferenceDownXIdeal : Cert.ReferenceDownXIdeal.Facts] : Prop :=
  ∀ (m : (ℓ : Loc Cert.ReferenceDownXIdeal.nD Cert.ReferenceDownXIdeal.τ Cert.ReferenceDownXIdeal.sig) → Buf (Elt Ideal) ℓ) (g : Dev Cert.ReferenceDownXIdeal.nD → PrngReg), Pre_ReferenceDownXIdeal m →
    θ_run (Cert.ReferenceDownXIdeal.defs (F := Ideal)) (onTc (τ := Cert.ReferenceDownXIdeal.τ) (Cert.ReferenceDownXIdeal.main (F := Ideal))) ⟨m, fun _ => 0, g⟩ (fun r => (∀ c : Dev Cert.ReferenceDownXIdeal.nD,
      r.2.mem ((c.tc : Thread Cert.ReferenceDownXIdeal.nD Cert.ReferenceDownXIdeal.τ).loc Cert.ReferenceDownXIdeal.main_arg0) = m ((c.tc : Thread Cert.ReferenceDownXIdeal.nD Cert.ReferenceDownXIdeal.τ).loc Cert.ReferenceDownXIdeal.main_arg0)
      ∧ r.2.mem ((c.tc : Thread Cert.ReferenceDownXIdeal.nD Cert.ReferenceDownXIdeal.τ).loc Cert.ReferenceDownXIdeal.main_arg1) = m ((c.tc : Thread Cert.ReferenceDownXIdeal.nD Cert.ReferenceDownXIdeal.τ).loc Cert.ReferenceDownXIdeal.main_arg1))
      ∧ r.2.sem = fun _ => 0)

def quiescent_KernelUpW [hKernelUpW : Cert.KernelUpW.Facts] : Prop :=
  ∀ (m : (ℓ : Loc Cert.KernelUpW.nD Cert.KernelUpW.τ Cert.KernelUpW.sig) → Buf (Elt Bits) ℓ) (g : Dev Cert.KernelUpW.nD → PrngReg), Pre_KernelUpW m →
    θ_run (Cert.KernelUpW.defs (F := Bits)) (onTc (τ := Cert.KernelUpW.τ) (Cert.KernelUpW.main (F := Bits))) ⟨m, fun _ => 0, g⟩ (fun r => (∀ c : Dev Cert.KernelUpW.nD,
      r.2.mem ((c.tc : Thread Cert.KernelUpW.nD Cert.KernelUpW.τ).loc Cert.KernelUpW.main_arg0) = m ((c.tc : Thread Cert.KernelUpW.nD Cert.KernelUpW.τ).loc Cert.KernelUpW.main_arg0)
      ∧ r.2.mem ((c.tc : Thread Cert.KernelUpW.nD Cert.KernelUpW.τ).loc Cert.KernelUpW.main_arg1) = m ((c.tc : Thread Cert.KernelUpW.nD Cert.KernelUpW.τ).loc Cert.KernelUpW.main_arg1))
      ∧ r.2.sem = fun _ => 0)

def quiescent_KernelUpWIdeal [hKernelUpWIdeal : Cert.KernelUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg), Pre_KernelUpWIdeal m →
    θ_run (Cert.KernelUpWIdeal.defs (F := Ideal)) (onTc (τ := Cert.KernelUpWIdeal.τ) (Cert.KernelUpWIdeal.main (F := Ideal))) ⟨m, fun _ => 0, g⟩ (fun r => (∀ c : Dev Cert.KernelUpWIdeal.nD,
      r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
      ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ r.2.sem = fun _ => 0)

def quiescent_ReferenceUpWIdeal [hReferenceUpWIdeal : Cert.ReferenceUpWIdeal.Facts] : Prop :=
  ∀ (m : (ℓ : Loc Cert.ReferenceUpWIdeal.nD Cert.ReferenceUpWIdeal.τ Cert.ReferenceUpWIdeal.sig) → Buf (Elt Ideal) ℓ) (g : Dev Cert.ReferenceUpWIdeal.nD → PrngReg), Pre_ReferenceUpWIdeal m →
    θ_run (Cert.ReferenceUpWIdeal.defs (F := Ideal)) (onTc (τ := Cert.ReferenceUpWIdeal.τ) (Cert.ReferenceUpWIdeal.main (F := Ideal))) ⟨m, fun _ => 0, g⟩ (fun r => (∀ c : Dev Cert.ReferenceUpWIdeal.nD,
      r.2.mem ((c.tc : Thread Cert.ReferenceUpWIdeal.nD Cert.ReferenceUpWIdeal.τ).loc Cert.ReferenceUpWIdeal.main_arg0) = m ((c.tc : Thread Cert.ReferenceUpWIdeal.nD Cert.ReferenceUpWIdeal.τ).loc Cert.ReferenceUpWIdeal.main_arg0)
      ∧ r.2.mem ((c.tc : Thread Cert.ReferenceUpWIdeal.nD Cert.ReferenceUpWIdeal.τ).loc Cert.ReferenceUpWIdeal.main_arg1) = m ((c.tc : Thread Cert.ReferenceUpWIdeal.nD Cert.ReferenceUpWIdeal.τ).loc Cert.ReferenceUpWIdeal.main_arg1))
      ∧ r.2.sem = fun _ => 0)

def quiescent_KernelUpX [hKernelUpX : Cert.KernelUpX.Facts] : Prop :=
  ∀ (m : (ℓ : Loc Cert.KernelUpX.nD Cert.KernelUpX.τ Cert.KernelUpX.sig) → Buf (Elt Bits) ℓ) (g : Dev Cert.KernelUpX.nD → PrngReg), Pre_KernelUpX m →
    θ_run (Cert.KernelUpX.defs (F := Bits)) (onTc (τ := Cert.KernelUpX.τ) (Cert.KernelUpX.main (F := Bits))) ⟨m, fun _ => 0, g⟩ (fun r => (∀ c : Dev Cert.KernelUpX.nD,
      r.2.mem ((c.tc : Thread Cert.KernelUpX.nD Cert.KernelUpX.τ).loc Cert.KernelUpX.main_arg0) = m ((c.tc : Thread Cert.KernelUpX.nD Cert.KernelUpX.τ).loc Cert.KernelUpX.main_arg0)
      ∧ r.2.mem ((c.tc : Thread Cert.KernelUpX.nD Cert.KernelUpX.τ).loc Cert.KernelUpX.main_arg1) = m ((c.tc : Thread Cert.KernelUpX.nD Cert.KernelUpX.τ).loc Cert.KernelUpX.main_arg1))
      ∧ r.2.sem = fun _ => 0)

def quiescent_KernelUpXIdeal [hKernelUpXIdeal : Cert.KernelUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg), Pre_KernelUpXIdeal m →
    θ_run (Cert.KernelUpXIdeal.defs (F := Ideal)) (onTc (τ := Cert.KernelUpXIdeal.τ) (Cert.KernelUpXIdeal.main (F := Ideal))) ⟨m, fun _ => 0, g⟩ (fun r => (∀ c : Dev Cert.KernelUpXIdeal.nD,
      r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
      ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1))
      ∧ r.2.sem = fun _ => 0)

def quiescent_ReferenceUpXIdeal [hReferenceUpXIdeal : Cert.ReferenceUpXIdeal.Facts] : Prop :=
  ∀ (m : (ℓ : Loc Cert.ReferenceUpXIdeal.nD Cert.ReferenceUpXIdeal.τ Cert.ReferenceUpXIdeal.sig) → Buf (Elt Ideal) ℓ) (g : Dev Cert.ReferenceUpXIdeal.nD → PrngReg), Pre_ReferenceUpXIdeal m →
    θ_run (Cert.ReferenceUpXIdeal.defs (F := Ideal)) (onTc (τ := Cert.ReferenceUpXIdeal.τ) (Cert.ReferenceUpXIdeal.main (F := Ideal))) ⟨m, fun _ => 0, g⟩ (fun r => (∀ c : Dev Cert.ReferenceUpXIdeal.nD,
      r.2.mem ((c.tc : Thread Cert.ReferenceUpXIdeal.nD Cert.ReferenceUpXIdeal.τ).loc Cert.ReferenceUpXIdeal.main_arg0) = m ((c.tc : Thread Cert.ReferenceUpXIdeal.nD Cert.ReferenceUpXIdeal.τ).loc Cert.ReferenceUpXIdeal.main_arg0)
      ∧ r.2.mem ((c.tc : Thread Cert.ReferenceUpXIdeal.nD Cert.ReferenceUpXIdeal.τ).loc Cert.ReferenceUpXIdeal.main_arg1) = m ((c.tc : Thread Cert.ReferenceUpXIdeal.nD Cert.ReferenceUpXIdeal.τ).loc Cert.ReferenceUpXIdeal.main_arg1))
      ∧ r.2.sem = fun _ => 0)

def quiescent_KernelOW [hKernelOW : Cert.KernelOW.Facts] : Prop :=
  ∀ (m : (ℓ : Loc Cert.KernelOW.nD Cert.KernelOW.τ Cert.KernelOW.sig) → Buf (Elt Bits) ℓ) (g : Dev Cert.KernelOW.nD → PrngReg), Pre_KernelOW m →
    θ_run (Cert.KernelOW.defs (F := Bits)) (onTc (τ := Cert.KernelOW.τ) (Cert.KernelOW.main (F := Bits))) ⟨m, fun _ => 0, g⟩ (fun r => (∀ c : Dev Cert.KernelOW.nD,
      r.2.mem ((c.tc : Thread Cert.KernelOW.nD Cert.KernelOW.τ).loc Cert.KernelOW.main_arg0) = m ((c.tc : Thread Cert.KernelOW.nD Cert.KernelOW.τ).loc Cert.KernelOW.main_arg0)
      ∧ r.2.mem ((c.tc : Thread Cert.KernelOW.nD Cert.KernelOW.τ).loc Cert.KernelOW.main_arg1) = m ((c.tc : Thread Cert.KernelOW.nD Cert.KernelOW.τ).loc Cert.KernelOW.main_arg1))
      ∧ r.2.sem = fun _ => 0)

def quiescent_KernelOWIdeal [hKernelOWIdeal : Cert.KernelOWIdeal.Facts] : Prop :=
  ∀ (m : (ℓ : Loc Cert.KernelOWIdeal.nD Cert.KernelOWIdeal.τ Cert.KernelOWIdeal.sig) → Buf (Elt Ideal) ℓ) (g : Dev Cert.KernelOWIdeal.nD → PrngReg), Pre_KernelOWIdeal m →
    θ_run (Cert.KernelOWIdeal.defs (F := Ideal)) (onTc (τ := Cert.KernelOWIdeal.τ) (Cert.KernelOWIdeal.main (F := Ideal))) ⟨m, fun _ => 0, g⟩ (fun r => (∀ c : Dev Cert.KernelOWIdeal.nD,
      r.2.mem ((c.tc : Thread Cert.KernelOWIdeal.nD Cert.KernelOWIdeal.τ).loc Cert.KernelOWIdeal.main_arg0) = m ((c.tc : Thread Cert.KernelOWIdeal.nD Cert.KernelOWIdeal.τ).loc Cert.KernelOWIdeal.main_arg0)
      ∧ r.2.mem ((c.tc : Thread Cert.KernelOWIdeal.nD Cert.KernelOWIdeal.τ).loc Cert.KernelOWIdeal.main_arg1) = m ((c.tc : Thread Cert.KernelOWIdeal.nD Cert.KernelOWIdeal.τ).loc Cert.KernelOWIdeal.main_arg1))
      ∧ r.2.sem = fun _ => 0)

def quiescent_ReferenceOWIdeal [hReferenceOWIdeal : Cert.ReferenceOWIdeal.Facts] : Prop :=
  ∀ (m : (ℓ : Loc Cert.ReferenceOWIdeal.nD Cert.ReferenceOWIdeal.τ Cert.ReferenceOWIdeal.sig) → Buf (Elt Ideal) ℓ) (g : Dev Cert.ReferenceOWIdeal.nD → PrngReg), Pre_ReferenceOWIdeal m →
    θ_run (Cert.ReferenceOWIdeal.defs (F := Ideal)) (onTc (τ := Cert.ReferenceOWIdeal.τ) (Cert.ReferenceOWIdeal.main (F := Ideal))) ⟨m, fun _ => 0, g⟩ (fun r => (∀ c : Dev Cert.ReferenceOWIdeal.nD,
      r.2.mem ((c.tc : Thread Cert.ReferenceOWIdeal.nD Cert.ReferenceOWIdeal.τ).loc Cert.ReferenceOWIdeal.main_arg0) = m ((c.tc : Thread Cert.ReferenceOWIdeal.nD Cert.ReferenceOWIdeal.τ).loc Cert.ReferenceOWIdeal.main_arg0)
      ∧ r.2.mem ((c.tc : Thread Cert.ReferenceOWIdeal.nD Cert.ReferenceOWIdeal.τ).loc Cert.ReferenceOWIdeal.main_arg1) = m ((c.tc : Thread Cert.ReferenceOWIdeal.nD Cert.ReferenceOWIdeal.τ).loc Cert.ReferenceOWIdeal.main_arg1))
      ∧ r.2.sem = fun _ => 0)

def quiescent_KernelOX [hKernelOX : Cert.KernelOX.Facts] : Prop :=
  ∀ (m : (ℓ : Loc Cert.KernelOX.nD Cert.KernelOX.τ Cert.KernelOX.sig) → Buf (Elt Bits) ℓ) (g : Dev Cert.KernelOX.nD → PrngReg), Pre_KernelOX m →
    θ_run (Cert.KernelOX.defs (F := Bits)) (onTc (τ := Cert.KernelOX.τ) (Cert.KernelOX.main (F := Bits))) ⟨m, fun _ => 0, g⟩ (fun r => (∀ c : Dev Cert.KernelOX.nD,
      r.2.mem ((c.tc : Thread Cert.KernelOX.nD Cert.KernelOX.τ).loc Cert.KernelOX.main_arg0) = m ((c.tc : Thread Cert.KernelOX.nD Cert.KernelOX.τ).loc Cert.KernelOX.main_arg0)
      ∧ r.2.mem ((c.tc : Thread Cert.KernelOX.nD Cert.KernelOX.τ).loc Cert.KernelOX.main_arg1) = m ((c.tc : Thread Cert.KernelOX.nD Cert.KernelOX.τ).loc Cert.KernelOX.main_arg1))
      ∧ r.2.sem = fun _ => 0)

def quiescent_KernelOXIdeal [hKernelOXIdeal : Cert.KernelOXIdeal.Facts] : Prop :=
  ∀ (m : (ℓ : Loc Cert.KernelOXIdeal.nD Cert.KernelOXIdeal.τ Cert.KernelOXIdeal.sig) → Buf (Elt Ideal) ℓ) (g : Dev Cert.KernelOXIdeal.nD → PrngReg), Pre_KernelOXIdeal m →
    θ_run (Cert.KernelOXIdeal.defs (F := Ideal)) (onTc (τ := Cert.KernelOXIdeal.τ) (Cert.KernelOXIdeal.main (F := Ideal))) ⟨m, fun _ => 0, g⟩ (fun r => (∀ c : Dev Cert.KernelOXIdeal.nD,
      r.2.mem ((c.tc : Thread Cert.KernelOXIdeal.nD Cert.KernelOXIdeal.τ).loc Cert.KernelOXIdeal.main_arg0) = m ((c.tc : Thread Cert.KernelOXIdeal.nD Cert.KernelOXIdeal.τ).loc Cert.KernelOXIdeal.main_arg0)
      ∧ r.2.mem ((c.tc : Thread Cert.KernelOXIdeal.nD Cert.KernelOXIdeal.τ).loc Cert.KernelOXIdeal.main_arg1) = m ((c.tc : Thread Cert.KernelOXIdeal.nD Cert.KernelOXIdeal.τ).loc Cert.KernelOXIdeal.main_arg1))
      ∧ r.2.sem = fun _ => 0)

def quiescent_ReferenceOXIdeal [hReferenceOXIdeal : Cert.ReferenceOXIdeal.Facts] : Prop :=
  ∀ (m : (ℓ : Loc Cert.ReferenceOXIdeal.nD Cert.ReferenceOXIdeal.τ Cert.ReferenceOXIdeal.sig) → Buf (Elt Ideal) ℓ) (g : Dev Cert.ReferenceOXIdeal.nD → PrngReg), Pre_ReferenceOXIdeal m →
    θ_run (Cert.ReferenceOXIdeal.defs (F := Ideal)) (onTc (τ := Cert.ReferenceOXIdeal.τ) (Cert.ReferenceOXIdeal.main (F := Ideal))) ⟨m, fun _ => 0, g⟩ (fun r => (∀ c : Dev Cert.ReferenceOXIdeal.nD,
      r.2.mem ((c.tc : Thread Cert.ReferenceOXIdeal.nD Cert.ReferenceOXIdeal.τ).loc Cert.ReferenceOXIdeal.main_arg0) = m ((c.tc : Thread Cert.ReferenceOXIdeal.nD Cert.ReferenceOXIdeal.τ).loc Cert.ReferenceOXIdeal.main_arg0)
      ∧ r.2.mem ((c.tc : Thread Cert.ReferenceOXIdeal.nD Cert.ReferenceOXIdeal.τ).loc Cert.ReferenceOXIdeal.main_arg1) = m ((c.tc : Thread Cert.ReferenceOXIdeal.nD Cert.ReferenceOXIdeal.τ).loc Cert.ReferenceOXIdeal.main_arg1))
      ∧ r.2.sem = fun _ => 0)

def quiescent_KernelLoW [hKernelLoW : Cert.KernelLoW.Facts] : Prop :=
  ∀ (m : (ℓ : Loc Cert.KernelLoW.nD Cert.KernelLoW.τ Cert.KernelLoW.sig) → Buf (Elt Bits) ℓ) (g : Dev Cert.KernelLoW.nD → PrngReg), Pre_KernelLoW m →
    θ_run (Cert.KernelLoW.defs (F := Bits)) (onTc (τ := Cert.KernelLoW.τ) (Cert.KernelLoW.main (F := Bits))) ⟨m, fun _ => 0, g⟩ (fun r => (∀ c : Dev Cert.KernelLoW.nD,
      r.2.mem ((c.tc : Thread Cert.KernelLoW.nD Cert.KernelLoW.τ).loc Cert.KernelLoW.main_arg0) = m ((c.tc : Thread Cert.KernelLoW.nD Cert.KernelLoW.τ).loc Cert.KernelLoW.main_arg0)
      ∧ r.2.mem ((c.tc : Thread Cert.KernelLoW.nD Cert.KernelLoW.τ).loc Cert.KernelLoW.main_arg1) = m ((c.tc : Thread Cert.KernelLoW.nD Cert.KernelLoW.τ).loc Cert.KernelLoW.main_arg1))
      ∧ r.2.sem = fun _ => 0)

def quiescent_KernelLoWIdeal [hKernelLoWIdeal : Cert.KernelLoWIdeal.Facts] : Prop :=
  ∀ (m : (ℓ : Loc Cert.KernelLoWIdeal.nD Cert.KernelLoWIdeal.τ Cert.KernelLoWIdeal.sig) → Buf (Elt Ideal) ℓ) (g : Dev Cert.KernelLoWIdeal.nD → PrngReg), Pre_KernelLoWIdeal m →
    θ_run (Cert.KernelLoWIdeal.defs (F := Ideal)) (onTc (τ := Cert.KernelLoWIdeal.τ) (Cert.KernelLoWIdeal.main (F := Ideal))) ⟨m, fun _ => 0, g⟩ (fun r => (∀ c : Dev Cert.KernelLoWIdeal.nD,
      r.2.mem ((c.tc : Thread Cert.KernelLoWIdeal.nD Cert.KernelLoWIdeal.τ).loc Cert.KernelLoWIdeal.main_arg0) = m ((c.tc : Thread Cert.KernelLoWIdeal.nD Cert.KernelLoWIdeal.τ).loc Cert.KernelLoWIdeal.main_arg0)
      ∧ r.2.mem ((c.tc : Thread Cert.KernelLoWIdeal.nD Cert.KernelLoWIdeal.τ).loc Cert.KernelLoWIdeal.main_arg1) = m ((c.tc : Thread Cert.KernelLoWIdeal.nD Cert.KernelLoWIdeal.τ).loc Cert.KernelLoWIdeal.main_arg1))
      ∧ r.2.sem = fun _ => 0)

def quiescent_ReferenceLoWIdeal [hReferenceLoWIdeal : Cert.ReferenceLoWIdeal.Facts] : Prop :=
  ∀ (m : (ℓ : Loc Cert.ReferenceLoWIdeal.nD Cert.ReferenceLoWIdeal.τ Cert.ReferenceLoWIdeal.sig) → Buf (Elt Ideal) ℓ) (g : Dev Cert.ReferenceLoWIdeal.nD → PrngReg), Pre_ReferenceLoWIdeal m →
    θ_run (Cert.ReferenceLoWIdeal.defs (F := Ideal)) (onTc (τ := Cert.ReferenceLoWIdeal.τ) (Cert.ReferenceLoWIdeal.main (F := Ideal))) ⟨m, fun _ => 0, g⟩ (fun r => (∀ c : Dev Cert.ReferenceLoWIdeal.nD,
      r.2.mem ((c.tc : Thread Cert.ReferenceLoWIdeal.nD Cert.ReferenceLoWIdeal.τ).loc Cert.ReferenceLoWIdeal.main_arg0) = m ((c.tc : Thread Cert.ReferenceLoWIdeal.nD Cert.ReferenceLoWIdeal.τ).loc Cert.ReferenceLoWIdeal.main_arg0)
      ∧ r.2.mem ((c.tc : Thread Cert.ReferenceLoWIdeal.nD Cert.ReferenceLoWIdeal.τ).loc Cert.ReferenceLoWIdeal.main_arg1) = m ((c.tc : Thread Cert.ReferenceLoWIdeal.nD Cert.ReferenceLoWIdeal.τ).loc Cert.ReferenceLoWIdeal.main_arg1))
      ∧ r.2.sem = fun _ => 0)

def quiescent_KernelLoX [hKernelLoX : Cert.KernelLoX.Facts] : Prop :=
  ∀ (m : (ℓ : Loc Cert.KernelLoX.nD Cert.KernelLoX.τ Cert.KernelLoX.sig) → Buf (Elt Bits) ℓ) (g : Dev Cert.KernelLoX.nD → PrngReg), Pre_KernelLoX m →
    θ_run (Cert.KernelLoX.defs (F := Bits)) (onTc (τ := Cert.KernelLoX.τ) (Cert.KernelLoX.main (F := Bits))) ⟨m, fun _ => 0, g⟩ (fun r => (∀ c : Dev Cert.KernelLoX.nD,
      r.2.mem ((c.tc : Thread Cert.KernelLoX.nD Cert.KernelLoX.τ).loc Cert.KernelLoX.main_arg0) = m ((c.tc : Thread Cert.KernelLoX.nD Cert.KernelLoX.τ).loc Cert.KernelLoX.main_arg0)
      ∧ r.2.mem ((c.tc : Thread Cert.KernelLoX.nD Cert.KernelLoX.τ).loc Cert.KernelLoX.main_arg1) = m ((c.tc : Thread Cert.KernelLoX.nD Cert.KernelLoX.τ).loc Cert.KernelLoX.main_arg1))
      ∧ r.2.sem = fun _ => 0)

def quiescent_KernelLoXIdeal [hKernelLoXIdeal : Cert.KernelLoXIdeal.Facts] : Prop :=
  ∀ (m : (ℓ : Loc Cert.KernelLoXIdeal.nD Cert.KernelLoXIdeal.τ Cert.KernelLoXIdeal.sig) → Buf (Elt Ideal) ℓ) (g : Dev Cert.KernelLoXIdeal.nD → PrngReg), Pre_KernelLoXIdeal m →
    θ_run (Cert.KernelLoXIdeal.defs (F := Ideal)) (onTc (τ := Cert.KernelLoXIdeal.τ) (Cert.KernelLoXIdeal.main (F := Ideal))) ⟨m, fun _ => 0, g⟩ (fun r => (∀ c : Dev Cert.KernelLoXIdeal.nD,
      r.2.mem ((c.tc : Thread Cert.KernelLoXIdeal.nD Cert.KernelLoXIdeal.τ).loc Cert.KernelLoXIdeal.main_arg0) = m ((c.tc : Thread Cert.KernelLoXIdeal.nD Cert.KernelLoXIdeal.τ).loc Cert.KernelLoXIdeal.main_arg0)
      ∧ r.2.mem ((c.tc : Thread Cert.KernelLoXIdeal.nD Cert.KernelLoXIdeal.τ).loc Cert.KernelLoXIdeal.main_arg1) = m ((c.tc : Thread Cert.KernelLoXIdeal.nD Cert.KernelLoXIdeal.τ).loc Cert.KernelLoXIdeal.main_arg1))
      ∧ r.2.sem = fun _ => 0)

def quiescent_ReferenceLoXIdeal [hReferenceLoXIdeal : Cert.ReferenceLoXIdeal.Facts] : Prop :=
  ∀ (m : (ℓ : Loc Cert.ReferenceLoXIdeal.nD Cert.ReferenceLoXIdeal.τ Cert.ReferenceLoXIdeal.sig) → Buf (Elt Ideal) ℓ) (g : Dev Cert.ReferenceLoXIdeal.nD → PrngReg), Pre_ReferenceLoXIdeal m →
    θ_run (Cert.ReferenceLoXIdeal.defs (F := Ideal)) (onTc (τ := Cert.ReferenceLoXIdeal.τ) (Cert.ReferenceLoXIdeal.main (F := Ideal))) ⟨m, fun _ => 0, g⟩ (fun r => (∀ c : Dev Cert.ReferenceLoXIdeal.nD,
      r.2.mem ((c.tc : Thread Cert.ReferenceLoXIdeal.nD Cert.ReferenceLoXIdeal.τ).loc Cert.ReferenceLoXIdeal.main_arg0) = m ((c.tc : Thread Cert.ReferenceLoXIdeal.nD Cert.ReferenceLoXIdeal.τ).loc Cert.ReferenceLoXIdeal.main_arg0)
      ∧ r.2.mem ((c.tc : Thread Cert.ReferenceLoXIdeal.nD Cert.ReferenceLoXIdeal.τ).loc Cert.ReferenceLoXIdeal.main_arg1) = m ((c.tc : Thread Cert.ReferenceLoXIdeal.nD Cert.ReferenceLoXIdeal.τ).loc Cert.ReferenceLoXIdeal.main_arg1))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1))
      ∧ r.2.sem = fun _ => 0)

def quiescent_KernelInX [hKernelInX : Cert.KernelInX.Facts] : Prop :=
  ∀ (m : (ℓ : Loc Cert.KernelInX.nD Cert.KernelInX.τ Cert.KernelInX.sig) → Buf (Elt Bits) ℓ) (g : Dev Cert.KernelInX.nD → PrngReg), Pre_KernelInX m →
    θ_run (Cert.KernelInX.defs (F := Bits)) (onTc (τ := Cert.KernelInX.τ) (Cert.KernelInX.main (F := Bits))) ⟨m, fun _ => 0, g⟩ (fun r => (∀ c : Dev Cert.KernelInX.nD,
      r.2.mem ((c.tc : Thread Cert.KernelInX.nD Cert.KernelInX.τ).loc Cert.KernelInX.main_arg0) = m ((c.tc : Thread Cert.KernelInX.nD Cert.KernelInX.τ).loc Cert.KernelInX.main_arg0)
      ∧ r.2.mem ((c.tc : Thread Cert.KernelInX.nD Cert.KernelInX.τ).loc Cert.KernelInX.main_arg1) = m ((c.tc : Thread Cert.KernelInX.nD Cert.KernelInX.τ).loc Cert.KernelInX.main_arg1))
      ∧ r.2.sem = fun _ => 0)

def quiescent_KernelInXIdeal [hKernelInXIdeal : Cert.KernelInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg), Pre_KernelInXIdeal m →
    θ_run (Cert.KernelInXIdeal.defs (F := Ideal)) (onTc (τ := Cert.KernelInXIdeal.τ) (Cert.KernelInXIdeal.main (F := Ideal))) ⟨m, fun _ => 0, g⟩ (fun r => (∀ c : Dev Cert.KernelInXIdeal.nD,
      r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
      ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ r.2.sem = fun _ => 0)

def quiescent_ReferenceInXIdeal [hReferenceInXIdeal : Cert.ReferenceInXIdeal.Facts] : Prop :=
  ∀ (m : (ℓ : Loc Cert.ReferenceInXIdeal.nD Cert.ReferenceInXIdeal.τ Cert.ReferenceInXIdeal.sig) → Buf (Elt Ideal) ℓ) (g : Dev Cert.ReferenceInXIdeal.nD → PrngReg), Pre_ReferenceInXIdeal m →
    θ_run (Cert.ReferenceInXIdeal.defs (F := Ideal)) (onTc (τ := Cert.ReferenceInXIdeal.τ) (Cert.ReferenceInXIdeal.main (F := Ideal))) ⟨m, fun _ => 0, g⟩ (fun r => (∀ c : Dev Cert.ReferenceInXIdeal.nD,
      r.2.mem ((c.tc : Thread Cert.ReferenceInXIdeal.nD Cert.ReferenceInXIdeal.τ).loc Cert.ReferenceInXIdeal.main_arg0) = m ((c.tc : Thread Cert.ReferenceInXIdeal.nD Cert.ReferenceInXIdeal.τ).loc Cert.ReferenceInXIdeal.main_arg0)
      ∧ r.2.mem ((c.tc : Thread Cert.ReferenceInXIdeal.nD Cert.ReferenceInXIdeal.τ).loc Cert.ReferenceInXIdeal.main_arg1) = m ((c.tc : Thread Cert.ReferenceInXIdeal.nD Cert.ReferenceInXIdeal.τ).loc Cert.ReferenceInXIdeal.main_arg1))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2))
      ∧ r.2.sem = fun _ => 0)

def quiescent_KernelFfIdeal_pre_finite [hKernelFfIdeal : Cert.KernelFfIdeal.Facts] [hPre_finite : Cert.Pre_finite.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal_finite m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2))
      ∧ r.2.sem = fun _ => 0)

def quiescent_ReferenceFfIdeal_pre_finite [hReferenceFfIdeal : Cert.ReferenceFfIdeal.Facts] [hPre_finite : Cert.Pre_finite.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal_finite m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2))
      ∧ r.2.sem = fun _ => 0)

def quiescent_KernelMg [hKernelMg : Cert.KernelMg.Facts] : Prop :=
  ∀ (m : (ℓ : Loc Cert.KernelMg.nD Cert.KernelMg.τ Cert.KernelMg.sig) → Buf (Elt Bits) ℓ) (g : Dev Cert.KernelMg.nD → PrngReg), Pre_KernelMg m →
    θ_run (Cert.KernelMg.defs (F := Bits)) (onTc (τ := Cert.KernelMg.τ) (Cert.KernelMg.main (F := Bits))) ⟨m, fun _ => 0, g⟩ (fun r => (∀ c : Dev Cert.KernelMg.nD,
      r.2.mem ((c.tc : Thread Cert.KernelMg.nD Cert.KernelMg.τ).loc Cert.KernelMg.main_arg0) = m ((c.tc : Thread Cert.KernelMg.nD Cert.KernelMg.τ).loc Cert.KernelMg.main_arg0)
      ∧ r.2.mem ((c.tc : Thread Cert.KernelMg.nD Cert.KernelMg.τ).loc Cert.KernelMg.main_arg1) = m ((c.tc : Thread Cert.KernelMg.nD Cert.KernelMg.τ).loc Cert.KernelMg.main_arg1)
      ∧ r.2.mem ((c.tc : Thread Cert.KernelMg.nD Cert.KernelMg.τ).loc Cert.KernelMg.main_arg2) = m ((c.tc : Thread Cert.KernelMg.nD Cert.KernelMg.τ).loc Cert.KernelMg.main_arg2))
      ∧ r.2.sem = fun _ => 0)

def quiescent_KernelMgIdeal [hKernelMgIdeal : Cert.KernelMgIdeal.Facts] : Prop :=
  ∀ (m : (ℓ : Loc Cert.KernelMgIdeal.nD Cert.KernelMgIdeal.τ Cert.KernelMgIdeal.sig) → Buf (Elt Ideal) ℓ) (g : Dev Cert.KernelMgIdeal.nD → PrngReg), Pre_KernelMgIdeal m →
    θ_run (Cert.KernelMgIdeal.defs (F := Ideal)) (onTc (τ := Cert.KernelMgIdeal.τ) (Cert.KernelMgIdeal.main (F := Ideal))) ⟨m, fun _ => 0, g⟩ (fun r => (∀ c : Dev Cert.KernelMgIdeal.nD,
      r.2.mem ((c.tc : Thread Cert.KernelMgIdeal.nD Cert.KernelMgIdeal.τ).loc Cert.KernelMgIdeal.main_arg0) = m ((c.tc : Thread Cert.KernelMgIdeal.nD Cert.KernelMgIdeal.τ).loc Cert.KernelMgIdeal.main_arg0)
      ∧ r.2.mem ((c.tc : Thread Cert.KernelMgIdeal.nD Cert.KernelMgIdeal.τ).loc Cert.KernelMgIdeal.main_arg1) = m ((c.tc : Thread Cert.KernelMgIdeal.nD Cert.KernelMgIdeal.τ).loc Cert.KernelMgIdeal.main_arg1)
      ∧ r.2.mem ((c.tc : Thread Cert.KernelMgIdeal.nD Cert.KernelMgIdeal.τ).loc Cert.KernelMgIdeal.main_arg2) = m ((c.tc : Thread Cert.KernelMgIdeal.nD Cert.KernelMgIdeal.τ).loc Cert.KernelMgIdeal.main_arg2))
      ∧ r.2.sem = fun _ => 0)

def quiescent_ReferenceMgIdeal [hReferenceMgIdeal : Cert.ReferenceMgIdeal.Facts] : Prop :=
  ∀ (m : (ℓ : Loc Cert.ReferenceMgIdeal.nD Cert.ReferenceMgIdeal.τ Cert.ReferenceMgIdeal.sig) → Buf (Elt Ideal) ℓ) (g : Dev Cert.ReferenceMgIdeal.nD → PrngReg), Pre_ReferenceMgIdeal m →
    θ_run (Cert.ReferenceMgIdeal.defs (F := Ideal)) (onTc (τ := Cert.ReferenceMgIdeal.τ) (Cert.ReferenceMgIdeal.main (F := Ideal))) ⟨m, fun _ => 0, g⟩ (fun r => (∀ c : Dev Cert.ReferenceMgIdeal.nD,
      r.2.mem ((c.tc : Thread Cert.ReferenceMgIdeal.nD Cert.ReferenceMgIdeal.τ).loc Cert.ReferenceMgIdeal.main_arg0) = m ((c.tc : Thread Cert.ReferenceMgIdeal.nD Cert.ReferenceMgIdeal.τ).loc Cert.ReferenceMgIdeal.main_arg0)
      ∧ r.2.mem ((c.tc : Thread Cert.ReferenceMgIdeal.nD Cert.ReferenceMgIdeal.τ).loc Cert.ReferenceMgIdeal.main_arg1) = m ((c.tc : Thread Cert.ReferenceMgIdeal.nD Cert.ReferenceMgIdeal.τ).loc Cert.ReferenceMgIdeal.main_arg1)
      ∧ r.2.mem ((c.tc : Thread Cert.ReferenceMgIdeal.nD Cert.ReferenceMgIdeal.τ).loc Cert.ReferenceMgIdeal.main_arg2) = m ((c.tc : Thread Cert.ReferenceMgIdeal.nD Cert.ReferenceMgIdeal.τ).loc Cert.ReferenceMgIdeal.main_arg2))
      ∧ r.2.sem = fun _ => 0)

def quiescent_KernelMgB [hKernelMgB : Cert.KernelMgB.Facts] : Prop :=
  ∀ (m : (ℓ : Loc Cert.KernelMgB.nD Cert.KernelMgB.τ Cert.KernelMgB.sig) → Buf (Elt Bits) ℓ) (g : Dev Cert.KernelMgB.nD → PrngReg), Pre_KernelMgB m →
    θ_run (Cert.KernelMgB.defs (F := Bits)) (onTc (τ := Cert.KernelMgB.τ) (Cert.KernelMgB.main (F := Bits))) ⟨m, fun _ => 0, g⟩ (fun r => (∀ c : Dev Cert.KernelMgB.nD,
      r.2.mem ((c.tc : Thread Cert.KernelMgB.nD Cert.KernelMgB.τ).loc Cert.KernelMgB.main_arg0) = m ((c.tc : Thread Cert.KernelMgB.nD Cert.KernelMgB.τ).loc Cert.KernelMgB.main_arg0)
      ∧ r.2.mem ((c.tc : Thread Cert.KernelMgB.nD Cert.KernelMgB.τ).loc Cert.KernelMgB.main_arg1) = m ((c.tc : Thread Cert.KernelMgB.nD Cert.KernelMgB.τ).loc Cert.KernelMgB.main_arg1)
      ∧ r.2.mem ((c.tc : Thread Cert.KernelMgB.nD Cert.KernelMgB.τ).loc Cert.KernelMgB.main_arg2) = m ((c.tc : Thread Cert.KernelMgB.nD Cert.KernelMgB.τ).loc Cert.KernelMgB.main_arg2)
      ∧ r.2.mem ((c.tc : Thread Cert.KernelMgB.nD Cert.KernelMgB.τ).loc Cert.KernelMgB.main_arg3) = m ((c.tc : Thread Cert.KernelMgB.nD Cert.KernelMgB.τ).loc Cert.KernelMgB.main_arg3))
      ∧ r.2.sem = fun _ => 0)

def quiescent_KernelMgBIdeal [hKernelMgBIdeal : Cert.KernelMgBIdeal.Facts] : Prop :=
  ∀ (m : (ℓ : Loc Cert.KernelMgBIdeal.nD Cert.KernelMgBIdeal.τ Cert.KernelMgBIdeal.sig) → Buf (Elt Ideal) ℓ) (g : Dev Cert.KernelMgBIdeal.nD → PrngReg), Pre_KernelMgBIdeal m →
    θ_run (Cert.KernelMgBIdeal.defs (F := Ideal)) (onTc (τ := Cert.KernelMgBIdeal.τ) (Cert.KernelMgBIdeal.main (F := Ideal))) ⟨m, fun _ => 0, g⟩ (fun r => (∀ c : Dev Cert.KernelMgBIdeal.nD,
      r.2.mem ((c.tc : Thread Cert.KernelMgBIdeal.nD Cert.KernelMgBIdeal.τ).loc Cert.KernelMgBIdeal.main_arg0) = m ((c.tc : Thread Cert.KernelMgBIdeal.nD Cert.KernelMgBIdeal.τ).loc Cert.KernelMgBIdeal.main_arg0)
      ∧ r.2.mem ((c.tc : Thread Cert.KernelMgBIdeal.nD Cert.KernelMgBIdeal.τ).loc Cert.KernelMgBIdeal.main_arg1) = m ((c.tc : Thread Cert.KernelMgBIdeal.nD Cert.KernelMgBIdeal.τ).loc Cert.KernelMgBIdeal.main_arg1)
      ∧ r.2.mem ((c.tc : Thread Cert.KernelMgBIdeal.nD Cert.KernelMgBIdeal.τ).loc Cert.KernelMgBIdeal.main_arg2) = m ((c.tc : Thread Cert.KernelMgBIdeal.nD Cert.KernelMgBIdeal.τ).loc Cert.KernelMgBIdeal.main_arg2)
      ∧ r.2.mem ((c.tc : Thread Cert.KernelMgBIdeal.nD Cert.KernelMgBIdeal.τ).loc Cert.KernelMgBIdeal.main_arg3) = m ((c.tc : Thread Cert.KernelMgBIdeal.nD Cert.KernelMgBIdeal.τ).loc Cert.KernelMgBIdeal.main_arg3))
      ∧ r.2.sem = fun _ => 0)

def quiescent_ReferenceMgBIdeal [hReferenceMgBIdeal : Cert.ReferenceMgBIdeal.Facts] : Prop :=
  ∀ (m : (ℓ : Loc Cert.ReferenceMgBIdeal.nD Cert.ReferenceMgBIdeal.τ Cert.ReferenceMgBIdeal.sig) → Buf (Elt Ideal) ℓ) (g : Dev Cert.ReferenceMgBIdeal.nD → PrngReg), Pre_ReferenceMgBIdeal m →
    θ_run (Cert.ReferenceMgBIdeal.defs (F := Ideal)) (onTc (τ := Cert.ReferenceMgBIdeal.τ) (Cert.ReferenceMgBIdeal.main (F := Ideal))) ⟨m, fun _ => 0, g⟩ (fun r => (∀ c : Dev Cert.ReferenceMgBIdeal.nD,
      r.2.mem ((c.tc : Thread Cert.ReferenceMgBIdeal.nD Cert.ReferenceMgBIdeal.τ).loc Cert.ReferenceMgBIdeal.main_arg0) = m ((c.tc : Thread Cert.ReferenceMgBIdeal.nD Cert.ReferenceMgBIdeal.τ).loc Cert.ReferenceMgBIdeal.main_arg0)
      ∧ r.2.mem ((c.tc : Thread Cert.ReferenceMgBIdeal.nD Cert.ReferenceMgBIdeal.τ).loc Cert.ReferenceMgBIdeal.main_arg1) = m ((c.tc : Thread Cert.ReferenceMgBIdeal.nD Cert.ReferenceMgBIdeal.τ).loc Cert.ReferenceMgBIdeal.main_arg1)
      ∧ r.2.mem ((c.tc : Thread Cert.ReferenceMgBIdeal.nD Cert.ReferenceMgBIdeal.τ).loc Cert.ReferenceMgBIdeal.main_arg2) = m ((c.tc : Thread Cert.ReferenceMgBIdeal.nD Cert.ReferenceMgBIdeal.τ).loc Cert.ReferenceMgBIdeal.main_arg2)
      ∧ r.2.mem ((c.tc : Thread Cert.ReferenceMgBIdeal.nD Cert.ReferenceMgBIdeal.τ).loc Cert.ReferenceMgBIdeal.main_arg3) = m ((c.tc : Thread Cert.ReferenceMgBIdeal.nD Cert.ReferenceMgBIdeal.τ).loc Cert.ReferenceMgBIdeal.main_arg3))
      ∧ r.2.sem = fun _ => 0)

def quiescent_KernelRmM [hKernelRmM : Cert.KernelRmM.Facts] : Prop :=
  ∀ (m : (ℓ : Loc Cert.KernelRmM.nD Cert.KernelRmM.τ Cert.KernelRmM.sig) → Buf (Elt Bits) ℓ) (g : Dev Cert.KernelRmM.nD → PrngReg), Pre_KernelRmM m →
    θ_run (Cert.KernelRmM.defs (F := Bits)) (onTc (τ := Cert.KernelRmM.τ) (Cert.KernelRmM.main (F := Bits))) ⟨m, fun _ => 0, g⟩ (fun r => (∀ c : Dev Cert.KernelRmM.nD,
      r.2.mem ((c.tc : Thread Cert.KernelRmM.nD Cert.KernelRmM.τ).loc Cert.KernelRmM.main_arg0) = m ((c.tc : Thread Cert.KernelRmM.nD Cert.KernelRmM.τ).loc Cert.KernelRmM.main_arg0)
      ∧ r.2.mem ((c.tc : Thread Cert.KernelRmM.nD Cert.KernelRmM.τ).loc Cert.KernelRmM.main_arg1) = m ((c.tc : Thread Cert.KernelRmM.nD Cert.KernelRmM.τ).loc Cert.KernelRmM.main_arg1)
      ∧ r.2.mem ((c.tc : Thread Cert.KernelRmM.nD Cert.KernelRmM.τ).loc Cert.KernelRmM.main_arg2) = m ((c.tc : Thread Cert.KernelRmM.nD Cert.KernelRmM.τ).loc Cert.KernelRmM.main_arg2)
      ∧ r.2.mem ((c.tc : Thread Cert.KernelRmM.nD Cert.KernelRmM.τ).loc Cert.KernelRmM.main_arg3) = m ((c.tc : Thread Cert.KernelRmM.nD Cert.KernelRmM.τ).loc Cert.KernelRmM.main_arg3))
      ∧ r.2.sem = fun _ => 0)

def quiescent_KernelRmMIdeal [hKernelRmMIdeal : Cert.KernelRmMIdeal.Facts] : Prop :=
  ∀ (m : (ℓ : Loc Cert.KernelRmMIdeal.nD Cert.KernelRmMIdeal.τ Cert.KernelRmMIdeal.sig) → Buf (Elt Ideal) ℓ) (g : Dev Cert.KernelRmMIdeal.nD → PrngReg), Pre_KernelRmMIdeal m →
    θ_run (Cert.KernelRmMIdeal.defs (F := Ideal)) (onTc (τ := Cert.KernelRmMIdeal.τ) (Cert.KernelRmMIdeal.main (F := Ideal))) ⟨m, fun _ => 0, g⟩ (fun r => (∀ c : Dev Cert.KernelRmMIdeal.nD,
      r.2.mem ((c.tc : Thread Cert.KernelRmMIdeal.nD Cert.KernelRmMIdeal.τ).loc Cert.KernelRmMIdeal.main_arg0) = m ((c.tc : Thread Cert.KernelRmMIdeal.nD Cert.KernelRmMIdeal.τ).loc Cert.KernelRmMIdeal.main_arg0)
      ∧ r.2.mem ((c.tc : Thread Cert.KernelRmMIdeal.nD Cert.KernelRmMIdeal.τ).loc Cert.KernelRmMIdeal.main_arg1) = m ((c.tc : Thread Cert.KernelRmMIdeal.nD Cert.KernelRmMIdeal.τ).loc Cert.KernelRmMIdeal.main_arg1)
      ∧ r.2.mem ((c.tc : Thread Cert.KernelRmMIdeal.nD Cert.KernelRmMIdeal.τ).loc Cert.KernelRmMIdeal.main_arg2) = m ((c.tc : Thread Cert.KernelRmMIdeal.nD Cert.KernelRmMIdeal.τ).loc Cert.KernelRmMIdeal.main_arg2)
      ∧ r.2.mem ((c.tc : Thread Cert.KernelRmMIdeal.nD Cert.KernelRmMIdeal.τ).loc Cert.KernelRmMIdeal.main_arg3) = m ((c.tc : Thread Cert.KernelRmMIdeal.nD Cert.KernelRmMIdeal.τ).loc Cert.KernelRmMIdeal.main_arg3))
      ∧ r.2.sem = fun _ => 0)

def quiescent_ReferenceRmMIdeal [hReferenceRmMIdeal : Cert.ReferenceRmMIdeal.Facts] : Prop :=
  ∀ (m : (ℓ : Loc Cert.ReferenceRmMIdeal.nD Cert.ReferenceRmMIdeal.τ Cert.ReferenceRmMIdeal.sig) → Buf (Elt Ideal) ℓ) (g : Dev Cert.ReferenceRmMIdeal.nD → PrngReg), Pre_ReferenceRmMIdeal m →
    θ_run (Cert.ReferenceRmMIdeal.defs (F := Ideal)) (onTc (τ := Cert.ReferenceRmMIdeal.τ) (Cert.ReferenceRmMIdeal.main (F := Ideal))) ⟨m, fun _ => 0, g⟩ (fun r => (∀ c : Dev Cert.ReferenceRmMIdeal.nD,
      r.2.mem ((c.tc : Thread Cert.ReferenceRmMIdeal.nD Cert.ReferenceRmMIdeal.τ).loc Cert.ReferenceRmMIdeal.main_arg0) = m ((c.tc : Thread Cert.ReferenceRmMIdeal.nD Cert.ReferenceRmMIdeal.τ).loc Cert.ReferenceRmMIdeal.main_arg0)
      ∧ r.2.mem ((c.tc : Thread Cert.ReferenceRmMIdeal.nD Cert.ReferenceRmMIdeal.τ).loc Cert.ReferenceRmMIdeal.main_arg1) = m ((c.tc : Thread Cert.ReferenceRmMIdeal.nD Cert.ReferenceRmMIdeal.τ).loc Cert.ReferenceRmMIdeal.main_arg1)
      ∧ r.2.mem ((c.tc : Thread Cert.ReferenceRmMIdeal.nD Cert.ReferenceRmMIdeal.τ).loc Cert.ReferenceRmMIdeal.main_arg2) = m ((c.tc : Thread Cert.ReferenceRmMIdeal.nD Cert.ReferenceRmMIdeal.τ).loc Cert.ReferenceRmMIdeal.main_arg2)
      ∧ r.2.mem ((c.tc : Thread Cert.ReferenceRmMIdeal.nD Cert.ReferenceRmMIdeal.τ).loc Cert.ReferenceRmMIdeal.main_arg3) = m ((c.tc : Thread Cert.ReferenceRmMIdeal.nD Cert.ReferenceRmMIdeal.τ).loc Cert.ReferenceRmMIdeal.main_arg3))
      ∧ r.2.sem = fun _ => 0)

def quiescent_KernelRmF [hKernelRmF : Cert.KernelRmF.Facts] : Prop :=
  ∀ (m : (ℓ : Loc Cert.KernelRmF.nD Cert.KernelRmF.τ Cert.KernelRmF.sig) → Buf (Elt Bits) ℓ) (g : Dev Cert.KernelRmF.nD → PrngReg), Pre_KernelRmF m →
    θ_run (Cert.KernelRmF.defs (F := Bits)) (onTc (τ := Cert.KernelRmF.τ) (Cert.KernelRmF.main (F := Bits))) ⟨m, fun _ => 0, g⟩ (fun r => (∀ c : Dev Cert.KernelRmF.nD,
      r.2.mem ((c.tc : Thread Cert.KernelRmF.nD Cert.KernelRmF.τ).loc Cert.KernelRmF.main_arg0) = m ((c.tc : Thread Cert.KernelRmF.nD Cert.KernelRmF.τ).loc Cert.KernelRmF.main_arg0)
      ∧ r.2.mem ((c.tc : Thread Cert.KernelRmF.nD Cert.KernelRmF.τ).loc Cert.KernelRmF.main_arg1) = m ((c.tc : Thread Cert.KernelRmF.nD Cert.KernelRmF.τ).loc Cert.KernelRmF.main_arg1)
      ∧ r.2.mem ((c.tc : Thread Cert.KernelRmF.nD Cert.KernelRmF.τ).loc Cert.KernelRmF.main_arg2) = m ((c.tc : Thread Cert.KernelRmF.nD Cert.KernelRmF.τ).loc Cert.KernelRmF.main_arg2)
      ∧ r.2.mem ((c.tc : Thread Cert.KernelRmF.nD Cert.KernelRmF.τ).loc Cert.KernelRmF.main_arg3) = m ((c.tc : Thread Cert.KernelRmF.nD Cert.KernelRmF.τ).loc Cert.KernelRmF.main_arg3))
      ∧ r.2.sem = fun _ => 0)

def quiescent_KernelRmFIdeal [hKernelRmFIdeal : Cert.KernelRmFIdeal.Facts] : Prop :=
  ∀ (m : (ℓ : Loc Cert.KernelRmFIdeal.nD Cert.KernelRmFIdeal.τ Cert.KernelRmFIdeal.sig) → Buf (Elt Ideal) ℓ) (g : Dev Cert.KernelRmFIdeal.nD → PrngReg), Pre_KernelRmFIdeal m →
    θ_run (Cert.KernelRmFIdeal.defs (F := Ideal)) (onTc (τ := Cert.KernelRmFIdeal.τ) (Cert.KernelRmFIdeal.main (F := Ideal))) ⟨m, fun _ => 0, g⟩ (fun r => (∀ c : Dev Cert.KernelRmFIdeal.nD,
      r.2.mem ((c.tc : Thread Cert.KernelRmFIdeal.nD Cert.KernelRmFIdeal.τ).loc Cert.KernelRmFIdeal.main_arg0) = m ((c.tc : Thread Cert.KernelRmFIdeal.nD Cert.KernelRmFIdeal.τ).loc Cert.KernelRmFIdeal.main_arg0)
      ∧ r.2.mem ((c.tc : Thread Cert.KernelRmFIdeal.nD Cert.KernelRmFIdeal.τ).loc Cert.KernelRmFIdeal.main_arg1) = m ((c.tc : Thread Cert.KernelRmFIdeal.nD Cert.KernelRmFIdeal.τ).loc Cert.KernelRmFIdeal.main_arg1)
      ∧ r.2.mem ((c.tc : Thread Cert.KernelRmFIdeal.nD Cert.KernelRmFIdeal.τ).loc Cert.KernelRmFIdeal.main_arg2) = m ((c.tc : Thread Cert.KernelRmFIdeal.nD Cert.KernelRmFIdeal.τ).loc Cert.KernelRmFIdeal.main_arg2)
      ∧ r.2.mem ((c.tc : Thread Cert.KernelRmFIdeal.nD Cert.KernelRmFIdeal.τ).loc Cert.KernelRmFIdeal.main_arg3) = m ((c.tc : Thread Cert.KernelRmFIdeal.nD Cert.KernelRmFIdeal.τ).loc Cert.KernelRmFIdeal.main_arg3))
      ∧ r.2.sem = fun _ => 0)

def quiescent_ReferenceRmFIdeal [hReferenceRmFIdeal : Cert.ReferenceRmFIdeal.Facts] : Prop :=
  ∀ (m : (ℓ : Loc Cert.ReferenceRmFIdeal.nD Cert.ReferenceRmFIdeal.τ Cert.ReferenceRmFIdeal.sig) → Buf (Elt Ideal) ℓ) (g : Dev Cert.ReferenceRmFIdeal.nD → PrngReg), Pre_ReferenceRmFIdeal m →
    θ_run (Cert.ReferenceRmFIdeal.defs (F := Ideal)) (onTc (τ := Cert.ReferenceRmFIdeal.τ) (Cert.ReferenceRmFIdeal.main (F := Ideal))) ⟨m, fun _ => 0, g⟩ (fun r => (∀ c : Dev Cert.ReferenceRmFIdeal.nD,
      r.2.mem ((c.tc : Thread Cert.ReferenceRmFIdeal.nD Cert.ReferenceRmFIdeal.τ).loc Cert.ReferenceRmFIdeal.main_arg0) = m ((c.tc : Thread Cert.ReferenceRmFIdeal.nD Cert.ReferenceRmFIdeal.τ).loc Cert.ReferenceRmFIdeal.main_arg0)
      ∧ r.2.mem ((c.tc : Thread Cert.ReferenceRmFIdeal.nD Cert.ReferenceRmFIdeal.τ).loc Cert.ReferenceRmFIdeal.main_arg1) = m ((c.tc : Thread Cert.ReferenceRmFIdeal.nD Cert.ReferenceRmFIdeal.τ).loc Cert.ReferenceRmFIdeal.main_arg1)
      ∧ r.2.mem ((c.tc : Thread Cert.ReferenceRmFIdeal.nD Cert.ReferenceRmFIdeal.τ).loc Cert.ReferenceRmFIdeal.main_arg2) = m ((c.tc : Thread Cert.ReferenceRmFIdeal.nD Cert.ReferenceRmFIdeal.τ).loc Cert.ReferenceRmFIdeal.main_arg2)
      ∧ r.2.mem ((c.tc : Thread Cert.ReferenceRmFIdeal.nD Cert.ReferenceRmFIdeal.τ).loc Cert.ReferenceRmFIdeal.main_arg3) = m ((c.tc : Thread Cert.ReferenceRmFIdeal.nD Cert.ReferenceRmFIdeal.τ).loc Cert.ReferenceRmFIdeal.main_arg3))
      ∧ r.2.sem = fun _ => 0)

def quiescent_KernelRm [hKernelRm : Cert.KernelRm.Facts] : Prop :=
  ∀ (m : (ℓ : Loc Cert.KernelRm.nD Cert.KernelRm.τ Cert.KernelRm.sig) → Buf (Elt Bits) ℓ) (g : Dev Cert.KernelRm.nD → PrngReg), Pre_KernelRm m →
    θ_run (Cert.KernelRm.defs (F := Bits)) (onTc (τ := Cert.KernelRm.τ) (Cert.KernelRm.main (F := Bits))) ⟨m, fun _ => 0, g⟩ (fun r => (∀ c : Dev Cert.KernelRm.nD,
      r.2.mem ((c.tc : Thread Cert.KernelRm.nD Cert.KernelRm.τ).loc Cert.KernelRm.main_arg0) = m ((c.tc : Thread Cert.KernelRm.nD Cert.KernelRm.τ).loc Cert.KernelRm.main_arg0)
      ∧ r.2.mem ((c.tc : Thread Cert.KernelRm.nD Cert.KernelRm.τ).loc Cert.KernelRm.main_arg1) = m ((c.tc : Thread Cert.KernelRm.nD Cert.KernelRm.τ).loc Cert.KernelRm.main_arg1))
      ∧ r.2.sem = fun _ => 0)

def quiescent_KernelRmIdeal [hKernelRmIdeal : Cert.KernelRmIdeal.Facts] : Prop :=
  ∀ (m : (ℓ : Loc Cert.KernelRmIdeal.nD Cert.KernelRmIdeal.τ Cert.KernelRmIdeal.sig) → Buf (Elt Ideal) ℓ) (g : Dev Cert.KernelRmIdeal.nD → PrngReg), Pre_KernelRmIdeal m →
    θ_run (Cert.KernelRmIdeal.defs (F := Ideal)) (onTc (τ := Cert.KernelRmIdeal.τ) (Cert.KernelRmIdeal.main (F := Ideal))) ⟨m, fun _ => 0, g⟩ (fun r => (∀ c : Dev Cert.KernelRmIdeal.nD,
      r.2.mem ((c.tc : Thread Cert.KernelRmIdeal.nD Cert.KernelRmIdeal.τ).loc Cert.KernelRmIdeal.main_arg0) = m ((c.tc : Thread Cert.KernelRmIdeal.nD Cert.KernelRmIdeal.τ).loc Cert.KernelRmIdeal.main_arg0)
      ∧ r.2.mem ((c.tc : Thread Cert.KernelRmIdeal.nD Cert.KernelRmIdeal.τ).loc Cert.KernelRmIdeal.main_arg1) = m ((c.tc : Thread Cert.KernelRmIdeal.nD Cert.KernelRmIdeal.τ).loc Cert.KernelRmIdeal.main_arg1))
      ∧ r.2.sem = fun _ => 0)

def quiescent_ReferenceRmIdeal [hReferenceRmIdeal : Cert.ReferenceRmIdeal.Facts] : Prop :=
  ∀ (m : (ℓ : Loc Cert.ReferenceRmIdeal.nD Cert.ReferenceRmIdeal.τ Cert.ReferenceRmIdeal.sig) → Buf (Elt Ideal) ℓ) (g : Dev Cert.ReferenceRmIdeal.nD → PrngReg), Pre_ReferenceRmIdeal m →
    θ_run (Cert.ReferenceRmIdeal.defs (F := Ideal)) (onTc (τ := Cert.ReferenceRmIdeal.τ) (Cert.ReferenceRmIdeal.main (F := Ideal))) ⟨m, fun _ => 0, g⟩ (fun r => (∀ c : Dev Cert.ReferenceRmIdeal.nD,
      r.2.mem ((c.tc : Thread Cert.ReferenceRmIdeal.nD Cert.ReferenceRmIdeal.τ).loc Cert.ReferenceRmIdeal.main_arg0) = m ((c.tc : Thread Cert.ReferenceRmIdeal.nD Cert.ReferenceRmIdeal.τ).loc Cert.ReferenceRmIdeal.main_arg0)
      ∧ r.2.mem ((c.tc : Thread Cert.ReferenceRmIdeal.nD Cert.ReferenceRmIdeal.τ).loc Cert.ReferenceRmIdeal.main_arg1) = m ((c.tc : Thread Cert.ReferenceRmIdeal.nD Cert.ReferenceRmIdeal.τ).loc Cert.ReferenceRmIdeal.main_arg1))
      ∧ r.2.sem = fun _ => 0)

def quiescent_KernelScF [hKernelScF : Cert.KernelScF.Facts] : Prop :=
  ∀ (m : (ℓ : Loc Cert.KernelScF.nD Cert.KernelScF.τ Cert.KernelScF.sig) → Buf (Elt Bits) ℓ) (g : Dev Cert.KernelScF.nD → PrngReg), Pre_KernelScF m →
    θ_run (Cert.KernelScF.defs (F := Bits)) (onTc (τ := Cert.KernelScF.τ) (Cert.KernelScF.main (F := Bits))) ⟨m, fun _ => 0, g⟩ (fun r => (∀ c : Dev Cert.KernelScF.nD,
      r.2.mem ((c.tc : Thread Cert.KernelScF.nD Cert.KernelScF.τ).loc Cert.KernelScF.main_arg0) = m ((c.tc : Thread Cert.KernelScF.nD Cert.KernelScF.τ).loc Cert.KernelScF.main_arg0)
      ∧ r.2.mem ((c.tc : Thread Cert.KernelScF.nD Cert.KernelScF.τ).loc Cert.KernelScF.main_arg1) = m ((c.tc : Thread Cert.KernelScF.nD Cert.KernelScF.τ).loc Cert.KernelScF.main_arg1))
      ∧ r.2.sem = fun _ => 0)

def quiescent_KernelScFIdeal [hKernelScFIdeal : Cert.KernelScFIdeal.Facts] : Prop :=
  ∀ (m : (ℓ : Loc Cert.KernelScFIdeal.nD Cert.KernelScFIdeal.τ Cert.KernelScFIdeal.sig) → Buf (Elt Ideal) ℓ) (g : Dev Cert.KernelScFIdeal.nD → PrngReg), Pre_KernelScFIdeal m →
    θ_run (Cert.KernelScFIdeal.defs (F := Ideal)) (onTc (τ := Cert.KernelScFIdeal.τ) (Cert.KernelScFIdeal.main (F := Ideal))) ⟨m, fun _ => 0, g⟩ (fun r => (∀ c : Dev Cert.KernelScFIdeal.nD,
      r.2.mem ((c.tc : Thread Cert.KernelScFIdeal.nD Cert.KernelScFIdeal.τ).loc Cert.KernelScFIdeal.main_arg0) = m ((c.tc : Thread Cert.KernelScFIdeal.nD Cert.KernelScFIdeal.τ).loc Cert.KernelScFIdeal.main_arg0)
      ∧ r.2.mem ((c.tc : Thread Cert.KernelScFIdeal.nD Cert.KernelScFIdeal.τ).loc Cert.KernelScFIdeal.main_arg1) = m ((c.tc : Thread Cert.KernelScFIdeal.nD Cert.KernelScFIdeal.τ).loc Cert.KernelScFIdeal.main_arg1))
      ∧ r.2.sem = fun _ => 0)

def quiescent_ReferenceScFIdeal [hReferenceScFIdeal : Cert.ReferenceScFIdeal.Facts] : Prop :=
  ∀ (m : (ℓ : Loc Cert.ReferenceScFIdeal.nD Cert.ReferenceScFIdeal.τ Cert.ReferenceScFIdeal.sig) → Buf (Elt Ideal) ℓ) (g : Dev Cert.ReferenceScFIdeal.nD → PrngReg), Pre_ReferenceScFIdeal m →
    θ_run (Cert.ReferenceScFIdeal.defs (F := Ideal)) (onTc (τ := Cert.ReferenceScFIdeal.τ) (Cert.ReferenceScFIdeal.main (F := Ideal))) ⟨m, fun _ => 0, g⟩ (fun r => (∀ c : Dev Cert.ReferenceScFIdeal.nD,
      r.2.mem ((c.tc : Thread Cert.ReferenceScFIdeal.nD Cert.ReferenceScFIdeal.τ).loc Cert.ReferenceScFIdeal.main_arg0) = m ((c.tc : Thread Cert.ReferenceScFIdeal.nD Cert.ReferenceScFIdeal.τ).loc Cert.ReferenceScFIdeal.main_arg0)
      ∧ r.2.mem ((c.tc : Thread Cert.ReferenceScFIdeal.nD Cert.ReferenceScFIdeal.τ).loc Cert.ReferenceScFIdeal.main_arg1) = m ((c.tc : Thread Cert.ReferenceScFIdeal.nD Cert.ReferenceScFIdeal.τ).loc Cert.ReferenceScFIdeal.main_arg1))
      ∧ r.2.sem = fun _ => 0)

def quiescent_KernelFfF [hKernelFfF : Cert.KernelFfF.Facts] : Prop :=
  ∀ (m : (ℓ : Loc Cert.KernelFfF.nD Cert.KernelFfF.τ Cert.KernelFfF.sig) → Buf (Elt Bits) ℓ) (g : Dev Cert.KernelFfF.nD → PrngReg), Pre_KernelFfF m →
    θ_run (Cert.KernelFfF.defs (F := Bits)) (onTc (τ := Cert.KernelFfF.τ) (Cert.KernelFfF.main (F := Bits))) ⟨m, fun _ => 0, g⟩ (fun r => (∀ c : Dev Cert.KernelFfF.nD,
      r.2.mem ((c.tc : Thread Cert.KernelFfF.nD Cert.KernelFfF.τ).loc Cert.KernelFfF.main_arg0) = m ((c.tc : Thread Cert.KernelFfF.nD Cert.KernelFfF.τ).loc Cert.KernelFfF.main_arg0)
      ∧ r.2.mem ((c.tc : Thread Cert.KernelFfF.nD Cert.KernelFfF.τ).loc Cert.KernelFfF.main_arg1) = m ((c.tc : Thread Cert.KernelFfF.nD Cert.KernelFfF.τ).loc Cert.KernelFfF.main_arg1))
      ∧ r.2.sem = fun _ => 0)

def quiescent_KernelFfFIdeal [hKernelFfFIdeal : Cert.KernelFfFIdeal.Facts] : Prop :=
  ∀ (m : (ℓ : Loc Cert.KernelFfFIdeal.nD Cert.KernelFfFIdeal.τ Cert.KernelFfFIdeal.sig) → Buf (Elt Ideal) ℓ) (g : Dev Cert.KernelFfFIdeal.nD → PrngReg), Pre_KernelFfFIdeal m →
    θ_run (Cert.KernelFfFIdeal.defs (F := Ideal)) (onTc (τ := Cert.KernelFfFIdeal.τ) (Cert.KernelFfFIdeal.main (F := Ideal))) ⟨m, fun _ => 0, g⟩ (fun r => (∀ c : Dev Cert.KernelFfFIdeal.nD,
      r.2.mem ((c.tc : Thread Cert.KernelFfFIdeal.nD Cert.KernelFfFIdeal.τ).loc Cert.KernelFfFIdeal.main_arg0) = m ((c.tc : Thread Cert.KernelFfFIdeal.nD Cert.KernelFfFIdeal.τ).loc Cert.KernelFfFIdeal.main_arg0)
      ∧ r.2.mem ((c.tc : Thread Cert.KernelFfFIdeal.nD Cert.KernelFfFIdeal.τ).loc Cert.KernelFfFIdeal.main_arg1) = m ((c.tc : Thread Cert.KernelFfFIdeal.nD Cert.KernelFfFIdeal.τ).loc Cert.KernelFfFIdeal.main_arg1))
      ∧ r.2.sem = fun _ => 0)

def quiescent_ReferenceFfFIdeal [hReferenceFfFIdeal : Cert.ReferenceFfFIdeal.Facts] : Prop :=
  ∀ (m : (ℓ : Loc Cert.ReferenceFfFIdeal.nD Cert.ReferenceFfFIdeal.τ Cert.ReferenceFfFIdeal.sig) → Buf (Elt Ideal) ℓ) (g : Dev Cert.ReferenceFfFIdeal.nD → PrngReg), Pre_ReferenceFfFIdeal m →
    θ_run (Cert.ReferenceFfFIdeal.defs (F := Ideal)) (onTc (τ := Cert.ReferenceFfFIdeal.τ) (Cert.ReferenceFfFIdeal.main (F := Ideal))) ⟨m, fun _ => 0, g⟩ (fun r => (∀ c : Dev Cert.ReferenceFfFIdeal.nD,
      r.2.mem ((c.tc : Thread Cert.ReferenceFfFIdeal.nD Cert.ReferenceFfFIdeal.τ).loc Cert.ReferenceFfFIdeal.main_arg0) = m ((c.tc : Thread Cert.ReferenceFfFIdeal.nD Cert.ReferenceFfFIdeal.τ).loc Cert.ReferenceFfFIdeal.main_arg0)
      ∧ r.2.mem ((c.tc : Thread Cert.ReferenceFfFIdeal.nD Cert.ReferenceFfFIdeal.τ).loc Cert.ReferenceFfFIdeal.main_arg1) = m ((c.tc : Thread Cert.ReferenceFfFIdeal.nD Cert.ReferenceFfFIdeal.τ).loc Cert.ReferenceFfFIdeal.main_arg1))
      ∧ r.2.sem = fun _ => 0)

def quiescent_KernelLh [hKernelLh : Cert.KernelLh.Facts] : Prop :=
  ∀ (m : (ℓ : Loc Cert.KernelLh.nD Cert.KernelLh.τ Cert.KernelLh.sig) → Buf (Elt Bits) ℓ) (g : Dev Cert.KernelLh.nD → PrngReg), Pre_KernelLh m →
    θ_run (Cert.KernelLh.defs (F := Bits)) (onTc (τ := Cert.KernelLh.τ) (Cert.KernelLh.main (F := Bits))) ⟨m, fun _ => 0, g⟩ (fun r => (∀ c : Dev Cert.KernelLh.nD,
      r.2.mem ((c.tc : Thread Cert.KernelLh.nD Cert.KernelLh.τ).loc Cert.KernelLh.main_arg0) = m ((c.tc : Thread Cert.KernelLh.nD Cert.KernelLh.τ).loc Cert.KernelLh.main_arg0)
      ∧ r.2.mem ((c.tc : Thread Cert.KernelLh.nD Cert.KernelLh.τ).loc Cert.KernelLh.main_arg1) = m ((c.tc : Thread Cert.KernelLh.nD Cert.KernelLh.τ).loc Cert.KernelLh.main_arg1)
      ∧ r.2.mem ((c.tc : Thread Cert.KernelLh.nD Cert.KernelLh.τ).loc Cert.KernelLh.main_arg2) = m ((c.tc : Thread Cert.KernelLh.nD Cert.KernelLh.τ).loc Cert.KernelLh.main_arg2))
      ∧ r.2.sem = fun _ => 0)

def quiescent_KernelLhIdeal [hKernelLhIdeal : Cert.KernelLhIdeal.Facts] : Prop :=
  ∀ (m : (ℓ : Loc Cert.KernelLhIdeal.nD Cert.KernelLhIdeal.τ Cert.KernelLhIdeal.sig) → Buf (Elt Ideal) ℓ) (g : Dev Cert.KernelLhIdeal.nD → PrngReg), Pre_KernelLhIdeal m →
    θ_run (Cert.KernelLhIdeal.defs (F := Ideal)) (onTc (τ := Cert.KernelLhIdeal.τ) (Cert.KernelLhIdeal.main (F := Ideal))) ⟨m, fun _ => 0, g⟩ (fun r => (∀ c : Dev Cert.KernelLhIdeal.nD,
      r.2.mem ((c.tc : Thread Cert.KernelLhIdeal.nD Cert.KernelLhIdeal.τ).loc Cert.KernelLhIdeal.main_arg0) = m ((c.tc : Thread Cert.KernelLhIdeal.nD Cert.KernelLhIdeal.τ).loc Cert.KernelLhIdeal.main_arg0)
      ∧ r.2.mem ((c.tc : Thread Cert.KernelLhIdeal.nD Cert.KernelLhIdeal.τ).loc Cert.KernelLhIdeal.main_arg1) = m ((c.tc : Thread Cert.KernelLhIdeal.nD Cert.KernelLhIdeal.τ).loc Cert.KernelLhIdeal.main_arg1)
      ∧ r.2.mem ((c.tc : Thread Cert.KernelLhIdeal.nD Cert.KernelLhIdeal.τ).loc Cert.KernelLhIdeal.main_arg2) = m ((c.tc : Thread Cert.KernelLhIdeal.nD Cert.KernelLhIdeal.τ).loc Cert.KernelLhIdeal.main_arg2))
      ∧ r.2.sem = fun _ => 0)

def quiescent_ReferenceLhIdeal [hReferenceLhIdeal : Cert.ReferenceLhIdeal.Facts] : Prop :=
  ∀ (m : (ℓ : Loc Cert.ReferenceLhIdeal.nD Cert.ReferenceLhIdeal.τ Cert.ReferenceLhIdeal.sig) → Buf (Elt Ideal) ℓ) (g : Dev Cert.ReferenceLhIdeal.nD → PrngReg), Pre_ReferenceLhIdeal m →
    θ_run (Cert.ReferenceLhIdeal.defs (F := Ideal)) (onTc (τ := Cert.ReferenceLhIdeal.τ) (Cert.ReferenceLhIdeal.main (F := Ideal))) ⟨m, fun _ => 0, g⟩ (fun r => (∀ c : Dev Cert.ReferenceLhIdeal.nD,
      r.2.mem ((c.tc : Thread Cert.ReferenceLhIdeal.nD Cert.ReferenceLhIdeal.τ).loc Cert.ReferenceLhIdeal.main_arg0) = m ((c.tc : Thread Cert.ReferenceLhIdeal.nD Cert.ReferenceLhIdeal.τ).loc Cert.ReferenceLhIdeal.main_arg0)
      ∧ r.2.mem ((c.tc : Thread Cert.ReferenceLhIdeal.nD Cert.ReferenceLhIdeal.τ).loc Cert.ReferenceLhIdeal.main_arg1) = m ((c.tc : Thread Cert.ReferenceLhIdeal.nD Cert.ReferenceLhIdeal.τ).loc Cert.ReferenceLhIdeal.main_arg1)
      ∧ r.2.mem ((c.tc : Thread Cert.ReferenceLhIdeal.nD Cert.ReferenceLhIdeal.τ).loc Cert.ReferenceLhIdeal.main_arg2) = m ((c.tc : Thread Cert.ReferenceLhIdeal.nD Cert.ReferenceLhIdeal.τ).loc Cert.ReferenceLhIdeal.main_arg2))
      ∧ r.2.sem = fun _ => 0)

def quiescent_KernelAdA [hKernelAdA : Cert.KernelAdA.Facts] : Prop :=
  ∀ (m : (ℓ : Loc Cert.KernelAdA.nD Cert.KernelAdA.τ Cert.KernelAdA.sig) → Buf (Elt Bits) ℓ) (g : Dev Cert.KernelAdA.nD → PrngReg), Pre_KernelAdA m →
    θ_run (Cert.KernelAdA.defs (F := Bits)) (onTc (τ := Cert.KernelAdA.τ) (Cert.KernelAdA.main (F := Bits))) ⟨m, fun _ => 0, g⟩ (fun r => (∀ c : Dev Cert.KernelAdA.nD,
      r.2.mem ((c.tc : Thread Cert.KernelAdA.nD Cert.KernelAdA.τ).loc Cert.KernelAdA.main_arg0) = m ((c.tc : Thread Cert.KernelAdA.nD Cert.KernelAdA.τ).loc Cert.KernelAdA.main_arg0)
      ∧ r.2.mem ((c.tc : Thread Cert.KernelAdA.nD Cert.KernelAdA.τ).loc Cert.KernelAdA.main_arg1) = m ((c.tc : Thread Cert.KernelAdA.nD Cert.KernelAdA.τ).loc Cert.KernelAdA.main_arg1)
      ∧ r.2.mem ((c.tc : Thread Cert.KernelAdA.nD Cert.KernelAdA.τ).loc Cert.KernelAdA.main_arg2) = m ((c.tc : Thread Cert.KernelAdA.nD Cert.KernelAdA.τ).loc Cert.KernelAdA.main_arg2)
      ∧ r.2.mem ((c.tc : Thread Cert.KernelAdA.nD Cert.KernelAdA.τ).loc Cert.KernelAdA.main_arg3) = m ((c.tc : Thread Cert.KernelAdA.nD Cert.KernelAdA.τ).loc Cert.KernelAdA.main_arg3))
      ∧ r.2.sem = fun _ => 0)

def quiescent_KernelAdAIdeal [hKernelAdAIdeal : Cert.KernelAdAIdeal.Facts] : Prop :=
  ∀ (m : (ℓ : Loc Cert.KernelAdAIdeal.nD Cert.KernelAdAIdeal.τ Cert.KernelAdAIdeal.sig) → Buf (Elt Ideal) ℓ) (g : Dev Cert.KernelAdAIdeal.nD → PrngReg), Pre_KernelAdAIdeal m →
    θ_run (Cert.KernelAdAIdeal.defs (F := Ideal)) (onTc (τ := Cert.KernelAdAIdeal.τ) (Cert.KernelAdAIdeal.main (F := Ideal))) ⟨m, fun _ => 0, g⟩ (fun r => (∀ c : Dev Cert.KernelAdAIdeal.nD,
      r.2.mem ((c.tc : Thread Cert.KernelAdAIdeal.nD Cert.KernelAdAIdeal.τ).loc Cert.KernelAdAIdeal.main_arg0) = m ((c.tc : Thread Cert.KernelAdAIdeal.nD Cert.KernelAdAIdeal.τ).loc Cert.KernelAdAIdeal.main_arg0)
      ∧ r.2.mem ((c.tc : Thread Cert.KernelAdAIdeal.nD Cert.KernelAdAIdeal.τ).loc Cert.KernelAdAIdeal.main_arg1) = m ((c.tc : Thread Cert.KernelAdAIdeal.nD Cert.KernelAdAIdeal.τ).loc Cert.KernelAdAIdeal.main_arg1)
      ∧ r.2.mem ((c.tc : Thread Cert.KernelAdAIdeal.nD Cert.KernelAdAIdeal.τ).loc Cert.KernelAdAIdeal.main_arg2) = m ((c.tc : Thread Cert.KernelAdAIdeal.nD Cert.KernelAdAIdeal.τ).loc Cert.KernelAdAIdeal.main_arg2)
      ∧ r.2.mem ((c.tc : Thread Cert.KernelAdAIdeal.nD Cert.KernelAdAIdeal.τ).loc Cert.KernelAdAIdeal.main_arg3) = m ((c.tc : Thread Cert.KernelAdAIdeal.nD Cert.KernelAdAIdeal.τ).loc Cert.KernelAdAIdeal.main_arg3))
      ∧ r.2.sem = fun _ => 0)

def quiescent_ReferenceAdAIdeal [hReferenceAdAIdeal : Cert.ReferenceAdAIdeal.Facts] : Prop :=
  ∀ (m : (ℓ : Loc Cert.ReferenceAdAIdeal.nD Cert.ReferenceAdAIdeal.τ Cert.ReferenceAdAIdeal.sig) → Buf (Elt Ideal) ℓ) (g : Dev Cert.ReferenceAdAIdeal.nD → PrngReg), Pre_ReferenceAdAIdeal m →
    θ_run (Cert.ReferenceAdAIdeal.defs (F := Ideal)) (onTc (τ := Cert.ReferenceAdAIdeal.τ) (Cert.ReferenceAdAIdeal.main (F := Ideal))) ⟨m, fun _ => 0, g⟩ (fun r => (∀ c : Dev Cert.ReferenceAdAIdeal.nD,
      r.2.mem ((c.tc : Thread Cert.ReferenceAdAIdeal.nD Cert.ReferenceAdAIdeal.τ).loc Cert.ReferenceAdAIdeal.main_arg0) = m ((c.tc : Thread Cert.ReferenceAdAIdeal.nD Cert.ReferenceAdAIdeal.τ).loc Cert.ReferenceAdAIdeal.main_arg0)
      ∧ r.2.mem ((c.tc : Thread Cert.ReferenceAdAIdeal.nD Cert.ReferenceAdAIdeal.τ).loc Cert.ReferenceAdAIdeal.main_arg1) = m ((c.tc : Thread Cert.ReferenceAdAIdeal.nD Cert.ReferenceAdAIdeal.τ).loc Cert.ReferenceAdAIdeal.main_arg1)
      ∧ r.2.mem ((c.tc : Thread Cert.ReferenceAdAIdeal.nD Cert.ReferenceAdAIdeal.τ).loc Cert.ReferenceAdAIdeal.main_arg2) = m ((c.tc : Thread Cert.ReferenceAdAIdeal.nD Cert.ReferenceAdAIdeal.τ).loc Cert.ReferenceAdAIdeal.main_arg2)
      ∧ r.2.mem ((c.tc : Thread Cert.ReferenceAdAIdeal.nD Cert.ReferenceAdAIdeal.τ).loc Cert.ReferenceAdAIdeal.main_arg3) = m ((c.tc : Thread Cert.ReferenceAdAIdeal.nD Cert.ReferenceAdAIdeal.τ).loc Cert.ReferenceAdAIdeal.main_arg3))
      ∧ r.2.sem = fun _ => 0)

def quiescent_KernelAdB [hKernelAdB : Cert.KernelAdB.Facts] : Prop :=
  ∀ (m : (ℓ : Loc Cert.KernelAdB.nD Cert.KernelAdB.τ Cert.KernelAdB.sig) → Buf (Elt Bits) ℓ) (g : Dev Cert.KernelAdB.nD → PrngReg), Pre_KernelAdB m →
    θ_run (Cert.KernelAdB.defs (F := Bits)) (onTc (τ := Cert.KernelAdB.τ) (Cert.KernelAdB.main (F := Bits))) ⟨m, fun _ => 0, g⟩ (fun r => (∀ c : Dev Cert.KernelAdB.nD,
      r.2.mem ((c.tc : Thread Cert.KernelAdB.nD Cert.KernelAdB.τ).loc Cert.KernelAdB.main_arg0) = m ((c.tc : Thread Cert.KernelAdB.nD Cert.KernelAdB.τ).loc Cert.KernelAdB.main_arg0)
      ∧ r.2.mem ((c.tc : Thread Cert.KernelAdB.nD Cert.KernelAdB.τ).loc Cert.KernelAdB.main_arg1) = m ((c.tc : Thread Cert.KernelAdB.nD Cert.KernelAdB.τ).loc Cert.KernelAdB.main_arg1)
      ∧ r.2.mem ((c.tc : Thread Cert.KernelAdB.nD Cert.KernelAdB.τ).loc Cert.KernelAdB.main_arg2) = m ((c.tc : Thread Cert.KernelAdB.nD Cert.KernelAdB.τ).loc Cert.KernelAdB.main_arg2)
      ∧ r.2.mem ((c.tc : Thread Cert.KernelAdB.nD Cert.KernelAdB.τ).loc Cert.KernelAdB.main_arg3) = m ((c.tc : Thread Cert.KernelAdB.nD Cert.KernelAdB.τ).loc Cert.KernelAdB.main_arg3))
      ∧ r.2.sem = fun _ => 0)

def quiescent_KernelAdBIdeal [hKernelAdBIdeal : Cert.KernelAdBIdeal.Facts] : Prop :=
  ∀ (m : (ℓ : Loc Cert.KernelAdBIdeal.nD Cert.KernelAdBIdeal.τ Cert.KernelAdBIdeal.sig) → Buf (Elt Ideal) ℓ) (g : Dev Cert.KernelAdBIdeal.nD → PrngReg), Pre_KernelAdBIdeal m →
    θ_run (Cert.KernelAdBIdeal.defs (F := Ideal)) (onTc (τ := Cert.KernelAdBIdeal.τ) (Cert.KernelAdBIdeal.main (F := Ideal))) ⟨m, fun _ => 0, g⟩ (fun r => (∀ c : Dev Cert.KernelAdBIdeal.nD,
      r.2.mem ((c.tc : Thread Cert.KernelAdBIdeal.nD Cert.KernelAdBIdeal.τ).loc Cert.KernelAdBIdeal.main_arg0) = m ((c.tc : Thread Cert.KernelAdBIdeal.nD Cert.KernelAdBIdeal.τ).loc Cert.KernelAdBIdeal.main_arg0)
      ∧ r.2.mem ((c.tc : Thread Cert.KernelAdBIdeal.nD Cert.KernelAdBIdeal.τ).loc Cert.KernelAdBIdeal.main_arg1) = m ((c.tc : Thread Cert.KernelAdBIdeal.nD Cert.KernelAdBIdeal.τ).loc Cert.KernelAdBIdeal.main_arg1)
      ∧ r.2.mem ((c.tc : Thread Cert.KernelAdBIdeal.nD Cert.KernelAdBIdeal.τ).loc Cert.KernelAdBIdeal.main_arg2) = m ((c.tc : Thread Cert.KernelAdBIdeal.nD Cert.KernelAdBIdeal.τ).loc Cert.KernelAdBIdeal.main_arg2)
      ∧ r.2.mem ((c.tc : Thread Cert.KernelAdBIdeal.nD Cert.KernelAdBIdeal.τ).loc Cert.KernelAdBIdeal.main_arg3) = m ((c.tc : Thread Cert.KernelAdBIdeal.nD Cert.KernelAdBIdeal.τ).loc Cert.KernelAdBIdeal.main_arg3))
      ∧ r.2.sem = fun _ => 0)

def quiescent_ReferenceAdBIdeal [hReferenceAdBIdeal : Cert.ReferenceAdBIdeal.Facts] : Prop :=
  ∀ (m : (ℓ : Loc Cert.ReferenceAdBIdeal.nD Cert.ReferenceAdBIdeal.τ Cert.ReferenceAdBIdeal.sig) → Buf (Elt Ideal) ℓ) (g : Dev Cert.ReferenceAdBIdeal.nD → PrngReg), Pre_ReferenceAdBIdeal m →
    θ_run (Cert.ReferenceAdBIdeal.defs (F := Ideal)) (onTc (τ := Cert.ReferenceAdBIdeal.τ) (Cert.ReferenceAdBIdeal.main (F := Ideal))) ⟨m, fun _ => 0, g⟩ (fun r => (∀ c : Dev Cert.ReferenceAdBIdeal.nD,
      r.2.mem ((c.tc : Thread Cert.ReferenceAdBIdeal.nD Cert.ReferenceAdBIdeal.τ).loc Cert.ReferenceAdBIdeal.main_arg0) = m ((c.tc : Thread Cert.ReferenceAdBIdeal.nD Cert.ReferenceAdBIdeal.τ).loc Cert.ReferenceAdBIdeal.main_arg0)
      ∧ r.2.mem ((c.tc : Thread Cert.ReferenceAdBIdeal.nD Cert.ReferenceAdBIdeal.τ).loc Cert.ReferenceAdBIdeal.main_arg1) = m ((c.tc : Thread Cert.ReferenceAdBIdeal.nD Cert.ReferenceAdBIdeal.τ).loc Cert.ReferenceAdBIdeal.main_arg1)
      ∧ r.2.mem ((c.tc : Thread Cert.ReferenceAdBIdeal.nD Cert.ReferenceAdBIdeal.τ).loc Cert.ReferenceAdBIdeal.main_arg2) = m ((c.tc : Thread Cert.ReferenceAdBIdeal.nD Cert.ReferenceAdBIdeal.τ).loc Cert.ReferenceAdBIdeal.main_arg2)
      ∧ r.2.mem ((c.tc : Thread Cert.ReferenceAdBIdeal.nD Cert.ReferenceAdBIdeal.τ).loc Cert.ReferenceAdBIdeal.main_arg3) = m ((c.tc : Thread Cert.ReferenceAdBIdeal.nD Cert.ReferenceAdBIdeal.τ).loc Cert.ReferenceAdBIdeal.main_arg3))
      ∧ r.2.sem = fun _ => 0)

def quiescent_KernelAdC [hKernelAdC : Cert.KernelAdC.Facts] : Prop :=
  ∀ (m : (ℓ : Loc Cert.KernelAdC.nD Cert.KernelAdC.τ Cert.KernelAdC.sig) → Buf (Elt Bits) ℓ) (g : Dev Cert.KernelAdC.nD → PrngReg), Pre_KernelAdC m →
    θ_run (Cert.KernelAdC.defs (F := Bits)) (onTc (τ := Cert.KernelAdC.τ) (Cert.KernelAdC.main (F := Bits))) ⟨m, fun _ => 0, g⟩ (fun r => (∀ c : Dev Cert.KernelAdC.nD,
      r.2.mem ((c.tc : Thread Cert.KernelAdC.nD Cert.KernelAdC.τ).loc Cert.KernelAdC.main_arg0) = m ((c.tc : Thread Cert.KernelAdC.nD Cert.KernelAdC.τ).loc Cert.KernelAdC.main_arg0)
      ∧ r.2.mem ((c.tc : Thread Cert.KernelAdC.nD Cert.KernelAdC.τ).loc Cert.KernelAdC.main_arg1) = m ((c.tc : Thread Cert.KernelAdC.nD Cert.KernelAdC.τ).loc Cert.KernelAdC.main_arg1)
      ∧ r.2.mem ((c.tc : Thread Cert.KernelAdC.nD Cert.KernelAdC.τ).loc Cert.KernelAdC.main_arg2) = m ((c.tc : Thread Cert.KernelAdC.nD Cert.KernelAdC.τ).loc Cert.KernelAdC.main_arg2)
      ∧ r.2.mem ((c.tc : Thread Cert.KernelAdC.nD Cert.KernelAdC.τ).loc Cert.KernelAdC.main_arg3) = m ((c.tc : Thread Cert.KernelAdC.nD Cert.KernelAdC.τ).loc Cert.KernelAdC.main_arg3))
      ∧ r.2.sem = fun _ => 0)

def quiescent_KernelAdCIdeal [hKernelAdCIdeal : Cert.KernelAdCIdeal.Facts] : Prop :=
  ∀ (m : (ℓ : Loc Cert.KernelAdCIdeal.nD Cert.KernelAdCIdeal.τ Cert.KernelAdCIdeal.sig) → Buf (Elt Ideal) ℓ) (g : Dev Cert.KernelAdCIdeal.nD → PrngReg), Pre_KernelAdCIdeal m →
    θ_run (Cert.KernelAdCIdeal.defs (F := Ideal)) (onTc (τ := Cert.KernelAdCIdeal.τ) (Cert.KernelAdCIdeal.main (F := Ideal))) ⟨m, fun _ => 0, g⟩ (fun r => (∀ c : Dev Cert.KernelAdCIdeal.nD,
      r.2.mem ((c.tc : Thread Cert.KernelAdCIdeal.nD Cert.KernelAdCIdeal.τ).loc Cert.KernelAdCIdeal.main_arg0) = m ((c.tc : Thread Cert.KernelAdCIdeal.nD Cert.KernelAdCIdeal.τ).loc Cert.KernelAdCIdeal.main_arg0)
      ∧ r.2.mem ((c.tc : Thread Cert.KernelAdCIdeal.nD Cert.KernelAdCIdeal.τ).loc Cert.KernelAdCIdeal.main_arg1) = m ((c.tc : Thread Cert.KernelAdCIdeal.nD Cert.KernelAdCIdeal.τ).loc Cert.KernelAdCIdeal.main_arg1)
      ∧ r.2.mem ((c.tc : Thread Cert.KernelAdCIdeal.nD Cert.KernelAdCIdeal.τ).loc Cert.KernelAdCIdeal.main_arg2) = m ((c.tc : Thread Cert.KernelAdCIdeal.nD Cert.KernelAdCIdeal.τ).loc Cert.KernelAdCIdeal.main_arg2)
      ∧ r.2.mem ((c.tc : Thread Cert.KernelAdCIdeal.nD Cert.KernelAdCIdeal.τ).loc Cert.KernelAdCIdeal.main_arg3) = m ((c.tc : Thread Cert.KernelAdCIdeal.nD Cert.KernelAdCIdeal.τ).loc Cert.KernelAdCIdeal.main_arg3))
      ∧ r.2.sem = fun _ => 0)

def quiescent_ReferenceAdCIdeal [hReferenceAdCIdeal : Cert.ReferenceAdCIdeal.Facts] : Prop :=
  ∀ (m : (ℓ : Loc Cert.ReferenceAdCIdeal.nD Cert.ReferenceAdCIdeal.τ Cert.ReferenceAdCIdeal.sig) → Buf (Elt Ideal) ℓ) (g : Dev Cert.ReferenceAdCIdeal.nD → PrngReg), Pre_ReferenceAdCIdeal m →
    θ_run (Cert.ReferenceAdCIdeal.defs (F := Ideal)) (onTc (τ := Cert.ReferenceAdCIdeal.τ) (Cert.ReferenceAdCIdeal.main (F := Ideal))) ⟨m, fun _ => 0, g⟩ (fun r => (∀ c : Dev Cert.ReferenceAdCIdeal.nD,
      r.2.mem ((c.tc : Thread Cert.ReferenceAdCIdeal.nD Cert.ReferenceAdCIdeal.τ).loc Cert.ReferenceAdCIdeal.main_arg0) = m ((c.tc : Thread Cert.ReferenceAdCIdeal.nD Cert.ReferenceAdCIdeal.τ).loc Cert.ReferenceAdCIdeal.main_arg0)
      ∧ r.2.mem ((c.tc : Thread Cert.ReferenceAdCIdeal.nD Cert.ReferenceAdCIdeal.τ).loc Cert.ReferenceAdCIdeal.main_arg1) = m ((c.tc : Thread Cert.ReferenceAdCIdeal.nD Cert.ReferenceAdCIdeal.τ).loc Cert.ReferenceAdCIdeal.main_arg1)
      ∧ r.2.mem ((c.tc : Thread Cert.ReferenceAdCIdeal.nD Cert.ReferenceAdCIdeal.τ).loc Cert.ReferenceAdCIdeal.main_arg2) = m ((c.tc : Thread Cert.ReferenceAdCIdeal.nD Cert.ReferenceAdCIdeal.τ).loc Cert.ReferenceAdCIdeal.main_arg2)
      ∧ r.2.mem ((c.tc : Thread Cert.ReferenceAdCIdeal.nD Cert.ReferenceAdCIdeal.τ).loc Cert.ReferenceAdCIdeal.main_arg3) = m ((c.tc : Thread Cert.ReferenceAdCIdeal.nD Cert.ReferenceAdCIdeal.τ).loc Cert.ReferenceAdCIdeal.main_arg3))
      ∧ r.2.sem = fun _ => 0)

def quiescent_KernelAdD [hKernelAdD : Cert.KernelAdD.Facts] : Prop :=
  ∀ (m : (ℓ : Loc Cert.KernelAdD.nD Cert.KernelAdD.τ Cert.KernelAdD.sig) → Buf (Elt Bits) ℓ) (g : Dev Cert.KernelAdD.nD → PrngReg), Pre_KernelAdD m →
    θ_run (Cert.KernelAdD.defs (F := Bits)) (onTc (τ := Cert.KernelAdD.τ) (Cert.KernelAdD.main (F := Bits))) ⟨m, fun _ => 0, g⟩ (fun r => (∀ c : Dev Cert.KernelAdD.nD,
      r.2.mem ((c.tc : Thread Cert.KernelAdD.nD Cert.KernelAdD.τ).loc Cert.KernelAdD.main_arg0) = m ((c.tc : Thread Cert.KernelAdD.nD Cert.KernelAdD.τ).loc Cert.KernelAdD.main_arg0)
      ∧ r.2.mem ((c.tc : Thread Cert.KernelAdD.nD Cert.KernelAdD.τ).loc Cert.KernelAdD.main_arg1) = m ((c.tc : Thread Cert.KernelAdD.nD Cert.KernelAdD.τ).loc Cert.KernelAdD.main_arg1)
      ∧ r.2.mem ((c.tc : Thread Cert.KernelAdD.nD Cert.KernelAdD.τ).loc Cert.KernelAdD.main_arg2) = m ((c.tc : Thread Cert.KernelAdD.nD Cert.KernelAdD.τ).loc Cert.KernelAdD.main_arg2)
      ∧ r.2.mem ((c.tc : Thread Cert.KernelAdD.nD Cert.KernelAdD.τ).loc Cert.KernelAdD.main_arg3) = m ((c.tc : Thread Cert.KernelAdD.nD Cert.KernelAdD.τ).loc Cert.KernelAdD.main_arg3))
      ∧ r.2.sem = fun _ => 0)

def quiescent_KernelAdDIdeal [hKernelAdDIdeal : Cert.KernelAdDIdeal.Facts] : Prop :=
  ∀ (m : (ℓ : Loc Cert.KernelAdDIdeal.nD Cert.KernelAdDIdeal.τ Cert.KernelAdDIdeal.sig) → Buf (Elt Ideal) ℓ) (g : Dev Cert.KernelAdDIdeal.nD → PrngReg), Pre_KernelAdDIdeal m →
    θ_run (Cert.KernelAdDIdeal.defs (F := Ideal)) (onTc (τ := Cert.KernelAdDIdeal.τ) (Cert.KernelAdDIdeal.main (F := Ideal))) ⟨m, fun _ => 0, g⟩ (fun r => (∀ c : Dev Cert.KernelAdDIdeal.nD,
      r.2.mem ((c.tc : Thread Cert.KernelAdDIdeal.nD Cert.KernelAdDIdeal.τ).loc Cert.KernelAdDIdeal.main_arg0) = m ((c.tc : Thread Cert.KernelAdDIdeal.nD Cert.KernelAdDIdeal.τ).loc Cert.KernelAdDIdeal.main_arg0)
      ∧ r.2.mem ((c.tc : Thread Cert.KernelAdDIdeal.nD Cert.KernelAdDIdeal.τ).loc Cert.KernelAdDIdeal.main_arg1) = m ((c.tc : Thread Cert.KernelAdDIdeal.nD Cert.KernelAdDIdeal.τ).loc Cert.KernelAdDIdeal.main_arg1)
      ∧ r.2.mem ((c.tc : Thread Cert.KernelAdDIdeal.nD Cert.KernelAdDIdeal.τ).loc Cert.KernelAdDIdeal.main_arg2) = m ((c.tc : Thread Cert.KernelAdDIdeal.nD Cert.KernelAdDIdeal.τ).loc Cert.KernelAdDIdeal.main_arg2)
      ∧ r.2.mem ((c.tc : Thread Cert.KernelAdDIdeal.nD Cert.KernelAdDIdeal.τ).loc Cert.KernelAdDIdeal.main_arg3) = m ((c.tc : Thread Cert.KernelAdDIdeal.nD Cert.KernelAdDIdeal.τ).loc Cert.KernelAdDIdeal.main_arg3))
      ∧ r.2.sem = fun _ => 0)

def quiescent_ReferenceAdDIdeal [hReferenceAdDIdeal : Cert.ReferenceAdDIdeal.Facts] : Prop :=
  ∀ (m : (ℓ : Loc Cert.ReferenceAdDIdeal.nD Cert.ReferenceAdDIdeal.τ Cert.ReferenceAdDIdeal.sig) → Buf (Elt Ideal) ℓ) (g : Dev Cert.ReferenceAdDIdeal.nD → PrngReg), Pre_ReferenceAdDIdeal m →
    θ_run (Cert.ReferenceAdDIdeal.defs (F := Ideal)) (onTc (τ := Cert.ReferenceAdDIdeal.τ) (Cert.ReferenceAdDIdeal.main (F := Ideal))) ⟨m, fun _ => 0, g⟩ (fun r => (∀ c : Dev Cert.ReferenceAdDIdeal.nD,
      r.2.mem ((c.tc : Thread Cert.ReferenceAdDIdeal.nD Cert.ReferenceAdDIdeal.τ).loc Cert.ReferenceAdDIdeal.main_arg0) = m ((c.tc : Thread Cert.ReferenceAdDIdeal.nD Cert.ReferenceAdDIdeal.τ).loc Cert.ReferenceAdDIdeal.main_arg0)
      ∧ r.2.mem ((c.tc : Thread Cert.ReferenceAdDIdeal.nD Cert.ReferenceAdDIdeal.τ).loc Cert.ReferenceAdDIdeal.main_arg1) = m ((c.tc : Thread Cert.ReferenceAdDIdeal.nD Cert.ReferenceAdDIdeal.τ).loc Cert.ReferenceAdDIdeal.main_arg1)
      ∧ r.2.mem ((c.tc : Thread Cert.ReferenceAdDIdeal.nD Cert.ReferenceAdDIdeal.τ).loc Cert.ReferenceAdDIdeal.main_arg2) = m ((c.tc : Thread Cert.ReferenceAdDIdeal.nD Cert.ReferenceAdDIdeal.τ).loc Cert.ReferenceAdDIdeal.main_arg2)
      ∧ r.2.mem ((c.tc : Thread Cert.ReferenceAdDIdeal.nD Cert.ReferenceAdDIdeal.τ).loc Cert.ReferenceAdDIdeal.main_arg3) = m ((c.tc : Thread Cert.ReferenceAdDIdeal.nD Cert.ReferenceAdDIdeal.τ).loc Cert.ReferenceAdDIdeal.main_arg3))
      ∧ r.2.sem = fun _ => 0)

def quiescent_KernelAdE [hKernelAdE : Cert.KernelAdE.Facts] : Prop :=
  ∀ (m : (ℓ : Loc Cert.KernelAdE.nD Cert.KernelAdE.τ Cert.KernelAdE.sig) → Buf (Elt Bits) ℓ) (g : Dev Cert.KernelAdE.nD → PrngReg), Pre_KernelAdE m →
    θ_run (Cert.KernelAdE.defs (F := Bits)) (onTc (τ := Cert.KernelAdE.τ) (Cert.KernelAdE.main (F := Bits))) ⟨m, fun _ => 0, g⟩ (fun r => (∀ c : Dev Cert.KernelAdE.nD,
      r.2.mem ((c.tc : Thread Cert.KernelAdE.nD Cert.KernelAdE.τ).loc Cert.KernelAdE.main_arg0) = m ((c.tc : Thread Cert.KernelAdE.nD Cert.KernelAdE.τ).loc Cert.KernelAdE.main_arg0)
      ∧ r.2.mem ((c.tc : Thread Cert.KernelAdE.nD Cert.KernelAdE.τ).loc Cert.KernelAdE.main_arg1) = m ((c.tc : Thread Cert.KernelAdE.nD Cert.KernelAdE.τ).loc Cert.KernelAdE.main_arg1)
      ∧ r.2.mem ((c.tc : Thread Cert.KernelAdE.nD Cert.KernelAdE.τ).loc Cert.KernelAdE.main_arg2) = m ((c.tc : Thread Cert.KernelAdE.nD Cert.KernelAdE.τ).loc Cert.KernelAdE.main_arg2)
      ∧ r.2.mem ((c.tc : Thread Cert.KernelAdE.nD Cert.KernelAdE.τ).loc Cert.KernelAdE.main_arg3) = m ((c.tc : Thread Cert.KernelAdE.nD Cert.KernelAdE.τ).loc Cert.KernelAdE.main_arg3))
      ∧ r.2.sem = fun _ => 0)

def quiescent_KernelAdEIdeal [hKernelAdEIdeal : Cert.KernelAdEIdeal.Facts] : Prop :=
  ∀ (m : (ℓ : Loc Cert.KernelAdEIdeal.nD Cert.KernelAdEIdeal.τ Cert.KernelAdEIdeal.sig) → Buf (Elt Ideal) ℓ) (g : Dev Cert.KernelAdEIdeal.nD → PrngReg), Pre_KernelAdEIdeal m →
    θ_run (Cert.KernelAdEIdeal.defs (F := Ideal)) (onTc (τ := Cert.KernelAdEIdeal.τ) (Cert.KernelAdEIdeal.main (F := Ideal))) ⟨m, fun _ => 0, g⟩ (fun r => (∀ c : Dev Cert.KernelAdEIdeal.nD,
      r.2.mem ((c.tc : Thread Cert.KernelAdEIdeal.nD Cert.KernelAdEIdeal.τ).loc Cert.KernelAdEIdeal.main_arg0) = m ((c.tc : Thread Cert.KernelAdEIdeal.nD Cert.KernelAdEIdeal.τ).loc Cert.KernelAdEIdeal.main_arg0)
      ∧ r.2.mem ((c.tc : Thread Cert.KernelAdEIdeal.nD Cert.KernelAdEIdeal.τ).loc Cert.KernelAdEIdeal.main_arg1) = m ((c.tc : Thread Cert.KernelAdEIdeal.nD Cert.KernelAdEIdeal.τ).loc Cert.KernelAdEIdeal.main_arg1)
      ∧ r.2.mem ((c.tc : Thread Cert.KernelAdEIdeal.nD Cert.KernelAdEIdeal.τ).loc Cert.KernelAdEIdeal.main_arg2) = m ((c.tc : Thread Cert.KernelAdEIdeal.nD Cert.KernelAdEIdeal.τ).loc Cert.KernelAdEIdeal.main_arg2)
      ∧ r.2.mem ((c.tc : Thread Cert.KernelAdEIdeal.nD Cert.KernelAdEIdeal.τ).loc Cert.KernelAdEIdeal.main_arg3) = m ((c.tc : Thread Cert.KernelAdEIdeal.nD Cert.KernelAdEIdeal.τ).loc Cert.KernelAdEIdeal.main_arg3))
      ∧ r.2.sem = fun _ => 0)

def quiescent_ReferenceAdEIdeal [hReferenceAdEIdeal : Cert.ReferenceAdEIdeal.Facts] : Prop :=
  ∀ (m : (ℓ : Loc Cert.ReferenceAdEIdeal.nD Cert.ReferenceAdEIdeal.τ Cert.ReferenceAdEIdeal.sig) → Buf (Elt Ideal) ℓ) (g : Dev Cert.ReferenceAdEIdeal.nD → PrngReg), Pre_ReferenceAdEIdeal m →
    θ_run (Cert.ReferenceAdEIdeal.defs (F := Ideal)) (onTc (τ := Cert.ReferenceAdEIdeal.τ) (Cert.ReferenceAdEIdeal.main (F := Ideal))) ⟨m, fun _ => 0, g⟩ (fun r => (∀ c : Dev Cert.ReferenceAdEIdeal.nD,
      r.2.mem ((c.tc : Thread Cert.ReferenceAdEIdeal.nD Cert.ReferenceAdEIdeal.τ).loc Cert.ReferenceAdEIdeal.main_arg0) = m ((c.tc : Thread Cert.ReferenceAdEIdeal.nD Cert.ReferenceAdEIdeal.τ).loc Cert.ReferenceAdEIdeal.main_arg0)
      ∧ r.2.mem ((c.tc : Thread Cert.ReferenceAdEIdeal.nD Cert.ReferenceAdEIdeal.τ).loc Cert.ReferenceAdEIdeal.main_arg1) = m ((c.tc : Thread Cert.ReferenceAdEIdeal.nD Cert.ReferenceAdEIdeal.τ).loc Cert.ReferenceAdEIdeal.main_arg1)
      ∧ r.2.mem ((c.tc : Thread Cert.ReferenceAdEIdeal.nD Cert.ReferenceAdEIdeal.τ).loc Cert.ReferenceAdEIdeal.main_arg2) = m ((c.tc : Thread Cert.ReferenceAdEIdeal.nD Cert.ReferenceAdEIdeal.τ).loc Cert.ReferenceAdEIdeal.main_arg2)
      ∧ r.2.mem ((c.tc : Thread Cert.ReferenceAdEIdeal.nD Cert.ReferenceAdEIdeal.τ).loc Cert.ReferenceAdEIdeal.main_arg3) = m ((c.tc : Thread Cert.ReferenceAdEIdeal.nD Cert.ReferenceAdEIdeal.τ).loc Cert.ReferenceAdEIdeal.main_arg3))
      ∧ r.2.sem = fun _ => 0)

def quiescent_KernelAdS [hKernelAdS : Cert.KernelAdS.Facts] : Prop :=
  ∀ (m : (ℓ : Loc Cert.KernelAdS.nD Cert.KernelAdS.τ Cert.KernelAdS.sig) → Buf (Elt Bits) ℓ) (g : Dev Cert.KernelAdS.nD → PrngReg), Pre_KernelAdS m →
    θ_run (Cert.KernelAdS.defs (F := Bits)) (onTc (τ := Cert.KernelAdS.τ) (Cert.KernelAdS.main (F := Bits))) ⟨m, fun _ => 0, g⟩ (fun r => (∀ c : Dev Cert.KernelAdS.nD,
      r.2.mem ((c.tc : Thread Cert.KernelAdS.nD Cert.KernelAdS.τ).loc Cert.KernelAdS.main_arg0) = m ((c.tc : Thread Cert.KernelAdS.nD Cert.KernelAdS.τ).loc Cert.KernelAdS.main_arg0)
      ∧ r.2.mem ((c.tc : Thread Cert.KernelAdS.nD Cert.KernelAdS.τ).loc Cert.KernelAdS.main_arg1) = m ((c.tc : Thread Cert.KernelAdS.nD Cert.KernelAdS.τ).loc Cert.KernelAdS.main_arg1)
      ∧ r.2.mem ((c.tc : Thread Cert.KernelAdS.nD Cert.KernelAdS.τ).loc Cert.KernelAdS.main_arg2) = m ((c.tc : Thread Cert.KernelAdS.nD Cert.KernelAdS.τ).loc Cert.KernelAdS.main_arg2)
      ∧ r.2.mem ((c.tc : Thread Cert.KernelAdS.nD Cert.KernelAdS.τ).loc Cert.KernelAdS.main_arg3) = m ((c.tc : Thread Cert.KernelAdS.nD Cert.KernelAdS.τ).loc Cert.KernelAdS.main_arg3))
      ∧ r.2.sem = fun _ => 0)

def quiescent_KernelAdSIdeal [hKernelAdSIdeal : Cert.KernelAdSIdeal.Facts] : Prop :=
  ∀ (m : (ℓ : Loc Cert.KernelAdSIdeal.nD Cert.KernelAdSIdeal.τ Cert.KernelAdSIdeal.sig) → Buf (Elt Ideal) ℓ) (g : Dev Cert.KernelAdSIdeal.nD → PrngReg), Pre_KernelAdSIdeal m →
    θ_run (Cert.KernelAdSIdeal.defs (F := Ideal)) (onTc (τ := Cert.KernelAdSIdeal.τ) (Cert.KernelAdSIdeal.main (F := Ideal))) ⟨m, fun _ => 0, g⟩ (fun r => (∀ c : Dev Cert.KernelAdSIdeal.nD,
      r.2.mem ((c.tc : Thread Cert.KernelAdSIdeal.nD Cert.KernelAdSIdeal.τ).loc Cert.KernelAdSIdeal.main_arg0) = m ((c.tc : Thread Cert.KernelAdSIdeal.nD Cert.KernelAdSIdeal.τ).loc Cert.KernelAdSIdeal.main_arg0)
      ∧ r.2.mem ((c.tc : Thread Cert.KernelAdSIdeal.nD Cert.KernelAdSIdeal.τ).loc Cert.KernelAdSIdeal.main_arg1) = m ((c.tc : Thread Cert.KernelAdSIdeal.nD Cert.KernelAdSIdeal.τ).loc Cert.KernelAdSIdeal.main_arg1)
      ∧ r.2.mem ((c.tc : Thread Cert.KernelAdSIdeal.nD Cert.KernelAdSIdeal.τ).loc Cert.KernelAdSIdeal.main_arg2) = m ((c.tc : Thread Cert.KernelAdSIdeal.nD Cert.KernelAdSIdeal.τ).loc Cert.KernelAdSIdeal.main_arg2)
      ∧ r.2.mem ((c.tc : Thread Cert.KernelAdSIdeal.nD Cert.KernelAdSIdeal.τ).loc Cert.KernelAdSIdeal.main_arg3) = m ((c.tc : Thread Cert.KernelAdSIdeal.nD Cert.KernelAdSIdeal.τ).loc Cert.KernelAdSIdeal.main_arg3))
      ∧ r.2.sem = fun _ => 0)

def quiescent_ReferenceAdSIdeal [hReferenceAdSIdeal : Cert.ReferenceAdSIdeal.Facts] : Prop :=
  ∀ (m : (ℓ : Loc Cert.ReferenceAdSIdeal.nD Cert.ReferenceAdSIdeal.τ Cert.ReferenceAdSIdeal.sig) → Buf (Elt Ideal) ℓ) (g : Dev Cert.ReferenceAdSIdeal.nD → PrngReg), Pre_ReferenceAdSIdeal m →
    θ_run (Cert.ReferenceAdSIdeal.defs (F := Ideal)) (onTc (τ := Cert.ReferenceAdSIdeal.τ) (Cert.ReferenceAdSIdeal.main (F := Ideal))) ⟨m, fun _ => 0, g⟩ (fun r => (∀ c : Dev Cert.ReferenceAdSIdeal.nD,
      r.2.mem ((c.tc : Thread Cert.ReferenceAdSIdeal.nD Cert.ReferenceAdSIdeal.τ).loc Cert.ReferenceAdSIdeal.main_arg0) = m ((c.tc : Thread Cert.ReferenceAdSIdeal.nD Cert.ReferenceAdSIdeal.τ).loc Cert.ReferenceAdSIdeal.main_arg0)
      ∧ r.2.mem ((c.tc : Thread Cert.ReferenceAdSIdeal.nD Cert.ReferenceAdSIdeal.τ).loc Cert.ReferenceAdSIdeal.main_arg1) = m ((c.tc : Thread Cert.ReferenceAdSIdeal.nD Cert.ReferenceAdSIdeal.τ).loc Cert.ReferenceAdSIdeal.main_arg1)
      ∧ r.2.mem ((c.tc : Thread Cert.ReferenceAdSIdeal.nD Cert.ReferenceAdSIdeal.τ).loc Cert.ReferenceAdSIdeal.main_arg2) = m ((c.tc : Thread Cert.ReferenceAdSIdeal.nD Cert.ReferenceAdSIdeal.τ).loc Cert.ReferenceAdSIdeal.main_arg2)
      ∧ r.2.mem ((c.tc : Thread Cert.ReferenceAdSIdeal.nD Cert.ReferenceAdSIdeal.τ).loc Cert.ReferenceAdSIdeal.main_arg3) = m ((c.tc : Thread Cert.ReferenceAdSIdeal.nD Cert.ReferenceAdSIdeal.τ).loc Cert.ReferenceAdSIdeal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelLo_KernelLoIdeal : Prop :=
  True

def algebraic_KernelLoIdeal_ReferenceLoIdeal [hKernelLoIdeal : Cert.KernelLoIdeal.Facts] [hReferenceLoIdeal : Cert.ReferenceLoIdeal.Facts] : Prop :=
  ∀ (m : (ℓ : Loc Cert.KernelLoIdeal.nD Cert.KernelLoIdeal.τ Cert.KernelLoIdeal.sig) → Buf (Elt Ideal) ℓ) (g : Dev Cert.KernelLoIdeal.nD → PrngReg)
    (m' : (ℓ : Loc Cert.ReferenceLoIdeal.nD Cert.ReferenceLoIdeal.τ Cert.ReferenceLoIdeal.sig) → Buf (Elt Ideal) ℓ) (g' : Dev Cert.ReferenceLoIdeal.nD → PrngReg), Pre_KernelLoIdeal m →
    (∀ c : Dev Cert.KernelLoIdeal.nD,
      m' ((c.tc : Thread Cert.ReferenceLoIdeal.nD Cert.ReferenceLoIdeal.τ).loc Cert.ReferenceLoIdeal.main_arg0) = m ((c.tc : Thread Cert.KernelLoIdeal.nD Cert.KernelLoIdeal.τ).loc Cert.KernelLoIdeal.main_arg0)
      ∧ m' ((c.tc : Thread Cert.ReferenceLoIdeal.nD Cert.ReferenceLoIdeal.τ).loc Cert.ReferenceLoIdeal.main_arg1) = m ((c.tc : Thread Cert.KernelLoIdeal.nD Cert.KernelLoIdeal.τ).loc Cert.KernelLoIdeal.main_arg1)) →
    ∃ (v0 : (c : Dev Cert.KernelLoIdeal.nD) → Buf (Elt Ideal) ((c.tc : Thread Cert.KernelLoIdeal.nD Cert.KernelLoIdeal.τ).loc Cert.KernelLoIdeal.main_v0)),
      θ_run (Cert.KernelLoIdeal.defs (F := Ideal)) (onTc (τ := Cert.KernelLoIdeal.τ) (Cert.KernelLoIdeal.main (F := Ideal))) ⟨m, fun _ => 0, g⟩ (fun r => ∀ c : Dev Cert.KernelLoIdeal.nD,
          r.2.mem ((c.tc : Thread Cert.KernelLoIdeal.nD Cert.KernelLoIdeal.τ).loc Cert.KernelLoIdeal.main_v0) = v0 c
          ∧ r.2.mem ((c.tc : Thread Cert.KernelLoIdeal.nD Cert.KernelLoIdeal.τ).loc Cert.KernelLoIdeal.main_arg0) = m ((c.tc : Thread Cert.KernelLoIdeal.nD Cert.KernelLoIdeal.τ).loc Cert.KernelLoIdeal.main_arg0)
          ∧ r.2.mem ((c.tc : Thread Cert.KernelLoIdeal.nD Cert.KernelLoIdeal.τ).loc Cert.KernelLoIdeal.main_arg1) = m ((c.tc : Thread Cert.KernelLoIdeal.nD Cert.KernelLoIdeal.τ).loc Cert.KernelLoIdeal.main_arg1))
      ∧ θ_run (Cert.ReferenceLoIdeal.defs (F := Ideal)) (onTc (τ := Cert.ReferenceLoIdeal.τ) (Cert.ReferenceLoIdeal.main (F := Ideal))) ⟨m', fun _ => 0, g'⟩ (fun r => ∀ c : Dev Cert.ReferenceLoIdeal.nD,
          r.2.mem ((c.tc : Thread Cert.ReferenceLoIdeal.nD Cert.ReferenceLoIdeal.τ).loc Cert.ReferenceLoIdeal.main_v3) = v0 c
          ∧ r.2.mem ((c.tc : Thread Cert.ReferenceLoIdeal.nD Cert.ReferenceLoIdeal.τ).loc Cert.ReferenceLoIdeal.main_arg0) = m' ((c.tc : Thread Cert.ReferenceLoIdeal.nD Cert.ReferenceLoIdeal.τ).loc Cert.ReferenceLoIdeal.main_arg0)
          ∧ r.2.mem ((c.tc : Thread Cert.ReferenceLoIdeal.nD Cert.ReferenceLoIdeal.τ).loc Cert.ReferenceLoIdeal.main_arg1) = m' ((c.tc : Thread Cert.ReferenceLoIdeal.nD Cert.ReferenceLoIdeal.τ).loc Cert.ReferenceLoIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v3) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDownW_KernelDownWIdeal : Prop :=
  True

def algebraic_KernelDownWIdeal_ReferenceDownWIdeal [hKernelDownWIdeal : Cert.KernelDownWIdeal.Facts] [hReferenceDownWIdeal : Cert.ReferenceDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg)
    (m' : (ℓ : Loc Cert.ReferenceDownWIdeal.nD Cert.ReferenceDownWIdeal.τ Cert.ReferenceDownWIdeal.sig) → Buf (Elt Ideal) ℓ) (g' : Dev Cert.ReferenceDownWIdeal.nD → PrngReg), Pre_KernelDownWIdeal m →
    (∀ c : Dev Cert.KernelDownWIdeal.nD,
      m' ((c.tc : Thread Cert.ReferenceDownWIdeal.nD Cert.ReferenceDownWIdeal.τ).loc Cert.ReferenceDownWIdeal.main_arg0) = m ((c.tc : Thread Cert.KernelDownWIdeal.nD Cert.KernelDownWIdeal.τ).loc Cert.KernelDownWIdeal.main_arg0)
      ∧ m' ((c.tc : Thread Cert.ReferenceDownWIdeal.nD Cert.ReferenceDownWIdeal.τ).loc Cert.ReferenceDownWIdeal.main_arg1) = m ((c.tc : Thread Cert.KernelDownWIdeal.nD Cert.KernelDownWIdeal.τ).loc Cert.KernelDownWIdeal.main_arg1)) →
    ∃ (v0 : (c : Dev Cert.KernelDownWIdeal.nD) → Buf (Elt Ideal) ((c.tc : Thread Cert.KernelDownWIdeal.nD Cert.KernelDownWIdeal.τ).loc Cert.KernelDownWIdeal.main_v0)),
      θ_run (Cert.KernelDownWIdeal.defs (F := Ideal)) (onTc (τ := Cert.KernelDownWIdeal.τ) (Cert.KernelDownWIdeal.main (F := Ideal))) ⟨m, fun _ => 0, g⟩ (fun r => ∀ c : Dev Cert.KernelDownWIdeal.nD,
          r.2.mem ((c.tc : Thread Cert.KernelDownWIdeal.nD Cert.KernelDownWIdeal.τ).loc Cert.KernelDownWIdeal.main_v0) = v0 c
          ∧ r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
          ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ θ_run (Cert.ReferenceDownWIdeal.defs (F := Ideal)) (onTc (τ := Cert.ReferenceDownWIdeal.τ) (Cert.ReferenceDownWIdeal.main (F := Ideal))) ⟨m', fun _ => 0, g'⟩ (fun r => ∀ c : Dev Cert.ReferenceDownWIdeal.nD,
          r.2.mem ((c.tc : Thread Cert.ReferenceDownWIdeal.nD Cert.ReferenceDownWIdeal.τ).loc Cert.ReferenceDownWIdeal.main_v5) = v0 c
          ∧ r.2.mem ((c.tc : Thread Cert.ReferenceDownWIdeal.nD Cert.ReferenceDownWIdeal.τ).loc Cert.ReferenceDownWIdeal.main_arg0) = m' ((c.tc : Thread Cert.ReferenceDownWIdeal.nD Cert.ReferenceDownWIdeal.τ).loc Cert.ReferenceDownWIdeal.main_arg0)
          ∧ r.2.mem ((c.tc : Thread Cert.ReferenceDownWIdeal.nD Cert.ReferenceDownWIdeal.τ).loc Cert.ReferenceDownWIdeal.main_arg1) = m' ((c.tc : Thread Cert.ReferenceDownWIdeal.nD Cert.ReferenceDownWIdeal.τ).loc Cert.ReferenceDownWIdeal.main_arg1))

def preserves_KernelDownX_KernelDownXIdeal : Prop :=
  True

def algebraic_KernelDownXIdeal_ReferenceDownXIdeal [hKernelDownXIdeal : Cert.KernelDownXIdeal.Facts] [hReferenceDownXIdeal : Cert.ReferenceDownXIdeal.Facts] : Prop :=
  ∀ (m : (ℓ : Loc Cert.KernelDownXIdeal.nD Cert.KernelDownXIdeal.τ Cert.KernelDownXIdeal.sig) → Buf (Elt Ideal) ℓ) (g : Dev Cert.KernelDownXIdeal.nD → PrngReg)
    (m' : (ℓ : Loc Cert.ReferenceDownXIdeal.nD Cert.ReferenceDownXIdeal.τ Cert.ReferenceDownXIdeal.sig) → Buf (Elt Ideal) ℓ) (g' : Dev Cert.ReferenceDownXIdeal.nD → PrngReg), Pre_KernelDownXIdeal m →
    (∀ c : Dev Cert.KernelDownXIdeal.nD,
      m' ((c.tc : Thread Cert.ReferenceDownXIdeal.nD Cert.ReferenceDownXIdeal.τ).loc Cert.ReferenceDownXIdeal.main_arg0) = m ((c.tc : Thread Cert.KernelDownXIdeal.nD Cert.KernelDownXIdeal.τ).loc Cert.KernelDownXIdeal.main_arg0)
      ∧ m' ((c.tc : Thread Cert.ReferenceDownXIdeal.nD Cert.ReferenceDownXIdeal.τ).loc Cert.ReferenceDownXIdeal.main_arg1) = m ((c.tc : Thread Cert.KernelDownXIdeal.nD Cert.KernelDownXIdeal.τ).loc Cert.KernelDownXIdeal.main_arg1)) →
    ∃ (v0 : (c : Dev Cert.KernelDownXIdeal.nD) → Buf (Elt Ideal) ((c.tc : Thread Cert.KernelDownXIdeal.nD Cert.KernelDownXIdeal.τ).loc Cert.KernelDownXIdeal.main_v0)),
      θ_run (Cert.KernelDownXIdeal.defs (F := Ideal)) (onTc (τ := Cert.KernelDownXIdeal.τ) (Cert.KernelDownXIdeal.main (F := Ideal))) ⟨m, fun _ => 0, g⟩ (fun r => ∀ c : Dev Cert.KernelDownXIdeal.nD,
          r.2.mem ((c.tc : Thread Cert.KernelDownXIdeal.nD Cert.KernelDownXIdeal.τ).loc Cert.KernelDownXIdeal.main_v0) = v0 c
          ∧ r.2.mem ((c.tc : Thread Cert.KernelDownXIdeal.nD Cert.KernelDownXIdeal.τ).loc Cert.KernelDownXIdeal.main_arg0) = m ((c.tc : Thread Cert.KernelDownXIdeal.nD Cert.KernelDownXIdeal.τ).loc Cert.KernelDownXIdeal.main_arg0)
          ∧ r.2.mem ((c.tc : Thread Cert.KernelDownXIdeal.nD Cert.KernelDownXIdeal.τ).loc Cert.KernelDownXIdeal.main_arg1) = m ((c.tc : Thread Cert.KernelDownXIdeal.nD Cert.KernelDownXIdeal.τ).loc Cert.KernelDownXIdeal.main_arg1))
      ∧ θ_run (Cert.ReferenceDownXIdeal.defs (F := Ideal)) (onTc (τ := Cert.ReferenceDownXIdeal.τ) (Cert.ReferenceDownXIdeal.main (F := Ideal))) ⟨m', fun _ => 0, g'⟩ (fun r => ∀ c : Dev Cert.ReferenceDownXIdeal.nD,
          r.2.mem ((c.tc : Thread Cert.ReferenceDownXIdeal.nD Cert.ReferenceDownXIdeal.τ).loc Cert.ReferenceDownXIdeal.main_v6) = v0 c
          ∧ r.2.mem ((c.tc : Thread Cert.ReferenceDownXIdeal.nD Cert.ReferenceDownXIdeal.τ).loc Cert.ReferenceDownXIdeal.main_arg0) = m' ((c.tc : Thread Cert.ReferenceDownXIdeal.nD Cert.ReferenceDownXIdeal.τ).loc Cert.ReferenceDownXIdeal.main_arg0)
          ∧ r.2.mem ((c.tc : Thread Cert.ReferenceDownXIdeal.nD Cert.ReferenceDownXIdeal.τ).loc Cert.ReferenceDownXIdeal.main_arg1) = m' ((c.tc : Thread Cert.ReferenceDownXIdeal.nD Cert.ReferenceDownXIdeal.τ).loc Cert.ReferenceDownXIdeal.main_arg1))

def preserves_KernelUpW_KernelUpWIdeal : Prop :=
  True

def algebraic_KernelUpWIdeal_ReferenceUpWIdeal [hKernelUpWIdeal : Cert.KernelUpWIdeal.Facts] [hReferenceUpWIdeal : Cert.ReferenceUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg)
    (m' : (ℓ : Loc Cert.ReferenceUpWIdeal.nD Cert.ReferenceUpWIdeal.τ Cert.ReferenceUpWIdeal.sig) → Buf (Elt Ideal) ℓ) (g' : Dev Cert.ReferenceUpWIdeal.nD → PrngReg), Pre_KernelUpWIdeal m →
    (∀ c : Dev Cert.KernelUpWIdeal.nD,
      m' ((c.tc : Thread Cert.ReferenceUpWIdeal.nD Cert.ReferenceUpWIdeal.τ).loc Cert.ReferenceUpWIdeal.main_arg0) = m ((c.tc : Thread Cert.KernelUpWIdeal.nD Cert.KernelUpWIdeal.τ).loc Cert.KernelUpWIdeal.main_arg0)
      ∧ m' ((c.tc : Thread Cert.ReferenceUpWIdeal.nD Cert.ReferenceUpWIdeal.τ).loc Cert.ReferenceUpWIdeal.main_arg1) = m ((c.tc : Thread Cert.KernelUpWIdeal.nD Cert.KernelUpWIdeal.τ).loc Cert.KernelUpWIdeal.main_arg1)) →
    ∃ (v0 : (c : Dev Cert.KernelUpWIdeal.nD) → Buf (Elt Ideal) ((c.tc : Thread Cert.KernelUpWIdeal.nD Cert.KernelUpWIdeal.τ).loc Cert.KernelUpWIdeal.main_v0)),
      θ_run (Cert.KernelUpWIdeal.defs (F := Ideal)) (onTc (τ := Cert.KernelUpWIdeal.τ) (Cert.KernelUpWIdeal.main (F := Ideal))) ⟨m, fun _ => 0, g⟩ (fun r => ∀ c : Dev Cert.KernelUpWIdeal.nD,
          r.2.mem ((c.tc : Thread Cert.KernelUpWIdeal.nD Cert.KernelUpWIdeal.τ).loc Cert.KernelUpWIdeal.main_v0) = v0 c
          ∧ r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
          ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ θ_run (Cert.ReferenceUpWIdeal.defs (F := Ideal)) (onTc (τ := Cert.ReferenceUpWIdeal.τ) (Cert.ReferenceUpWIdeal.main (F := Ideal))) ⟨m', fun _ => 0, g'⟩ (fun r => ∀ c : Dev Cert.ReferenceUpWIdeal.nD,
          r.2.mem ((c.tc : Thread Cert.ReferenceUpWIdeal.nD Cert.ReferenceUpWIdeal.τ).loc Cert.ReferenceUpWIdeal.main_v12) = v0 c
          ∧ r.2.mem ((c.tc : Thread Cert.ReferenceUpWIdeal.nD Cert.ReferenceUpWIdeal.τ).loc Cert.ReferenceUpWIdeal.main_arg0) = m' ((c.tc : Thread Cert.ReferenceUpWIdeal.nD Cert.ReferenceUpWIdeal.τ).loc Cert.ReferenceUpWIdeal.main_arg0)
          ∧ r.2.mem ((c.tc : Thread Cert.ReferenceUpWIdeal.nD Cert.ReferenceUpWIdeal.τ).loc Cert.ReferenceUpWIdeal.main_arg1) = m' ((c.tc : Thread Cert.ReferenceUpWIdeal.nD Cert.ReferenceUpWIdeal.τ).loc Cert.ReferenceUpWIdeal.main_arg1))

def preserves_KernelUpX_KernelUpXIdeal : Prop :=
  True

def algebraic_KernelUpXIdeal_ReferenceUpXIdeal [hKernelUpXIdeal : Cert.KernelUpXIdeal.Facts] [hReferenceUpXIdeal : Cert.ReferenceUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg)
    (m' : (ℓ : Loc Cert.ReferenceUpXIdeal.nD Cert.ReferenceUpXIdeal.τ Cert.ReferenceUpXIdeal.sig) → Buf (Elt Ideal) ℓ) (g' : Dev Cert.ReferenceUpXIdeal.nD → PrngReg), Pre_KernelUpXIdeal m →
    (∀ c : Dev Cert.KernelUpXIdeal.nD,
      m' ((c.tc : Thread Cert.ReferenceUpXIdeal.nD Cert.ReferenceUpXIdeal.τ).loc Cert.ReferenceUpXIdeal.main_arg0) = m ((c.tc : Thread Cert.KernelUpXIdeal.nD Cert.KernelUpXIdeal.τ).loc Cert.KernelUpXIdeal.main_arg0)
      ∧ m' ((c.tc : Thread Cert.ReferenceUpXIdeal.nD Cert.ReferenceUpXIdeal.τ).loc Cert.ReferenceUpXIdeal.main_arg1) = m ((c.tc : Thread Cert.KernelUpXIdeal.nD Cert.KernelUpXIdeal.τ).loc Cert.KernelUpXIdeal.main_arg1)) →
    ∃ (v0 : (c : Dev Cert.KernelUpXIdeal.nD) → Buf (Elt Ideal) ((c.tc : Thread Cert.KernelUpXIdeal.nD Cert.KernelUpXIdeal.τ).loc Cert.KernelUpXIdeal.main_v0)),
      θ_run (Cert.KernelUpXIdeal.defs (F := Ideal)) (onTc (τ := Cert.KernelUpXIdeal.τ) (Cert.KernelUpXIdeal.main (F := Ideal))) ⟨m, fun _ => 0, g⟩ (fun r => ∀ c : Dev Cert.KernelUpXIdeal.nD,
          r.2.mem ((c.tc : Thread Cert.KernelUpXIdeal.nD Cert.KernelUpXIdeal.τ).loc Cert.KernelUpXIdeal.main_v0) = v0 c
          ∧ r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
          ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1))
      ∧ θ_run (Cert.ReferenceUpXIdeal.defs (F := Ideal)) (onTc (τ := Cert.ReferenceUpXIdeal.τ) (Cert.ReferenceUpXIdeal.main (F := Ideal))) ⟨m', fun _ => 0, g'⟩ (fun r => ∀ c : Dev Cert.ReferenceUpXIdeal.nD,
          r.2.mem ((c.tc : Thread Cert.ReferenceUpXIdeal.nD Cert.ReferenceUpXIdeal.τ).loc Cert.ReferenceUpXIdeal.main_v11) = v0 c
          ∧ r.2.mem ((c.tc : Thread Cert.ReferenceUpXIdeal.nD Cert.ReferenceUpXIdeal.τ).loc Cert.ReferenceUpXIdeal.main_arg0) = m' ((c.tc : Thread Cert.ReferenceUpXIdeal.nD Cert.ReferenceUpXIdeal.τ).loc Cert.ReferenceUpXIdeal.main_arg0)
          ∧ r.2.mem ((c.tc : Thread Cert.ReferenceUpXIdeal.nD Cert.ReferenceUpXIdeal.τ).loc Cert.ReferenceUpXIdeal.main_arg1) = m' ((c.tc : Thread Cert.ReferenceUpXIdeal.nD Cert.ReferenceUpXIdeal.τ).loc Cert.ReferenceUpXIdeal.main_arg1))

def preserves_KernelOW_KernelOWIdeal : Prop :=
  True

def algebraic_KernelOWIdeal_ReferenceOWIdeal [hKernelOWIdeal : Cert.KernelOWIdeal.Facts] [hReferenceOWIdeal : Cert.ReferenceOWIdeal.Facts] : Prop :=
  ∀ (m : (ℓ : Loc Cert.KernelOWIdeal.nD Cert.KernelOWIdeal.τ Cert.KernelOWIdeal.sig) → Buf (Elt Ideal) ℓ) (g : Dev Cert.KernelOWIdeal.nD → PrngReg)
    (m' : (ℓ : Loc Cert.ReferenceOWIdeal.nD Cert.ReferenceOWIdeal.τ Cert.ReferenceOWIdeal.sig) → Buf (Elt Ideal) ℓ) (g' : Dev Cert.ReferenceOWIdeal.nD → PrngReg), Pre_KernelOWIdeal m →
    (∀ c : Dev Cert.KernelOWIdeal.nD,
      m' ((c.tc : Thread Cert.ReferenceOWIdeal.nD Cert.ReferenceOWIdeal.τ).loc Cert.ReferenceOWIdeal.main_arg0) = m ((c.tc : Thread Cert.KernelOWIdeal.nD Cert.KernelOWIdeal.τ).loc Cert.KernelOWIdeal.main_arg0)
      ∧ m' ((c.tc : Thread Cert.ReferenceOWIdeal.nD Cert.ReferenceOWIdeal.τ).loc Cert.ReferenceOWIdeal.main_arg1) = m ((c.tc : Thread Cert.KernelOWIdeal.nD Cert.KernelOWIdeal.τ).loc Cert.KernelOWIdeal.main_arg1)) →
    ∃ (v0 : (c : Dev Cert.KernelOWIdeal.nD) → Buf (Elt Ideal) ((c.tc : Thread Cert.KernelOWIdeal.nD Cert.KernelOWIdeal.τ).loc Cert.KernelOWIdeal.main_v0)),
      θ_run (Cert.KernelOWIdeal.defs (F := Ideal)) (onTc (τ := Cert.KernelOWIdeal.τ) (Cert.KernelOWIdeal.main (F := Ideal))) ⟨m, fun _ => 0, g⟩ (fun r => ∀ c : Dev Cert.KernelOWIdeal.nD,
          r.2.mem ((c.tc : Thread Cert.KernelOWIdeal.nD Cert.KernelOWIdeal.τ).loc Cert.KernelOWIdeal.main_v0) = v0 c
          ∧ r.2.mem ((c.tc : Thread Cert.KernelOWIdeal.nD Cert.KernelOWIdeal.τ).loc Cert.KernelOWIdeal.main_arg0) = m ((c.tc : Thread Cert.KernelOWIdeal.nD Cert.KernelOWIdeal.τ).loc Cert.KernelOWIdeal.main_arg0)
          ∧ r.2.mem ((c.tc : Thread Cert.KernelOWIdeal.nD Cert.KernelOWIdeal.τ).loc Cert.KernelOWIdeal.main_arg1) = m ((c.tc : Thread Cert.KernelOWIdeal.nD Cert.KernelOWIdeal.τ).loc Cert.KernelOWIdeal.main_arg1))
      ∧ θ_run (Cert.ReferenceOWIdeal.defs (F := Ideal)) (onTc (τ := Cert.ReferenceOWIdeal.τ) (Cert.ReferenceOWIdeal.main (F := Ideal))) ⟨m', fun _ => 0, g'⟩ (fun r => ∀ c : Dev Cert.ReferenceOWIdeal.nD,
          r.2.mem ((c.tc : Thread Cert.ReferenceOWIdeal.nD Cert.ReferenceOWIdeal.τ).loc Cert.ReferenceOWIdeal.main_v7) = v0 c
          ∧ r.2.mem ((c.tc : Thread Cert.ReferenceOWIdeal.nD Cert.ReferenceOWIdeal.τ).loc Cert.ReferenceOWIdeal.main_arg0) = m' ((c.tc : Thread Cert.ReferenceOWIdeal.nD Cert.ReferenceOWIdeal.τ).loc Cert.ReferenceOWIdeal.main_arg0)
          ∧ r.2.mem ((c.tc : Thread Cert.ReferenceOWIdeal.nD Cert.ReferenceOWIdeal.τ).loc Cert.ReferenceOWIdeal.main_arg1) = m' ((c.tc : Thread Cert.ReferenceOWIdeal.nD Cert.ReferenceOWIdeal.τ).loc Cert.ReferenceOWIdeal.main_arg1))

def preserves_KernelOX_KernelOXIdeal : Prop :=
  True

def algebraic_KernelOXIdeal_ReferenceOXIdeal [hKernelOXIdeal : Cert.KernelOXIdeal.Facts] [hReferenceOXIdeal : Cert.ReferenceOXIdeal.Facts] : Prop :=
  ∀ (m : (ℓ : Loc Cert.KernelOXIdeal.nD Cert.KernelOXIdeal.τ Cert.KernelOXIdeal.sig) → Buf (Elt Ideal) ℓ) (g : Dev Cert.KernelOXIdeal.nD → PrngReg)
    (m' : (ℓ : Loc Cert.ReferenceOXIdeal.nD Cert.ReferenceOXIdeal.τ Cert.ReferenceOXIdeal.sig) → Buf (Elt Ideal) ℓ) (g' : Dev Cert.ReferenceOXIdeal.nD → PrngReg), Pre_KernelOXIdeal m →
    (∀ c : Dev Cert.KernelOXIdeal.nD,
      m' ((c.tc : Thread Cert.ReferenceOXIdeal.nD Cert.ReferenceOXIdeal.τ).loc Cert.ReferenceOXIdeal.main_arg0) = m ((c.tc : Thread Cert.KernelOXIdeal.nD Cert.KernelOXIdeal.τ).loc Cert.KernelOXIdeal.main_arg0)
      ∧ m' ((c.tc : Thread Cert.ReferenceOXIdeal.nD Cert.ReferenceOXIdeal.τ).loc Cert.ReferenceOXIdeal.main_arg1) = m ((c.tc : Thread Cert.KernelOXIdeal.nD Cert.KernelOXIdeal.τ).loc Cert.KernelOXIdeal.main_arg1)) →
    ∃ (v0 : (c : Dev Cert.KernelOXIdeal.nD) → Buf (Elt Ideal) ((c.tc : Thread Cert.KernelOXIdeal.nD Cert.KernelOXIdeal.τ).loc Cert.KernelOXIdeal.main_v0)),
      θ_run (Cert.KernelOXIdeal.defs (F := Ideal)) (onTc (τ := Cert.KernelOXIdeal.τ) (Cert.KernelOXIdeal.main (F := Ideal))) ⟨m, fun _ => 0, g⟩ (fun r => ∀ c : Dev Cert.KernelOXIdeal.nD,
          r.2.mem ((c.tc : Thread Cert.KernelOXIdeal.nD Cert.KernelOXIdeal.τ).loc Cert.KernelOXIdeal.main_v0) = v0 c
          ∧ r.2.mem ((c.tc : Thread Cert.KernelOXIdeal.nD Cert.KernelOXIdeal.τ).loc Cert.KernelOXIdeal.main_arg0) = m ((c.tc : Thread Cert.KernelOXIdeal.nD Cert.KernelOXIdeal.τ).loc Cert.KernelOXIdeal.main_arg0)
          ∧ r.2.mem ((c.tc : Thread Cert.KernelOXIdeal.nD Cert.KernelOXIdeal.τ).loc Cert.KernelOXIdeal.main_arg1) = m ((c.tc : Thread Cert.KernelOXIdeal.nD Cert.KernelOXIdeal.τ).loc Cert.KernelOXIdeal.main_arg1))
      ∧ θ_run (Cert.ReferenceOXIdeal.defs (F := Ideal)) (onTc (τ := Cert.ReferenceOXIdeal.τ) (Cert.ReferenceOXIdeal.main (F := Ideal))) ⟨m', fun _ => 0, g'⟩ (fun r => ∀ c : Dev Cert.ReferenceOXIdeal.nD,
          r.2.mem ((c.tc : Thread Cert.ReferenceOXIdeal.nD Cert.ReferenceOXIdeal.τ).loc Cert.ReferenceOXIdeal.main_v7) = v0 c
          ∧ r.2.mem ((c.tc : Thread Cert.ReferenceOXIdeal.nD Cert.ReferenceOXIdeal.τ).loc Cert.ReferenceOXIdeal.main_arg0) = m' ((c.tc : Thread Cert.ReferenceOXIdeal.nD Cert.ReferenceOXIdeal.τ).loc Cert.ReferenceOXIdeal.main_arg0)
          ∧ r.2.mem ((c.tc : Thread Cert.ReferenceOXIdeal.nD Cert.ReferenceOXIdeal.τ).loc Cert.ReferenceOXIdeal.main_arg1) = m' ((c.tc : Thread Cert.ReferenceOXIdeal.nD Cert.ReferenceOXIdeal.τ).loc Cert.ReferenceOXIdeal.main_arg1))

def preserves_KernelLoW_KernelLoWIdeal : Prop :=
  True

def algebraic_KernelLoWIdeal_ReferenceLoWIdeal [hKernelLoWIdeal : Cert.KernelLoWIdeal.Facts] [hReferenceLoWIdeal : Cert.ReferenceLoWIdeal.Facts] : Prop :=
  ∀ (m : (ℓ : Loc Cert.KernelLoWIdeal.nD Cert.KernelLoWIdeal.τ Cert.KernelLoWIdeal.sig) → Buf (Elt Ideal) ℓ) (g : Dev Cert.KernelLoWIdeal.nD → PrngReg)
    (m' : (ℓ : Loc Cert.ReferenceLoWIdeal.nD Cert.ReferenceLoWIdeal.τ Cert.ReferenceLoWIdeal.sig) → Buf (Elt Ideal) ℓ) (g' : Dev Cert.ReferenceLoWIdeal.nD → PrngReg), Pre_KernelLoWIdeal m →
    (∀ c : Dev Cert.KernelLoWIdeal.nD,
      m' ((c.tc : Thread Cert.ReferenceLoWIdeal.nD Cert.ReferenceLoWIdeal.τ).loc Cert.ReferenceLoWIdeal.main_arg0) = m ((c.tc : Thread Cert.KernelLoWIdeal.nD Cert.KernelLoWIdeal.τ).loc Cert.KernelLoWIdeal.main_arg0)
      ∧ m' ((c.tc : Thread Cert.ReferenceLoWIdeal.nD Cert.ReferenceLoWIdeal.τ).loc Cert.ReferenceLoWIdeal.main_arg1) = m ((c.tc : Thread Cert.KernelLoWIdeal.nD Cert.KernelLoWIdeal.τ).loc Cert.KernelLoWIdeal.main_arg1)) →
    ∃ (v0 : (c : Dev Cert.KernelLoWIdeal.nD) → Buf (Elt Ideal) ((c.tc : Thread Cert.KernelLoWIdeal.nD Cert.KernelLoWIdeal.τ).loc Cert.KernelLoWIdeal.main_v0)),
      θ_run (Cert.KernelLoWIdeal.defs (F := Ideal)) (onTc (τ := Cert.KernelLoWIdeal.τ) (Cert.KernelLoWIdeal.main (F := Ideal))) ⟨m, fun _ => 0, g⟩ (fun r => ∀ c : Dev Cert.KernelLoWIdeal.nD,
          r.2.mem ((c.tc : Thread Cert.KernelLoWIdeal.nD Cert.KernelLoWIdeal.τ).loc Cert.KernelLoWIdeal.main_v0) = v0 c
          ∧ r.2.mem ((c.tc : Thread Cert.KernelLoWIdeal.nD Cert.KernelLoWIdeal.τ).loc Cert.KernelLoWIdeal.main_arg0) = m ((c.tc : Thread Cert.KernelLoWIdeal.nD Cert.KernelLoWIdeal.τ).loc Cert.KernelLoWIdeal.main_arg0)
          ∧ r.2.mem ((c.tc : Thread Cert.KernelLoWIdeal.nD Cert.KernelLoWIdeal.τ).loc Cert.KernelLoWIdeal.main_arg1) = m ((c.tc : Thread Cert.KernelLoWIdeal.nD Cert.KernelLoWIdeal.τ).loc Cert.KernelLoWIdeal.main_arg1))
      ∧ θ_run (Cert.ReferenceLoWIdeal.defs (F := Ideal)) (onTc (τ := Cert.ReferenceLoWIdeal.τ) (Cert.ReferenceLoWIdeal.main (F := Ideal))) ⟨m', fun _ => 0, g'⟩ (fun r => ∀ c : Dev Cert.ReferenceLoWIdeal.nD,
          r.2.mem ((c.tc : Thread Cert.ReferenceLoWIdeal.nD Cert.ReferenceLoWIdeal.τ).loc Cert.ReferenceLoWIdeal.main_v7) = v0 c
          ∧ r.2.mem ((c.tc : Thread Cert.ReferenceLoWIdeal.nD Cert.ReferenceLoWIdeal.τ).loc Cert.ReferenceLoWIdeal.main_arg0) = m' ((c.tc : Thread Cert.ReferenceLoWIdeal.nD Cert.ReferenceLoWIdeal.τ).loc Cert.ReferenceLoWIdeal.main_arg0)
          ∧ r.2.mem ((c.tc : Thread Cert.ReferenceLoWIdeal.nD Cert.ReferenceLoWIdeal.τ).loc Cert.ReferenceLoWIdeal.main_arg1) = m' ((c.tc : Thread Cert.ReferenceLoWIdeal.nD Cert.ReferenceLoWIdeal.τ).loc Cert.ReferenceLoWIdeal.main_arg1))

def preserves_KernelLoX_KernelLoXIdeal : Prop :=
  True

def algebraic_KernelLoXIdeal_ReferenceLoXIdeal [hKernelLoXIdeal : Cert.KernelLoXIdeal.Facts] [hReferenceLoXIdeal : Cert.ReferenceLoXIdeal.Facts] : Prop :=
  ∀ (m : (ℓ : Loc Cert.KernelLoXIdeal.nD Cert.KernelLoXIdeal.τ Cert.KernelLoXIdeal.sig) → Buf (Elt Ideal) ℓ) (g : Dev Cert.KernelLoXIdeal.nD → PrngReg)
    (m' : (ℓ : Loc Cert.ReferenceLoXIdeal.nD Cert.ReferenceLoXIdeal.τ Cert.ReferenceLoXIdeal.sig) → Buf (Elt Ideal) ℓ) (g' : Dev Cert.ReferenceLoXIdeal.nD → PrngReg), Pre_KernelLoXIdeal m →
    (∀ c : Dev Cert.KernelLoXIdeal.nD,
      m' ((c.tc : Thread Cert.ReferenceLoXIdeal.nD Cert.ReferenceLoXIdeal.τ).loc Cert.ReferenceLoXIdeal.main_arg0) = m ((c.tc : Thread Cert.KernelLoXIdeal.nD Cert.KernelLoXIdeal.τ).loc Cert.KernelLoXIdeal.main_arg0)
      ∧ m' ((c.tc : Thread Cert.ReferenceLoXIdeal.nD Cert.ReferenceLoXIdeal.τ).loc Cert.ReferenceLoXIdeal.main_arg1) = m ((c.tc : Thread Cert.KernelLoXIdeal.nD Cert.KernelLoXIdeal.τ).loc Cert.KernelLoXIdeal.main_arg1)) →
    ∃ (v0 : (c : Dev Cert.KernelLoXIdeal.nD) → Buf (Elt Ideal) ((c.tc : Thread Cert.KernelLoXIdeal.nD Cert.KernelLoXIdeal.τ).loc Cert.KernelLoXIdeal.main_v0)),
      θ_run (Cert.KernelLoXIdeal.defs (F := Ideal)) (onTc (τ := Cert.KernelLoXIdeal.τ) (Cert.KernelLoXIdeal.main (F := Ideal))) ⟨m, fun _ => 0, g⟩ (fun r => ∀ c : Dev Cert.KernelLoXIdeal.nD,
          r.2.mem ((c.tc : Thread Cert.KernelLoXIdeal.nD Cert.KernelLoXIdeal.τ).loc Cert.KernelLoXIdeal.main_v0) = v0 c
          ∧ r.2.mem ((c.tc : Thread Cert.KernelLoXIdeal.nD Cert.KernelLoXIdeal.τ).loc Cert.KernelLoXIdeal.main_arg0) = m ((c.tc : Thread Cert.KernelLoXIdeal.nD Cert.KernelLoXIdeal.τ).loc Cert.KernelLoXIdeal.main_arg0)
          ∧ r.2.mem ((c.tc : Thread Cert.KernelLoXIdeal.nD Cert.KernelLoXIdeal.τ).loc Cert.KernelLoXIdeal.main_arg1) = m ((c.tc : Thread Cert.KernelLoXIdeal.nD Cert.KernelLoXIdeal.τ).loc Cert.KernelLoXIdeal.main_arg1))
      ∧ θ_run (Cert.ReferenceLoXIdeal.defs (F := Ideal)) (onTc (τ := Cert.ReferenceLoXIdeal.τ) (Cert.ReferenceLoXIdeal.main (F := Ideal))) ⟨m', fun _ => 0, g'⟩ (fun r => ∀ c : Dev Cert.ReferenceLoXIdeal.nD,
          r.2.mem ((c.tc : Thread Cert.ReferenceLoXIdeal.nD Cert.ReferenceLoXIdeal.τ).loc Cert.ReferenceLoXIdeal.main_v6) = v0 c
          ∧ r.2.mem ((c.tc : Thread Cert.ReferenceLoXIdeal.nD Cert.ReferenceLoXIdeal.τ).loc Cert.ReferenceLoXIdeal.main_arg0) = m' ((c.tc : Thread Cert.ReferenceLoXIdeal.nD Cert.ReferenceLoXIdeal.τ).loc Cert.ReferenceLoXIdeal.main_arg0)
          ∧ r.2.mem ((c.tc : Thread Cert.ReferenceLoXIdeal.nD Cert.ReferenceLoXIdeal.τ).loc Cert.ReferenceLoXIdeal.main_arg1) = m' ((c.tc : Thread Cert.ReferenceLoXIdeal.nD Cert.ReferenceLoXIdeal.τ).loc Cert.ReferenceLoXIdeal.main_arg1))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)) →
    ∃ (v0 : (c : Dev Cert.KernelInWIdeal.nD) → Buf (Elt Ideal) ((c.tc : Thread Cert.KernelInWIdeal.nD Cert.KernelInWIdeal.τ).loc Cert.KernelInWIdeal.main_v0)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v0) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v26) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1))

def preserves_KernelInX_KernelInXIdeal : Prop :=
  True

def algebraic_KernelInXIdeal_ReferenceInXIdeal [hKernelInXIdeal : Cert.KernelInXIdeal.Facts] [hReferenceInXIdeal : Cert.ReferenceInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg)
    (m' : (ℓ : Loc Cert.ReferenceInXIdeal.nD Cert.ReferenceInXIdeal.τ Cert.ReferenceInXIdeal.sig) → Buf (Elt Ideal) ℓ) (g' : Dev Cert.ReferenceInXIdeal.nD → PrngReg), Pre_KernelInXIdeal m →
    (∀ c : Dev Cert.KernelInXIdeal.nD,
      m' ((c.tc : Thread Cert.ReferenceInXIdeal.nD Cert.ReferenceInXIdeal.τ).loc Cert.ReferenceInXIdeal.main_arg0) = m ((c.tc : Thread Cert.KernelInXIdeal.nD Cert.KernelInXIdeal.τ).loc Cert.KernelInXIdeal.main_arg0)
      ∧ m' ((c.tc : Thread Cert.ReferenceInXIdeal.nD Cert.ReferenceInXIdeal.τ).loc Cert.ReferenceInXIdeal.main_arg1) = m ((c.tc : Thread Cert.KernelInXIdeal.nD Cert.KernelInXIdeal.τ).loc Cert.KernelInXIdeal.main_arg1)) →
    ∃ (v0 : (c : Dev Cert.KernelInXIdeal.nD) → Buf (Elt Ideal) ((c.tc : Thread Cert.KernelInXIdeal.nD Cert.KernelInXIdeal.τ).loc Cert.KernelInXIdeal.main_v0)),
      θ_run (Cert.KernelInXIdeal.defs (F := Ideal)) (onTc (τ := Cert.KernelInXIdeal.τ) (Cert.KernelInXIdeal.main (F := Ideal))) ⟨m, fun _ => 0, g⟩ (fun r => ∀ c : Dev Cert.KernelInXIdeal.nD,
          r.2.mem ((c.tc : Thread Cert.KernelInXIdeal.nD Cert.KernelInXIdeal.τ).loc Cert.KernelInXIdeal.main_v0) = v0 c
          ∧ r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
          ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1))
      ∧ θ_run (Cert.ReferenceInXIdeal.defs (F := Ideal)) (onTc (τ := Cert.ReferenceInXIdeal.τ) (Cert.ReferenceInXIdeal.main (F := Ideal))) ⟨m', fun _ => 0, g'⟩ (fun r => ∀ c : Dev Cert.ReferenceInXIdeal.nD,
          r.2.mem ((c.tc : Thread Cert.ReferenceInXIdeal.nD Cert.ReferenceInXIdeal.τ).loc Cert.ReferenceInXIdeal.main_v25) = v0 c
          ∧ r.2.mem ((c.tc : Thread Cert.ReferenceInXIdeal.nD Cert.ReferenceInXIdeal.τ).loc Cert.ReferenceInXIdeal.main_arg0) = m' ((c.tc : Thread Cert.ReferenceInXIdeal.nD Cert.ReferenceInXIdeal.τ).loc Cert.ReferenceInXIdeal.main_arg0)
          ∧ r.2.mem ((c.tc : Thread Cert.ReferenceInXIdeal.nD Cert.ReferenceInXIdeal.τ).loc Cert.ReferenceInXIdeal.main_arg1) = m' ((c.tc : Thread Cert.ReferenceInXIdeal.nD Cert.ReferenceInXIdeal.τ).loc Cert.ReferenceInXIdeal.main_arg1))

def preserves_KernelFf_KernelFfIdeal : Prop :=
  True

def algebraic_KernelFfIdeal_ReferenceFfIdeal_pre_finite [hKernelFfIdeal : Cert.KernelFfIdeal.Facts] [hReferenceFfIdeal : Cert.ReferenceFfIdeal.Facts] [hPre_finite : Cert.Pre_finite.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal_finite m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)
      ∧ m' ((c.tc : Thread Cert.ReferenceFfIdeal.nD Cert.ReferenceFfIdeal.τ).loc Cert.ReferenceFfIdeal.main_arg2) = m ((c.tc : Thread Cert.KernelFfIdeal.nD Cert.KernelFfIdeal.τ).loc Cert.KernelFfIdeal.main_arg2)) →
    ∃ (v0 : (c : Dev Cert.KernelFfIdeal.nD) → Buf (Elt Ideal) ((c.tc : Thread Cert.KernelFfIdeal.nD Cert.KernelFfIdeal.τ).loc Cert.KernelFfIdeal.main_v0_0)) (v1 : (c : Dev Cert.KernelFfIdeal.nD) → Buf (Elt Ideal) ((c.tc : Thread Cert.KernelFfIdeal.nD Cert.KernelFfIdeal.τ).loc Cert.KernelFfIdeal.main_v0_1)) (v2 : (c : Dev Cert.KernelFfIdeal.nD) → Buf (Elt Ideal) ((c.tc : Thread Cert.KernelFfIdeal.nD Cert.KernelFfIdeal.τ).loc Cert.KernelFfIdeal.main_v0_2)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v0_0) = v0 c
          ∧ r.2.mem ((c.tc : Thread Cert.KernelFfIdeal.nD Cert.KernelFfIdeal.τ).loc Cert.KernelFfIdeal.main_v0_1) = v1 c
          ∧ r.2.mem ((c.tc : Thread Cert.KernelFfIdeal.nD Cert.KernelFfIdeal.τ).loc Cert.KernelFfIdeal.main_v0_2) = v2 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v68) = v0 c
          ∧ r.2.mem ((c.tc : Thread Cert.ReferenceFfIdeal.nD Cert.ReferenceFfIdeal.τ).loc Cert.ReferenceFfIdeal.main_v69) = v1 c
          ∧ r.2.mem ((c.tc : Thread Cert.ReferenceFfIdeal.nD Cert.ReferenceFfIdeal.τ).loc Cert.ReferenceFfIdeal.main_v70) = v2 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1)
          ∧ r.2.mem ((c.tc : Thread Cert.ReferenceFfIdeal.nD Cert.ReferenceFfIdeal.τ).loc Cert.ReferenceFfIdeal.main_arg2) = m' ((c.tc : Thread Cert.ReferenceFfIdeal.nD Cert.ReferenceFfIdeal.τ).loc Cert.ReferenceFfIdeal.main_arg2))

def preserves_KernelMg_KernelMgIdeal : Prop :=
  True

def algebraic_KernelMgIdeal_ReferenceMgIdeal [hKernelMgIdeal : Cert.KernelMgIdeal.Facts] [hReferenceMgIdeal : Cert.ReferenceMgIdeal.Facts] : Prop :=
  ∀ (m : (ℓ : Loc Cert.KernelMgIdeal.nD Cert.KernelMgIdeal.τ Cert.KernelMgIdeal.sig) → Buf (Elt Ideal) ℓ) (g : Dev Cert.KernelMgIdeal.nD → PrngReg)
    (m' : (ℓ : Loc Cert.ReferenceMgIdeal.nD Cert.ReferenceMgIdeal.τ Cert.ReferenceMgIdeal.sig) → Buf (Elt Ideal) ℓ) (g' : Dev Cert.ReferenceMgIdeal.nD → PrngReg), Pre_KernelMgIdeal m →
    (∀ c : Dev Cert.KernelMgIdeal.nD,
      m' ((c.tc : Thread Cert.ReferenceMgIdeal.nD Cert.ReferenceMgIdeal.τ).loc Cert.ReferenceMgIdeal.main_arg0) = m ((c.tc : Thread Cert.KernelMgIdeal.nD Cert.KernelMgIdeal.τ).loc Cert.KernelMgIdeal.main_arg0)
      ∧ m' ((c.tc : Thread Cert.ReferenceMgIdeal.nD Cert.ReferenceMgIdeal.τ).loc Cert.ReferenceMgIdeal.main_arg1) = m ((c.tc : Thread Cert.KernelMgIdeal.nD Cert.KernelMgIdeal.τ).loc Cert.KernelMgIdeal.main_arg1)
      ∧ m' ((c.tc : Thread Cert.ReferenceMgIdeal.nD Cert.ReferenceMgIdeal.τ).loc Cert.ReferenceMgIdeal.main_arg2) = m ((c.tc : Thread Cert.KernelMgIdeal.nD Cert.KernelMgIdeal.τ).loc Cert.KernelMgIdeal.main_arg2)) →
    ∃ (v0 : (c : Dev Cert.KernelMgIdeal.nD) → Buf (Elt Ideal) ((c.tc : Thread Cert.KernelMgIdeal.nD Cert.KernelMgIdeal.τ).loc Cert.KernelMgIdeal.main_v0)),
      θ_run (Cert.KernelMgIdeal.defs (F := Ideal)) (onTc (τ := Cert.KernelMgIdeal.τ) (Cert.KernelMgIdeal.main (F := Ideal))) ⟨m, fun _ => 0, g⟩ (fun r => ∀ c : Dev Cert.KernelMgIdeal.nD,
          r.2.mem ((c.tc : Thread Cert.KernelMgIdeal.nD Cert.KernelMgIdeal.τ).loc Cert.KernelMgIdeal.main_v0) = v0 c
          ∧ r.2.mem ((c.tc : Thread Cert.KernelMgIdeal.nD Cert.KernelMgIdeal.τ).loc Cert.KernelMgIdeal.main_arg0) = m ((c.tc : Thread Cert.KernelMgIdeal.nD Cert.KernelMgIdeal.τ).loc Cert.KernelMgIdeal.main_arg0)
          ∧ r.2.mem ((c.tc : Thread Cert.KernelMgIdeal.nD Cert.KernelMgIdeal.τ).loc Cert.KernelMgIdeal.main_arg1) = m ((c.tc : Thread Cert.KernelMgIdeal.nD Cert.KernelMgIdeal.τ).loc Cert.KernelMgIdeal.main_arg1)
          ∧ r.2.mem ((c.tc : Thread Cert.KernelMgIdeal.nD Cert.KernelMgIdeal.τ).loc Cert.KernelMgIdeal.main_arg2) = m ((c.tc : Thread Cert.KernelMgIdeal.nD Cert.KernelMgIdeal.τ).loc Cert.KernelMgIdeal.main_arg2))
      ∧ θ_run (Cert.ReferenceMgIdeal.defs (F := Ideal)) (onTc (τ := Cert.ReferenceMgIdeal.τ) (Cert.ReferenceMgIdeal.main (F := Ideal))) ⟨m', fun _ => 0, g'⟩ (fun r => ∀ c : Dev Cert.ReferenceMgIdeal.nD,
          r.2.mem ((c.tc : Thread Cert.ReferenceMgIdeal.nD Cert.ReferenceMgIdeal.τ).loc Cert.ReferenceMgIdeal.main_v19) = v0 c
          ∧ r.2.mem ((c.tc : Thread Cert.ReferenceMgIdeal.nD Cert.ReferenceMgIdeal.τ).loc Cert.ReferenceMgIdeal.main_arg0) = m' ((c.tc : Thread Cert.ReferenceMgIdeal.nD Cert.ReferenceMgIdeal.τ).loc Cert.ReferenceMgIdeal.main_arg0)
          ∧ r.2.mem ((c.tc : Thread Cert.ReferenceMgIdeal.nD Cert.ReferenceMgIdeal.τ).loc Cert.ReferenceMgIdeal.main_arg1) = m' ((c.tc : Thread Cert.ReferenceMgIdeal.nD Cert.ReferenceMgIdeal.τ).loc Cert.ReferenceMgIdeal.main_arg1)
          ∧ r.2.mem ((c.tc : Thread Cert.ReferenceMgIdeal.nD Cert.ReferenceMgIdeal.τ).loc Cert.ReferenceMgIdeal.main_arg2) = m' ((c.tc : Thread Cert.ReferenceMgIdeal.nD Cert.ReferenceMgIdeal.τ).loc Cert.ReferenceMgIdeal.main_arg2))

def preserves_KernelMgB_KernelMgBIdeal : Prop :=
  True

def algebraic_KernelMgBIdeal_ReferenceMgBIdeal_on_gates_written [hKernelMgBIdeal : Cert.KernelMgBIdeal.Facts] [hReferenceMgBIdeal : Cert.ReferenceMgBIdeal.Facts] [hOn_gates_written : Cert.On_gates_written.Facts] : Prop :=
  ∀ (m : (ℓ : Loc Cert.KernelMgBIdeal.nD Cert.KernelMgBIdeal.τ Cert.KernelMgBIdeal.sig) → Buf (Elt Ideal) ℓ) (g : Dev Cert.KernelMgBIdeal.nD → PrngReg)
    (m' : (ℓ : Loc Cert.ReferenceMgBIdeal.nD Cert.ReferenceMgBIdeal.τ Cert.ReferenceMgBIdeal.sig) → Buf (Elt Ideal) ℓ) (g' : Dev Cert.ReferenceMgBIdeal.nD → PrngReg), Pre_KernelMgBIdeal m →
    (∀ c : Dev Cert.KernelMgBIdeal.nD,
      m' ((c.tc : Thread Cert.ReferenceMgBIdeal.nD Cert.ReferenceMgBIdeal.τ).loc Cert.ReferenceMgBIdeal.main_arg0) = m ((c.tc : Thread Cert.KernelMgBIdeal.nD Cert.KernelMgBIdeal.τ).loc Cert.KernelMgBIdeal.main_arg0)
      ∧ m' ((c.tc : Thread Cert.ReferenceMgBIdeal.nD Cert.ReferenceMgBIdeal.τ).loc Cert.ReferenceMgBIdeal.main_arg1) = m ((c.tc : Thread Cert.KernelMgBIdeal.nD Cert.KernelMgBIdeal.τ).loc Cert.KernelMgBIdeal.main_arg1)
      ∧ m' ((c.tc : Thread Cert.ReferenceMgBIdeal.nD Cert.ReferenceMgBIdeal.τ).loc Cert.ReferenceMgBIdeal.main_arg2) = m ((c.tc : Thread Cert.KernelMgBIdeal.nD Cert.KernelMgBIdeal.τ).loc Cert.KernelMgBIdeal.main_arg2)
      ∧ m' ((c.tc : Thread Cert.ReferenceMgBIdeal.nD Cert.ReferenceMgBIdeal.τ).loc Cert.ReferenceMgBIdeal.main_arg3) = m ((c.tc : Thread Cert.KernelMgBIdeal.nD Cert.KernelMgBIdeal.τ).loc Cert.KernelMgBIdeal.main_arg3)) →
    ∃ (v0 : (c : Dev Cert.KernelMgBIdeal.nD) → Buf (Elt Ideal) ((c.tc : Thread Cert.KernelMgBIdeal.nD Cert.KernelMgBIdeal.τ).loc Cert.KernelMgBIdeal.main_v0_0)) (v1 : (c : Dev Cert.KernelMgBIdeal.nD) → Buf (Elt Ideal) ((c.tc : Thread Cert.KernelMgBIdeal.nD Cert.KernelMgBIdeal.τ).loc Cert.KernelMgBIdeal.main_v0_1)) (v2 : (c : Dev Cert.KernelMgBIdeal.nD) → Buf (Elt Ideal) ((c.tc : Thread Cert.KernelMgBIdeal.nD Cert.KernelMgBIdeal.τ).loc Cert.KernelMgBIdeal.main_v0_2)),
      θ_run (Cert.KernelMgBIdeal.defs (F := Ideal)) (onTc (τ := Cert.KernelMgBIdeal.τ) (Cert.KernelMgBIdeal.main (F := Ideal))) ⟨m, fun _ => 0, g⟩ (fun r => ∀ c : Dev Cert.KernelMgBIdeal.nD,
          (∀ i : (⟨3, ![9, 4096, 1024]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).1 i = 1#1 → r.2.mem ((c.tc : Thread Cert.KernelMgBIdeal.nD Cert.KernelMgBIdeal.τ).loc Cert.KernelMgBIdeal.main_v0_0) i = v0 c i)
          ∧ (∀ i : (⟨2, ![4096, 2048]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).2.1 i = 1#1 → r.2.mem ((c.tc : Thread Cert.KernelMgBIdeal.nD Cert.KernelMgBIdeal.τ).loc Cert.KernelMgBIdeal.main_v0_1) i = v1 c i)
          ∧ (∀ i : (⟨2, ![4096, 2048]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).2.2 i = 1#1 → r.2.mem ((c.tc : Thread Cert.KernelMgBIdeal.nD Cert.KernelMgBIdeal.τ).loc Cert.KernelMgBIdeal.main_v0_2) i = v2 c i)
          ∧ r.2.mem ((c.tc : Thread Cert.KernelMgBIdeal.nD Cert.KernelMgBIdeal.τ).loc Cert.KernelMgBIdeal.main_arg0) = m ((c.tc : Thread Cert.KernelMgBIdeal.nD Cert.KernelMgBIdeal.τ).loc Cert.KernelMgBIdeal.main_arg0)
          ∧ r.2.mem ((c.tc : Thread Cert.KernelMgBIdeal.nD Cert.KernelMgBIdeal.τ).loc Cert.KernelMgBIdeal.main_arg1) = m ((c.tc : Thread Cert.KernelMgBIdeal.nD Cert.KernelMgBIdeal.τ).loc Cert.KernelMgBIdeal.main_arg1)
          ∧ r.2.mem ((c.tc : Thread Cert.KernelMgBIdeal.nD Cert.KernelMgBIdeal.τ).loc Cert.KernelMgBIdeal.main_arg2) = m ((c.tc : Thread Cert.KernelMgBIdeal.nD Cert.KernelMgBIdeal.τ).loc Cert.KernelMgBIdeal.main_arg2)
          ∧ r.2.mem ((c.tc : Thread Cert.KernelMgBIdeal.nD Cert.KernelMgBIdeal.τ).loc Cert.KernelMgBIdeal.main_arg3) = m ((c.tc : Thread Cert.KernelMgBIdeal.nD Cert.KernelMgBIdeal.τ).loc Cert.KernelMgBIdeal.main_arg3))
      ∧ θ_run (Cert.ReferenceMgBIdeal.defs (F := Ideal)) (onTc (τ := Cert.ReferenceMgBIdeal.τ) (Cert.ReferenceMgBIdeal.main (F := Ideal))) ⟨m', fun _ => 0, g'⟩ (fun r => ∀ c : Dev Cert.ReferenceMgBIdeal.nD,
          (∀ i : (⟨3, ![9, 4096, 1024]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).1 i = 1#1 → r.2.mem ((c.tc : Thread Cert.ReferenceMgBIdeal.nD Cert.ReferenceMgBIdeal.τ).loc Cert.ReferenceMgBIdeal.main_v41) i = v0 c i)
          ∧ (∀ i : (⟨2, ![4096, 2048]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).2.1 i = 1#1 → r.2.mem ((c.tc : Thread Cert.ReferenceMgBIdeal.nD Cert.ReferenceMgBIdeal.τ).loc Cert.ReferenceMgBIdeal.main_v42) i = v1 c i)
          ∧ (∀ i : (⟨2, ![4096, 2048]⟩ : Shape).Idx, (Cert.On_gates_written.fn (F := Ideal) (m ((c.tc : Thread Cert.KernelMgBIdeal.nD Cert.KernelMgBIdeal.τ).loc Cert.KernelMgBIdeal.main_arg0)) (m ((c.tc : Thread Cert.KernelMgBIdeal.nD Cert.KernelMgBIdeal.τ).loc Cert.KernelMgBIdeal.main_arg1)) (m ((c.tc : Thread Cert.KernelMgBIdeal.nD Cert.KernelMgBIdeal.τ).loc Cert.KernelMgBIdeal.main_arg2)) (m ((c.tc : Thread Cert.KernelMgBIdeal.nD Cert.KernelMgBIdeal.τ).loc Cert.KernelMgBIdeal.main_arg3))).2.2 i = 1#1 → r.2.mem ((c.tc : Thread Cert.ReferenceMgBIdeal.nD Cert.ReferenceMgBIdeal.τ).loc Cert.ReferenceMgBIdeal.main_v43) i = v2 c i)
          ∧ r.2.mem ((c.tc : Thread Cert.ReferenceMgBIdeal.nD Cert.ReferenceMgBIdeal.τ).loc Cert.ReferenceMgBIdeal.main_arg0) = m' ((c.tc : Thread Cert.ReferenceMgBIdeal.nD Cert.ReferenceMgBIdeal.τ).loc Cert.ReferenceMgBIdeal.main_arg0)
          ∧ r.2.mem ((c.tc : Thread Cert.ReferenceMgBIdeal.nD Cert.ReferenceMgBIdeal.τ).loc Cert.ReferenceMgBIdeal.main_arg1) = m' ((c.tc : Thread Cert.ReferenceMgBIdeal.nD Cert.ReferenceMgBIdeal.τ).loc Cert.ReferenceMgBIdeal.main_arg1)
          ∧ r.2.mem ((c.tc : Thread Cert.ReferenceMgBIdeal.nD Cert.ReferenceMgBIdeal.τ).loc Cert.ReferenceMgBIdeal.main_arg2) = m' ((c.tc : Thread Cert.ReferenceMgBIdeal.nD Cert.ReferenceMgBIdeal.τ).loc Cert.ReferenceMgBIdeal.main_arg2)
          ∧ r.2.mem ((c.tc : Thread Cert.ReferenceMgBIdeal.nD Cert.ReferenceMgBIdeal.τ).loc Cert.ReferenceMgBIdeal.main_arg3) = m' ((c.tc : Thread Cert.ReferenceMgBIdeal.nD Cert.ReferenceMgBIdeal.τ).loc Cert.ReferenceMgBIdeal.main_arg3))

def preserves_KernelRmM_KernelRmMIdeal : Prop :=
  True

def algebraic_KernelRmMIdeal_ReferenceRmMIdeal [hKernelRmMIdeal : Cert.KernelRmMIdeal.Facts] [hReferenceRmMIdeal : Cert.ReferenceRmMIdeal.Facts] : Prop :=
  ∀ (m : (ℓ : Loc Cert.KernelRmMIdeal.nD Cert.KernelRmMIdeal.τ Cert.KernelRmMIdeal.sig) → Buf (Elt Ideal) ℓ) (g : Dev Cert.KernelRmMIdeal.nD → PrngReg)
    (m' : (ℓ : Loc Cert.ReferenceRmMIdeal.nD Cert.ReferenceRmMIdeal.τ Cert.ReferenceRmMIdeal.sig) → Buf (Elt Ideal) ℓ) (g' : Dev Cert.ReferenceRmMIdeal.nD → PrngReg), Pre_KernelRmMIdeal m →
    (∀ c : Dev Cert.KernelRmMIdeal.nD,
      m' ((c.tc : Thread Cert.ReferenceRmMIdeal.nD Cert.ReferenceRmMIdeal.τ).loc Cert.ReferenceRmMIdeal.main_arg0) = m ((c.tc : Thread Cert.KernelRmMIdeal.nD Cert.KernelRmMIdeal.τ).loc Cert.KernelRmMIdeal.main_arg0)
      ∧ m' ((c.tc : Thread Cert.ReferenceRmMIdeal.nD Cert.ReferenceRmMIdeal.τ).loc Cert.ReferenceRmMIdeal.main_arg1) = m ((c.tc : Thread Cert.KernelRmMIdeal.nD Cert.KernelRmMIdeal.τ).loc Cert.KernelRmMIdeal.main_arg1)
      ∧ m' ((c.tc : Thread Cert.ReferenceRmMIdeal.nD Cert.ReferenceRmMIdeal.τ).loc Cert.ReferenceRmMIdeal.main_arg2) = m ((c.tc : Thread Cert.KernelRmMIdeal.nD Cert.KernelRmMIdeal.τ).loc Cert.KernelRmMIdeal.main_arg2)
      ∧ m' ((c.tc : Thread Cert.ReferenceRmMIdeal.nD Cert.ReferenceRmMIdeal.τ).loc Cert.ReferenceRmMIdeal.main_arg3) = m ((c.tc : Thread Cert.KernelRmMIdeal.nD Cert.KernelRmMIdeal.τ).loc Cert.KernelRmMIdeal.main_arg3)) →
    ∃ (v0 : (c : Dev Cert.KernelRmMIdeal.nD) → Buf (Elt Ideal) ((c.tc : Thread Cert.KernelRmMIdeal.nD Cert.KernelRmMIdeal.τ).loc Cert.KernelRmMIdeal.main_v1_0)) (v1 : (c : Dev Cert.KernelRmMIdeal.nD) → Buf (Elt Ideal) ((c.tc : Thread Cert.KernelRmMIdeal.nD Cert.KernelRmMIdeal.τ).loc Cert.KernelRmMIdeal.main_v1_1)),
      θ_run (Cert.KernelRmMIdeal.defs (F := Ideal)) (onTc (τ := Cert.KernelRmMIdeal.τ) (Cert.KernelRmMIdeal.main (F := Ideal))) ⟨m, fun _ => 0, g⟩ (fun r => ∀ c : Dev Cert.KernelRmMIdeal.nD,
          r.2.mem ((c.tc : Thread Cert.KernelRmMIdeal.nD Cert.KernelRmMIdeal.τ).loc Cert.KernelRmMIdeal.main_v1_0) = v0 c
          ∧ r.2.mem ((c.tc : Thread Cert.KernelRmMIdeal.nD Cert.KernelRmMIdeal.τ).loc Cert.KernelRmMIdeal.main_v1_1) = v1 c
          ∧ r.2.mem ((c.tc : Thread Cert.KernelRmMIdeal.nD Cert.KernelRmMIdeal.τ).loc Cert.KernelRmMIdeal.main_arg0) = m ((c.tc : Thread Cert.KernelRmMIdeal.nD Cert.KernelRmMIdeal.τ).loc Cert.KernelRmMIdeal.main_arg0)
          ∧ r.2.mem ((c.tc : Thread Cert.KernelRmMIdeal.nD Cert.KernelRmMIdeal.τ).loc Cert.KernelRmMIdeal.main_arg1) = m ((c.tc : Thread Cert.KernelRmMIdeal.nD Cert.KernelRmMIdeal.τ).loc Cert.KernelRmMIdeal.main_arg1)
          ∧ r.2.mem ((c.tc : Thread Cert.KernelRmMIdeal.nD Cert.KernelRmMIdeal.τ).loc Cert.KernelRmMIdeal.main_arg2) = m ((c.tc : Thread Cert.KernelRmMIdeal.nD Cert.KernelRmMIdeal.τ).loc Cert.KernelRmMIdeal.main_arg2)
          ∧ r.2.mem ((c.tc : Thread Cert.KernelRmMIdeal.nD Cert.KernelRmMIdeal.τ).loc Cert.KernelRmMIdeal.main_arg3) = m ((c.tc : Thread Cert.KernelRmMIdeal.nD Cert.KernelRmMIdeal.τ).loc Cert.KernelRmMIdeal.main_arg3))
      ∧ θ_run (Cert.ReferenceRmMIdeal.defs (F := Ideal)) (onTc (τ := Cert.ReferenceRmMIdeal.τ) (Cert.ReferenceRmMIdeal.main (F := Ideal))) ⟨m', fun _ => 0, g'⟩ (fun r => ∀ c : Dev Cert.ReferenceRmMIdeal.nD,
          r.2.mem ((c.tc : Thread Cert.ReferenceRmMIdeal.nD Cert.ReferenceRmMIdeal.τ).loc Cert.ReferenceRmMIdeal.main_v36) = v0 c
          ∧ r.2.mem ((c.tc : Thread Cert.ReferenceRmMIdeal.nD Cert.ReferenceRmMIdeal.τ).loc Cert.ReferenceRmMIdeal.main_v37) = v1 c
          ∧ r.2.mem ((c.tc : Thread Cert.ReferenceRmMIdeal.nD Cert.ReferenceRmMIdeal.τ).loc Cert.ReferenceRmMIdeal.main_arg0) = m' ((c.tc : Thread Cert.ReferenceRmMIdeal.nD Cert.ReferenceRmMIdeal.τ).loc Cert.ReferenceRmMIdeal.main_arg0)
          ∧ r.2.mem ((c.tc : Thread Cert.ReferenceRmMIdeal.nD Cert.ReferenceRmMIdeal.τ).loc Cert.ReferenceRmMIdeal.main_arg1) = m' ((c.tc : Thread Cert.ReferenceRmMIdeal.nD Cert.ReferenceRmMIdeal.τ).loc Cert.ReferenceRmMIdeal.main_arg1)
          ∧ r.2.mem ((c.tc : Thread Cert.ReferenceRmMIdeal.nD Cert.ReferenceRmMIdeal.τ).loc Cert.ReferenceRmMIdeal.main_arg2) = m' ((c.tc : Thread Cert.ReferenceRmMIdeal.nD Cert.ReferenceRmMIdeal.τ).loc Cert.ReferenceRmMIdeal.main_arg2)
          ∧ r.2.mem ((c.tc : Thread Cert.ReferenceRmMIdeal.nD Cert.ReferenceRmMIdeal.τ).loc Cert.ReferenceRmMIdeal.main_arg3) = m' ((c.tc : Thread Cert.ReferenceRmMIdeal.nD Cert.ReferenceRmMIdeal.τ).loc Cert.ReferenceRmMIdeal.main_arg3))

def preserves_KernelRmF_KernelRmFIdeal : Prop :=
  True

def algebraic_KernelRmFIdeal_ReferenceRmFIdeal [hKernelRmFIdeal : Cert.KernelRmFIdeal.Facts] [hReferenceRmFIdeal : Cert.ReferenceRmFIdeal.Facts] : Prop :=
  ∀ (m : (ℓ : Loc Cert.KernelRmFIdeal.nD Cert.KernelRmFIdeal.τ Cert.KernelRmFIdeal.sig) → Buf (Elt Ideal) ℓ) (g : Dev Cert.KernelRmFIdeal.nD → PrngReg)
    (m' : (ℓ : Loc Cert.ReferenceRmFIdeal.nD Cert.ReferenceRmFIdeal.τ Cert.ReferenceRmFIdeal.sig) → Buf (Elt Ideal) ℓ) (g' : Dev Cert.ReferenceRmFIdeal.nD → PrngReg), Pre_KernelRmFIdeal m →
    (∀ c : Dev Cert.KernelRmFIdeal.nD,
      m' ((c.tc : Thread Cert.ReferenceRmFIdeal.nD Cert.ReferenceRmFIdeal.τ).loc Cert.ReferenceRmFIdeal.main_arg0) = m ((c.tc : Thread Cert.KernelRmFIdeal.nD Cert.KernelRmFIdeal.τ).loc Cert.KernelRmFIdeal.main_arg0)
      ∧ m' ((c.tc : Thread Cert.ReferenceRmFIdeal.nD Cert.ReferenceRmFIdeal.τ).loc Cert.ReferenceRmFIdeal.main_arg1) = m ((c.tc : Thread Cert.KernelRmFIdeal.nD Cert.KernelRmFIdeal.τ).loc Cert.KernelRmFIdeal.main_arg1)
      ∧ m' ((c.tc : Thread Cert.ReferenceRmFIdeal.nD Cert.ReferenceRmFIdeal.τ).loc Cert.ReferenceRmFIdeal.main_arg2) = m ((c.tc : Thread Cert.KernelRmFIdeal.nD Cert.KernelRmFIdeal.τ).loc Cert.KernelRmFIdeal.main_arg2)
      ∧ m' ((c.tc : Thread Cert.ReferenceRmFIdeal.nD Cert.ReferenceRmFIdeal.τ).loc Cert.ReferenceRmFIdeal.main_arg3) = m ((c.tc : Thread Cert.KernelRmFIdeal.nD Cert.KernelRmFIdeal.τ).loc Cert.KernelRmFIdeal.main_arg3)) →
    ∃ (v0 : (c : Dev Cert.KernelRmFIdeal.nD) → Buf (Elt Ideal) ((c.tc : Thread Cert.KernelRmFIdeal.nD Cert.KernelRmFIdeal.τ).loc Cert.KernelRmFIdeal.main_v1_0)) (v1 : (c : Dev Cert.KernelRmFIdeal.nD) → Buf (Elt Ideal) ((c.tc : Thread Cert.KernelRmFIdeal.nD Cert.KernelRmFIdeal.τ).loc Cert.KernelRmFIdeal.main_v1_1)) (v2 : (c : Dev Cert.KernelRmFIdeal.nD) → Buf (Elt Ideal) ((c.tc : Thread Cert.KernelRmFIdeal.nD Cert.KernelRmFIdeal.τ).loc Cert.KernelRmFIdeal.main_v1_2)),
      θ_run (Cert.KernelRmFIdeal.defs (F := Ideal)) (onTc (τ := Cert.KernelRmFIdeal.τ) (Cert.KernelRmFIdeal.main (F := Ideal))) ⟨m, fun _ => 0, g⟩ (fun r => ∀ c : Dev Cert.KernelRmFIdeal.nD,
          r.2.mem ((c.tc : Thread Cert.KernelRmFIdeal.nD Cert.KernelRmFIdeal.τ).loc Cert.KernelRmFIdeal.main_v1_0) = v0 c
          ∧ r.2.mem ((c.tc : Thread Cert.KernelRmFIdeal.nD Cert.KernelRmFIdeal.τ).loc Cert.KernelRmFIdeal.main_v1_1) = v1 c
          ∧ r.2.mem ((c.tc : Thread Cert.KernelRmFIdeal.nD Cert.KernelRmFIdeal.τ).loc Cert.KernelRmFIdeal.main_v1_2) = v2 c
          ∧ r.2.mem ((c.tc : Thread Cert.KernelRmFIdeal.nD Cert.KernelRmFIdeal.τ).loc Cert.KernelRmFIdeal.main_arg0) = m ((c.tc : Thread Cert.KernelRmFIdeal.nD Cert.KernelRmFIdeal.τ).loc Cert.KernelRmFIdeal.main_arg0)
          ∧ r.2.mem ((c.tc : Thread Cert.KernelRmFIdeal.nD Cert.KernelRmFIdeal.τ).loc Cert.KernelRmFIdeal.main_arg1) = m ((c.tc : Thread Cert.KernelRmFIdeal.nD Cert.KernelRmFIdeal.τ).loc Cert.KernelRmFIdeal.main_arg1)
          ∧ r.2.mem ((c.tc : Thread Cert.KernelRmFIdeal.nD Cert.KernelRmFIdeal.τ).loc Cert.KernelRmFIdeal.main_arg2) = m ((c.tc : Thread Cert.KernelRmFIdeal.nD Cert.KernelRmFIdeal.τ).loc Cert.KernelRmFIdeal.main_arg2)
          ∧ r.2.mem ((c.tc : Thread Cert.KernelRmFIdeal.nD Cert.KernelRmFIdeal.τ).loc Cert.KernelRmFIdeal.main_arg3) = m ((c.tc : Thread Cert.KernelRmFIdeal.nD Cert.KernelRmFIdeal.τ).loc Cert.KernelRmFIdeal.main_arg3))
      ∧ θ_run (Cert.ReferenceRmFIdeal.defs (F := Ideal)) (onTc (τ := Cert.ReferenceRmFIdeal.τ) (Cert.ReferenceRmFIdeal.main (F := Ideal))) ⟨m', fun _ => 0, g'⟩ (fun r => ∀ c : Dev Cert.ReferenceRmFIdeal.nD,
          r.2.mem ((c.tc : Thread Cert.ReferenceRmFIdeal.nD Cert.ReferenceRmFIdeal.τ).loc Cert.ReferenceRmFIdeal.main_v36) = v0 c
          ∧ r.2.mem ((c.tc : Thread Cert.ReferenceRmFIdeal.nD Cert.ReferenceRmFIdeal.τ).loc Cert.ReferenceRmFIdeal.main_v37) = v1 c
          ∧ r.2.mem ((c.tc : Thread Cert.ReferenceRmFIdeal.nD Cert.ReferenceRmFIdeal.τ).loc Cert.ReferenceRmFIdeal.main_v38) = v2 c
          ∧ r.2.mem ((c.tc : Thread Cert.ReferenceRmFIdeal.nD Cert.ReferenceRmFIdeal.τ).loc Cert.ReferenceRmFIdeal.main_arg0) = m' ((c.tc : Thread Cert.ReferenceRmFIdeal.nD Cert.ReferenceRmFIdeal.τ).loc Cert.ReferenceRmFIdeal.main_arg0)
          ∧ r.2.mem ((c.tc : Thread Cert.ReferenceRmFIdeal.nD Cert.ReferenceRmFIdeal.τ).loc Cert.ReferenceRmFIdeal.main_arg1) = m' ((c.tc : Thread Cert.ReferenceRmFIdeal.nD Cert.ReferenceRmFIdeal.τ).loc Cert.ReferenceRmFIdeal.main_arg1)
          ∧ r.2.mem ((c.tc : Thread Cert.ReferenceRmFIdeal.nD Cert.ReferenceRmFIdeal.τ).loc Cert.ReferenceRmFIdeal.main_arg2) = m' ((c.tc : Thread Cert.ReferenceRmFIdeal.nD Cert.ReferenceRmFIdeal.τ).loc Cert.ReferenceRmFIdeal.main_arg2)
          ∧ r.2.mem ((c.tc : Thread Cert.ReferenceRmFIdeal.nD Cert.ReferenceRmFIdeal.τ).loc Cert.ReferenceRmFIdeal.main_arg3) = m' ((c.tc : Thread Cert.ReferenceRmFIdeal.nD Cert.ReferenceRmFIdeal.τ).loc Cert.ReferenceRmFIdeal.main_arg3))

def preserves_KernelRm_KernelRmIdeal : Prop :=
  True

def algebraic_KernelRmIdeal_ReferenceRmIdeal [hKernelRmIdeal : Cert.KernelRmIdeal.Facts] [hReferenceRmIdeal : Cert.ReferenceRmIdeal.Facts] : Prop :=
  ∀ (m : (ℓ : Loc Cert.KernelRmIdeal.nD Cert.KernelRmIdeal.τ Cert.KernelRmIdeal.sig) → Buf (Elt Ideal) ℓ) (g : Dev Cert.KernelRmIdeal.nD → PrngReg)
    (m' : (ℓ : Loc Cert.ReferenceRmIdeal.nD Cert.ReferenceRmIdeal.τ Cert.ReferenceRmIdeal.sig) → Buf (Elt Ideal) ℓ) (g' : Dev Cert.ReferenceRmIdeal.nD → PrngReg), Pre_KernelRmIdeal m →
    (∀ c : Dev Cert.KernelRmIdeal.nD,
      m' ((c.tc : Thread Cert.ReferenceRmIdeal.nD Cert.ReferenceRmIdeal.τ).loc Cert.ReferenceRmIdeal.main_arg0) = m ((c.tc : Thread Cert.KernelRmIdeal.nD Cert.KernelRmIdeal.τ).loc Cert.KernelRmIdeal.main_arg0)
      ∧ m' ((c.tc : Thread Cert.ReferenceRmIdeal.nD Cert.ReferenceRmIdeal.τ).loc Cert.ReferenceRmIdeal.main_arg1) = m ((c.tc : Thread Cert.KernelRmIdeal.nD Cert.KernelRmIdeal.τ).loc Cert.KernelRmIdeal.main_arg1)) →
    ∃ (v0 : (c : Dev Cert.KernelRmIdeal.nD) → Buf (Elt Ideal) ((c.tc : Thread Cert.KernelRmIdeal.nD Cert.KernelRmIdeal.τ).loc Cert.KernelRmIdeal.main_v1)),
      θ_run (Cert.KernelRmIdeal.defs (F := Ideal)) (onTc (τ := Cert.KernelRmIdeal.τ) (Cert.KernelRmIdeal.main (F := Ideal))) ⟨m, fun _ => 0, g⟩ (fun r => ∀ c : Dev Cert.KernelRmIdeal.nD,
          r.2.mem ((c.tc : Thread Cert.KernelRmIdeal.nD Cert.KernelRmIdeal.τ).loc Cert.KernelRmIdeal.main_v1) = v0 c
          ∧ r.2.mem ((c.tc : Thread Cert.KernelRmIdeal.nD Cert.KernelRmIdeal.τ).loc Cert.KernelRmIdeal.main_arg0) = m ((c.tc : Thread Cert.KernelRmIdeal.nD Cert.KernelRmIdeal.τ).loc Cert.KernelRmIdeal.main_arg0)
          ∧ r.2.mem ((c.tc : Thread Cert.KernelRmIdeal.nD Cert.KernelRmIdeal.τ).loc Cert.KernelRmIdeal.main_arg1) = m ((c.tc : Thread Cert.KernelRmIdeal.nD Cert.KernelRmIdeal.τ).loc Cert.KernelRmIdeal.main_arg1))
      ∧ θ_run (Cert.ReferenceRmIdeal.defs (F := Ideal)) (onTc (τ := Cert.ReferenceRmIdeal.τ) (Cert.ReferenceRmIdeal.main (F := Ideal))) ⟨m', fun _ => 0, g'⟩ (fun r => ∀ c : Dev Cert.ReferenceRmIdeal.nD,
          r.2.mem ((c.tc : Thread Cert.ReferenceRmIdeal.nD Cert.ReferenceRmIdeal.τ).loc Cert.ReferenceRmIdeal.main_v13) = v0 c
          ∧ r.2.mem ((c.tc : Thread Cert.ReferenceRmIdeal.nD Cert.ReferenceRmIdeal.τ).loc Cert.ReferenceRmIdeal.main_arg0) = m' ((c.tc : Thread Cert.ReferenceRmIdeal.nD Cert.ReferenceRmIdeal.τ).loc Cert.ReferenceRmIdeal.main_arg0)
          ∧ r.2.mem ((c.tc : Thread Cert.ReferenceRmIdeal.nD Cert.ReferenceRmIdeal.τ).loc Cert.ReferenceRmIdeal.main_arg1) = m' ((c.tc : Thread Cert.ReferenceRmIdeal.nD Cert.ReferenceRmIdeal.τ).loc Cert.ReferenceRmIdeal.main_arg1))

def preserves_KernelScF_KernelScFIdeal : Prop :=
  True

def algebraic_KernelScFIdeal_ReferenceScFIdeal [hKernelScFIdeal : Cert.KernelScFIdeal.Facts] [hReferenceScFIdeal : Cert.ReferenceScFIdeal.Facts] : Prop :=
  ∀ (m : (ℓ : Loc Cert.KernelScFIdeal.nD Cert.KernelScFIdeal.τ Cert.KernelScFIdeal.sig) → Buf (Elt Ideal) ℓ) (g : Dev Cert.KernelScFIdeal.nD → PrngReg)
    (m' : (ℓ : Loc Cert.ReferenceScFIdeal.nD Cert.ReferenceScFIdeal.τ Cert.ReferenceScFIdeal.sig) → Buf (Elt Ideal) ℓ) (g' : Dev Cert.ReferenceScFIdeal.nD → PrngReg), Pre_KernelScFIdeal m →
    (∀ c : Dev Cert.KernelScFIdeal.nD,
      m' ((c.tc : Thread Cert.ReferenceScFIdeal.nD Cert.ReferenceScFIdeal.τ).loc Cert.ReferenceScFIdeal.main_arg0) = m ((c.tc : Thread Cert.KernelScFIdeal.nD Cert.KernelScFIdeal.τ).loc Cert.KernelScFIdeal.main_arg0)
      ∧ m' ((c.tc : Thread Cert.ReferenceScFIdeal.nD Cert.ReferenceScFIdeal.τ).loc Cert.ReferenceScFIdeal.main_arg1) = m ((c.tc : Thread Cert.KernelScFIdeal.nD Cert.KernelScFIdeal.τ).loc Cert.KernelScFIdeal.main_arg1)) →
    ∃ (v0 : (c : Dev Cert.KernelScFIdeal.nD) → Buf (Elt Ideal) ((c.tc : Thread Cert.KernelScFIdeal.nD Cert.KernelScFIdeal.τ).loc Cert.KernelScFIdeal.main_v0)),
      θ_run (Cert.KernelScFIdeal.defs (F := Ideal)) (onTc (τ := Cert.KernelScFIdeal.τ) (Cert.KernelScFIdeal.main (F := Ideal))) ⟨m, fun _ => 0, g⟩ (fun r => ∀ c : Dev Cert.KernelScFIdeal.nD,
          r.2.mem ((c.tc : Thread Cert.KernelScFIdeal.nD Cert.KernelScFIdeal.τ).loc Cert.KernelScFIdeal.main_v0) = v0 c
          ∧ r.2.mem ((c.tc : Thread Cert.KernelScFIdeal.nD Cert.KernelScFIdeal.τ).loc Cert.KernelScFIdeal.main_arg0) = m ((c.tc : Thread Cert.KernelScFIdeal.nD Cert.KernelScFIdeal.τ).loc Cert.KernelScFIdeal.main_arg0)
          ∧ r.2.mem ((c.tc : Thread Cert.KernelScFIdeal.nD Cert.KernelScFIdeal.τ).loc Cert.KernelScFIdeal.main_arg1) = m ((c.tc : Thread Cert.KernelScFIdeal.nD Cert.KernelScFIdeal.τ).loc Cert.KernelScFIdeal.main_arg1))
      ∧ θ_run (Cert.ReferenceScFIdeal.defs (F := Ideal)) (onTc (τ := Cert.ReferenceScFIdeal.τ) (Cert.ReferenceScFIdeal.main (F := Ideal))) ⟨m', fun _ => 0, g'⟩ (fun r => ∀ c : Dev Cert.ReferenceScFIdeal.nD,
          r.2.mem ((c.tc : Thread Cert.ReferenceScFIdeal.nD Cert.ReferenceScFIdeal.τ).loc Cert.ReferenceScFIdeal.main_v27) = v0 c
          ∧ r.2.mem ((c.tc : Thread Cert.ReferenceScFIdeal.nD Cert.ReferenceScFIdeal.τ).loc Cert.ReferenceScFIdeal.main_arg0) = m' ((c.tc : Thread Cert.ReferenceScFIdeal.nD Cert.ReferenceScFIdeal.τ).loc Cert.ReferenceScFIdeal.main_arg0)
          ∧ r.2.mem ((c.tc : Thread Cert.ReferenceScFIdeal.nD Cert.ReferenceScFIdeal.τ).loc Cert.ReferenceScFIdeal.main_arg1) = m' ((c.tc : Thread Cert.ReferenceScFIdeal.nD Cert.ReferenceScFIdeal.τ).loc Cert.ReferenceScFIdeal.main_arg1))

def preserves_KernelFfF_KernelFfFIdeal : Prop :=
  True

def algebraic_KernelFfFIdeal_ReferenceFfFIdeal [hKernelFfFIdeal : Cert.KernelFfFIdeal.Facts] [hReferenceFfFIdeal : Cert.ReferenceFfFIdeal.Facts] : Prop :=
  ∀ (m : (ℓ : Loc Cert.KernelFfFIdeal.nD Cert.KernelFfFIdeal.τ Cert.KernelFfFIdeal.sig) → Buf (Elt Ideal) ℓ) (g : Dev Cert.KernelFfFIdeal.nD → PrngReg)
    (m' : (ℓ : Loc Cert.ReferenceFfFIdeal.nD Cert.ReferenceFfFIdeal.τ Cert.ReferenceFfFIdeal.sig) → Buf (Elt Ideal) ℓ) (g' : Dev Cert.ReferenceFfFIdeal.nD → PrngReg), Pre_KernelFfFIdeal m →
    (∀ c : Dev Cert.KernelFfFIdeal.nD,
      m' ((c.tc : Thread Cert.ReferenceFfFIdeal.nD Cert.ReferenceFfFIdeal.τ).loc Cert.ReferenceFfFIdeal.main_arg0) = m ((c.tc : Thread Cert.KernelFfFIdeal.nD Cert.KernelFfFIdeal.τ).loc Cert.KernelFfFIdeal.main_arg0)
      ∧ m' ((c.tc : Thread Cert.ReferenceFfFIdeal.nD Cert.ReferenceFfFIdeal.τ).loc Cert.ReferenceFfFIdeal.main_arg1) = m ((c.tc : Thread Cert.KernelFfFIdeal.nD Cert.KernelFfFIdeal.τ).loc Cert.KernelFfFIdeal.main_arg1)) →
    ∃ (v0 : (c : Dev Cert.KernelFfFIdeal.nD) → Buf (Elt Ideal) ((c.tc : Thread Cert.KernelFfFIdeal.nD Cert.KernelFfFIdeal.τ).loc Cert.KernelFfFIdeal.main_v0)),
      θ_run (Cert.KernelFfFIdeal.defs (F := Ideal)) (onTc (τ := Cert.KernelFfFIdeal.τ) (Cert.KernelFfFIdeal.main (F := Ideal))) ⟨m, fun _ => 0, g⟩ (fun r => ∀ c : Dev Cert.KernelFfFIdeal.nD,
          r.2.mem ((c.tc : Thread Cert.KernelFfFIdeal.nD Cert.KernelFfFIdeal.τ).loc Cert.KernelFfFIdeal.main_v0) = v0 c
          ∧ r.2.mem ((c.tc : Thread Cert.KernelFfFIdeal.nD Cert.KernelFfFIdeal.τ).loc Cert.KernelFfFIdeal.main_arg0) = m ((c.tc : Thread Cert.KernelFfFIdeal.nD Cert.KernelFfFIdeal.τ).loc Cert.KernelFfFIdeal.main_arg0)
          ∧ r.2.mem ((c.tc : Thread Cert.KernelFfFIdeal.nD Cert.KernelFfFIdeal.τ).loc Cert.KernelFfFIdeal.main_arg1) = m ((c.tc : Thread Cert.KernelFfFIdeal.nD Cert.KernelFfFIdeal.τ).loc Cert.KernelFfFIdeal.main_arg1))
      ∧ θ_run (Cert.ReferenceFfFIdeal.defs (F := Ideal)) (onTc (τ := Cert.ReferenceFfFIdeal.τ) (Cert.ReferenceFfFIdeal.main (F := Ideal))) ⟨m', fun _ => 0, g'⟩ (fun r => ∀ c : Dev Cert.ReferenceFfFIdeal.nD,
          r.2.mem ((c.tc : Thread Cert.ReferenceFfFIdeal.nD Cert.ReferenceFfFIdeal.τ).loc Cert.ReferenceFfFIdeal.main_v26) = v0 c
          ∧ r.2.mem ((c.tc : Thread Cert.ReferenceFfFIdeal.nD Cert.ReferenceFfFIdeal.τ).loc Cert.ReferenceFfFIdeal.main_arg0) = m' ((c.tc : Thread Cert.ReferenceFfFIdeal.nD Cert.ReferenceFfFIdeal.τ).loc Cert.ReferenceFfFIdeal.main_arg0)
          ∧ r.2.mem ((c.tc : Thread Cert.ReferenceFfFIdeal.nD Cert.ReferenceFfFIdeal.τ).loc Cert.ReferenceFfFIdeal.main_arg1) = m' ((c.tc : Thread Cert.ReferenceFfFIdeal.nD Cert.ReferenceFfFIdeal.τ).loc Cert.ReferenceFfFIdeal.main_arg1))

def preserves_KernelLh_KernelLhIdeal : Prop :=
  True

def algebraic_KernelLhIdeal_ReferenceLhIdeal [hKernelLhIdeal : Cert.KernelLhIdeal.Facts] [hReferenceLhIdeal : Cert.ReferenceLhIdeal.Facts] : Prop :=
  ∀ (m : (ℓ : Loc Cert.KernelLhIdeal.nD Cert.KernelLhIdeal.τ Cert.KernelLhIdeal.sig) → Buf (Elt Ideal) ℓ) (g : Dev Cert.KernelLhIdeal.nD → PrngReg)
    (m' : (ℓ : Loc Cert.ReferenceLhIdeal.nD Cert.ReferenceLhIdeal.τ Cert.ReferenceLhIdeal.sig) → Buf (Elt Ideal) ℓ) (g' : Dev Cert.ReferenceLhIdeal.nD → PrngReg), Pre_KernelLhIdeal m →
    (∀ c : Dev Cert.KernelLhIdeal.nD,
      m' ((c.tc : Thread Cert.ReferenceLhIdeal.nD Cert.ReferenceLhIdeal.τ).loc Cert.ReferenceLhIdeal.main_arg0) = m ((c.tc : Thread Cert.KernelLhIdeal.nD Cert.KernelLhIdeal.τ).loc Cert.KernelLhIdeal.main_arg0)
      ∧ m' ((c.tc : Thread Cert.ReferenceLhIdeal.nD Cert.ReferenceLhIdeal.τ).loc Cert.ReferenceLhIdeal.main_arg1) = m ((c.tc : Thread Cert.KernelLhIdeal.nD Cert.KernelLhIdeal.τ).loc Cert.KernelLhIdeal.main_arg1)
      ∧ m' ((c.tc : Thread Cert.ReferenceLhIdeal.nD Cert.ReferenceLhIdeal.τ).loc Cert.ReferenceLhIdeal.main_arg2) = m ((c.tc : Thread Cert.KernelLhIdeal.nD Cert.KernelLhIdeal.τ).loc Cert.KernelLhIdeal.main_arg2)) →
    ∃ (v0 : (c : Dev Cert.KernelLhIdeal.nD) → Buf (Elt Ideal) ((c.tc : Thread Cert.KernelLhIdeal.nD Cert.KernelLhIdeal.τ).loc Cert.KernelLhIdeal.main_v1_0)) (v1 : (c : Dev Cert.KernelLhIdeal.nD) → Buf (Elt Ideal) ((c.tc : Thread Cert.KernelLhIdeal.nD Cert.KernelLhIdeal.τ).loc Cert.KernelLhIdeal.main_v1_1)) (v2 : (c : Dev Cert.KernelLhIdeal.nD) → Buf (Elt Ideal) ((c.tc : Thread Cert.KernelLhIdeal.nD Cert.KernelLhIdeal.τ).loc Cert.KernelLhIdeal.main_v1_2)) (v3 : (c : Dev Cert.KernelLhIdeal.nD) → Buf (Elt Ideal) ((c.tc : Thread Cert.KernelLhIdeal.nD Cert.KernelLhIdeal.τ).loc Cert.KernelLhIdeal.main_v1_3)),
      θ_run (Cert.KernelLhIdeal.defs (F := Ideal)) (onTc (τ := Cert.KernelLhIdeal.τ) (Cert.KernelLhIdeal.main (F := Ideal))) ⟨m, fun _ => 0, g⟩ (fun r => ∀ c : Dev Cert.KernelLhIdeal.nD,
          r.2.mem ((c.tc : Thread Cert.KernelLhIdeal.nD Cert.KernelLhIdeal.τ).loc Cert.KernelLhIdeal.main_v1_0) = v0 c
          ∧ r.2.mem ((c.tc : Thread Cert.KernelLhIdeal.nD Cert.KernelLhIdeal.τ).loc Cert.KernelLhIdeal.main_v1_1) = v1 c
          ∧ r.2.mem ((c.tc : Thread Cert.KernelLhIdeal.nD Cert.KernelLhIdeal.τ).loc Cert.KernelLhIdeal.main_v1_2) = v2 c
          ∧ r.2.mem ((c.tc : Thread Cert.KernelLhIdeal.nD Cert.KernelLhIdeal.τ).loc Cert.KernelLhIdeal.main_v1_3) = v3 c
          ∧ r.2.mem ((c.tc : Thread Cert.KernelLhIdeal.nD Cert.KernelLhIdeal.τ).loc Cert.KernelLhIdeal.main_arg0) = m ((c.tc : Thread Cert.KernelLhIdeal.nD Cert.KernelLhIdeal.τ).loc Cert.KernelLhIdeal.main_arg0)
          ∧ r.2.mem ((c.tc : Thread Cert.KernelLhIdeal.nD Cert.KernelLhIdeal.τ).loc Cert.KernelLhIdeal.main_arg1) = m ((c.tc : Thread Cert.KernelLhIdeal.nD Cert.KernelLhIdeal.τ).loc Cert.KernelLhIdeal.main_arg1)
          ∧ r.2.mem ((c.tc : Thread Cert.KernelLhIdeal.nD Cert.KernelLhIdeal.τ).loc Cert.KernelLhIdeal.main_arg2) = m ((c.tc : Thread Cert.KernelLhIdeal.nD Cert.KernelLhIdeal.τ).loc Cert.KernelLhIdeal.main_arg2))
      ∧ θ_run (Cert.ReferenceLhIdeal.defs (F := Ideal)) (onTc (τ := Cert.ReferenceLhIdeal.τ) (Cert.ReferenceLhIdeal.main (F := Ideal))) ⟨m', fun _ => 0, g'⟩ (fun r => ∀ c : Dev Cert.ReferenceLhIdeal.nD,
          r.2.mem ((c.tc : Thread Cert.ReferenceLhIdeal.nD Cert.ReferenceLhIdeal.τ).loc Cert.ReferenceLhIdeal.main_v51) = v0 c
          ∧ r.2.mem ((c.tc : Thread Cert.ReferenceLhIdeal.nD Cert.ReferenceLhIdeal.τ).loc Cert.ReferenceLhIdeal.main_v50) = v1 c
          ∧ r.2.mem ((c.tc : Thread Cert.ReferenceLhIdeal.nD Cert.ReferenceLhIdeal.τ).loc Cert.ReferenceLhIdeal.main_v52) = v2 c
          ∧ r.2.mem ((c.tc : Thread Cert.ReferenceLhIdeal.nD Cert.ReferenceLhIdeal.τ).loc Cert.ReferenceLhIdeal.main_v53) = v3 c
          ∧ r.2.mem ((c.tc : Thread Cert.ReferenceLhIdeal.nD Cert.ReferenceLhIdeal.τ).loc Cert.ReferenceLhIdeal.main_arg0) = m' ((c.tc : Thread Cert.ReferenceLhIdeal.nD Cert.ReferenceLhIdeal.τ).loc Cert.ReferenceLhIdeal.main_arg0)
          ∧ r.2.mem ((c.tc : Thread Cert.ReferenceLhIdeal.nD Cert.ReferenceLhIdeal.τ).loc Cert.ReferenceLhIdeal.main_arg1) = m' ((c.tc : Thread Cert.ReferenceLhIdeal.nD Cert.ReferenceLhIdeal.τ).loc Cert.ReferenceLhIdeal.main_arg1)
          ∧ r.2.mem ((c.tc : Thread Cert.ReferenceLhIdeal.nD Cert.ReferenceLhIdeal.τ).loc Cert.ReferenceLhIdeal.main_arg2) = m' ((c.tc : Thread Cert.ReferenceLhIdeal.nD Cert.ReferenceLhIdeal.τ).loc Cert.ReferenceLhIdeal.main_arg2))

def preserves_KernelAdA_KernelAdAIdeal : Prop :=
  True

def algebraic_KernelAdAIdeal_ReferenceAdAIdeal [hKernelAdAIdeal : Cert.KernelAdAIdeal.Facts] [hReferenceAdAIdeal : Cert.ReferenceAdAIdeal.Facts] : Prop :=
  ∀ (m : (ℓ : Loc Cert.KernelAdAIdeal.nD Cert.KernelAdAIdeal.τ Cert.KernelAdAIdeal.sig) → Buf (Elt Ideal) ℓ) (g : Dev Cert.KernelAdAIdeal.nD → PrngReg)
    (m' : (ℓ : Loc Cert.ReferenceAdAIdeal.nD Cert.ReferenceAdAIdeal.τ Cert.ReferenceAdAIdeal.sig) → Buf (Elt Ideal) ℓ) (g' : Dev Cert.ReferenceAdAIdeal.nD → PrngReg), Pre_KernelAdAIdeal m →
    (∀ c : Dev Cert.KernelAdAIdeal.nD,
      m' ((c.tc : Thread Cert.ReferenceAdAIdeal.nD Cert.ReferenceAdAIdeal.τ).loc Cert.ReferenceAdAIdeal.main_arg0) = m ((c.tc : Thread Cert.KernelAdAIdeal.nD Cert.KernelAdAIdeal.τ).loc Cert.KernelAdAIdeal.main_arg0)
      ∧ m' ((c.tc : Thread Cert.ReferenceAdAIdeal.nD Cert.ReferenceAdAIdeal.τ).loc Cert.ReferenceAdAIdeal.main_arg1) = m ((c.tc : Thread Cert.KernelAdAIdeal.nD Cert.KernelAdAIdeal.τ).loc Cert.KernelAdAIdeal.main_arg1)
      ∧ m' ((c.tc : Thread Cert.ReferenceAdAIdeal.nD Cert.ReferenceAdAIdeal.τ).loc Cert.ReferenceAdAIdeal.main_arg2) = m ((c.tc : Thread Cert.KernelAdAIdeal.nD Cert.KernelAdAIdeal.τ).loc Cert.KernelAdAIdeal.main_arg2)
      ∧ m' ((c.tc : Thread Cert.ReferenceAdAIdeal.nD Cert.ReferenceAdAIdeal.τ).loc Cert.ReferenceAdAIdeal.main_arg3) = m ((c.tc : Thread Cert.KernelAdAIdeal.nD Cert.KernelAdAIdeal.τ).loc Cert.KernelAdAIdeal.main_arg3)) →
    ∃ (v0 : (c : Dev Cert.KernelAdAIdeal.nD) → Buf (Elt Ideal) ((c.tc : Thread Cert.KernelAdAIdeal.nD Cert.KernelAdAIdeal.τ).loc Cert.KernelAdAIdeal.main_v0_0)) (v1 : (c : Dev Cert.KernelAdAIdeal.nD) → Buf (Elt Ideal) ((c.tc : Thread Cert.KernelAdAIdeal.nD Cert.KernelAdAIdeal.τ).loc Cert.KernelAdAIdeal.main_v0_1)) (v2 : (c : Dev Cert.KernelAdAIdeal.nD) → Buf (Elt Ideal) ((c.tc : Thread Cert.KernelAdAIdeal.nD Cert.KernelAdAIdeal.τ).loc Cert.KernelAdAIdeal.main_v0_2)) (v3 : (c : Dev Cert.KernelAdAIdeal.nD) → Buf (Elt Ideal) ((c.tc : Thread Cert.KernelAdAIdeal.nD Cert.KernelAdAIdeal.τ).loc Cert.KernelAdAIdeal.main_v0_3)),
      θ_run (Cert.KernelAdAIdeal.defs (F := Ideal)) (onTc (τ := Cert.KernelAdAIdeal.τ) (Cert.KernelAdAIdeal.main (F := Ideal))) ⟨m, fun _ => 0, g⟩ (fun r => ∀ c : Dev Cert.KernelAdAIdeal.nD,
          r.2.mem ((c.tc : Thread Cert.KernelAdAIdeal.nD Cert.KernelAdAIdeal.τ).loc Cert.KernelAdAIdeal.main_v0_0) = v0 c
          ∧ r.2.mem ((c.tc : Thread Cert.KernelAdAIdeal.nD Cert.KernelAdAIdeal.τ).loc Cert.KernelAdAIdeal.main_v0_1) = v1 c
          ∧ r.2.mem ((c.tc : Thread Cert.KernelAdAIdeal.nD Cert.KernelAdAIdeal.τ).loc Cert.KernelAdAIdeal.main_v0_2) = v2 c
          ∧ r.2.mem ((c.tc : Thread Cert.KernelAdAIdeal.nD Cert.KernelAdAIdeal.τ).loc Cert.KernelAdAIdeal.main_v0_3) = v3 c
          ∧ r.2.mem ((c.tc : Thread Cert.KernelAdAIdeal.nD Cert.KernelAdAIdeal.τ).loc Cert.KernelAdAIdeal.main_arg0) = m ((c.tc : Thread Cert.KernelAdAIdeal.nD Cert.KernelAdAIdeal.τ).loc Cert.KernelAdAIdeal.main_arg0)
          ∧ r.2.mem ((c.tc : Thread Cert.KernelAdAIdeal.nD Cert.KernelAdAIdeal.τ).loc Cert.KernelAdAIdeal.main_arg1) = m ((c.tc : Thread Cert.KernelAdAIdeal.nD Cert.KernelAdAIdeal.τ).loc Cert.KernelAdAIdeal.main_arg1)
          ∧ r.2.mem ((c.tc : Thread Cert.KernelAdAIdeal.nD Cert.KernelAdAIdeal.τ).loc Cert.KernelAdAIdeal.main_arg2) = m ((c.tc : Thread Cert.KernelAdAIdeal.nD Cert.KernelAdAIdeal.τ).loc Cert.KernelAdAIdeal.main_arg2)
          ∧ r.2.mem ((c.tc : Thread Cert.KernelAdAIdeal.nD Cert.KernelAdAIdeal.τ).loc Cert.KernelAdAIdeal.main_arg3) = m ((c.tc : Thread Cert.KernelAdAIdeal.nD Cert.KernelAdAIdeal.τ).loc Cert.KernelAdAIdeal.main_arg3))
      ∧ θ_run (Cert.ReferenceAdAIdeal.defs (F := Ideal)) (onTc (τ := Cert.ReferenceAdAIdeal.τ) (Cert.ReferenceAdAIdeal.main (F := Ideal))) ⟨m', fun _ => 0, g'⟩ (fun r => ∀ c : Dev Cert.ReferenceAdAIdeal.nD,
          r.2.mem ((c.tc : Thread Cert.ReferenceAdAIdeal.nD Cert.ReferenceAdAIdeal.τ).loc Cert.ReferenceAdAIdeal.main_arg1) = v0 c
          ∧ r.2.mem ((c.tc : Thread Cert.ReferenceAdAIdeal.nD Cert.ReferenceAdAIdeal.τ).loc Cert.ReferenceAdAIdeal.main_v23) = v1 c
          ∧ r.2.mem ((c.tc : Thread Cert.ReferenceAdAIdeal.nD Cert.ReferenceAdAIdeal.τ).loc Cert.ReferenceAdAIdeal.main_v4) = v2 c
          ∧ r.2.mem ((c.tc : Thread Cert.ReferenceAdAIdeal.nD Cert.ReferenceAdAIdeal.τ).loc Cert.ReferenceAdAIdeal.main_v10) = v3 c
          ∧ r.2.mem ((c.tc : Thread Cert.ReferenceAdAIdeal.nD Cert.ReferenceAdAIdeal.τ).loc Cert.ReferenceAdAIdeal.main_arg0) = m' ((c.tc : Thread Cert.ReferenceAdAIdeal.nD Cert.ReferenceAdAIdeal.τ).loc Cert.ReferenceAdAIdeal.main_arg0)
          ∧ r.2.mem ((c.tc : Thread Cert.ReferenceAdAIdeal.nD Cert.ReferenceAdAIdeal.τ).loc Cert.ReferenceAdAIdeal.main_arg1) = m' ((c.tc : Thread Cert.ReferenceAdAIdeal.nD Cert.ReferenceAdAIdeal.τ).loc Cert.ReferenceAdAIdeal.main_arg1)
          ∧ r.2.mem ((c.tc : Thread Cert.ReferenceAdAIdeal.nD Cert.ReferenceAdAIdeal.τ).loc Cert.ReferenceAdAIdeal.main_arg2) = m' ((c.tc : Thread Cert.ReferenceAdAIdeal.nD Cert.ReferenceAdAIdeal.τ).loc Cert.ReferenceAdAIdeal.main_arg2)
          ∧ r.2.mem ((c.tc : Thread Cert.ReferenceAdAIdeal.nD Cert.ReferenceAdAIdeal.τ).loc Cert.ReferenceAdAIdeal.main_arg3) = m' ((c.tc : Thread Cert.ReferenceAdAIdeal.nD Cert.ReferenceAdAIdeal.τ).loc Cert.ReferenceAdAIdeal.main_arg3))

def preserves_KernelAdB_KernelAdBIdeal : Prop :=
  True

def algebraic_KernelAdBIdeal_ReferenceAdBIdeal [hKernelAdBIdeal : Cert.KernelAdBIdeal.Facts] [hReferenceAdBIdeal : Cert.ReferenceAdBIdeal.Facts] : Prop :=
  ∀ (m : (ℓ : Loc Cert.KernelAdBIdeal.nD Cert.KernelAdBIdeal.τ Cert.KernelAdBIdeal.sig) → Buf (Elt Ideal) ℓ) (g : Dev Cert.KernelAdBIdeal.nD → PrngReg)
    (m' : (ℓ : Loc Cert.ReferenceAdBIdeal.nD Cert.ReferenceAdBIdeal.τ Cert.ReferenceAdBIdeal.sig) → Buf (Elt Ideal) ℓ) (g' : Dev Cert.ReferenceAdBIdeal.nD → PrngReg), Pre_KernelAdBIdeal m →
    (∀ c : Dev Cert.KernelAdBIdeal.nD,
      m' ((c.tc : Thread Cert.ReferenceAdBIdeal.nD Cert.ReferenceAdBIdeal.τ).loc Cert.ReferenceAdBIdeal.main_arg0) = m ((c.tc : Thread Cert.KernelAdBIdeal.nD Cert.KernelAdBIdeal.τ).loc Cert.KernelAdBIdeal.main_arg0)
      ∧ m' ((c.tc : Thread Cert.ReferenceAdBIdeal.nD Cert.ReferenceAdBIdeal.τ).loc Cert.ReferenceAdBIdeal.main_arg1) = m ((c.tc : Thread Cert.KernelAdBIdeal.nD Cert.KernelAdBIdeal.τ).loc Cert.KernelAdBIdeal.main_arg1)
      ∧ m' ((c.tc : Thread Cert.ReferenceAdBIdeal.nD Cert.ReferenceAdBIdeal.τ).loc Cert.ReferenceAdBIdeal.main_arg2) = m ((c.tc : Thread Cert.KernelAdBIdeal.nD Cert.KernelAdBIdeal.τ).loc Cert.KernelAdBIdeal.main_arg2)
      ∧ m' ((c.tc : Thread Cert.ReferenceAdBIdeal.nD Cert.ReferenceAdBIdeal.τ).loc Cert.ReferenceAdBIdeal.main_arg3) = m ((c.tc : Thread Cert.KernelAdBIdeal.nD Cert.KernelAdBIdeal.τ).loc Cert.KernelAdBIdeal.main_arg3)) →
    ∃ (v0 : (c : Dev Cert.KernelAdBIdeal.nD) → Buf (Elt Ideal) ((c.tc : Thread Cert.KernelAdBIdeal.nD Cert.KernelAdBIdeal.τ).loc Cert.KernelAdBIdeal.main_v0_0)) (v1 : (c : Dev Cert.KernelAdBIdeal.nD) → Buf (Elt Ideal) ((c.tc : Thread Cert.KernelAdBIdeal.nD Cert.KernelAdBIdeal.τ).loc Cert.KernelAdBIdeal.main_v0_1)) (v2 : (c : Dev Cert.KernelAdBIdeal.nD) → Buf (Elt Ideal) ((c.tc : Thread Cert.KernelAdBIdeal.nD Cert.KernelAdBIdeal.τ).loc Cert.KernelAdBIdeal.main_v0_2)) (v3 : (c : Dev Cert.KernelAdBIdeal.nD) → Buf (Elt Ideal) ((c.tc : Thread Cert.KernelAdBIdeal.nD Cert.KernelAdBIdeal.τ).loc Cert.KernelAdBIdeal.main_v0_3)),
      θ_run (Cert.KernelAdBIdeal.defs (F := Ideal)) (onTc (τ := Cert.KernelAdBIdeal.τ) (Cert.KernelAdBIdeal.main (F := Ideal))) ⟨m, fun _ => 0, g⟩ (fun r => ∀ c : Dev Cert.KernelAdBIdeal.nD,
          r.2.mem ((c.tc : Thread Cert.KernelAdBIdeal.nD Cert.KernelAdBIdeal.τ).loc Cert.KernelAdBIdeal.main_v0_0) = v0 c
          ∧ r.2.mem ((c.tc : Thread Cert.KernelAdBIdeal.nD Cert.KernelAdBIdeal.τ).loc Cert.KernelAdBIdeal.main_v0_1) = v1 c
          ∧ r.2.mem ((c.tc : Thread Cert.KernelAdBIdeal.nD Cert.KernelAdBIdeal.τ).loc Cert.KernelAdBIdeal.main_v0_2) = v2 c
          ∧ r.2.mem ((c.tc : Thread Cert.KernelAdBIdeal.nD Cert.KernelAdBIdeal.τ).loc Cert.KernelAdBIdeal.main_v0_3) = v3 c
          ∧ r.2.mem ((c.tc : Thread Cert.KernelAdBIdeal.nD Cert.KernelAdBIdeal.τ).loc Cert.KernelAdBIdeal.main_arg0) = m ((c.tc : Thread Cert.KernelAdBIdeal.nD Cert.KernelAdBIdeal.τ).loc Cert.KernelAdBIdeal.main_arg0)
          ∧ r.2.mem ((c.tc : Thread Cert.KernelAdBIdeal.nD Cert.KernelAdBIdeal.τ).loc Cert.KernelAdBIdeal.main_arg1) = m ((c.tc : Thread Cert.KernelAdBIdeal.nD Cert.KernelAdBIdeal.τ).loc Cert.KernelAdBIdeal.main_arg1)
          ∧ r.2.mem ((c.tc : Thread Cert.KernelAdBIdeal.nD Cert.KernelAdBIdeal.τ).loc Cert.KernelAdBIdeal.main_arg2) = m ((c.tc : Thread Cert.KernelAdBIdeal.nD Cert.KernelAdBIdeal.τ).loc Cert.KernelAdBIdeal.main_arg2)
          ∧ r.2.mem ((c.tc : Thread Cert.KernelAdBIdeal.nD Cert.KernelAdBIdeal.τ).loc Cert.KernelAdBIdeal.main_arg3) = m ((c.tc : Thread Cert.KernelAdBIdeal.nD Cert.KernelAdBIdeal.τ).loc Cert.KernelAdBIdeal.main_arg3))
      ∧ θ_run (Cert.ReferenceAdBIdeal.defs (F := Ideal)) (onTc (τ := Cert.ReferenceAdBIdeal.τ) (Cert.ReferenceAdBIdeal.main (F := Ideal))) ⟨m', fun _ => 0, g'⟩ (fun r => ∀ c : Dev Cert.ReferenceAdBIdeal.nD,
          r.2.mem ((c.tc : Thread Cert.ReferenceAdBIdeal.nD Cert.ReferenceAdBIdeal.τ).loc Cert.ReferenceAdBIdeal.main_arg1) = v0 c
          ∧ r.2.mem ((c.tc : Thread Cert.ReferenceAdBIdeal.nD Cert.ReferenceAdBIdeal.τ).loc Cert.ReferenceAdBIdeal.main_v23) = v1 c
          ∧ r.2.mem ((c.tc : Thread Cert.ReferenceAdBIdeal.nD Cert.ReferenceAdBIdeal.τ).loc Cert.ReferenceAdBIdeal.main_v4) = v2 c
          ∧ r.2.mem ((c.tc : Thread Cert.ReferenceAdBIdeal.nD Cert.ReferenceAdBIdeal.τ).loc Cert.ReferenceAdBIdeal.main_v10) = v3 c
          ∧ r.2.mem ((c.tc : Thread Cert.ReferenceAdBIdeal.nD Cert.ReferenceAdBIdeal.τ).loc Cert.ReferenceAdBIdeal.main_arg0) = m' ((c.tc : Thread Cert.ReferenceAdBIdeal.nD Cert.ReferenceAdBIdeal.τ).loc Cert.ReferenceAdBIdeal.main_arg0)
          ∧ r.2.mem ((c.tc : Thread Cert.ReferenceAdBIdeal.nD Cert.ReferenceAdBIdeal.τ).loc Cert.ReferenceAdBIdeal.main_arg1) = m' ((c.tc : Thread Cert.ReferenceAdBIdeal.nD Cert.ReferenceAdBIdeal.τ).loc Cert.ReferenceAdBIdeal.main_arg1)
          ∧ r.2.mem ((c.tc : Thread Cert.ReferenceAdBIdeal.nD Cert.ReferenceAdBIdeal.τ).loc Cert.ReferenceAdBIdeal.main_arg2) = m' ((c.tc : Thread Cert.ReferenceAdBIdeal.nD Cert.ReferenceAdBIdeal.τ).loc Cert.ReferenceAdBIdeal.main_arg2)
          ∧ r.2.mem ((c.tc : Thread Cert.ReferenceAdBIdeal.nD Cert.ReferenceAdBIdeal.τ).loc Cert.ReferenceAdBIdeal.main_arg3) = m' ((c.tc : Thread Cert.ReferenceAdBIdeal.nD Cert.ReferenceAdBIdeal.τ).loc Cert.ReferenceAdBIdeal.main_arg3))

def preserves_KernelAdC_KernelAdCIdeal : Prop :=
  True

def algebraic_KernelAdCIdeal_ReferenceAdCIdeal [hKernelAdCIdeal : Cert.KernelAdCIdeal.Facts] [hReferenceAdCIdeal : Cert.ReferenceAdCIdeal.Facts] : Prop :=
  ∀ (m : (ℓ : Loc Cert.KernelAdCIdeal.nD Cert.KernelAdCIdeal.τ Cert.KernelAdCIdeal.sig) → Buf (Elt Ideal) ℓ) (g : Dev Cert.KernelAdCIdeal.nD → PrngReg)
    (m' : (ℓ : Loc Cert.ReferenceAdCIdeal.nD Cert.ReferenceAdCIdeal.τ Cert.ReferenceAdCIdeal.sig) → Buf (Elt Ideal) ℓ) (g' : Dev Cert.ReferenceAdCIdeal.nD → PrngReg), Pre_KernelAdCIdeal m →
    (∀ c : Dev Cert.KernelAdCIdeal.nD,
      m' ((c.tc : Thread Cert.ReferenceAdCIdeal.nD Cert.ReferenceAdCIdeal.τ).loc Cert.ReferenceAdCIdeal.main_arg0) = m ((c.tc : Thread Cert.KernelAdCIdeal.nD Cert.KernelAdCIdeal.τ).loc Cert.KernelAdCIdeal.main_arg0)
      ∧ m' ((c.tc : Thread Cert.ReferenceAdCIdeal.nD Cert.ReferenceAdCIdeal.τ).loc Cert.ReferenceAdCIdeal.main_arg1) = m ((c.tc : Thread Cert.KernelAdCIdeal.nD Cert.KernelAdCIdeal.τ).loc Cert.KernelAdCIdeal.main_arg1)
      ∧ m' ((c.tc : Thread Cert.ReferenceAdCIdeal.nD Cert.ReferenceAdCIdeal.τ).loc Cert.ReferenceAdCIdeal.main_arg2) = m ((c.tc : Thread Cert.KernelAdCIdeal.nD Cert.KernelAdCIdeal.τ).loc Cert.KernelAdCIdeal.main_arg2)
      ∧ m' ((c.tc : Thread Cert.ReferenceAdCIdeal.nD Cert.ReferenceAdCIdeal.τ).loc Cert.ReferenceAdCIdeal.main_arg3) = m ((c.tc : Thread Cert.KernelAdCIdeal.nD Cert.KernelAdCIdeal.τ).loc Cert.KernelAdCIdeal.main_arg3)) →
    ∃ (v0 : (c : Dev Cert.KernelAdCIdeal.nD) → Buf (Elt Ideal) ((c.tc : Thread Cert.KernelAdCIdeal.nD Cert.KernelAdCIdeal.τ).loc Cert.KernelAdCIdeal.main_v0_0)) (v1 : (c : Dev Cert.KernelAdCIdeal.nD) → Buf (Elt Ideal) ((c.tc : Thread Cert.KernelAdCIdeal.nD Cert.KernelAdCIdeal.τ).loc Cert.KernelAdCIdeal.main_v0_1)) (v2 : (c : Dev Cert.KernelAdCIdeal.nD) → Buf (Elt Ideal) ((c.tc : Thread Cert.KernelAdCIdeal.nD Cert.KernelAdCIdeal.τ).loc Cert.KernelAdCIdeal.main_v0_2)) (v3 : (c : Dev Cert.KernelAdCIdeal.nD) → Buf (Elt Ideal) ((c.tc : Thread Cert.KernelAdCIdeal.nD Cert.KernelAdCIdeal.τ).loc Cert.KernelAdCIdeal.main_v0_3)),
      θ_run (Cert.KernelAdCIdeal.defs (F := Ideal)) (onTc (τ := Cert.KernelAdCIdeal.τ) (Cert.KernelAdCIdeal.main (F := Ideal))) ⟨m, fun _ => 0, g⟩ (fun r => ∀ c : Dev Cert.KernelAdCIdeal.nD,
          r.2.mem ((c.tc : Thread Cert.KernelAdCIdeal.nD Cert.KernelAdCIdeal.τ).loc Cert.KernelAdCIdeal.main_v0_0) = v0 c
          ∧ r.2.mem ((c.tc : Thread Cert.KernelAdCIdeal.nD Cert.KernelAdCIdeal.τ).loc Cert.KernelAdCIdeal.main_v0_1) = v1 c
          ∧ r.2.mem ((c.tc : Thread Cert.KernelAdCIdeal.nD Cert.KernelAdCIdeal.τ).loc Cert.KernelAdCIdeal.main_v0_2) = v2 c
          ∧ r.2.mem ((c.tc : Thread Cert.KernelAdCIdeal.nD Cert.KernelAdCIdeal.τ).loc Cert.KernelAdCIdeal.main_v0_3) = v3 c
          ∧ r.2.mem ((c.tc : Thread Cert.KernelAdCIdeal.nD Cert.KernelAdCIdeal.τ).loc Cert.KernelAdCIdeal.main_arg0) = m ((c.tc : Thread Cert.KernelAdCIdeal.nD Cert.KernelAdCIdeal.τ).loc Cert.KernelAdCIdeal.main_arg0)
          ∧ r.2.mem ((c.tc : Thread Cert.KernelAdCIdeal.nD Cert.KernelAdCIdeal.τ).loc Cert.KernelAdCIdeal.main_arg1) = m ((c.tc : Thread Cert.KernelAdCIdeal.nD Cert.KernelAdCIdeal.τ).loc Cert.KernelAdCIdeal.main_arg1)
          ∧ r.2.mem ((c.tc : Thread Cert.KernelAdCIdeal.nD Cert.KernelAdCIdeal.τ).loc Cert.KernelAdCIdeal.main_arg2) = m ((c.tc : Thread Cert.KernelAdCIdeal.nD Cert.KernelAdCIdeal.τ).loc Cert.KernelAdCIdeal.main_arg2)
          ∧ r.2.mem ((c.tc : Thread Cert.KernelAdCIdeal.nD Cert.KernelAdCIdeal.τ).loc Cert.KernelAdCIdeal.main_arg3) = m ((c.tc : Thread Cert.KernelAdCIdeal.nD Cert.KernelAdCIdeal.τ).loc Cert.KernelAdCIdeal.main_arg3))
      ∧ θ_run (Cert.ReferenceAdCIdeal.defs (F := Ideal)) (onTc (τ := Cert.ReferenceAdCIdeal.τ) (Cert.ReferenceAdCIdeal.main (F := Ideal))) ⟨m', fun _ => 0, g'⟩ (fun r => ∀ c : Dev Cert.ReferenceAdCIdeal.nD,
          r.2.mem ((c.tc : Thread Cert.ReferenceAdCIdeal.nD Cert.ReferenceAdCIdeal.τ).loc Cert.ReferenceAdCIdeal.main_arg1) = v0 c
          ∧ r.2.mem ((c.tc : Thread Cert.ReferenceAdCIdeal.nD Cert.ReferenceAdCIdeal.τ).loc Cert.ReferenceAdCIdeal.main_v23) = v1 c
          ∧ r.2.mem ((c.tc : Thread Cert.ReferenceAdCIdeal.nD Cert.ReferenceAdCIdeal.τ).loc Cert.ReferenceAdCIdeal.main_v4) = v2 c
          ∧ r.2.mem ((c.tc : Thread Cert.ReferenceAdCIdeal.nD Cert.ReferenceAdCIdeal.τ).loc Cert.ReferenceAdCIdeal.main_v10) = v3 c
          ∧ r.2.mem ((c.tc : Thread Cert.ReferenceAdCIdeal.nD Cert.ReferenceAdCIdeal.τ).loc Cert.ReferenceAdCIdeal.main_arg0) = m' ((c.tc : Thread Cert.ReferenceAdCIdeal.nD Cert.ReferenceAdCIdeal.τ).loc Cert.ReferenceAdCIdeal.main_arg0)
          ∧ r.2.mem ((c.tc : Thread Cert.ReferenceAdCIdeal.nD Cert.ReferenceAdCIdeal.τ).loc Cert.ReferenceAdCIdeal.main_arg1) = m' ((c.tc : Thread Cert.ReferenceAdCIdeal.nD Cert.ReferenceAdCIdeal.τ).loc Cert.ReferenceAdCIdeal.main_arg1)
          ∧ r.2.mem ((c.tc : Thread Cert.ReferenceAdCIdeal.nD Cert.ReferenceAdCIdeal.τ).loc Cert.ReferenceAdCIdeal.main_arg2) = m' ((c.tc : Thread Cert.ReferenceAdCIdeal.nD Cert.ReferenceAdCIdeal.τ).loc Cert.ReferenceAdCIdeal.main_arg2)
          ∧ r.2.mem ((c.tc : Thread Cert.ReferenceAdCIdeal.nD Cert.ReferenceAdCIdeal.τ).loc Cert.ReferenceAdCIdeal.main_arg3) = m' ((c.tc : Thread Cert.ReferenceAdCIdeal.nD Cert.ReferenceAdCIdeal.τ).loc Cert.ReferenceAdCIdeal.main_arg3))

def preserves_KernelAdD_KernelAdDIdeal : Prop :=
  True

def algebraic_KernelAdDIdeal_ReferenceAdDIdeal [hKernelAdDIdeal : Cert.KernelAdDIdeal.Facts] [hReferenceAdDIdeal : Cert.ReferenceAdDIdeal.Facts] : Prop :=
  ∀ (m : (ℓ : Loc Cert.KernelAdDIdeal.nD Cert.KernelAdDIdeal.τ Cert.KernelAdDIdeal.sig) → Buf (Elt Ideal) ℓ) (g : Dev Cert.KernelAdDIdeal.nD → PrngReg)
    (m' : (ℓ : Loc Cert.ReferenceAdDIdeal.nD Cert.ReferenceAdDIdeal.τ Cert.ReferenceAdDIdeal.sig) → Buf (Elt Ideal) ℓ) (g' : Dev Cert.ReferenceAdDIdeal.nD → PrngReg), Pre_KernelAdDIdeal m →
    (∀ c : Dev Cert.KernelAdDIdeal.nD,
      m' ((c.tc : Thread Cert.ReferenceAdDIdeal.nD Cert.ReferenceAdDIdeal.τ).loc Cert.ReferenceAdDIdeal.main_arg0) = m ((c.tc : Thread Cert.KernelAdDIdeal.nD Cert.KernelAdDIdeal.τ).loc Cert.KernelAdDIdeal.main_arg0)
      ∧ m' ((c.tc : Thread Cert.ReferenceAdDIdeal.nD Cert.ReferenceAdDIdeal.τ).loc Cert.ReferenceAdDIdeal.main_arg1) = m ((c.tc : Thread Cert.KernelAdDIdeal.nD Cert.KernelAdDIdeal.τ).loc Cert.KernelAdDIdeal.main_arg1)
      ∧ m' ((c.tc : Thread Cert.ReferenceAdDIdeal.nD Cert.ReferenceAdDIdeal.τ).loc Cert.ReferenceAdDIdeal.main_arg2) = m ((c.tc : Thread Cert.KernelAdDIdeal.nD Cert.KernelAdDIdeal.τ).loc Cert.KernelAdDIdeal.main_arg2)
      ∧ m' ((c.tc : Thread Cert.ReferenceAdDIdeal.nD Cert.ReferenceAdDIdeal.τ).loc Cert.ReferenceAdDIdeal.main_arg3) = m ((c.tc : Thread Cert.KernelAdDIdeal.nD Cert.KernelAdDIdeal.τ).loc Cert.KernelAdDIdeal.main_arg3)) →
    ∃ (v0 : (c : Dev Cert.KernelAdDIdeal.nD) → Buf (Elt Ideal) ((c.tc : Thread Cert.KernelAdDIdeal.nD Cert.KernelAdDIdeal.τ).loc Cert.KernelAdDIdeal.main_v0_0)) (v1 : (c : Dev Cert.KernelAdDIdeal.nD) → Buf (Elt Ideal) ((c.tc : Thread Cert.KernelAdDIdeal.nD Cert.KernelAdDIdeal.τ).loc Cert.KernelAdDIdeal.main_v0_1)) (v2 : (c : Dev Cert.KernelAdDIdeal.nD) → Buf (Elt Ideal) ((c.tc : Thread Cert.KernelAdDIdeal.nD Cert.KernelAdDIdeal.τ).loc Cert.KernelAdDIdeal.main_v0_2)) (v3 : (c : Dev Cert.KernelAdDIdeal.nD) → Buf (Elt Ideal) ((c.tc : Thread Cert.KernelAdDIdeal.nD Cert.KernelAdDIdeal.τ).loc Cert.KernelAdDIdeal.main_v0_3)),
      θ_run (Cert.KernelAdDIdeal.defs (F := Ideal)) (onTc (τ := Cert.KernelAdDIdeal.τ) (Cert.KernelAdDIdeal.main (F := Ideal))) ⟨m, fun _ => 0, g⟩ (fun r => ∀ c : Dev Cert.KernelAdDIdeal.nD,
          r.2.mem ((c.tc : Thread Cert.KernelAdDIdeal.nD Cert.KernelAdDIdeal.τ).loc Cert.KernelAdDIdeal.main_v0_0) = v0 c
          ∧ r.2.mem ((c.tc : Thread Cert.KernelAdDIdeal.nD Cert.KernelAdDIdeal.τ).loc Cert.KernelAdDIdeal.main_v0_1) = v1 c
          ∧ r.2.mem ((c.tc : Thread Cert.KernelAdDIdeal.nD Cert.KernelAdDIdeal.τ).loc Cert.KernelAdDIdeal.main_v0_2) = v2 c
          ∧ r.2.mem ((c.tc : Thread Cert.KernelAdDIdeal.nD Cert.KernelAdDIdeal.τ).loc Cert.KernelAdDIdeal.main_v0_3) = v3 c
          ∧ r.2.mem ((c.tc : Thread Cert.KernelAdDIdeal.nD Cert.KernelAdDIdeal.τ).loc Cert.KernelAdDIdeal.main_arg0) = m ((c.tc : Thread Cert.KernelAdDIdeal.nD Cert.KernelAdDIdeal.τ).loc Cert.KernelAdDIdeal.main_arg0)
          ∧ r.2.mem ((c.tc : Thread Cert.KernelAdDIdeal.nD Cert.KernelAdDIdeal.τ).loc Cert.KernelAdDIdeal.main_arg1) = m ((c.tc : Thread Cert.KernelAdDIdeal.nD Cert.KernelAdDIdeal.τ).loc Cert.KernelAdDIdeal.main_arg1)
          ∧ r.2.mem ((c.tc : Thread Cert.KernelAdDIdeal.nD Cert.KernelAdDIdeal.τ).loc Cert.KernelAdDIdeal.main_arg2) = m ((c.tc : Thread Cert.KernelAdDIdeal.nD Cert.KernelAdDIdeal.τ).loc Cert.KernelAdDIdeal.main_arg2)
          ∧ r.2.mem ((c.tc : Thread Cert.KernelAdDIdeal.nD Cert.KernelAdDIdeal.τ).loc Cert.KernelAdDIdeal.main_arg3) = m ((c.tc : Thread Cert.KernelAdDIdeal.nD Cert.KernelAdDIdeal.τ).loc Cert.KernelAdDIdeal.main_arg3))
      ∧ θ_run (Cert.ReferenceAdDIdeal.defs (F := Ideal)) (onTc (τ := Cert.ReferenceAdDIdeal.τ) (Cert.ReferenceAdDIdeal.main (F := Ideal))) ⟨m', fun _ => 0, g'⟩ (fun r => ∀ c : Dev Cert.ReferenceAdDIdeal.nD,
          r.2.mem ((c.tc : Thread Cert.ReferenceAdDIdeal.nD Cert.ReferenceAdDIdeal.τ).loc Cert.ReferenceAdDIdeal.main_arg1) = v0 c
          ∧ r.2.mem ((c.tc : Thread Cert.ReferenceAdDIdeal.nD Cert.ReferenceAdDIdeal.τ).loc Cert.ReferenceAdDIdeal.main_v23) = v1 c
          ∧ r.2.mem ((c.tc : Thread Cert.ReferenceAdDIdeal.nD Cert.ReferenceAdDIdeal.τ).loc Cert.ReferenceAdDIdeal.main_v4) = v2 c
          ∧ r.2.mem ((c.tc : Thread Cert.ReferenceAdDIdeal.nD Cert.ReferenceAdDIdeal.τ).loc Cert.ReferenceAdDIdeal.main_v10) = v3 c
          ∧ r.2.mem ((c.tc : Thread Cert.ReferenceAdDIdeal.nD Cert.ReferenceAdDIdeal.τ).loc Cert.ReferenceAdDIdeal.main_arg0) = m' ((c.tc : Thread Cert.ReferenceAdDIdeal.nD Cert.ReferenceAdDIdeal.τ).loc Cert.ReferenceAdDIdeal.main_arg0)
          ∧ r.2.mem ((c.tc : Thread Cert.ReferenceAdDIdeal.nD Cert.ReferenceAdDIdeal.τ).loc Cert.ReferenceAdDIdeal.main_arg1) = m' ((c.tc : Thread Cert.ReferenceAdDIdeal.nD Cert.ReferenceAdDIdeal.τ).loc Cert.ReferenceAdDIdeal.main_arg1)
          ∧ r.2.mem ((c.tc : Thread Cert.ReferenceAdDIdeal.nD Cert.ReferenceAdDIdeal.τ).loc Cert.ReferenceAdDIdeal.main_arg2) = m' ((c.tc : Thread Cert.ReferenceAdDIdeal.nD Cert.ReferenceAdDIdeal.τ).loc Cert.ReferenceAdDIdeal.main_arg2)
          ∧ r.2.mem ((c.tc : Thread Cert.ReferenceAdDIdeal.nD Cert.ReferenceAdDIdeal.τ).loc Cert.ReferenceAdDIdeal.main_arg3) = m' ((c.tc : Thread Cert.ReferenceAdDIdeal.nD Cert.ReferenceAdDIdeal.τ).loc Cert.ReferenceAdDIdeal.main_arg3))

def preserves_KernelAdE_KernelAdEIdeal : Prop :=
  True

def algebraic_KernelAdEIdeal_ReferenceAdEIdeal [hKernelAdEIdeal : Cert.KernelAdEIdeal.Facts] [hReferenceAdEIdeal : Cert.ReferenceAdEIdeal.Facts] : Prop :=
  ∀ (m : (ℓ : Loc Cert.KernelAdEIdeal.nD Cert.KernelAdEIdeal.τ Cert.KernelAdEIdeal.sig) → Buf (Elt Ideal) ℓ) (g : Dev Cert.KernelAdEIdeal.nD → PrngReg)
    (m' : (ℓ : Loc Cert.ReferenceAdEIdeal.nD Cert.ReferenceAdEIdeal.τ Cert.ReferenceAdEIdeal.sig) → Buf (Elt Ideal) ℓ) (g' : Dev Cert.ReferenceAdEIdeal.nD → PrngReg), Pre_KernelAdEIdeal m →
    (∀ c : Dev Cert.KernelAdEIdeal.nD,
      m' ((c.tc : Thread Cert.ReferenceAdEIdeal.nD Cert.ReferenceAdEIdeal.τ).loc Cert.ReferenceAdEIdeal.main_arg0) = m ((c.tc : Thread Cert.KernelAdEIdeal.nD Cert.KernelAdEIdeal.τ).loc Cert.KernelAdEIdeal.main_arg0)
      ∧ m' ((c.tc : Thread Cert.ReferenceAdEIdeal.nD Cert.ReferenceAdEIdeal.τ).loc Cert.ReferenceAdEIdeal.main_arg1) = m ((c.tc : Thread Cert.KernelAdEIdeal.nD Cert.KernelAdEIdeal.τ).loc Cert.KernelAdEIdeal.main_arg1)
      ∧ m' ((c.tc : Thread Cert.ReferenceAdEIdeal.nD Cert.ReferenceAdEIdeal.τ).loc Cert.ReferenceAdEIdeal.main_arg2) = m ((c.tc : Thread Cert.KernelAdEIdeal.nD Cert.KernelAdEIdeal.τ).loc Cert.KernelAdEIdeal.main_arg2)
      ∧ m' ((c.tc : Thread Cert.ReferenceAdEIdeal.nD Cert.ReferenceAdEIdeal.τ).loc Cert.ReferenceAdEIdeal.main_arg3) = m ((c.tc : Thread Cert.KernelAdEIdeal.nD Cert.KernelAdEIdeal.τ).loc Cert.KernelAdEIdeal.main_arg3)) →
    ∃ (v0 : (c : Dev Cert.KernelAdEIdeal.nD) → Buf (Elt Ideal) ((c.tc : Thread Cert.KernelAdEIdeal.nD Cert.KernelAdEIdeal.τ).loc Cert.KernelAdEIdeal.main_v0_0)) (v1 : (c : Dev Cert.KernelAdEIdeal.nD) → Buf (Elt Ideal) ((c.tc : Thread Cert.KernelAdEIdeal.nD Cert.KernelAdEIdeal.τ).loc Cert.KernelAdEIdeal.main_v0_1)) (v2 : (c : Dev Cert.KernelAdEIdeal.nD) → Buf (Elt Ideal) ((c.tc : Thread Cert.KernelAdEIdeal.nD Cert.KernelAdEIdeal.τ).loc Cert.KernelAdEIdeal.main_v0_2)) (v3 : (c : Dev Cert.KernelAdEIdeal.nD) → Buf (Elt Ideal) ((c.tc : Thread Cert.KernelAdEIdeal.nD Cert.KernelAdEIdeal.τ).loc Cert.KernelAdEIdeal.main_v0_3)),
      θ_run (Cert.KernelAdEIdeal.defs (F := Ideal)) (onTc (τ := Cert.KernelAdEIdeal.τ) (Cert.KernelAdEIdeal.main (F := Ideal))) ⟨m, fun _ => 0, g⟩ (fun r => ∀ c : Dev Cert.KernelAdEIdeal.nD,
          r.2.mem ((c.tc : Thread Cert.KernelAdEIdeal.nD Cert.KernelAdEIdeal.τ).loc Cert.KernelAdEIdeal.main_v0_0) = v0 c
          ∧ r.2.mem ((c.tc : Thread Cert.KernelAdEIdeal.nD Cert.KernelAdEIdeal.τ).loc Cert.KernelAdEIdeal.main_v0_1) = v1 c
          ∧ r.2.mem ((c.tc : Thread Cert.KernelAdEIdeal.nD Cert.KernelAdEIdeal.τ).loc Cert.KernelAdEIdeal.main_v0_2) = v2 c
          ∧ r.2.mem ((c.tc : Thread Cert.KernelAdEIdeal.nD Cert.KernelAdEIdeal.τ).loc Cert.KernelAdEIdeal.main_v0_3) = v3 c
          ∧ r.2.mem ((c.tc : Thread Cert.KernelAdEIdeal.nD Cert.KernelAdEIdeal.τ).loc Cert.KernelAdEIdeal.main_arg0) = m ((c.tc : Thread Cert.KernelAdEIdeal.nD Cert.KernelAdEIdeal.τ).loc Cert.KernelAdEIdeal.main_arg0)
          ∧ r.2.mem ((c.tc : Thread Cert.KernelAdEIdeal.nD Cert.KernelAdEIdeal.τ).loc Cert.KernelAdEIdeal.main_arg1) = m ((c.tc : Thread Cert.KernelAdEIdeal.nD Cert.KernelAdEIdeal.τ).loc Cert.KernelAdEIdeal.main_arg1)
          ∧ r.2.mem ((c.tc : Thread Cert.KernelAdEIdeal.nD Cert.KernelAdEIdeal.τ).loc Cert.KernelAdEIdeal.main_arg2) = m ((c.tc : Thread Cert.KernelAdEIdeal.nD Cert.KernelAdEIdeal.τ).loc Cert.KernelAdEIdeal.main_arg2)
          ∧ r.2.mem ((c.tc : Thread Cert.KernelAdEIdeal.nD Cert.KernelAdEIdeal.τ).loc Cert.KernelAdEIdeal.main_arg3) = m ((c.tc : Thread Cert.KernelAdEIdeal.nD Cert.KernelAdEIdeal.τ).loc Cert.KernelAdEIdeal.main_arg3))
      ∧ θ_run (Cert.ReferenceAdEIdeal.defs (F := Ideal)) (onTc (τ := Cert.ReferenceAdEIdeal.τ) (Cert.ReferenceAdEIdeal.main (F := Ideal))) ⟨m', fun _ => 0, g'⟩ (fun r => ∀ c : Dev Cert.ReferenceAdEIdeal.nD,
          r.2.mem ((c.tc : Thread Cert.ReferenceAdEIdeal.nD Cert.ReferenceAdEIdeal.τ).loc Cert.ReferenceAdEIdeal.main_arg1) = v0 c
          ∧ r.2.mem ((c.tc : Thread Cert.ReferenceAdEIdeal.nD Cert.ReferenceAdEIdeal.τ).loc Cert.ReferenceAdEIdeal.main_v23) = v1 c
          ∧ r.2.mem ((c.tc : Thread Cert.ReferenceAdEIdeal.nD Cert.ReferenceAdEIdeal.τ).loc Cert.ReferenceAdEIdeal.main_v4) = v2 c
          ∧ r.2.mem ((c.tc : Thread Cert.ReferenceAdEIdeal.nD Cert.ReferenceAdEIdeal.τ).loc Cert.ReferenceAdEIdeal.main_v10) = v3 c
          ∧ r.2.mem ((c.tc : Thread Cert.ReferenceAdEIdeal.nD Cert.ReferenceAdEIdeal.τ).loc Cert.ReferenceAdEIdeal.main_arg0) = m' ((c.tc : Thread Cert.ReferenceAdEIdeal.nD Cert.ReferenceAdEIdeal.τ).loc Cert.ReferenceAdEIdeal.main_arg0)
          ∧ r.2.mem ((c.tc : Thread Cert.ReferenceAdEIdeal.nD Cert.ReferenceAdEIdeal.τ).loc Cert.ReferenceAdEIdeal.main_arg1) = m' ((c.tc : Thread Cert.ReferenceAdEIdeal.nD Cert.ReferenceAdEIdeal.τ).loc Cert.ReferenceAdEIdeal.main_arg1)
          ∧ r.2.mem ((c.tc : Thread Cert.ReferenceAdEIdeal.nD Cert.ReferenceAdEIdeal.τ).loc Cert.ReferenceAdEIdeal.main_arg2) = m' ((c.tc : Thread Cert.ReferenceAdEIdeal.nD Cert.ReferenceAdEIdeal.τ).loc Cert.ReferenceAdEIdeal.main_arg2)
          ∧ r.2.mem ((c.tc : Thread Cert.ReferenceAdEIdeal.nD Cert.ReferenceAdEIdeal.τ).loc Cert.ReferenceAdEIdeal.main_arg3) = m' ((c.tc : Thread Cert.ReferenceAdEIdeal.nD Cert.ReferenceAdEIdeal.τ).loc Cert.ReferenceAdEIdeal.main_arg3))

def preserves_KernelAdS_KernelAdSIdeal : Prop :=
  True

def algebraic_KernelAdSIdeal_ReferenceAdSIdeal [hKernelAdSIdeal : Cert.KernelAdSIdeal.Facts] [hReferenceAdSIdeal : Cert.ReferenceAdSIdeal.Facts] : Prop :=
  ∀ (m : (ℓ : Loc Cert.KernelAdSIdeal.nD Cert.KernelAdSIdeal.τ Cert.KernelAdSIdeal.sig) → Buf (Elt Ideal) ℓ) (g : Dev Cert.KernelAdSIdeal.nD → PrngReg)
    (m' : (ℓ : Loc Cert.ReferenceAdSIdeal.nD Cert.ReferenceAdSIdeal.τ Cert.ReferenceAdSIdeal.sig) → Buf (Elt Ideal) ℓ) (g' : Dev Cert.ReferenceAdSIdeal.nD → PrngReg), Pre_KernelAdSIdeal m →
    (∀ c : Dev Cert.KernelAdSIdeal.nD,
      m' ((c.tc : Thread Cert.ReferenceAdSIdeal.nD Cert.ReferenceAdSIdeal.τ).loc Cert.ReferenceAdSIdeal.main_arg0) = m ((c.tc : Thread Cert.KernelAdSIdeal.nD Cert.KernelAdSIdeal.τ).loc Cert.KernelAdSIdeal.main_arg0)
      ∧ m' ((c.tc : Thread Cert.ReferenceAdSIdeal.nD Cert.ReferenceAdSIdeal.τ).loc Cert.ReferenceAdSIdeal.main_arg1) = m ((c.tc : Thread Cert.KernelAdSIdeal.nD Cert.KernelAdSIdeal.τ).loc Cert.KernelAdSIdeal.main_arg1)
      ∧ m' ((c.tc : Thread Cert.ReferenceAdSIdeal.nD Cert.ReferenceAdSIdeal.τ).loc Cert.ReferenceAdSIdeal.main_arg2) = m ((c.tc : Thread Cert.KernelAdSIdeal.nD Cert.KernelAdSIdeal.τ).loc Cert.KernelAdSIdeal.main_arg2)
      ∧ m' ((c.tc : Thread Cert.ReferenceAdSIdeal.nD Cert.ReferenceAdSIdeal.τ).loc Cert.ReferenceAdSIdeal.main_arg3) = m ((c.tc : Thread Cert.KernelAdSIdeal.nD Cert.KernelAdSIdeal.τ).loc Cert.KernelAdSIdeal.main_arg3)) →
    ∃ (v0 : (c : Dev Cert.KernelAdSIdeal.nD) → Buf (Elt Ideal) ((c.tc : Thread Cert.KernelAdSIdeal.nD Cert.KernelAdSIdeal.τ).loc Cert.KernelAdSIdeal.main_v0_0)) (v1 : (c : Dev Cert.KernelAdSIdeal.nD) → Buf (Elt Ideal) ((c.tc : Thread Cert.KernelAdSIdeal.nD Cert.KernelAdSIdeal.τ).loc Cert.KernelAdSIdeal.main_v0_1)) (v2 : (c : Dev Cert.KernelAdSIdeal.nD) → Buf (Elt Ideal) ((c.tc : Thread Cert.KernelAdSIdeal.nD Cert.KernelAdSIdeal.τ).loc Cert.KernelAdSIdeal.main_v0_2)) (v3 : (c : Dev Cert.KernelAdSIdeal.nD) → Buf (Elt Ideal) ((c.tc : Thread Cert.KernelAdSIdeal.nD Cert.KernelAdSIdeal.τ).loc Cert.KernelAdSIdeal.main_v0_3)),
      θ_run (Cert.KernelAdSIdeal.defs (F := Ideal)) (onTc (τ := Cert.KernelAdSIdeal.τ) (Cert.KernelAdSIdeal.main (F := Ideal))) ⟨m, fun _ => 0, g⟩ (fun r => ∀ c : Dev Cert.KernelAdSIdeal.nD,
          r.2.mem ((c.tc : Thread Cert.KernelAdSIdeal.nD Cert.KernelAdSIdeal.τ).loc Cert.KernelAdSIdeal.main_v0_0) = v0 c
          ∧ r.2.mem ((c.tc : Thread Cert.KernelAdSIdeal.nD Cert.KernelAdSIdeal.τ).loc Cert.KernelAdSIdeal.main_v0_1) = v1 c
          ∧ r.2.mem ((c.tc : Thread Cert.KernelAdSIdeal.nD Cert.KernelAdSIdeal.τ).loc Cert.KernelAdSIdeal.main_v0_2) = v2 c
          ∧ r.2.mem ((c.tc : Thread Cert.KernelAdSIdeal.nD Cert.KernelAdSIdeal.τ).loc Cert.KernelAdSIdeal.main_v0_3) = v3 c
          ∧ r.2.mem ((c.tc : Thread Cert.KernelAdSIdeal.nD Cert.KernelAdSIdeal.τ).loc Cert.KernelAdSIdeal.main_arg0) = m ((c.tc : Thread Cert.KernelAdSIdeal.nD Cert.KernelAdSIdeal.τ).loc Cert.KernelAdSIdeal.main_arg0)
          ∧ r.2.mem ((c.tc : Thread Cert.KernelAdSIdeal.nD Cert.KernelAdSIdeal.τ).loc Cert.KernelAdSIdeal.main_arg1) = m ((c.tc : Thread Cert.KernelAdSIdeal.nD Cert.KernelAdSIdeal.τ).loc Cert.KernelAdSIdeal.main_arg1)
          ∧ r.2.mem ((c.tc : Thread Cert.KernelAdSIdeal.nD Cert.KernelAdSIdeal.τ).loc Cert.KernelAdSIdeal.main_arg2) = m ((c.tc : Thread Cert.KernelAdSIdeal.nD Cert.KernelAdSIdeal.τ).loc Cert.KernelAdSIdeal.main_arg2)
          ∧ r.2.mem ((c.tc : Thread Cert.KernelAdSIdeal.nD Cert.KernelAdSIdeal.τ).loc Cert.KernelAdSIdeal.main_arg3) = m ((c.tc : Thread Cert.KernelAdSIdeal.nD Cert.KernelAdSIdeal.τ).loc Cert.KernelAdSIdeal.main_arg3))
      ∧ θ_run (Cert.ReferenceAdSIdeal.defs (F := Ideal)) (onTc (τ := Cert.ReferenceAdSIdeal.τ) (Cert.ReferenceAdSIdeal.main (F := Ideal))) ⟨m', fun _ => 0, g'⟩ (fun r => ∀ c : Dev Cert.ReferenceAdSIdeal.nD,
          r.2.mem ((c.tc : Thread Cert.ReferenceAdSIdeal.nD Cert.ReferenceAdSIdeal.τ).loc Cert.ReferenceAdSIdeal.main_arg1) = v0 c
          ∧ r.2.mem ((c.tc : Thread Cert.ReferenceAdSIdeal.nD Cert.ReferenceAdSIdeal.τ).loc Cert.ReferenceAdSIdeal.main_v23) = v1 c
          ∧ r.2.mem ((c.tc : Thread Cert.ReferenceAdSIdeal.nD Cert.ReferenceAdSIdeal.τ).loc Cert.ReferenceAdSIdeal.main_v4) = v2 c
          ∧ r.2.mem ((c.tc : Thread Cert.ReferenceAdSIdeal.nD Cert.ReferenceAdSIdeal.τ).loc Cert.ReferenceAdSIdeal.main_v10) = v3 c
          ∧ r.2.mem ((c.tc : Thread Cert.ReferenceAdSIdeal.nD Cert.ReferenceAdSIdeal.τ).loc Cert.ReferenceAdSIdeal.main_arg0) = m' ((c.tc : Thread Cert.ReferenceAdSIdeal.nD Cert.ReferenceAdSIdeal.τ).loc Cert.ReferenceAdSIdeal.main_arg0)
          ∧ r.2.mem ((c.tc : Thread Cert.ReferenceAdSIdeal.nD Cert.ReferenceAdSIdeal.τ).loc Cert.ReferenceAdSIdeal.main_arg1) = m' ((c.tc : Thread Cert.ReferenceAdSIdeal.nD Cert.ReferenceAdSIdeal.τ).loc Cert.ReferenceAdSIdeal.main_arg1)
          ∧ r.2.mem ((c.tc : Thread Cert.ReferenceAdSIdeal.nD Cert.ReferenceAdSIdeal.τ).loc Cert.ReferenceAdSIdeal.main_arg2) = m' ((c.tc : Thread Cert.ReferenceAdSIdeal.nD Cert.ReferenceAdSIdeal.τ).loc Cert.ReferenceAdSIdeal.main_arg2)
          ∧ r.2.mem ((c.tc : Thread Cert.ReferenceAdSIdeal.nD Cert.ReferenceAdSIdeal.τ).loc Cert.ReferenceAdSIdeal.main_arg3) = m' ((c.tc : Thread Cert.ReferenceAdSIdeal.nD Cert.ReferenceAdSIdeal.τ).loc Cert.ReferenceAdSIdeal.main_arg3))

def Claim : Prop :=
  ∃ (hKernel2 : Cert.Kernel2.Facts) (hKernel2Ideal : Cert.Kernel2Ideal.Facts) (hReference2Ideal : Cert.Reference2Ideal.Facts) (hKernelIn : Cert.KernelIn.Facts) (hKernelInIdeal : Cert.KernelInIdeal.Facts) (hReferenceInIdeal : Cert.ReferenceInIdeal.Facts) (hKernelLo : Cert.KernelLo.Facts) (hKernelLoIdeal : Cert.KernelLoIdeal.Facts) (hReferenceLoIdeal : Cert.ReferenceLoIdeal.Facts) (hKernelO : Cert.KernelO.Facts) (hKernelOIdeal : Cert.KernelOIdeal.Facts) (hReferenceOIdeal : Cert.ReferenceOIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDownW : Cert.KernelDownW.Facts) (hKernelDownWIdeal : Cert.KernelDownWIdeal.Facts) (hReferenceDownWIdeal : Cert.ReferenceDownWIdeal.Facts) (hKernelDownX : Cert.KernelDownX.Facts) (hKernelDownXIdeal : Cert.KernelDownXIdeal.Facts) (hReferenceDownXIdeal : Cert.ReferenceDownXIdeal.Facts) (hKernelUpW : Cert.KernelUpW.Facts) (hKernelUpWIdeal : Cert.KernelUpWIdeal.Facts) (hReferenceUpWIdeal : Cert.ReferenceUpWIdeal.Facts) (hKernelUpX : Cert.KernelUpX.Facts) (hKernelUpXIdeal : Cert.KernelUpXIdeal.Facts) (hReferenceUpXIdeal : Cert.ReferenceUpXIdeal.Facts) (hKernelOW : Cert.KernelOW.Facts) (hKernelOWIdeal : Cert.KernelOWIdeal.Facts) (hReferenceOWIdeal : Cert.ReferenceOWIdeal.Facts) (hKernelOX : Cert.KernelOX.Facts) (hKernelOXIdeal : Cert.KernelOXIdeal.Facts) (hReferenceOXIdeal : Cert.ReferenceOXIdeal.Facts) (hKernelLoW : Cert.KernelLoW.Facts) (hKernelLoWIdeal : Cert.KernelLoWIdeal.Facts) (hReferenceLoWIdeal : Cert.ReferenceLoWIdeal.Facts) (hKernelLoX : Cert.KernelLoX.Facts) (hKernelLoXIdeal : Cert.KernelLoXIdeal.Facts) (hReferenceLoXIdeal : Cert.ReferenceLoXIdeal.Facts) (hKernelInW : Cert.KernelInW.Facts) (hKernelInWIdeal : Cert.KernelInWIdeal.Facts) (hReferenceInWIdeal : Cert.ReferenceInWIdeal.Facts) (hKernelInX : Cert.KernelInX.Facts) (hKernelInXIdeal : Cert.KernelInXIdeal.Facts) (hReferenceInXIdeal : Cert.ReferenceInXIdeal.Facts) (hKernelFf : Cert.KernelFf.Facts) (hKernelFfIdeal : Cert.KernelFfIdeal.Facts) (hReferenceFfIdeal : Cert.ReferenceFfIdeal.Facts) (hKernelMg : Cert.KernelMg.Facts) (hKernelMgIdeal : Cert.KernelMgIdeal.Facts) (hReferenceMgIdeal : Cert.ReferenceMgIdeal.Facts) (hKernelMgB : Cert.KernelMgB.Facts) (hKernelMgBIdeal : Cert.KernelMgBIdeal.Facts) (hReferenceMgBIdeal : Cert.ReferenceMgBIdeal.Facts) (hKernelRmM : Cert.KernelRmM.Facts) (hKernelRmMIdeal : Cert.KernelRmMIdeal.Facts) (hReferenceRmMIdeal : Cert.ReferenceRmMIdeal.Facts) (hKernelRmF : Cert.KernelRmF.Facts) (hKernelRmFIdeal : Cert.KernelRmFIdeal.Facts) (hReferenceRmFIdeal : Cert.ReferenceRmFIdeal.Facts) (hKernelRm : Cert.KernelRm.Facts) (hKernelRmIdeal : Cert.KernelRmIdeal.Facts) (hReferenceRmIdeal : Cert.ReferenceRmIdeal.Facts) (hKernelScF : Cert.KernelScF.Facts) (hKernelScFIdeal : Cert.KernelScFIdeal.Facts) (hReferenceScFIdeal : Cert.ReferenceScFIdeal.Facts) (hKernelFfF : Cert.KernelFfF.Facts) (hKernelFfFIdeal : Cert.KernelFfFIdeal.Facts) (hReferenceFfFIdeal : Cert.ReferenceFfFIdeal.Facts) (hKernelLh : Cert.KernelLh.Facts) (hKernelLhIdeal : Cert.KernelLhIdeal.Facts) (hReferenceLhIdeal : Cert.ReferenceLhIdeal.Facts) (hKernelAdA : Cert.KernelAdA.Facts) (hKernelAdAIdeal : Cert.KernelAdAIdeal.Facts) (hReferenceAdAIdeal : Cert.ReferenceAdAIdeal.Facts) (hKernelAdB : Cert.KernelAdB.Facts) (hKernelAdBIdeal : Cert.KernelAdBIdeal.Facts) (hReferenceAdBIdeal : Cert.ReferenceAdBIdeal.Facts) (hKernelAdC : Cert.KernelAdC.Facts) (hKernelAdCIdeal : Cert.KernelAdCIdeal.Facts) (hReferenceAdCIdeal : Cert.ReferenceAdCIdeal.Facts) (hKernelAdD : Cert.KernelAdD.Facts) (hKernelAdDIdeal : Cert.KernelAdDIdeal.Facts) (hReferenceAdDIdeal : Cert.ReferenceAdDIdeal.Facts) (hKernelAdE : Cert.KernelAdE.Facts) (hKernelAdEIdeal : Cert.KernelAdEIdeal.Facts) (hReferenceAdEIdeal : Cert.ReferenceAdEIdeal.Facts) (hKernelAdS : Cert.KernelAdS.Facts) (hKernelAdSIdeal : Cert.KernelAdSIdeal.Facts) (hReferenceAdSIdeal : Cert.ReferenceAdSIdeal.Facts) (hPre_finite : Cert.Pre_finite.Facts) (hOn_gates_written : Cert.On_gates_written.Facts),
    quiescent_Kernel2 (hKernel2 := hKernel2)
    ∧ quiescent_Kernel2Ideal (hKernel2Ideal := hKernel2Ideal)
    ∧ quiescent_Reference2Ideal (hReference2Ideal := hReference2Ideal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelLo (hKernelLo := hKernelLo)
    ∧ quiescent_KernelLoIdeal (hKernelLoIdeal := hKernelLoIdeal)
    ∧ quiescent_ReferenceLoIdeal (hReferenceLoIdeal := hReferenceLoIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDownW (hKernelDownW := hKernelDownW)
    ∧ quiescent_KernelDownWIdeal (hKernelDownWIdeal := hKernelDownWIdeal)
    ∧ quiescent_ReferenceDownWIdeal (hReferenceDownWIdeal := hReferenceDownWIdeal)
    ∧ quiescent_KernelDownX (hKernelDownX := hKernelDownX)
    ∧ quiescent_KernelDownXIdeal (hKernelDownXIdeal := hKernelDownXIdeal)
    ∧ quiescent_ReferenceDownXIdeal (hReferenceDownXIdeal := hReferenceDownXIdeal)
    ∧ quiescent_KernelUpW (hKernelUpW := hKernelUpW)
    ∧ quiescent_KernelUpWIdeal (hKernelUpWIdeal := hKernelUpWIdeal)
    ∧ quiescent_ReferenceUpWIdeal (hReferenceUpWIdeal := hReferenceUpWIdeal)
    ∧ quiescent_KernelUpX (hKernelUpX := hKernelUpX)
    ∧ quiescent_KernelUpXIdeal (hKernelUpXIdeal := hKernelUpXIdeal)
    ∧ quiescent_ReferenceUpXIdeal (hReferenceUpXIdeal := hReferenceUpXIdeal)
    ∧ quiescent_KernelOW (hKernelOW := hKernelOW)
    ∧ quiescent_KernelOWIdeal (hKernelOWIdeal := hKernelOWIdeal)
    ∧ quiescent_ReferenceOWIdeal (hReferenceOWIdeal := hReferenceOWIdeal)
    ∧ quiescent_KernelOX (hKernelOX := hKernelOX)
    ∧ quiescent_KernelOXIdeal (hKernelOXIdeal := hKernelOXIdeal)
    ∧ quiescent_ReferenceOXIdeal (hReferenceOXIdeal := hReferenceOXIdeal)
    ∧ quiescent_KernelLoW (hKernelLoW := hKernelLoW)
    ∧ quiescent_KernelLoWIdeal (hKernelLoWIdeal := hKernelLoWIdeal)
    ∧ quiescent_ReferenceLoWIdeal (hReferenceLoWIdeal := hReferenceLoWIdeal)
    ∧ quiescent_KernelLoX (hKernelLoX := hKernelLoX)
    ∧ quiescent_KernelLoXIdeal (hKernelLoXIdeal := hKernelLoXIdeal)
    ∧ quiescent_ReferenceLoXIdeal (hReferenceLoXIdeal := hReferenceLoXIdeal)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelInX (hKernelInX := hKernelInX)
    ∧ quiescent_KernelInXIdeal (hKernelInXIdeal := hKernelInXIdeal)
    ∧ quiescent_ReferenceInXIdeal (hReferenceInXIdeal := hReferenceInXIdeal)
    ∧ quiescent_KernelFf (hKernelFf := hKernelFf)
    ∧ quiescent_KernelFfIdeal (hKernelFfIdeal := hKernelFfIdeal)
    ∧ quiescent_KernelFfIdeal_pre_finite (hKernelFfIdeal := hKernelFfIdeal) (hPre_finite := hPre_finite)
    ∧ quiescent_ReferenceFfIdeal (hReferenceFfIdeal := hReferenceFfIdeal)
    ∧ quiescent_ReferenceFfIdeal_pre_finite (hReferenceFfIdeal := hReferenceFfIdeal) (hPre_finite := hPre_finite)
    ∧ quiescent_KernelMg (hKernelMg := hKernelMg)
    ∧ quiescent_KernelMgIdeal (hKernelMgIdeal := hKernelMgIdeal)
    ∧ quiescent_ReferenceMgIdeal (hReferenceMgIdeal := hReferenceMgIdeal)
    ∧ quiescent_KernelMgB (hKernelMgB := hKernelMgB)
    ∧ quiescent_KernelMgBIdeal (hKernelMgBIdeal := hKernelMgBIdeal)
    ∧ quiescent_ReferenceMgBIdeal (hReferenceMgBIdeal := hReferenceMgBIdeal)
    ∧ quiescent_KernelRmM (hKernelRmM := hKernelRmM)
    ∧ quiescent_KernelRmMIdeal (hKernelRmMIdeal := hKernelRmMIdeal)
    ∧ quiescent_ReferenceRmMIdeal (hReferenceRmMIdeal := hReferenceRmMIdeal)
    ∧ quiescent_KernelRmF (hKernelRmF := hKernelRmF)
    ∧ quiescent_KernelRmFIdeal (hKernelRmFIdeal := hKernelRmFIdeal)
    ∧ quiescent_ReferenceRmFIdeal (hReferenceRmFIdeal := hReferenceRmFIdeal)
    ∧ quiescent_KernelRm (hKernelRm := hKernelRm)
    ∧ quiescent_KernelRmIdeal (hKernelRmIdeal := hKernelRmIdeal)
    ∧ quiescent_ReferenceRmIdeal (hReferenceRmIdeal := hReferenceRmIdeal)
    ∧ quiescent_KernelScF (hKernelScF := hKernelScF)
    ∧ quiescent_KernelScFIdeal (hKernelScFIdeal := hKernelScFIdeal)
    ∧ quiescent_ReferenceScFIdeal (hReferenceScFIdeal := hReferenceScFIdeal)
    ∧ quiescent_KernelFfF (hKernelFfF := hKernelFfF)
    ∧ quiescent_KernelFfFIdeal (hKernelFfFIdeal := hKernelFfFIdeal)
    ∧ quiescent_ReferenceFfFIdeal (hReferenceFfFIdeal := hReferenceFfFIdeal)
    ∧ quiescent_KernelLh (hKernelLh := hKernelLh)
    ∧ quiescent_KernelLhIdeal (hKernelLhIdeal := hKernelLhIdeal)
    ∧ quiescent_ReferenceLhIdeal (hReferenceLhIdeal := hReferenceLhIdeal)
    ∧ quiescent_KernelAdA (hKernelAdA := hKernelAdA)
    ∧ quiescent_KernelAdAIdeal (hKernelAdAIdeal := hKernelAdAIdeal)
    ∧ quiescent_ReferenceAdAIdeal (hReferenceAdAIdeal := hReferenceAdAIdeal)
    ∧ quiescent_KernelAdB (hKernelAdB := hKernelAdB)
    ∧ quiescent_KernelAdBIdeal (hKernelAdBIdeal := hKernelAdBIdeal)
    ∧ quiescent_ReferenceAdBIdeal (hReferenceAdBIdeal := hReferenceAdBIdeal)
    ∧ quiescent_KernelAdC (hKernelAdC := hKernelAdC)
    ∧ quiescent_KernelAdCIdeal (hKernelAdCIdeal := hKernelAdCIdeal)
    ∧ quiescent_ReferenceAdCIdeal (hReferenceAdCIdeal := hReferenceAdCIdeal)
    ∧ quiescent_KernelAdD (hKernelAdD := hKernelAdD)
    ∧ quiescent_KernelAdDIdeal (hKernelAdDIdeal := hKernelAdDIdeal)
    ∧ quiescent_ReferenceAdDIdeal (hReferenceAdDIdeal := hReferenceAdDIdeal)
    ∧ quiescent_KernelAdE (hKernelAdE := hKernelAdE)
    ∧ quiescent_KernelAdEIdeal (hKernelAdEIdeal := hKernelAdEIdeal)
    ∧ quiescent_ReferenceAdEIdeal (hReferenceAdEIdeal := hReferenceAdEIdeal)
    ∧ quiescent_KernelAdS (hKernelAdS := hKernelAdS)
    ∧ quiescent_KernelAdSIdeal (hKernelAdSIdeal := hKernelAdSIdeal)
    ∧ quiescent_ReferenceAdSIdeal (hReferenceAdSIdeal := hReferenceAdSIdeal)
    ∧ preserves_Kernel2_Kernel2Ideal
    ∧ algebraic_Kernel2Ideal_Reference2Ideal (hKernel2Ideal := hKernel2Ideal) (hReference2Ideal := hReference2Ideal)
    ∧ preserves_KernelIn_KernelInIdeal
    ∧ algebraic_KernelInIdeal_ReferenceInIdeal (hKernelInIdeal := hKernelInIdeal) (hReferenceInIdeal := hReferenceInIdeal)
    ∧ preserves_KernelLo_KernelLoIdeal
    ∧ algebraic_KernelLoIdeal_ReferenceLoIdeal (hKernelLoIdeal := hKernelLoIdeal) (hReferenceLoIdeal := hReferenceLoIdeal)
    ∧ preserves_KernelO_KernelOIdeal
    ∧ algebraic_KernelOIdeal_ReferenceOIdeal (hKernelOIdeal := hKernelOIdeal) (hReferenceOIdeal := hReferenceOIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDownW_KernelDownWIdeal
    ∧ algebraic_KernelDownWIdeal_ReferenceDownWIdeal (hKernelDownWIdeal := hKernelDownWIdeal) (hReferenceDownWIdeal := hReferenceDownWIdeal)
    ∧ preserves_KernelDownX_KernelDownXIdeal
    ∧ algebraic_KernelDownXIdeal_ReferenceDownXIdeal (hKernelDownXIdeal := hKernelDownXIdeal) (hReferenceDownXIdeal := hReferenceDownXIdeal)
    ∧ preserves_KernelUpW_KernelUpWIdeal
    ∧ algebraic_KernelUpWIdeal_ReferenceUpWIdeal (hKernelUpWIdeal := hKernelUpWIdeal) (hReferenceUpWIdeal := hReferenceUpWIdeal)
    ∧ preserves_KernelUpX_KernelUpXIdeal
    ∧ algebraic_KernelUpXIdeal_ReferenceUpXIdeal (hKernelUpXIdeal := hKernelUpXIdeal) (hReferenceUpXIdeal := hReferenceUpXIdeal)
    ∧ preserves_KernelOW_KernelOWIdeal
    ∧ algebraic_KernelOWIdeal_ReferenceOWIdeal (hKernelOWIdeal := hKernelOWIdeal) (hReferenceOWIdeal := hReferenceOWIdeal)
    ∧ preserves_KernelOX_KernelOXIdeal
    ∧ algebraic_KernelOXIdeal_ReferenceOXIdeal (hKernelOXIdeal := hKernelOXIdeal) (hReferenceOXIdeal := hReferenceOXIdeal)
    ∧ preserves_KernelLoW_KernelLoWIdeal
    ∧ algebraic_KernelLoWIdeal_ReferenceLoWIdeal (hKernelLoWIdeal := hKernelLoWIdeal) (hReferenceLoWIdeal := hReferenceLoWIdeal)
    ∧ preserves_KernelLoX_KernelLoXIdeal
    ∧ algebraic_KernelLoXIdeal_ReferenceLoXIdeal (hKernelLoXIdeal := hKernelLoXIdeal) (hReferenceLoXIdeal := hReferenceLoXIdeal)
    ∧ preserves_KernelInW_KernelInWIdeal
    ∧ algebraic_KernelInWIdeal_ReferenceInWIdeal (hKernelInWIdeal := hKernelInWIdeal) (hReferenceInWIdeal := hReferenceInWIdeal)
    ∧ preserves_KernelInX_KernelInXIdeal
    ∧ algebraic_KernelInXIdeal_ReferenceInXIdeal (hKernelInXIdeal := hKernelInXIdeal) (hReferenceInXIdeal := hReferenceInXIdeal)
    ∧ preserves_KernelFf_KernelFfIdeal
    ∧ algebraic_KernelFfIdeal_ReferenceFfIdeal_pre_finite (hKernelFfIdeal := hKernelFfIdeal) (hReferenceFfIdeal := hReferenceFfIdeal) (hPre_finite := hPre_finite)
    ∧ preserves_KernelMg_KernelMgIdeal
    ∧ algebraic_KernelMgIdeal_ReferenceMgIdeal (hKernelMgIdeal := hKernelMgIdeal) (hReferenceMgIdeal := hReferenceMgIdeal)
    ∧ preserves_KernelMgB_KernelMgBIdeal
    ∧ algebraic_KernelMgBIdeal_ReferenceMgBIdeal_on_gates_written (hKernelMgBIdeal := hKernelMgBIdeal) (hReferenceMgBIdeal := hReferenceMgBIdeal) (hOn_gates_written := hOn_gates_written)
    ∧ preserves_KernelRmM_KernelRmMIdeal
    ∧ algebraic_KernelRmMIdeal_ReferenceRmMIdeal (hKernelRmMIdeal := hKernelRmMIdeal) (hReferenceRmMIdeal := hReferenceRmMIdeal)
    ∧ preserves_KernelRmF_KernelRmFIdeal
    ∧ algebraic_KernelRmFIdeal_ReferenceRmFIdeal (hKernelRmFIdeal := hKernelRmFIdeal) (hReferenceRmFIdeal := hReferenceRmFIdeal)
    ∧ preserves_KernelRm_KernelRmIdeal
    ∧ algebraic_KernelRmIdeal_ReferenceRmIdeal (hKernelRmIdeal := hKernelRmIdeal) (hReferenceRmIdeal := hReferenceRmIdeal)
    ∧ preserves_KernelScF_KernelScFIdeal
    ∧ algebraic_KernelScFIdeal_ReferenceScFIdeal (hKernelScFIdeal := hKernelScFIdeal) (hReferenceScFIdeal := hReferenceScFIdeal)
    ∧ preserves_KernelFfF_KernelFfFIdeal
    ∧ algebraic_KernelFfFIdeal_ReferenceFfFIdeal (hKernelFfFIdeal := hKernelFfFIdeal) (hReferenceFfFIdeal := hReferenceFfFIdeal)
    ∧ preserves_KernelLh_KernelLhIdeal
    ∧ algebraic_KernelLhIdeal_ReferenceLhIdeal (hKernelLhIdeal := hKernelLhIdeal) (hReferenceLhIdeal := hReferenceLhIdeal)
    ∧ preserves_KernelAdA_KernelAdAIdeal
    ∧ algebraic_KernelAdAIdeal_ReferenceAdAIdeal (hKernelAdAIdeal := hKernelAdAIdeal) (hReferenceAdAIdeal := hReferenceAdAIdeal)
    ∧ preserves_KernelAdB_KernelAdBIdeal
    ∧ algebraic_KernelAdBIdeal_ReferenceAdBIdeal (hKernelAdBIdeal := hKernelAdBIdeal) (hReferenceAdBIdeal := hReferenceAdBIdeal)
    ∧ preserves_KernelAdC_KernelAdCIdeal
    ∧ algebraic_KernelAdCIdeal_ReferenceAdCIdeal (hKernelAdCIdeal := hKernelAdCIdeal) (hReferenceAdCIdeal := hReferenceAdCIdeal)
    ∧ preserves_KernelAdD_KernelAdDIdeal
    ∧ algebraic_KernelAdDIdeal_ReferenceAdDIdeal (hKernelAdDIdeal := hKernelAdDIdeal) (hReferenceAdDIdeal := hReferenceAdDIdeal)
    ∧ preserves_KernelAdE_KernelAdEIdeal
    ∧ algebraic_KernelAdEIdeal_ReferenceAdEIdeal (hKernelAdEIdeal := hKernelAdEIdeal) (hReferenceAdEIdeal := hReferenceAdEIdeal)
    ∧ preserves_KernelAdS_KernelAdSIdeal
    ∧ algebraic_KernelAdSIdeal_ReferenceAdSIdeal (hKernelAdSIdeal := hKernelAdSIdeal) (hReferenceAdSIdeal := hReferenceAdSIdeal)
-- ==== On_gates_written.lean ====
abbrev S4096x9216 : Shape := ⟨2, ![4096, 9216]⟩
abbrev S4096x2048 : Shape := ⟨2, ![4096, 2048]⟩
abbrev S9x4096x1024 : Shape := ⟨3, ![9, 4096, 1024]⟩
abbrev S_ : Shape := ⟨0, ![]⟩

class Facts : Prop where
  bcast_S_S9x4096x1024 : S_.BroadcastsInDim S9x4096x1024 (![] : Fin 0 → Fin S9x4096x1024.rank)
  bcast_S_S4096x2048 : S_.BroadcastsInDim S4096x2048 (![] : Fin 0 → Fin S4096x2048.rank)

variable [Facts]

def fn {F : FTy → Type} [FloatOps F] (main_arg0 : FVec F S4096x9216 .f32) (main_arg1 : FVec F S4096x2048 .bf16) (main_arg2 : FVec F S4096x2048 .bf16) (main_arg3 : FVec F S4096x2048 .bf16) : IVec S9x4096x1024 1 × IVec S4096x2048 1 × IVec S4096x2048 1 :=
  let main_v0 : IVec S9x4096x1024 32 := iotaInDim S9x4096x1024 32 0
  let main_c : IVec S_ 32 := constantI S_ 32 4#32
  let main_v1 : IVec S9x4096x1024 32 := broadcastInDim S9x4096x1024 ![] bcast_S_S9x4096x1024 main_c
  let main_v2 : IVec S9x4096x1024 1 := cmpi .slt main_v0 main_v1
  let main_c_0 : IVec S_ 1 := constantI S_ 1 1#1
  let main_v3 : IVec S4096x2048 1 := broadcastInDim S4096x2048 ![] bcast_S_S4096x2048 main_c_0
  let main_c_1 : IVec S_ 1 := constantI S_ 1 1#1
  let main_v4 : IVec S4096x2048 1 := broadcastInDim S4096x2048 ![] bcast_S_S4096x2048 main_c_1
  (main_v2, main_v3, main_v4)
-- ==== Pre_finite.lean ====
abbrev S4096x11264 : Shape := ⟨2, ![4096, 11264]⟩
abbrev S4096x5632 : Shape := ⟨2, ![4096, 5632]⟩
abbrev S3x11264 : Shape := ⟨2, ![3, 11264]⟩
abbrev S_ : Shape := ⟨0, ![]⟩

class Facts : Prop where
  bcast_S_S4096x11264 : S_.BroadcastsInDim S4096x11264 (![] : Fin 0 → Fin S4096x11264.rank)
  bcast_S_S4096x5632 : S_.BroadcastsInDim S4096x5632 (![] : Fin 0 → Fin S4096x5632.rank)
  bcast_S_S3x11264 : S_.BroadcastsInDim S3x11264 (![] : Fin 0 → Fin S3x11264.rank)

variable [Facts]

def fn {F : FTy → Type} [FloatOps F] (main_arg0 : FVec F S4096x11264 .f32) (main_arg1 : FVec F S4096x5632 .f32) (main_arg2 : FVec F S3x11264 .f32) : IVec S4096x11264 1 × IVec S4096x5632 1 × IVec S3x11264 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_v3 : FVec F S4096x5632 .f32 := Host.absf main_arg1
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  let main_v6 : FVec F S3x11264 .f32 := Host.absf main_arg2
  let main_cst_1 : FVec F S_ .f32 := constant S_ .f32 0x7F800000#32
  let main_v7 : FVec F S3x11264 .f32 := broadcastInDim S3x11264 ![] bcast_S_S3x11264 main_cst_1
  let main_v8 : IVec S3x11264 1 := cmpf .olt main_v6 main_v7
  (main_v2, main_v5, main_v8)
-- ==== Kernel2.lean ====
abbrev S4096x9216 : Shape := ⟨2, ![4096, 9216]⟩
abbrev S4096x1024 : Shape := ⟨2, ![4096, 1024]⟩
abbrev S3x1024 : Shape := ⟨2, ![3, 1024]⟩
abbrev S9x4096x1024 : Shape := ⟨3, ![9, 4096, 1024]⟩
abbrev S256x512 : Shape := ⟨2, ![256, 512]⟩
abbrev S8x512 : Shape := ⟨2, ![8, 512]⟩
abbrev S3x512 : Shape := ⟨2, ![3, 512]⟩
abbrev S3x256x512 : Shape := ⟨3, ![3, 256, 512]⟩
abbrev S264x512 : Shape := ⟨2, ![264, 512]⟩
abbrev S1x512 : Shape := ⟨2, ![1, 512]⟩
abbrev S1x256x512 : Shape := ⟨3, ![1, 256, 512]⟩
abbrev S512 : Shape := ⟨1, ![512]⟩

abbrev nBuf : Space → Nat
  | .hbm => 6
  | .vmem => 19
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S3x1024, .f32⟩
  | .hbm, ⟨3, _⟩ => ⟨S9x4096x1024, .bf16⟩
  | .hbm, ⟨4, _⟩ => ⟨S9x4096x1024, .bf16⟩
  | .hbm, ⟨5, _⟩ => ⟨S3x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S256x512, .f32⟩
  | .local _ .vmem, ⟨11, _⟩ => ⟨S256x512, .f32⟩
  | .local _ .vmem, ⟨12, _⟩ => ⟨S3x512, .f32⟩
  | .local _ .vmem, ⟨13, _⟩ => ⟨S3x512, .f32⟩
  | .local _ .vmem, ⟨14, _⟩ => ⟨S3x256x512, .bf16⟩
  | .local _ .vmem, ⟨15, _⟩ => ⟨S3x256x512, .bf16⟩
  | .local _ .vmem, ⟨16, _⟩ => ⟨S3x512, .f32⟩
  | .local _ .vmem, ⟨17, _⟩ => ⟨S3x512, .f32⟩
  | .local _ .vmem, ⟨18, _⟩ => ⟨S8x512, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let v1 : BitVec 32 := Scalar.addi c6_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let v4 : BitVec 32 := Scalar.addi c6_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let v4 : BitVec 32 := Scalar.addi c8_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![c2_i32.toNat, v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x9216 : Shape := ⟨2, ![4096, 9216]⟩
abbrev S4096x1024 : Shape := ⟨2, ![4096, 1024]⟩
abbrev S3x1024 : Shape := ⟨2, ![3, 1024]⟩
abbrev S9x4096x1024 : Shape := ⟨3, ![9, 4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S6x4096x1024 : Shape := ⟨3, ![6, 4096, 1024]⟩
abbrev S1x4096x1024 : Shape := ⟨3, ![1, 4096, 1024]⟩
abbrev S3x4096x1024 : Shape := ⟨3, ![3, 4096, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S3x1024, .f32⟩
  | .hbm, ⟨3, _⟩ => ⟨S9x4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S4098x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S4098x1024, .f32⟩
  | .hbm, ⟨78, _⟩ => ⟨S4098x1024, .f32⟩
  | .hbm, ⟨79, _⟩ => ⟨S2x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S6x4096x1024, .bf16⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S3x4096x1024, .f32⟩
  | .hbm, ⟨88, _⟩ => ⟨S3x4096x1024, .bf16⟩
  | .hbm, ⟨89, _⟩ => ⟨S9x4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== KernelIn.lean ====
abbrev S4096x2048 : Shape := ⟨2, ![4096, 2048]⟩
abbrev S2048x9216 : Shape := ⟨2, ![2048, 9216]⟩
abbrev S4096x9216 : Shape := ⟨2, ![4096, 9216]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x9216, .bf16⟩
  | .hbm, ⟨2, _⟩ => ⟨S4096x9216, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x2048 : Shape := ⟨2, ![4096, 2048]⟩
abbrev S2048x9216 : Shape := ⟨2, ![2048, 9216]⟩
abbrev S4096x9216 : Shape := ⟨2, ![4096, 9216]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x9216, .bf16⟩
  | .hbm, ⟨2, _⟩ => ⟨S4096x2048, .f32⟩
  | .hbm, ⟨3, _⟩ => ⟨S2048x9216, .f32⟩
  | .hbm, ⟨4, _⟩ => ⟨S4096x9216, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelLo.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLoIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelO.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUp.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDownW.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDownX.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownXIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpW.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let c0_i32_6 : BitVec 32 := 0#32
  let v18 : BitVec 32 := Scalar.select v17 c0_i32_5 c0_i32_6
  let c0_i32_7 : BitVec 32 := 0#32
  let v19 : BitVec 32 := Scalar.addi c0_i32_7 v18
  let c1_i32_8 : BitVec 32 := 1#32
  let v20 : BitVec 1 := Scalar.cmpi .eq v16 c1_i32_8
  let c1_i32_9 : BitVec 32 := 1#32
  let c0_i32_10 : BitVec 32 := 0#32
  let v21 : BitVec 32 := Scalar.select v20 c1_i32_9 c0_i32_10
  let v22 : BitVec 32 := Scalar.addi v19 v21
  let c11_i32_11 : BitVec 32 := 11#32
  let v23 : BitVec 32 := Scalar.muli v22 c11_i32_11
  let c11_i32_12 : BitVec 32 := 11#32
  let c0_i32_13 : BitVec 32 := 0#32
  let v24 : BitVec 1 := Scalar.cmpi .eq c11_i32_12 c0_i32_13
  let c1_i32_14 : BitVec 32 := 1#32
  let v25 : BitVec 32 := Scalar.select v24 c1_i32_14 c11_i32_12
  let v26 : BitVec 32 := Scalar.remsi arg1 v25
  let c0_i32_15 : BitVec 32 := 0#32
  let v27 : BitVec 1 := Scalar.cmpi .ne v26 c0_i32_15
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let v31 : BitVec 1 := Scalar.andi v30 v27
  let v32 : BitVec 32 := Scalar.addi v26 v25
  let v33 : BitVec 32 := Scalar.select v31 v32 v26
  let v34 : BitVec 32 := Scalar.addi v23 v33
  let c0_i32_18 : BitVec 32 := 0#32
  ![arg0.toNat, v34.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpWIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S1x4096x5632, .bf16⟩
  | .hbm, ⟨5, _⟩ => ⟨S4096x5632, .bf16⟩
  | .hbm, ⟨6, _⟩ => ⟨S1x4096x5632, .bf16⟩
  | .hbm, ⟨7, _⟩ => ⟨S4096x5632, .bf16⟩
  | .hbm, ⟨8, _⟩ => ⟨S4096x11264, .bf16⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | .hbm, ⟨15, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelUpX.lean ====
abbrev S2x4096x5632 : Shape := ⟨3, ![2, 4096, 5632]⟩
abbrev S2048x11264 : Shape := ⟨2, ![2048, 11264]⟩
abbrev S4096x2048 : Shape := ⟨2, ![4096, 2048]⟩
abbrev S2x1024x5632 : Shape := ⟨3, ![2, 1024, 5632]⟩
abbrev S256x11264 : Shape := ⟨2, ![256, 11264]⟩
abbrev S1024x256 : Shape := ⟨2, ![1024, 256]⟩
abbrev S1x1024x5632 : Shape := ⟨3, ![1, 1024, 5632]⟩
abbrev S1024x5632 : Shape := ⟨2, ![1024, 5632]⟩
abbrev S256x5632 : Shape := ⟨2, ![256, 5632]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .local _ .vmem, ⟨0, _⟩ => ⟨S2x1024x5632, .bf16⟩
  | .local _ .vmem, ⟨1, _⟩ => ⟨S256x11264, .bf16⟩
  | .local _ .vmem, ⟨2, _⟩ => ⟨S256x11264, .bf16⟩
  | .local _ .vmem, ⟨3, _⟩ => ⟨S1024x256, .f32⟩
  | .local _ .vmem, ⟨4, _⟩ => ⟨S1024x256, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2x1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpXIdeal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S1x4096x5632, .bf16⟩
  | .hbm, ⟨5, _⟩ => ⟨S4096x5632, .bf16⟩
  | .hbm, ⟨6, _⟩ => ⟨S1x4096x5632, .bf16⟩
  | .hbm, ⟨7, _⟩ => ⟨S4096x5632, .bf16⟩
  | .hbm, ⟨8, _⟩ => ⟨S4096x11264, .bf16⟩
  | .hbm, ⟨9, _⟩ => ⟨S2048x11264, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KernelOW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOWIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelOX.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOXIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelLoW.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLoWIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | .hbm, ⟨10, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelLoX.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLoXIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInW.lean ====
abbrev S4096x2048 : Shape := ⟨2, ![4096, 2048]⟩
abbrev S9x4096x1024 : Shape := ⟨3, ![9, 4096, 1024]⟩
abbrev S2048x9216 : Shape := ⟨2, ![2048, 9216]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S9x4096x1024, .bf16⟩
  | .hbm, ⟨2, _⟩ => ⟨S2048x9216, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c5_i32 : BitVec 32 := 5#32
  let c0_i32_6 : BitVec 32 := 0#32
  let v18 : BitVec 32 := Scalar.select v17 c5_i32 c0_i32_6
  let c0_i32_7 : BitVec 32 := 0#32
  let v19 : BitVec 32 := Scalar.addi c0_i32_7 v18
  let c1_i32_8 : BitVec 32 := 1#32
  let v20 : BitVec 1 := Scalar.cmpi .eq v16 c1_i32_8
  let c7_i32 : BitVec 32 := 7#32
  let c0_i32_9 : BitVec 32 := 0#32
  let v21 : BitVec 32 := Scalar.select v20 c7_i32 c0_i32_9
  let v22 : BitVec 32 := Scalar.addi v19 v21
  let c2_i32 : BitVec 32 := 2#32
  let v23 : BitVec 1 := Scalar.cmpi .eq v16 c2_i32
  let c6_i32 : BitVec 32 := 6#32
  let c0_i32_10 : BitVec 32 := 0#32
  let v24 : BitVec 32 := Scalar.select v23 c6_i32 c0_i32_10
  let v25 : BitVec 32 := Scalar.addi v22 v24
  let c3_i32 : BitVec 32 := 3#32
  let v26 : BitVec 1 := Scalar.cmpi .eq v16 c3_i32
  let c8_i32 : BitVec 32 := 8#32
  let c0_i32_11 : BitVec 32 := 0#32
  let v27 : BitVec 32 := Scalar.select v26 c8_i32 c0_i32_11
  let v28 : BitVec 32 := Scalar.addi v25 v27
  let c4_i32 : BitVec 32 := 4#32
  let v29 : BitVec 1 := Scalar.cmpi .eq v16 c4_i32
  let c0_i32_12 : BitVec 32 := 0#32
  let c0_i32_13 : BitVec 32 := 0#32
  let v30 : BitVec 32 := Scalar.select v29 c0_i32_12 c0_i32_13
  let v31 : BitVec 32 := Scalar.addi v28 v30
  let c5_i32_14 : BitVec 32 := 5#32
  let v32 : BitVec 1 := Scalar.cmpi .eq v16 c5_i32_14
  let c1_i32_15 : BitVec 32 := 1#32
  let c0_i32_16 : BitVec 32 := 0#32
  let v33 : BitVec 32 := Scalar.select v32 c1_i32_15 c0_i32_16
  let v34 : BitVec 32 := Scalar.addi v31 v33
  let c6_i32_17 : BitVec 32 := 6#32
  let v35 : BitVec 1 := Scalar.cmpi .eq v16 c6_i32_17
  let c2_i32_18 : BitVec 32 := 2#32
  let c0_i32_19 : BitVec 32 := 0#32
  let v36 : BitVec 32 := Scalar.select v35 c2_i32_18 c0_i32_19
  let v37 : BitVec 32 := Scalar.addi v34 v36
  let c7_i32_20 : BitVec 32 := 7#32
  let v38 : BitVec 1 := Scalar.cmpi .eq v16 c7_i32_20
  let c3_i32_21 : BitVec 32 := 3#32
  let c0_i32_22 : BitVec 32 := 0#32
  let v39 : BitVec 32 := Scalar.select v38 c3_i32_21 c0_i32_22
  let v40 : BitVec 32 := Scalar.addi v37 v39
  let c8_i32_23 : BitVec 32 := 8#32
  let v41 : BitVec 1 := Scalar.cmpi .eq v16 c8_i32_23
  let c4_i32_24 : BitVec 32 := 4#32
  let c0_i32_25 : BitVec 32 := 0#32
  let v42 : BitVec 32 := Scalar.select v41 c4_i32_24 c0_i32_25
  let v43 : BitVec 32 := Scalar.addi v40 v42
  let c1_i32_26 : BitVec 32 := 1#32
  let v44 : BitVec 32 := Scalar.muli v43 c1_i32_26
  let c1_i32_27 : BitVec 32 := 1#32
  let c0_i32_28 : BitVec 32 := 0#32
  let v45 : BitVec 1 := Scalar.cmpi .eq c1_i32_27 c0_i32_28
  let c1_i32_29 : BitVec 32 := 1#32
  let v46 : BitVec 32 := Scalar.select v45 c1_i32_29 c1_i32_27
  let v47 : BitVec 32 := Scalar.remsi arg1 v46
  let c0_i32_30 : BitVec 32 := 0#32
  let v48 : BitVec 1 := Scalar.cmpi .ne v47 c0_i32_30
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let v52 : BitVec 1 := Scalar.andi v51 v48
  let v53 : BitVec 32 := Scalar.addi v47 v46
  let v54 : BitVec 32 := Scalar.select v52 v53 v47
  let v55 : BitVec 32 := Scalar.addi v44 v54
  let c0_i32_33 : BitVec 32 := 0#32
  ![arg0.toNat, v55.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInWIdeal.lean ====
abbrev S4096x2048 : Shape := ⟨2, ![4096, 2048]⟩
abbrev S9x4096x1024 : Shape := ⟨3, ![9, 4096, 1024]⟩
abbrev S_ : Shape := ⟨0, ![]⟩
abbrev S2048x9216 : Shape := ⟨2, ![2048, 9216]⟩
abbrev S1x4096x1024 : Shape := ⟨3, ![1, 4096, 1024]⟩
abbrev S4096x1024 : Shape := ⟨2, ![4096, 1024]⟩
abbrev S4096x9216 : Shape := ⟨2, ![4096, 9216]⟩
abbrev S9216x2048 : Shape := ⟨2, ![9216, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S9x4096x1024, .bf16⟩
  | .hbm, ⟨2, _⟩ => ⟨S_, .f32⟩
  | .hbm, ⟨3, _⟩ => ⟨S2048x9216, .f32⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S1x4096x1024, .bf16⟩
  | .hbm, ⟨15, _⟩ => ⟨S4096x1024, .bf16⟩
  | .hbm, ⟨16, _⟩ => ⟨S1x4096x1024, .bf16⟩
  | .hbm, ⟨17, _⟩ => ⟨S4096x1024, .bf16⟩
  | .hbm, ⟨18, _⟩ => ⟨S1x4096x1024, .bf16⟩
  | .hbm, ⟨19, _⟩ => ⟨S4096x1024, .bf16⟩
  | .hbm, ⟨20, _⟩ => ⟨S1x4096x1024, .bf16⟩
  | .hbm, ⟨21, _⟩ => ⟨S4096x1024, .bf16⟩
  | .hbm, ⟨22, _⟩ => ⟨S4096x9216, .bf16⟩
  | .hbm, ⟨23, _⟩ => ⟨S4096x2048, .f32⟩
  | .hbm, ⟨24, _⟩ => ⟨S4096x9216, .f32⟩
  | .hbm, ⟨25, _⟩ => ⟨S4096x9216, .f32⟩
  | .hbm, ⟨26, _⟩ => ⟨S9216x2048, .f32⟩
  | .hbm, ⟨27, _⟩ => ⟨S2048x9216, .f32⟩
  | .hbm, ⟨28, _⟩ => ⟨S4096x2048, .f32⟩
  | .hbm, ⟨29, _⟩ => ⟨S2048x9216, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== KernelInX.lean ====
abbrev S9x4096x1024 : Shape := ⟨3, ![9, 4096, 1024]⟩
abbrev S2048x9216 : Shape := ⟨2, ![2048, 9216]⟩
abbrev S4096x2048 : Shape := ⟨2, ![4096, 2048]⟩
abbrev S9x512x1024 : Shape := ⟨3, ![9, 512, 1024]⟩
abbrev S512x9216 : Shape := ⟨2, ![512, 9216]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9x4096x1024, .bf16⟩
  | .hbm, ⟨1, _⟩ => ⟨S2048x9216, .bf16⟩
  | .hbm, ⟨2, _⟩ => ⟨S4096x2048, .f32⟩
  | .local _ .vmem, ⟨0, _⟩ => ⟨S9x512x1024, .bf16⟩
  | .local _ .vmem, ⟨1, _⟩ => ⟨S9x512x1024, .bf16⟩
  | .local _ .vmem, ⟨2, _⟩ => ⟨S512x9216, .bf16⟩
  | .local _ .vmem, ⟨3, _⟩ => ⟨S512x9216, .bf16⟩
  | .local _ .vmem, ⟨4, _⟩ => ⟨S512x512, .f32⟩
  | .local _ .vmem, ⟨5, _⟩ => ⟨S512x512, .f32⟩
  | _, _ => ⟨S9x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S9x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x9216 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInXIdeal.lean ====
abbrev S9x4096x1024 : Shape := ⟨3, ![9, 4096, 1024]⟩
abbrev S2048x9216 : Shape := ⟨2, ![2048, 9216]⟩
abbrev S_ : Shape := ⟨0, ![]⟩
abbrev S4096x2048 : Shape := ⟨2, ![4096, 2048]⟩
abbrev S1x4096x1024 : Shape := ⟨3, ![1, 4096, 1024]⟩
abbrev S4096x1024 : Shape := ⟨2, ![4096, 1024]⟩
abbrev S4096x9216 : Shape := ⟨2, ![4096, 9216]⟩
abbrev S9216x2048 : Shape := ⟨2, ![9216, 2048]⟩

abbrev nBuf : Space → Nat
  | .hbm => 29
  | .vmem => 0
  | .smem => 0
  | _ => 0

abbrev bufTy : (tb : Table) → Fin (tcTables nBuf tb) → BufTy
  | .hbm, ⟨0, _⟩ => ⟨S9x4096x1024, .bf16⟩
  | .hbm, ⟨1, _⟩ => ⟨S2048x9216, .bf16⟩
  | .hbm, ⟨2, _⟩ => ⟨S_, .f32⟩
  | .hbm, ⟨3, _⟩ => ⟨S4096x2048, .f32⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S1x4096x1024, .bf16⟩
  | .hbm, ⟨15, _⟩ => ⟨S4096x1024, .bf16⟩
  | .hbm, ⟨16, _⟩ => ⟨S1x4096x1024, .bf16⟩
  | .hbm, ⟨17, _⟩ => ⟨S4096x1024, .bf16⟩
  | .hbm, ⟨18, _⟩ => ⟨S1x4096x1024, .bf16⟩
  | .hbm, ⟨19, _⟩ => ⟨S4096x1024, .bf16⟩
  | .hbm, ⟨20, _⟩ => ⟨S1x4096x1024, .bf16⟩
  | .hbm, ⟨21, _⟩ => ⟨S4096x1024, .bf16⟩
  | .hbm, ⟨22, _⟩ => ⟨S4096x9216, .bf16⟩
  | .hbm, ⟨23, _⟩ => ⟨S2048x9216, .f32⟩
  | .hbm, ⟨24, _⟩ => ⟨S4096x9216, .f32⟩
  | .hbm, ⟨25, _⟩ => ⟨S4096x9216, .f32⟩
  | .hbm, ⟨26, _⟩ => ⟨S9216x2048, .f32⟩
  | .hbm, ⟨27, _⟩ => ⟨S2048x9216, .f32⟩
  | .hbm, ⟨28, _⟩ => ⟨S4096x2048, .f32⟩
  | _, _ => ⟨S9x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== KernelFf.lean ====
abbrev S4096x11264 : Shape := ⟨2, ![4096, 11264]⟩
abbrev S4096x5632 : Shape := ⟨2, ![4096, 5632]⟩
abbrev S3x11264 : Shape := ⟨2, ![3, 11264]⟩
abbrev S2x4096x5632 : Shape := ⟨3, ![2, 4096, 5632]⟩
abbrev S3x5632 : Shape := ⟨2, ![3, 5632]⟩
abbrev S2048x128 : Shape := ⟨2, ![2048, 128]⟩
abbrev S8x128 : Shape := ⟨2, ![8, 128]⟩
abbrev S3x128 : Shape := ⟨2, ![3, 128]⟩
abbrev S2x2048x128 : Shape := ⟨3, ![2, 2048, 128]⟩
abbrev S2056x128 : Shape := ⟨2, ![2056, 128]⟩
abbrev S1x128 : Shape := ⟨2, ![1, 128]⟩
abbrev S1x2048x128 : Shape := ⟨3, ![1, 2048, 128]⟩
abbrev S128 : Shape := ⟨1, ![128]⟩

abbrev nBuf : Space → Nat
  | .hbm => 6
  | .vmem => 22
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x11264, .f32⟩
  | .hbm, ⟨3, _⟩ => ⟨S2x4096x5632, .bf16⟩
  | .hbm, ⟨4, _⟩ => ⟨S3x5632, .f32⟩
  | .hbm, ⟨5, _⟩ => ⟨S3x5632, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S2048x128, .f32⟩
  | .local _ .vmem, ⟨9, _⟩ => ⟨S2048x128, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | .local _ .vmem, ⟨14, _⟩ => ⟨S2x2048x128, .bf16⟩
  | .local _ .vmem, ⟨15, _⟩ => ⟨S2x2048x128, .bf16⟩
  | .local _ .vmem, ⟨16, _⟩ => ⟨S3x128, .f32⟩
  | .local _ .vmem, ⟨17, _⟩ => ⟨S3x128, .f32⟩
  | .local _ .vmem, ⟨18, _⟩ => ⟨S3x128, .f32⟩
  | .local _ .vmem, ⟨19, _⟩ => ⟨S3x128, .f32⟩
  | .local _ .vmem, ⟨20, _⟩ => ⟨S8x128, .f32⟩
  | .local _ .vmem, ⟨21, _⟩ => ⟨S8x128, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![44, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c256_i32 : BitVec 32 := 256#32
  let v1 : BitVec 32 := Scalar.muli v0 c256_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let v4 : BitVec 32 := Scalar.addi c0_i32_1 arg0
  let c0_i32_2 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c44_i32 : BitVec 32 := 44#32
  let v1 : BitVec 32 := Scalar.addi c44_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c256_i32 : BitVec 32 := 256#32
  let v1 : BitVec 32 := Scalar.muli v0 c256_i32
  let c1_i32_0 : BitVec 32 := 1#32
  let v2 : BitVec 32 := Scalar.subi v1 c1_i32_0
  let c0_i32 : BitVec 32 := 0#32
  let v3 : BitVec 32 := Scalar.maxsi v2 c0_i32
  let c44_i32 : BitVec 32 := 44#32
  let v4 : BitVec 32 := Scalar.addi c44_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![c0_i32.toNat, v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceFfIdeal.lean ====
abbrev S4096x11264 : Shape := ⟨2, ![4096, 11264]⟩
abbrev S4096x5632 : Shape := ⟨2, ![4096, 5632]⟩
abbrev S3x11264 : Shape := ⟨2, ![3, 11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S11264 : Shape := ⟨1, ![11264]⟩
abbrev S4096x2x5632 : Shape := ⟨3, ![4096, 2, 5632]⟩
abbrev S2x4096x5632 : Shape := ⟨3, ![2, 4096, 5632]⟩
abbrev S3x5632 : Shape := ⟨2, ![3, 5632]⟩

abbrev nBuf : Space → Nat
  | .hbm => 105
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x11264, .f32⟩
  | .hbm, ⟨3, _⟩ => ⟨S_, .f32⟩
  | .hbm, ⟨4, _⟩ => ⟨S2x11264, .f32⟩
  | .hbm, ⟨5, _⟩ => ⟨S4098x11264, .f32⟩
  | .hbm, ⟨6, _⟩ => ⟨S_, .f32⟩
  | .hbm, ⟨7, _⟩ => ⟨S2x11264, .f32⟩
  | .hbm, ⟨8, _⟩ => ⟨S4096x11264, .f32⟩
  | .hbm, ⟨9, _⟩ => ⟨S1x11264, .f32⟩
  | .hbm, ⟨10, _⟩ => ⟨S11264, .f32⟩
  | .hbm, ⟨11, _⟩ => ⟨S1x11264, .f32⟩
  | .hbm, ⟨12, _⟩ => ⟨S4096x11264, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S1x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S4096x11264, .f32⟩
  | .hbm, ⟨22, _⟩ => ⟨S1x11264, .f32⟩
  | .hbm, ⟨23, _⟩ => ⟨S11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S_, .f32⟩
  | .hbm, ⟨51, _⟩ => ⟨S4096x11264, .f32⟩
  | .hbm, ⟨52, _⟩ => ⟨S_, .f32⟩
  | .hbm, ⟨53, _⟩ => ⟨S4096x11264, .f32⟩
  | .hbm, ⟨54, _⟩ => ⟨S4096x11264, .f32⟩
  | .hbm, ⟨55, _⟩ => ⟨S4096x11264, .f32⟩
  | .hbm, ⟨56, _⟩ => ⟨S_, .f32⟩
  | .hbm, ⟨57, _⟩ => ⟨S11264, .f32⟩
  | .hbm, ⟨58, _⟩ => ⟨S1x11264, .f32⟩
  | .hbm, ⟨59, _⟩ => ⟨S4096x11264, .f32⟩
  | .hbm, ⟨60, _⟩ => ⟨S4096x11264, .f32⟩
  | .hbm, ⟨61, _⟩ => ⟨S_, .f32⟩
  | .hbm, ⟨62, _⟩ => ⟨S11264, .f32⟩
  | .hbm, ⟨63, _⟩ => ⟨S1x11264, .f32⟩
  | .hbm, ⟨64, _⟩ => ⟨S_, .f32⟩
  | .hbm, ⟨65, _⟩ => ⟨S3x11264, .f32⟩
  | .hbm, ⟨66, _⟩ => ⟨S_, .f32⟩
  | .hbm, ⟨67, _⟩ => ⟨S4098x11264, .f32⟩
  | .hbm, ⟨68, _⟩ => ⟨S4096x11264, .f32⟩
  | .hbm, ⟨69, _⟩ => ⟨S_, .f32⟩
  | .hbm, ⟨70, _⟩ => ⟨S11264, .f32⟩
  | .hbm, ⟨71, _⟩ => ⟨S1x11264, .f32⟩
  | .hbm, ⟨72, _⟩ => ⟨S4096x11264, .f32⟩
  | .hbm, ⟨73, _⟩ => ⟨S4096x11264, .f32⟩
  | .hbm, ⟨74, _⟩ => ⟨S_, .f32⟩
  | .hbm, ⟨75, _⟩ => ⟨S11264, .f32⟩
  | .hbm, ⟨76, _⟩ => ⟨S1x11264, .f32⟩
  | .hbm, ⟨77, _⟩ => ⟨S_, .f32⟩
  | .hbm, ⟨78, _⟩ => ⟨S3x11264, .f32⟩
  | .hbm, ⟨79, _⟩ => ⟨S3x11264, .f32⟩
  | .hbm, ⟨80, _⟩ => ⟨S_, .f32⟩
  | .hbm, ⟨81, _⟩ => ⟨S4098x11264, .f32⟩
  | .hbm, ⟨82, _⟩ => ⟨S4098x11264, .f32⟩
  | .hbm, ⟨83, _⟩ => ⟨S4096x11264, .f32⟩
  | .hbm, ⟨84, _⟩ => ⟨S_, .f32⟩
  | .hbm, ⟨85, _⟩ => ⟨S11264, .f32⟩
  | .hbm, ⟨86, _⟩ => ⟨S1x11264, .f32⟩
  | .hbm, ⟨87, _⟩ => ⟨S4096x11264, .f32⟩
  | .hbm, ⟨88, _⟩ => ⟨S4096x11264, .f32⟩
  | .hbm, ⟨89, _⟩ => ⟨S_, .f32⟩
  | .hbm, ⟨90, _⟩ => ⟨S11264, .f32⟩
  | .hbm, ⟨91, _⟩ => ⟨S1x11264, .f32⟩
  | .hbm, ⟨92, _⟩ => ⟨S_, .f32⟩
  | .hbm, ⟨93, _⟩ => ⟨S3x11264, .f32⟩
  | .hbm, ⟨94, _⟩ => ⟨S3x11264, .f32⟩
  | .hbm, ⟨95, _⟩ => ⟨S_, .f32⟩
  | .hbm, ⟨96, _⟩ => ⟨S4098x11264, .f32⟩
  | .hbm, ⟨97, _⟩ => ⟨S4098x11264, .f32⟩
  | .hbm, ⟨98, _⟩ => ⟨S2x11264, .f32⟩
  | .hbm, ⟨99, _⟩ => ⟨S4096x11264, .f32⟩
  | .hbm, ⟨100, _⟩ => ⟨S4096x2x5632, .f32⟩
  | .hbm, ⟨101, _⟩ => ⟨S2x4096x5632, .f32⟩
  | .hbm, ⟨102, _⟩ => ⟨S2x4096x5632, .bf16⟩
  | .hbm, ⟨103, _⟩ => ⟨S3x5632, .f32⟩
  | .hbm, ⟨104, _⟩ => ⟨S3x5632, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v25_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v25_1 : Ref sig .tc := ⟨.hbm, 41, rfl⟩
abbrev main_v25_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== KernelMg.lean ====
abbrev S4096x9216 : Shape := ⟨2, ![4096, 9216]⟩
abbrev S4096x2048 : Shape := ⟨2, ![4096, 2048]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x9216, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMgIdeal.lean ====
abbrev S4096x9216 : Shape := ⟨2, ![4096, 9216]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelMgB.lean ====
abbrev S4096x9216 : Shape := ⟨2, ![4096, 9216]⟩
abbrev S4096x2048 : Shape := ⟨2, ![4096, 2048]⟩
abbrev S9x4096x1024 : Shape := ⟨3, ![9, 4096, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 7
  | .vmem => 16
  | .smem => 0
  | _ => 0

abbrev bufTy : (tb : Table) → Fin (tcTables nBuf tb) → BufTy
  | .hbm, ⟨0, _⟩ => ⟨S4096x9216, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S9x4096x1024, .bf16⟩
  | .hbm, ⟨5, _⟩ => ⟨S4096x2048, .bf16⟩
  | .hbm, ⟨6, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x512x1024, .bf16⟩
  | .local _ .vmem, ⟨11, _⟩ => ⟨S2x512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMgBIdeal.lean ====
abbrev S4096x9216 : Shape := ⟨2, ![4096, 9216]⟩
abbrev S4096x2048 : Shape := ⟨2, ![4096, 2048]⟩
abbrev S_ : Shape := ⟨0, ![]⟩
abbrev S4096x4096 : Shape := ⟨2, ![4096, 4096]⟩
abbrev S4096x2x2x1024 : Shape := ⟨4, ![4096, 2, 2, 1024]⟩
abbrev S2x2x4096x1024 : Shape := ⟨4, ![2, 2, 4096, 1024]⟩
abbrev S4x4096x1024 : Shape := ⟨3, ![4, 4096, 1024]⟩
abbrev S5x4096x1024 : Shape := ⟨3, ![5, 4096, 1024]⟩
abbrev S9x4096x1024 : Shape := ⟨3, ![9, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x9216, .f32⟩
  | .hbm, ⟨44, _⟩ => ⟨S_, .f32⟩
  | .hbm, ⟨45, _⟩ => ⟨S4096x9216, .f32⟩
  | .hbm, ⟨46, _⟩ => ⟨S4096x9216, .f32⟩
  | .hbm, ⟨47, _⟩ => ⟨S4096x4096, .f32⟩
  | .hbm, ⟨48, _⟩ => ⟨S4096x2x2x1024, .f32⟩
  | .hbm, ⟨49, _⟩ => ⟨S2x2x4096x1024, .f32⟩
  | .hbm, ⟨50, _⟩ => ⟨S4x4096x1024, .f32⟩
  | .hbm, ⟨51, _⟩ => ⟨S_, .f32⟩
  | .hbm, ⟨52, _⟩ => ⟨S5x4096x1024, .f32⟩
  | .hbm, ⟨53, _⟩ => ⟨S9x4096x1024, .f32⟩
  | .hbm, ⟨54, _⟩ => ⟨S9x4096x1024, .bf16⟩
  | .hbm, ⟨55, _⟩ => ⟨S4096x2048, .bf16⟩
  | .hbm, ⟨56, _⟩ => ⟨S4096x2048, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== KernelRmM.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceRmMIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KernelRmF.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceRmFIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelRm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelScF.lean ====
abbrev S4096x9216 : Shape := ⟨2, ![4096, 9216]⟩
abbrev S3x1024 : Shape := ⟨2, ![3, 1024]⟩
abbrev S4096x1024 : Shape := ⟨2, ![4096, 1024]⟩
abbrev S256x512 : Shape := ⟨2, ![256, 512]⟩
abbrev S3x512 : Shape := ⟨2, ![3, 512]⟩
abbrev S8x512 : Shape := ⟨2, ![8, 512]⟩
abbrev S264x512 : Shape := ⟨2, ![264, 512]⟩
abbrev S1x512 : Shape := ⟨2, ![1, 512]⟩

abbrev nBuf : Space → Nat
  | .hbm => 3
  | .vmem => 11
  | .smem => 0
  | _ => 0

abbrev bufTy : (tb : Table) → Fin (tcTables nBuf tb) → BufTy
  | .hbm, ⟨0, _⟩ => ⟨S4096x9216, .f32⟩
  | .hbm, ⟨1, _⟩ => ⟨S3x1024, .f32⟩
  | .hbm, ⟨2, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S3x512, .f32⟩
  | .local _ .vmem, ⟨7, _⟩ => ⟨S3x512, .f32⟩
  | .local _ .vmem, ⟨8, _⟩ => ⟨S256x512, .bf16⟩
  | .local _ .vmem, ⟨9, _⟩ => ⟨S256x512, .bf16⟩
  | .local _ .vmem, ⟨10, _⟩ => ⟨S8x512, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceScFIdeal.lean ====
abbrev S4096x9216 : Shape := ⟨2, ![4096, 9216]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== KernelFfF.lean ====
abbrev S4096x11264 : Shape := ⟨2, ![4096, 11264]⟩
abbrev S3x11264 : Shape := ⟨2, ![3, 11264]⟩
abbrev S4096x5632 : Shape := ⟨2, ![4096, 5632]⟩
abbrev S2048x128 : Shape := ⟨2, ![2048, 128]⟩
abbrev S3x128 : Shape := ⟨2, ![3, 128]⟩
abbrev S8x128 : Shape := ⟨2, ![8, 128]⟩
abbrev S2056x128 : Shape := ⟨2, ![2056, 128]⟩
abbrev S1x128 : Shape := ⟨2, ![1, 128]⟩

abbrev nBuf : Space → Nat
  | .hbm => 3
  | .vmem => 12
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S4096x5632, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | .local _ .vmem, ⟨10, _⟩ => ⟨S8x128, .f32⟩
  | .local _ .vmem, ⟨11, _⟩ => ⟨S8x128, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![44, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfFIdeal.lean ====
abbrev S4096x11264 : Shape := ⟨2, ![4096, 11264]⟩
abbrev S3x11264 : Shape := ⟨2, ![3, 11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S11264 : Shape := ⟨1, ![11264]⟩
abbrev S4096x5632 : Shape := ⟨2, ![4096, 5632]⟩

abbrev nBuf : Space → Nat
  | .hbm => 38
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S_, .f32⟩
  | .hbm, ⟨3, _⟩ => ⟨S2x11264, .f32⟩
  | .hbm, ⟨4, _⟩ => ⟨S4098x11264, .f32⟩
  | .hbm, ⟨5, _⟩ => ⟨S4096x11264, .f32⟩
  | .hbm, ⟨6, _⟩ => ⟨S1x11264, .f32⟩
  | .hbm, ⟨7, _⟩ => ⟨S11264, .f32⟩
  | .hbm, ⟨8, _⟩ => ⟨S1x11264, .f32⟩
  | .hbm, ⟨9, _⟩ => ⟨S4096x11264, .f32⟩
  | .hbm, ⟨10, _⟩ => ⟨S4096x11264, .f32⟩
  | .hbm, ⟨11, _⟩ => ⟨S4096x11264, .f32⟩
  | .hbm, ⟨12, _⟩ => ⟨S1x11264, .f32⟩
  | .hbm, ⟨13, _⟩ => ⟨S11264, .f32⟩
  | .hbm, ⟨14, _⟩ => ⟨S1x11264, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== KernelLh.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLhIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelAdA.lean ====
abbrev S2048x2304 : Shape := ⟨2, ![2048, 2304]⟩
abbrev S128x2304 : Shape := ⟨2, ![128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdAIdeal.lean ====
abbrev S2048x2304 : Shape := ⟨2, ![2048, 2304]⟩
abbrev S128x2304 : Shape := ⟨2, ![128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdAIdeal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdB.lean ====
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelAdBIdeal.lean ====
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdBIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdC.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdCIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdCIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdD.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdDIdeal.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdDIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdE.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdEIdeal.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdEIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdS.lean ====
abbrev S1192x128 : Shape := ⟨2, ![1192, 128]⟩

abbrev nBuf : Space → Nat
  | .hbm => 8
  | .vmem => 8
  | .smem => 0
  | _ => 0

abbrev bufTy : (tb : Table) → Fin (tcTables nBuf tb) → BufTy
  | .hbm, ⟨0, _⟩ => ⟨S1192x128, .f32⟩
  | .hbm, ⟨1, _⟩ => ⟨S1192x128, .f32⟩
  | .hbm, ⟨2, _⟩ => ⟨S1192x128, .f32⟩
  | .hbm, ⟨3, _⟩ => ⟨S1192x128, .f32⟩
  | .hbm, ⟨4, _⟩ => ⟨S1192x128, .f32⟩
  | .hbm, ⟨5, _⟩ => ⟨S1192x128, .f32⟩
  | .hbm, ⟨6, _⟩ => ⟨S1192x128, .f32⟩
  | .hbm, ⟨7, _⟩ => ⟨S1192x128, .f32⟩
  | .local _ .vmem, ⟨0, _⟩ => ⟨S1192x128, .f32⟩
  | .local _ .vmem, ⟨1, _⟩ => ⟨S1192x128, .f32⟩
  | .local _ .vmem, ⟨2, _⟩ => ⟨S1192x128, .f32⟩
  | .local _ .vmem, ⟨3, _⟩ => ⟨S1192x128, .f32⟩
  | .local _ .vmem, ⟨4, _⟩ => ⟨S1192x128, .f32⟩
  | .local _ .vmem, ⟨5, _⟩ => ⟨S1192x128, .f32⟩
  | .local _ .vmem, ⟨6, _⟩ => ⟨S1192x128, .f32⟩
  | .local _ .vmem, ⟨7, _⟩ => ⟨S1192x128, .f32⟩
  | _, _ => ⟨S1192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdSIdeal.lean ====
abbrev S1192x128 : Shape := ⟨2, ![1192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1192x128, .f32⟩
  | .hbm, ⟨1, _⟩ => ⟨S1192x128, .f32⟩
  | .hbm, ⟨2, _⟩ => ⟨S1192x128, .f32⟩
  | .hbm, ⟨3, _⟩ => ⟨S1192x128, .f32⟩
  | .hbm, ⟨4, _⟩ => ⟨S_, .f32⟩
  | .hbm, ⟨5, _⟩ => ⟨S1192x128, .f32⟩
  | .hbm, ⟨6, _⟩ => ⟨S1192x128, .f32⟩
  | .hbm, ⟨7, _⟩ => ⟨S_, .f32⟩
  | .hbm, ⟨8, _⟩ => ⟨S1192x128, .f32⟩
  | .hbm, ⟨9, _⟩ => ⟨S1192x128, .f32⟩
  | .hbm, ⟨10, _⟩ => ⟨S1192x128, .f32⟩
  | .hbm, ⟨11, _⟩ => ⟨S_, .f32⟩
  | .hbm, ⟨12, _⟩ => ⟨S1192x128, .f32⟩
  | .hbm, ⟨13, _⟩ => ⟨S1192x128, .f32⟩
  | .hbm, ⟨14, _⟩ => ⟨S1192x128, .f32⟩
  | .hbm, ⟨15, _⟩ => ⟨S_, .f32⟩
  | .hbm, ⟨16, _⟩ => ⟨S1192x128, .f32⟩
  | .hbm, ⟨17, _⟩ => ⟨S1192x128, .f32⟩
  | .hbm, ⟨18, _⟩ => ⟨S1192x128, .f32⟩
  | .hbm, ⟨19, _⟩ => ⟨S_, .f32⟩
  | .hbm, ⟨20, _⟩ => ⟨S1192x128, .f32⟩
  | .hbm, ⟨21, _⟩ => ⟨S1192x128, .f32⟩
  | .hbm, ⟨22, _⟩ => ⟨S_, .f32⟩
  | .hbm, ⟨23, _⟩ => ⟨S1192x128, .f32⟩
  | .hbm, ⟨24, _⟩ => ⟨S1192x128, .f32⟩
  | .hbm, ⟨25, _⟩ => ⟨S1192x128, .f32⟩
  | .hbm, ⟨26, _⟩ => ⟨S_, .f32⟩
  | .hbm, ⟨27, _⟩ => ⟨S1192x128, .f32⟩
  | .hbm, ⟨28, _⟩ => ⟨S1192x128, .f32⟩
  | .hbm, ⟨29, _⟩ => ⟨S1192x128, .f32⟩
  | .hbm, ⟨30, _⟩ => ⟨S_, .f32⟩
  | .hbm, ⟨31, _⟩ => ⟨S1192x128, .f32⟩
  | .hbm, ⟨32, _⟩ => ⟨S1192x128, .f32⟩
  | .hbm, ⟨33, _⟩ => ⟨S1192x128, .f32⟩
  | .hbm, ⟨34, _⟩ => ⟨S_, .f32⟩
  | .hbm, ⟨35, _⟩ => ⟨S1192x128, .f32⟩
  | .hbm, ⟨36, _⟩ => ⟨S1192x128, .f32⟩
  | _, _ => ⟨S1192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rows.lean ====
module
public import Idealize.ShloMosaic.Lib.Pipeline.ValueKit
public import Idealize.ShloMosaic.Lib.Pointwise
@[expose] public section
set_option maxRecDepth 16384
noncomputable section

/-! Stores into groups of rows: what a two-dimensional buffer (or a buffer of slabs) holds after
them, read at an index; and arrays read at natural numbers, zero outside their range. -/

namespace Cert.Rows
open Idealize.ShloMosaic Idealize.SL.Sem

theorem hz2 : (![0, 0] : Fin 2 → Nat) = fun _ => 0 := funext fun a => by fin_cases a <;> rfl

variable {Val : EltTy → Type} {e : EltTy}

/-- The last store covers rows `k … k+n`; inside them it is read. -/
theorem canon_rows_hit [∀ e, Nonempty (Val e)] {K C n : ℕ} (k : ℕ)
    (inb : ∀ a, (![k, 0] : Fin 2 → ℕ) a + (![n, C] : Fin 2 → ℕ) a ≤ (⟨2, ![K, C]⟩ : Shape).size a)
    (w : (⟨2, ![n, C]⟩ : Shape).Idx → Val e) (L : List (View.Piece Val ⟨2, ![K, C]⟩ e))
    (a : Fin K) (b : Fin C) (i : Fin n) (h : a.val = k + i.val) :
    View.canon ((⟨Rect.unit (s := ⟨2, ![K, C]⟩) ![k, 0] ![n, C] inb, w⟩ : View.Piece Val ⟨2, ![K, C]⟩ e) :: L) (ix2 a b)
      = w (ix2 i b) := by
  have hy : ix2 a b = (Rect.unit (s := ⟨2, ![K, C]⟩) ![k, 0] ![n, C] inb).emb (ix2 i b) := by
    funext x
    apply Fin.ext
    rw [ValueKit.rect_emb_unit_val]
    match x with
    | ⟨0, _⟩ => exact h
    | ⟨1, _⟩ => exact (Nat.zero_add _).symm
  rw [hy]
  exact View.canon_cons_emb (Rect.unit (s := ⟨2, ![K, C]⟩) ![k, 0] ![n, C] inb) w L _

/-- Outside them the earlier stores are read. -/
theorem canon_rows_miss [∀ e, Nonempty (Val e)] {K C n : ℕ} (k : ℕ)
    (inb : ∀ a, (![k, 0] : Fin 2 → ℕ) a + (![n, C] : Fin 2 → ℕ) a ≤ (⟨2, ![K, C]⟩ : Shape).size a)
    (w : (⟨2, ![n, C]⟩ : Shape).Idx → Val e) (L : List (View.Piece Val ⟨2, ![K, C]⟩ e))
    (a : Fin K) (b : Fin C) (h : ¬(k ≤ a.val ∧ a.val < k + n)) :
    View.canon ((⟨Rect.unit (s := ⟨2, ![K, C]⟩) ![k, 0] ![n, C] inb, w⟩ : View.Piece Val ⟨2, ![K, C]⟩ e) :: L) (ix2 a b)
      = View.canon L (ix2 a b) := by
  refine View.canon_cons_of_not_mem _ _ fun hm => h ?_
  rw [Rect.mem_set_unit] at hm
  exact hm 0

/-- The last store covers slab `k` of a buffer of slabs. -/
theorem canon_slab_hit [∀ e, Nonempty (Val e)] {K R C : ℕ} (k : ℕ)
    (inb : ∀ a, (![k, 0, 0] : Fin 3 → ℕ) a + (![1, R, C] : Fin 3 → ℕ) a ≤ (⟨3, ![K, R, C]⟩ : Shape).size a)
    (w : (⟨3, ![1, R, C]⟩ : Shape).Idx → Val e) (L : List (View.Piece Val ⟨3, ![K, R, C]⟩ e))
    (s : Fin K) (a : Fin R) (b : Fin C) (h : s.val = k) :
    View.canon ((⟨Rect.unit (s := ⟨3, ![K, R, C]⟩) ![k, 0, 0] ![1, R, C] inb, w⟩ : View.Piece Val ⟨3, ![K, R, C]⟩ e) :: L)
      (ix3 s a b) = w (ix3 0 a b) := by
  have hy : ix3 s a b = (Rect.unit (s := ⟨3, ![K, R, C]⟩) ![k, 0, 0] ![1, R, C] inb).emb (ix3 0 a b) := by
    funext x
    apply Fin.ext
    rw [ValueKit.rect_emb_unit_val]
    match x with
    | ⟨0, _⟩ => exact h
    | ⟨1, _⟩ => exact (Nat.zero_add _).symm
    | ⟨2, _⟩ => exact (Nat.zero_add _).symm
  rw [hy]
  exact View.canon_cons_emb (Rect.unit (s := ⟨3, ![K, R, C]⟩) ![k, 0, 0] ![1, R, C] inb) w L _

/-- Outside it the earlier stores are read. -/
theorem canon_slab_miss [∀ e, Nonempty (Val e)] {K R C : ℕ} (k : ℕ)
    (inb : ∀ a, (![k, 0, 0] : Fin 3 → ℕ) a + (![1, R, C] : Fin 3 → ℕ) a ≤ (⟨3, ![K, R, C]⟩ : Shape).size a)
    (w : (⟨3, ![1, R, C]⟩ : Shape).Idx → Val e) (L : List (View.Piece Val ⟨3, ![K, R, C]⟩ e))
    (s : Fin K) (a : Fin R) (b : Fin C) (h : s.val ≠ k) :
    View.canon ((⟨Rect.unit (s := ⟨3, ![K, R, C]⟩) ![k, 0, 0] ![1, R, C] inb, w⟩ : View.Piece Val ⟨3, ![K, R, C]⟩ e) :: L)
      (ix3 s a b) = View.canon L (ix3 s a b) := by
  refine View.canon_cons_of_not_mem _ _ fun hm => h ?_
  rw [Rect.mem_set_unit] at hm
  have h0 : k ≤ s.val ∧ s.val < k + 1 := hm 0
  omega

/-- A load of rows `k … k+n`, of a buffer that several stores filled. -/
theorem readCov_rows [∀ e, Nonempty (Val e)] {sig : RefSig} {κ : Kind} {sp : Space} {K C n : ℕ} (k : ℕ)
    (v : View sig κ sp ⟨2, ![K, C]⟩ e) (L : List (View.Piece Val ⟨2, ![K, C]⟩ e))
    (inb : ∀ a, (![k, 0] : Fin 2 → ℕ) a + (![n, C] : Fin 2 → ℕ) a ≤ (⟨2, ![K, C]⟩ : Shape).size a)
    (a : Fin K) (b : Fin C) (i : Fin n) (h : a.val = k + i.val) :
    v.readCov L (Rect.unit (s := ⟨2, ![K, C]⟩) ![k, 0] ![n, C] inb).toLoadRect (ix2 i b) = View.canon L (ix2 a b) := by
  rw [View.readCov_eq_canon']
  refine congrArg (View.canon L) (funext fun x => Fin.ext ?_)
  refine (Rect.idx_unit_val ![k, 0] ![n, C] inb (ix2 i b) x).trans ?_
  match x with
  | ⟨0, _⟩ => exact h.symm
  | ⟨1, _⟩ => exact Nat.zero_add _

/-- A load of rows `k … k+n`. -/
theorem ld_rows {K C n : ℕ} (k : ℕ) (X : (⟨2, ![K, C]⟩ : Shape).Idx → Val e)
    (inb : ∀ a, (![k, 0] : Fin 2 → ℕ) a + (![n, C] : Fin 2 → ℕ) a ≤ (⟨2, ![K, C]⟩ : Shape).size a)
    (a : Fin K) (b : Fin C) (i : Fin n) (h : a.val = k + i.val) :
    View.ld X (Rect.unit (s := ⟨2, ![K, C]⟩) ![k, 0] ![n, C] inb) (ix2 i b) = X (ix2 a b) := by
  refine View.ld_unit_apply_of X _ _ inb _ _ fun x => ?_
  match x with
  | ⟨0, _⟩ => exact h
  | ⟨1, _⟩ => exact (Nat.zero_add _).symm

/-- An array of two axes read at natural numbers: zero outside its range. -/
def at2 {R C : ℕ} (f : (⟨2, ![R, C]⟩ : Shape).Idx → EReal) (r c : ℕ) : EReal :=
  if h : r < R ∧ c < C then f (ix2 ⟨r, h.1⟩ ⟨c, h.2⟩) else 0

theorem at2_of_lt {R C : ℕ} (f : (⟨2, ![R, C]⟩ : Shape).Idx → EReal) {r c : ℕ} (hr : r < R) (hc : c < C) :
    at2 f r c = f (ix2 ⟨r, hr⟩ ⟨c, hc⟩) := dif_pos ⟨hr, hc⟩

theorem at2_of_ge {R C : ℕ} (f : (⟨2, ![R, C]⟩ : Shape).Idx → EReal) {r c : ℕ} (hr : R ≤ r) : at2 f r c = 0 :=
  dif_neg fun h => by omega

theorem at2_eq {R C : ℕ} (f : (⟨2, ![R, C]⟩ : Shape).Idx → EReal) {r c : ℕ} (a : Fin R) (b : Fin C)
    (ha : a.val = r) (hb : b.val = c) : f (ix2 a b) = at2 f r c := by
  subst ha hb
  exact (at2_of_lt f a.isLt b.isLt).symm

end Cert.Rows
-- ==== Proof.ScPoint.lean ====
module
public import proofs.«01_k».proof.Proof.Gen.Kernel2Ideal.Value
public import proofs.«01_k».proof.Proof.Rows
@[expose] public section
set_option maxRecDepth 16384
noncomputable section

/-! The gated short convolution's backward kernel at one grid point: what the body leaves in its two
output blocks and in the carried rows, in terms of the point's blocks, index by index. -/

namespace Cert.Sc.Point
open Cert.Kernel2Ideal Cert.Kernel2Ideal.Gen Cert.Rows Idealize.ShloMosaic Idealize.SL.Sem

/-! ## The operation, on arrays read at natural numbers -/

section Math
variable (B C V D W : ℕ → ℕ → EReal)

/-- `c · v`, `k` rows earlier: zero before the first row. -/
def cvB (t k c : ℕ) : EReal := if k ≤ t then C (t - k) c * V (t - k) c else 0
/-- The convolution of `c · v`. -/
def q (t c : ℕ) : EReal := cvB C V t 2 c * W 0 c + cvB C V t 1 c * W 1 c + cvB C V t 0 c * W 2 c
/-- The convolution's cotangent. -/
def dq (t c : ℕ) : EReal := D t c * B t c
/-- The cotangent of `c · v`. -/
def dcv (t c : ℕ) : EReal := dq B D (t + 2) c * W 0 c + dq B D (t + 1) c * W 1 c + dq B D t c * W 2 c
/-- The three slabs of the gradient. -/
def slab (s t c : ℕ) : EReal :=
  if s = 0 then D t c * q C V W t c else if s = 1 then dcv B D W t c * V t c else dcv B D W t c * C t c
/-- One row's contribution to the weight's gradient. -/
def dwt (k t c : ℕ) : EReal := dq B D t c * cvB C V t (2 - k) c

end Math

/-! ## The payloads -/

/-- The condition that drops the rows before the first chunk. -/
theorem select_first {n : ℕ} (hn : n < 16) (x : EReal) :
    Scalar.select (Scalar.cmpi CmpIPredicate.eq (BitVec.ofNat 32 n) 15#32) (0 : EReal) x = if n = 15 then 0 else x := by
  interval_cases n <;> rfl

section Pay
variable (B C V D W : ℕ → ℕ → EReal) (R J : ℕ)
variable (i : grid0.Coords) (x0 x1 : Vec Ideal S256x512 .f32) (x2 : Vec Ideal S8x512 .f32) (x3 : Vec Ideal S256x512 .f32)
  (x4 : Vec Ideal S8x512 .f32) (x5 : Vec Ideal S256x512 .f32) (x6 : Vec Ideal S3x512 .f32) (nx : Vec Ideal S8x512 .f32)

/-- The blocks of a point are the arrays' rows `R …` and columns `J …`; the first chunk is the one whose
second grid coordinate is 15. -/
structure Blocks : Prop where
  b : ∀ (a : Fin 256) (l : Fin 512), x0 (ix2 a l) = B (R + a.val) (J + l.val)
  c : ∀ (a : Fin 256) (l : Fin 512), x1 (ix2 a l) = C (R + a.val) (J + l.val)
  ch : R ≠ 0 → ∀ (a : Fin 8) (l : Fin 512), x2 (ix2 a l) = C (R - 8 + a.val) (J + l.val)
  v : ∀ (a : Fin 256) (l : Fin 512), x3 (ix2 a l) = V (R + a.val) (J + l.val)
  vh : R ≠ 0 → ∀ (a : Fin 8) (l : Fin 512), x4 (ix2 a l) = V (R - 8 + a.val) (J + l.val)
  d : ∀ (a : Fin 256) (l : Fin 512), x5 (ix2 a l) = D (R + a.val) (J + l.val)
  w : ∀ (a : Fin 3) (l : Fin 512), x6 (ix2 a l) = W a.val (J + l.val)
  first : R = 0 ↔ (i 1).val = 15
  far : R ≠ 0 → 8 ≤ R

variable {B C V D W R J i x0 x1 x2 x3 x4 x5 x6}

/-- The chunk of `c · v` with the eight rows before it. -/
theorem pay7_apply (h : Blocks B C V D W R J i x0 x1 x2 x3 x4 x5 x6) (n : Fin 264) (l : Fin 512) (a : ℕ) (k : ℕ)
    (hk : k ≤ 8) (hn : n.val + k = a + 8) :
    k0_pay7 i x1 x3 x2 x4 (ix2 n l) = cvB C V (R + a) k (J + l.val) := by
  unfold k0_pay7
  pointwise
  have hf := h.first
  have hfar := h.far
  unfold cvB
  by_cases h1 : n.val < 8
  · refine (dif_pos h1).trans ((select_first (n := (i 1).val) (i 1).isLt _).trans ?_)
    by_cases h2 : (i 1).val = 15
    · rw [if_pos h2, if_neg (by omega)]
    · rw [if_neg h2, if_pos (by omega), h.ch (by omega), h.vh (by omega)]
      show C (R - 8 + n.val) _ * V (R - 8 + n.val) _ = _
      rw [show R - 8 + n.val = R + a - k by omega]
  · refine (dif_neg h1).trans ?_
    refine (congrArg₂ (· * ·) (h.c _ l) (h.v _ l)).trans ?_
    show C (R + (n.val - 8)) _ * V (R + (n.val - 8)) _ = _
    rw [if_pos (by omega), show R + (n.val - 8) = R + a - k by omega]

/-- The gradient of the gate. -/
theorem pay8_apply (h : Blocks B C V D W R J i x0 x1 x2 x3 x4 x5 x6) (a : Fin 256) (l : Fin 512) :
    k0_pay8 i x1 x3 x6 x2 x4 x5 (ix2 a l) = D (R + a.val) (J + l.val) * q C V W (R + a.val) (J + l.val) := by
  unfold k0_pay8
  pointwise
  have ha := a.isLt
  rw [pay7_apply h _ l a.val 2 (by omega) (by show (8 + a.val + 264 - 2) % 264 + 2 = _; omega),
    pay7_apply h _ l a.val 1 (by omega) (by show (8 + a.val + 264 - 1) % 264 + 1 = _; omega),
    pay7_apply h _ l a.val 0 (by omega) (by show (8 + a.val) + 0 = _; omega), h.d, h.w, h.w, h.w]
  rfl

theorem pay10_apply (h : Blocks B C V D W R J i x0 x1 x2 x3 x4 x5 x6) (a : Fin 256) (l : Fin 512) :
    k0_pay10 x5 x0 (ix2 a l) = dq B D (R + a.val) (J + l.val) := by
  pointwise [k0_pay10]
  rw [h.d, h.b]
  rfl

/-- The three rows of the weight's gradient: what was there plus the chunk's sum. -/
theorem pay11_apply (h : Blocks B C V D W R J i x0 x1 x2 x3 x4 x5 x6) (o : Vec Ideal S1x512 .f32) (l : Fin 512) :
    k0_pay11 (k0_pay7 i x1 x3 x2 x4) x5 x0 o (ix2 0 l)
      = o (ix2 0 l) + ∑ a : Fin 256, dwt B C V D 0 (R + a.val) (J + l.val) := by
  unfold k0_pay11
  pointwise
  refine congrArg (o (ix2 0 l) + ·) (Finset.sum_congr rfl fun a _ => ?_)
  have ha := a.isLt
  rw [pay10_apply h, pay7_apply h _ l a.val 2 (by omega) (by show (8 + a.val + 264 - 2) % 264 + 2 = _; omega)]
  rfl

theorem pay12_apply (h : Blocks B C V D W R J i x0 x1 x2 x3 x4 x5 x6) (o : Vec Ideal S1x512 .f32) (l : Fin 512) :
    k0_pay12 (k0_pay7 i x1 x3 x2 x4) x5 x0 o (ix2 0 l)
      = o (ix2 0 l) + ∑ a : Fin 256, dwt B C V D 1 (R + a.val) (J + l.val) := by
  unfold k0_pay12
  pointwise
  refine congrArg (o (ix2 0 l) + ·) (Finset.sum_congr rfl fun a _ => ?_)
  have ha := a.isLt
  rw [pay10_apply h, pay7_apply h _ l a.val 1 (by omega) (by show (8 + a.val + 264 - 1) % 264 + 1 = _; omega)]
  rfl

theorem pay13_apply (h : Blocks B C V D W R J i x0 x1 x2 x3 x4 x5 x6) (o : Vec Ideal S1x512 .f32) (l : Fin 512) :
    k0_pay13 (k0_pay7 i x1 x3 x2 x4) x5 x0 o (ix2 0 l)
      = o (ix2 0 l) + ∑ a : Fin 256, dwt B C V D 2 (R + a.val) (J + l.val) := by
  unfold k0_pay13
  pointwise
  refine congrArg (o (ix2 0 l) + ·) (Finset.sum_congr rfl fun a _ => ?_)
  have ha := a.isLt
  rw [pay10_apply h, pay7_apply h _ l a.val 0 (by omega) (by show (8 + a.val) + 0 = _; omega)]
  rfl

/-- The convolution's cotangent with the rows after the chunk. -/
theorem pay14_apply (h : Blocks B C V D W R J i x0 x1 x2 x3 x4 x5 x6)
    (hn : ∀ (a : Fin 8) (l : Fin 512), nx (ix2 a l) = dq B D (R + 256 + a.val) (J + l.val))
    (n : Fin 264) (l : Fin 512) (t : ℕ) (ht : n.val = t) :
    k0_pay14 x5 x0 nx (ix2 n l) = dq B D (R + t) (J + l.val) := by
  subst ht
  unfold k0_pay14
  pointwise
  split_ifs with h1
  · exact pay10_apply h ⟨n.val, h1⟩ l
  · rw [hn]
    show dq B D (R + 256 + (n.val - 256)) _ = _
    rw [show R + 256 + (n.val - 256) = R + n.val by omega]
  · exact absurd rfl ‹_›

theorem pay1_apply (h : Blocks B C V D W R J i x0 x1 x2 x3 x4 x5 x6)
    (hn : ∀ (a : Fin 8) (l : Fin 512), nx (ix2 a l) = dq B D (R + 256 + a.val) (J + l.val))
    (a : Fin 256) (l : Fin 512) :
    k0_pay1 x6 (k0_pay14 x5 x0 nx) (k0_pay15 x5 x0 nx) (ix2 a l) = dcv B D W (R + a.val) (J + l.val) := by
  unfold k0_pay1 k0_pay15
  pointwise
  have ha := a.isLt
  rw [pay14_apply nx h hn _ l (a.val + 2) (by show (a.val + 264 - 262) % 264 = _; omega),
    pay14_apply nx h hn _ l (a.val + 1) (by show (a.val + 264 - 263) % 264 = _; omega),
    pay14_apply nx h hn _ l a.val rfl, h.w, h.w, h.w]
  rfl

theorem pay3_apply (h : Blocks B C V D W R J i x0 x1 x2 x3 x4 x5 x6)
    (hn : ∀ (a : Fin 8) (l : Fin 512), nx (ix2 a l) = dq B D (R + 256 + a.val) (J + l.val))
    (a : Fin 256) (l : Fin 512) :
    k0_pay3 x3 x6 (k0_pay14 x5 x0 nx) (k0_pay15 x5 x0 nx) (ix3 0 a l)
      = dcv B D W (R + a.val) (J + l.val) * V (R + a.val) (J + l.val) := by
  unfold k0_pay3
  pointwise
  rw [pay1_apply nx h hn, h.v]

theorem pay4_apply (h : Blocks B C V D W R J i x0 x1 x2 x3 x4 x5 x6)
    (hn : ∀ (a : Fin 8) (l : Fin 512), nx (ix2 a l) = dq B D (R + 256 + a.val) (J + l.val))
    (a : Fin 256) (l : Fin 512) :
    k0_pay4 x1 x6 (k0_pay14 x5 x0 nx) (k0_pay15 x5 x0 nx) (ix3 0 a l)
      = dcv B D W (R + a.val) (J + l.val) * C (R + a.val) (J + l.val) := by
  unfold k0_pay4
  pointwise
  rw [pay1_apply nx h hn, h.c]

theorem pay2_apply (h : Blocks B C V D W R J i x0 x1 x2 x3 x4 x5 x6) (a : Fin 8) (l : Fin 512) :
    k0_pay2 (k0_pay10 x5 x0) (ix2 a l) = dq B D (R + a.val) (J + l.val) := by
  unfold k0_pay2
  pointwise
  exact pay10_apply h _ l

theorem pay5_apply (a : Fin 8) (l : Fin 512) : k0_pay5 (F := Ideal) (ix2 a l) = 0 := by
  pointwise [k0_pay5]

theorem pay6_apply (a : Fin 3) (l : Fin 512) : k0_pay6 (F := Ideal) (ix2 a l) = 0 := by
  pointwise [k0_pay6]

end Pay

/-! ## The blocks the body leaves -/

section Out
variable {B C V D W : ℕ → ℕ → EReal} {R J : ℕ} {i : grid0.Coords}
  {x0 x1 : Vec Ideal S256x512 .f32} {x2 : Vec Ideal S8x512 .f32} {x3 : Vec Ideal S256x512 .f32}
  {x4 : Vec Ideal S8x512 .f32} {x5 : Vec Ideal S256x512 .f32} {x6 : Vec Ideal S3x512 .f32}
  (h : Blocks B C V D W R J i x0 x1 x2 x3 x4 x5 x6) (co : Dev nD)
  (arg2 : Memref sig .tc .vmem S256x512 .f32) (harg2 : arg2.IsWhole) (arg3 : Memref sig .tc .vmem S256x512 .f32) (harg3 : arg3.IsWhole) (arg4 : Memref sig .tc .vmem S8x512 .f32) (harg4 : arg4.IsWhole) (arg5 : Memref sig .tc .vmem S256x512 .f32) (harg5 : arg5.IsWhole) (arg6 : Memref sig .tc .vmem S8x512 .f32) (harg6 : arg6.IsWhole) (arg7 : Memref sig .tc .vmem S256x512 .f32) (harg7 : arg7.IsWhole) (arg8 : Memref sig .tc .vmem S3x512 .f32) (harg8 : arg8.IsWhole) (arg10 : Memref sig .tc .vmem S3x256x512 .bf16) (harg10 : arg10.IsWhole) (arg11 : Memref sig .tc .vmem S3x512 .f32) (harg11 : arg11.IsWhole) (arg12 : Memref sig .tc .vmem S8x512 .f32) (harg12 : arg12.IsWhole)
include h

theorem out_A_7 (hc : cond0_0 i)
    (hz : ∀ (a : Fin 8) (l : ℕ), dq B D (R + 256 + a.val) l = 0)
    (s : Fin 3) (a : Fin 256) (l : Fin 512) :
    out0_A_7 (F := Ideal) co i arg2 harg2 arg3 harg3 arg4 harg4 arg5 harg5 arg6 harg6 arg7 harg7 arg8 harg8 arg10 harg10 arg11 harg11 arg12 harg12 hc x0 x1 x2 x3 x4 x5 x6 (ix3 s a l)
      = slab B C V D W s.val (R + a.val) (J + l.val) := by
  unfold out0_A_7
  rw [View.read_writes_eq_canon _ _ _ (cover0_A_7 co i arg2 harg2 arg3 harg3 arg4 harg4 arg5 harg5 arg6 harg6 arg7 harg7 arg8 harg8 arg10 harg10 arg11 harg11 arg12 harg12 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  rw [View.readCov_unit_zero (S := S8x512) _ hz2]
  match s with
  | ⟨0, _⟩ =>
    refine (canon_slab_miss 2 _ _ _ _ a l (by simp)).trans ?_
    refine (canon_slab_miss 1 _ _ _ _ a l (by simp)).trans ?_
    refine (canon_slab_hit 0 _ _ _ _ a l rfl).trans ?_
    unfold k0_pay9
    pointwise
    exact pay8_apply h a l
  | ⟨1, _⟩ =>
    refine (canon_slab_miss 2 _ _ _ _ a l (by simp)).trans ?_
    refine (canon_slab_hit 1 _ _ _ _ a l rfl).trans ?_
    exact pay3_apply (k0_pay5 (F := Ideal)) h (fun a l => (pay5_apply a l).trans (hz a _).symm) a l
  | ⟨2, _⟩ =>
    refine (canon_slab_hit 2 _ _ _ _ a l rfl).trans ?_
    exact pay4_apply (k0_pay5 (F := Ideal)) h (fun a l => (pay5_apply a l).trans (hz a _).symm) a l

theorem out_A_8 (hc : cond0_0 i)
    (k : Fin 3) (l : Fin 512) :
    out0_A_8 (F := Ideal) co i arg2 harg2 arg3 harg3 arg4 harg4 arg5 harg5 arg6 harg6 arg7 harg7 arg8 harg8 arg10 harg10 arg11 harg11 arg12 harg12 hc x0 x1 x2 x3 x4 x5 x6 (ix2 k l)
      = 0 + ∑ a : Fin 256, dwt B C V D k.val (R + a.val) (J + l.val) := by
  unfold out0_A_8
  rw [View.read_writes_eq_canon _ _ _ (cover0_A_8 co i arg2 harg2 arg3 harg3 arg4 harg4 arg5 harg5 arg6 harg6 arg7 harg7 arg8 harg8 arg10 harg10 arg11 harg11 arg12 harg12 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (pay11_apply h _ l).trans (congrArg (· + _) ?_)
    refine (readCov_rows 0 _ _ _ ⟨0, by decide⟩ l 0 rfl).trans ?_
    rw [View.canon_unit_zero (S := S3x512) hz2]
    exact pay6_apply _ l
  | ⟨1, _⟩ =>
    refine (canon_rows_miss 2 _ _ _ _ l (by simp)).trans ?_
    refine (canon_rows_hit 1 _ _ _ _ l 0 rfl).trans ?_
    refine (pay12_apply h _ l).trans (congrArg (· + _) ?_)
    refine (readCov_rows 1 _ _ _ ⟨1, by decide⟩ l 0 rfl).trans ?_
    refine (canon_rows_miss 0 _ _ _ _ l (by simp)).trans ?_
    rw [View.canon_unit_zero (S := S3x512) hz2]
    exact pay6_apply _ l
  | ⟨2, _⟩ =>
    refine (canon_rows_hit 2 _ _ _ _ l 0 rfl).trans ?_
    refine (pay13_apply h _ l).trans (congrArg (· + _) ?_)
    refine (readCov_rows 2 _ _ _ ⟨2, by decide⟩ l 0 rfl).trans ?_
    refine (canon_rows_miss 1 _ _ _ _ l (by simp)).trans ?_
    refine (canon_rows_miss 0 _ _ _ _ l (by simp)).trans ?_
    rw [View.canon_unit_zero (S := S3x512) hz2]
    exact pay6_apply _ l

theorem sout_A (hc : cond0_0 i)
    (a : Fin 8) (l : Fin 512) :
    sout0_A_0 (F := Ideal) co i arg2 harg2 arg3 harg3 arg4 harg4 arg5 harg5 arg6 harg6 arg7 harg7 arg8 harg8 arg10 harg10 arg11 harg11 arg12 harg12 hc x0 x1 x2 x3 x4 x5 x6 (ix2 a l)
      = dq B D (R + a.val) (J + l.val) := by
  unfold sout0_A_0
  rw [View.read_writes_eq_canon _ _ _ (scover0_A_0 co i arg2 harg2 arg3 harg3 arg4 harg4 arg5 harg5 arg6 harg6 arg7 harg7 arg8 harg8 arg10 harg10 arg11 harg11 arg12 harg12 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  rw [View.canon_cons_unit_zero (S := S8x512) hz2]
  exact pay2_apply h a l

theorem out_B_7 (hc : ¬cond0_0 i) (xo : Vec Ideal S3x512 .f32) (xs : Vec Ideal S8x512 .f32)
    (hx : ∀ (a : Fin 8) (l : Fin 512), xs (ix2 a l) = dq B D (R + 256 + a.val) (J + l.val))
    (s : Fin 3) (a : Fin 256) (l : Fin 512) :
    out0_B_7 (F := Ideal) co i arg2 harg2 arg3 harg3 arg4 harg4 arg5 harg5 arg6 harg6 arg7 harg7 arg8 harg8 arg10 harg10 arg11 harg11 arg12 harg12 hc x0 x1 x2 x3 x4 x5 x6 xo xs (ix3 s a l)
      = slab B C V D W s.val (R + a.val) (J + l.val) := by
  unfold out0_B_7
  rw [View.read_writes_eq_canon _ _ _ (cover0_B_7 co i arg2 harg2 arg3 harg3 arg4 harg4 arg5 harg5 arg6 harg6 arg7 harg7 arg8 harg8 arg10 harg10 arg11 harg11 arg12 harg12 hc x0 x1 x2 x3 x4 x5 x6 xo xs)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  match s with
  | ⟨0, _⟩ =>
    refine (canon_slab_miss 2 _ _ _ _ a l (by simp)).trans ?_
    refine (canon_slab_miss 1 _ _ _ _ a l (by simp)).trans ?_
    refine (canon_slab_hit 0 _ _ _ _ a l rfl).trans ?_
    unfold k0_pay9
    pointwise
    exact pay8_apply h a l
  | ⟨1, _⟩ =>
    refine (canon_slab_miss 2 _ _ _ _ a l (by simp)).trans ?_
    refine (canon_slab_hit 1 _ _ _ _ a l rfl).trans ?_
    exact pay3_apply xs h hx a l
  | ⟨2, _⟩ =>
    refine (canon_slab_hit 2 _ _ _ _ a l rfl).trans ?_
    exact pay4_apply xs h hx a l

theorem out_B_8 (hc : ¬cond0_0 i) (xo : Vec Ideal S3x512 .f32) (xs : Vec Ideal S8x512 .f32)
    (k : Fin 3) (l : Fin 512) :
    out0_B_8 (F := Ideal) co i arg2 harg2 arg3 harg3 arg4 harg4 arg5 harg5 arg6 harg6 arg7 harg7 arg8 harg8 arg10 harg10 arg11 harg11 arg12 harg12 hc x0 x1 x2 x3 x4 x5 x6 xo xs (ix2 k l)
      = xo (ix2 k l) + ∑ a : Fin 256, dwt B C V D k.val (R + a.val) (J + l.val) := by
  unfold out0_B_8
  rw [View.read_writes_eq_canon _ _ _ (cover0_B_8 co i arg2 harg2 arg3 harg3 arg4 harg4 arg5 harg5 arg6 harg6 arg7 harg7 arg8 harg8 arg10 harg10 arg11 harg11 arg12 harg12 hc x0 x1 x2 x3 x4 x5 x6 xo xs)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (pay11_apply h _ l).trans (congrArg (· + _) ?_)
    exact ld_rows 0 xo _ _ l 0 rfl
  | ⟨1, _⟩ =>
    refine (canon_rows_miss 2 _ _ _ _ l (by simp)).trans ?_
    refine (canon_rows_hit 1 _ _ _ _ l 0 rfl).trans ?_
    refine (pay12_apply h _ l).trans (congrArg (· + _) ?_)
    exact ld_rows 1 xo _ _ l 0 rfl
  | ⟨2, _⟩ =>
    refine (canon_rows_hit 2 _ _ _ _ l 0 rfl).trans ?_
    refine (pay13_apply h _ l).trans (congrArg (· + _) ?_)
    exact ld_rows 2 xo _ _ l 0 rfl

theorem sout_B (hc : ¬cond0_0 i) (xo : Vec Ideal S3x512 .f32) (xs : Vec Ideal S8x512 .f32)
    (a : Fin 8) (l : Fin 512) :
    sout0_B_0 (F := Ideal) co i arg2 harg2 arg3 harg3 arg4 harg4 arg5 harg5 arg6 harg6 arg7 harg7 arg8 harg8 arg10 harg10 arg11 harg11 arg12 harg12 hc x0 x1 x2 x3 x4 x5 x6 xo xs (ix2 a l)
      = dq B D (R + a.val) (J + l.val) := by
  unfold sout0_B_0
  rw [View.read_writes_eq_canon _ _ _ (scover0_B_0 co i arg2 harg2 arg3 harg3 arg4 harg4 arg5 harg5 arg6 harg6 arg7 harg7 arg8 harg8 arg10 harg10 arg11 harg11 arg12 harg12 hc x0 x1 x2 x3 x4 x5 x6 xo xs)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread, harg12.read_unread, View.ld_unit_zero (S := S256x512) hz2, View.ld_unit_zero (S := S3x512) hz2, View.ld_unit_zero (S := S8x512) hz2, shapeCast_self]
  rw [View.canon_unit_zero (S := S8x512) hz2]
  exact pay2_apply h a l

end Out
end Cert.Sc.Point
-- ==== Proof.ScKernel.lean ====
module
public import proofs.«01_k».proof.Proof.ScPoint
@[expose] public section
set_option maxRecDepth 16384
noncomputable section

/-! The gated short convolution's backward kernel over its grid: each point's blocks as parts of the
argument arrays, the rows carried from point to point, and the two result arrays. -/

namespace Cert.Sc.Kernel
open Cert.Kernel2Ideal Cert.Kernel2Ideal.Gen Cert.Rows Cert.Sc.Point Idealize.ShloMosaic Idealize.ShloMosaic.TcCoe
open Idealize.SL Idealize.SL.Sem

variable (m : (ℓ : Loc nD τ sig) → Buf (Elt Ideal) ℓ) (c : Dev nD)

/-- The arguments, read at natural numbers. -/
def aB (t l : ℕ) : EReal := at2 (m ((c : Thread nD τ).loc main_arg0)) t (2048 + l)
def aC (t l : ℕ) : EReal := at2 (m ((c : Thread nD τ).loc main_arg0)) t (3072 + l)
def aV (t l : ℕ) : EReal := at2 (m ((c : Thread nD τ).loc main_arg0)) t (4096 + l)
def aD (t l : ℕ) : EReal := at2 (m ((c : Thread nD τ).loc main_arg1)) t l
def aW (t l : ℕ) : EReal := at2 (m ((c : Thread nD τ).loc main_arg2)) t l

/-! ## The blocks -/

theorem idx0 : ∀ t : Fin cfg0.N, win0_0.index t = ![15 - t.val % 16, 4 + t.val / 16] :=
  (by decide +kernel : ∀ t : Fin grid0.N, _)
theorem idx1 : ∀ t : Fin cfg0.N, win0_1.index t = ![15 - t.val % 16, 6 + t.val / 16] :=
  (by decide +kernel : ∀ t : Fin grid0.N, _)
theorem idx2 : ∀ t : Fin cfg0.N, win0_2.index t = ![(15 - t.val % 16) * 32 - 1, 6 + t.val / 16] :=
  (by decide +kernel : ∀ t : Fin grid0.N, _)
theorem idx3 : ∀ t : Fin cfg0.N, win0_3.index t = ![15 - t.val % 16, 8 + t.val / 16] :=
  (by decide +kernel : ∀ t : Fin grid0.N, _)
theorem idx4 : ∀ t : Fin cfg0.N, win0_4.index t = ![(15 - t.val % 16) * 32 - 1, 8 + t.val / 16] :=
  (by decide +kernel : ∀ t : Fin grid0.N, _)
theorem idx5 : ∀ t : Fin cfg0.N, win0_5.index t = ![15 - t.val % 16, t.val / 16] :=
  (by decide +kernel : ∀ t : Fin grid0.N, _)
theorem idx6 : ∀ t : Fin cfg0.N, win0_6.index t = ![0, t.val / 16] :=
  (by decide +kernel : ∀ t : Fin grid0.N, _)
theorem idx7 : ∀ t : Fin cfg0.N, win0_7.index t = ![2, 15 - t.val % 16, t.val / 16] :=
  (by decide +kernel : ∀ t : Fin grid0.N, _)
theorem idx8 : ∀ t : Fin cfg0.N, win0_8.index t = ![0, t.val / 16] :=
  (by decide +kernel : ∀ t : Fin grid0.N, _)
theorem coord1 : ∀ t : Fin cfg0.N, (grid0.coords t 1).val = t.val % 16 :=
  (by decide +kernel : ∀ t : Fin grid0.N, _)

/-- The first row and the first column of a point's blocks. -/
abbrev row (t : ℕ) : ℕ := (15 - t % 16) * 256
abbrev col (t : ℕ) : ℕ := t / 16 * 512

theorem lt32 (t : Fin cfg0.N) : t.val < 32 := lt_of_lt_of_eq t.isLt N_0

theorem blocks (t : Fin cfg0.N) :
    Blocks (aB m c) (aC m c) (aV m c) (aD m c) (aW m c) (row t.val) (col t.val) (grid0.coords t)
      (iblk m c 0 t) (iblk m c 1 t) (iblk m c 2 t) (iblk m c 3 t) (iblk m c 4 t) (iblk m c 5 t) (iblk m c 6 t) := by
  have ht := lt32 t
  constructor
  · intro a l
    have ha := a.isLt
    have hl := l.isLt
    refine Eq.trans ?_ (at2_of_lt (m ((c : Thread nD τ).loc main_arg0)) (r := row t.val + a.val) (c := 2048 + (col t.val + l.val)) (by unfold row at *; omega) (by unfold col; omega)).symm
    blk_ext [iblk, V, idx0 t]
    all_goals (simp only [row, col] at *; omega)
  · intro a l
    have ha := a.isLt
    have hl := l.isLt
    refine Eq.trans ?_ (at2_of_lt (m ((c : Thread nD τ).loc main_arg0)) (r := row t.val + a.val) (c := 3072 + (col t.val + l.val)) (by unfold row at *; omega) (by unfold col; omega)).symm
    blk_ext [iblk, V, idx1 t]
    all_goals (simp only [row, col] at *; omega)
  · intro hR a l
    have ha := a.isLt
    have hl := l.isLt
    have hR' : row t.val ≠ 0 := hR
    refine Eq.trans ?_ (at2_of_lt (m ((c : Thread nD τ).loc main_arg0)) (r := row t.val - 8 + a.val) (c := 3072 + (col t.val + l.val)) (by unfold row at *; omega) (by unfold col; omega)).symm
    blk_ext [iblk, V, idx2 t]
    all_goals (simp only [row, col] at *; omega)
  · intro a l
    have ha := a.isLt
    have hl := l.isLt
    refine Eq.trans ?_ (at2_of_lt (m ((c : Thread nD τ).loc main_arg0)) (r := row t.val + a.val) (c := 4096 + (col t.val + l.val)) (by unfold row at *; omega) (by unfold col; omega)).symm
    blk_ext [iblk, V, idx3 t]
    all_goals (simp only [row, col] at *; omega)
  · intro hR a l
    have ha := a.isLt
    have hl := l.isLt
    have hR' : row t.val ≠ 0 := hR
    refine Eq.trans ?_ (at2_of_lt (m ((c : Thread nD τ).loc main_arg0)) (r := row t.val - 8 + a.val) (c := 4096 + (col t.val + l.val)) (by unfold row at *; omega) (by unfold col; omega)).symm
    blk_ext [iblk, V, idx4 t]
    all_goals (simp only [row, col] at *; omega)
  · intro a l
    have ha := a.isLt
    have hl := l.isLt
    refine Eq.trans ?_ (at2_of_lt (m ((c : Thread nD τ).loc main_arg1)) (r := row t.val + a.val) (c := (col t.val + l.val)) (by unfold row at *; omega) (by unfold col; omega)).symm
    blk_ext [iblk, V, idx5 t]
    all_goals (simp only [row, col] at *; omega)
  · intro a l
    have ha := a.isLt
    have hl := l.isLt
    refine Eq.trans ?_ (at2_of_lt (m ((c : Thread nD τ).loc main_arg2)) (r := a.val) (c := col t.val + l.val) ha (by unfold col; omega)).symm
    blk_ext [iblk, V, idx6 t]
    all_goals (simp only [row, col] at *; omega)
  · rw [coord1]; unfold row; omega
  · unfold row; omega

theorem aD_ge {t : ℕ} (h : 4096 ≤ t) (l : ℕ) : aD m c t l = 0 := at2_of_ge _ h

theorem dq_ge {t : ℕ} (h : 4096 ≤ t) (l : ℕ) : dq (aB m c) (aD m c) t l = 0 := by
  unfold dq
  rw [aD_ge m c h, zero_mul]

/-! ## What each point leaves -/

/-- The carried rows after a point are the convolution's cotangent in the first rows of its chunk. -/
theorem carried (t : Fin cfg0.N) (a : Fin 8) (l : Fin 512) :
    (outsAt0 m c t.val t.isLt).2.2 (ix2 a l) = dq (aB m c) (aD m c) (row t.val + a.val) (col t.val + l.val) := by
  by_cases h0 : t.val % 16 = 0
  · rw [outsAt0_A m c t h0]
    dsimp only
    exact sout_A (blocks m c t) c _ _ _ _ _ _ _ _ _ _ _ _ _ _ _ _ _ _ _ _ _ a l
  · rw [outsAt0_B m c t h0]
    dsimp only
    exact sout_B (blocks m c t) c _ _ _ _ _ _ _ _ _ _ _ _ _ _ _ _ _ _ _ _ _ _ _ a l

/-- The first output block after a point. -/
theorem slabs (t : Fin cfg0.N) (s : Fin 3) (a : Fin 256) (l : Fin 512) :
    (outsAt0 m c t.val t.isLt).1 (ix3 s a l)
      = slab (aB m c) (aC m c) (aV m c) (aD m c) (aW m c) s.val (row t.val + a.val) (col t.val + l.val) := by
  by_cases h0 : t.val % 16 = 0
  · rw [outsAt0_A m c t h0]
    dsimp only
    refine out_A_7 (blocks m c t) c _ _ _ _ _ _ _ _ _ _ _ _ _ _ _ _ _ _ _ _ _ (fun a l => dq_ge m c ?_ l) s a l
    unfold row; omega
  · rw [outsAt0_B m c t h0]
    dsimp only
    refine out_B_7 (blocks m c t) c _ _ _ _ _ _ _ _ _ _ _ _ _ _ _ _ _ _ _ _ _ _ _ (fun a l => ?_) s a l
    refine (carried m c ⟨t.val - 1, Nat.lt_of_le_of_lt (Nat.sub_le _ _) t.isLt⟩ a l).trans ?_
    have e1 : row (t.val - 1) = row t.val + 256 := by unfold row; omega
    have e2 : col (t.val - 1) = col t.val := by unfold col; omega
    show dq _ _ (row (t.val - 1) + a.val) (col (t.val - 1) + l.val) = _
    rw [e1, e2]

theorem sum_rows (f : ℕ → EReal) (R : ℕ) : ∑ a : Fin 256, f (R + a.val) = ∑ x ∈ Finset.Ico R (R + 256), f x := by
  rw [Finset.sum_Ico_eq_sum_range, show R + 256 - R = 256 by omega, Fin.sum_univ_eq_sum_range (fun a => f (R + a))]

/-- The weight's gradient after a point: the sum over the rows from the point's chunk on. -/
theorem weights : ∀ (n : ℕ) (hn : n < cfg0.N) (k : Fin 3) (l : Fin 512),
    (outsAt0 m c n hn).2.1 (ix2 k l)
      = ∑ x ∈ Finset.Ico (row n) 4096, dwt (aB m c) (aC m c) (aV m c) (aD m c) k.val x (col n + l.val) := by
  intro n
  induction n using Nat.strong_induction_on with
  | _ n ih =>
    intro hn k l
    have hlt : n < 32 := lt_of_lt_of_eq hn N_0
    by_cases h0 : n % 16 = 0
    · rw [outsAt0_A m c ⟨n, hn⟩ h0]
      dsimp only
      refine (out_A_8 (blocks m c ⟨n, hn⟩) c _ _ _ _ _ _ _ _ _ _ _ _ _ _ _ _ _ _ _ _ _ k l).trans ?_
      rw [zero_add, sum_rows (fun x => dwt _ _ _ _ _ x _)]
      have e : row n = 3840 := by unfold row; omega
      show ∑ x ∈ Finset.Ico (row n) (row n + 256), _ = _
      rw [e]
    · rw [outsAt0_B m c ⟨n, hn⟩ h0]
      dsimp only
      refine (out_B_8 (blocks m c ⟨n, hn⟩) c _ _ _ _ _ _ _ _ _ _ _ _ _ _ _ _ _ _ _ _ _ _ _ k l).trans ?_
      rw [sum_rows (fun x => dwt _ _ _ _ _ x _), ih (n - 1) (by omega)]
      have e1 : row (n - 1) = row n + 256 := by unfold row; omega
      have e2 : col (n - 1) = col n := by unfold col; omega
      show (∑ x ∈ Finset.Ico (row (n - 1)) 4096, dwt _ _ _ _ _ x (col (n - 1) + l.val))
        + ∑ x ∈ Finset.Ico (row n) (row n + 256), dwt _ _ _ _ _ x (col n + l.val) = _
      rw [e1, e2, add_comm, Finset.sum_Ico_consecutive _ (by omega) (by unfold row; omega)]

/-! ## The result arrays -/

/-- The first result: three slabs of the nine written, the others as they were. -/
def G7 : Vec Ideal S9x4096x1024 .bf16 := fun i =>
  if 6 ≤ (i 0).val then
    slab (aB m c) (aC m c) (aV m c) (aD m c) (aW m c) ((i 0).val - 6) (i 1).val (i 2).val
  else m ((c : Thread nD τ).loc main_arg3) i

/-- The second: the weight's gradient. -/
def G8 : Vec Ideal S3x1024 .f32 := fun i =>
  ∑ x ∈ Finset.range 4096, dwt (aB m c) (aC m c) (aV m c) (aD m c) (i 0).val x (i 1).val

theorem final8 : (dats m 0 c).arrAt 8 cfg0.N = G8 m c := by
  refine (dats m 0 c).arrAt_eq_of_covers 8 _ (by decide +kernel) fun t hf y => ?_
  blk_simp
  rw [after0_8]
  have h15 : t.val % 16 = 15 := (flush0_8 t).mp hf
  idx_vars y
  refine (weights m c t.val t.isLt _ _).trans ?_
  have e : row t.val = 0 := by unfold row; omega
  rw [e, ← Finset.range_eq_Ico]
  unfold G8
  blk_simp [idx8 t]

theorem final7 : (dats m 0 c).arrAt 7 cfg0.N = G7 m c := by
  refine (dats m 0 c).arrAt_eq_of_coversWhere_of_agree 7 _ (fun x => x 0 = 2) (by decide +kernel) (fun t hf y => ?_) fun j hq => ?_
  · blk_simp
    rw [after0_7]
    idx_vars y
    refine (slabs m c t _ _ _).trans ?_
    unfold G7
    blk_simp [idx7 t]
    rw [if_pos (by show 6 ≤ 2 * 3 + y0.val; omega)]
    rw [show 2 * 3 + y0.val - 6 = y0.val by omega]
  · show V m c main_v0_0 j = G7 m c j
    have h9 : (j 0).val < 9 := (j 0).isLt
    have hq' : ¬(j 0).val / 3 = 2 := hq
    unfold G7
    rw [if_neg (by omega)]
    entry_read
    rfl

end Cert.Sc.Kernel
-- ==== Proof.ScRef.lean ====
module
public import proofs.«01_k».proof.Proof.Gen.Reference2Ideal.Read
public import proofs.«01_k».proof.Proof.ScPoint
@[expose] public section
set_option maxRecDepth 16384
noncomputable section

/-! The reference of the gated short convolution's backward, read at an index. -/

namespace Cert.Sc.Ref
open Cert.Reference2Ideal Cert.Reference2Ideal.Gen Cert.Reference2Ideal.Read Cert.Rows Cert.Sc.Point Idealize.ShloMosaic
open Idealize.ShloMosaic.TcCoe Idealize.SL.Sem

variable (x0 : Vec Ideal S4096x9216 .f32) (x1 : Vec Ideal S4096x1024 .f32) (x2 : Vec Ideal S3x1024 .f32)
  (x3 : Vec Ideal S9x4096x1024 .bf16)

def pB (t l : ℕ) : EReal := at2 x0 t (2048 + l)
def pC (t l : ℕ) : EReal := at2 x0 t (3072 + l)
def pV (t l : ℕ) : EReal := at2 x0 t (4096 + l)
def pD (t l : ℕ) : EReal := at2 x1 t l
def pW (t l : ℕ) : EReal := at2 x2 t l

theorem v5_apply (n : Fin 4098) (l : Fin 1024) (t k : ℕ) (hk : k ≤ 2) (hn : n.val + k = t + 2) :
    val_main_v5 (F := Ideal) x0 (ix2 n l) = cvB (pC x0) (pV x0) t k l.val := by
  pointwise [val_main_v5, val_main_v4, val_main_v3, val_main_v2, val_main_v1, val_main_cst]
  unfold cvB
  have hl := l.isLt
  by_cases h : n.val < 2
  · exact (dif_pos h).trans (if_neg (by omega)).symm
  · refine (dif_neg h).trans (Eq.trans ?_ (if_pos (by omega)).symm)
    refine congrArg₂ (· * ·) (at2_eq x0 _ _ ?_ rfl) (at2_eq x0 _ _ ?_ rfl)
    · show n.val - 2 = t - k; omega
    · show n.val - 2 = t - k; omega

theorem w_apply (k : Fin 3) (l : Fin 1024) : x2 (ix2 k l) = pW x2 k.val l.val := at2_eq x2 _ _ rfl rfl

/-- The convolution of `c · v`. -/
theorem v26_apply (a : Fin 4096) (l : Fin 1024) :
    val_main_v26 (F := Ideal) x0 x2 (ix2 a l) = q (pC x0) (pV x0) (pW x2) a.val l.val := by
  pointwise [val_main_v26, val_main_v19, val_main_v12, val_main_v18, val_main_v25, val_main_v7, val_main_v13,
    val_main_v20, val_main_v24, val_main_v23, val_main_v22, val_main_v21, val_main_v17, val_main_v16, val_main_v15,
    val_main_v14, val_main_v11, val_main_v10, val_main_v9, val_main_v8]
  rw [v5_apply x0 _ l a.val 2 (by omega) rfl, v5_apply x0 _ l a.val 1 (by omega) (by show 1 + a.val + 1 = _; omega),
    v5_apply x0 _ l a.val 0 (by omega) (by show 2 + a.val + 0 = _; omega), w_apply x2, w_apply x2, w_apply x2]
  rfl

/-- The convolution's cotangent. -/
theorem v28_apply (a : Fin 4096) (l : Fin 1024) (t : ℕ) (h : a.val = t) :
    val_main_v28 (F := Ideal) x0 x1 (ix2 a l) = dq (pB x0) (pD x1) t l.val := by
  subst h
  have hl := l.isLt
  pointwise [val_main_v28, val_main_v0]
  rw [mul_comm]
  exact congrArg₂ (· * ·) (at2_eq x1 _ _ rfl rfl) (at2_eq x0 _ _ rfl rfl)

theorem dq_ge {t : ℕ} (h : 4096 ≤ t) (l : ℕ) : dq (pB x0) (pD x1) t l = 0 := by
  unfold dq pD
  rw [at2_of_ge _ h, zero_mul]

/-- The padded sum: the contribution of each of the convolution's three rows. -/
theorem v60_apply (n : Fin 4098) (l : Fin 1024) (t : ℕ) (h : n.val = t + 2) :
    val_main_v60 (F := Ideal) x0 x1 x2 (ix2 n l) = dcv (pB x0) (pD x1) (pW x2) t l.val := by
  have hn := n.isLt
  pointwise [val_main_v60, val_main_v49, val_main_v38, val_main_v48, val_main_v59, val_main_cst_4, val_main_cst_8,
    val_main_cst_12]
  have e2 : (if h : 2 ≤ n.val ∧ n.val - 2 < 4096 then val_main_v34 (F := Ideal) x0 x1 x2 (ix2 ⟨n.val - 2, h.2⟩ l) else 0)
      = dq (pB x0) (pD x1) t l.val * pW x2 2 l.val := by
    rw [dif_pos (by omega)]
    pointwise [val_main_v34, val_main_v33, val_main_v23, val_main_v22, val_main_v21]
    rw [v28_apply x0 x1 _ l t (by show n.val - 2 = t; omega), w_apply x2]
    rfl
  have e1 : (if h : 1 ≤ n.val ∧ n.val - 1 < 4096 then val_main_v43 (F := Ideal) x0 x1 x2 (ix2 ⟨n.val - 1, h.2⟩ l) else 0)
      = dq (pB x0) (pD x1) (t + 1) l.val * pW x2 1 l.val := by
    split_ifs with h1
    · pointwise [val_main_v43, val_main_v42, val_main_v16, val_main_v15, val_main_v14]
      rw [v28_apply x0 x1 _ l (t + 1) (by show n.val - 1 = t + 1; omega), w_apply x2]
      rfl
    · rw [dq_ge x0 x1 (by omega), zero_mul]
  have e0 : (if h : n.val < 4096 then val_main_v54 (F := Ideal) x0 x1 x2 (ix2 ⟨n.val, h⟩ l) else 0)
      = dq (pB x0) (pD x1) (t + 2) l.val * pW x2 0 l.val := by
    split_ifs with h1
    · pointwise [val_main_v54, val_main_v53, val_main_v10, val_main_v9, val_main_v8]
      rw [v28_apply x0 x1 _ l (t + 2) h, w_apply x2]
      rfl
    · rw [dq_ge x0 x1 (by omega), zero_mul]
  refine (congrArg₂ (· + ·) (congrArg₂ (· + ·) e2 e1) e0).trans ?_
  unfold dcv
  rw [add_comm (_ + _) (dq _ _ (t + 2) _ * _), add_comm (dq _ _ t _ * _), add_assoc]

/-- One row's sums. -/
theorem row_sum (k : ℕ) (hk : k ≤ 2) (l : Fin 1024) (f : Vec Ideal S4096x1024 .f32)
    (hf : ∀ a : Fin 4096, f (ix2 a l) = cvB (pC x0) (pV x0) a.val (2 - k) l.val) :
    ∑ a : Fin 4096, f (ix2 a l) * val_main_v28 (F := Ideal) x0 x1 (ix2 a l)
      = ∑ x ∈ Finset.range 4096, dwt (pB x0) (pC x0) (pV x0) (pD x1) k x l.val := by
  rw [← Fin.sum_univ_eq_sum_range (fun x => dwt (pB x0) (pC x0) (pV x0) (pD x1) k x l.val)]
  refine Finset.sum_congr rfl fun a _ => ?_
  rw [hf, v28_apply x0 x1 a l a.val rfl, mul_comm]
  rfl

/-- The weight's gradient. -/
theorem v58_apply (k : Fin 3) (l : Fin 1024) :
    val_main_v58 (F := Ideal) x0 x1 (ix2 k l)
      = ∑ x ∈ Finset.range 4096, dwt (pB x0) (pC x0) (pV x0) (pD x1) k.val x l.val := by
  have h2 := row_sum x0 x1 2 (by omega) l (val_main_v20 (F := Ideal) x0) fun a => by
    pointwise [val_main_v20]
    exact v5_apply x0 _ l a.val 0 (by omega) (by show 2 + a.val + 0 = _; omega)
  have h1 := row_sum x0 x1 1 (by omega) l (val_main_v13 (F := Ideal) x0) fun a => by
    pointwise [val_main_v13]
    exact v5_apply x0 _ l a.val 1 (by omega) (by show 1 + a.val + 1 = _; omega)
  have h0 := row_sum x0 x1 0 (by omega) l (val_main_v7 (F := Ideal) x0) fun a => by
    pointwise [val_main_v7]
    exact v5_apply x0 _ l a.val 2 (by omega) rfl
  have e2 : val_main_v36 (F := Ideal) x0 x1 (ix2 0 l)
      = ∑ x ∈ Finset.range 4096, dwt (pB x0) (pC x0) (pV x0) (pD x1) 2 x l.val := by
    pointwise [val_main_v36, val_main_v35, val_main_v32, val_main_v31, val_main_v30, val_main_cst_1, val_main_cst_2]
    simpa using h2
  have e1 : val_main_v45 (F := Ideal) x0 x1 (ix2 0 l)
      = ∑ x ∈ Finset.range 4096, dwt (pB x0) (pC x0) (pV x0) (pD x1) 1 x l.val := by
    pointwise [val_main_v45, val_main_v44, val_main_v41, val_main_v40, val_main_v39, val_main_cst_5, val_main_cst_6]
    simpa using h1
  have e0 : val_main_v56 (F := Ideal) x0 x1 (ix2 0 l)
      = ∑ x ∈ Finset.range 4096, dwt (pB x0) (pC x0) (pV x0) (pD x1) 0 x l.val := by
    pointwise [val_main_v56, val_main_v55, val_main_v52, val_main_v51, val_main_v50, val_main_cst_9, val_main_cst_10]
    simpa using h0
  match k with
  | ⟨0, _⟩ =>
    pointwise [val_main_v58, val_main_v47, val_main_v37, val_main_v46, val_main_v57, val_main_cst_3, val_main_cst_7,
      val_main_cst_11]
    exact e0
  | ⟨1, _⟩ =>
    pointwise [val_main_v58, val_main_v47, val_main_v37, val_main_v46, val_main_v57, val_main_cst_3, val_main_cst_7,
      val_main_cst_11]
    exact e1
  | ⟨2, _⟩ =>
    pointwise [val_main_v58, val_main_v47, val_main_v37, val_main_v46, val_main_v57, val_main_cst_3, val_main_cst_7,
      val_main_cst_11]
    exact e2

theorem v66_apply (z : Fin 1) (a : Fin 4096) (l : Fin 1024) :
    val_main_v66 (F := Ideal) x0 x1 x2 (ix3 z a l) = slab (pB x0) (pC x0) (pV x0) (pD x1) (pW x2) 0 a.val l.val := by
  pointwise [val_main_v66, val_main_v29]
  rw [v26_apply]
  exact congrArg (· * _) (at2_eq x1 _ _ rfl rfl)

theorem v67_apply (z : Fin 1) (a : Fin 4096) (l : Fin 1024) :
    val_main_v67 (F := Ideal) x0 x1 x2 (ix3 z a l) = slab (pB x0) (pC x0) (pV x0) (pD x1) (pW x2) 1 a.val l.val := by
  have hl := l.isLt
  pointwise [val_main_v67, val_main_v64, val_main_v62, val_main_v2]
  rw [v60_apply x0 x1 x2 _ l a.val (by show 2 + a.val = _; omega)]
  exact congrArg (_ * ·) (at2_eq x0 _ _ rfl rfl)

theorem v63_apply (a : Fin 4096) (l : Fin 1024) :
    val_main_v63 (F := Ideal) x0 x1 x2 (ix2 a l) = slab (pB x0) (pC x0) (pV x0) (pD x1) (pW x2) 2 a.val l.val := by
  have hl := l.isLt
  pointwise [val_main_v63, val_main_v62, val_main_v1]
  rw [v60_apply x0 x1 x2 _ l a.val (by show 2 + a.val = _; omega), mul_comm]
  exact congrArg (_ * ·) (at2_eq x0 _ _ rfl rfl)

/-- The gradient's slabs. -/
theorem v71_apply (k : Fin 9) (a : Fin 4096) (l : Fin 1024) :
    val_main_v71 (F := Ideal) x0 x1 x2 x3 (ix3 k a l)
      = if 6 ≤ k.val then slab (pB x0) (pC x0) (pV x0) (pD x1) (pW x2) (k.val - 6) a.val l.val else x3 (ix3 k a l) := by
  have hk := k.isLt
  by_cases h6 : k.val < 6
  · rw [if_neg (by omega)]
    pointwise [val_main_v71, val_main_v70, val_main_v69, val_main_v68]
    refine (dif_pos h6).trans ?_
    pointwise [val_main_v65]
  rw [if_pos (by omega)]
  have h : k.val - 6 = 0 ∨ k.val - 6 = 1 ∨ k.val - 6 = 2 := by omega
  rcases h with e | e | e
  · rw [e]
    pointwise [val_main_v71, val_main_v70, val_main_v69, val_main_v68]
    refine (dif_neg h6).trans ((dif_pos (by omega)).trans ?_)
    exact v66_apply x0 x1 x2 _ a l
  · rw [e]
    pointwise [val_main_v71, val_main_v70, val_main_v69, val_main_v68]
    refine (dif_neg h6).trans ((dif_neg (by omega)).trans ((dif_pos (by omega)).trans ?_))
    exact v67_apply x0 x1 x2 _ a l
  · rw [e]
    pointwise [val_main_v71, val_main_v70, val_main_v69, val_main_v68]
    refine (dif_neg h6).trans ((dif_neg (by omega)).trans ((dif_neg (by omega)).trans ?_))
    exact v63_apply x0 x1 x2 a l

end Cert.Sc.Ref
-- ==== Proof.ScClaims.lean ====
module
public import proofs.«01_k».proof.Defs
public import proofs.«01_k».proof.Proof.ScKernel
public import proofs.«01_k».proof.Proof.ScRef
public import proofs.«01_k».proof.Proof.Gen.Kernel2.Frame
public import proofs.«01_k».proof.Proof.Gen.Reference2Ideal.Run
@[expose] public section
set_option maxRecDepth 16384
noncomputable section

/-! The claims about the gated short convolution's backward. -/

namespace Cert.Sc.Claims
open Idealize.ShloMosaic Idealize.ShloMosaic.TcCoe Idealize.SL.Sem Cert.Rows Cert.Sc.Point

/-- The reference's first result is the array of slabs. -/
theorem ref_dp (m : (ℓ : Loc Kernel2Ideal.nD Kernel2Ideal.τ Kernel2Ideal.sig) → Buf (Elt Ideal) ℓ) (c : Dev Kernel2Ideal.nD) :
    Reference2Ideal.Read.val_main_v71 (F := Ideal) (m ((c.tc : Thread _ _).loc Kernel2Ideal.main_arg0))
      (m ((c.tc : Thread _ _).loc Kernel2Ideal.main_arg1)) (m ((c.tc : Thread _ _).loc Kernel2Ideal.main_arg2))
      (m ((c.tc : Thread _ _).loc Kernel2Ideal.main_arg3)) = Sc.Kernel.G7 m c := by
  funext j
  idx_vars j
  exact Sc.Ref.v71_apply _ _ _ _ _ _ _

/-- The second is the weight's gradient. -/
theorem ref_dw (m : (ℓ : Loc Kernel2Ideal.nD Kernel2Ideal.τ Kernel2Ideal.sig) → Buf (Elt Ideal) ℓ) (c : Dev Kernel2Ideal.nD) :
    Reference2Ideal.Read.val_main_v58 (F := Ideal) (m ((c.tc : Thread _ _).loc Kernel2Ideal.main_arg0))
      (m ((c.tc : Thread _ _).loc Kernel2Ideal.main_arg1)) = Sc.Kernel.G8 m c := by
  funext j
  idx_vars j
  exact Sc.Ref.v58_apply _ _ _ _

theorem algebraic : Cert.algebraic_Kernel2Ideal_Reference2Ideal := by
  pair_intro
  · run_from Cert.Kernel2Ideal.Value.run_blocks m g
  · refine (θ_run _ _ _).mono (fun r h c => ?_) (Cert.Reference2Ideal.Value.run (F := Ideal) m' g')
    obtain ⟨a0, a1, a2, a3⟩ := hagree c
    obtain ⟨h0, h1, hrest⟩ := h c
    refine ⟨?_, ?_, hrest⟩
    · refine h0.trans ((Cert.Reference2Ideal.Read.val_main_v71_eq m' c).trans ?_)
      rw [a0, a1, a2, a3]
      exact (ref_dp m c).trans (Sc.Kernel.final7 m c).symm
    · refine h1.trans ((Cert.Reference2Ideal.Read.val_main_v58_eq _ _).trans ?_)
      rw [a0, a1]
      exact (ref_dw m c).trans (Sc.Kernel.final8 m c).symm

end Cert.Sc.Claims
-- ==== Proof.MmForward.lean ====
module
public import proofs.«01_k».proof.Defs
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelLoIdeal.Value
public import proofs.«01_k».proof.Proof.Gen.ReferenceLoIdeal.Run
public import proofs.«01_k».proof.Proof.Gen.ReferenceLoIdeal.Read
public import proofs.«01_k».proof.Proof.Gen.KernelOIdeal.Value
public import proofs.«01_k».proof.Proof.Gen.ReferenceOIdeal.Run
public import proofs.«01_k».proof.Proof.Gen.ReferenceOIdeal.Read
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Rows
public import Idealize.ShloMosaic.Lib.Claim
@[expose] public section
set_option maxRecDepth 16384
noncomputable section

/-! The forward products: each result array, block by block, is the whole product. -/

namespace Cert.Mm

namespace In
open Cert.Rows Cert.KernelInIdeal Cert.KernelInIdeal.Gen Idealize.ShloMosaic Idealize.ShloMosaic.TcCoe
open Idealize.SL Idealize.SL.Sem

/-- What a point leaves in its block of the result. -/
theorem out_apply (x0 : Vec Ideal S1024x2048 .bf16) (x1 : Vec Ideal S2048x1024 .bf16) (a : Fin 1024) (b : Fin 1024) :
    out0_2 x0 x1 (ix2 a b) = ∑ k : Fin 2048, x0 (ix2 a k) * x1 (ix2 k b) := by
  unfold out0_2 k0_pay1
  rw [View.canon_unit_zero (S := S1024x1024) hz2]
  simp only [View.ld_unit_zero (S := S1024x2048) hz2, View.ld_unit_zero (S := S2048x1024) hz2]
  pointwise

/-- The reference at an index. -/
theorem ref_apply (x0 : (⟨S4096x2048, .bf16⟩ : BufTy).Contents (Elt Ideal)) (x1 : (⟨S2048x9216, .bf16⟩ : BufTy).Contents (Elt Ideal)) (a : Fin 4096) (b : Fin 9216) :
    ReferenceInIdeal.Read.val_main_v2 (F := Ideal) x0 x1 (ix2 a b) = ∑ k : Fin 2048, x0 (ix2 a k) * x1 (ix2 k b) := by
  pointwise [ReferenceInIdeal.Read.val_main_v2, ReferenceInIdeal.Read.val_main_v1, ReferenceInIdeal.Read.val_main_v0]

variable (m : (ℓ : Loc nD τ sig) → Buf (Elt Ideal) ℓ) (c : Dev nD)

theorem idx0 : ∀ t : Fin cfg0.N, win0_0.index t = ![t.val / 9, 0] := (by decide +kernel : ∀ t : Fin grid0.N, _)
theorem idx1 : ∀ t : Fin cfg0.N, win0_1.index t = ![0, t.val % 9] := (by decide +kernel : ∀ t : Fin grid0.N, _)
theorem idx2 : ∀ t : Fin cfg0.N, win0_2.index t = ![t.val / 9, t.val % 9] := (by decide +kernel : ∀ t : Fin grid0.N, _)

/-- The result array is the reference's. -/
theorem final : (dats m 0 c).arrAt 2 cfg0.N = ReferenceInIdeal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceInIdeal.Read.val_main_v2 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelInIdeal_ReferenceInIdeal := by
  pair_intro
  · run_from Cert.KernelInIdeal.Value.run_blocks m g
  · refine (θ_run _ _ _).mono (fun r h c => ?_) (Cert.ReferenceInIdeal.Value.run (F := Ideal) m' g')
    obtain ⟨a0, a1⟩ := hagree c
    obtain ⟨h0, hrest⟩ := h c
    refine ⟨h0.trans ((Cert.ReferenceInIdeal.Read.val_main_v2_eq _ _).trans ?_), hrest⟩
    rw [a0, a1]
    exact (final m c).symm

end In

namespace Lo
open Cert.Rows Cert.KernelLoIdeal Cert.KernelLoIdeal.Gen Idealize.ShloMosaic Idealize.ShloMosaic.TcCoe
open Idealize.SL Idealize.SL.Sem

/-- What a point leaves in its block of the result. -/
theorem out_apply (x0 : Vec Ideal S1024x1024 .bf16) (x1 : Vec Ideal S1024x1024 .bf16) (a : Fin 1024) (b : Fin 1024) :
    out0_2 x0 x1 (ix2 a b) = ∑ k : Fin 1024, x0 (ix2 a k) * x1 (ix2 k b) := by
  unfold out0_2 k0_pay1
  rw [View.canon_unit_zero (S := S1024x1024) hz2]
  simp only [View.ld_unit_zero (S := S1024x1024) hz2]
  pointwise

/-- The reference at an index. -/
theorem ref_apply (x0 : (⟨S4096x1024, .bf16⟩ : BufTy).Contents (Elt Ideal)) (x1 : (⟨S1024x2048, .bf16⟩ : BufTy).Contents (Elt Ideal)) (a : Fin 4096) (b : Fin 2048) :
    ReferenceLoIdeal.Read.val_main_v3 (F := Ideal) x0 x1 (ix2 a b) = ∑ k : Fin 1024, x0 (ix2 a k) * x1 (ix2 k b) := by
  pointwise [ReferenceLoIdeal.Read.val_main_v3, ReferenceLoIdeal.Read.val_main_v2, ReferenceLoIdeal.Read.val_main_v1, ReferenceLoIdeal.Read.val_main_v0]

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The result array is the reference's. -/
theorem final : (dats m 0 c).arrAt 2 cfg0.N = ReferenceLoIdeal.Read.val_main_v3 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceLoIdeal.Read.val_main_v3 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelLoIdeal_ReferenceLoIdeal := by
  pair_intro
  · run_from Cert.KernelLoIdeal.Value.run_blocks m g
  · refine (θ_run _ _ _).mono (fun r h c => ?_) (Cert.ReferenceLoIdeal.Value.run (F := Ideal) m' g')
    obtain ⟨a0, a1⟩ := hagree c
    obtain ⟨h0, hrest⟩ := h c
    refine ⟨h0.trans ((Cert.ReferenceLoIdeal.Read.val_main_v3_eq _ _).trans ?_), hrest⟩
    rw [a0, a1]
    exact (final m c).symm

end Lo

namespace O
open Cert.Rows Cert.KernelOIdeal Cert.KernelOIdeal.Gen Idealize.ShloMosaic Idealize.ShloMosaic.TcCoe
open Idealize.SL Idealize.SL.Sem

/-- What a point leaves in its block of the result. -/
theorem out_apply (x0 : Vec Ideal S1024x2048 .bf16) (x1 : Vec Ideal S2048x1024 .bf16) (x2 : Vec Ideal S1024x1024 .f32) (a : Fin 1024) (b : Fin 1024) :
    out0_3 x0 x1 x2 (ix2 a b) = (∑ k : Fin 2048, x0 (ix2 a k) * x1 (ix2 k b)) + x2 (ix2 a b) := by
  unfold out0_3 k0_pay1
  rw [View.canon_unit_zero (S := S1024x1024) hz2]
  simp only [View.ld_unit_zero (S := S1024x2048) hz2, View.ld_unit_zero (S := S2048x1024) hz2, View.ld_unit_zero (S := S1024x1024) hz2]
  pointwise

/-- The reference at an index. -/
theorem ref_apply (x0 : (⟨S4096x2048, .bf16⟩ : BufTy).Contents (Elt Ideal)) (x1 : (⟨S2048x2048, .bf16⟩ : BufTy).Contents (Elt Ideal)) (x2 : (⟨S4096x2048, .f32⟩ : BufTy).Contents (Elt Ideal)) (a : Fin 4096) (b : Fin 2048) :
    ReferenceOIdeal.Read.val_main_v3 (F := Ideal) x0 x1 x2 (ix2 a b) = x2 (ix2 a b) + ∑ k : Fin 2048, x0 (ix2 a k) * x1 (ix2 k b) := by
  pointwise [ReferenceOIdeal.Read.val_main_v3, ReferenceOIdeal.Read.val_main_v2, ReferenceOIdeal.Read.val_main_v1, ReferenceOIdeal.Read.val_main_v0]

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

/-- The result array is the reference's. -/
theorem final : (dats m 0 c).arrAt 3 cfg0.N = ReferenceOIdeal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  refine (out_apply _ _ _ _ _).trans ?_
  refine Eq.trans ?_ (congrArg (ReferenceOIdeal.Read.val_main_v3 (F := Ideal) (m ((c : Thread nD τ).loc main_arg0)) (m ((c : Thread nD τ).loc main_arg1)) (m ((c : Thread nD τ).loc main_arg2))) (ValueIdx.eq_ix2 _)).symm
  refine Eq.trans ?_ (ref_apply _ _ _ _ _).symm
  refine (add_comm _ _).trans (congrArg₂ (· + ·) ?_ (Finset.sum_congr rfl fun k _ => congrArg₂ (· * ·) ?_ ?_))
  · blk_ext [iblk, V, idx2 t, idx3 t]
  · blk_ext [iblk, V, idx0 t, idx3 t]
  · blk_ext [iblk, V, idx1 t, idx3 t]

theorem algebraic : Cert.algebraic_KernelOIdeal_ReferenceOIdeal := by
  pair_intro
  · run_from Cert.KernelOIdeal.Value.run_blocks m g
  · refine (θ_run _ _ _).mono (fun r h c => ?_) (Cert.ReferenceOIdeal.Value.run (F := Ideal) m' g')
    obtain ⟨a0, a1, a2⟩ := hagree c
    obtain ⟨h0, hrest⟩ := h c
    refine ⟨h0.trans ((Cert.ReferenceOIdeal.Read.val_main_v3_eq _ _ _).trans ?_), hrest⟩
    rw [a0, a1, a2]
    exact (final m c).symm

end O

namespace Up
open Cert.Rows Cert.KernelUpIdeal Cert.KernelUpIdeal.Gen Idealize.ShloMosaic Idealize.ShloMosaic.TcCoe
open Idealize.SL Idealize.SL.Sem

/-- What a point leaves in its block of the result. -/
theorem out_apply (x0 : Vec Ideal S1024x2048 .bf16) (x1 : Vec Ideal S2048x1024 .bf16) (a : Fin 1024) (b : Fin 1024) :
    out0_2 x0 x1 (ix2 a b) = ∑ k : Fin 2048, x0 (ix2 a k) * x1 (ix2 k b) := by
  unfold out0_2 k0_pay1
  rw [View.canon_unit_zero (S := S1024x1024) hz2]
  simp only [View.ld_unit_zero (S := S1024x2048) hz2, View.ld_unit_zero (S := S2048x1024) hz2]
  pointwise

/-- The reference at an index. -/
theorem ref_apply (x0 : (⟨S4096x2048, .bf16⟩ : BufTy).Contents (Elt Ideal)) (x1 : (⟨S2048x11264, .bf16⟩ : BufTy).Contents (Elt Ideal)) (a : Fin 4096) (b : Fin 11264) :
    ReferenceUpIdeal.Read.val_main_v2 (F := Ideal) x0 x1 (ix2 a b) = ∑ k : Fin 2048, x0 (ix2 a k) * x1 (ix2 k b) := by
  pointwise [ReferenceUpIdeal.Read.val_main_v2, ReferenceUpIdeal.Read.val_main_v1, ReferenceUpIdeal.Read.val_main_v0]

variable (m : (ℓ : Loc nD τ sig) → Buf (Elt Ideal) ℓ) (c : Dev nD)

theorem idx0 : ∀ t : Fin cfg0.N, win0_0.index t = ![t.val / 11, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, t.val % 11] := (by decide +kernel : ∀ t : Fin grid0.N, _)

/-- The result array is the reference's. -/
theorem final : (dats m 0 c).arrAt 2 cfg0.N = ReferenceUpIdeal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceUpIdeal.Read.val_main_v2 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelUpIdeal_ReferenceUpIdeal := by
  pair_intro
  · run_from Cert.KernelUpIdeal.Value.run_blocks m g
  · refine (θ_run _ _ _).mono (fun r h c => ?_) (Cert.ReferenceUpIdeal.Value.run (F := Ideal) m' g')
    obtain ⟨a0, a1⟩ := hagree c
    obtain ⟨h0, hrest⟩ := h c
    refine ⟨h0.trans ((Cert.ReferenceUpIdeal.Read.val_main_v2_eq _ _).trans ?_), hrest⟩
    rw [a0, a1]
    exact (final m c).symm

end Up

namespace Down
open Cert.Rows Cert.KernelDownIdeal Cert.KernelDownIdeal.Gen Idealize.ShloMosaic Idealize.ShloMosaic.TcCoe
open Idealize.SL Idealize.SL.Sem

/-- What a point leaves in its block of the result. -/
theorem out_apply (x0 : Vec Ideal S1024x5632 .bf16) (x1 : Vec Ideal S5632x512 .bf16) (x2 : Vec Ideal S1024x512 .f32) (a : Fin 1024) (b : Fin 512) :
    out0_3 x0 x1 x2 (ix2 a b) = (∑ k : Fin 5632, x0 (ix2 a k) * x1 (ix2 k b)) + x2 (ix2 a b) := by
  unfold out0_3 k0_pay1
  rw [View.canon_unit_zero (S := S1024x512) hz2]
  simp only [View.ld_unit_zero (S := S1024x5632) hz2, View.ld_unit_zero (S := S5632x512) hz2, View.ld_unit_zero (S := S1024x512) hz2]
  pointwise

/-- The reference at an index. -/
theorem ref_apply (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (a : Fin 4096) (b : Fin 2048) :
    ReferenceDownIdeal.Read.val_main_v3 (F := Ideal) x0 x1 x2 (ix2 a b) = x2 (ix2 a b) + ∑ k : Fin 5632, x0 (ix2 a k) * x1 (ix2 k b) := by
  pointwise [ReferenceDownIdeal.Read.val_main_v3, ReferenceDownIdeal.Read.val_main_v2, ReferenceDownIdeal.Read.val_main_v1, ReferenceDownIdeal.Read.val_main_v0]

variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The result array is the reference's. -/
theorem final : (dats m 0 c).arrAt 3 cfg0.N = ReferenceDownIdeal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  refine (out_apply _ _ _ _ _).trans ?_
  refine Eq.trans ?_ (congrArg (ReferenceDownIdeal.Read.val_main_v3 (F := Ideal) (m ((c : Thread nD τ).loc main_arg0)) (m ((c : Thread nD τ).loc main_arg1)) (m ((c : Thread nD τ).loc main_arg2))) (ValueIdx.eq_ix2 _)).symm
  refine Eq.trans ?_ (ref_apply _ _ _ _ _).symm
  refine (add_comm _ _).trans (congrArg₂ (· + ·) ?_ (Finset.sum_congr rfl fun k _ => congrArg₂ (· * ·) ?_ ?_))
  · blk_ext [iblk, V, idx2 t, idx3 t]
  · blk_ext [iblk, V, idx0 t, idx3 t]
  · blk_ext [iblk, V, idx1 t, idx3 t]

theorem algebraic : Cert.algebraic_KernelDownIdeal_ReferenceDownIdeal := by
  pair_intro
  · run_from Cert.KernelDownIdeal.Value.run_blocks m g
  · refine (θ_run _ _ _).mono (fun r h c => ?_) (Cert.ReferenceDownIdeal.Value.run (F := Ideal) m' g')
    obtain ⟨a0, a1, a2⟩ := hagree c
    obtain ⟨h0, hrest⟩ := h c
    refine ⟨h0.trans ((Cert.ReferenceDownIdeal.Read.val_main_v3_eq _ _ _).trans ?_), hrest⟩
    rw [a0, a1, a2]
    exact (final m c).symm

end Down

end Cert.Mm
-- ==== Proof.MmWeight.lean ====
module
public import proofs.«01_k».proof.Defs
public import proofs.«01_k».proof.Proof.Gen.KernelDownWIdeal.Value
public import proofs.«01_k».proof.Proof.Gen.ReferenceDownWIdeal.Run
public import proofs.«01_k».proof.Proof.Gen.ReferenceDownWIdeal.Read
public import proofs.«01_k».proof.Proof.Gen.KernelOWIdeal.Value
public import proofs.«01_k».proof.Proof.Gen.ReferenceOWIdeal.Run
public import proofs.«01_k».proof.Proof.Gen.ReferenceOWIdeal.Read
public import proofs.«01_k».proof.Proof.Gen.KernelLoWIdeal.Value
public import proofs.«01_k».proof.Proof.Gen.ReferenceLoWIdeal.Run
public import proofs.«01_k».proof.Proof.Gen.ReferenceLoWIdeal.Read
public import proofs.«01_k».proof.Proof.Rows
public import Idealize.ShloMosaic.Lib.Claim
@[expose] public section
set_option maxRecDepth 16384
noncomputable section

/-! The gradients of the products' weights. -/

namespace Cert.Mm

namespace DownW
open Cert.Rows Cert.KernelDownWIdeal Cert.KernelDownWIdeal.Gen Idealize.ShloMosaic Idealize.ShloMosaic.TcCoe
open Idealize.SL Idealize.SL.Sem

/-- What a point leaves in its block of the result. -/
theorem out_apply (x0 : Vec Ideal S4096x512 .bf16) (x1 : Vec Ideal S4096x1024 .bf16) (a : Fin 512) (b : Fin 1024) :
    out0_2 x0 x1 (ix2 a b) = ∑ k : Fin 4096, x0 (ix2 k a) * x1 (ix2 k b) := by
  unfold out0_2 k0_pay1
  rw [View.canon_unit_zero (S := S512x1024) hz2]
  simp only [View.ld_unit_zero (S := S4096x512) hz2, View.ld_unit_zero (S := S4096x1024) hz2]
  pointwise

/-- The gradient with respect to the weight, at an index. -/
theorem ref_apply (x0 : (⟨S4096x5632, .bf16⟩ : BufTy).Contents (Elt Ideal)) (x1 : (⟨S4096x2048, .bf16⟩ : BufTy).Contents (Elt Ideal)) (a : Fin 5632) (b : Fin 2048) :
    ReferenceDownWIdeal.Read.val_main_v5 (F := Ideal) x0 x1 (ix2 a b) = ∑ k : Fin 4096, x0 (ix2 k a) * x1 (ix2 k b) := by
  pointwise [ReferenceDownWIdeal.Read.val_main_v5, ReferenceDownWIdeal.Read.val_main_v4, ReferenceDownWIdeal.Read.val_main_v1, ReferenceDownWIdeal.Read.val_main_v3]
  exact Finset.sum_congr rfl fun k _ => mul_comm _ _

variable (m : (ℓ : Loc nD τ sig) → Buf (Elt Ideal) ℓ) (c : Dev nD)

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The result array is the reference's. -/
theorem final : (dats m 0 c).arrAt 2 cfg0.N = ReferenceDownWIdeal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceDownWIdeal.Read.val_main_v5 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelDownWIdeal_ReferenceDownWIdeal := by
  pair_intro
  · run_from Cert.KernelDownWIdeal.Value.run_blocks m g
  · refine (θ_run _ _ _).mono (fun r h c => ?_) (Cert.ReferenceDownWIdeal.Value.run (F := Ideal) m' g')
    obtain ⟨a0, a1⟩ := hagree c
    obtain ⟨h0, hrest⟩ := h c
    refine ⟨h0.trans ((Cert.ReferenceDownWIdeal.Read.val_main_v5_eq _ _).trans ?_), hrest⟩
    rw [a0, a1]
    exact (final m c).symm

end DownW

namespace OW
open Cert.Rows Cert.KernelOWIdeal Cert.KernelOWIdeal.Gen Idealize.ShloMosaic Idealize.ShloMosaic.TcCoe
open Idealize.SL Idealize.SL.Sem

/-- What a point leaves in its block of the result. -/
theorem out_apply (x0 : Vec Ideal S4096x1024 .bf16) (x1 : Vec Ideal S4096x1024 .bf16) (a : Fin 1024) (b : Fin 1024) :
    out0_2 x0 x1 (ix2 a b) = ∑ k : Fin 4096, x0 (ix2 k a) * x1 (ix2 k b) := by
  unfold out0_2 k0_pay1
  rw [View.canon_unit_zero (S := S1024x1024) hz2]
  simp only [View.ld_unit_zero (S := S4096x1024) hz2]
  pointwise

/-- The gradient with respect to the weight, at an index. -/
theorem ref_apply (x0 : (⟨S4096x2048, .bf16⟩ : BufTy).Contents (Elt Ideal)) (x1 : (⟨S4096x2048, .bf16⟩ : BufTy).Contents (Elt Ideal)) (a : Fin 2048) (b : Fin 2048) :
    ReferenceOWIdeal.Read.val_main_v7 (F := Ideal) x0 x1 (ix2 a b) = ∑ k : Fin 4096, x0 (ix2 k a) * x1 (ix2 k b) := by
  pointwise [ReferenceOWIdeal.Read.val_main_v7, ReferenceOWIdeal.Read.val_main_v5, ReferenceOWIdeal.Read.val_main_v4, ReferenceOWIdeal.Read.val_main_v1, ReferenceOWIdeal.Read.val_main_v3]
  exact Finset.sum_congr rfl fun k _ => mul_comm _ _

variable (m : (ℓ : Loc nD τ sig) → Buf (Elt Ideal) ℓ) (c : Dev nD)

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The result array is the reference's. -/
theorem final : (dats m 0 c).arrAt 2 cfg0.N = ReferenceOWIdeal.Read.val_main_v7 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceOWIdeal.Read.val_main_v7 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelOWIdeal_ReferenceOWIdeal := by
  pair_intro
  · run_from Cert.KernelOWIdeal.Value.run_blocks m g
  · refine (θ_run _ _ _).mono (fun r h c => ?_) (Cert.ReferenceOWIdeal.Value.run (F := Ideal) m' g')
    obtain ⟨a0, a1⟩ := hagree c
    obtain ⟨h0, hrest⟩ := h c
    refine ⟨h0.trans ((Cert.ReferenceOWIdeal.Read.val_main_v7_eq _ _).trans ?_), hrest⟩
    rw [a0, a1]
    exact (final m c).symm

end OW

namespace LoW
open Cert.Rows Cert.KernelLoWIdeal Cert.KernelLoWIdeal.Gen Idealize.ShloMosaic Idealize.ShloMosaic.TcCoe
open Idealize.SL Idealize.SL.Sem

/-- What a point leaves in its block of the result. -/
theorem out_apply (x0 : Vec Ideal S4096x1024 .bf16) (x1 : Vec Ideal S4096x1024 .bf16) (a : Fin 1024) (b : Fin 1024) :
    out0_2 x0 x1 (ix2 a b) = ∑ k : Fin 4096, x0 (ix2 k a) * x1 (ix2 k b) := by
  unfold out0_2 k0_pay1
  rw [View.canon_unit_zero (S := S1024x1024) hz2]
  simp only [View.ld_unit_zero (S := S4096x1024) hz2]
  pointwise

/-- The gradient with respect to the weight, at an index. -/
theorem ref_apply (x0 : (⟨S4096x1024, .bf16⟩ : BufTy).Contents (Elt Ideal)) (x1 : (⟨S4096x2048, .bf16⟩ : BufTy).Contents (Elt Ideal)) (a : Fin 1024) (b : Fin 2048) :
    ReferenceLoWIdeal.Read.val_main_v7 (F := Ideal) x0 x1 (ix2 a b) = ∑ k : Fin 4096, x0 (ix2 k a) * x1 (ix2 k b) := by
  pointwise [ReferenceLoWIdeal.Read.val_main_v7, ReferenceLoWIdeal.Read.val_main_v5, ReferenceLoWIdeal.Read.val_main_v4, ReferenceLoWIdeal.Read.val_main_v1, ReferenceLoWIdeal.Read.val_main_v3]
  exact Finset.sum_congr rfl fun k _ => mul_comm _ _

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The result array is the reference's. -/
theorem final : (dats m 0 c).arrAt 2 cfg0.N = ReferenceLoWIdeal.Read.val_main_v7 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceLoWIdeal.Read.val_main_v7 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelLoWIdeal_ReferenceLoWIdeal := by
  pair_intro
  · run_from Cert.KernelLoWIdeal.Value.run_blocks m g
  · refine (θ_run _ _ _).mono (fun r h c => ?_) (Cert.ReferenceLoWIdeal.Value.run (F := Ideal) m' g')
    obtain ⟨a0, a1⟩ := hagree c
    obtain ⟨h0, hrest⟩ := h c
    refine ⟨h0.trans ((Cert.ReferenceLoWIdeal.Read.val_main_v7_eq _ _).trans ?_), hrest⟩
    rw [a0, a1]
    exact (final m c).symm

end LoW

end Cert.Mm
-- ==== Proof.MmInput.lean ====
module
public import proofs.«01_k».proof.Defs
public import proofs.«01_k».proof.Proof.Gen.KernelDownXIdeal.Value
public import proofs.«01_k».proof.Proof.Gen.ReferenceDownXIdeal.Run
public import proofs.«01_k».proof.Proof.Gen.ReferenceDownXIdeal.Read
public import proofs.«01_k».proof.Proof.Gen.KernelOXIdeal.Value
public import proofs.«01_k».proof.Proof.Gen.ReferenceOXIdeal.Run
public import proofs.«01_k».proof.Proof.Gen.ReferenceOXIdeal.Read
public import proofs.«01_k».proof.Proof.Gen.KernelLoXIdeal.Value
public import proofs.«01_k».proof.Proof.Gen.ReferenceLoXIdeal.Run
public import proofs.«01_k».proof.Proof.Gen.ReferenceLoXIdeal.Read
public import proofs.«01_k».proof.Proof.Rows
public import Idealize.ShloMosaic.Lib.Claim
@[expose] public section
set_option maxRecDepth 16384
noncomputable section

/-! The gradients of the products' left operands. -/

namespace Cert.Mm

namespace DownX
open Cert.Rows Cert.KernelDownXIdeal Cert.KernelDownXIdeal.Gen Idealize.ShloMosaic Idealize.ShloMosaic.TcCoe
open Idealize.SL Idealize.SL.Sem

/-- What a point leaves in its block of the result. -/
theorem out_apply (x0 : Vec Ideal S1024x2048 .bf16) (x1 : Vec Ideal S512x2048 .bf16) (a : Fin 1024) (b : Fin 512) :
    out0_2 x0 x1 (ix2 a b) = ∑ k : Fin 2048, x0 (ix2 a k) * x1 (ix2 b k) := by
  unfold out0_2 k0_pay1
  rw [View.canon_unit_zero (S := S1024x512) hz2]
  simp only [View.ld_unit_zero (S := S1024x2048) hz2, View.ld_unit_zero (S := S512x2048) hz2]
  pointwise

/-- The gradient with respect to the left operand, at an index. -/
theorem ref_apply (x0 : (⟨S4096x2048, .bf16⟩ : BufTy).Contents (Elt Ideal)) (x1 : (⟨S5632x2048, .bf16⟩ : BufTy).Contents (Elt Ideal)) (a : Fin 4096) (b : Fin 5632) :
    ReferenceDownXIdeal.Read.val_main_v6 (F := Ideal) x0 x1 (ix2 a b) = ∑ k : Fin 2048, x0 (ix2 a k) * x1 (ix2 b k) := by
  pointwise [ReferenceDownXIdeal.Read.val_main_v6, ReferenceDownXIdeal.Read.val_main_v1, ReferenceDownXIdeal.Read.val_main_v3]

variable (m : (ℓ : Loc nD τ sig) → Buf (Elt Ideal) ℓ) (c : Dev nD)

theorem idx0 : ∀ t : Fin cfg0.N, win0_0.index t = ![t.val / 11, 0] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val / 11, t.val % 11] := (by decide +kernel : ∀ t : Fin grid0.N, _)

/-- The result array is the reference's. -/
theorem final : (dats m 0 c).arrAt 2 cfg0.N = ReferenceDownXIdeal.Read.val_main_v6 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceDownXIdeal.Read.val_main_v6 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelDownXIdeal_ReferenceDownXIdeal := by
  pair_intro
  · run_from Cert.KernelDownXIdeal.Value.run_blocks m g
  · refine (θ_run _ _ _).mono (fun r h c => ?_) (Cert.ReferenceDownXIdeal.Value.run (F := Ideal) m' g')
    obtain ⟨a0, a1⟩ := hagree c
    obtain ⟨h0, hrest⟩ := h c
    refine ⟨h0.trans ((Cert.ReferenceDownXIdeal.Read.val_main_v6_eq _ _).trans ?_), hrest⟩
    rw [a0, a1]
    exact (final m c).symm

end DownX

namespace OX
open Cert.Rows Cert.KernelOXIdeal Cert.KernelOXIdeal.Gen Idealize.ShloMosaic Idealize.ShloMosaic.TcCoe
open Idealize.SL Idealize.SL.Sem

/-- What a point leaves in its block of the result. -/
theorem out_apply (x0 : Vec Ideal S1024x2048 .bf16) (x1 : Vec Ideal S1024x2048 .bf16) (a : Fin 1024) (b : Fin 1024) :
    out0_2 x0 x1 (ix2 a b) = ∑ k : Fin 2048, x0 (ix2 a k) * x1 (ix2 b k) := by
  unfold out0_2 k0_pay1
  rw [View.canon_unit_zero (S := S1024x1024) hz2]
  simp only [View.ld_unit_zero (S := S1024x2048) hz2]
  pointwise

/-- The gradient with respect to the left operand, at an index. -/
theorem ref_apply (x0 : (⟨S4096x2048, .bf16⟩ : BufTy).Contents (Elt Ideal)) (x1 : (⟨S2048x2048, .bf16⟩ : BufTy).Contents (Elt Ideal)) (a : Fin 4096) (b : Fin 2048) :
    ReferenceOXIdeal.Read.val_main_v7 (F := Ideal) x0 x1 (ix2 a b) = ∑ k : Fin 2048, x0 (ix2 a k) * x1 (ix2 b k) := by
  pointwise [ReferenceOXIdeal.Read.val_main_v7, ReferenceOXIdeal.Read.val_main_v6, ReferenceOXIdeal.Read.val_main_v1, ReferenceOXIdeal.Read.val_main_v3]

variable (m : (ℓ : Loc nD τ sig) → Buf (Elt Ideal) ℓ) (c : Dev nD)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The result array is the reference's. -/
theorem final : (dats m 0 c).arrAt 2 cfg0.N = ReferenceOXIdeal.Read.val_main_v7 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceOXIdeal.Read.val_main_v7 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelOXIdeal_ReferenceOXIdeal := by
  pair_intro
  · run_from Cert.KernelOXIdeal.Value.run_blocks m g
  · refine (θ_run _ _ _).mono (fun r h c => ?_) (Cert.ReferenceOXIdeal.Value.run (F := Ideal) m' g')
    obtain ⟨a0, a1⟩ := hagree c
    obtain ⟨h0, hrest⟩ := h c
    refine ⟨h0.trans ((Cert.ReferenceOXIdeal.Read.val_main_v7_eq _ _).trans ?_), hrest⟩
    rw [a0, a1]
    exact (final m c).symm

end OX

namespace LoX
open Cert.Rows Cert.KernelLoXIdeal Cert.KernelLoXIdeal.Gen Idealize.ShloMosaic Idealize.ShloMosaic.TcCoe
open Idealize.SL Idealize.SL.Sem

/-- What a point leaves in its block of the result. -/
theorem out_apply (x0 : Vec Ideal S1024x2048 .bf16) (x1 : Vec Ideal S1024x2048 .bf16) (a : Fin 1024) (b : Fin 1024) :
    out0_2 x0 x1 (ix2 a b) = ∑ k : Fin 2048, x0 (ix2 a k) * x1 (ix2 b k) := by
  unfold out0_2 k0_pay1
  rw [View.canon_unit_zero (S := S1024x1024) hz2]
  simp only [View.ld_unit_zero (S := S1024x2048) hz2]
  pointwise

/-- The gradient with respect to the left operand, at an index. -/
theorem ref_apply (x0 : (⟨S4096x2048, .bf16⟩ : BufTy).Contents (Elt Ideal)) (x1 : (⟨S1024x2048, .bf16⟩ : BufTy).Contents (Elt Ideal)) (a : Fin 4096) (b : Fin 1024) :
    ReferenceLoXIdeal.Read.val_main_v6 (F := Ideal) x0 x1 (ix2 a b) = ∑ k : Fin 2048, x0 (ix2 a k) * x1 (ix2 b k) := by
  pointwise [ReferenceLoXIdeal.Read.val_main_v6, ReferenceLoXIdeal.Read.val_main_v1, ReferenceLoXIdeal.Read.val_main_v3]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The result array is the reference's. -/
theorem final : (dats m 0 c).arrAt 2 cfg0.N = ReferenceLoXIdeal.Read.val_main_v6 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceLoXIdeal.Read.val_main_v6 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · blk_ext [iblk, V, idx1 t, idx2 t]

theorem algebraic : Cert.algebraic_KernelLoXIdeal_ReferenceLoXIdeal := by
  pair_intro
  · run_from Cert.KernelLoXIdeal.Value.run_blocks m g
  · refine (θ_run _ _ _).mono (fun r h c => ?_) (Cert.ReferenceLoXIdeal.Value.run (F := Ideal) m' g')
    obtain ⟨a0, a1⟩ := hagree c
    obtain ⟨h0, hrest⟩ := h c
    refine ⟨h0.trans ((Cert.ReferenceLoXIdeal.Read.val_main_v6_eq _ _).trans ?_), hrest⟩
    rw [a0, a1]
    exact (final m c).symm

end LoX

end Cert.Mm
-- ==== Proof.Slabs.lean ====
module
public import proofs.«01_k».proof.Proof.Rows
@[expose] public section
set_option maxRecDepth 16384
noncomputable section

/-! The products whose cotangent lies in slabs: the halves of the ConvFFN's projection, and the nine slabs
of the mixers' projection, which the kernel keeps in an order of its own. -/

namespace Cert.Mm
open Cert.Rows Idealize.ShloMosaic

/-- An array of three axes read at natural numbers: zero outside its range. -/
def at3 {A R C : ℕ} (f : (⟨3, ![A, R, C]⟩ : Shape).Idx → EReal) (s r c : ℕ) : EReal :=
  if h : s < A ∧ r < R ∧ c < C then f (ix3 ⟨s, h.1⟩ ⟨r, h.2.1⟩ ⟨c, h.2.2⟩) else 0

theorem at3_eq {A R C : ℕ} (f : (⟨3, ![A, R, C]⟩ : Shape).Idx → EReal) {s r c : ℕ} (i : Fin A) (a : Fin R) (b : Fin C)
    (hi : i.val = s) (ha : a.val = r) (hb : b.val = c) : f (ix3 i a b) = at3 f s r c := by
  subst hi ha hb
  unfold at3
  rw [dif_pos (And.intro i.isLt (And.intro a.isLt b.isLt))]

theorem at3_of_lt {A R C : ℕ} (f : (⟨3, ![A, R, C]⟩ : Shape).Idx → EReal) {s r c : ℕ} (hs : s < A) (hr : r < R) (hc : c < C) :
    at3 f s r c = f (ix3 ⟨s, hs⟩ ⟨r, hr⟩ ⟨c, hc⟩) := dif_pos ⟨hs, hr, hc⟩

/-- A load of one slab. -/
theorem ld_slab {A R C s : ℕ} (X : Vec Ideal ⟨3, ![A, R, C]⟩ .bf16)
    (inb : ∀ a, (![s, 0, 0] : Fin 3 → ℕ) a + (![1, R, C] : Fin 3 → ℕ) a ≤ (⟨3, ![A, R, C]⟩ : Shape).size a)
    (a : Fin R) (b : Fin C) :
    View.ld (Val := Elt Ideal) (e' := .bf16) X (Rect.unit (s := ⟨3, ![A, R, C]⟩) ![s, 0, 0] ![1, R, C] inb) (ix3 0 a b) = at3 X s a b := by
  have hs : s < A := inb 0
  refine (View.ld_unit_apply_of (Val := Elt Ideal) (e := .bf16) X _ _ inb _ (ix3 ⟨s, hs⟩ a b) fun x => ?_).trans (at3_eq (A := A) (R := R) (C := C) X _ _ _ rfl rfl rfl)
  match x with
  | ⟨0, _⟩ => rfl
  | ⟨1, _⟩ => exact (Nat.zero_add _).symm
  | ⟨2, _⟩ => exact (Nat.zero_add _).symm

/-- A load of some columns. -/
theorem ld_cols {R C n o : ℕ} (X : Vec Ideal ⟨2, ![R, C]⟩ .bf16)
    (inb : ∀ a, (![0, o] : Fin 2 → ℕ) a + (![R, n] : Fin 2 → ℕ) a ≤ (⟨2, ![R, C]⟩ : Shape).size a)
    (a : Fin R) (b : Fin n) :
    View.ld (Val := Elt Ideal) (e' := .bf16) X (Rect.unit (s := ⟨2, ![R, C]⟩) ![0, o] ![R, n] inb) (ix2 a b) = at2 X a (o + b) := by
  have hb : o + b.val < C := lt_of_lt_of_le (Nat.add_lt_add_left b.isLt o) (inb 1)
  refine (View.ld_unit_apply_of (Val := Elt Ideal) (e := .bf16) X _ _ inb _ (ix2 a ⟨o + b.val, hb⟩) fun x => ?_).trans (at2_eq X _ _ rfl rfl)
  match x with
  | ⟨0, _⟩ => exact (Nat.zero_add _).symm
  | ⟨1, _⟩ => rfl

/-- A sum over `n` blocks of `w` terms each. -/
theorem sum_blocks (n w : ℕ) (f : ℕ → EReal) :
    ∑ k : Fin (n * w), f k = ∑ s ∈ Finset.range n, ∑ k : Fin w, f (s * w + k) := by
  rw [← Finset.sum_range (fun k => f k)]
  induction n with
  | zero => simp
  | succ n ih =>
    rw [Nat.succ_mul, Finset.sum_range_add, ih, Finset.sum_range_succ, Finset.sum_range (fun k => f (n * w + k))]

/-- The slab that holds a block of 1024 columns, and the block of columns that a slab holds. -/
def slabOf (q : ℕ) : ℕ := [4, 5, 6, 7, 8, 0, 2, 1, 3].getD q 0
def colOf (s : ℕ) : ℕ := [5, 7, 6, 8, 0, 1, 2, 3, 4].getD s 0

theorem slabOf_colOf : ∀ s < 9, slabOf (colOf s) = s := by decide
theorem colOf_lt : ∀ s < 9, colOf s < 9 := by decide
theorem slabOf_lt : ∀ s < 9, slabOf s < 9 := by decide

/-- The cotangent's column `l`, found in the slabs. -/
def dcol (x : (⟨3, ![9, 4096, 1024]⟩ : Shape).Idx → EReal) (r l : ℕ) : EReal := at3 x (slabOf (l / 1024)) r (l % 1024)
def hcol (x : (⟨3, ![2, 4096, 5632]⟩ : Shape).Idx → EReal) (r l : ℕ) : EReal := at3 x (l / 5632) r (l % 5632)

theorem dcol_eq (x : (⟨3, ![9, 4096, 1024]⟩ : Shape).Idx → EReal) (l q : ℕ) (i : Fin 9) (a : Fin 4096) (b : Fin 1024)
    (hi : i.val = slabOf q) (hl : l = q * 1024 + b.val) : x (ix3 i a b) = dcol x a l := by
  have hb := b.isLt
  refine at3_eq x i a b ?_ rfl (by omega)
  rw [hi, show l / 1024 = q by omega]

theorem hcol_eq (x : (⟨3, ![2, 4096, 5632]⟩ : Shape).Idx → EReal) (l q : ℕ) (i : Fin 2) (a : Fin 4096) (b : Fin 5632)
    (hi : i.val = q) (hl : l = q * 5632 + b.val) : x (ix3 i a b) = hcol x a l := by
  have hb := b.isLt
  refine at3_eq x i a b ?_ rfl (by omega)
  rw [hi, show l / 5632 = q by omega]

end Cert.Mm
-- ==== Proof.MmSlabs.lean ====
module
public import proofs.«01_k».proof.Defs
public import proofs.«01_k».proof.Proof.Gen.KernelUpWIdeal.Value
public import proofs.«01_k».proof.Proof.Gen.ReferenceUpWIdeal.Run
public import proofs.«01_k».proof.Proof.Gen.ReferenceUpWIdeal.Read
public import proofs.«01_k».proof.Proof.Gen.KernelUpXIdeal.Value
public import proofs.«01_k».proof.Proof.Gen.ReferenceUpXIdeal.Run
public import proofs.«01_k».proof.Proof.Gen.ReferenceUpXIdeal.Read
public import proofs.«01_k».proof.Proof.Gen.KernelInWIdeal.Value
public import proofs.«01_k».proof.Proof.Gen.ReferenceInWIdeal.Run
public import proofs.«01_k».proof.Proof.Gen.ReferenceInWIdeal.Read
public import proofs.«01_k».proof.Proof.Gen.KernelInXIdeal.Value
public import proofs.«01_k».proof.Proof.Gen.ReferenceInXIdeal.Run
public import proofs.«01_k».proof.Proof.Gen.ReferenceInXIdeal.Read
public import proofs.«01_k».proof.Proof.Slabs
public import Idealize.ShloMosaic.Lib.Claim
@[expose] public section
set_option maxRecDepth 16384
noncomputable section

/-! The gradients of the products whose cotangent lies in slabs. -/

namespace Cert.Mm
open Cert.Rows

/-- A sum over the groups of columns, taken in the order of the slabs. -/
theorem sum_cols (f : ℕ → EReal) : ∑ q ∈ Finset.range 9, f q = ∑ s ∈ Finset.range 9, f (colOf s) := by
  simp only [Finset.sum_range_succ, Finset.sum_range_zero, zero_add]
  simp [colOf]
  abel

theorem hz3 : (![0, 0, 0] : Fin 3 → ℕ) = fun _ => 0 := funext fun a => by fin_cases a <;> rfl

namespace UpW
open Cert.Rows Cert.KernelUpWIdeal Cert.KernelUpWIdeal.Gen Idealize.ShloMosaic Idealize.ShloMosaic.TcCoe
open Idealize.SL Idealize.SL.Sem

/-- What a point leaves in its block of the result. -/
theorem out_apply (x0 : Vec Ideal S4096x1024 .bf16) (x1 : Vec Ideal S1x4096x512 .bf16) (a : Fin 1024) (b : Fin 512) :
    out0_2 x0 x1 (ix2 a b) = ∑ k : Fin 4096, x0 (ix2 k a) * x1 (ix3 0 k b) := by
  unfold out0_2 k0_pay1
  rw [View.canon_unit_zero (S := S1024x512) hz2]
  simp only [View.ld_unit_zero (S := S4096x1024) hz2, View.ld_unit_zero (S := S1x4096x512) hz3]
  pointwise

/-- The cotangent, its halves side by side. -/
theorem cat (x : (⟨ReferenceUpWIdeal.S2x4096x5632, .bf16⟩ : BufTy).Contents (Elt Ideal)) (r : Fin 4096) (l : Fin 11264) :
    ReferenceUpWIdeal.Read.val_main_v5 (F := Ideal) x (ix2 r l) = hcol x r l := by
  have hl := l.isLt
  pointwise [ReferenceUpWIdeal.Read.val_main_v1, ReferenceUpWIdeal.Read.val_main_v2, ReferenceUpWIdeal.Read.val_main_v3, ReferenceUpWIdeal.Read.val_main_v4, ReferenceUpWIdeal.Read.val_main_v5]
  split_ifs
  all_goals first
    | exact hcol_eq x _ 0 _ _ _ rfl (by simp only; omega)
    | exact hcol_eq x _ 1 _ _ _ rfl (by simp only; omega)

/-- The gradient with respect to the weight, at an index. -/
theorem ref_apply (x0 : (⟨S4096x2048, .bf16⟩ : BufTy).Contents (Elt Ideal)) (x1 : (⟨S2x4096x5632, .bf16⟩ : BufTy).Contents (Elt Ideal))
    (a : Fin 2048) (b : Fin 11264) :
    ReferenceUpWIdeal.Read.val_main_v12 (F := Ideal) x0 x1 (ix2 a b) = ∑ k : Fin 4096, x0 (ix2 k a) * hcol x1 k b := by
  pointwise [ReferenceUpWIdeal.Read.val_main_v12, ReferenceUpWIdeal.Read.val_main_v10, ReferenceUpWIdeal.Read.val_main_v9, ReferenceUpWIdeal.Read.val_main_v8, ReferenceUpWIdeal.Read.val_main_v6]
  refine Finset.sum_congr rfl fun k _ => ?_
  rw [cat]
  exact mul_comm _ _

variable (m : (ℓ : Loc nD τ sig) → Buf (Elt Ideal) ℓ) (c : Dev nD)

theorem idx0 : ∀ t : Fin cfg0.N, win0_0.index t = ![0, t.val / 22] := (by decide +kernel : ∀ t : Fin grid0.N, _)
theorem idx1 : ∀ t : Fin cfg0.N, win0_1.index t = ![t.val % 22 / 11, 0, t.val % 11] := (by decide +kernel : ∀ t : Fin grid0.N, _)
theorem idx2 : ∀ t : Fin cfg0.N, win0_2.index t = ![t.val / 22, t.val % 22] := (by decide +kernel : ∀ t : Fin grid0.N, _)

/-- The result array is the reference's. -/
theorem final : (dats m 0 c).arrAt 2 cfg0.N = ReferenceUpWIdeal.Read.val_main_v12 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceUpWIdeal.Read.val_main_v12 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · have h : t.val % 22 < 22 := Nat.mod_lt _ (by omega)
    have hy := y1.isLt
    have h1 : t.val % 22 / 11 < 2 := by omega
    have h2 : t.val % 11 * 512 + y1.val < 5632 := by omega
    refine Eq.trans ?_ (hcol_eq _ _ (t.val % 22 / 11) ⟨t.val % 22 / 11, h1⟩ _ ⟨t.val % 11 * 512 + y1.val, h2⟩ rfl ?_)
    · blk_ext [iblk, V, idx1 t, idx2 t]
    · blk_simp [idx2 t]
      show _ = t.val % 22 / 11 * 5632 + (t.val % 11 * 512 + y1.val)
      omega

theorem algebraic : Cert.algebraic_KernelUpWIdeal_ReferenceUpWIdeal := by
  pair_intro
  · run_from Cert.KernelUpWIdeal.Value.run_blocks m g
  · refine (θ_run _ _ _).mono (fun r h c => ?_) (Cert.ReferenceUpWIdeal.Value.run (F := Ideal) m' g')
    obtain ⟨a0, a1⟩ := hagree c
    obtain ⟨h0, hrest⟩ := h c
    refine ⟨h0.trans ((Cert.ReferenceUpWIdeal.Read.val_main_v12_eq _ _).trans ?_), hrest⟩
    rw [a0, a1]
    exact (final m c).symm

end UpW

namespace UpX
open Cert.Rows Cert.KernelUpXIdeal Cert.KernelUpXIdeal.Gen Idealize.ShloMosaic Idealize.ShloMosaic.TcCoe
open Idealize.SL Idealize.SL.Sem

theorem pay1_apply (v0 : Vec Ideal S1x1024x5632 .bf16) (v1 : Vec Ideal S256x5632 .bf16) (v2 : Vec Ideal S1x1024x5632 .bf16) (v3 : Vec Ideal S256x5632 .bf16) (a : Fin 1024) (b : Fin 256) :
    k0_pay1 v0 v1 v2 v3 (ix2 a b) = (∑ k : Fin 5632, v0 (ix3 0 a k) * v1 (ix2 b k)) + (∑ k : Fin 5632, v2 (ix3 0 a k) * v3 (ix2 b k)) := by
  pointwise [k0_pay1]

/-- What a point leaves in its block of the result: a sum over the slabs. -/
theorem out_apply (x0 : Vec Ideal S2x1024x5632 .bf16) (x1 : Vec Ideal S256x11264 .bf16) (a : Fin 1024) (b : Fin 256) :
    out0_2 x0 x1 (ix2 a b) = ∑ s ∈ Finset.range 2, ∑ k : Fin 5632, at3 x0 s a k * at2 x1 b (s * 5632 + k) := by
  unfold out0_2
  rw [View.canon_unit_zero (S := S1024x256) hz2, pay1_apply]
  have h0 : ∑ k : Fin 5632, View.ld x0 r0_0 (ix3 0 a k) * View.ld x1 r0_1 (ix2 b k) = ∑ k : Fin 5632, at3 x0 0 a k * at2 x1 b (0 * 5632 + k) :=
    Finset.sum_congr rfl fun k _ => congrArg₂ (· * ·) (ld_slab x0 _ a k) (ld_cols x1 _ b k)
  have h1 : ∑ k : Fin 5632, View.ld x0 r0_2 (ix3 0 a k) * View.ld x1 r0_3 (ix2 b k) = ∑ k : Fin 5632, at3 x0 1 a k * at2 x1 b (1 * 5632 + k) :=
    Finset.sum_congr rfl fun k _ => congrArg₂ (· * ·) (ld_slab x0 _ a k) (ld_cols x1 _ b k)
  simp only [Finset.sum_range_succ, Finset.sum_range_zero, zero_add]
  rw [h0, h1]

/-- The cotangent, its halves side by side. -/
theorem cat (x : (⟨ReferenceUpXIdeal.S2x4096x5632, .bf16⟩ : BufTy).Contents (Elt Ideal)) (r : Fin 4096) (l : Fin 11264) :
    ReferenceUpXIdeal.Read.val_main_v5 (F := Ideal) x (ix2 r l) = hcol x r l := by
  have hl := l.isLt
  pointwise [ReferenceUpXIdeal.Read.val_main_v1, ReferenceUpXIdeal.Read.val_main_v2, ReferenceUpXIdeal.Read.val_main_v3, ReferenceUpXIdeal.Read.val_main_v4, ReferenceUpXIdeal.Read.val_main_v5]
  split_ifs
  all_goals first
    | exact hcol_eq x _ 0 _ _ _ rfl (by simp only; omega)
    | exact hcol_eq x _ 1 _ _ _ rfl (by simp only; omega)

/-- The gradient with respect to the left operand, at an index. -/
theorem ref_apply (x0 : (⟨S2x4096x5632, .bf16⟩ : BufTy).Contents (Elt Ideal)) (x1 : (⟨S2048x11264, .bf16⟩ : BufTy).Contents (Elt Ideal))
    (a : Fin 4096) (b : Fin 2048) :
    ReferenceUpXIdeal.Read.val_main_v11 (F := Ideal) x0 x1 (ix2 a b)
      = ∑ s ∈ Finset.range 2, ∑ k : Fin 5632, at3 x0 s a k * at2 x1 b (s * 5632 + k) := by
  pointwise [ReferenceUpXIdeal.Read.val_main_v11, ReferenceUpXIdeal.Read.val_main_v8, ReferenceUpXIdeal.Read.val_main_v6]
  refine (Finset.sum_congr rfl fun k _ => congrArg₂ (· * ·) (cat x0 a k) (at2_eq x1 b k rfl rfl)).trans ?_
  refine (sum_blocks 2 5632 fun k => hcol x0 a k * at2 x1 b k).trans ?_
  refine Finset.sum_congr rfl fun s hs => Finset.sum_congr rfl fun k _ => ?_
  have hk := k.isLt
  show hcol x0 a (s * 5632 + k) * _ = _
  unfold hcol
  rw [show (s * 5632 + k.val) / 5632 = s by omega, show (s * 5632 + k.val) % 5632 = k.val by omega]

variable (m : (ℓ : Loc nD τ sig) → Buf (Elt Ideal) ℓ) (c : Dev nD)

theorem idx0 : ∀ t : Fin cfg0.N, win0_0.index t = ![0, t.val / 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, t.val % 8] := (by decide +kernel : ∀ t : Fin grid0.N, _)

/-- The result array is the reference's. -/
theorem final : (dats m 0 c).arrAt 2 cfg0.N = ReferenceUpXIdeal.Read.val_main_v11 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceUpXIdeal.Read.val_main_v11 (F := Ideal) (m ((c : Thread nD τ).loc main_arg0)) (m ((c : Thread nD τ).loc main_arg1))) (ValueIdx.eq_ix2 _)).symm
  refine Eq.trans ?_ (ref_apply _ _ _ _).symm
  refine Finset.sum_congr rfl fun s hs => Finset.sum_congr rfl fun k _ => ?_
  have hs' : s < 2 := Finset.mem_range.mp hs
  have hq : s < 2 := hs'
  have hk := k.isLt
  refine congrArg₂ (· * ·) ?_ ?_
  · refine (at3_of_lt _ hs' y0.isLt k.isLt).trans (Eq.trans ?_ (at3_of_lt _ hs' (Fin.isLt _) k.isLt).symm)
    blk_ext [iblk, V, idx0 t, idx2 t]
  · refine (at2_of_lt _ y1.isLt (by omega)).trans (Eq.trans ?_ (at2_of_lt _ (Fin.isLt _) (by omega)).symm)
    blk_ext [iblk, V, idx1 t, idx2 t]

theorem algebraic : Cert.algebraic_KernelUpXIdeal_ReferenceUpXIdeal := by
  pair_intro
  · run_from Cert.KernelUpXIdeal.Value.run_blocks m g
  · refine (θ_run _ _ _).mono (fun r h c => ?_) (Cert.ReferenceUpXIdeal.Value.run (F := Ideal) m' g')
    obtain ⟨a0, a1⟩ := hagree c
    obtain ⟨h0, hrest⟩ := h c
    refine ⟨h0.trans ((Cert.ReferenceUpXIdeal.Read.val_main_v11_eq _ _).trans ?_), hrest⟩
    rw [a0, a1]
    exact (final m c).symm

end UpX

namespace InW
open Cert.Rows Cert.KernelInWIdeal Cert.KernelInWIdeal.Gen Idealize.ShloMosaic Idealize.ShloMosaic.TcCoe
open Idealize.SL Idealize.SL.Sem

/-- What a point leaves in its block of the result. -/
theorem out_apply (x0 : Vec Ideal S4096x1024 .bf16) (x1 : Vec Ideal S1x4096x1024 .bf16) (a : Fin 1024) (b : Fin 1024) :
    out0_2 x0 x1 (ix2 a b) = ∑ k : Fin 4096, x0 (ix2 k a) * x1 (ix3 0 k b) := by
  unfold out0_2 k0_pay1
  rw [View.canon_unit_zero (S := S1024x1024) hz2]
  simp only [View.ld_unit_zero (S := S4096x1024) hz2, View.ld_unit_zero (S := S1x4096x1024) hz3]
  pointwise

/-- The cotangent, its nine groups of columns side by side. -/
theorem cat (x : (⟨ReferenceInWIdeal.S9x4096x1024, .bf16⟩ : BufTy).Contents (Elt Ideal)) (r : Fin 4096) (l : Fin 9216) :
    ReferenceInWIdeal.Read.val_main_v19 (F := Ideal) x (ix2 r l) = dcol x r l := by
  have hl := l.isLt
  pointwise [ReferenceInWIdeal.Read.val_main_v1, ReferenceInWIdeal.Read.val_main_v2, ReferenceInWIdeal.Read.val_main_v3, ReferenceInWIdeal.Read.val_main_v4, ReferenceInWIdeal.Read.val_main_v5, ReferenceInWIdeal.Read.val_main_v6, ReferenceInWIdeal.Read.val_main_v7, ReferenceInWIdeal.Read.val_main_v8, ReferenceInWIdeal.Read.val_main_v9, ReferenceInWIdeal.Read.val_main_v10, ReferenceInWIdeal.Read.val_main_v11, ReferenceInWIdeal.Read.val_main_v12, ReferenceInWIdeal.Read.val_main_v13, ReferenceInWIdeal.Read.val_main_v14, ReferenceInWIdeal.Read.val_main_v15, ReferenceInWIdeal.Read.val_main_v16, ReferenceInWIdeal.Read.val_main_v17, ReferenceInWIdeal.Read.val_main_v18, ReferenceInWIdeal.Read.val_main_v19]
  split_ifs
  all_goals first
    | exact dcol_eq x _ 0 _ _ _ (by decide) (by simp only; omega)
    | exact dcol_eq x _ 1 _ _ _ (by decide) (by simp only; omega)
    | exact dcol_eq x _ 2 _ _ _ (by decide) (by simp only; omega)
    | exact dcol_eq x _ 3 _ _ _ (by decide) (by simp only; omega)
    | exact dcol_eq x _ 4 _ _ _ (by decide) (by simp only; omega)
    | exact dcol_eq x _ 5 _ _ _ (by decide) (by simp only; omega)
    | exact dcol_eq x _ 6 _ _ _ (by decide) (by simp only; omega)
    | exact dcol_eq x _ 7 _ _ _ (by decide) (by simp only; omega)
    | exact dcol_eq x _ 8 _ _ _ (by decide) (by simp only; omega)

/-- The gradient with respect to the weight, at an index. -/
theorem ref_apply (x0 : (⟨S4096x2048, .bf16⟩ : BufTy).Contents (Elt Ideal)) (x1 : (⟨S9x4096x1024, .bf16⟩ : BufTy).Contents (Elt Ideal))
    (a : Fin 2048) (b : Fin 9216) :
    ReferenceInWIdeal.Read.val_main_v26 (F := Ideal) x0 x1 (ix2 a b) = ∑ k : Fin 4096, x0 (ix2 k a) * dcol x1 k b := by
  pointwise [ReferenceInWIdeal.Read.val_main_v26, ReferenceInWIdeal.Read.val_main_v24, ReferenceInWIdeal.Read.val_main_v23, ReferenceInWIdeal.Read.val_main_v22, ReferenceInWIdeal.Read.val_main_v20]
  refine Finset.sum_congr rfl fun k _ => ?_
  rw [cat]
  exact mul_comm _ _

variable (m : (ℓ : Loc nD τ sig) → Buf (Elt Ideal) ℓ) (c : Dev nD)

theorem idx0 : ∀ t : Fin cfg0.N, win0_0.index t = ![0, t.val / 9] := (by decide +kernel : ∀ t : Fin grid0.N, _)
theorem idx1 : ∀ t : Fin cfg0.N, win0_1.index t = ![t.val % 9, 0, 0] := (by decide +kernel : ∀ t : Fin grid0.N, _)
theorem idx2 : ∀ t : Fin cfg0.N, win0_2.index t = ![t.val / 9, colOf (t.val % 9)] := (by decide +kernel : ∀ t : Fin grid0.N, _)

/-- The result array is the reference's. -/
theorem final : (dats m 0 c).arrAt 2 cfg0.N = ReferenceInWIdeal.Read.val_main_v26 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceInWIdeal.Read.val_main_v26 (F := Ideal) (m ((c : Thread nD τ).loc main_arg0)) (m ((c : Thread nD τ).loc main_arg1))) (ValueIdx.eq_ix2 _)).symm
  refine Eq.trans ?_ (ref_apply _ _ _ _).symm
  refine Finset.sum_congr rfl fun k _ => congrArg₂ (· * ·) ?_ ?_
  · blk_ext [iblk, V, idx0 t, idx2 t]
  · have h : t.val % 9 < 9 := Nat.mod_lt _ (by omega)
    refine Eq.trans ?_ (dcol_eq _ _ (colOf (t.val % 9)) ⟨t.val % 9, h⟩ _ y1 (slabOf_colOf _ h).symm ?_)
    · blk_ext [iblk, V, idx1 t, idx2 t]
    · blk_simp [idx2 t]

theorem algebraic : Cert.algebraic_KernelInWIdeal_ReferenceInWIdeal := by
  pair_intro
  · run_from Cert.KernelInWIdeal.Value.run_blocks m g
  · refine (θ_run _ _ _).mono (fun r h c => ?_) (Cert.ReferenceInWIdeal.Value.run (F := Ideal) m' g')
    obtain ⟨a0, a1⟩ := hagree c
    obtain ⟨h0, hrest⟩ := h c
    refine ⟨h0.trans ((Cert.ReferenceInWIdeal.Read.val_main_v26_eq _ _).trans ?_), hrest⟩
    rw [a0, a1]
    exact (final m c).symm

end InW

namespace InX
open Cert.Rows Cert.KernelInXIdeal Cert.KernelInXIdeal.Gen Idealize.ShloMosaic Idealize.ShloMosaic.TcCoe
open Idealize.SL Idealize.SL.Sem

theorem pay2_apply (v0 : Vec Ideal S1x512x1024 .bf16) (v1 : Vec Ideal S512x1024 .bf16) (v2 : Vec Ideal S1x512x1024 .bf16) (v3 : Vec Ideal S512x1024 .bf16) (v4 : Vec Ideal S1x512x1024 .bf16) (v5 : Vec Ideal S512x1024 .bf16) (v6 : Vec Ideal S1x512x1024 .bf16) (v7 : Vec Ideal S512x1024 .bf16) (v8 : Vec Ideal S1x512x1024 .bf16) (v9 : Vec Ideal S512x1024 .bf16) (a : Fin 512) (b : Fin 512) :
    k0_pay2 v0 v1 v2 v3 v4 v5 v6 v7 v8 v9 (ix2 a b) = (∑ k : Fin 1024, v0 (ix3 0 a k) * v1 (ix2 b k)) + (∑ k : Fin 1024, v2 (ix3 0 a k) * v3 (ix2 b k)) + (∑ k : Fin 1024, v4 (ix3 0 a k) * v5 (ix2 b k)) + (∑ k : Fin 1024, v6 (ix3 0 a k) * v7 (ix2 b k)) + (∑ k : Fin 1024, v8 (ix3 0 a k) * v9 (ix2 b k)) := by
  pointwise [k0_pay2]

theorem pay1_apply (u : FVec Ideal S512x512 .f32) (v10 : Vec Ideal S1x512x1024 .bf16) (v11 : Vec Ideal S512x1024 .bf16) (v12 : Vec Ideal S1x512x1024 .bf16) (v13 : Vec Ideal S512x1024 .bf16) (v14 : Vec Ideal S1x512x1024 .bf16) (v15 : Vec Ideal S512x1024 .bf16) (v16 : Vec Ideal S1x512x1024 .bf16) (v17 : Vec Ideal S512x1024 .bf16) (a : Fin 512) (b : Fin 512) :
    k0_pay1 u v10 v11 v12 v13 v14 v15 v16 v17 (ix2 a b) = u (ix2 a b) + (∑ k : Fin 1024, v10 (ix3 0 a k) * v11 (ix2 b k)) + (∑ k : Fin 1024, v12 (ix3 0 a k) * v13 (ix2 b k)) + (∑ k : Fin 1024, v14 (ix3 0 a k) * v15 (ix2 b k)) + (∑ k : Fin 1024, v16 (ix3 0 a k) * v17 (ix2 b k)) := by
  pointwise [k0_pay1]

/-- What a point leaves in its block of the result: a sum over the slabs. -/
theorem out_apply (x0 : Vec Ideal S9x512x1024 .bf16) (x1 : Vec Ideal S512x9216 .bf16) (a : Fin 512) (b : Fin 512) :
    out0_2 x0 x1 (ix2 a b) = ∑ s ∈ Finset.range 9, ∑ k : Fin 1024, at3 x0 s a k * at2 x1 b (colOf s * 1024 + k) := by
  unfold out0_2
  rw [View.canon_unit_zero (S := S512x512) hz2, pay1_apply, pay2_apply]
  have h0 : ∑ k : Fin 1024, View.ld x0 r0_0 (ix3 0 a k) * View.ld x1 r0_1 (ix2 b k) = ∑ k : Fin 1024, at3 x0 0 a k * at2 x1 b (colOf 0 * 1024 + k) :=
    Finset.sum_congr rfl fun k _ => congrArg₂ (· * ·) (ld_slab x0 _ a k) (ld_cols x1 _ b k)
  have h1 : ∑ k : Fin 1024, View.ld x0 r0_2 (ix3 0 a k) * View.ld x1 r0_3 (ix2 b k) = ∑ k : Fin 1024, at3 x0 1 a k * at2 x1 b (colOf 1 * 1024 + k) :=
    Finset.sum_congr rfl fun k _ => congrArg₂ (· * ·) (ld_slab x0 _ a k) (ld_cols x1 _ b k)
  have h2 : ∑ k : Fin 1024, View.ld x0 r0_4 (ix3 0 a k) * View.ld x1 r0_5 (ix2 b k) = ∑ k : Fin 1024, at3 x0 2 a k * at2 x1 b (colOf 2 * 1024 + k) :=
    Finset.sum_congr rfl fun k _ => congrArg₂ (· * ·) (ld_slab x0 _ a k) (ld_cols x1 _ b k)
  have h3 : ∑ k : Fin 1024, View.ld x0 r0_6 (ix3 0 a k) * View.ld x1 r0_7 (ix2 b k) = ∑ k : Fin 1024, at3 x0 3 a k * at2 x1 b (colOf 3 * 1024 + k) :=
    Finset.sum_congr rfl fun k _ => congrArg₂ (· * ·) (ld_slab x0 _ a k) (ld_cols x1 _ b k)
  have h4 : ∑ k : Fin 1024, View.ld x0 r0_8 (ix3 0 a k) * View.ld x1 r0_9 (ix2 b k) = ∑ k : Fin 1024, at3 x0 4 a k * at2 x1 b (colOf 4 * 1024 + k) :=
    Finset.sum_congr rfl fun k _ => congrArg₂ (· * ·) (ld_slab x0 _ a k) (ld_cols x1 _ b k)
  have h5 : ∑ k : Fin 1024, View.ld x0 r0_10 (ix3 0 a k) * View.ld x1 r0_11 (ix2 b k) = ∑ k : Fin 1024, at3 x0 5 a k * at2 x1 b (colOf 5 * 1024 + k) :=
    Finset.sum_congr rfl fun k _ => congrArg₂ (· * ·) (ld_slab x0 _ a k) (ld_cols x1 _ b k)
  have h6 : ∑ k : Fin 1024, View.ld x0 r0_12 (ix3 0 a k) * View.ld x1 r0_13 (ix2 b k) = ∑ k : Fin 1024, at3 x0 6 a k * at2 x1 b (colOf 6 * 1024 + k) :=
    Finset.sum_congr rfl fun k _ => congrArg₂ (· * ·) (ld_slab x0 _ a k) (ld_cols x1 _ b k)
  have h7 : ∑ k : Fin 1024, View.ld x0 r0_14 (ix3 0 a k) * View.ld x1 r0_15 (ix2 b k) = ∑ k : Fin 1024, at3 x0 7 a k * at2 x1 b (colOf 7 * 1024 + k) :=
    Finset.sum_congr rfl fun k _ => congrArg₂ (· * ·) (ld_slab x0 _ a k) (ld_cols x1 _ b k)
  have h8 : ∑ k : Fin 1024, View.ld x0 r0_16 (ix3 0 a k) * View.ld x1 r0_17 (ix2 b k) = ∑ k : Fin 1024, at3 x0 8 a k * at2 x1 b (colOf 8 * 1024 + k) :=
    Finset.sum_congr rfl fun k _ => congrArg₂ (· * ·) (ld_slab x0 _ a k) (ld_cols x1 _ b k)
  simp only [Finset.sum_range_succ, Finset.sum_range_zero, zero_add]
  rw [h0, h1, h2, h3, h4, h5, h6, h7, h8]

/-- The cotangent, its nine groups of columns side by side. -/
theorem cat (x : (⟨ReferenceInXIdeal.S9x4096x1024, .bf16⟩ : BufTy).Contents (Elt Ideal)) (r : Fin 4096) (l : Fin 9216) :
    ReferenceInXIdeal.Read.val_main_v19 (F := Ideal) x (ix2 r l) = dcol x r l := InW.cat x r l

/-- The gradient with respect to the left operand, at an index. -/
theorem ref_apply (x0 : (⟨S9x4096x1024, .bf16⟩ : BufTy).Contents (Elt Ideal)) (x1 : (⟨S2048x9216, .bf16⟩ : BufTy).Contents (Elt Ideal))
    (a : Fin 4096) (b : Fin 2048) :
    ReferenceInXIdeal.Read.val_main_v25 (F := Ideal) x0 x1 (ix2 a b)
      = ∑ s ∈ Finset.range 9, ∑ k : Fin 1024, at3 x0 s a k * at2 x1 b (colOf s * 1024 + k) := by
  pointwise [ReferenceInXIdeal.Read.val_main_v25, ReferenceInXIdeal.Read.val_main_v22, ReferenceInXIdeal.Read.val_main_v20]
  refine (Finset.sum_congr rfl fun k _ => congrArg₂ (· * ·) (cat x0 a k) (at2_eq x1 b k rfl rfl)).trans ?_
  refine (sum_blocks 9 1024 fun k => dcol x0 a k * at2 x1 b k).trans ?_
  refine (sum_cols fun q => ∑ k : Fin 1024, dcol x0 a (q * 1024 + k) * at2 x1 b (q * 1024 + k)).trans ?_
  refine Finset.sum_congr rfl fun s hs => Finset.sum_congr rfl fun k _ => ?_
  have hk := k.isLt
  unfold dcol
  rw [show (colOf s * 1024 + k.val) / 1024 = colOf s by omega, show (colOf s * 1024 + k.val) % 1024 = k.val by omega,
    slabOf_colOf s (Finset.mem_range.mp hs)]

variable (m : (ℓ : Loc nD τ sig) → Buf (Elt Ideal) ℓ) (c : Dev nD)

theorem idx0 : ∀ t : Fin cfg0.N, win0_0.index t = ![0, t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

/-- The result array is the reference's. -/
theorem final : (dats m 0 c).arrAt 2 cfg0.N = ReferenceInXIdeal.Read.val_main_v25 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ _ _).trans ?_
  refine Eq.trans ?_ (congrArg (ReferenceInXIdeal.Read.val_main_v25 (F := Ideal) (m ((c : Thread nD τ).loc main_arg0)) (m ((c : Thread nD τ).loc main_arg1))) (ValueIdx.eq_ix2 _)).symm
  refine Eq.trans ?_ (ref_apply _ _ _ _).symm
  refine Finset.sum_congr rfl fun s hs => Finset.sum_congr rfl fun k _ => ?_
  have hs' : s < 9 := Finset.mem_range.mp hs
  have hq : colOf s < 9 := colOf_lt s hs'
  have hk := k.isLt
  refine congrArg₂ (· * ·) ?_ ?_
  · refine (at3_of_lt _ hs' y0.isLt k.isLt).trans (Eq.trans ?_ (at3_of_lt _ hs' (Fin.isLt _) k.isLt).symm)
    blk_ext [iblk, V, idx0 t, idx2 t]
  · refine (at2_of_lt _ y1.isLt (by omega)).trans (Eq.trans ?_ (at2_of_lt _ (Fin.isLt _) (by omega)).symm)
    blk_ext [iblk, V, idx1 t, idx2 t]

theorem algebraic : Cert.algebraic_KernelInXIdeal_ReferenceInXIdeal := by
  pair_intro
  · run_from Cert.KernelInXIdeal.Value.run_blocks m g
  · refine (θ_run _ _ _).mono (fun r h c => ?_) (Cert.ReferenceInXIdeal.Value.run (F := Ideal) m' g')
    obtain ⟨a0, a1⟩ := hagree c
    obtain ⟨h0, hrest⟩ := h c
    refine ⟨h0.trans ((Cert.ReferenceInXIdeal.Read.val_main_v25_eq _ _).trans ?_), hrest⟩
    rw [a0, a1]
    exact (final m c).symm

end InX

end Cert.Mm
-- ==== Proof.Sigmoid.lean ====
module
public import Idealize.ShloMosaic.Lib.Pipeline.ValueKit
public import Idealize.ShloMosaic.Lib.Pointwise
public import Mathlib.Analysis.SpecialFunctions.Trigonometric.DerivHyp
@[expose] public section
noncomputable section

/-! The logistic function: the version computes it as `tanh (z/2) / 2 + 1/2`, the reference as
`1 / (1 + exp (-z))`. The two agree at every extended real, the infinities included. -/

namespace Cert.Sigmoid
open Idealize.ShloMosaic Idealize.SL.Sem

/-- The logistic function. -/
def sig (z : EReal) : EReal := Ideal.div 1 (1 + Ideal.exp (-z))

/-- At a real. -/
def sigR (x : ℝ) : ℝ := (1 + Real.exp (-x))⁻¹

theorem half_eq : Ideal.ofBits FTy.f32 1056964608#32 = (((1 / 2 : ℝ) : ℝ) : EReal) := by
  simp [Ideal.ofBits, Ideal.ieee]
  norm_num
  rw [← EReal.coe_mul]
  norm_num

theorem sig_coe (x : ℝ) : sig (x : EReal) = ((sigR x : ℝ) : EReal) := by
  have h : (0 : ℝ) < 1 + Real.exp (-x) := by positivity
  have e : (1 : EReal) + Ideal.exp (-(x : EReal)) = ((1 + Real.exp (-x) : ℝ) : EReal) := by
    rw [← EReal.coe_neg]
    change (1 : EReal) + ((Real.exp (-x) : ℝ) : EReal) = _
    norm_cast
  rw [sig, e, Ideal.div, if_neg (by exact_mod_cast h.ne'), one_mul, ← EReal.coe_inv]
  rfl

theorem half_tanh_real (x : ℝ) : (1 / 2) * Real.tanh ((1 / 2) * x) + 1 / 2 = sigR x := by
  have h1 : Real.exp (-x) = Real.exp (-(1 / 2 * x)) * Real.exp (-(1 / 2 * x)) := by
    rw [← Real.exp_add]; congr 1; ring
  have hp : 0 < Real.exp (1 / 2 * x) := Real.exp_pos _
  have hn : Real.exp (-(1 / 2 * x)) = (Real.exp (1 / 2 * x))⁻¹ := Real.exp_neg _
  rw [sigR, Real.tanh_eq_sinh_div_cosh, Real.sinh_eq, Real.cosh_eq, h1, hn]
  generalize Real.exp (1 / 2 * x) = t at hp
  have h2 : (0 : ℝ) < t * t + 1 := by positivity
  field_simp
  ring

theorem half_tanh (z : EReal) :
    Ideal.ofBits FTy.f32 1056964608#32 * Ideal.tanh (Ideal.ofBits FTy.f32 1056964608#32 * z)
      + Ideal.ofBits FTy.f32 1056964608#32 = sig z := by
  rw [half_eq]
  induction z with
  | bot =>
    rw [EReal.coe_mul_bot_of_pos (by norm_num)]
    change (((1 / 2 : ℝ) : ℝ) : EReal) * (-1) + _ = Ideal.div 1 (1 + Ideal.exp (-⊥))
    rw [EReal.neg_bot]
    change _ = Ideal.div 1 (1 + ⊤)
    rw [show (1 : EReal) + ⊤ = ⊤ from rfl, Ideal.div, if_neg (by simp)]
    rw [EReal.inv_top, mul_zero, show (-1 : EReal) = (((-1 : ℝ) : ℝ) : EReal) from rfl, ← EReal.coe_mul, ← EReal.coe_add]
    norm_num
  | top =>
    rw [EReal.coe_mul_top_of_pos (by norm_num)]
    change (((1 / 2 : ℝ) : ℝ) : EReal) * 1 + _ = Ideal.div 1 (1 + Ideal.exp (-⊤))
    rw [EReal.neg_top]
    change _ = Ideal.div 1 (1 + 0)
    rw [add_zero, Ideal.div, if_neg (by simp)]
    rw [inv_one, mul_one, mul_one, ← EReal.coe_add]
    norm_num
  | coe x =>
    rw [sig_coe, ← half_tanh_real]
    rw [← EReal.coe_mul]
    change (((1 / 2 : ℝ) : ℝ) : EReal) * ((Real.tanh (1 / 2 * x) : ℝ) : EReal) + _ = _
    norm_cast

end Cert.Sigmoid
-- ==== Proof.FfPoint.lean ====
module
public import proofs.«01_k».proof.Proof.Gen.KernelFfIdeal.Value
public import proofs.«01_k».proof.Proof.Rows
public import proofs.«01_k».proof.Proof.Sigmoid
@[expose] public section
set_option maxRecDepth 16384
noncomputable section

/-! The feed-forward's convolution and gate, backward, at one grid point: what the body leaves in its
three output blocks and in the carried rows, in terms of the point's blocks, index by index. -/

namespace Cert.Ff.Point
open Cert.KernelFfIdeal Cert.KernelFfIdeal.Gen Cert.Rows Cert.Sigmoid Idealize.ShloMosaic Idealize.SL.Sem

/-! ## The operation, on arrays read at natural numbers -/

section Math

/-- An array, `k` rows earlier: zero before the first row. -/
def sh (X : ℕ → ℕ → EReal) (t k c : ℕ) : EReal := if k ≤ t then X (t - k) c else 0
/-- The convolution of three rows. -/
def cv (X W : ℕ → ℕ → EReal) (t c : ℕ) : EReal := sh X t 2 c * W 0 c + sh X t 1 c * W 1 c + sh X t 0 c * W 2 c
/-- Its cotangent's way back to the rows. -/
def back (Y W : ℕ → ℕ → EReal) (t c : ℕ) : EReal := Y (t + 2) c * W 0 c + Y (t + 1) c * W 1 c + Y t c * W 2 c
/-- One row's contribution to the weight's gradient. -/
def dwt (Y X : ℕ → ℕ → EReal) (k t c : ℕ) : EReal := Y t c * sh X t (2 - k) c

variable (G V D Wg Wv : ℕ → ℕ → EReal)

/-- The cotangent of the value half of the convolution. -/
def duv (t c : ℕ) : EReal := D t c * (cv G Wg t c * sig (cv G Wg t c))
/-- The cotangent of the gate half. -/
def dug (t c : ℕ) : EReal :=
  D t c * cv V Wv t c * (sig (cv G Wg t c) * (1 + cv G Wg t c * (1 - sig (cv G Wg t c))))
/-- The two slabs of the gradient. -/
def slab (s t c : ℕ) : EReal :=
  if s = 0 then back (dug G V D Wg Wv) Wg t c else back (duv G D Wg) Wv t c

end Math

/-! ## The payloads -/

/-- The factor that drops the rows before the first chunk. -/
theorem select_keep {n : ℕ} (hn : n < 2) :
    Scalar.select (Scalar.cmpi CmpIPredicate.eq (BitVec.ofNat 32 n) 1#32) (0 : EReal) 1 = if n = 1 then 0 else 1 := by
  interval_cases n <;> rfl

section Pay
variable (G V D Wg Wv : ℕ → ℕ → EReal) (R J : ℕ)
variable (i : grid0.Coords) (x0 : Vec Ideal S2048x128 .f32) (x1 : Vec Ideal S8x128 .f32) (x2 : Vec Ideal S2048x128 .f32)
  (x3 : Vec Ideal S8x128 .f32) (x4 : Vec Ideal S2048x128 .f32) (x5 x6 : Vec Ideal S3x128 .f32) (nx : Vec Ideal S8x128 .f32)

/-- The blocks of a point are the arrays' rows `R …` and columns `J …`; the first chunk is the one whose
second grid coordinate is 1. -/
structure Blocks : Prop where
  g : ∀ (a : Fin 2048) (l : Fin 128), x0 (ix2 a l) = G (R + a.val) (J + l.val)
  gh : R ≠ 0 → ∀ (a : Fin 8) (l : Fin 128), x1 (ix2 a l) = G (R - 8 + a.val) (J + l.val)
  v : ∀ (a : Fin 2048) (l : Fin 128), x2 (ix2 a l) = V (R + a.val) (J + l.val)
  vh : R ≠ 0 → ∀ (a : Fin 8) (l : Fin 128), x3 (ix2 a l) = V (R - 8 + a.val) (J + l.val)
  d : ∀ (a : Fin 2048) (l : Fin 128), x4 (ix2 a l) = D (R + a.val) (J + l.val)
  wg : ∀ (a : Fin 3) (l : Fin 128), x5 (ix2 a l) = Wg a.val (J + l.val)
  wv : ∀ (a : Fin 3) (l : Fin 128), x6 (ix2 a l) = Wv a.val (J + l.val)
  first : R = 0 ↔ (i 1).val = 1
  far : R ≠ 0 → 8 ≤ R

variable {G V D Wg Wv R J i x0 x1 x2 x3 x4 x5 x6}

theorem pay7_eq : k0_pay7 (F := Ideal) i = if (i 1).val = 1 then (0 : EReal) else 1 := by
  unfold k0_pay7
  pointwise
  exact select_keep (n := (i 1).val) (i 1).isLt

/-- A chunk with the eight rows before it. -/
theorem halo (X : ℕ → ℕ → EReal) (hf : R = 0 ↔ (i 1).val = 1) (hfar : R ≠ 0 → 8 ≤ R) (y : Vec Ideal S8x128 .f32)
    (x : Vec Ideal S2048x128 .f32) (hy : R ≠ 0 → ∀ (a : Fin 8) (l : Fin 128), y (ix2 a l) = X (R - 8 + a.val) (J + l.val))
    (hx : ∀ (a : Fin 2048) (l : Fin 128), x (ix2 a l) = X (R + a.val) (J + l.val))
    (n : Fin 2056) (l : Fin 128) (a k : ℕ) (hk : k ≤ 8) (hn : n.val + k = a + 8) :
    k0_pay8 i y x (ix2 n l) = sh X (R + a) k (J + l.val) := by
  unfold k0_pay8
  pointwise
  unfold sh
  by_cases h1 : n.val < 8
  · refine (dif_pos h1).trans ?_
    rw [pay7_eq]
    by_cases h2 : (i 1).val = 1
    · rw [if_pos h2, mul_zero, if_neg (by omega)]
    · rw [if_neg h2, mul_one, if_pos (by omega), hy (by omega)]
      show X (R - 8 + n.val) _ = _
      rw [show R - 8 + n.val = R + a - k by omega]
  · refine (dif_neg h1).trans ((hx _ l).trans ?_)
    show X (R + (n.val - 8)) _ = _
    rw [if_pos (by omega), show R + (n.val - 8) = R + a - k by omega]

theorem pay8_apply (h : Blocks G V D Wg Wv R J i x0 x1 x2 x3 x4 x5 x6) (n : Fin 2056) (l : Fin 128) (a k : ℕ)
    (hk : k ≤ 8) (hn : n.val + k = a + 8) : k0_pay8 i x1 x0 (ix2 n l) = sh G (R + a) k (J + l.val) :=
  halo G h.first h.far x1 x0 h.gh h.g n l a k hk hn

theorem pay9_eq (y : Vec Ideal S8x128 .f32) (x : Vec Ideal S2048x128 .f32) : k0_pay9 i y x = k0_pay8 i y x := rfl

theorem pay9_apply (h : Blocks G V D Wg Wv R J i x0 x1 x2 x3 x4 x5 x6) (n : Fin 2056) (l : Fin 128) (a k : ℕ)
    (hk : k ≤ 8) (hn : n.val + k = a + 8) : k0_pay9 i x3 x2 (ix2 n l) = sh V (R + a) k (J + l.val) :=
  halo V h.first h.far x3 x2 h.vh h.v n l a k hk hn

/-- The gate half of the convolution. -/
theorem pay10_apply (h : Blocks G V D Wg Wv R J i x0 x1 x2 x3 x4 x5 x6) (a : Fin 2048) (l : Fin 128) :
    k0_pay10 i x5 x1 x0 (ix2 a l) = cv G Wg (R + a.val) (J + l.val) := by
  unfold k0_pay10
  pointwise
  have ha := a.isLt
  rw [pay8_apply h _ l a.val 2 (by omega) (by show (8 + a.val + 2056 - 2) % 2056 + 2 = _; omega),
    pay8_apply h _ l a.val 1 (by omega) (by show (8 + a.val + 2056 - 1) % 2056 + 1 = _; omega),
    pay8_apply h _ l a.val 0 (by omega) (by show (8 + a.val) + 0 = _; omega), h.wg, h.wg, h.wg]
  rfl

/-- The value half. -/
theorem pay13_apply (h : Blocks G V D Wg Wv R J i x0 x1 x2 x3 x4 x5 x6) (a : Fin 2048) (l : Fin 128) :
    k0_pay13 x6 (k0_pay9 i x3 x2) (k0_pay11 i x3 x2) (k0_pay12 x6) (ix2 a l) = cv V Wv (R + a.val) (J + l.val) := by
  unfold k0_pay13 k0_pay11 k0_pay12
  pointwise
  have ha := a.isLt
  rw [pay9_apply h _ l a.val 2 (by omega) (by show (8 + a.val + 2056 - 2) % 2056 + 2 = _; omega),
    pay9_apply h _ l a.val 1 (by omega) (by show (8 + a.val + 2056 - 1) % 2056 + 1 = _; omega),
    pay9_apply h _ l a.val 0 (by omega) (by show (8 + a.val) + 0 = _; omega), h.wv, h.wv, h.wv]
  rfl

theorem pay14_apply (h : Blocks G V D Wg Wv R J i x0 x1 x2 x3 x4 x5 x6) (a : Fin 2048) (l : Fin 128) :
    k0_pay14 (k0_pay10 i x5 x1 x0) (ix2 a l) = sig (cv G Wg (R + a.val) (J + l.val)) := by
  unfold k0_pay14
  pointwise
  rw [pay10_apply h, half_tanh]

theorem pay15_apply (h : Blocks G V D Wg Wv R J i x0 x1 x2 x3 x4 x5 x6) (a : Fin 2048) (l : Fin 128) :
    k0_pay15 (k0_pay10 i x5 x1 x0) x4 (ix2 a l) = duv G D Wg (R + a.val) (J + l.val) := by
  unfold k0_pay15
  pointwise
  rw [pay14_apply h, pay10_apply h, h.d]
  rfl

/-- The gate half's cotangent, as the body holds it. -/
abbrev dugv (i : grid0.Coords) (x0 : Vec Ideal S2048x128 .f32) (x1 : Vec Ideal S8x128 .f32) (x2 : Vec Ideal S2048x128 .f32)
    (x3 : Vec Ideal S8x128 .f32) (x4 : Vec Ideal S2048x128 .f32) (x5 x6 : Vec Ideal S3x128 .f32) : Vec Ideal S2048x128 .f32 :=
  k0_pay24 (k0_pay22 (k0_pay13 x6 (k0_pay9 i x3 x2) (k0_pay11 i x3 x2) (k0_pay12 x6)) x4)
    (k0_pay23 (k0_pay10 i x5 x1 x0) (k0_pay14 (k0_pay10 i x5 x1 x0)))

theorem pay24_apply (h : Blocks G V D Wg Wv R J i x0 x1 x2 x3 x4 x5 x6) (a : Fin 2048) (l : Fin 128) :
    dugv i x0 x1 x2 x3 x4 x5 x6 (ix2 a l) = dug G V D Wg Wv (R + a.val) (J + l.val) := by
  unfold dugv k0_pay24 k0_pay22 k0_pay23
  pointwise
  rw [pay14_apply h, pay10_apply h, pay13_apply h, h.d]
  rfl

/-- A row of a weight's gradient: what was there plus the chunk's sum. -/
theorem rowsum (Y X : ℕ → ℕ → EReal) (z : EReal) (k : ℕ) (l : Fin 128) (y x : Fin 2048 → EReal)
    (hy : ∀ a, y a = Y (R + a.val) (J + l.val)) (hx : ∀ a, x a = sh X (R + a.val) (2 - k) (J + l.val)) :
    z + ∑ a : Fin 2048, y a * x a = z + ∑ a : Fin 2048, dwt Y X k (R + a.val) (J + l.val) :=
  congrArg (z + ·) (Finset.sum_congr rfl fun a _ => congrArg₂ (· * ·) (hy a) (hx a))

theorem vrow0_apply (h : Blocks G V D Wg Wv R J i x0 x1 x2 x3 x4 x5 x6) (o : Vec Ideal S1x128 .f32) (l : Fin 128) :
    k0_pay19 (k0_pay9 i x3 x2) (k0_pay15 (k0_pay10 i x5 x1 x0) x4) o (ix2 0 l)
      = o (ix2 0 l) + ∑ a : Fin 2048, dwt (duv G D Wg) V 0 (R + a.val) (J + l.val) := by
  unfold k0_pay19
  pointwise
  exact rowsum (duv G D Wg) V _ 0 l _ _ (fun a => pay15_apply h a l) fun a =>
    have ha := a.isLt
    pay9_apply h _ l a.val 2 (by omega) (by show (8 + a.val + 2056 - 2) % 2056 + 2 = _; omega)

theorem grow0_apply (h : Blocks G V D Wg Wv R J i x0 x1 x2 x3 x4 x5 x6) (o : Vec Ideal S1x128 .f32) (l : Fin 128) :
    k0_pay27 (k0_pay8 i x1 x0) (k0_pay22 (k0_pay13 x6 (k0_pay9 i x3 x2) (k0_pay11 i x3 x2) (k0_pay12 x6)) x4) (k0_pay23 (k0_pay10 i x5 x1 x0) (k0_pay14 (k0_pay10 i x5 x1 x0))) o (ix2 0 l)
      = o (ix2 0 l) + ∑ a : Fin 2048, dwt (dug G V D Wg Wv) G 0 (R + a.val) (J + l.val) := by
  unfold k0_pay27
  pointwise
  exact rowsum (dug G V D Wg Wv) G _ 0 l _ _ (fun a => pay24_apply h a l) fun a =>
    have ha := a.isLt
    pay8_apply h _ l a.val 2 (by omega) (by show (8 + a.val + 2056 - 2) % 2056 + 2 = _; omega)

theorem vrow1_apply (h : Blocks G V D Wg Wv R J i x0 x1 x2 x3 x4 x5 x6) (o : Vec Ideal S1x128 .f32) (l : Fin 128) :
    k0_pay20 (k0_pay9 i x3 x2) (k0_pay15 (k0_pay10 i x5 x1 x0) x4) o (ix2 0 l)
      = o (ix2 0 l) + ∑ a : Fin 2048, dwt (duv G D Wg) V 1 (R + a.val) (J + l.val) := by
  unfold k0_pay20
  pointwise
  exact rowsum (duv G D Wg) V _ 1 l _ _ (fun a => pay15_apply h a l) fun a =>
    have ha := a.isLt
    pay9_apply h _ l a.val 1 (by omega) (by show (8 + a.val + 2056 - 1) % 2056 + 1 = _; omega)

theorem grow1_apply (h : Blocks G V D Wg Wv R J i x0 x1 x2 x3 x4 x5 x6) (o : Vec Ideal S1x128 .f32) (l : Fin 128) :
    k0_pay1 (dugv i x0 x1 x2 x3 x4 x5 x6) (k0_pay28 o) (k0_pay29 (k0_pay8 i x1 x0)) (ix2 0 l)
      = o (ix2 0 l) + ∑ a : Fin 2048, dwt (dug G V D Wg Wv) G 1 (R + a.val) (J + l.val) := by
  unfold k0_pay1 k0_pay28 k0_pay29
  pointwise
  exact rowsum (dug G V D Wg Wv) G _ 1 l _ _ (fun a => pay24_apply h a l) fun a =>
    have ha := a.isLt
    pay8_apply h _ l a.val 1 (by omega) (by show (8 + a.val + 2056 - 1) % 2056 + 1 = _; omega)

theorem vrow2_apply (h : Blocks G V D Wg Wv R J i x0 x1 x2 x3 x4 x5 x6) (o : Vec Ideal S1x128 .f32) (l : Fin 128) :
    k0_pay21 (k0_pay9 i x3 x2) (k0_pay15 (k0_pay10 i x5 x1 x0) x4) o (ix2 0 l)
      = o (ix2 0 l) + ∑ a : Fin 2048, dwt (duv G D Wg) V 2 (R + a.val) (J + l.val) := by
  unfold k0_pay21
  pointwise
  exact rowsum (duv G D Wg) V _ 2 l _ _ (fun a => pay15_apply h a l) fun a =>
    have ha := a.isLt
    pay9_apply h _ l a.val 0 (by omega) (by show (8 + a.val) + 0 = _; omega)

theorem grow2_apply (h : Blocks G V D Wg Wv R J i x0 x1 x2 x3 x4 x5 x6) (o : Vec Ideal S1x128 .f32) (l : Fin 128) :
    k0_pay2 (k0_pay8 i x1 x0) (dugv i x0 x1 x2 x3 x4 x5 x6) o (ix2 0 l)
      = o (ix2 0 l) + ∑ a : Fin 2048, dwt (dug G V D Wg Wv) G 2 (R + a.val) (J + l.val) := by
  unfold k0_pay2
  pointwise
  exact rowsum (dug G V D Wg Wv) G _ 2 l _ _ (fun a => pay24_apply h a l) fun a =>
    have ha := a.isLt
    pay8_apply h _ l a.val 0 (by omega) (by show (8 + a.val) + 0 = _; omega)

/-- A chunk of a cotangent with the eight rows after it. -/
theorem next (Y : ℕ → ℕ → EReal) (y : Vec Ideal S2048x128 .f32) (hy : ∀ (a : Fin 2048) (l : Fin 128), y (ix2 a l) = Y (R + a.val) (J + l.val))
    (hn : ∀ (a : Fin 8) (l : Fin 128), nx (ix2 a l) = Y (R + 2048 + a.val) (J + l.val))
    (n : Fin 2056) (l : Fin 128) (t : ℕ) (ht : n.val = t) :
    (if h : n.val < 2048 then y (ix2 ⟨n.val, h⟩ l) else nx (ix2 ⟨n.val - 2048, by have := n.isLt; omega⟩ l)) = Y (R + t) (J + l.val) := by
  subst ht
  split_ifs with h1
  · exact hy ⟨n.val, h1⟩ l
  · rw [hn]
    show Y (R + 2048 + (n.val - 2048)) _ = _
    rw [show R + 2048 + (n.val - 2048) = R + n.val by omega]

/-- The value half's slab. -/
theorem pay16_apply (h : Blocks G V D Wg Wv R J i x0 x1 x2 x3 x4 x5 x6)
    (hn : ∀ (a : Fin 8) (l : Fin 128), nx (ix2 a l) = duv G D Wg (R + 2048 + a.val) (J + l.val))
    (a : Fin 2048) (l : Fin 128) :
    k0_pay16 x6 (k0_pay10 i x5 x1 x0) x4 nx (ix3 0 a l) = back (duv G D Wg) Wv (R + a.val) (J + l.val) := by
  unfold k0_pay16
  pointwise
  have ha := a.isLt
  have e := fun n t ht => next nx (duv G D Wg) _ (pay15_apply h) hn n l t ht
  have e2 := e ⟨(a.val + 2056 - 2054) % 2056, Nat.mod_lt _ (by omega)⟩ (a.val + 2) (by show (a.val + 2056 - 2054) % 2056 = _; omega)
  have e1 := e ⟨(a.val + 2056 - 2055) % 2056, Nat.mod_lt _ (by omega)⟩ (a.val + 1) (by show (a.val + 2056 - 2055) % 2056 = _; omega)
  exact congrArg₂ (· + ·) (congrArg₂ (· + ·) (congrArg₂ (· * ·) e2 (h.wv 0 l)) (congrArg₂ (· * ·) e1 (h.wv 1 l)))
    (congrArg₂ (· * ·) (pay15_apply h a l) (h.wv 2 l))

theorem pay25_apply (h : Blocks G V D Wg Wv R J i x0 x1 x2 x3 x4 x5 x6)
    (hn : ∀ (a : Fin 8) (l : Fin 128), nx (ix2 a l) = dug G V D Wg Wv (R + 2048 + a.val) (J + l.val))
    (a : Fin 2048) (l : Fin 128) :
    k0_pay25 x5 (k0_pay22 (k0_pay13 x6 (k0_pay9 i x3 x2) (k0_pay11 i x3 x2) (k0_pay12 x6)) x4) (k0_pay23 (k0_pay10 i x5 x1 x0) (k0_pay14 (k0_pay10 i x5 x1 x0))) nx (ix3 0 a l) = back (dug G V D Wg Wv) Wg (R + a.val) (J + l.val) := by
  unfold k0_pay25
  pointwise
  have ha := a.isLt
  have e := fun n t ht => next nx (dug G V D Wg Wv) _ (pay24_apply h) hn n l t ht
  have e2 := e ⟨(a.val + 2056 - 2054) % 2056, Nat.mod_lt _ (by omega)⟩ (a.val + 2) (by show (a.val + 2056 - 2054) % 2056 = _; omega)
  have e1 := e ⟨(a.val + 2056 - 2055) % 2056, Nat.mod_lt _ (by omega)⟩ (a.val + 1) (by show (a.val + 2056 - 2055) % 2056 = _; omega)
  exact congrArg₂ (· + ·) (congrArg₂ (· + ·) (congrArg₂ (· * ·) e2 (h.wg 0 l)) (congrArg₂ (· * ·) e1 (h.wg 1 l)))
    (congrArg₂ (· * ·) (pay24_apply h a l) (h.wg 2 l))

theorem pay18_apply (h : Blocks G V D Wg Wv R J i x0 x1 x2 x3 x4 x5 x6) (a : Fin 8) (l : Fin 128) :
    k0_pay18 (k0_pay17 (k0_pay10 i x5 x1 x0) x4) (ix2 a l) = duv G D Wg (R + a.val) (J + l.val) := by
  unfold k0_pay18 k0_pay17
  pointwise
  exact pay15_apply h _ l

theorem pay26_apply (h : Blocks G V D Wg Wv R J i x0 x1 x2 x3 x4 x5 x6) (a : Fin 8) (l : Fin 128) :
    k0_pay26 (k0_pay22 (k0_pay13 x6 (k0_pay9 i x3 x2) (k0_pay11 i x3 x2) (k0_pay12 x6)) x4) (k0_pay23 (k0_pay10 i x5 x1 x0) (k0_pay14 (k0_pay10 i x5 x1 x0))) (ix2 a l) = dug G V D Wg Wv (R + a.val) (J + l.val) := by
  unfold k0_pay26
  pointwise
  exact pay24_apply h _ l

theorem pay3_apply (a : Fin 8) (l : Fin 128) : k0_pay3 (F := Ideal) (ix2 a l) = 0 := by
  pointwise [k0_pay3]

theorem pay4_apply (a : Fin 8) (l : Fin 128) : k0_pay4 (F := Ideal) (ix2 a l) = 0 := by
  pointwise [k0_pay4]

theorem pay5_apply (a : Fin 3) (l : Fin 128) : k0_pay5 (F := Ideal) (ix2 a l) = 0 := by
  pointwise [k0_pay5]

theorem pay6_apply (a : Fin 3) (l : Fin 128) : k0_pay6 (F := Ideal) (ix2 a l) = 0 := by
  pointwise [k0_pay6]

end Pay
end Cert.Ff.Point
-- ==== Proof.FfOut.lean ====
module
public import proofs.«01_k».proof.Proof.FfPoint
@[expose] public section
set_option maxRecDepth 16384
noncomputable section

/-! The feed-forward's convolution and gate, backward: the blocks and the carried rows the body leaves. -/

namespace Cert.Ff.Point
open Cert.KernelFfIdeal Cert.KernelFfIdeal.Gen Cert.Rows Cert.Sigmoid Idealize.ShloMosaic Idealize.SL.Sem

section Out
variable {G V D Wg Wv : ℕ → ℕ → EReal} {R J : ℕ} {i : grid0.Coords}
  {x0 : Vec Ideal S2048x128 .f32} {x1 : Vec Ideal S8x128 .f32} {x2 : Vec Ideal S2048x128 .f32}
  {x3 : Vec Ideal S8x128 .f32} {x4 : Vec Ideal S2048x128 .f32} {x5 x6 : Vec Ideal S3x128 .f32}
  (h : Blocks G V D Wg Wv R J i x0 x1 x2 x3 x4 x5 x6) (co : Dev nD)
  (arg2 : Memref sig .tc .vmem S2048x128 .f32) (harg2 : arg2.IsWhole) (arg3 : Memref sig .tc .vmem S8x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S2048x128 .f32) (harg6 : arg6.IsWhole) (arg7 : Memref sig .tc .vmem S3x128 .f32) (harg7 : arg7.IsWhole) (arg8 : Memref sig .tc .vmem S3x128 .f32) (harg8 : arg8.IsWhole) (arg9 : Memref sig .tc .vmem S2x2048x128 .bf16) (harg9 : arg9.IsWhole) (arg10 : Memref sig .tc .vmem S3x128 .f32) (harg10 : arg10.IsWhole) (arg11 : Memref sig .tc .vmem S3x128 .f32) (harg11 : arg11.IsWhole) (arg12 : Memref sig .tc .vmem S8x128 .f32) (harg12 : arg12.IsWhole) (arg13 : Memref sig .tc .vmem S8x128 .f32) (harg13 : arg13.IsWhole)
include h

theorem out_A_7 (hc : cond0_0 i)
    (hg : ∀ (a : Fin 8) (l : ℕ), dug G V D Wg Wv (R + 2048 + a.val) l = 0) (hv : ∀ (a : Fin 8) (l : ℕ), duv G D Wg (R + 2048 + a.val) l = 0)
    (s : Fin 2) (a : Fin 2048) (l : Fin 128) :
    out0_A_7 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 (ix3 s a l)
      = slab G V D Wg Wv s.val (R + a.val) (J + l.val) := by
  unfold out0_A_7
  rw [View.read_writes_eq_canon _ _ _ (cover0_A_7 co i arg2 harg2 arg3 harg3 arg4 harg4 arg5 harg5 arg6 harg6 arg7 harg7 arg8 harg8 arg9 harg9 arg10 harg10 arg11 harg11 arg12 harg12 arg13 harg13 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  simp only [View.readCov_unit_zero (S := S8x128) _ hz2]
  match s with
  | ⟨0, _⟩ =>
    refine (canon_slab_hit 0 _ _ _ _ a l rfl).trans ?_
    exact pay25_apply _ h (fun a l => (pay3_apply a l).trans (hg a _).symm) a l
  | ⟨1, _⟩ =>
    refine (canon_slab_miss 0 _ _ _ _ a l (by simp)).trans ?_
    refine (canon_slab_hit 1 _ _ _ _ a l rfl).trans ?_
    exact pay16_apply _ h (fun a l => (pay4_apply a l).trans (hv a _).symm) a l

theorem out_A_8 (hc : cond0_0 i) (k : Fin 3) (l : Fin 128) :
    out0_A_8 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 (ix2 k l)
      = 0 + ∑ a : Fin 2048, dwt (dug G V D Wg Wv) G k.val (R + a.val) (J + l.val) := by
  unfold out0_A_8
  rw [View.read_writes_eq_canon _ _ _ (cover0_A_8 co i arg2 harg2 arg3 harg3 arg4 harg4 arg5 harg5 arg6 harg6 arg7 harg7 arg8 harg8 arg9 harg9 arg10 harg10 arg11 harg11 arg12 harg12 arg13 harg13 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (grow0_apply h _ l).trans (congrArg (· + _) ?_)
    refine (readCov_rows 0 _ _ _ ⟨0, by decide⟩ l 0 rfl).trans ?_
    rw [View.canon_unit_zero (S := S3x128) hz2]
    exact pay5_apply _ l
  | ⟨1, _⟩ =>
    refine (canon_rows_miss 2 _ _ _ _ l (by simp)).trans ?_
    refine (canon_rows_hit 1 _ _ _ _ l 0 rfl).trans ?_
    refine (grow1_apply h _ l).trans (congrArg (· + _) ?_)
    refine (readCov_rows 1 _ _ _ ⟨1, by decide⟩ l 0 rfl).trans ?_
    refine (canon_rows_miss 0 _ _ _ _ l (by simp)).trans ?_
    rw [View.canon_unit_zero (S := S3x128) hz2]
    exact pay5_apply _ l
  | ⟨2, _⟩ =>
    refine (canon_rows_hit 2 _ _ _ _ l 0 rfl).trans ?_
    refine (grow2_apply h _ l).trans (congrArg (· + _) ?_)
    refine (readCov_rows 2 _ _ _ ⟨2, by decide⟩ l 0 rfl).trans ?_
    refine (canon_rows_miss 1 _ _ _ _ l (by simp)).trans ?_
    refine (canon_rows_miss 0 _ _ _ _ l (by simp)).trans ?_
    rw [View.canon_unit_zero (S := S3x128) hz2]
    exact pay5_apply _ l

theorem out_A_9 (hc : cond0_0 i) (k : Fin 3) (l : Fin 128) :
    out0_A_9 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 (ix2 k l)
      = 0 + ∑ a : Fin 2048, dwt (duv G D Wg) V k.val (R + a.val) (J + l.val) := by
  unfold out0_A_9
  rw [View.read_writes_eq_canon _ _ _ (cover0_A_9 co i arg2 harg2 arg3 harg3 arg4 harg4 arg5 harg5 arg6 harg6 arg7 harg7 arg8 harg8 arg9 harg9 arg10 harg10 arg11 harg11 arg12 harg12 arg13 harg13 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (vrow0_apply h _ l).trans (congrArg (· + _) ?_)
    refine (readCov_rows 0 _ _ _ ⟨0, by decide⟩ l 0 rfl).trans ?_
    rw [View.canon_unit_zero (S := S3x128) hz2]
    exact pay6_apply _ l
  | ⟨1, _⟩ =>
    refine (canon_rows_miss 2 _ _ _ _ l (by simp)).trans ?_
    refine (canon_rows_hit 1 _ _ _ _ l 0 rfl).trans ?_
    refine (vrow1_apply h _ l).trans (congrArg (· + _) ?_)
    refine (readCov_rows 1 _ _ _ ⟨1, by decide⟩ l 0 rfl).trans ?_
    refine (canon_rows_miss 0 _ _ _ _ l (by simp)).trans ?_
    rw [View.canon_unit_zero (S := S3x128) hz2]
    exact pay6_apply _ l
  | ⟨2, _⟩ =>
    refine (canon_rows_hit 2 _ _ _ _ l 0 rfl).trans ?_
    refine (vrow2_apply h _ l).trans (congrArg (· + _) ?_)
    refine (readCov_rows 2 _ _ _ ⟨2, by decide⟩ l 0 rfl).trans ?_
    refine (canon_rows_miss 1 _ _ _ _ l (by simp)).trans ?_
    refine (canon_rows_miss 0 _ _ _ _ l (by simp)).trans ?_
    rw [View.canon_unit_zero (S := S3x128) hz2]
    exact pay6_apply _ l

theorem sout_A_0 (hc : cond0_0 i) (a : Fin 8) (l : Fin 128) :
    sout0_A_0 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 (ix2 a l)
      = dug G V D Wg Wv (R + a.val) (J + l.val) := by
  unfold sout0_A_0
  rw [View.read_writes_eq_canon _ _ _ (scover0_A_0 co i arg2 harg2 arg3 harg3 arg4 harg4 arg5 harg5 arg6 harg6 arg7 harg7 arg8 harg8 arg9 harg9 arg10 harg10 arg11 harg11 arg12 harg12 arg13 harg13 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  rw [View.canon_cons_unit_zero (S := S8x128) hz2]
  exact pay26_apply h a l

theorem sout_A_1 (hc : cond0_0 i) (a : Fin 8) (l : Fin 128) :
    sout0_A_1 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 (ix2 a l)
      = duv G D Wg (R + a.val) (J + l.val) := by
  unfold sout0_A_1
  rw [View.read_writes_eq_canon _ _ _ (scover0_A_1 co i arg2 harg2 arg3 harg3 arg4 harg4 arg5 harg5 arg6 harg6 arg7 harg7 arg8 harg8 arg9 harg9 arg10 harg10 arg11 harg11 arg12 harg12 arg13 harg13 hc x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  rw [View.canon_cons_unit_zero (S := S8x128) hz2]
  exact pay18_apply h a l

theorem out_B_7 (hc : ¬cond0_0 i) (xo8 xo9 : Vec Ideal S3x128 .f32) (xs0 xs1 : Vec Ideal S8x128 .f32)
    (hg : ∀ (a : Fin 8) (l : Fin 128), xs0 (ix2 a l) = dug G V D Wg Wv (R + 2048 + a.val) (J + l.val))
    (hv : ∀ (a : Fin 8) (l : Fin 128), xs1 (ix2 a l) = duv G D Wg (R + 2048 + a.val) (J + l.val))
    (s : Fin 2) (a : Fin 2048) (l : Fin 128) :
    out0_B_7 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1 (ix3 s a l)
      = slab G V D Wg Wv s.val (R + a.val) (J + l.val) := by
  unfold out0_B_7
  rw [View.read_writes_eq_canon _ _ _ (cover0_B_7 co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  match s with
  | ⟨0, _⟩ =>
    refine (canon_slab_hit 0 _ _ _ _ a l rfl).trans ?_
    exact pay25_apply _ h hg a l
  | ⟨1, _⟩ =>
    refine (canon_slab_miss 0 _ _ _ _ a l (by simp)).trans ?_
    refine (canon_slab_hit 1 _ _ _ _ a l rfl).trans ?_
    exact pay16_apply _ h hv a l

theorem out_B_8 (hc : ¬cond0_0 i) (xo8 xo9 : Vec Ideal S3x128 .f32) (xs0 xs1 : Vec Ideal S8x128 .f32) (k : Fin 3) (l : Fin 128) :
    out0_B_8 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1 (ix2 k l)
      = xo8 (ix2 k l) + ∑ a : Fin 2048, dwt (dug G V D Wg Wv) G k.val (R + a.val) (J + l.val) := by
  unfold out0_B_8
  rw [View.read_writes_eq_canon _ _ _ (cover0_B_8 co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (grow0_apply h _ l).trans (congrArg (· + _) ?_)
    exact ld_rows 0 xo8 _ _ l 0 rfl
  | ⟨1, _⟩ =>
    refine (canon_rows_miss 2 _ _ _ _ l (by simp)).trans ?_
    refine (canon_rows_hit 1 _ _ _ _ l 0 rfl).trans ?_
    refine (grow1_apply h _ l).trans (congrArg (· + _) ?_)
    exact ld_rows 1 xo8 _ _ l 0 rfl
  | ⟨2, _⟩ =>
    refine (canon_rows_hit 2 _ _ _ _ l 0 rfl).trans ?_
    refine (grow2_apply h _ l).trans (congrArg (· + _) ?_)
    exact ld_rows 2 xo8 _ _ l 0 rfl

theorem out_B_9 (hc : ¬cond0_0 i) (xo8 xo9 : Vec Ideal S3x128 .f32) (xs0 xs1 : Vec Ideal S8x128 .f32) (k : Fin 3) (l : Fin 128) :
    out0_B_9 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1 (ix2 k l)
      = xo9 (ix2 k l) + ∑ a : Fin 2048, dwt (duv G D Wg) V k.val (R + a.val) (J + l.val) := by
  unfold out0_B_9
  rw [View.read_writes_eq_canon _ _ _ (cover0_B_9 co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  match k with
  | ⟨0, _⟩ =>
    refine (canon_rows_miss 2 _ _ _ _ l (by simp)).trans ?_
    refine (canon_rows_miss 1 _ _ _ _ l (by simp)).trans ?_
    refine (canon_rows_hit 0 _ _ _ _ l 0 rfl).trans ?_
    refine (vrow0_apply h _ l).trans (congrArg (· + _) ?_)
    exact ld_rows 0 xo9 _ _ l 0 rfl
  | ⟨1, _⟩ =>
    refine (canon_rows_miss 2 _ _ _ _ l (by simp)).trans ?_
    refine (canon_rows_hit 1 _ _ _ _ l 0 rfl).trans ?_
    refine (vrow1_apply h _ l).trans (congrArg (· + _) ?_)
    exact ld_rows 1 xo9 _ _ l 0 rfl
  | ⟨2, _⟩ =>
    refine (canon_rows_hit 2 _ _ _ _ l 0 rfl).trans ?_
    refine (vrow2_apply h _ l).trans (congrArg (· + _) ?_)
    exact ld_rows 2 xo9 _ _ l 0 rfl

theorem sout_B_0 (hc : ¬cond0_0 i) (xo8 xo9 : Vec Ideal S3x128 .f32) (xs0 xs1 : Vec Ideal S8x128 .f32) (a : Fin 8) (l : Fin 128) :
    sout0_B_0 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1 (ix2 a l)
      = dug G V D Wg Wv (R + a.val) (J + l.val) := by
  unfold sout0_B_0
  rw [View.read_writes_eq_canon _ _ _ (scover0_B_0 co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  rw [View.canon_unit_zero (S := S8x128) hz2]
  exact pay26_apply h a l

theorem sout_B_1 (hc : ¬cond0_0 i) (xo8 xo9 : Vec Ideal S3x128 .f32) (xs0 xs1 : Vec Ideal S8x128 .f32) (a : Fin 8) (l : Fin 128) :
    sout0_B_1 (F := Ideal) co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1 (ix2 a l)
      = duv G D Wg (R + a.val) (J + l.val) := by
  unfold sout0_B_1
  rw [View.read_writes_eq_canon _ _ _ (scover0_B_1 co i arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S2048x128) hz2, View.ld_unit_zero (S := S3x128) hz2, View.ld_unit_zero (S := S8x128) hz2, shapeCast_self]
  rw [View.canon_unit_zero (S := S8x128) hz2]
  exact pay18_apply h a l

end Out
end Cert.Ff.Point
-- ==== Proof.FfKernel.lean ====
module
public import proofs.«01_k».proof.Proof.FfOut
@[expose] public section
set_option maxRecDepth 16384
noncomputable section

/-! The feed-forward's backward kernel over its grid: each point's blocks as parts of the argument arrays,
the rows carried from point to point, and the three result arrays. -/

namespace Cert.Ff.Kernel
open Cert.KernelFfIdeal Cert.KernelFfIdeal.Gen Cert.Rows Cert.Ff.Point Idealize.ShloMosaic Idealize.ShloMosaic.TcCoe
open Idealize.SL Idealize.SL.Sem

variable (m : (ℓ : Loc nD τ sig) → Buf (Elt Ideal) ℓ) (c : Dev nD)

/-- The arguments, read at natural numbers. -/
def aG (t l : ℕ) : EReal := at2 (m ((c : Thread nD τ).loc main_arg0)) t l
def aV (t l : ℕ) : EReal := at2 (m ((c : Thread nD τ).loc main_arg0)) t (5632 + l)
def aD (t l : ℕ) : EReal := at2 (m ((c : Thread nD τ).loc main_arg1)) t l
def aWg (t l : ℕ) : EReal := at2 (m ((c : Thread nD τ).loc main_arg2)) t l
def aWv (t l : ℕ) : EReal := at2 (m ((c : Thread nD τ).loc main_arg2)) t (5632 + l)

/-! ## The blocks -/

theorem idx0 : ∀ t : Fin cfg0.N, win0_0.index t = ![1 - t.val % 2, t.val / 2] :=
  (by decide +kernel : ∀ t : Fin grid0.N, _)
theorem idx1 : ∀ t : Fin cfg0.N, win0_1.index t = ![(1 - t.val % 2) * 256 - 1, t.val / 2] :=
  (by decide +kernel : ∀ t : Fin grid0.N, _)
theorem idx2 : ∀ t : Fin cfg0.N, win0_2.index t = ![1 - t.val % 2, 44 + t.val / 2] :=
  (by decide +kernel : ∀ t : Fin grid0.N, _)
theorem idx3 : ∀ t : Fin cfg0.N, win0_3.index t = ![(1 - t.val % 2) * 256 - 1, 44 + t.val / 2] :=
  (by decide +kernel : ∀ t : Fin grid0.N, _)
theorem idx4 : ∀ t : Fin cfg0.N, win0_4.index t = ![1 - t.val % 2, t.val / 2] :=
  (by decide +kernel : ∀ t : Fin grid0.N, _)
theorem idx5 : ∀ t : Fin cfg0.N, win0_5.index t = ![0, t.val / 2] :=
  (by decide +kernel : ∀ t : Fin grid0.N, _)
theorem idx6 : ∀ t : Fin cfg0.N, win0_6.index t = ![0, 44 + t.val / 2] :=
  (by decide +kernel : ∀ t : Fin grid0.N, _)
theorem idx7 : ∀ t : Fin cfg0.N, win0_7.index t = ![0, 1 - t.val % 2, t.val / 2] :=
  (by decide +kernel : ∀ t : Fin grid0.N, _)
theorem idx8 : ∀ t : Fin cfg0.N, win0_8.index t = ![0, t.val / 2] :=
  (by decide +kernel : ∀ t : Fin grid0.N, _)
theorem idx9 : ∀ t : Fin cfg0.N, win0_9.index t = ![0, t.val / 2] :=
  (by decide +kernel : ∀ t : Fin grid0.N, _)
theorem coord1 : ∀ t : Fin cfg0.N, (grid0.coords t 1).val = t.val % 2 :=
  (by decide +kernel : ∀ t : Fin grid0.N, _)

/-- The first row and the first column of a point's blocks. -/
abbrev row (t : ℕ) : ℕ := (1 - t % 2) * 2048
abbrev col (t : ℕ) : ℕ := t / 2 * 128

theorem lt88 (t : Fin cfg0.N) : t.val < 88 := lt_of_lt_of_eq t.isLt N_0

theorem blocks (t : Fin cfg0.N) :
    Blocks (aG m c) (aV m c) (aD m c) (aWg m c) (aWv m c) (row t.val) (col t.val) (grid0.coords t)
      (iblk m c 0 t) (iblk m c 1 t) (iblk m c 2 t) (iblk m c 3 t) (iblk m c 4 t) (iblk m c 5 t) (iblk m c 6 t) := by
  have ht := lt88 t
  constructor
  · intro a l
    have ha := a.isLt
    have hl := l.isLt
    refine Eq.trans ?_ (at2_of_lt (m ((c : Thread nD τ).loc main_arg0)) (r := row t.val + a.val) (c := (col t.val + l.val)) (by unfold row at *; omega) (by unfold col; omega)).symm
    blk_ext [iblk, V, idx0 t]
    all_goals (simp only [row, col] at *; omega)
  · intro hR a l
    have ha := a.isLt
    have hl := l.isLt
    have hR' : row t.val ≠ 0 := hR
    refine Eq.trans ?_ (at2_of_lt (m ((c : Thread nD τ).loc main_arg0)) (r := row t.val - 8 + a.val) (c := (col t.val + l.val)) (by unfold row at *; omega) (by unfold col; omega)).symm
    blk_ext [iblk, V, idx1 t]
    all_goals (simp only [row, col] at *; omega)
  · intro a l
    have ha := a.isLt
    have hl := l.isLt
    refine Eq.trans ?_ (at2_of_lt (m ((c : Thread nD τ).loc main_arg0)) (r := row t.val + a.val) (c := 5632 + (col t.val + l.val)) (by unfold row at *; omega) (by unfold col; omega)).symm
    blk_ext [iblk, V, idx2 t]
    all_goals (simp only [row, col] at *; omega)
  · intro hR a l
    have ha := a.isLt
    have hl := l.isLt
    have hR' : row t.val ≠ 0 := hR
    refine Eq.trans ?_ (at2_of_lt (m ((c : Thread nD τ).loc main_arg0)) (r := row t.val - 8 + a.val) (c := 5632 + (col t.val + l.val)) (by unfold row at *; omega) (by unfold col; omega)).symm
    blk_ext [iblk, V, idx3 t]
    all_goals (simp only [row, col] at *; omega)
  · intro a l
    have ha := a.isLt
    have hl := l.isLt
    refine Eq.trans ?_ (at2_of_lt (m ((c : Thread nD τ).loc main_arg1)) (r := row t.val + a.val) (c := (col t.val + l.val)) (by unfold row at *; omega) (by unfold col; omega)).symm
    blk_ext [iblk, V, idx4 t]
    all_goals (simp only [row, col] at *; omega)
  · intro a l
    have ha := a.isLt
    have hl := l.isLt
    refine Eq.trans ?_ (at2_of_lt (m ((c : Thread nD τ).loc main_arg2)) (r := a.val) (c := (col t.val + l.val)) ha (by unfold col; omega)).symm
    blk_ext [iblk, V, idx5 t]
    all_goals (simp only [row, col] at *; omega)
  · intro a l
    have ha := a.isLt
    have hl := l.isLt
    refine Eq.trans ?_ (at2_of_lt (m ((c : Thread nD τ).loc main_arg2)) (r := a.val) (c := 5632 + (col t.val + l.val)) ha (by unfold col; omega)).symm
    blk_ext [iblk, V, idx6 t]
    all_goals (simp only [row, col] at *; omega)
  · rw [coord1]; unfold row; omega
  · unfold row; omega

theorem aD_ge {t : ℕ} (h : 4096 ≤ t) (l : ℕ) : aD m c t l = 0 := at2_of_ge _ h

theorem duv_ge {t : ℕ} (h : 4096 ≤ t) (l : ℕ) : duv (aG m c) (aD m c) (aWg m c) t l = 0 := by
  unfold duv
  rw [aD_ge m c h, zero_mul]

theorem dug_ge {t : ℕ} (h : 4096 ≤ t) (l : ℕ) : dug (aG m c) (aV m c) (aD m c) (aWg m c) (aWv m c) t l = 0 := by
  unfold dug
  rw [aD_ge m c h, zero_mul, zero_mul]

/-! ## What each point leaves -/

/-- The rows carried after a point are a cotangent in the first rows of its chunk. -/
theorem carried0 (t : Fin cfg0.N) (a : Fin 8) (l : Fin 128) :
    (outsAt0 m c t.val t.isLt).2.2.2.1 (ix2 a l) = dug (aG m c) (aV m c) (aD m c) (aWg m c) (aWv m c) (row t.val + a.val) (col t.val + l.val) := by
  by_cases h0 : t.val % 2 = 0
  · rw [outsAt0_A m c t h0]
    dsimp only
    exact sout_A_0 (blocks m c t) c _ _ _ _ _ _ _ _ _ _ _ _ _ _ _ _ _ _ _ _ _ _ _ _ _ a l
  · rw [outsAt0_B m c t h0]
    dsimp only
    exact sout_B_0 (blocks m c t) c _ _ _ _ _ _ _ _ _ _ _ _ _ _ _ _ _ _ _ _ _ _ _ _ _ _ _ _ _ a l

/-- So before a point of the second kind they are the rows after its chunk. -/
theorem before0 (t : Fin cfg0.N) (h0 : ¬t.val % 2 = 0) (a : Fin 8) (l : Fin 128) :
    (outsAt0 m c (t.val - 1) (Nat.lt_of_le_of_lt (Nat.sub_le _ _) t.isLt)).2.2.2.1 (ix2 a l)
      = dug (aG m c) (aV m c) (aD m c) (aWg m c) (aWv m c) (row t.val + 2048 + a.val) (col t.val + l.val) := by
  refine (carried0 m c ⟨t.val - 1, Nat.lt_of_le_of_lt (Nat.sub_le _ _) t.isLt⟩ a l).trans ?_
  have e1 : row (t.val - 1) = row t.val + 2048 := by unfold row; omega
  have e2 : col (t.val - 1) = col t.val := by unfold col; omega
  show dug (aG m c) (aV m c) (aD m c) (aWg m c) (aWv m c) (row (t.val - 1) + a.val) (col (t.val - 1) + l.val) = _
  rw [e1, e2]

/-- The rows carried after a point are a cotangent in the first rows of its chunk. -/
theorem carried1 (t : Fin cfg0.N) (a : Fin 8) (l : Fin 128) :
    (outsAt0 m c t.val t.isLt).2.2.2.2 (ix2 a l) = duv (aG m c) (aD m c) (aWg m c) (row t.val + a.val) (col t.val + l.val) := by
  by_cases h0 : t.val % 2 = 0
  · rw [outsAt0_A m c t h0]
    dsimp only
    exact sout_A_1 (blocks m c t) c _ _ _ _ _ _ _ _ _ _ _ _ _ _ _ _ _ _ _ _ _ _ _ _ _ a l
  · rw [outsAt0_B m c t h0]
    dsimp only
    exact sout_B_1 (blocks m c t) c _ _ _ _ _ _ _ _ _ _ _ _ _ _ _ _ _ _ _ _ _ _ _ _ _ _ _ _ _ a l

/-- So before a point of the second kind they are the rows after its chunk. -/
theorem before1 (t : Fin cfg0.N) (h0 : ¬t.val % 2 = 0) (a : Fin 8) (l : Fin 128) :
    (outsAt0 m c (t.val - 1) (Nat.lt_of_le_of_lt (Nat.sub_le _ _) t.isLt)).2.2.2.2 (ix2 a l)
      = duv (aG m c) (aD m c) (aWg m c) (row t.val + 2048 + a.val) (col t.val + l.val) := by
  refine (carried1 m c ⟨t.val - 1, Nat.lt_of_le_of_lt (Nat.sub_le _ _) t.isLt⟩ a l).trans ?_
  have e1 : row (t.val - 1) = row t.val + 2048 := by unfold row; omega
  have e2 : col (t.val - 1) = col t.val := by unfold col; omega
  show duv (aG m c) (aD m c) (aWg m c) (row (t.val - 1) + a.val) (col (t.val - 1) + l.val) = _
  rw [e1, e2]

/-- The first output block after a point. -/
theorem slabs (t : Fin cfg0.N) (s : Fin 2) (a : Fin 2048) (l : Fin 128) :
    (outsAt0 m c t.val t.isLt).1 (ix3 s a l)
      = slab (aG m c) (aV m c) (aD m c) (aWg m c) (aWv m c) s.val (row t.val + a.val) (col t.val + l.val) := by
  by_cases h0 : t.val % 2 = 0
  · rw [outsAt0_A m c t h0]
    dsimp only
    refine out_A_7 (blocks m c t) c _ _ _ _ _ _ _ _ _ _ _ _ _ _ _ _ _ _ _ _ _ _ _ _ _ (fun a l => dug_ge m c ?_ l) (fun a l => duv_ge m c ?_ l) s a l <;>
      unfold row <;> omega
  · rw [outsAt0_B m c t h0]
    dsimp only
    exact out_B_7 (blocks m c t) c _ _ _ _ _ _ _ _ _ _ _ _ _ _ _ _ _ _ _ _ _ _ _ _ _ _ _ _ _ (before0 m c t h0) (before1 m c t h0) s a l

theorem sum_rows (f : ℕ → EReal) (R : ℕ) : ∑ a : Fin 2048, f (R + a.val) = ∑ x ∈ Finset.Ico R (R + 2048), f x := by
  rw [Finset.sum_Ico_eq_sum_range, show R + 2048 - R = 2048 by omega, Fin.sum_univ_eq_sum_range (fun a => f (R + a))]

/-- A weight's gradient after a point: the sum over the rows from the point's chunk on. -/
theorem weights8 : ∀ (n : ℕ) (hn : n < cfg0.N) (k : Fin 3) (l : Fin 128),
    (outsAt0 m c n hn).2.1 (ix2 k l)
      = ∑ x ∈ Finset.Ico (row n) 4096, dwt (dug (aG m c) (aV m c) (aD m c) (aWg m c) (aWv m c)) (aG m c) k.val x (col n + l.val) := by
  intro n
  induction n using Nat.strong_induction_on with
  | _ n ih =>
    intro hn k l
    by_cases h0 : n % 2 = 0
    · rw [outsAt0_A m c ⟨n, hn⟩ h0]
      dsimp only
      refine (out_A_8 (blocks m c ⟨n, hn⟩) c _ _ _ _ _ _ _ _ _ _ _ _ _ _ _ _ _ _ _ _ _ _ _ _ _ k l).trans ?_
      rw [zero_add, sum_rows (fun x => dwt _ _ _ x _)]
      have e : row n = 2048 := by unfold row; omega
      show ∑ x ∈ Finset.Ico (row n) (row n + 2048), _ = _
      rw [e]
    · rw [outsAt0_B m c ⟨n, hn⟩ h0]
      dsimp only
      refine (out_B_8 (blocks m c ⟨n, hn⟩) c _ _ _ _ _ _ _ _ _ _ _ _ _ _ _ _ _ _ _ _ _ _ _ _ _ _ _ _ _ k l).trans ?_
      rw [sum_rows (fun x => dwt _ _ _ x _), ih (n - 1) (by omega)]
      have e1 : row (n - 1) = row n + 2048 := by unfold row; omega
      have e2 : col (n - 1) = col n := by unfold col; omega
      show (∑ x ∈ Finset.Ico (row (n - 1)) 4096, dwt _ _ _ x (col (n - 1) + l.val))
        + ∑ x ∈ Finset.Ico (row n) (row n + 2048), dwt _ _ _ x (col n + l.val) = _
      rw [e1, e2, add_comm, Finset.sum_Ico_consecutive _ (by omega) (by unfold row; omega)]

/-- A weight's gradient after a point: the sum over the rows from the point's chunk on. -/
theorem weights9 : ∀ (n : ℕ) (hn : n < cfg0.N) (k : Fin 3) (l : Fin 128),
    (outsAt0 m c n hn).2.2.1 (ix2 k l)
      = ∑ x ∈ Finset.Ico (row n) 4096, dwt (duv (aG m c) (aD m c) (aWg m c)) (aV m c) k.val x (col n + l.val) := by
  intro n
  induction n using Nat.strong_induction_on with
  | _ n ih =>
    intro hn k l
    by_cases h0 : n % 2 = 0
    · rw [outsAt0_A m c ⟨n, hn⟩ h0]
      dsimp only
      refine (out_A_9 (blocks m c ⟨n, hn⟩) c _ _ _ _ _ _ _ _ _ _ _ _ _ _ _ _ _ _ _ _ _ _ _ _ _ k l).trans ?_
      rw [zero_add, sum_rows (fun x => dwt _ _ _ x _)]
      have e : row n = 2048 := by unfold row; omega
      show ∑ x ∈ Finset.Ico (row n) (row n + 2048), _ = _
      rw [e]
    · rw [outsAt0_B m c ⟨n, hn⟩ h0]
      dsimp only
      refine (out_B_9 (blocks m c ⟨n, hn⟩) c _ _ _ _ _ _ _ _ _ _ _ _ _ _ _ _ _ _ _ _ _ _ _ _ _ _ _ _ _ k l).trans ?_
      rw [sum_rows (fun x => dwt _ _ _ x _), ih (n - 1) (by omega)]
      have e1 : row (n - 1) = row n + 2048 := by unfold row; omega
      have e2 : col (n - 1) = col n := by unfold col; omega
      show (∑ x ∈ Finset.Ico (row (n - 1)) 4096, dwt _ _ _ x (col (n - 1) + l.val))
        + ∑ x ∈ Finset.Ico (row n) (row n + 2048), dwt _ _ _ x (col n + l.val) = _
      rw [e1, e2, add_comm, Finset.sum_Ico_consecutive _ (by omega) (by unfold row; omega)]

/-! ## The result arrays -/

/-- The first result: the two slabs of the gradient. -/
def G7 : Vec Ideal S2x4096x5632 .bf16 := fun i =>
  slab (aG m c) (aV m c) (aD m c) (aWg m c) (aWv m c) (i 0).val (i 1).val (i 2).val

/-- The second and the third: the weights' gradients. -/
def G8 : Vec Ideal S3x5632 .f32 := fun i =>
  ∑ x ∈ Finset.range 4096, dwt (dug (aG m c) (aV m c) (aD m c) (aWg m c) (aWv m c)) (aG m c) (i 0).val x (i 1).val
def G9 : Vec Ideal S3x5632 .f32 := fun i =>
  ∑ x ∈ Finset.range 4096, dwt (duv (aG m c) (aD m c) (aWg m c)) (aV m c) (i 0).val x (i 1).val

theorem final8 : (dats m 0 c).arrAt 8 cfg0.N = G8 m c := by
  refine (dats m 0 c).arrAt_eq_of_covers 8 _ (by decide +kernel) fun t hf y => ?_
  blk_simp
  rw [after0_8]
  have h1 : t.val % 2 = 1 := (flush0_8 t).mp hf
  idx_vars y
  refine (weights8 m c t.val t.isLt _ _).trans ?_
  have e : row t.val = 0 := by unfold row; omega
  rw [e, ← Finset.range_eq_Ico]
  unfold G8
  blk_simp [idx8 t]

theorem final9 : (dats m 0 c).arrAt 9 cfg0.N = G9 m c := by
  refine (dats m 0 c).arrAt_eq_of_covers 9 _ (by decide +kernel) fun t hf y => ?_
  blk_simp
  rw [after0_9]
  have h1 : t.val % 2 = 1 := (flush0_9 t).mp hf
  idx_vars y
  refine (weights9 m c t.val t.isLt _ _).trans ?_
  have e : row t.val = 0 := by unfold row; omega
  rw [e, ← Finset.range_eq_Ico]
  unfold G9
  blk_simp [idx9 t]

theorem final7 : (dats m 0 c).arrAt 7 cfg0.N = G7 m c := by
  refine (dats m 0 c).arrAt_eq_of_covers 7 _ (by decide +kernel) fun t hf y => ?_
  blk_simp
  rw [after0_7]
  idx_vars y
  refine (slabs m c t _ _ _).trans ?_
  unfold G7
  blk_simp [idx7 t]

end Cert.Ff.Kernel
-- ==== Proof.FfRef.lean ====
module
public import proofs.«01_k».proof.Proof.Gen.ReferenceFfIdeal.Read
public import proofs.«01_k».proof.Proof.FfPoint
@[expose] public section
set_option maxRecDepth 16384
noncomputable section

/-! The reference of the feed-forward's convolution and gate, backward, read at an index. -/

namespace Cert.Ff.Ref
open Cert.ReferenceFfIdeal Cert.ReferenceFfIdeal.Gen Cert.ReferenceFfIdeal.Read Cert.Rows Cert.Sigmoid Cert.Ff.Point
open Idealize.ShloMosaic Idealize.ShloMosaic.TcCoe Idealize.SL.Sem

variable (x0 : Vec Ideal S4096x11264 .f32) (x1 : Vec Ideal S4096x5632 .f32) (x2 : Vec Ideal S3x11264 .f32)

def pX (t l : ℕ) : EReal := at2 x0 t l
def pV (t l : ℕ) : EReal := at2 x0 t (5632 + l)
def pD (t l : ℕ) : EReal := at2 x1 t l
def pW (t l : ℕ) : EReal := at2 x2 t l
def pWv (t l : ℕ) : EReal := at2 x2 t (5632 + l)

/-- Every number of the arguments is finite. -/
structure Real : Prop where
  x0 : ∀ t l, ∃ r : ℝ, at2 x0 t l = r
  x1 : ∀ t l, ∃ r : ℝ, at2 x1 t l = r
  x2 : ∀ t l, ∃ r : ℝ, at2 x2 t l = r

/-- A convolution of finite numbers is finite. -/
theorem cv_real (X W : ℕ → ℕ → EReal) (hX : ∀ t l, ∃ r : ℝ, X t l = r) (hW : ∀ t l, ∃ r : ℝ, W t l = r) (t l : ℕ) :
    ∃ r : ℝ, cv X W t l = r := by
  have hs : ∀ k, ∃ r : ℝ, sh X t k l = r := fun k => by
    unfold sh
    split_ifs
    · exact hX _ _
    · exact ⟨0, rfl⟩
  obtain ⟨s2, e2⟩ := hs 2
  obtain ⟨s1, e1⟩ := hs 1
  obtain ⟨s0, e0⟩ := hs 0
  obtain ⟨w0, f0⟩ := hW 0 l
  obtain ⟨w1, f1⟩ := hW 1 l
  obtain ⟨w2, f2⟩ := hW 2 l
  refine ⟨s2 * w0 + s1 * w1 + s0 * w2, ?_⟩
  unfold cv
  rw [e2, e1, e0, f0, f1, f2]
  norm_cast

/-- The derivative of `u · σ(u)`, in its two forms, on finite numbers. -/
theorem gate_real (d u v : EReal) (hd : ∃ r : ℝ, d = r) (hu : ∃ r : ℝ, u = r) (hv : ∃ r : ℝ, v = r) :
    d * v * sig u + u * (d * v) * (sig u * (1 - sig u)) = d * v * (sig u * (1 + u * (1 - sig u))) := by
  obtain ⟨d, rfl⟩ := hd
  obtain ⟨u, rfl⟩ := hu
  obtain ⟨v, rfl⟩ := hv
  rw [sig_coe]
  generalize sigR u = s
  rw [show (1 : EReal) = ((1 : ℝ) : EReal) from rfl, ← EReal.coe_sub]
  simp only [← EReal.coe_mul, ← EReal.coe_add]
  exact congrArg _ (by ring)

theorem v1_apply (n : Fin 4098) (l : Fin 11264) (t k : ℕ) (hk : k ≤ 2) (hn : n.val + k = t + 2) :
    val_main_v1 (F := Ideal) x0 (ix2 n l) = sh (pX x0) t k l.val := by
  pointwise [val_main_v1, val_main_v0, val_main_cst]
  unfold sh
  by_cases h : n.val < 2
  · exact (dif_pos h).trans (if_neg (by omega)).symm
  · refine (dif_neg h).trans (Eq.trans ?_ (if_pos (by omega)).symm)
    refine at2_eq x0 _ _ ?_ rfl
    show n.val - 2 = t - k; omega

theorem w_apply (k : Fin 3) (l : Fin 11264) : x2 (ix2 k l) = pW x2 k.val l.val := at2_eq x2 _ _ rfl rfl

/-- The convolution. -/
theorem v22_apply (a : Fin 4096) (l : Fin 11264) :
    val_main_v22 (F := Ideal) x0 x2 (ix2 a l) = cv (pX x0) (pW x2) a.val l.val := by
  pointwise [val_main_v22, val_main_v15, val_main_v8, val_main_v14, val_main_v21, val_main_v3, val_main_v9,
    val_main_v16, val_main_v20, val_main_v19, val_main_v18, val_main_v17, val_main_v13, val_main_v12, val_main_v11,
    val_main_v10, val_main_v7, val_main_v6, val_main_v5, val_main_v4]
  rw [v1_apply x0 _ l a.val 2 (by omega) rfl, v1_apply x0 _ l a.val 1 (by omega) (by show 1 + a.val + 1 = _; omega),
    v1_apply x0 _ l a.val 0 (by omega) (by show 2 + a.val + 0 = _; omega), w_apply x2, w_apply x2, w_apply x2]
  rfl

theorem v23_apply (a : Fin 4096) (l : Fin 5632) :
    val_main_v23 (F := Ideal) x0 x2 (ix2 a l) = cv (pX x0) (pW x2) a.val l.val := by
  pointwise [val_main_v23]
  exact v22_apply x0 x2 _ _

theorem v24_apply (a : Fin 4096) (l : Fin 5632) :
    val_main_v24 (F := Ideal) x0 x2 (ix2 a l) = cv (pV x0) (pWv x2) a.val l.val := by
  pointwise [val_main_v24]
  exact v22_apply x0 x2 _ _

theorem v25_apply (a : Fin 4096) (l : Fin 5632) :
    val_main_v25_2 (F := Ideal) x0 x2 (ix2 a l) = sig (cv (pX x0) (pW x2) a.val l.val) := by
  pointwise [val_main_v25_2, val_main_call0_v4, val_main_call0_v3, val_main_call0_v2, val_main_call0_v1,
    val_main_call0_v0, val_main_call0_cst, val_main_call0_cst_0]
  rw [v23_apply]
  rfl

/-- The cotangent of the value half of the convolution. -/
theorem v27_apply (a : Fin 4096) (l : Fin 5632) :
    val_main_v27 (F := Ideal) x0 x1 x2 (ix2 a l) = duv (pX x0) (pD x1) (pW x2) a.val l.val := by
  pointwise [val_main_v27, val_main_v25_0]
  rw [v25_apply, v23_apply, mul_comm]
  exact congrArg (· * _) (at2_eq x1 _ _ rfl rfl)

/-- The cotangent of the gate half. -/
theorem v29_apply (hr : Real x0 x1 x2) (a : Fin 4096) (l : Fin 5632) :
    val_main_v29 (F := Ideal) x0 x1 x2 (ix2 a l) = dug (pX x0) (pV x0) (pD x1) (pW x2) (pWv x2) a.val l.val := by
  pointwise [val_main_v29, val_main_call1_v1, val_main_call1_v2, val_main_call1_v0, val_main_v28, val_main_v25_1,
    val_main_call0_v7, val_main_call0_v6, val_main_call0_cst_1]
  rw [v25_apply, v24_apply, v23_apply, at2_eq x1 (r := a.val) (c := l.val) a l rfl rfl]
  exact gate_real _ _ _ (hr.x1 _ _) (cv_real _ _ hr.x0 hr.x2 _ _) (cv_real _ _ (fun t l => hr.x0 _ _) (fun t l => hr.x2 _ _) _ _)

/-- The cotangent of the convolution over its full width: the gate half, then the value half. -/
def dU (t c : ℕ) : EReal :=
  if c < 5632 then dug (pX x0) (pV x0) (pD x1) (pW x2) (pWv x2) t c else duv (pX x0) (pD x1) (pW x2) t (c - 5632)

theorem dU_lo (t : ℕ) {c : ℕ} (h : c < 5632) : dU x0 x1 x2 t c = dug (pX x0) (pV x0) (pD x1) (pW x2) (pWv x2) t c := if_pos h

theorem dU_hi (t c : ℕ) : dU x0 x1 x2 t (5632 + c) = duv (pX x0) (pD x1) (pW x2) t c :=
  (if_neg (by omega)).trans (congrArg _ (by omega))

theorem dU_ge {t : ℕ} (h : 4096 ≤ t) (c : ℕ) : dU x0 x1 x2 t c = 0 := by
  unfold dU dug duv pD
  split_ifs
  · rw [at2_of_ge _ h, zero_mul, zero_mul]
  · rw [at2_of_ge _ h, zero_mul]

theorem v32_apply (hr : Real x0 x1 x2) (a : Fin 4096) (l : Fin 11264) (t : ℕ) (h : a.val = t) :
    val_main_v32 (F := Ideal) x0 x1 x2 (ix2 a l) = dU x0 x1 x2 t l.val := by
  subst h
  have hl := l.isLt
  pointwise [val_main_v32, val_main_v30, val_main_v31, val_main_cst_1, val_main_cst_2]
  unfold dU
  by_cases h : l.val < 5632
  · refine Eq.trans ?_ (if_pos h).symm
    refine (congrArg₂ (· + ·) (dif_neg (by omega)) (dif_pos h)).trans ((zero_add _).trans ?_)
    exact v29_apply x0 x1 x2 hr a ⟨l.val, h⟩
  · refine Eq.trans ?_ (if_neg h).symm
    refine (congrArg₂ (· + ·) (dif_pos (by omega)) (dif_neg h)).trans ((add_zero _).trans ?_)
    exact v27_apply x0 x1 x2 a ⟨l.val - 5632, by omega⟩

/-- The padded sum: the contribution of each of the convolution's three rows. -/
theorem v63_apply (hr : Real x0 x1 x2) (n : Fin 4098) (l : Fin 11264) (t : ℕ) (h : n.val = t + 2) :
    val_main_v63 (F := Ideal) x0 x1 x2 (ix2 n l) = back (dU x0 x1 x2) (pW x2) t l.val := by
  have hn := n.isLt
  pointwise [val_main_v63, val_main_v52, val_main_v41, val_main_v51, val_main_v62, val_main_cst_6, val_main_cst_10,
    val_main_cst_14]
  have e2 : (if h : 2 ≤ n.val ∧ n.val - 2 < 4096 then val_main_v37 (F := Ideal) x0 x1 x2 (ix2 ⟨n.val - 2, h.2⟩ l) else 0)
      = dU x0 x1 x2 t l.val * pW x2 2 l.val := by
    rw [dif_pos (by omega)]
    pointwise [val_main_v37, val_main_v36, val_main_v19, val_main_v18, val_main_v17]
    rw [v32_apply x0 x1 x2 hr _ l t (by show n.val - 2 = t; omega), w_apply x2]
    rfl
  have e1 : (if h : 1 ≤ n.val ∧ n.val - 1 < 4096 then val_main_v46 (F := Ideal) x0 x1 x2 (ix2 ⟨n.val - 1, h.2⟩ l) else 0)
      = dU x0 x1 x2 (t + 1) l.val * pW x2 1 l.val := by
    split_ifs with h1
    · pointwise [val_main_v46, val_main_v45, val_main_v12, val_main_v11, val_main_v10]
      rw [v32_apply x0 x1 x2 hr _ l (t + 1) (by show n.val - 1 = t + 1; omega), w_apply x2]
      rfl
    · rw [dU_ge x0 x1 x2 (by omega), zero_mul]
  have e0 : (if h : n.val < 4096 then val_main_v57 (F := Ideal) x0 x1 x2 (ix2 ⟨n.val, h⟩ l) else 0)
      = dU x0 x1 x2 (t + 2) l.val * pW x2 0 l.val := by
    split_ifs with h1
    · pointwise [val_main_v57, val_main_v56, val_main_v6, val_main_v5, val_main_v4]
      rw [v32_apply x0 x1 x2 hr _ l (t + 2) h, w_apply x2]
      rfl
    · rw [dU_ge x0 x1 x2 (by omega), zero_mul]
  refine (congrArg₂ (· + ·) (congrArg₂ (· + ·) e2 e1) e0).trans ?_
  unfold back
  rw [add_comm (_ + _) (dU _ _ _ (t + 2) _ * _), add_comm (dU _ _ _ t _ * _), add_assoc]

/-- One row's sums. -/
theorem row_sum (hr : Real x0 x1 x2) (k : ℕ) (hk : k ≤ 2) (l : Fin 11264) (f : Vec Ideal S4096x11264 .f32)
    (hf : ∀ a : Fin 4096, f (ix2 a l) = sh (pX x0) a.val (2 - k) l.val) :
    ∑ a : Fin 4096, f (ix2 a l) * val_main_v32 (F := Ideal) x0 x1 x2 (ix2 a l)
      = ∑ x ∈ Finset.range 4096, dwt (dU x0 x1 x2) (pX x0) k x l.val := by
  rw [← Fin.sum_univ_eq_sum_range (fun x => dwt (dU x0 x1 x2) (pX x0) k x l.val)]
  refine Finset.sum_congr rfl fun a _ => ?_
  rw [hf, v32_apply x0 x1 x2 hr a l a.val rfl, mul_comm]
  rfl

/-- The weight's gradient over its full width. -/
theorem v61_apply (hr : Real x0 x1 x2) (k : Fin 3) (l : Fin 11264) :
    val_main_v61 (F := Ideal) x0 x1 x2 (ix2 k l)
      = ∑ x ∈ Finset.range 4096, dwt (dU x0 x1 x2) (pX x0) k.val x l.val := by
  have h2 := row_sum x0 x1 x2 hr 2 (by omega) l (val_main_v16 (F := Ideal) x0) fun a => by
    pointwise [val_main_v16]
    exact v1_apply x0 _ l a.val 0 (by omega) (by show 2 + a.val + 0 = _; omega)
  have h1 := row_sum x0 x1 x2 hr 1 (by omega) l (val_main_v9 (F := Ideal) x0) fun a => by
    pointwise [val_main_v9]
    exact v1_apply x0 _ l a.val 1 (by omega) (by show 1 + a.val + 1 = _; omega)
  have h0 := row_sum x0 x1 x2 hr 0 (by omega) l (val_main_v3 (F := Ideal) x0) fun a => by
    pointwise [val_main_v3]
    exact v1_apply x0 _ l a.val 2 (by omega) rfl
  have e2 : val_main_v39 (F := Ideal) x0 x1 x2 (ix2 0 l)
      = ∑ x ∈ Finset.range 4096, dwt (dU x0 x1 x2) (pX x0) 2 x l.val := by
    pointwise [val_main_v39, val_main_v38, val_main_v35, val_main_v34, val_main_v33, val_main_cst_3, val_main_cst_4]
    simpa using h2
  have e1 : val_main_v48 (F := Ideal) x0 x1 x2 (ix2 0 l)
      = ∑ x ∈ Finset.range 4096, dwt (dU x0 x1 x2) (pX x0) 1 x l.val := by
    pointwise [val_main_v48, val_main_v47, val_main_v44, val_main_v43, val_main_v42, val_main_cst_7, val_main_cst_8]
    simpa using h1
  have e0 : val_main_v59 (F := Ideal) x0 x1 x2 (ix2 0 l)
      = ∑ x ∈ Finset.range 4096, dwt (dU x0 x1 x2) (pX x0) 0 x l.val := by
    pointwise [val_main_v59, val_main_v58, val_main_v55, val_main_v54, val_main_v53, val_main_cst_11, val_main_cst_12]
    simpa using h0
  match k with
  | ⟨0, _⟩ =>
    pointwise [val_main_v61, val_main_v50, val_main_v40, val_main_v49, val_main_v60, val_main_cst_5, val_main_cst_9,
      val_main_cst_13]
    exact e0
  | ⟨1, _⟩ =>
    pointwise [val_main_v61, val_main_v50, val_main_v40, val_main_v49, val_main_v60, val_main_cst_5, val_main_cst_9,
      val_main_cst_13]
    exact e1
  | ⟨2, _⟩ =>
    pointwise [val_main_v61, val_main_v50, val_main_v40, val_main_v49, val_main_v60, val_main_cst_5, val_main_cst_9,
      val_main_cst_13]
    exact e2

/-- The gradient's two slabs. -/
theorem v68_apply (hr : Real x0 x1 x2) (s : Fin 2) (a : Fin 4096) (l : Fin 5632) :
    val_main_v68 (F := Ideal) x0 x1 x2 (ix3 s a l)
      = slab (pX x0) (pV x0) (pD x1) (pW x2) (pWv x2) s.val a.val l.val := by
  have hl := l.isLt
  have ha := a.isLt
  pointwise [val_main_v68, val_main_v67, val_main_v66, val_main_v65]
  refine (v63_apply x0 x1 x2 hr _ _ a.val (by show 2 + a.val = _; omega)).trans ?_
  match s with
  | ⟨0, _⟩ =>
    show back (dU x0 x1 x2) (pW x2) a.val (0 * 5632 + l.val) = back _ _ a.val l.val
    rw [show 0 * 5632 + l.val = l.val by omega]
    unfold back
    rw [dU_lo x0 x1 x2 _ hl, dU_lo x0 x1 x2 _ hl, dU_lo x0 x1 x2 _ hl]
  | ⟨1, _⟩ =>
    show back (dU x0 x1 x2) (pW x2) a.val (1 * 5632 + l.val) = back _ _ a.val l.val
    rw [show 1 * 5632 + l.val = 5632 + l.val by omega]
    unfold back
    rw [dU_hi x0 x1 x2 _ l.val, dU_hi x0 x1 x2 _ l.val, dU_hi x0 x1 x2 _ l.val]
    rfl

theorem v69_apply (hr : Real x0 x1 x2) (k : Fin 3) (l : Fin 5632) :
    val_main_v69 (F := Ideal) x0 x1 x2 (ix2 k l)
      = ∑ x ∈ Finset.range 4096, dwt (dug (pX x0) (pV x0) (pD x1) (pW x2) (pWv x2)) (pX x0) k.val x l.val := by
  have hl := l.isLt
  pointwise [val_main_v69]
  refine (v61_apply x0 x1 x2 hr k _).trans (Finset.sum_congr rfl fun x _ => ?_)
  unfold dwt
  exact congrArg (· * _) (if_pos hl)

theorem v70_apply (hr : Real x0 x1 x2) (k : Fin 3) (l : Fin 5632) :
    val_main_v70 (F := Ideal) x0 x1 x2 (ix2 k l)
      = ∑ x ∈ Finset.range 4096, dwt (duv (pX x0) (pD x1) (pW x2)) (pV x0) k.val x l.val := by
  have hl := l.isLt
  pointwise [val_main_v70]
  refine (v61_apply x0 x1 x2 hr k _).trans (Finset.sum_congr rfl fun x _ => ?_)
  unfold dwt
  refine congrArg₂ (· * ·) ?_ rfl
  refine (if_neg (by show ¬(5632 + l.val < 5632); omega)).trans ?_
  rw [show 5632 + l.val - 5632 = l.val by omega]

end Cert.Ff.Ref
-- ==== Proof.FfClaims.lean ====
module
public import proofs.«01_k».proof.Defs
public import proofs.«01_k».proof.Proof.FfKernel
public import proofs.«01_k».proof.Proof.FfRef
public import proofs.«01_k».proof.Proof.Gen.ReferenceFfIdeal.Run
@[expose] public section
set_option maxRecDepth 16384
noncomputable section

/-! The claims about the feed-forward's convolution and gate, backward. -/

namespace Cert.Pre_finite
open Idealize.ShloMosaic

theorem facts : Facts := ⟨by decide, by decide, by decide⟩

/-- A number whose absolute value lies below infinity is a real number. -/
theorem real_of_abs_lt (x : EReal) (h : Ideal.cmp CmpFPredicate.olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have h' : BitVec.ofBool (decide (max x (-x) < ⊤)) = 1#1 := h
  by_cases hlt : max x (-x) < ⊤
  · induction x with
    | bot => exact absurd hlt (by simp)
    | coe r => exact ⟨r, rfl⟩
    | top => exact absurd hlt (by simp)
  · rw [decide_eq_false hlt] at h'
    exact absurd h' (by decide)

end Cert.Pre_finite

namespace Cert.Ff.Claims
open Idealize.ShloMosaic Idealize.ShloMosaic.TcCoe Idealize.SL.Sem Cert.Rows Cert.Ff.Point

theorem at2_real {R C : ℕ} (f : (⟨2, ![R, C]⟩ : Shape).Idx → EReal) (h : ∀ i, ∃ r : ℝ, f i = r) (t l : ℕ) :
    ∃ r : ℝ, at2 f t l = r := by
  unfold at2
  split_ifs
  · exact h _
  · exact ⟨0, rfl⟩

variable (m : (ℓ : Loc KernelFfIdeal.nD KernelFfIdeal.τ KernelFfIdeal.sig) → Buf (Elt Ideal) ℓ) (c : Dev KernelFfIdeal.nD)

/-- The precondition makes every number of the arguments a real number. -/
theorem real_of_pre (h : Cert.Pre_KernelFfIdeal_finite (hPre_finite := Cert.Pre_finite.facts) m) :
    Ff.Ref.Real (m ((c.tc : Thread _ _).loc KernelFfIdeal.main_arg0)) (m ((c.tc : Thread _ _).loc KernelFfIdeal.main_arg1))
      (m ((c.tc : Thread _ _).loc KernelFfIdeal.main_arg2)) := by
  obtain ⟨h0, h1, h2⟩ := h c
  exact ⟨at2_real _ fun i => Cert.Pre_finite.real_of_abs_lt _ (congrFun h0 i),
    at2_real _ fun i => Cert.Pre_finite.real_of_abs_lt _ (congrFun h1 i),
    at2_real _ fun i => Cert.Pre_finite.real_of_abs_lt _ (congrFun h2 i)⟩

/-- The reference's first result is the array of the two slabs, the others the weights' gradients. -/
theorem ref_dup (hr : Ff.Ref.Real (m ((c.tc : Thread _ _).loc KernelFfIdeal.main_arg0)) (m ((c.tc : Thread _ _).loc KernelFfIdeal.main_arg1))
      (m ((c.tc : Thread _ _).loc KernelFfIdeal.main_arg2))) :
    ReferenceFfIdeal.Read.val_main_v68 (F := Ideal) (m ((c.tc : Thread _ _).loc KernelFfIdeal.main_arg0))
      (m ((c.tc : Thread _ _).loc KernelFfIdeal.main_arg1)) (m ((c.tc : Thread _ _).loc KernelFfIdeal.main_arg2)) = Ff.Kernel.G7 m c := by
  funext j
  idx_vars j
  exact Ff.Ref.v68_apply _ _ _ hr _ _ _

theorem ref_dwg (hr : Ff.Ref.Real (m ((c.tc : Thread _ _).loc KernelFfIdeal.main_arg0)) (m ((c.tc : Thread _ _).loc KernelFfIdeal.main_arg1))
      (m ((c.tc : Thread _ _).loc KernelFfIdeal.main_arg2))) :
    ReferenceFfIdeal.Read.val_main_v69 (F := Ideal) (m ((c.tc : Thread _ _).loc KernelFfIdeal.main_arg0))
      (m ((c.tc : Thread _ _).loc KernelFfIdeal.main_arg1)) (m ((c.tc : Thread _ _).loc KernelFfIdeal.main_arg2)) = Ff.Kernel.G8 m c := by
  funext j
  idx_vars j
  exact Ff.Ref.v69_apply _ _ _ hr _ _

theorem ref_dwv (hr : Ff.Ref.Real (m ((c.tc : Thread _ _).loc KernelFfIdeal.main_arg0)) (m ((c.tc : Thread _ _).loc KernelFfIdeal.main_arg1))
      (m ((c.tc : Thread _ _).loc KernelFfIdeal.main_arg2))) :
    ReferenceFfIdeal.Read.val_main_v70 (F := Ideal) (m ((c.tc : Thread _ _).loc KernelFfIdeal.main_arg0))
      (m ((c.tc : Thread _ _).loc KernelFfIdeal.main_arg1)) (m ((c.tc : Thread _ _).loc KernelFfIdeal.main_arg2)) = Ff.Kernel.G9 m c := by
  funext j
  idx_vars j
  exact Ff.Ref.v70_apply _ _ _ hr _ _

theorem algebraic : Cert.algebraic_KernelFfIdeal_ReferenceFfIdeal_pre_finite (hPre_finite := Cert.Pre_finite.facts) := by
  intro m g m' g' hpre hagree
  refine ⟨fun c => Ff.Kernel.G7 m c, fun c => Ff.Kernel.G8 m c, fun c => Ff.Kernel.G9 m c, ?_, ?_⟩
  · refine (θ_run _ _ _).mono (fun r h c => ?_) (Cert.KernelFfIdeal.Value.run_blocks (F := Ideal) m g)
    obtain ⟨h0, h1, h2, hrest⟩ := h c
    exact ⟨h0.trans (Ff.Kernel.final7 m c), h1.trans (Ff.Kernel.final8 m c), h2.trans (Ff.Kernel.final9 m c), hrest⟩
  · refine (θ_run _ _ _).mono (fun r h c => ?_) (Cert.ReferenceFfIdeal.Value.run (F := Ideal) m' g')
    obtain ⟨a0, a1, a2⟩ := hagree c
    obtain ⟨h0, h1, h2, hrest⟩ := h c
    have hr := real_of_pre m c hpre
    refine ⟨?_, ?_, ?_, hrest⟩
    · refine h0.trans ((Cert.ReferenceFfIdeal.Read.val_main_v68_eq m' c).trans ?_)
      rw [a0, a1, a2]
      exact ref_dup m c hr
    · refine h1.trans ((Cert.ReferenceFfIdeal.Read.val_main_v69_eq m' c).trans ?_)
      rw [a0, a1, a2]
      exact ref_dwg m c hr
    · refine h2.trans ((Cert.ReferenceFfIdeal.Read.val_main_v70_eq m' c).trans ?_)
      rw [a0, a1, a2]
      exact ref_dwv m c hr

end Cert.Ff.Claims
-- ==== Proof.MergeForward.lean ====
module
public import proofs.«01_k».proof.Defs
public import proofs.«01_k».proof.Proof.Gen.KernelMg.Frame
public import proofs.«01_k».proof.Proof.Gen.KernelMgIdeal.Value
public import proofs.«01_k».proof.Proof.Gen.ReferenceMgIdeal.Read
public import proofs.«01_k».proof.Proof.Sigmoid
public import proofs.«01_k».proof.Proof.Rows
@[expose] public section
set_option maxRecDepth 16384
noncomputable section

/-! The two gated branches' sum. -/

namespace Cert.Merge
open Cert.KernelMgIdeal Cert.KernelMgIdeal.Gen Cert.Rows Cert.Sigmoid Idealize.ShloMosaic Idealize.ShloMosaic.TcCoe
open Idealize.SL Idealize.SL.Sem

/-- The sum at a row and a column, of the arguments read at natural numbers. -/
def merged (p : (⟨2, ![4096, 9216]⟩ : Shape).Idx → EReal) (yl ys : (⟨2, ![4096, 2048]⟩ : Shape).Idx → EReal) (t j : ℕ) : EReal :=
  sig (at2 p t (5120 + j)) * at2 yl t j + sig (at2 p t (7168 + j)) * at2 ys t j

/-- What a point leaves in its block of the result. -/
theorem out_apply (x0 : Vec Ideal S512x1024 .f32) (x1 : Vec Ideal S512x1024 .f32) (x2 : Vec Ideal S512x1024 .bf16)
    (x3 : Vec Ideal S512x1024 .bf16) (a : Fin 512) (b : Fin 1024) :
    out0_4 x0 x1 x2 x3 (ix2 a b) = sig (x0 (ix2 a b)) * x2 (ix2 a b) + sig (x1 (ix2 a b)) * x3 (ix2 a b) := by
  unfold out0_4 k0_pay1
  rw [View.canon_unit_zero (S := S512x1024) hz2]
  simp only [View.ld_unit_zero (S := S512x1024) hz2]
  pointwise
  rw [half_tanh, half_tanh]

open Cert.ReferenceMgIdeal.Read in
/-- The reference at an index. -/
theorem ref_apply (x0 : Vec Ideal ReferenceMgIdeal.S4096x9216 .f32) (x1 x2 : Vec Ideal ReferenceMgIdeal.S4096x2048 .bf16)
    (a : Fin 4096) (b : Fin 2048) :
    val_main_v19 (F := Ideal) x0 x1 x2 (ix2 a b) = merged x0 x1 x2 a.val b.val := by
  have hb := b.isLt
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]
  unfold merged
  rw [← at2_eq x0 ⟨a.val, a.isLt⟩ ⟨5120 + b.val, by omega⟩ rfl rfl, ← at2_eq x0 ⟨a.val, a.isLt⟩ ⟨7168 + b.val, by omega⟩ rfl rfl,
    ← at2_eq x1 a b rfl rfl, ← at2_eq x2 a b rfl rfl]
  rfl

variable (m : (ℓ : Loc nD τ sig) → Buf (Elt Ideal) ℓ) (c : Dev nD)

theorem idx0 : ∀ t : Fin cfg0.N, win0_0.index t = ![t.val / 2, 5 + t.val % 2] := (by decide +kernel : ∀ t : Fin grid0.N, _)
theorem idx1 : ∀ t : Fin cfg0.N, win0_1.index t = ![t.val / 2, 7 + t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)

theorem lt16 (t : Fin cfg0.N) : t.val < 16 := lt_of_lt_of_eq t.isLt N_0

theorem blk0 (t : Fin cfg0.N) (a : Fin 512) (l : Fin 1024) : (iblk m c 0 t) (ix2 a l)
    = at2 (m ((c : Thread nD τ).loc main_arg0)) (t.val / 2 * 512 + a.val) (5120 + (t.val % 2 * 1024 + l.val)) := by
  have ht := lt16 t
  have ha := a.isLt
  have hl := l.isLt
  refine Eq.trans ?_ (at2_of_lt _ (by omega) (by omega)).symm
  blk_ext [iblk, V, idx0 t]
  all_goals omega

theorem blk1 (t : Fin cfg0.N) (a : Fin 512) (l : Fin 1024) : (iblk m c 1 t) (ix2 a l)
    = at2 (m ((c : Thread nD τ).loc main_arg0)) (t.val / 2 * 512 + a.val) (7168 + (t.val % 2 * 1024 + l.val)) := by
  have ht := lt16 t
  have ha := a.isLt
  have hl := l.isLt
  refine Eq.trans ?_ (at2_of_lt _ (by omega) (by omega)).symm
  blk_ext [iblk, V, idx1 t]
  all_goals omega

theorem blk2 (t : Fin cfg0.N) (a : Fin 512) (l : Fin 1024) : (iblk m c 2 t) (ix2 a l)
    = at2 (m ((c : Thread nD τ).loc main_arg1)) (t.val / 2 * 512 + a.val) (t.val % 2 * 1024 + l.val) := by
  have ht := lt16 t
  have ha := a.isLt
  have hl := l.isLt
  refine Eq.trans ?_ (at2_of_lt _ (by omega) (by omega)).symm
  blk_ext [iblk, V, idx2 t]
  all_goals omega

theorem blk3 (t : Fin cfg0.N) (a : Fin 512) (l : Fin 1024) : (iblk m c 3 t) (ix2 a l)
    = at2 (m ((c : Thread nD τ).loc main_arg2)) (t.val / 2 * 512 + a.val) (t.val % 2 * 1024 + l.val) := by
  have ht := lt16 t
  have ha := a.isLt
  have hl := l.isLt
  refine Eq.trans ?_ (at2_of_lt _ (by omega) (by omega)).symm
  blk_ext [iblk, V, idx3 t]
  all_goals omega

/-- The result array. -/
def G4 : Vec Ideal S4096x2048 .bf16 := fun i =>
  merged (m ((c : Thread nD τ).loc main_arg0)) (m ((c : Thread nD τ).loc main_arg1)) (m ((c : Thread nD τ).loc main_arg2)) (i 0).val (i 1).val

theorem final : (dats m 0 c).arrAt 4 cfg0.N = G4 m c := by
  refine (dats m 0 c).arrAt_eq_of_covers 4 _ (by decide +kernel) fun t hf y => ?_
  blk_simp
  rw [after0_4]
  idx_vars y
  refine (out_apply _ _ _ _ _ _).trans ?_
  rw [blk0 m c, blk1 m c, blk2 m c, blk3 m c]
  unfold G4 merged
  blk_simp [idx4 t]

theorem ref (m : (ℓ : Loc nD τ sig) → Buf (Elt Ideal) ℓ) (c : Dev nD) :
    ReferenceMgIdeal.Read.val_main_v19 (F := Ideal) (m ((c.tc : Thread nD τ).loc main_arg0))
      (m ((c.tc : Thread nD τ).loc main_arg1)) (m ((c.tc : Thread nD τ).loc main_arg2)) = G4 m c := by
  funext j
  idx_vars j
  exact ref_apply _ _ _ _ _

theorem algebraic : Cert.algebraic_KernelMgIdeal_ReferenceMgIdeal := by
  pair_intro
  · run_from Cert.KernelMgIdeal.Value.run_blocks m g
  · refine (θ_run _ _ _).mono (fun r h c => ?_) (Cert.ReferenceMgIdeal.Value.run (F := Ideal) m' g')
    obtain ⟨a0, a1, a2⟩ := hagree c
    obtain ⟨h0, hrest⟩ := h c
    refine ⟨?_, hrest⟩
    refine h0.trans ((Cert.ReferenceMgIdeal.Read.val_main_v19_eq _ _ _).trans ?_)
    rw [a0, a1, a2]
    exact (ref m c).trans (final m c).symm

end Cert.Merge
-- ==== Proof.MergeBackward.lean ====
module
public import proofs.«01_k».proof.Defs
public import proofs.«01_k».proof.Proof.Gen.KernelMgB.Frame
public import proofs.«01_k».proof.Proof.Gen.KernelMgBIdeal.Value
public import proofs.«01_k».proof.Proof.Gen.ReferenceMgBIdeal.Read
public import proofs.«01_k».proof.Proof.Sigmoid
public import proofs.«01_k».proof.Proof.Rows
@[expose] public section
set_option maxRecDepth 16384
noncomputable section

/-! The backward of the two gated branches' sum: the gates' gradients in four slabs, the branches'
gradients as arrays of their own. -/

namespace Cert.MergeBack
open Cert.KernelMgBIdeal Cert.KernelMgBIdeal.Gen Cert.Rows Cert.Sigmoid Idealize.ShloMosaic Idealize.ShloMosaic.TcCoe
open Idealize.SL Idealize.SL.Sem

/-- A gate's gradient at a row and a column: the gates begin at column `k`. -/
def gate (p : (⟨2, ![4096, 9216]⟩ : Shape).Idx → EReal) (y d : (⟨2, ![4096, 2048]⟩ : Shape).Idx → EReal) (k t j : ℕ) : EReal :=
  (at2 d t j * at2 y t j) * (sig (at2 p t (k + j)) * (1 - sig (at2 p t (k + j))))

/-- A branch's gradient. -/
def branch (p : (⟨2, ![4096, 9216]⟩ : Shape).Idx → EReal) (d : (⟨2, ![4096, 2048]⟩ : Shape).Idx → EReal) (k t j : ℕ) : EReal :=
  sig (at2 p t (k + j)) * at2 d t j

/-- The slabs: the two gates' blocks of 1024 columns in turn. -/
def slab (p : (⟨2, ![4096, 9216]⟩ : Shape).Idx → EReal) (yl ys d : (⟨2, ![4096, 2048]⟩ : Shape).Idx → EReal) (s t l : ℕ) : EReal :=
  if s % 2 = 0 then gate p yl d 5120 t (s / 2 * 1024 + l) else gate p ys d 7168 t (s / 2 * 1024 + l)

/-! ## One point -/

theorem pay4_apply (v : Vec Ideal S512x1024 .f32) (a : Fin 512) (b : Fin 1024) : k0_pay4 v (ix2 a b) = sig (v (ix2 a b)) := by
  pointwise [k0_pay4]
  exact half_tanh _

theorem pay5_apply (v : Vec Ideal S512x1024 .f32) (a : Fin 512) (b : Fin 1024) : k0_pay5 v (ix2 a b) = sig (v (ix2 a b)) := by
  pointwise [k0_pay5]
  exact half_tanh _

variable (x0 x1 : Vec Ideal S512x1024 .f32) (x2 x3 x4 : Vec Ideal S512x1024 .bf16)

theorem out6_apply (a : Fin 512) (b : Fin 1024) :
    out0_6 x0 x1 x2 x3 x4 (ix2 a b) = sig (x0 (ix2 a b)) * x4 (ix2 a b) := by
  unfold out0_6
  rw [View.canon_unit_zero (S := S512x1024) hz2]
  simp only [View.ld_unit_zero (S := S512x1024) hz2]
  pointwise [k0_pay2]
  rw [pay4_apply, mul_comm]

theorem out7_apply (a : Fin 512) (b : Fin 1024) :
    out0_7 x0 x1 x2 x3 x4 (ix2 a b) = sig (x1 (ix2 a b)) * x4 (ix2 a b) := by
  unfold out0_7
  rw [View.canon_unit_zero (S := S512x1024) hz2]
  simp only [View.ld_unit_zero (S := S512x1024) hz2]
  pointwise [k0_pay3]
  rw [pay5_apply, mul_comm]

theorem out5_apply0 (s : Fin 2) (hs : s.val = 0) (a : Fin 512) (b : Fin 1024) :
    out0_5 x0 x1 x2 x3 x4 (ix3 s a b)
      = (x4 (ix2 a b) * x2 (ix2 a b)) * (sig (x0 (ix2 a b)) * (1 - sig (x0 (ix2 a b)))) := by
  unfold out0_5
  refine (canon_slab_miss 1 _ _ _ s a b (by omega)).trans ((canon_slab_hit 0 _ _ _ s a b hs).trans ?_)
  simp only [View.ld_unit_zero (S := S512x1024) hz2]
  pointwise [k0_pay6]
  rw [pay4_apply]

theorem out5_apply1 (s : Fin 2) (hs : s.val = 1) (a : Fin 512) (b : Fin 1024) :
    out0_5 x0 x1 x2 x3 x4 (ix3 s a b)
      = (x4 (ix2 a b) * x3 (ix2 a b)) * (sig (x1 (ix2 a b)) * (1 - sig (x1 (ix2 a b)))) := by
  unfold out0_5
  refine (canon_slab_hit 1 _ _ _ s a b hs).trans ?_
  simp only [View.ld_unit_zero (S := S512x1024) hz2]
  pointwise [k0_pay1, k0_pay7]
  rw [pay5_apply]

/-! ## The blocks -/

variable (m : (ℓ : Loc nD τ sig) → Buf (Elt Ideal) ℓ) (c : Dev nD)

theorem idx0 : ∀ t : Fin cfg0.N, win0_0.index t = ![t.val / 2, 5 + t.val % 2] := (by decide +kernel : ∀ t : Fin grid0.N, _)
theorem idx1 : ∀ t : Fin cfg0.N, win0_1.index t = ![t.val / 2, 7 + t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val % 2, t.val / 2, 0] := (by decide +kernel : ∀ t : Fin grid0.N, _)
theorem idx6 : ∀ t : Fin cfg0.N, win0_6.index t = ![t.val / 2, t.val % 2] := (by decide +kernel : ∀ t : Fin grid0.N, _)
theorem idx7 : ∀ t : Fin cfg0.N, win0_7.index t = ![t.val / 2, t.val % 2] := (by decide +kernel : ∀ t : Fin grid0.N, _)

theorem lt16 (t : Fin cfg0.N) : t.val < 16 := lt_of_lt_of_eq t.isLt N_0

theorem blk0 (t : Fin cfg0.N) (a : Fin 512) (l : Fin 1024) : (iblk m c 0 t) (ix2 a l)
    = at2 (m ((c : Thread nD τ).loc main_arg0)) (t.val / 2 * 512 + a.val) (5120 + (t.val % 2 * 1024 + l.val)) := by
  have ht := lt16 t
  have ha := a.isLt
  have hl := l.isLt
  refine Eq.trans ?_ (at2_of_lt _ (by omega) (by omega)).symm
  blk_ext [iblk, V, idx0 t]
  all_goals omega

theorem blk1 (t : Fin cfg0.N) (a : Fin 512) (l : Fin 1024) : (iblk m c 1 t) (ix2 a l)
    = at2 (m ((c : Thread nD τ).loc main_arg0)) (t.val / 2 * 512 + a.val) (7168 + (t.val % 2 * 1024 + l.val)) := by
  have ht := lt16 t
  have ha := a.isLt
  have hl := l.isLt
  refine Eq.trans ?_ (at2_of_lt _ (by omega) (by omega)).symm
  blk_ext [iblk, V, idx1 t]
  all_goals omega

theorem blk2 (t : Fin cfg0.N) (a : Fin 512) (l : Fin 1024) : (iblk m c 2 t) (ix2 a l)
    = at2 (m ((c : Thread nD τ).loc main_arg1)) (t.val / 2 * 512 + a.val) (t.val % 2 * 1024 + l.val) := by
  have ht := lt16 t
  have ha := a.isLt
  have hl := l.isLt
  refine Eq.trans ?_ (at2_of_lt _ (by omega) (by omega)).symm
  blk_ext [iblk, V, idx2 t]
  all_goals omega

theorem blk3 (t : Fin cfg0.N) (a : Fin 512) (l : Fin 1024) : (iblk m c 3 t) (ix2 a l)
    = at2 (m ((c : Thread nD τ).loc main_arg2)) (t.val / 2 * 512 + a.val) (t.val % 2 * 1024 + l.val) := by
  have ht := lt16 t
  have ha := a.isLt
  have hl := l.isLt
  refine Eq.trans ?_ (at2_of_lt _ (by omega) (by omega)).symm
  blk_ext [iblk, V, idx3 t]
  all_goals omega

theorem blk4 (t : Fin cfg0.N) (a : Fin 512) (l : Fin 1024) : (iblk m c 4 t) (ix2 a l)
    = at2 (m ((c : Thread nD τ).loc main_arg3)) (t.val / 2 * 512 + a.val) (t.val % 2 * 1024 + l.val) := by
  have ht := lt16 t
  have ha := a.isLt
  have hl := l.isLt
  refine Eq.trans ?_ (at2_of_lt _ (by omega) (by omega)).symm
  blk_ext [iblk, V, idx4 t]
  all_goals omega

/-! ## The result arrays -/

def G5 : Vec Ideal S9x4096x1024 .bf16 := fun i =>
  slab (m ((c : Thread nD τ).loc main_arg0)) (m ((c : Thread nD τ).loc main_arg1)) (m ((c : Thread nD τ).loc main_arg2))
    (m ((c : Thread nD τ).loc main_arg3)) (i 0).val (i 1).val (i 2).val

def G6 : Vec Ideal S4096x2048 .bf16 := fun i =>
  branch (m ((c : Thread nD τ).loc main_arg0)) (m ((c : Thread nD τ).loc main_arg3)) 5120 (i 0).val (i 1).val

def G7 : Vec Ideal S4096x2048 .bf16 := fun i =>
  branch (m ((c : Thread nD τ).loc main_arg0)) (m ((c : Thread nD τ).loc main_arg3)) 7168 (i 0).val (i 1).val

theorem final6 : (dats m 0 c).arrAt 6 cfg0.N = G6 m c := by
  refine (dats m 0 c).arrAt_eq_of_covers 6 _ (by decide +kernel) fun t hf y => ?_
  blk_simp
  rw [after0_6]
  idx_vars y
  refine (out6_apply _ _ _ _ _ _ _).trans ?_
  rw [blk0 m c, blk4 m c]
  unfold G6 branch
  blk_simp [idx6 t]

theorem final7 : (dats m 0 c).arrAt 7 cfg0.N = G7 m c := by
  refine (dats m 0 c).arrAt_eq_of_covers 7 _ (by decide +kernel) fun t hf y => ?_
  blk_simp
  rw [after0_7]
  idx_vars y
  refine (out7_apply _ _ _ _ _ _ _).trans ?_
  rw [blk1 m c, blk4 m c]
  unfold G7 branch
  blk_simp [idx7 t]

/-- The slabs the kernel writes. -/
theorem final5 (i : S9x4096x1024.Idx) (hi : (i 0).val < 4) : (dats m 0 c).arrAt 5 cfg0.N i = G5 m c i := by
  refine ((dats m 0 c).arrAt_apply_of_coversWhere 5 (G5 m c) (P := fun i => (i 0).val / 2 < 2) (fun x => x 0 < 2)
    (by decide +kernel) (fun t hf y => ?_) (fun j => Iff.rfl) i).trans (if_pos (by omega))
  blk_simp
  rw [after0_5]
  obtain ⟨z, hz⟩ : ∃ z : S2x512x1024.Idx, z = (cfg0.win 5).xinj (cfg0.grid.coords t) y := ⟨_, rfl⟩
  have hv : ∀ a, (y a).val = (z a).val := fun a => by rw [hz]
  rw [← hz]
  have v0 : (((win0_5.blk t).view.emb y) 0).val = t.val % 2 * 2 + (z 0).val := by
    rw [← hv]
    blk_simp [idx5 t]
  have v1 : (((win0_5.blk t).view.emb y) 1).val = t.val / 2 * 512 + (z 1).val := by
    rw [← hv]
    blk_simp [idx5 t]
  have v2 : (((win0_5.blk t).view.emb y) 2).val = (z 2).val := by
    rw [← hv]
    refine (Pipeline.Window.rect_emb_val win0_5 t y 2).trans ?_
    rw [idx5 t]
    exact (congrArg (· + _) (Nat.zero_mul _)).trans (Nat.zero_add _)
  unfold G5 slab
  rw [v0, v1, v2]
  clear v0 v1 v2 hv hz
  idx_vars z
  have ht := lt16 t
  have hs : z0.val = 0 ∨ z0.val = 1 := by omega
  rcases hs with hs | hs
  · refine (out5_apply0 _ _ _ _ _ _ hs _ _).trans ?_
    rw [blk0 m c, blk2 m c, blk4 m c]
    refine Eq.trans ?_ (if_pos (by show (t.val % 2 * 2 + z0.val) % 2 = 0; omega)).symm
    unfold gate
    show _ = at2 _ _ ((t.val % 2 * 2 + z0.val) / 2 * 1024 + _) * _ * _
    rw [show (t.val % 2 * 2 + z0.val) / 2 = t.val % 2 by omega]
  · refine (out5_apply1 _ _ _ _ _ _ hs _ _).trans ?_
    rw [blk1 m c, blk3 m c, blk4 m c]
    refine Eq.trans ?_ (if_neg (by show ¬(t.val % 2 * 2 + z0.val) % 2 = 0; omega)).symm
    unfold gate
    show _ = at2 _ _ ((t.val % 2 * 2 + z0.val) / 2 * 1024 + _) * _ * _
    rw [show (t.val % 2 * 2 + z0.val) / 2 = t.val % 2 by omega]

end Cert.MergeBack

namespace Cert.MergeBack.Ref
open Cert.ReferenceMgBIdeal Cert.ReferenceMgBIdeal.Read Cert.Rows Cert.Sigmoid Idealize.ShloMosaic Idealize.ShloMosaic.TcCoe
open Idealize.SL Idealize.SL.Sem

variable (x0 : Vec Ideal S4096x9216 .f32) (x1 x2 x3 : Vec Ideal S4096x2048 .bf16)

theorem v9_apply (a : Fin 4096) (b : Fin 2048) : val_main_v9 (F := Ideal) x0 (ix2 a b) = sig (at2 x0 a.val (5120 + b.val)) := by
  have hb := b.isLt
  pointwise [val_main_v9, val_main_v8, val_main_v7, val_main_v6, val_main_v5, val_main_v4, val_main_v2, val_main_cst, val_main_cst_0]
  rw [← at2_eq x0 ⟨a.val, a.isLt⟩ ⟨5120 + b.val, by omega⟩ rfl rfl]
  rfl

theorem v19_apply (a : Fin 4096) (b : Fin 2048) : val_main_v19 (F := Ideal) x0 (ix2 a b) = sig (at2 x0 a.val (7168 + b.val)) := by
  have hb := b.isLt
  pointwise [val_main_v19, val_main_v18, val_main_v17, val_main_v16, val_main_v15, val_main_v14, val_main_v3, val_main_cst_2, val_main_cst_3]
  rw [← at2_eq x0 ⟨a.val, a.isLt⟩ ⟨7168 + b.val, by omega⟩ rfl rfl]
  rfl

theorem v28_apply (a : Fin 4096) (b : Fin 2048) (j : ℕ) (h : b.val = j) :
    val_main_v28 (F := Ideal) x0 x2 x3 (ix2 a b) = gate x0 x2 x3 7168 a.val j := by
  subst h
  pointwise [val_main_v28, val_main_v27, val_main_v22, val_main_v21, val_main_v20, val_main_cst_4, val_main_v25, val_main_v1]
  rw [v19_apply, at2_eq x3 a b rfl rfl, at2_eq x2 a b rfl rfl]
  rfl

theorem v31_apply (a : Fin 4096) (b : Fin 2048) (j : ℕ) (h : b.val = j) :
    val_main_v31 (F := Ideal) x0 x1 x3 (ix2 a b) = gate x0 x1 x3 5120 a.val j := by
  subst h
  pointwise [val_main_v31, val_main_v30, val_main_v12, val_main_v11, val_main_v10, val_main_cst_1, val_main_v25, val_main_v0]
  rw [v9_apply, at2_eq x3 a b rfl rfl, at2_eq x1 a b rfl rfl]
  rfl

/-- The reference's slabs. -/
theorem v41_apply (s : Fin 9) (hs : s.val < 4) (a : Fin 4096) (b : Fin 1024) :
    val_main_v41 (F := Ideal) x0 x1 x2 x3 (ix3 s a b) = slab x0 x1 x2 x3 s.val a.val b.val := by
  have hb := b.isLt
  pointwise [val_main_v41, val_main_v40, val_main_v39, val_main_v38, val_main_v37, val_main_v36, val_main_v35]
  refine (dif_pos hs).trans ?_
  pointwise [val_main_v34, val_main_v33, val_main_v32, val_main_cst_5, val_main_cst_6]
  unfold slab
  by_cases h : s.val % 2 = 0
  · refine Eq.trans ?_ (if_pos h).symm
    refine (congrArg₂ (· + ·) (dif_neg (by omega)) (dif_pos (by omega))).trans ?_
    rw [zero_add]
    exact v31_apply x0 x1 x3 _ _ _ (by dsimp only; omega)
  · refine Eq.trans ?_ (if_neg h).symm
    refine (congrArg₂ (· + ·) (dif_pos (by omega)) (dif_neg (by omega))).trans ?_
    rw [add_zero]
    exact v28_apply x0 x2 x3 _ _ _ (by dsimp only; omega)

theorem v42_apply (a : Fin 4096) (b : Fin 2048) :
    val_main_v42 (F := Ideal) x0 x3 (ix2 a b) = branch x0 x3 5120 a.val b.val := by
  pointwise [val_main_v42, val_main_v29, val_main_v25]
  rw [v9_apply, at2_eq x3 a b rfl rfl]
  rfl

theorem v43_apply (a : Fin 4096) (b : Fin 2048) :
    val_main_v43 (F := Ideal) x0 x3 (ix2 a b) = branch x0 x3 7168 a.val b.val := by
  pointwise [val_main_v43, val_main_v26, val_main_v25]
  rw [v19_apply, at2_eq x3 a b rfl rfl]
  rfl

end Cert.MergeBack.Ref

namespace Cert.On_gates_written
open Idealize.ShloMosaic

theorem facts : Facts := ⟨by decide, by decide⟩

/-- The mask's first array: the slabs below the fourth. -/
theorem lt_of_mask (x0 : FVec Ideal S4096x9216 .f32) (x1 x2 x3 : FVec Ideal S4096x2048 .bf16) (i : S9x4096x1024.Idx)
    (h : haveI := facts; (fn (F := Ideal) x0 x1 x2 x3).1 i = 1#1) : (i 0).val < 4 := by
  have hi : (i 0).val < 9 := (i 0).isLt
  haveI := facts
  have h' : (cmpi .slt (iotaInDim S9x4096x1024 32 0) (fun _ => 4#32) : IVec S9x4096x1024 1) i = 1#1 := h
  by_contra hc
  have hk : (i 0).val = 4 ∨ (i 0).val = 5 ∨ (i 0).val = 6 ∨ (i 0).val = 7 ∨ (i 0).val = 8 := by omega
  have hq : (cmpi .slt (fun _ => BitVec.ofNat 32 (i 0).val) (fun _ => 4#32) : IVec S_ 1) (fun a => a.elim0) = 1#1 := h'
  rcases hk with e | e | e | e | e <;> rw [e] at hq <;> exact absurd hq (by decide)

end Cert.On_gates_written

namespace Cert.MergeBack
open Cert.Rows Cert.Sigmoid Idealize.ShloMosaic Idealize.ShloMosaic.TcCoe
open Idealize.SL Idealize.SL.Sem

theorem algebraic : Cert.algebraic_KernelMgBIdeal_ReferenceMgBIdeal_on_gates_written (hOn_gates_written := Cert.On_gates_written.facts) := by
  intro m g m' g' _ hagree
  refine ⟨fun c => G5 m c, fun c => G6 m c, fun c => G7 m c, ?_, ?_⟩
  · refine (θ_run _ _ _).mono (fun r h c => ?_) (Cert.KernelMgBIdeal.Value.run_blocks (F := Ideal) m g)
    obtain ⟨h0, h1, h2, hrest⟩ := h c
    refine ⟨fun i hi => ?_, fun i _ => ?_, fun i _ => ?_, hrest⟩
    · exact (congrFun h0 i).trans (final5 m c i (Cert.On_gates_written.lt_of_mask _ _ _ _ i hi))
    · exact congrFun (h1.trans (final6 m c)) i
    · exact congrFun (h2.trans (final7 m c)) i
  · refine (θ_run _ _ _).mono (fun r h c => ?_) (Cert.ReferenceMgBIdeal.Value.run (F := Ideal) m' g')
    obtain ⟨a0, a1, a2, a3⟩ := hagree c
    obtain ⟨h0, h1, h2, hrest⟩ := h c
    refine ⟨fun i hi => ?_, fun i _ => ?_, fun i _ => ?_, hrest⟩
    · have hlt := Cert.On_gates_written.lt_of_mask _ _ _ _ i hi
      refine (congrFun (h0.trans (Cert.ReferenceMgBIdeal.Read.val_main_v41_eq _ _ _ _)) i).trans ?_
      rw [a0, a1, a2, a3]
      idx_vars i
      exact Ref.v41_apply _ _ _ _ _ hlt _ _
    · refine (congrFun (h1.trans (Cert.ReferenceMgBIdeal.Read.val_main_v42_eq _ _)) i).trans ?_
      rw [a0, a3]
      idx_vars i
      exact Ref.v42_apply _ _ _ _
    · refine (congrFun (h2.trans (Cert.ReferenceMgBIdeal.Read.val_main_v43_eq _ _)) i).trans ?_
      rw [a0, a3]
      idx_vars i
      exact Ref.v43_apply _ _ _ _

end Cert.MergeBack
-- ==== Proof.NormMath.lean ====
module
public import Idealize.ShloMosaic.Lib.Pipeline.ValueKit
public import Idealize.ShloMosaic.Lib.Pointwise
@[expose] public section
noncomputable section

/-! The normalisation by the root of a row's mean square, and its gradient: the version writes the gradient as
`r * (d - x̂ * mean (d * x̂))`, the chain rule gives `d * r` and twice `x` times the gradient of the mean. The two
agree at every extended real. -/

namespace Cert.Norm
open Idealize.ShloMosaic Idealize.SL.Sem

/-- The row's length. -/
def len : EReal := Ideal.ofBits FTy.f32 1157627904#32

/-- The small number under the root. -/
def eps : EReal := Ideal.ofBits FTy.f32 897988541#32

/-- Minus one half. -/
def mhalf : EReal := Ideal.ofBits FTy.f32 3204448256#32

theorem len_eq : len = ((2048 : ℝ) : EReal) := by
  unfold len
  simp [Ideal.ofBits, Ideal.ieee]
  norm_num
  try rw [← EReal.coe_mul]
  try norm_num

theorem mhalf_eq : mhalf = ((-(1 / 2) : ℝ) : EReal) := by
  unfold mhalf
  simp [Ideal.ofBits, Ideal.ieee]
  norm_num
  try rw [← EReal.coe_mul]
  try norm_num

theorem eps_real : ∃ e : ℝ, 0 < e ∧ eps = (e : EReal) := by
  unfold eps
  simp [Ideal.ofBits, Ideal.ieee]
  norm_num
  rw [← EReal.coe_mul]
  exact ⟨_, by norm_num, rfl⟩

theorem div_len (z : EReal) : Ideal.div z len = z * ((1 / 2048 : ℝ) : EReal) := by
  rw [len_eq, Ideal.div, if_neg (by norm_cast), ← EReal.coe_inv]
  norm_num

variable {n : ℕ}

/-- The mean square of a row, and the small number. -/
def msq (x : Fin n → EReal) : EReal := Ideal.div (∑ k, x k * x k) len + eps

/-- The reciprocal root. -/
def rms (x : Fin n → EReal) : EReal := Ideal.rsqrt (msq x)

theorem coe_sum (f : Fin n → ℝ) : ((∑ k, f k : ℝ) : EReal) = ∑ k, (f k : EReal) := by
  induction n with
  | zero => simp
  | succ n ih => rw [Fin.sum_univ_succ, Fin.sum_univ_succ, ← ih, EReal.coe_add]

theorem sq_nonneg (z : EReal) : 0 ≤ z * z := by
  induction z with
  | bot => simp
  | top => simp
  | coe r => exact_mod_cast mul_self_nonneg r

theorem msq_cases (x : Fin n → EReal) :
    (∃ v : ℝ, 0 < v ∧ msq x = (v : EReal) ∧ ∃ y : Fin n → ℝ, ∀ k, x k = (y k : EReal)) ∨ msq x = ⊤ := by
  obtain ⟨e, he, hee⟩ := eps_real
  by_cases h : ∀ k, x k ≠ ⊤ ∧ x k ≠ ⊥
  · left
    have hy : ∀ k, x k = ((x k).toReal : EReal) := fun k => (EReal.coe_toReal (h k).1 (h k).2).symm
    refine ⟨(∑ k, (x k).toReal * (x k).toReal) * (1 / 2048) + e, ?_, ?_, fun k => (x k).toReal, hy⟩
    · have := Finset.sum_nonneg (s := Finset.univ) fun k _ => mul_self_nonneg (x k).toReal
      positivity
    · have hs : ∑ k, x k * x k = ((∑ k, (x k).toReal * (x k).toReal : ℝ) : EReal) := by
        rw [coe_sum]
        refine Finset.sum_congr rfl fun k _ => ?_
        rw [EReal.coe_mul, ← hy k]
      rw [msq, hs, div_len, hee]
      norm_cast
  · right
    push Not at h
    obtain ⟨k, hk⟩ := h
    have hk' : x k * x k = ⊤ := by
      by_cases ht : x k = ⊤
      · rw [ht]; rfl
      · rw [hk ht]; rfl
    have hs : ∑ k, x k * x k = ⊤ := by
      refine top_le_iff.1 (hk' ▸ Finset.single_le_sum (f := fun k => x k * x k) (fun i _ => sq_nonneg _) (Finset.mem_univ k))
    rw [msq, hs, div_len, EReal.top_mul_coe_of_pos (by norm_num), hee]
    rfl

theorem sum_mul_real (f : Fin n → EReal) (r : ℝ) (hr : 0 ≤ r) : (∑ k, f k) * (r : EReal) = ∑ k, f k * (r : EReal) := by
  induction n with
  | zero => simp
  | succ n ih =>
    rw [Fin.sum_univ_succ, Fin.sum_univ_succ, ← ih,
      EReal.right_distrib_of_nonneg_of_ne_top (by exact_mod_cast hr) (EReal.coe_ne_top r)]

theorem twice (z : EReal) (a : ℝ) : z * (a : EReal) + z * (a : EReal) = z * ((2 * a : ℝ) : EReal) := by
  have h : (((2 * a : ℝ)) : EReal) = (1 + 1) * (a : EReal) := by
    rw [EReal.coe_mul]; congr 1; rw [one_add_one_eq_two]; rfl
  rw [h, mul_left_comm, EReal.right_distrib_of_nonneg zero_le_one zero_le_one, one_mul]

/-- The gradient of the normalised row `x * rms x` at the cotangent `d`. -/
def gradRow (x d : Fin n → EReal) (j : Fin n) : EReal :=
  rms x * (d j - x j * rms x * Ideal.div (∑ k, d k * (x k * rms x)) len)

/-- The gradient of the normalised row, the reference's way and the version's. -/
theorem grad_eq (x d : Fin n → EReal) (j : Fin n) :
    d j * rms x + x j * Ideal.div ((∑ k, x k * d k) * (mhalf * Ideal.div (rms x) (msq x))) len
      + Ideal.div ((∑ k, x k * d k) * (mhalf * Ideal.div (rms x) (msq x))) len * x j
    = gradRow x d j := by
  unfold gradRow
  rcases msq_cases x with ⟨v, hv, hm, y, hy⟩ | h
  · have hr : rms x = (((Real.sqrt v)⁻¹ : ℝ) : EReal) := by
      rw [rms, hm]
      show (if v < 0 then ⊥ else if v = 0 then ⊤ else (((Real.sqrt v)⁻¹ : ℝ) : EReal)) = _
      rw [if_neg (by linarith), if_neg hv.ne']
    have hs : 0 < Real.sqrt v := Real.sqrt_pos.2 hv
    have hq : Real.sqrt v * Real.sqrt v = v := Real.mul_self_sqrt hv.le
    generalize Real.sqrt v = q at hr hs hq
    have hsum : ∑ k, d k * (x k * rms x) = (∑ k, x k * d k) * ((q⁻¹ : ℝ) : EReal) := by
      rw [sum_mul_real _ _ (by positivity)]
      refine Finset.sum_congr rfl fun k _ => ?_
      rw [hr, ← mul_assoc, mul_comm (d k)]
    rw [hsum, div_len, div_len, hm, hr, mhalf_eq, hy j, Ideal.div, if_neg (by exact_mod_cast hv.ne'), ← EReal.coe_inv]
    generalize ∑ k, x k * d k = S
    rw [sub_eq_add_neg, EReal.left_distrib_of_nonneg_of_ne_top (by exact_mod_cast (by positivity : 0 ≤ q⁻¹)) (EReal.coe_ne_top _),
      add_assoc, mul_comm (d j)]
    congr 1
    have e1 : S * (((-(1 / 2) : ℝ) : EReal) * (((q⁻¹ : ℝ) : EReal) * ((v⁻¹ : ℝ) : EReal))) * ((1 / 2048 : ℝ) : EReal) * (y j : EReal)
        = S * ((-(1 / 2) * (q⁻¹ * v⁻¹) * (1 / 2048) * y j : ℝ) : EReal) := by
      push_cast
      simp only [mul_assoc]
    rw [mul_comm (y j : EReal) (S * _ * _), e1, twice, mul_neg,
      show ((q⁻¹ : ℝ) : EReal) * ((y j : EReal) * ((q⁻¹ : ℝ) : EReal) * (S * ((q⁻¹ : ℝ) : EReal) * ((1 / 2048 : ℝ) : EReal)))
        = S * ((q⁻¹ * (y j * q⁻¹) * (q⁻¹ * (1 / 2048)) : ℝ) : EReal) by
        push_cast
        simp only [mul_assoc, mul_left_comm _ S], ← mul_neg, ← EReal.coe_neg]
    congr 2
    rw [← hq]
    field_simp
    try ring
  · have hr : rms x = 0 := by rw [rms, h]; rfl
    have hd : Ideal.div 0 ⊤ = 0 := by rw [Ideal.div, if_neg (by simp), zero_mul]
    simp only [hr, h, div_len, hd, mul_zero, zero_mul, add_zero]

/-! Rows read at natural numbers. -/

/-- The reciprocal root of a row. -/
def rmsN (x : ℕ → EReal) : EReal := rms fun k : Fin 2048 => x k.val

/-- The gradient of a normalised row. -/
def gradN (x d : ℕ → EReal) (j : ℕ) : EReal :=
  rmsN x * (d j - x j * rmsN x * Ideal.div (∑ k : Fin 2048, d k.val * (x k.val * rmsN x)) len)

/-- A vector read at a natural number, zero outside its range. -/
def at1 {R : ℕ} (f : (⟨1, ![R]⟩ : Shape).Idx → EReal) (r : ℕ) : EReal := if h : r < R then f (ix1 ⟨r, h⟩) else 0

theorem at1_of_lt {R : ℕ} (f : (⟨1, ![R]⟩ : Shape).Idx → EReal) {r : ℕ} (h : r < R) : at1 f r = f (ix1 ⟨r, h⟩) := dif_pos h

theorem gradN_eq (x d : ℕ → EReal) (b : Fin 2048) {x' d' : Fin 2048 → EReal} (hx : ∀ k, x' k = x k.val) (hd : ∀ k, d' k = d k.val) :
    gradRow x' d' b = gradN x d b.val := by
  rw [funext hx, funext hd]
  rfl

theorem rmsN_eq (x : ℕ → EReal) {x' : Fin 2048 → EReal} (hx : ∀ k, x' k = x k.val) : rms x' = rmsN x := by
  rw [funext hx]
  rfl

theorem sum_all (f : ℕ → EReal) (n : ℕ) : ∑ a : Fin n, f a.val = ∑ x ∈ Finset.range n, f x := Fin.sum_univ_eq_sum_range f n

/-- A sum over the first `n` tiles of `256` rows and over the next one. -/
theorem sum_tile (f : ℕ → EReal) (n : ℕ) :
    (∑ x ∈ Finset.range (n * 256), f x) + ∑ a : Fin 256, f (n * 256 + a.val) = ∑ x ∈ Finset.range ((n + 1) * 256), f x := by
  rw [Fin.sum_univ_eq_sum_range (fun a => f (n * 256 + a)) 256, add_one_mul, Finset.sum_range_add]

/-! The gradients at a row and a column of the arguments: `X` the input, `G` the gain, `D` the cotangent, `R` what is added. -/

/-- The input's gradient at a row and a column. -/
def dxAt (X : ℕ → ℕ → EReal) (G : ℕ → EReal) (D R : ℕ → ℕ → EReal) (r l : ℕ) : EReal :=
  R r l + gradN (X r) (fun k => D r k * G k) l

/-- A row's part of the gain's gradient. -/
def dgAt (X D : ℕ → ℕ → EReal) (l r : ℕ) : EReal := D r l * (X r l * rmsN (X r))

section Blk
variable {X D R : ℕ → ℕ → EReal} {G : ℕ → EReal} {n r : ℕ} {x0 x2 x3 : (⟨2, ![n, 2048]⟩ : Shape).Idx → EReal} {x1 : Fin 2048 → EReal}
  (h0 : ∀ a l, x0 (ix2 a l) = X (r + a.val) l.val) (h1 : ∀ l, x1 l = G l.val)
  (h2 : ∀ a l, x2 (ix2 a l) = D (r + a.val) l.val) (h3 : ∀ a l, x3 (ix2 a l) = R (r + a.val) l.val)
include h0 h2

include h1 h3 in
theorem dx_blk (a : Fin n) (b : Fin 2048) :
    x3 (ix2 a b) + gradRow (fun k => x0 (ix2 a k)) (fun k => x2 (ix2 a k) * x1 k) b = dxAt X G D R (r + a.val) b.val := by
  unfold dxAt
  refine congrArg₂ (· + ·) (h3 a b) (gradN_eq _ _ b (fun k => h0 a k) fun k => ?_)
  rw [h2, h1]

theorem dg_blk (b : Fin 2048) :
    ∑ a : Fin n, x2 (ix2 a b) * (x0 (ix2 a b) * rms fun k : Fin 2048 => x0 (ix2 a k)) = ∑ a : Fin n, dgAt X D b.val (r + a.val) := by
  refine Finset.sum_congr rfl fun a _ => ?_
  unfold dgAt
  rw [h2, h0, rmsN_eq _ fun k => h0 a k]
end Blk

end Cert.Norm
-- ==== Proof.NormMix.lean ====
module
public import proofs.«01_k».proof.Defs
public import proofs.«01_k».proof.Proof.Gen.KernelRmMIdeal.Value
public import proofs.«01_k».proof.Proof.Gen.ReferenceRmMIdeal.Read
public import proofs.«01_k».proof.Proof.NormMath
public import proofs.«01_k».proof.Proof.Rows
@[expose] public section
set_option maxRecDepth 16384
noncomputable section

/-! The norm's backward before the mixers, over its grid of tiles of 256 rows. -/

namespace Cert.Norm.Mix
open Cert.KernelRmMIdeal Cert.KernelRmMIdeal.Gen Cert.Rows Cert.Norm Idealize.ShloMosaic Idealize.ShloMosaic.TcCoe
open Idealize.SL Idealize.SL.Sem

section Pay
variable (x0 x2 x3 : Vec Ideal S256x2048 .f32) (x1 : Vec Ideal S1x2048 .f32)

theorem pay2_apply (a : Fin 256) : k0_pay2 (F := Ideal) x0 (ix2 a 0) = rms fun k : Fin 2048 => x0 (ix2 a k) := by
  unfold k0_pay2
  pointwise
  rfl

theorem pay3_apply (a : Fin 256) (b : Fin 2048) :
    k0_pay3 (F := Ideal) x0 (ix2 a b) = x0 (ix2 a b) * rms fun k : Fin 2048 => x0 (ix2 a k) := by
  unfold k0_pay3
  pointwise
  rw [pay2_apply]

theorem pay4_apply (a : Fin 256) (b : Fin 2048) :
    k0_pay4 (F := Ideal) x0 x2 x1 x3 (ix2 a b) = x3 (ix2 a b) + gradRow (fun k => x0 (ix2 a k)) (fun k => x2 (ix2 a k) * x1 (ix2 0 k)) b := by
  unfold k0_pay4
  pointwise
  simp only [pay3_apply, pay2_apply]
  rfl

theorem pay7_apply (b : Fin 2048) :
    k0_pay7 (F := Ideal) x0 x2 (ix2 0 b) = ∑ a : Fin 256, x2 (ix2 a b) * (x0 (ix2 a b) * rms fun k : Fin 2048 => x0 (ix2 a k)) := by
  unfold k0_pay7
  pointwise
  simp only [pay3_apply]
end Pay

section Out
variable (x0 x2 x3 : Vec Ideal S256x2048 .f32) (x1 xo : Vec Ideal S1x2048 .f32) (co : Dev nD) (i : grid0.Coords)
  (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole)

theorem out_A_4 (hc : cond0_0 i) (a : Fin 256) (b : Fin 2048) :
    out0_A_4 (F := Ideal) co i arg1 harg1 arg2 harg2 arg3 harg3 arg4 harg4 arg5 harg5 arg6 harg6 hc x0 x1 x2 x3 (ix2 a b)
      = x3 (ix2 a b) + gradRow (fun k => x0 (ix2 a k)) (fun k => x2 (ix2 a k) * x1 (ix2 0 k)) b := by
  unfold out0_A_4
  rw [View.read_writes_eq_canon _ _ _ (cover0_A_4 co i arg1 harg1 arg2 harg2 arg3 harg3 arg4 harg4 arg5 harg5 arg6 harg6 hc x0 x1 x2 x3)]
  unfold kernelRun0_A
  dsimp only
  sl_unfold_words
  simp only [View.readAt_eq_ld, harg1.read_unread, harg2.read_unread, harg3.read_unread, harg4.read_unread, harg5.read_unread, harg6.read_unread, View.ld_unit_zero (S := S256x2048) hz2, View.ld_unit_zero (S := S1x2048) hz2, shapeCast_self]
  rw [View.canon_unit_zero (S := S256x2048) hz2]
  exact pay4_apply _ _ _ _ a b

theorem out_B_4 (hc : ¬cond0_0 i) (a : Fin 256) (b : Fin 2048) :
    out0_B_4 (F := Ideal) co i arg1 harg1 arg2 harg2 arg3 harg3 arg4 harg4 arg5 harg5 arg6 harg6 hc x0 x1 x2 x3 xo (ix2 a b)
      = x3 (ix2 a b) + gradRow (fun k => x0 (ix2 a k)) (fun k => x2 (ix2 a k) * x1 (ix2 0 k)) b := by
  unfold out0_B_4
  rw [View.read_writes_eq_canon _ _ _ (cover0_B_4 co i arg1 harg1 arg2 harg2 arg3 harg3 arg4 harg4 arg5 harg5 arg6 harg6 hc x0 x1 x2 x3 xo)]
  unfold kernelRun0_B
  dsimp only
  sl_unfold_words
  simp only [View.readAt_eq_ld, harg1.read_unread, harg2.read_unread, harg3.read_unread, harg4.read_unread, harg5.read_unread, harg6.read_unread, View.ld_unit_zero (S := S256x2048) hz2, View.ld_unit_zero (S := S1x2048) hz2, shapeCast_self]
  rw [View.canon_unit_zero (S := S256x2048) hz2]
  exact pay4_apply _ _ _ _ a b

theorem out_A_5 (hc : cond0_0 i) (b : Fin 2048) :
    out0_A_5 (F := Ideal) co i arg1 harg1 arg2 harg2 arg3 harg3 arg4 harg4 arg5 harg5 arg6 harg6 hc x0 x1 x2 x3 (ix2 0 b)
      = 0 + ∑ a : Fin 256, x2 (ix2 a b) * (x0 (ix2 a b) * rms fun k : Fin 2048 => x0 (ix2 a k)) := by
  unfold out0_A_5
  rw [View.read_writes_eq_canon _ _ _ (cover0_A_5 co i arg1 harg1 arg2 harg2 arg3 harg3 arg4 harg4 arg5 harg5 arg6 harg6 hc x0 x1 x2 x3)]
  unfold kernelRun0_A
  dsimp only
  sl_unfold_words
  simp only [View.readAt_eq_ld, harg1.read_unread, harg2.read_unread, harg3.read_unread, harg4.read_unread, harg5.read_unread, harg6.read_unread, View.ld_unit_zero (S := S256x2048) hz2, View.ld_unit_zero (S := S1x2048) hz2, shapeCast_self]
  simp only [View.readCov_unit_zero (S := S1x2048) _ hz2]
  rw [View.canon_cons_unit_zero (S := S1x2048) hz2]
  unfold k0_pay1 k0_pay6 k0_pay5
  pointwise
  rw [pay7_apply]

theorem out_B_5 (hc : ¬cond0_0 i) (b : Fin 2048) :
    out0_B_5 (F := Ideal) co i arg1 harg1 arg2 harg2 arg3 harg3 arg4 harg4 arg5 harg5 arg6 harg6 hc x0 x1 x2 x3 xo (ix2 0 b)
      = xo (ix2 0 b) + ∑ a : Fin 256, x2 (ix2 a b) * (x0 (ix2 a b) * rms fun k : Fin 2048 => x0 (ix2 a k)) := by
  unfold out0_B_5
  rw [View.read_writes_eq_canon _ _ _ (cover0_B_5 co i arg1 harg1 arg2 harg2 arg3 harg3 arg4 harg4 arg5 harg5 arg6 harg6 hc x0 x1 x2 x3 xo)]
  unfold kernelRun0_B
  dsimp only
  sl_unfold_words
  simp only [View.readAt_eq_ld, harg1.read_unread, harg2.read_unread, harg3.read_unread, harg4.read_unread, harg5.read_unread, harg6.read_unread, View.ld_unit_zero (S := S256x2048) hz2, View.ld_unit_zero (S := S1x2048) hz2, shapeCast_self]
  rw [View.canon_unit_zero (S := S1x2048) hz2]
  unfold k0_pay1 k0_pay6
  pointwise
  rw [pay7_apply]
end Out

open Cert.ReferenceRmMIdeal.Read in
theorem ref_dx (x0 : Vec Ideal ReferenceRmMIdeal.S4096x2048 .f32) (x1 : Vec Ideal ReferenceRmMIdeal.S2048 .f32)
    (x2 x3 : Vec Ideal ReferenceRmMIdeal.S4096x2048 .f32) (a : Fin 4096) (b : Fin 2048) :
    val_main_v36 (F := Ideal) x0 x1 x2 x3 (ix2 a b)
      = x3 (ix2 a b) + gradRow (fun k : Fin 2048 => x0 (ix2 a k)) (fun k => x2 (ix2 a k) * x1 (ix1 k)) b := by
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v19, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  simp only [Fin.sum_univ_one]
  rw [← grad_eq]
  rfl

open Cert.ReferenceRmMIdeal.Read in
theorem ref_dg (x0 x2 : Vec Ideal ReferenceRmMIdeal.S4096x2048 .f32) (b : Fin 2048) :
    val_main_v37 (F := Ideal) x0 x2 (ix2 0 b) = ∑ a : Fin 4096, x2 (ix2 a b) * (x0 (ix2 a b) * rms fun k : Fin 2048 => x0 (ix2 a k)) := by
  pointwise [val_main_v37, val_main_v21, val_main_v18, val_main_v17, val_main_v16, val_main_v12, val_main_v11,
    val_main_v7, val_main_v6, val_main_v5, val_main_v4, val_main_v3, val_main_v2, val_main_v1, val_main_v0,
    val_main_cst, val_main_cst_0, val_main_cst_1, val_main_cst_3, val_main_cst_4]
  rw [Fin.sum_univ_one]
  refine Finset.sum_congr rfl fun a _ => (mul_comm (_ : EReal) _).trans ?_
  rfl

variable (m : (ℓ : Loc nD τ sig) → Buf (Elt Ideal) ℓ) (c : Dev nD)

/-- The arguments, read at natural numbers. -/
def aX (t l : ℕ) : EReal := at2 (m ((c : Thread nD τ).loc main_arg0)) t l
def aG (l : ℕ) : EReal := at1 (m ((c : Thread nD τ).loc main_arg1)) l
def aD (t l : ℕ) : EReal := at2 (m ((c : Thread nD τ).loc main_arg2)) t l
def aR (t l : ℕ) : EReal := at2 (m ((c : Thread nD τ).loc main_arg3)) t l

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem lt16 (t : Fin cfg0.N) : t.val < 16 := lt_of_lt_of_eq t.isLt N_0

theorem blk0 (t : Fin cfg0.N) (a : Fin 256) (l : Fin 2048) : (iblk m c 0 t) (ix2 a l) = aX m c (t.val * 256 + a.val) l.val := by
  have ht := lt16 t
  have ha := a.isLt
  refine Eq.trans ?_ (at2_of_lt _ (by omega) l.isLt).symm
  blk_ext [iblk, V, idx0 t]

/-- The gain as the kernel's row. -/
theorem gain_row (l : Fin 2048) : V m c main_v0 (ix2 0 l) = aG m c l.val := by
  refine Eq.trans ?_ (at1_of_lt _ l.isLt).symm
  entry_read
  pointwise

theorem blk1 (t : Fin cfg0.N) (l : Fin 2048) : (iblk m c 1 t) (ix2 0 l) = aG m c l.val := by
  refine Eq.trans ?_ (gain_row m c l)
  blk_ext [iblk, idx1 t]

theorem blk2 (t : Fin cfg0.N) (a : Fin 256) (l : Fin 2048) : (iblk m c 2 t) (ix2 a l) = aD m c (t.val * 256 + a.val) l.val := by
  have ht := lt16 t
  have ha := a.isLt
  refine Eq.trans ?_ (at2_of_lt _ (by omega) l.isLt).symm
  blk_ext [iblk, V, idx2 t]

theorem blk3 (t : Fin cfg0.N) (a : Fin 256) (l : Fin 2048) : (iblk m c 3 t) (ix2 a l) = aR m c (t.val * 256 + a.val) l.val := by
  have ht := lt16 t
  have ha := a.isLt
  refine Eq.trans ?_ (at2_of_lt _ (by omega) l.isLt).symm
  blk_ext [iblk, V, idx3 t]

theorem rows (t : Fin cfg0.N) (a : Fin 256) (b : Fin 2048) :
    (outsAt0 m c t.val t.isLt).1 (ix2 a b) = dxAt (aX m c) (aG m c) (aD m c) (aR m c) (t.val * 256 + a.val) b.val := by
  by_cases h0 : t.val % 16 = 0
  · rw [outsAt0_A m c t h0]
    dsimp only
    exact (out_A_4 _ _ _ _ _ _ _ _ _ _ _ _ _ _ _ _ _ _ _ a b).trans (dx_blk (n := 256) (x1 := fun l => (iblk m c 1 t) (ix2 0 l)) (blk0 m c t) (blk1 m c t) (blk2 m c t) (blk3 m c t) a b)
  · rw [outsAt0_B m c t h0]
    dsimp only
    exact (out_B_4 _ _ _ _ _ _ _ _ _ _ _ _ _ _ _ _ _ _ _ _ a b).trans (dx_blk (n := 256) (x1 := fun l => (iblk m c 1 t) (ix2 0 l)) (blk0 m c t) (blk1 m c t) (blk2 m c t) (blk3 m c t) a b)

theorem gains : ∀ (n : ℕ) (hn : n < cfg0.N) (b : Fin 2048),
    (outsAt0 m c n hn).2 (ix2 0 b) = ∑ x ∈ Finset.range ((n + 1) * 256), dgAt (aX m c) (aD m c) b.val x := by
  intro n
  induction n with
  | zero =>
    intro hn b
    rw [outsAt0_A m c ⟨0, hn⟩ (Nat.zero_mod _)]
    dsimp only
    refine (out_A_5 _ _ _ _ _ _ _ _ _ _ _ _ _ _ _ _ _ _ _ b).trans ?_
    rw [dg_blk (n := 256) (blk0 m c ⟨0, hn⟩) (blk2 m c ⟨0, hn⟩), ← sum_tile]
    simp
  | succ n ih =>
    intro hn b
    have hN : n + 1 < 16 := lt_of_lt_of_eq hn N_0
    rw [outsAt0_B m c ⟨n + 1, hn⟩ (by show ¬(n + 1) % 16 = 0; omega)]
    dsimp only
    refine (out_B_5 _ _ _ _ _ _ _ _ _ _ _ _ _ _ _ _ _ _ _ _ b).trans ?_
    rw [dg_blk (n := 256) (blk0 m c ⟨n + 1, hn⟩) (blk2 m c ⟨n + 1, hn⟩), ← sum_tile]
    exact congrArg (· + _) (ih _ b)

/-- The result arrays. -/
def G4 : Vec Ideal S4096x2048 .f32 := fun i => dxAt (aX m c) (aG m c) (aD m c) (aR m c) (i 0).val (i 1).val
def G5 : Vec Ideal S1x2048 .f32 := fun i => ∑ x ∈ Finset.range 4096, dgAt (aX m c) (aD m c) (i 1).val x

theorem final4 : (dats m 0 c).arrAt 4 cfg0.N = G4 m c := by
  refine (dats m 0 c).arrAt_eq_of_covers 4 _ (by decide +kernel) fun t hf y => ?_
  blk_simp
  rw [after0_4]
  idx_vars y
  refine (rows m c t _ _).trans ?_
  unfold G4
  blk_simp [idx4 t]

theorem final5 : (dats m 0 c).arrAt 5 cfg0.N = G5 m c := by
  refine (dats m 0 c).arrAt_eq_of_covers 5 _ (by decide +kernel) fun t hf y => ?_
  blk_simp
  rw [after0_5]
  have h1 : t.val % 16 = 15 := (flush0_5 t).mp hf
  have ht := lt16 t
  have e : t.val = 15 := by omega
  idx_vars y
  obtain rfl : y0 = 0 := Subsingleton.elim _ _
  refine (gains m c t.val t.isLt _).trans ?_
  unfold G5
  rw [e]
  blk_simp [idx5 t]

theorem ref4 : ReferenceRmMIdeal.Read.val_main_v36 (F := Ideal) (m ((c.tc : Thread nD τ).loc main_arg0))
    (m ((c.tc : Thread nD τ).loc main_arg1)) (m ((c.tc : Thread nD τ).loc main_arg2)) (m ((c.tc : Thread nD τ).loc main_arg3)) = G4 m c := by
  funext j
  idx_vars j
  refine (ref_dx _ _ _ _ _ _).trans ?_
  refine congrArg₂ (· + ·) (at2_eq _ _ _ rfl rfl) (gradN_eq _ _ _ (fun k => at2_eq _ _ _ rfl rfl) fun k => ?_)
  exact congrArg₂ (· * ·) (at2_eq _ _ _ rfl rfl) (at1_of_lt _ k.isLt).symm

theorem ref5 : ReferenceRmMIdeal.Read.val_main_v37 (F := Ideal) (m ((c.tc : Thread nD τ).loc main_arg0))
    (m ((c.tc : Thread nD τ).loc main_arg2)) = G5 m c := by
  funext j
  idx_vars j
  obtain rfl : j0 = 0 := Subsingleton.elim _ _
  refine (ref_dg _ _ _).trans ?_
  unfold G5
  rw [← sum_all]
  refine Finset.sum_congr rfl fun a _ => ?_
  exact congrArg₂ (· * ·) (at2_eq _ _ _ rfl rfl)
    (congrArg₂ (· * ·) (at2_eq _ _ _ rfl rfl) (rmsN_eq _ fun k => at2_eq _ _ _ rfl rfl))

theorem algebraic : Cert.algebraic_KernelRmMIdeal_ReferenceRmMIdeal := by
  intro m g m' g' _ hagree
  refine ⟨fun c => G4 m c, fun c => G5 m c, ?_, ?_⟩
  · refine (θ_run _ _ _).mono (fun r h c => ?_) (Cert.KernelRmMIdeal.Value.run_blocks (F := Ideal) m g)
    obtain ⟨h0, h1, hrest⟩ := h c
    exact ⟨h0.trans (final4 m c), h1.trans (final5 m c), hrest⟩
  · refine (θ_run _ _ _).mono (fun r h c => ?_) (Cert.ReferenceRmMIdeal.Value.run (F := Ideal) m' g')
    obtain ⟨a0, a1, a2, a3⟩ := hagree c
    obtain ⟨h0, h1, hrest⟩ := h c
    refine ⟨?_, ?_, hrest⟩
    · refine (h0.trans (Cert.ReferenceRmMIdeal.Read.val_main_v36_eq _ _ _ _)).trans ?_
      rw [a0, a1, a2, a3]
      exact ref4 m c
    · refine (h1.trans (Cert.ReferenceRmMIdeal.Read.val_main_v37_eq _ _)).trans ?_
      rw [a0, a2]
      exact ref5 m c

end Cert.Norm.Mix
-- ==== Proof.NormFfn.lean ====
module
public import proofs.«01_k».proof.Defs
public import proofs.«01_k».proof.Proof.Gen.KernelRmFIdeal.Value
public import proofs.«01_k».proof.Proof.Gen.ReferenceRmFIdeal.Read
public import proofs.«01_k».proof.Proof.NormMath
public import proofs.«01_k».proof.Proof.Rows
@[expose] public section
set_option maxRecDepth 16384
noncomputable section

/-! The norm's backward before the feed-forward, over its grid of tiles of 256 rows. -/

namespace Cert.Norm.Ffn
open Cert.KernelRmFIdeal Cert.KernelRmFIdeal.Gen Cert.Rows Cert.Norm Idealize.ShloMosaic Idealize.ShloMosaic.TcCoe
open Idealize.SL Idealize.SL.Sem

section Pay
variable (x0 x2 x3 : Vec Ideal S256x2048 .f32) (x1 : Vec Ideal S1x2048 .f32)

theorem pay2_apply (a : Fin 256) : k0_pay2 (F := Ideal) x0 (ix2 a 0) = rms fun k : Fin 2048 => x0 (ix2 a k) := by
  unfold k0_pay2
  pointwise
  rfl

theorem pay3_apply (a : Fin 256) (b : Fin 2048) :
    k0_pay3 (F := Ideal) x0 (ix2 a b) = x0 (ix2 a b) * rms fun k : Fin 2048 => x0 (ix2 a k) := by
  unfold k0_pay3
  pointwise
  rw [pay2_apply]

theorem pay4_apply (a : Fin 256) (b : Fin 2048) :
    k0_pay4 (F := Ideal) x0 x2 x1 x3 (ix2 a b) = x3 (ix2 a b) + gradRow (fun k => x0 (ix2 a k)) (fun k => x2 (ix2 a k) * x1 (ix2 0 k)) b := by
  unfold k0_pay4
  pointwise
  simp only [pay3_apply, pay2_apply]
  rfl

theorem pay5_apply (a : Fin 256) (b : Fin 2048) :
    k0_pay5 (F := Ideal) x0 x2 x1 x3 (ix2 a b) = x3 (ix2 a b) + gradRow (fun k => x0 (ix2 a k)) (fun k => x2 (ix2 a k) * x1 (ix2 0 k)) b := by
  unfold k0_pay5
  pointwise
  rw [pay4_apply]

theorem pay1_apply (xo : Vec Ideal S1x2048 .f32) (b : Fin 2048) :
    k0_pay1 (F := Ideal) (k0_pay3 x0) x2 xo (ix2 0 b)
      = xo (ix2 0 b) + ∑ a : Fin 256, x2 (ix2 a b) * (x0 (ix2 a b) * rms fun k : Fin 2048 => x0 (ix2 a k)) := by
  unfold k0_pay1
  pointwise
  simp only [pay3_apply]
end Pay

section Out
variable (x0 x2 x3 : Vec Ideal S256x2048 .f32) (x1 xo : Vec Ideal S1x2048 .f32) (co : Dev nD) (i : grid0.Coords)
  (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)

theorem out_A_4 (hc : cond0_0 i) (a : Fin 256) (b : Fin 2048) :
    out0_A_4 (F := Ideal) co i arg1 harg1 arg2 harg2 arg3 harg3 arg4 harg4 arg5 harg5 arg6 harg6 arg7 harg7 hc x0 x1 x2 x3 (ix2 a b)
      = x3 (ix2 a b) + gradRow (fun k => x0 (ix2 a k)) (fun k => x2 (ix2 a k) * x1 (ix2 0 k)) b := by
  unfold out0_A_4
  rw [View.read_writes_eq_canon _ _ _ (cover0_A_4 co i arg1 harg1 arg2 harg2 arg3 harg3 arg4 harg4 arg5 harg5 arg6 harg6 arg7 harg7 hc x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  rw [View.canon_unit_zero (S := S256x2048) hz2]
  exact pay4_apply _ _ _ _ a b

theorem out_B_4 (hc : ¬cond0_0 i) (a : Fin 256) (b : Fin 2048) :
    out0_B_4 (F := Ideal) co i arg1 harg1 arg2 harg2 arg3 harg3 arg4 harg4 arg5 harg5 arg6 harg6 arg7 harg7 hc x0 x1 x2 x3 xo (ix2 a b)
      = x3 (ix2 a b) + gradRow (fun k => x0 (ix2 a k)) (fun k => x2 (ix2 a k) * x1 (ix2 0 k)) b := by
  unfold out0_B_4
  rw [View.read_writes_eq_canon _ _ _ (cover0_B_4 co i arg1 harg1 arg2 harg2 arg3 harg3 arg4 harg4 arg5 harg5 arg6 harg6 arg7 harg7 hc x0 x1 x2 x3 xo)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  rw [View.canon_unit_zero (S := S256x2048) hz2]
  exact pay4_apply _ _ _ _ a b

theorem out_A_5 (hc : cond0_0 i) (a : Fin 256) (b : Fin 2048) :
    out0_A_5 (F := Ideal) co i arg1 harg1 arg2 harg2 arg3 harg3 arg4 harg4 arg5 harg5 arg6 harg6 arg7 harg7 hc x0 x1 x2 x3 (ix2 a b)
      = x3 (ix2 a b) + gradRow (fun k => x0 (ix2 a k)) (fun k => x2 (ix2 a k) * x1 (ix2 0 k)) b := by
  unfold out0_A_5
  rw [View.read_writes_eq_canon _ _ _ (cover0_A_5 co i arg1 harg1 arg2 harg2 arg3 harg3 arg4 harg4 arg5 harg5 arg6 harg6 arg7 harg7 hc x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  rw [View.canon_unit_zero (S := S256x2048) hz2]
  exact pay5_apply _ _ _ _ a b

theorem out_B_5 (hc : ¬cond0_0 i) (a : Fin 256) (b : Fin 2048) :
    out0_B_5 (F := Ideal) co i arg1 harg1 arg2 harg2 arg3 harg3 arg4 harg4 arg5 harg5 arg6 harg6 arg7 harg7 hc x0 x1 x2 x3 xo (ix2 a b)
      = x3 (ix2 a b) + gradRow (fun k => x0 (ix2 a k)) (fun k => x2 (ix2 a k) * x1 (ix2 0 k)) b := by
  unfold out0_B_5
  rw [View.read_writes_eq_canon _ _ _ (cover0_B_5 co i arg1 harg1 arg2 harg2 arg3 harg3 arg4 harg4 arg5 harg5 arg6 harg6 arg7 harg7 hc x0 x1 x2 x3 xo)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  rw [View.canon_unit_zero (S := S256x2048) hz2]
  exact pay5_apply _ _ _ _ a b

theorem out_A_6 (hc : cond0_0 i) (b : Fin 2048) :
    out0_A_6 (F := Ideal) co i arg1 harg1 arg2 harg2 arg3 harg3 arg4 harg4 arg5 harg5 arg6 harg6 arg7 harg7 hc x0 x1 x2 x3 (ix2 0 b)
      = 0 + ∑ a : Fin 256, x2 (ix2 a b) * (x0 (ix2 a b) * rms fun k : Fin 2048 => x0 (ix2 a k)) := by
  unfold out0_A_6
  rw [View.read_writes_eq_canon _ _ _ (cover0_A_6 co i arg1 harg1 arg2 harg2 arg3 harg3 arg4 harg4 arg5 harg5 arg6 harg6 arg7 harg7 hc x0 x1 x2 x3)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  simp only [View.readCov_unit_zero (S := S1x2048) _ hz2]
  rw [View.canon_cons_unit_zero (S := S1x2048) hz2]
  refine (pay1_apply _ _ _ b).trans (congrArg (· + _) ?_)
  unfold k0_pay6
  pointwise

theorem out_B_6 (hc : ¬cond0_0 i) (b : Fin 2048) :
    out0_B_6 (F := Ideal) co i arg1 harg1 arg2 harg2 arg3 harg3 arg4 harg4 arg5 harg5 arg6 harg6 arg7 harg7 hc x0 x1 x2 x3 xo (ix2 0 b)
      = xo (ix2 0 b) + ∑ a : Fin 256, x2 (ix2 a b) * (x0 (ix2 a b) * rms fun k : Fin 2048 => x0 (ix2 a k)) := by
  unfold out0_B_6
  rw [View.read_writes_eq_canon _ _ _ (cover0_B_6 co i arg1 harg1 arg2 harg2 arg3 harg3 arg4 harg4 arg5 harg5 arg6 harg6 arg7 harg7 hc x0 x1 x2 x3 xo)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  rw [View.canon_unit_zero (S := S1x2048) hz2]
  exact pay1_apply _ _ _ b
end Out

open Cert.ReferenceRmFIdeal.Read in
theorem ref_dx (x0 : Vec Ideal ReferenceRmFIdeal.S4096x2048 .f32) (x1 : Vec Ideal ReferenceRmFIdeal.S2048 .f32)
    (x2 x3 : Vec Ideal ReferenceRmFIdeal.S4096x2048 .f32) (a : Fin 4096) (b : Fin 2048) :
    val_main_v36 (F := Ideal) x0 x1 x2 x3 (ix2 a b)
      = x3 (ix2 a b) + gradRow (fun k : Fin 2048 => x0 (ix2 a k)) (fun k => x2 (ix2 a k) * x1 (ix1 k)) b := by
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v19, val_main_v13, val_main_v10,
    val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  simp only [Fin.sum_univ_one]
  rw [← grad_eq]
  rfl

open Cert.ReferenceRmFIdeal.Read in
theorem ref_dxb (x0 : Vec Ideal ReferenceRmFIdeal.S4096x2048 .f32) (x1 : Vec Ideal ReferenceRmFIdeal.S2048 .f32)
    (x2 x3 : Vec Ideal ReferenceRmFIdeal.S4096x2048 .f32) (a : Fin 4096) (b : Fin 2048) :
    val_main_v37 (F := Ideal) x0 x1 x2 x3 (ix2 a b) = val_main_v36 (F := Ideal) x0 x1 x2 x3 (ix2 a b) := by
  pointwise [val_main_v37]

open Cert.ReferenceRmFIdeal.Read in
theorem ref_dg (x0 x2 : Vec Ideal ReferenceRmFIdeal.S4096x2048 .f32) (b : Fin 2048) :
    val_main_v38 (F := Ideal) x0 x2 (ix2 0 b) = ∑ a : Fin 4096, x2 (ix2 a b) * (x0 (ix2 a b) * rms fun k : Fin 2048 => x0 (ix2 a k)) := by
  pointwise [val_main_v38, val_main_v21, val_main_v18, val_main_v17, val_main_v16, val_main_v12, val_main_v11,
    val_main_v7, val_main_v6, val_main_v5, val_main_v4, val_main_v3, val_main_v2, val_main_v1, val_main_v0,
    val_main_cst, val_main_cst_0, val_main_cst_1, val_main_cst_3, val_main_cst_4]
  rw [Fin.sum_univ_one]
  refine Finset.sum_congr rfl fun a _ => (mul_comm (_ : EReal) _).trans ?_
  rfl

variable (m : (ℓ : Loc nD τ sig) → Buf (Elt Ideal) ℓ) (c : Dev nD)

/-- The arguments, read at natural numbers. -/
def aX (t l : ℕ) : EReal := at2 (m ((c : Thread nD τ).loc main_arg0)) t l
def aG (l : ℕ) : EReal := at1 (m ((c : Thread nD τ).loc main_arg1)) l
def aD (t l : ℕ) : EReal := at2 (m ((c : Thread nD τ).loc main_arg2)) t l
def aR (t l : ℕ) : EReal := at2 (m ((c : Thread nD τ).loc main_arg3)) t l

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem lt16 (t : Fin cfg0.N) : t.val < 16 := lt_of_lt_of_eq t.isLt N_0

theorem blk0 (t : Fin cfg0.N) (a : Fin 256) (l : Fin 2048) : (iblk m c 0 t) (ix2 a l) = aX m c (t.val * 256 + a.val) l.val := by
  have ht := lt16 t
  have ha := a.isLt
  refine Eq.trans ?_ (at2_of_lt _ (by omega) l.isLt).symm
  blk_ext [iblk, V, idx0 t]

/-- The gain as the kernel's row. -/
theorem gain_row (l : Fin 2048) : V m c main_v0 (ix2 0 l) = aG m c l.val := by
  refine Eq.trans ?_ (at1_of_lt _ l.isLt).symm
  entry_read
  pointwise

theorem blk1 (t : Fin cfg0.N) (l : Fin 2048) : (iblk m c 1 t) (ix2 0 l) = aG m c l.val := by
  refine Eq.trans ?_ (gain_row m c l)
  blk_ext [iblk, idx1 t]

theorem blk2 (t : Fin cfg0.N) (a : Fin 256) (l : Fin 2048) : (iblk m c 2 t) (ix2 a l) = aD m c (t.val * 256 + a.val) l.val := by
  have ht := lt16 t
  have ha := a.isLt
  refine Eq.trans ?_ (at2_of_lt _ (by omega) l.isLt).symm
  blk_ext [iblk, V, idx2 t]

theorem blk3 (t : Fin cfg0.N) (a : Fin 256) (l : Fin 2048) : (iblk m c 3 t) (ix2 a l) = aR m c (t.val * 256 + a.val) l.val := by
  have ht := lt16 t
  have ha := a.isLt
  refine Eq.trans ?_ (at2_of_lt _ (by omega) l.isLt).symm
  blk_ext [iblk, V, idx3 t]

theorem rows (t : Fin cfg0.N) (a : Fin 256) (b : Fin 2048) :
    (outsAt0 m c t.val t.isLt).1 (ix2 a b) = dxAt (aX m c) (aG m c) (aD m c) (aR m c) (t.val * 256 + a.val) b.val := by
  by_cases h0 : t.val % 16 = 0
  · rw [outsAt0_A m c t h0]
    dsimp only
    exact (out_A_4 _ _ _ _ _ _ _ _ _ _ _ _ _ _ _ _ _ _ _ _ _ a b).trans (dx_blk (n := 256) (x1 := fun l => (iblk m c 1 t) (ix2 0 l)) (blk0 m c t) (blk1 m c t) (blk2 m c t) (blk3 m c t) a b)
  · rw [outsAt0_B m c t h0]
    dsimp only
    exact (out_B_4 _ _ _ _ _ _ _ _ _ _ _ _ _ _ _ _ _ _ _ _ _ _ a b).trans (dx_blk (n := 256) (x1 := fun l => (iblk m c 1 t) (ix2 0 l)) (blk0 m c t) (blk1 m c t) (blk2 m c t) (blk3 m c t) a b)

theorem rows5 (t : Fin cfg0.N) (a : Fin 256) (b : Fin 2048) :
    (outsAt0 m c t.val t.isLt).2.1 (ix2 a b) = dxAt (aX m c) (aG m c) (aD m c) (aR m c) (t.val * 256 + a.val) b.val := by
  by_cases h0 : t.val % 16 = 0
  · rw [outsAt0_A m c t h0]
    dsimp only
    exact (out_A_5 _ _ _ _ _ _ _ _ _ _ _ _ _ _ _ _ _ _ _ _ _ a b).trans (dx_blk (n := 256) (x1 := fun l => (iblk m c 1 t) (ix2 0 l)) (blk0 m c t) (blk1 m c t) (blk2 m c t) (blk3 m c t) a b)
  · rw [outsAt0_B m c t h0]
    dsimp only
    exact (out_B_5 _ _ _ _ _ _ _ _ _ _ _ _ _ _ _ _ _ _ _ _ _ _ a b).trans (dx_blk (n := 256) (x1 := fun l => (iblk m c 1 t) (ix2 0 l)) (blk0 m c t) (blk1 m c t) (blk2 m c t) (blk3 m c t) a b)

theorem gains : ∀ (n : ℕ) (hn : n < cfg0.N) (b : Fin 2048),
    (outsAt0 m c n hn).2.2 (ix2 0 b) = ∑ x ∈ Finset.range ((n + 1) * 256), dgAt (aX m c) (aD m c) b.val x := by
  intro n
  induction n with
  | zero =>
    intro hn b
    rw [outsAt0_A m c ⟨0, hn⟩ (Nat.zero_mod _)]
    dsimp only
    refine (out_A_6 _ _ _ _ _ _ _ _ _ _ _ _ _ _ _ _ _ _ _ _ _ b).trans ?_
    rw [dg_blk (n := 256) (blk0 m c ⟨0, hn⟩) (blk2 m c ⟨0, hn⟩), ← sum_tile]
    simp
  | succ n ih =>
    intro hn b
    have hN : n + 1 < 16 := lt_of_lt_of_eq hn N_0
    rw [outsAt0_B m c ⟨n + 1, hn⟩ (by show ¬(n + 1) % 16 = 0; omega)]
    dsimp only
    refine (out_B_6 _ _ _ _ _ _ _ _ _ _ _ _ _ _ _ _ _ _ _ _ _ _ b).trans ?_
    rw [dg_blk (n := 256) (blk0 m c ⟨n + 1, hn⟩) (blk2 m c ⟨n + 1, hn⟩), ← sum_tile]
    exact congrArg (· + _) (ih _ b)

/-- The result arrays. -/
def G4 : Vec Ideal S4096x2048 .f32 := fun i => dxAt (aX m c) (aG m c) (aD m c) (aR m c) (i 0).val (i 1).val
def G5 : Vec Ideal S4096x2048 .bf16 := fun i => dxAt (aX m c) (aG m c) (aD m c) (aR m c) (i 0).val (i 1).val
def G6 : Vec Ideal S1x2048 .f32 := fun i => ∑ x ∈ Finset.range 4096, dgAt (aX m c) (aD m c) (i 1).val x

theorem final4 : (dats m 0 c).arrAt 4 cfg0.N = G4 m c := by
  refine (dats m 0 c).arrAt_eq_of_covers 4 _ (by decide +kernel) fun t hf y => ?_
  blk_simp
  rw [after0_4]
  idx_vars y
  refine (rows m c t _ _).trans ?_
  unfold G4
  blk_simp [idx4 t]

theorem final5 : (dats m 0 c).arrAt 5 cfg0.N = G5 m c := by
  refine (dats m 0 c).arrAt_eq_of_covers 5 _ (by decide +kernel) fun t hf y => ?_
  blk_simp
  rw [after0_5]
  idx_vars y
  refine (rows5 m c t _ _).trans ?_
  unfold G5
  blk_simp [idx5 t]

theorem final6 : (dats m 0 c).arrAt 6 cfg0.N = G6 m c := by
  refine (dats m 0 c).arrAt_eq_of_covers 6 _ (by decide +kernel) fun t hf y => ?_
  blk_simp
  rw [after0_6]
  have h1 : t.val % 16 = 15 := (flush0_6 t).mp hf
  have ht := lt16 t
  have e : t.val = 15 := by omega
  idx_vars y
  obtain rfl : y0 = 0 := Subsingleton.elim _ _
  refine (gains m c t.val t.isLt _).trans ?_
  unfold G6
  rw [e]
  blk_simp [idx6 t]

theorem ref4 : ReferenceRmFIdeal.Read.val_main_v36 (F := Ideal) (m ((c.tc : Thread nD τ).loc main_arg0))
    (m ((c.tc : Thread nD τ).loc main_arg1)) (m ((c.tc : Thread nD τ).loc main_arg2)) (m ((c.tc : Thread nD τ).loc main_arg3)) = G4 m c := by
  funext j
  idx_vars j
  refine (ref_dx _ _ _ _ _ _).trans ?_
  refine congrArg₂ (· + ·) (at2_eq _ _ _ rfl rfl) (gradN_eq _ _ _ (fun k => at2_eq _ _ _ rfl rfl) fun k => ?_)
  exact congrArg₂ (· * ·) (at2_eq _ _ _ rfl rfl) (at1_of_lt _ k.isLt).symm

theorem ref5 : ReferenceRmFIdeal.Read.val_main_v37 (F := Ideal) (m ((c.tc : Thread nD τ).loc main_arg0))
    (m ((c.tc : Thread nD τ).loc main_arg1)) (m ((c.tc : Thread nD τ).loc main_arg2)) (m ((c.tc : Thread nD τ).loc main_arg3)) = G5 m c := by
  funext j
  have h := congrFun (ref4 m c) j
  idx_vars j
  exact (ref_dxb _ _ _ _ _ _).trans h

theorem ref6 : ReferenceRmFIdeal.Read.val_main_v38 (F := Ideal) (m ((c.tc : Thread nD τ).loc main_arg0))
    (m ((c.tc : Thread nD τ).loc main_arg2)) = G6 m c := by
  funext j
  idx_vars j
  obtain rfl : j0 = 0 := Subsingleton.elim _ _
  refine (ref_dg _ _ _).trans ?_
  unfold G6
  rw [← sum_all]
  refine Finset.sum_congr rfl fun a _ => ?_
  exact congrArg₂ (· * ·) (at2_eq _ _ _ rfl rfl)
    (congrArg₂ (· * ·) (at2_eq _ _ _ rfl rfl) (rmsN_eq _ fun k => at2_eq _ _ _ rfl rfl))

theorem algebraic : Cert.algebraic_KernelRmFIdeal_ReferenceRmFIdeal := by
  intro m g m' g' _ hagree
  refine ⟨fun c => G4 m c, fun c => G5 m c, fun c => G6 m c, ?_, ?_⟩
  · refine (θ_run _ _ _).mono (fun r h c => ?_) (Cert.KernelRmFIdeal.Value.run_blocks (F := Ideal) m g)
    obtain ⟨h0, h1, h2, hrest⟩ := h c
    exact ⟨h0.trans (final4 m c), h1.trans (final5 m c), h2.trans (final6 m c), hrest⟩
  · refine (θ_run _ _ _).mono (fun r h c => ?_) (Cert.ReferenceRmFIdeal.Value.run (F := Ideal) m' g')
    obtain ⟨a0, a1, a2, a3⟩ := hagree c
    obtain ⟨h0, h1, h2, hrest⟩ := h c
    refine ⟨?_, ?_, ?_, hrest⟩
    · refine (h0.trans (Cert.ReferenceRmFIdeal.Read.val_main_v36_eq _ _ _ _)).trans ?_
      rw [a0, a1, a2, a3]
      exact ref4 m c
    · refine (h1.trans (Cert.ReferenceRmFIdeal.Read.val_main_v37_eq _ _ _ _)).trans ?_
      rw [a0, a1, a2, a3]
      exact ref5 m c
    · refine (h2.trans (Cert.ReferenceRmFIdeal.Read.val_main_v38_eq _ _)).trans ?_
      rw [a0, a2]
      exact ref6 m c

end Cert.Norm.Ffn
-- ==== Proof.NormForward.lean ====
module
public import proofs.«01_k».proof.Defs
public import proofs.«01_k».proof.Proof.Gen.KernelRmIdeal.Value
public import proofs.«01_k».proof.Proof.Gen.ReferenceRmIdeal.Read
public import proofs.«01_k».proof.Proof.NormMath
public import proofs.«01_k».proof.Proof.Rows
@[expose] public section
set_option maxRecDepth 16384
noncomputable section

/-! The norm's forward, over its grid of tiles of 512 rows. -/

namespace Cert.Norm.Forward
open Cert.KernelRmIdeal Cert.KernelRmIdeal.Gen Cert.Rows Cert.Norm Idealize.ShloMosaic Idealize.ShloMosaic.TcCoe
open Idealize.SL Idealize.SL.Sem

/-- The normalised entry at a row and a column, of the arguments read at natural numbers. -/
def normed (x : (⟨2, ![4096, 2048]⟩ : Shape).Idx → EReal) (g : (⟨1, ![2048]⟩ : Shape).Idx → EReal) (r l : ℕ) : EReal :=
  at2 x r l * rmsN (at2 x r) * at1 g l

theorem out_apply (x0 : Vec Ideal S512x2048 .f32) (x1 : Vec Ideal S1x2048 .f32) (a : Fin 512) (b : Fin 2048) :
    out0_2 (F := Ideal) x0 x1 (ix2 a b) = x0 (ix2 a b) * rms (fun k : Fin 2048 => x0 (ix2 a k)) * x1 (ix2 0 b) := by
  unfold out0_2 k0_pay1
  rw [View.canon_unit_zero (S := S512x2048) hz2]
  simp only [r0_0, r0_1, View.ld_unit_zero (S := S512x2048) hz2, View.ld_unit_zero (S := S1x2048) hz2]
  pointwise
  rfl

open Cert.ReferenceRmIdeal.Read in
theorem ref_apply (x0 : Vec Ideal ReferenceRmIdeal.S4096x2048 .f32) (x1 : Vec Ideal ReferenceRmIdeal.S2048 .f32)
    (a : Fin 4096) (b : Fin 2048) : val_main_v13 (F := Ideal) x0 x1 (ix2 a b) = normed x0 x1 a.val b.val := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  unfold normed
  exact congrArg₂ (· * ·) (congrArg₂ (· * ·) (at2_eq _ _ _ rfl rfl) (rmsN_eq _ fun k => at2_eq _ _ _ rfl rfl))
    (at1_of_lt _ b.isLt).symm

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt8 (t : Fin cfg0.N) : t.val < 8 := lt_of_lt_of_eq t.isLt N_0

theorem blk0 (t : Fin cfg0.N) (a : Fin 512) (l : Fin 2048) :
    (iblk m c 0 t) (ix2 a l) = at2 (m ((c : Thread nD τ).loc main_arg0)) (t.val * 512 + a.val) l.val := by
  have ht := lt8 t
  have ha := a.isLt
  refine Eq.trans ?_ (at2_of_lt _ (by omega) l.isLt).symm
  blk_ext [iblk, V, idx0 t]

/-- The gain as the kernel's row. -/
theorem gain_row (l : Fin 2048) : V m c main_v0 (ix2 0 l) = at1 (m ((c : Thread nD τ).loc main_arg1)) l.val := by
  refine Eq.trans ?_ (at1_of_lt _ l.isLt).symm
  entry_read
  pointwise

theorem blk1 (t : Fin cfg0.N) (l : Fin 2048) : (iblk m c 1 t) (ix2 0 l) = at1 (m ((c : Thread nD τ).loc main_arg1)) l.val := by
  refine Eq.trans ?_ (gain_row m c l)
  blk_ext [iblk, idx1 t]

/-- The result array. -/
def G2 : Vec Ideal S4096x2048 .bf16 := fun i =>
  normed (m ((c : Thread nD τ).loc main_arg0)) (m ((c : Thread nD τ).loc main_arg1)) (i 0).val (i 1).val

theorem final : (dats m 0 c).arrAt 2 cfg0.N = G2 m c := by
  refine (dats m 0 c).arrAt_eq_of_covers 2 _ (by decide +kernel) fun t hf y => ?_
  blk_simp
  rw [after0_2]
  idx_vars y
  refine (out_apply _ _ _ _).trans ?_
  refine (congrArg₂ (fun p q : EReal => p * q) (congrArg₂ (fun p q : EReal => p * q) (blk0 m c t _ _) (rmsN_eq _ fun k => blk0 m c t _ k)) (blk1 m c t _)).trans ?_
  unfold G2 normed
  blk_simp [idx2 t]

theorem ref : ReferenceRmIdeal.Read.val_main_v13 (F := Ideal) (m ((c.tc : Thread nD τ).loc main_arg0))
    (m ((c.tc : Thread nD τ).loc main_arg1)) = G2 m c := by
  funext j
  idx_vars j
  exact ref_apply _ _ _ _

theorem algebraic : Cert.algebraic_KernelRmIdeal_ReferenceRmIdeal := by
  intro m g m' g' _ hagree
  refine ⟨fun c => G2 m c, ?_, ?_⟩
  · refine (θ_run _ _ _).mono (fun r h c => ?_) (Cert.KernelRmIdeal.Value.run_blocks (F := Ideal) m g)
    obtain ⟨h0, hrest⟩ := h c
    exact ⟨h0.trans (final m c), hrest⟩
  · refine (θ_run _ _ _).mono (fun r h c => ?_) (Cert.ReferenceRmIdeal.Value.run (F := Ideal) m' g')
    obtain ⟨a0, a1⟩ := hagree c
    obtain ⟨h0, hrest⟩ := h c
    refine ⟨(h0.trans (Cert.ReferenceRmIdeal.Read.val_main_v13_eq _ _)).trans ?_, hrest⟩
    rw [a0, a1]
    exact ref m c

end Cert.Norm.Forward
-- ==== Proof.ScForward.lean ====
module
public import proofs.«01_k».proof.Defs
public import proofs.«01_k».proof.Proof.Gen.KernelScFIdeal.Value
public import proofs.«01_k».proof.Proof.Gen.ReferenceScFIdeal.Read
public import proofs.«01_k».proof.Proof.ScPoint
@[expose] public section
set_option maxRecDepth 16384
noncomputable section

/-! The gated short convolution's forward, over its grid: each point's blocks, the eight rows carried to the next chunk,
and the result array. -/

namespace Cert.ScFwd
open Cert.KernelScFIdeal Cert.KernelScFIdeal.Gen Cert.Rows Cert.Sc.Point Idealize.ShloMosaic Idealize.ShloMosaic.TcCoe
open Idealize.SL Idealize.SL.Sem

section Pay
variable {B C V W : ℕ → ℕ → EReal} {R J : ℕ}
variable {x0 x1 x2 : Vec Ideal S256x512 .f32} {x3 : Vec Ideal S3x512 .f32} {xs : Vec Ideal S8x512 .f32}

/-- The blocks of a point are the arrays' rows `R …` and columns `J …`. -/
structure Blocks (B C V W : ℕ → ℕ → EReal) (R J : ℕ) (x0 x1 x2 : Vec Ideal S256x512 .f32) (x3 : Vec Ideal S3x512 .f32) : Prop where
  b : ∀ (a : Fin 256) (l : Fin 512), x0 (ix2 a l) = B (R + a.val) (J + l.val)
  c : ∀ (a : Fin 256) (l : Fin 512), x1 (ix2 a l) = C (R + a.val) (J + l.val)
  v : ∀ (a : Fin 256) (l : Fin 512), x2 (ix2 a l) = V (R + a.val) (J + l.val)
  w : ∀ (a : Fin 3) (l : Fin 512), x3 (ix2 a l) = W a.val (J + l.val)

/-- The carried rows: the last eight of `c · v` before row `R`, zero before the first row. -/
def Carry (C V : ℕ → ℕ → EReal) (R J : ℕ) (xs : Vec Ideal S8x512 .f32) : Prop :=
  ∀ (a : Fin 8) (l : Fin 512), xs (ix2 a l) = cvB C V (R + a.val) 8 (J + l.val)

theorem pay2_apply (h : Blocks B C V W R J x0 x1 x2 x3) (a : Fin 256) (l : Fin 512) :
    k0_pay2 (F := Ideal) x1 x2 (ix2 a l) = cvB C V (R + a.val) 0 (J + l.val) := by
  pointwise [k0_pay2]
  rw [h.c, h.v]
  exact (if_pos (Nat.zero_le _)).symm

theorem cvB_shift (t k j : ℕ) (c : ℕ) : cvB C V (t + j) (k + j) c = cvB C V t k c := by
  unfold cvB
  by_cases hk : k ≤ t
  · rw [if_pos hk, if_pos (by omega), show t + j - (k + j) = t - k by omega]
  · rw [if_neg hk, if_neg (by omega)]

/-- The chunk of `c · v` with the eight rows before it. -/
theorem halo (h : Blocks B C V W R J x0 x1 x2 x3) (hx : Carry C V R J xs) (n : Fin 264) (l : Fin 512) (a k : ℕ) (hk : k ≤ 8)
    (hn : n.val + k = a + 8) :
    (if h : n.val < 8 then xs (ix2 ⟨n.val, h⟩ l) else k0_pay2 (F := Ideal) x1 x2 (ix2 ⟨n.val - 8, by omega⟩ l))
      = cvB C V (R + a) k (J + l.val) := by
  by_cases h1 : n.val < 8
  · refine (dif_pos h1).trans ((hx _ l).trans ?_)
    show cvB C V (R + n.val) 8 _ = _
    rw [← cvB_shift (R + a) k (8 - k), show R + a + (8 - k) = R + n.val by omega, show k + (8 - k) = 8 by omega]
  · refine (dif_neg h1).trans ((pay2_apply h _ l).trans ?_)
    show cvB C V (R + (n.val - 8)) 0 _ = _
    rw [← cvB_shift (R + (n.val - 8)) 0 k, show R + (n.val - 8) + k = R + a by omega, Nat.zero_add]

theorem pay4_apply (h : Blocks B C V W R J x0 x1 x2 x3) (hx : Carry C V R J xs) (a : Fin 256) (l : Fin 512) :
    k0_pay4 (F := Ideal) x1 x2 xs x0 x3 (ix2 a l) = B (R + a.val) (J + l.val) * q C V W (R + a.val) (J + l.val) := by
  unfold k0_pay4
  pointwise
  have ha := a.isLt
  refine congrArg₂ (fun p q : EReal => p * q) (h.b a l) ?_
  refine congrArg₂ (fun p q : EReal => p + q) (congrArg₂ (fun p q : EReal => p + q) (congrArg₂ (fun p q : EReal => p * q) ?_ (h.w 0 l))
    (congrArg₂ (fun p q : EReal => p * q) ?_ (h.w 1 l))) (congrArg₂ (fun p q : EReal => p * q) ?_ (h.w 2 l))
  · exact halo h hx ⟨(8 + a.val + 264 - 2) % 264, by omega⟩ l a.val 2 (by omega) (by show (8 + a.val + 264 - 2) % 264 + 2 = _; omega)
  · exact halo h hx ⟨(8 + a.val + 264 - 1) % 264, by omega⟩ l a.val 1 (by omega) (by show (8 + a.val + 264 - 1) % 264 + 1 = _; omega)
  · exact pay2_apply h a l

/-- The rows carried on. -/
theorem pay3_apply (h : Blocks B C V W R J x0 x1 x2 x3) : Carry C V (R + 256) J (k0_pay3 (F := Ideal) x1 x2) := by
  intro a l
  unfold k0_pay3
  pointwise
  refine (pay2_apply h _ l).trans ?_
  show cvB C V (R + (248 + a.val)) 0 _ = _
  rw [← cvB_shift (R + (248 + a.val)) 0 8, show R + (248 + a.val) + 8 = R + 256 + a.val by omega]

theorem pay1_carry : Carry C V 0 J (k0_pay1 (F := Ideal)) := by
  intro a l
  unfold k0_pay1
  pointwise
  have ha := a.isLt
  exact (if_neg (by omega)).symm
end Pay

section Out
variable {B C V W : ℕ → ℕ → EReal} {R J : ℕ} {i : grid0.Coords}
  {x0 x1 x2 : Vec Ideal S256x512 .f32} {x3 : Vec Ideal S3x512 .f32} (h : Blocks B C V W R J x0 x1 x2 x3) (co : Dev nD)
  (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S3x512 .f32) (harg5 : arg5.IsWhole) (arg6 : Memref sig .tc .vmem S256x512 .bf16) (harg6 : arg6.IsWhole) (arg7 : Memref sig .tc .vmem S8x512 .f32) (harg7 : arg7.IsWhole)
include h

theorem out_A (hc : cond0_0 i) (hR : R = 0) (a : Fin 256) (l : Fin 512) :
    out0_A_4 (F := Ideal) co i arg2 harg2 arg3 harg3 arg4 harg4 arg5 harg5 arg6 harg6 arg7 harg7 hc x0 x1 x2 x3 (ix2 a l) = B (R + a.val) (J + l.val) * q C V W (R + a.val) (J + l.val) := by
  unfold out0_A_4
  rw [View.read_writes_eq_canon _ _ _ (cover0_A_4 co i arg2 harg2 arg3 harg3 arg4 harg4 arg5 harg5 arg6 harg6 arg7 harg7 hc x0 x1 x2 x3)]
  unfold kernelRun0_A
  dsimp only
  sl_unfold_words
  simp only [View.readAt_eq_ld, harg2.read_unread, harg3.read_unread, harg4.read_unread, harg5.read_unread, harg6.read_unread, harg7.read_unread, View.ld_unit_zero (S := S256x512) hz2, View.ld_unit_zero (S := S3x512) hz2, View.ld_unit_zero (S := S8x512) hz2, shapeCast_self]
  rw [View.canon_unit_zero (S := S256x512) hz2]
  rw [View.readCov_unit_zero (S := S8x512) _ hz2]
  subst hR
  exact pay4_apply h pay1_carry a l

theorem sout_A (hc : cond0_0 i) :
    Carry C V (R + 256) J (sout0_A_0 (F := Ideal) co i arg2 harg2 arg3 harg3 arg4 harg4 arg5 harg5 arg6 harg6 arg7 harg7 hc x0 x1 x2 x3) := by
  unfold sout0_A_0
  rw [View.read_writes_eq_canon _ _ _ (scover0_A_0 co i arg2 harg2 arg3 harg3 arg4 harg4 arg5 harg5 arg6 harg6 arg7 harg7 hc x0 x1 x2 x3)]
  unfold kernelRun0_A
  dsimp only
  sl_unfold_words
  simp only [View.readAt_eq_ld, harg2.read_unread, harg3.read_unread, harg4.read_unread, harg5.read_unread, harg6.read_unread, harg7.read_unread, View.ld_unit_zero (S := S256x512) hz2, View.ld_unit_zero (S := S3x512) hz2, View.ld_unit_zero (S := S8x512) hz2, shapeCast_self]
  rw [View.canon_cons_unit_zero (S := S8x512) hz2]
  exact pay3_apply h

theorem out_B (hc : ¬cond0_0 i) (xs : Vec Ideal S8x512 .f32) (hx : Carry C V R J xs) (a : Fin 256) (l : Fin 512) :
    out0_B_4 (F := Ideal) co i arg2 harg2 arg3 harg3 arg4 harg4 arg5 harg5 arg6 harg6 arg7 harg7 hc x0 x1 x2 x3 xs (ix2 a l) = B (R + a.val) (J + l.val) * q C V W (R + a.val) (J + l.val) := by
  unfold out0_B_4
  rw [View.read_writes_eq_canon _ _ _ (cover0_B_4 co i arg2 harg2 arg3 harg3 arg4 harg4 arg5 harg5 arg6 harg6 arg7 harg7 hc x0 x1 x2 x3 xs)]
  unfold kernelRun0_B
  dsimp only
  sl_unfold_words
  simp only [View.readAt_eq_ld, harg2.read_unread, harg3.read_unread, harg4.read_unread, harg5.read_unread, harg6.read_unread, harg7.read_unread, View.ld_unit_zero (S := S256x512) hz2, View.ld_unit_zero (S := S3x512) hz2, View.ld_unit_zero (S := S8x512) hz2, shapeCast_self]
  rw [View.canon_unit_zero (S := S256x512) hz2]
  exact pay4_apply h hx a l

theorem sout_B (hc : ¬cond0_0 i) (xs : Vec Ideal S8x512 .f32) :
    Carry C V (R + 256) J (sout0_B_0 (F := Ideal) co i arg2 harg2 arg3 harg3 arg4 harg4 arg5 harg5 arg6 harg6 arg7 harg7 hc x0 x1 x2 x3 xs) := by
  unfold sout0_B_0
  rw [View.read_writes_eq_canon _ _ _ (scover0_B_0 co i arg2 harg2 arg3 harg3 arg4 harg4 arg5 harg5 arg6 harg6 arg7 harg7 hc x0 x1 x2 x3 xs)]
  unfold kernelRun0_B
  dsimp only
  sl_unfold_words
  simp only [View.readAt_eq_ld, harg2.read_unread, harg3.read_unread, harg4.read_unread, harg5.read_unread, harg6.read_unread, harg7.read_unread, View.ld_unit_zero (S := S256x512) hz2, View.ld_unit_zero (S := S3x512) hz2, View.ld_unit_zero (S := S8x512) hz2, shapeCast_self]
  rw [View.canon_unit_zero (S := S8x512) hz2]
  exact pay3_apply h
end Out

variable (m : (ℓ : Loc nD τ sig) → Buf (Elt Ideal) ℓ) (c : Dev nD)

/-- The arguments, read at natural numbers. -/
def aB (t l : ℕ) : EReal := at2 (m ((c : Thread nD τ).loc main_arg0)) t (2048 + l)
def aC (t l : ℕ) : EReal := at2 (m ((c : Thread nD τ).loc main_arg0)) t (3072 + l)
def aV (t l : ℕ) : EReal := at2 (m ((c : Thread nD τ).loc main_arg0)) t (4096 + l)
def aW (t l : ℕ) : EReal := at2 (m ((c : Thread nD τ).loc main_arg1)) t l

theorem idx0 : ∀ t : Fin cfg0.N, win0_0.index t = ![t.val % 16, 4 + t.val / 16] := (by decide +kernel : ∀ t : Fin grid0.N, _)
theorem idx1 : ∀ t : Fin cfg0.N, win0_1.index t = ![t.val % 16, 6 + t.val / 16] := (by decide +kernel : ∀ t : Fin grid0.N, _)
theorem idx2 : ∀ t : Fin cfg0.N, win0_2.index t = ![t.val % 16, 8 + t.val / 16] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val % 16, t.val / 16] := (by decide +kernel : ∀ t : Fin grid0.N, _)

/-- The first row and the first column of a point's blocks. -/
abbrev row (t : ℕ) : ℕ := t % 16 * 256
abbrev col (t : ℕ) : ℕ := t / 16 * 512

theorem lt32 (t : Fin cfg0.N) : t.val < 32 := lt_of_lt_of_eq t.isLt N_0

theorem blocks (t : Fin cfg0.N) : Blocks (aB m c) (aC m c) (aV m c) (aW m c) (row t.val) (col t.val)
    (iblk m c 0 t) (iblk m c 1 t) (iblk m c 2 t) (iblk m c 3 t) := by
  have ht := lt32 t
  constructor
  · intro a l
    have ha := a.isLt
    have hl := l.isLt
    refine Eq.trans ?_ (at2_of_lt (m ((c : Thread nD τ).loc main_arg0)) (r := row t.val + a.val) (c := 2048 + (col t.val + l.val)) (by unfold row; omega) (by unfold col; omega)).symm
    blk_ext [iblk, V, idx0 t]
    all_goals (simp only [row, col] at *; omega)
  · intro a l
    have ha := a.isLt
    have hl := l.isLt
    refine Eq.trans ?_ (at2_of_lt (m ((c : Thread nD τ).loc main_arg0)) (r := row t.val + a.val) (c := 3072 + (col t.val + l.val)) (by unfold row; omega) (by unfold col; omega)).symm
    blk_ext [iblk, V, idx1 t]
    all_goals (simp only [row, col] at *; omega)
  · intro a l
    have ha := a.isLt
    have hl := l.isLt
    refine Eq.trans ?_ (at2_of_lt (m ((c : Thread nD τ).loc main_arg0)) (r := row t.val + a.val) (c := 4096 + (col t.val + l.val)) (by unfold row; omega) (by unfold col; omega)).symm
    blk_ext [iblk, V, idx2 t]
    all_goals (simp only [row, col] at *; omega)
  · intro a l
    have hl := l.isLt
    refine Eq.trans ?_ (at2_of_lt (m ((c : Thread nD τ).loc main_arg1)) (r := a.val) (c := col t.val + l.val) a.isLt (by unfold col; omega)).symm
    blk_ext [iblk, V, idx3 t]
    all_goals (simp only [row, col] at *; omega)

/-- The rows a point carries on. -/
theorem carried (t : Fin cfg0.N) : Carry (aC m c) (aV m c) (row t.val + 256) (col t.val) (outsAt0 m c t.val t.isLt).2 := by
  by_cases h0 : t.val % 16 = 0
  · rw [outsAt0_A m c t h0]
    dsimp only
    exact sout_A (blocks m c t) c _ _ _ _ _ _ _ _ _ _ _ _ _
  · rw [outsAt0_B m c t h0]
    dsimp only
    exact sout_B (blocks m c t) c _ _ _ _ _ _ _ _ _ _ _ _ _ _

/-- The output block after a point. -/
theorem chunk (t : Fin cfg0.N) (a : Fin 256) (l : Fin 512) :
    (outsAt0 m c t.val t.isLt).1 (ix2 a l)
      = aB m c (row t.val + a.val) (col t.val + l.val) * q (aC m c) (aV m c) (aW m c) (row t.val + a.val) (col t.val + l.val) := by
  by_cases h0 : t.val % 16 = 0
  · rw [outsAt0_A m c t h0]
    dsimp only
    refine out_A (blocks m c t) c _ _ _ _ _ _ _ _ _ _ _ _ _ ?_ a l
    unfold row; omega
  · rw [outsAt0_B m c t h0]
    dsimp only
    refine out_B (blocks m c t) c _ _ _ _ _ _ _ _ _ _ _ _ _ _ ?_ a l
    have hc := carried m c ⟨t.val - 1, Nat.lt_of_le_of_lt (Nat.sub_le _ _) t.isLt⟩
    have e1 : row (t.val - 1) + 256 = row t.val := by unfold row; omega
    have e2 : col (t.val - 1) = col t.val := by unfold col; omega
    rw [← e1, ← e2]
    exact hc

/-- The result array. -/
def G4 : Vec Ideal S4096x1024 .bf16 := fun i =>
  aB m c (i 0).val (i 1).val * q (aC m c) (aV m c) (aW m c) (i 0).val (i 1).val

theorem final : (dats m 0 c).arrAt 4 cfg0.N = G4 m c := by
  refine (dats m 0 c).arrAt_eq_of_covers 4 _ (by decide +kernel) fun t hf y => ?_
  blk_simp
  rw [after0_4]
  idx_vars y
  refine (chunk m c t _ _).trans ?_
  unfold G4
  blk_simp [idx4 t]

section Ref
open Cert.ReferenceScFIdeal.Read
variable (x0 : Vec Ideal ReferenceScFIdeal.S4096x9216 .f32) (x1 : Vec Ideal ReferenceScFIdeal.S3x1024 .f32)

theorem ref_rows (n : Fin 4098) (l : Fin 1024) (t k : ℕ) (hk : k ≤ 2) (hn : n.val + k = t + 2) :
    val_main_v5 (F := Ideal) x0 (ix2 n l) = cvB (fun t l => at2 x0 t (3072 + l)) (fun t l => at2 x0 t (4096 + l)) t k l.val := by
  pointwise [val_main_v5, val_main_v4, val_main_v3, val_main_v2, val_main_v1, val_main_cst]
  unfold cvB
  have hl := l.isLt
  by_cases h : n.val < 2
  · exact (dif_pos h).trans (if_neg (by omega)).symm
  · refine (dif_neg h).trans (Eq.trans ?_ (if_pos (by omega)).symm)
    refine congrArg₂ (· * ·) (at2_eq x0 _ _ ?_ rfl) (at2_eq x0 _ _ ?_ rfl)
    · show n.val - 2 = t - k; omega
    · show n.val - 2 = t - k; omega

theorem ref_apply (a : Fin 4096) (l : Fin 1024) :
    val_main_v27 (F := Ideal) x0 x1 (ix2 a l) = at2 x0 a.val (2048 + l.val)
      * q (fun t l => at2 x0 t (3072 + l)) (fun t l => at2 x0 t (4096 + l)) (fun t l => at2 x1 t l) a.val l.val := by
  have hl := l.isLt
  pointwise [val_main_v27, val_main_v26, val_main_v0, val_main_v25, val_main_v18, val_main_v11, val_main_v17, val_main_v24, val_main_v6,
    val_main_v12, val_main_v19, val_main_v23, val_main_v22, val_main_v21, val_main_v20, val_main_v16, val_main_v15,
    val_main_v14, val_main_v13, val_main_v10, val_main_v9, val_main_v8, val_main_v7]
  rw [ref_rows x0 _ l a.val 2 (by omega) rfl, ref_rows x0 _ l a.val 1 (by omega) (by show 1 + a.val + 1 = _; omega),
    ref_rows x0 _ l a.val 0 (by omega) (by show 2 + a.val + 0 = _; omega)]
  refine congrArg₂ (· * ·) (at2_eq x0 _ _ rfl rfl) ?_
  refine congrArg₂ (· + ·) (congrArg₂ (· + ·) (congrArg (_ * ·) (at2_eq x1 _ _ rfl rfl)) (congrArg (_ * ·) (at2_eq x1 _ _ rfl rfl)))
    (congrArg (_ * ·) (at2_eq x1 _ _ rfl rfl))
end Ref

theorem ref : ReferenceScFIdeal.Read.val_main_v27 (F := Ideal) (m ((c.tc : Thread nD τ).loc main_arg0))
    (m ((c.tc : Thread nD τ).loc main_arg1)) = G4 m c := by
  funext j
  idx_vars j
  exact ref_apply _ _ _ _

theorem algebraic : Cert.algebraic_KernelScFIdeal_ReferenceScFIdeal := by
  intro m g m' g' _ hagree
  refine ⟨fun c => G4 m c, ?_, ?_⟩
  · refine (θ_run _ _ _).mono (fun r h c => ?_) (Cert.KernelScFIdeal.Value.run_blocks (F := Ideal) m g)
    obtain ⟨h0, hrest⟩ := h c
    exact ⟨h0.trans (final m c), hrest⟩
  · refine (θ_run _ _ _).mono (fun r h c => ?_) (Cert.ReferenceScFIdeal.Value.run (F := Ideal) m' g')
    obtain ⟨a0, a1⟩ := hagree c
    obtain ⟨h0, hrest⟩ := h c
    refine ⟨(h0.trans (Cert.ReferenceScFIdeal.Read.val_main_v27_eq _ _)).trans ?_, hrest⟩
    rw [a0, a1]
    exact ref m c

end Cert.ScFwd
-- ==== Proof.FfForward.lean ====
module
public import proofs.«01_k».proof.Defs
public import proofs.«01_k».proof.Proof.Gen.KernelFfFIdeal.Value
public import proofs.«01_k».proof.Proof.Gen.ReferenceFfFIdeal.Read
public import proofs.«01_k».proof.Proof.FfPoint
@[expose] public section
set_option maxRecDepth 16384
noncomputable section

/-! The feed-forward's convolution and gate, forward, over its grid: each point's blocks, the eight rows carried to the next chunk,
and the result array. -/

namespace Cert.FfFwd
open Cert.KernelFfFIdeal Cert.KernelFfFIdeal.Gen Cert.Rows Cert.Ff.Point Cert.Sigmoid Idealize.ShloMosaic Idealize.ShloMosaic.TcCoe
open Idealize.SL Idealize.SL.Sem

section Pay
variable {G V Wg Wv : ℕ → ℕ → EReal} {R J : ℕ}
variable {x0 x1 : Vec Ideal S2048x128 .f32} {x2 x3 : Vec Ideal S3x128 .f32} {xs0 xs1 : Vec Ideal S8x128 .f32}

/-- The blocks of a point are the arrays' rows `R …` and columns `J …`. -/
structure Blocks (G V Wg Wv : ℕ → ℕ → EReal) (R J : ℕ) (x0 x1 : Vec Ideal S2048x128 .f32) (x2 x3 : Vec Ideal S3x128 .f32) : Prop where
  g : ∀ (a : Fin 2048) (l : Fin 128), x0 (ix2 a l) = G (R + a.val) (J + l.val)
  v : ∀ (a : Fin 2048) (l : Fin 128), x1 (ix2 a l) = V (R + a.val) (J + l.val)
  wg : ∀ (a : Fin 3) (l : Fin 128), x2 (ix2 a l) = Wg a.val (J + l.val)
  wv : ∀ (a : Fin 3) (l : Fin 128), x3 (ix2 a l) = Wv a.val (J + l.val)

/-- The carried rows: the last eight before row `R`, zero before the first row. -/
def Carry (X : ℕ → ℕ → EReal) (R J : ℕ) (xs : Vec Ideal S8x128 .f32) : Prop :=
  ∀ (a : Fin 8) (l : Fin 128), xs (ix2 a l) = sh X (R + a.val) 8 (J + l.val)

theorem sh_shift (X : ℕ → ℕ → EReal) (t k j : ℕ) (c : ℕ) : sh X (t + j) (k + j) c = sh X t k c := by
  unfold sh
  by_cases hk : k ≤ t
  · rw [if_pos hk, if_pos (by omega), show t + j - (k + j) = t - k by omega]
  · rw [if_neg hk, if_neg (by omega)]

theorem sh_zero (X : ℕ → ℕ → EReal) (t c : ℕ) : sh X t 0 c = X t c := if_pos (Nat.zero_le _)

/-- A chunk with the eight rows before it. -/
theorem halo {X : ℕ → ℕ → EReal} {x : Vec Ideal S2048x128 .f32} {xs : Vec Ideal S8x128 .f32}
    (h : ∀ (a : Fin 2048) (l : Fin 128), x (ix2 a l) = X (R + a.val) (J + l.val)) (hx : Carry X R J xs)
    (n : Fin 2056) (l : Fin 128) (a k : ℕ) (hk : k ≤ 8) (hn : n.val + k = a + 8) :
    (if h : n.val < 8 then xs (ix2 ⟨n.val, h⟩ l) else x (ix2 ⟨n.val - 8, by omega⟩ l)) = sh X (R + a) k (J + l.val) := by
  by_cases h1 : n.val < 8
  · refine (dif_pos h1).trans ((hx _ l).trans ?_)
    show sh X (R + n.val) 8 _ = _
    rw [← sh_shift X (R + a) k (8 - k), show R + a + (8 - k) = R + n.val by omega, show k + (8 - k) = 8 by omega]
  · refine (dif_neg h1).trans ((h _ l).trans ?_)
    show X (R + (n.val - 8)) _ = _
    rw [← sh_zero X (R + (n.val - 8)), ← sh_shift X (R + (n.val - 8)) 0 k, show R + (n.val - 8) + k = R + a by omega, Nat.zero_add]

/-- The gate half of the convolution. -/
theorem gate_apply (h : Blocks G V Wg Wv R J x0 x1 x2 x3) (hx : Carry G R J xs0) (a : Fin 2048) (l : Fin 128) :
    k0_pay6 (F := Ideal) x0 xs0 x2 (ix2 a l) = cv G Wg (R + a.val) (J + l.val) := by
  unfold k0_pay6
  pointwise
  have ha := a.isLt
  refine congrArg₂ (fun p q : EReal => p + q) (congrArg₂ (fun p q : EReal => p + q) (congrArg₂ (fun p q : EReal => p * q) ?_ (h.wg 0 l))
    (congrArg₂ (fun p q : EReal => p * q) ?_ (h.wg 1 l))) (congrArg₂ (fun p q : EReal => p * q) ?_ (h.wg 2 l))
  · exact halo h.g hx ⟨(8 + a.val + 2056 - 2) % 2056, by omega⟩ l a.val 2 (by omega) (by show (8 + a.val + 2056 - 2) % 2056 + 2 = _; omega)
  · exact halo h.g hx ⟨(8 + a.val + 2056 - 1) % 2056, by omega⟩ l a.val 1 (by omega) (by show (8 + a.val + 2056 - 1) % 2056 + 1 = _; omega)
  · exact (h.g a l).trans (sh_zero G _ _).symm

/-- The output block: the gate half's `u · σ(u)` times the value half. -/
theorem out_apply (h : Blocks G V Wg Wv R J x0 x1 x2 x3) (hg : Carry G R J xs0) (hv : Carry V R J xs1) (a : Fin 2048) (l : Fin 128) :
    k0_pay3 (F := Ideal) (k0_pay6 x0 xs0 x2) x3 (k0_pay8 x1 xs1 x3) (k0_pay9 x1 xs1) (ix2 a l)
      = cv G Wg (R + a.val) (J + l.val) * sig (cv G Wg (R + a.val) (J + l.val)) * cv V Wv (R + a.val) (J + l.val) := by
  unfold k0_pay3 k0_pay8 k0_pay9 k0_pay7
  pointwise
  have ha := a.isLt
  rw [gate_apply h hg, half_tanh]
  refine congrArg₂ (fun p q : EReal => p * q) rfl ?_
  refine congrArg₂ (fun p q : EReal => p + q) (congrArg₂ (fun p q : EReal => p + q) (congrArg₂ (fun p q : EReal => p * q) ?_ (h.wv 0 l))
    (congrArg₂ (fun p q : EReal => p * q) ?_ (h.wv 1 l))) (congrArg₂ (fun p q : EReal => p * q) ?_ (h.wv 2 l))
  · exact halo h.v hv ⟨(8 + a.val + 2056 - 2) % 2056, by omega⟩ l a.val 2 (by omega) (by show (8 + a.val + 2056 - 2) % 2056 + 2 = _; omega)
  · exact halo h.v hv ⟨(8 + a.val + 2056 - 1) % 2056, by omega⟩ l a.val 1 (by omega) (by show (8 + a.val + 2056 - 1) % 2056 + 1 = _; omega)
  · exact (h.v a l).trans (sh_zero V _ _).symm

/-- The rows carried on. -/
theorem keep {X : ℕ → ℕ → EReal} {x : Vec Ideal S2048x128 .f32} {y : Vec Ideal S8x128 .f32}
    (h : ∀ (a : Fin 2048) (l : Fin 128), x (ix2 a l) = X (R + a.val) (J + l.val))
    (e : ∀ (a : Fin 8) (l : Fin 128), y (ix2 a l) = x (ix2 ⟨2040 + a.val, by omega⟩ l)) : Carry X (R + 2048) J y := by
  intro a l
  rw [e, h]
  show X (R + (2040 + a.val)) _ = _
  rw [← sh_zero X (R + (2040 + a.val)), ← sh_shift X (R + (2040 + a.val)) 0 8, show R + (2040 + a.val) + 8 = R + 2048 + a.val by omega]

theorem pay1_apply (x : Vec Ideal S2048x128 .f32) (a : Fin 8) (l : Fin 128) :
    k0_pay1 (F := Ideal) x (ix2 a l) = x (ix2 ⟨2040 + a.val, by omega⟩ l) := by
  pointwise [k0_pay1]

theorem pay2_apply (x : Vec Ideal S2048x128 .f32) (a : Fin 8) (l : Fin 128) :
    k0_pay2 (F := Ideal) x (ix2 a l) = x (ix2 ⟨2040 + a.val, by omega⟩ l) := by
  pointwise [k0_pay2]

theorem pay4_carry (X : ℕ → ℕ → EReal) : Carry X 0 J (k0_pay4 (F := Ideal)) := by
  intro a l
  unfold k0_pay4
  pointwise
  have ha := a.isLt
  exact (if_neg (by omega)).symm

theorem pay5_carry (X : ℕ → ℕ → EReal) : Carry X 0 J (k0_pay5 (F := Ideal)) := pay4_carry X
end Pay

section Out
variable {G V Wg Wv : ℕ → ℕ → EReal} {R J : ℕ} {i : grid0.Coords}
  {x0 x1 : Vec Ideal S2048x128 .f32} {x2 x3 : Vec Ideal S3x128 .f32} (h : Blocks G V Wg Wv R J x0 x1 x2 x3) (co : Dev nD)
  (arg2 : Memref sig .tc .vmem S2048x128 .f32) (harg2 : arg2.IsWhole) (arg3 : Memref sig .tc .vmem S2048x128 .f32) (harg3 : arg3.IsWhole) (arg4 : Memref sig .tc .vmem S3x128 .f32) (harg4 : arg4.IsWhole) (arg5 : Memref sig .tc .vmem S3x128 .f32) (harg5 : arg5.IsWhole) (arg6 : Memref sig .tc .vmem S2048x128 .bf16) (harg6 : arg6.IsWhole) (arg7 : Memref sig .tc .vmem S8x128 .f32) (harg7 : arg7.IsWhole) (arg8 : Memref sig .tc .vmem S8x128 .f32) (harg8 : arg8.IsWhole)
include h

theorem out_A (hc : cond0_0 i) (hR : R = 0) (a : Fin 2048) (l : Fin 128) :
    out0_A_4 (F := Ideal) co i arg2 harg2 arg3 harg3 arg4 harg4 arg5 harg5 arg6 harg6 arg7 harg7 arg8 harg8 hc x0 x1 x2 x3 (ix2 a l)
      = cv G Wg (R + a.val) (J + l.val) * sig (cv G Wg (R + a.val) (J + l.val)) * cv V Wv (R + a.val) (J + l.val) := by
  unfold out0_A_4
  rw [View.read_writes_eq_canon _ _ _ (cover0_A_4 co i arg2 harg2 arg3 harg3 arg4 harg4 arg5 harg5 arg6 harg6 arg7 harg7 arg8 harg8 hc x0 x1 x2 x3)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_unit_zero (S := S2048x128) hz2]
  simp only [View.readCov_unit_zero (S := S8x128) _ hz2]
  subst hR
  exact out_apply h (pay4_carry G) (pay5_carry V) a l

theorem sout0_A (hc : cond0_0 i) :
    Carry G (R + 2048) J (sout0_A_0 (F := Ideal) co i arg2 harg2 arg3 harg3 arg4 harg4 arg5 harg5 arg6 harg6 arg7 harg7 arg8 harg8 hc x0 x1 x2 x3) := by
  unfold sout0_A_0
  rw [View.read_writes_eq_canon _ _ _ (scover0_A_0 co i arg2 harg2 arg3 harg3 arg4 harg4 arg5 harg5 arg6 harg6 arg7 harg7 arg8 harg8 hc x0 x1 x2 x3)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_cons_unit_zero (S := S8x128) hz2]
  exact keep h.g (pay1_apply _)

theorem sout1_A (hc : cond0_0 i) :
    Carry V (R + 2048) J (sout0_A_1 (F := Ideal) co i arg2 harg2 arg3 harg3 arg4 harg4 arg5 harg5 arg6 harg6 arg7 harg7 arg8 harg8 hc x0 x1 x2 x3) := by
  unfold sout0_A_1
  rw [View.read_writes_eq_canon _ _ _ (scover0_A_1 co i arg2 harg2 arg3 harg3 arg4 harg4 arg5 harg5 arg6 harg6 arg7 harg7 arg8 harg8 hc x0 x1 x2 x3)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_cons_unit_zero (S := S8x128) hz2]
  exact keep h.v (pay2_apply _)

theorem out_B (hc : ¬cond0_0 i) (xs0 xs1 : Vec Ideal S8x128 .f32) (hg : Carry G R J xs0) (hv : Carry V R J xs1) (a : Fin 2048) (l : Fin 128) :
    out0_B_4 (F := Ideal) co i arg2 harg2 arg3 harg3 arg4 harg4 arg5 harg5 arg6 harg6 arg7 harg7 arg8 harg8 hc x0 x1 x2 x3 xs0 xs1 (ix2 a l)
      = cv G Wg (R + a.val) (J + l.val) * sig (cv G Wg (R + a.val) (J + l.val)) * cv V Wv (R + a.val) (J + l.val) := by
  unfold out0_B_4
  rw [View.read_writes_eq_canon _ _ _ (cover0_B_4 co i arg2 harg2 arg3 harg3 arg4 harg4 arg5 harg5 arg6 harg6 arg7 harg7 arg8 harg8 hc x0 x1 x2 x3 xs0 xs1)]
  unfold kernelRun0_B
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_unit_zero (S := S2048x128) hz2]
  exact out_apply h hg hv a l

theorem sout0_B (hc : ¬cond0_0 i) (xs0 xs1 : Vec Ideal S8x128 .f32) :
    Carry G (R + 2048) J (sout0_B_0 (F := Ideal) co i arg2 harg2 arg3 harg3 arg4 harg4 arg5 harg5 arg6 harg6 arg7 harg7 arg8 harg8 hc x0 x1 x2 x3 xs0 xs1) := by
  unfold sout0_B_0
  rw [View.read_writes_eq_canon _ _ _ (scover0_B_0 co i arg2 harg2 arg3 harg3 arg4 harg4 arg5 harg5 arg6 harg6 arg7 harg7 arg8 harg8 hc x0 x1 x2 x3 xs0 xs1)]
  unfold kernelRun0_B
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_unit_zero (S := S8x128) hz2]
  exact keep h.g (pay1_apply _)

theorem sout1_B (hc : ¬cond0_0 i) (xs0 xs1 : Vec Ideal S8x128 .f32) :
    Carry V (R + 2048) J (sout0_B_1 (F := Ideal) co i arg2 harg2 arg3 harg3 arg4 harg4 arg5 harg5 arg6 harg6 arg7 harg7 arg8 harg8 hc x0 x1 x2 x3 xs0 xs1) := by
  unfold sout0_B_1
  rw [View.read_writes_eq_canon _ _ _ (scover0_B_1 co i arg2 harg2 arg3 harg3 arg4 harg4 arg5 harg5 arg6 harg6 arg7 harg7 arg8 harg8 hc x0 x1 x2 x3 xs0 xs1)]
  unfold kernelRun0_B
  dsimp only
  sl_unfold_words
  simp only [View.readAt_eq_ld, harg2.read_unread, harg3.read_unread, harg4.read_unread, harg5.read_unread, harg6.read_unread, harg7.read_unread, harg8.read_unread, View.ld_unit_zero (S := S2048x128) hz2, View.ld_unit_zero (S := S3x128) hz2, View.ld_unit_zero (S := S8x128) hz2, shapeCast_self]
  rw [View.canon_unit_zero (S := S8x128) hz2]
  exact keep h.v (pay2_apply _)

end Out

variable (m : (ℓ : Loc nD τ sig) → Buf (Elt Ideal) ℓ) (c : Dev nD)

/-- The arguments, read at natural numbers. -/
def aG (t l : ℕ) : EReal := at2 (m ((c : Thread nD τ).loc main_arg0)) t l
def aV (t l : ℕ) : EReal := at2 (m ((c : Thread nD τ).loc main_arg0)) t (5632 + l)
def aW (t l : ℕ) : EReal := at2 (m ((c : Thread nD τ).loc main_arg1)) t l
def aU (t l : ℕ) : EReal := at2 (m ((c : Thread nD τ).loc main_arg1)) t (5632 + l)

theorem idx0 : ∀ t : Fin cfg0.N, win0_0.index t = ![t.val % 2, t.val / 2] := (by decide +kernel : ∀ t : Fin grid0.N, _)
theorem idx1 : ∀ t : Fin cfg0.N, win0_1.index t = ![t.val % 2, 44 + t.val / 2] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![0, 44 + t.val / 2] := (by decide +kernel : ∀ t : Fin grid0.N, _)
theorem idx4 : ∀ t : Fin cfg0.N, win0_4.index t = ![t.val % 2, t.val / 2] := (by decide +kernel : ∀ t : Fin grid0.N, _)

/-- The first row and the first column of a point's blocks. -/
abbrev row (t : ℕ) : ℕ := t % 2 * 2048
abbrev col (t : ℕ) : ℕ := t / 2 * 128

theorem lt88 (t : Fin cfg0.N) : t.val < 88 := lt_of_lt_of_eq t.isLt N_0

theorem blocks (t : Fin cfg0.N) : Blocks (aG m c) (aV m c) (aW m c) (aU m c) (row t.val) (col t.val)
    (iblk m c 0 t) (iblk m c 1 t) (iblk m c 2 t) (iblk m c 3 t) := by
  have ht := lt88 t
  constructor
  · intro a l
    have ha := a.isLt
    have hl := l.isLt
    refine Eq.trans ?_ (at2_of_lt (m ((c : Thread nD τ).loc main_arg0)) (r := row t.val + a.val) (c := col t.val + l.val) (by unfold row; omega) (by unfold col; omega)).symm
    blk_ext [iblk, V, idx0 t]
    all_goals (simp only [row, col] at *; omega)
  · intro a l
    have ha := a.isLt
    have hl := l.isLt
    refine Eq.trans ?_ (at2_of_lt (m ((c : Thread nD τ).loc main_arg0)) (r := row t.val + a.val) (c := 5632 + (col t.val + l.val)) (by unfold row; omega) (by unfold col; omega)).symm
    blk_ext [iblk, V, idx1 t]
    all_goals (simp only [row, col] at *; omega)
  · intro a l
    have hl := l.isLt
    refine Eq.trans ?_ (at2_of_lt (m ((c : Thread nD τ).loc main_arg1)) (r := a.val) (c := col t.val + l.val) a.isLt (by unfold col; omega)).symm
    blk_ext [iblk, V, idx2 t]
    all_goals (simp only [row, col] at *; omega)
  · intro a l
    have hl := l.isLt
    refine Eq.trans ?_ (at2_of_lt (m ((c : Thread nD τ).loc main_arg1)) (r := a.val) (c := 5632 + (col t.val + l.val)) a.isLt (by unfold col; omega)).symm
    blk_ext [iblk, V, idx3 t]
    all_goals (simp only [row, col] at *; omega)

/-- The rows a point carries on. -/
theorem carried (t : Fin cfg0.N) : Carry (aG m c) (row t.val + 2048) (col t.val) (outsAt0 m c t.val t.isLt).2.1
    ∧ Carry (aV m c) (row t.val + 2048) (col t.val) (outsAt0 m c t.val t.isLt).2.2 := by
  by_cases h0 : t.val % 2 = 0
  · rw [outsAt0_A m c t h0]
    dsimp only
    exact ⟨sout0_A (blocks m c t) c _ _ _ _ _ _ _ _ _ _ _ _ _ _ _, sout1_A (blocks m c t) c _ _ _ _ _ _ _ _ _ _ _ _ _ _ _⟩
  · rw [outsAt0_B m c t h0]
    dsimp only
    exact ⟨sout0_B (blocks m c t) c _ _ _ _ _ _ _ _ _ _ _ _ _ _ _ _ _, sout1_B (blocks m c t) c _ _ _ _ _ _ _ _ _ _ _ _ _ _ _ _ _⟩

/-- The result, index by index. -/
def val (t l : ℕ) : EReal := cv (aG m c) (aW m c) t l * sig (cv (aG m c) (aW m c) t l) * cv (aV m c) (aU m c) t l

/-- The output block after a point. -/
theorem chunk (t : Fin cfg0.N) (a : Fin 2048) (l : Fin 128) :
    (outsAt0 m c t.val t.isLt).1 (ix2 a l) = val m c (row t.val + a.val) (col t.val + l.val) := by
  by_cases h0 : t.val % 2 = 0
  · rw [outsAt0_A m c t h0]
    dsimp only
    refine out_A (blocks m c t) c _ _ _ _ _ _ _ _ _ _ _ _ _ _ _ ?_ a l
    unfold row; omega
  · rw [outsAt0_B m c t h0]
    dsimp only
    have hc := carried m c ⟨t.val - 1, Nat.lt_of_le_of_lt (Nat.sub_le _ _) t.isLt⟩
    have e1 : row (t.val - 1) + 2048 = row t.val := by unfold row; omega
    have e2 : col (t.val - 1) = col t.val := by unfold col; omega
    dsimp only at hc
    rw [e1, e2] at hc
    exact out_B (blocks m c t) c _ _ _ _ _ _ _ _ _ _ _ _ _ _ _ _ _ hc.1 hc.2 a l

/-- The result array. -/
def G4 : Vec Ideal S4096x5632 .bf16 := fun i => val m c (i 0).val (i 1).val

theorem final : (dats m 0 c).arrAt 4 cfg0.N = G4 m c := by
  refine (dats m 0 c).arrAt_eq_of_covers 4 _ (by decide +kernel) fun t hf y => ?_
  blk_simp
  rw [after0_4]
  idx_vars y
  refine (chunk m c t _ _).trans ?_
  unfold G4
  blk_simp [idx4 t]

section Ref
open Cert.ReferenceFfFIdeal.Read
variable (x0 : Vec Ideal ReferenceFfFIdeal.S4096x11264 .f32) (x1 : Vec Ideal ReferenceFfFIdeal.S3x11264 .f32)

theorem ref_rows (n : Fin 4098) (l : Fin 11264) (t k : ℕ) (hk : k ≤ 2) (hn : n.val + k = t + 2) :
    val_main_v1 (F := Ideal) x0 (ix2 n l) = sh (fun t l => at2 x0 t l) t k l.val := by
  pointwise [val_main_v1, val_main_v0, val_main_cst]
  unfold sh
  by_cases h : n.val < 2
  · exact (dif_pos h).trans (if_neg (by omega)).symm
  · refine (dif_neg h).trans (Eq.trans ?_ (if_pos (by omega)).symm)
    refine at2_eq x0 _ _ ?_ rfl
    show n.val - 2 = t - k; omega

/-- The convolution of all columns. -/
theorem ref_conv (a : Fin 4096) (l : Fin 11264) :
    val_main_v21 (F := Ideal) x0 x1 (ix2 a l) = cv (fun t l => at2 x0 t l) (fun t l => at2 x1 t l) a.val l.val := by
  pointwise [val_main_v21, val_main_v14, val_main_v7, val_main_v13, val_main_v20, val_main_v2, val_main_v8,
    val_main_v15, val_main_v19, val_main_v18, val_main_v17, val_main_v16, val_main_v12, val_main_v11, val_main_v10,
    val_main_v9, val_main_v6, val_main_v5, val_main_v4, val_main_v3]
  rw [ref_rows x0 _ l a.val 2 (by omega) rfl, ref_rows x0 _ l a.val 1 (by omega) (by show 1 + a.val + 1 = _; omega),
    ref_rows x0 _ l a.val 0 (by omega) (by show 2 + a.val + 0 = _; omega)]
  refine congrArg₂ (· + ·) (congrArg₂ (· + ·) (congrArg (_ * ·) (at2_eq x1 _ _ rfl rfl)) (congrArg (_ * ·) (at2_eq x1 _ _ rfl rfl)))
    (congrArg (_ * ·) (at2_eq x1 _ _ rfl rfl))

theorem ref_gate (a : Fin 4096) (l : Fin 5632) :
    val_main_v22 (F := Ideal) x0 x1 (ix2 a l) = cv (fun t l => at2 x0 t l) (fun t l => at2 x1 t l) a.val l.val := by
  pointwise [val_main_v22]
  exact ref_conv x0 x1 _ _

theorem ref_value (a : Fin 4096) (l : Fin 5632) :
    val_main_v23 (F := Ideal) x0 x1 (ix2 a l) = cv (fun t l => at2 x0 t (5632 + l)) (fun t l => at2 x1 t (5632 + l)) a.val l.val := by
  pointwise [val_main_v23]
  exact ref_conv x0 x1 _ _

theorem ref_apply (a : Fin 4096) (l : Fin 5632) :
    val_main_v26 (F := Ideal) x0 x1 (ix2 a l)
      = cv (fun t l => at2 x0 t l) (fun t l => at2 x1 t l) a.val l.val * sig (cv (fun t l => at2 x0 t l) (fun t l => at2 x1 t l) a.val l.val)
        * cv (fun t l => at2 x0 t (5632 + l)) (fun t l => at2 x1 t (5632 + l)) a.val l.val := by
  pointwise [val_main_v26, val_main_v25, val_main_v24, val_main_call0_v5, val_main_call0_v4, val_main_call0_v3, val_main_call0_v2,
    val_main_call0_v1, val_main_call0_v0, val_main_call0_cst, val_main_call0_cst_0]
  rw [ref_gate, ref_value]
  rfl
end Ref

theorem ref : ReferenceFfFIdeal.Read.val_main_v26 (F := Ideal) (m ((c.tc : Thread nD τ).loc main_arg0))
    (m ((c.tc : Thread nD τ).loc main_arg1)) = G4 m c := by
  funext j
  idx_vars j
  exact ref_apply _ _ _ _

theorem algebraic : Cert.algebraic_KernelFfFIdeal_ReferenceFfFIdeal := by
  intro m g m' g' _ hagree
  refine ⟨fun c => G4 m c, ?_, ?_⟩
  · refine (θ_run _ _ _).mono (fun r h c => ?_) (Cert.KernelFfFIdeal.Value.run_blocks (F := Ideal) m g)
    obtain ⟨h0, hrest⟩ := h c
    exact ⟨h0.trans (final m c), hrest⟩
  · refine (θ_run _ _ _).mono (fun r h c => ?_) (Cert.ReferenceFfFIdeal.Value.run (F := Ideal) m' g')
    obtain ⟨a0, a1⟩ := hagree c
    obtain ⟨h0, hrest⟩ := h c
    refine ⟨(h0.trans (Cert.ReferenceFfFIdeal.Read.val_main_v26_eq _ _)).trans ?_, hrest⟩
    rw [a0, a1]
    exact ref m c

end Cert.FfFwd
-- ==== Proof.LossHead.lean ====
module
public import proofs.«01_k».proof.Defs
public import proofs.«01_k».proof.Proof.Gen.KernelLhIdeal.Value
public import proofs.«01_k».proof.Proof.Gen.ReferenceLhIdeal.Read
public import proofs.«01_k».proof.Proof.NormMath
public import proofs.«01_k».proof.Proof.Rows
@[expose] public section
set_option maxRecDepth 16384
noncomputable section

/-! The loss head over its grid of tiles of 256 rows: the last norm, half the sum of the rows' mean squared errors, and
the gradients of the norm's input and of its gain. -/

namespace Cert.Loss
open Cert.KernelLhIdeal Cert.KernelLhIdeal.Gen Cert.Rows Cert.Norm Idealize.ShloMosaic Idealize.ShloMosaic.TcCoe
open Idealize.SL Idealize.SL.Sem

/-- One half. -/
def half : EReal := Ideal.ofBits FTy.f32 0x3F000000#32

/-- Two. -/
def two : EReal := Ideal.ofBits FTy.f32 0x40000000#32

/-- One over the row's length. -/
def inv : EReal := Ideal.ofBits FTy.f32 0x3A000000#32

theorem half_eq : half = ((1 / 2 : ℝ) : EReal) := by
  unfold half
  simp [Ideal.ofBits, Ideal.ieee]
  norm_num
  try rw [← EReal.coe_mul]
  try norm_num

theorem two_eq : two = ((2 : ℝ) : EReal) := by
  unfold two
  simp [Ideal.ofBits, Ideal.ieee]
  norm_num
  try rw [← EReal.coe_mul]
  try norm_num

theorem inv_eq : inv = ((1 / 2048 : ℝ) : EReal) := by
  unfold inv
  simp [Ideal.ofBits, Ideal.ieee]
  norm_num
  try rw [← EReal.coe_mul]
  try norm_num

/-- Half of the derivative of a mean square is the error over the row's length. -/
theorem scale (e : EReal) : Ideal.div half len * (two * e) = e * inv := by
  rw [div_len, half_eq, two_eq, inv_eq, ← mul_assoc, mul_comm _ e, ← EReal.coe_mul, ← EReal.coe_mul]
  norm_num

theorem half_sum {n : ℕ} (f : Fin n → EReal) : half * ∑ a, f a = ∑ a, half * f a := by
  rw [half_eq, mul_comm, sum_mul_real _ _ (by norm_num)]
  exact Finset.sum_congr rfl fun a _ => mul_comm _ _

/-- A row's error. -/
def err (x g t : Fin 2048 → EReal) (k : Fin 2048) : EReal := x k * rms x * g k - t k

/-- A row's part of the loss. -/
def lossRow (e : Fin 2048 → EReal) : EReal := half * Ideal.div (∑ k, e k * e k) len

section Pay
variable (x0 x2 : Vec Ideal S256x2048 .f32) (x1 : Vec Ideal S1x2048 .f32) (a : Fin 256) (b : Fin 2048)

theorem pay4_apply : k0_pay4 (F := Ideal) x0 (ix2 a 0) = rms fun k : Fin 2048 => x0 (ix2 a k) := by
  unfold k0_pay4
  pointwise
  rfl

theorem pay5_apply : k0_pay5 (F := Ideal) x0 (ix2 a b) = x0 (ix2 a b) * rms fun k : Fin 2048 => x0 (ix2 a k) := by
  unfold k0_pay5
  pointwise
  rw [pay4_apply]

theorem pay6_apply : k0_pay6 (F := Ideal) x0 x1 x2 (ix2 a b)
    = err (fun k => x0 (ix2 a k)) (fun k => x1 (ix2 0 k)) (fun k => x2 (ix2 a k)) b := by
  unfold k0_pay6 k0_pay3
  pointwise
  rw [pay5_apply]
  rfl

theorem pay7_apply : k0_pay7 (F := Ideal) x0 x1 x2 (ix2 a b)
    = err (fun k => x0 (ix2 a k)) (fun k => x1 (ix2 0 k)) (fun k => x2 (ix2 a k)) b * inv := by
  unfold k0_pay7
  pointwise
  rw [pay6_apply]
  rfl

theorem pay8_apply : k0_pay8 (F := Ideal) x0 x1 x2 (ix2 a b)
    = gradRow (fun k => x0 (ix2 a k)) (fun l => err (fun k => x0 (ix2 a k)) (fun k => x1 (ix2 0 k)) (fun k => x2 (ix2 a k)) l
        * inv * x1 (ix2 0 l)) b := by
  unfold k0_pay8 k0_pay3
  pointwise
  simp only [pay7_apply, pay5_apply, pay4_apply]
  rfl

theorem pay9_apply : k0_pay9 (F := Ideal) x0 x1 x2 (ix2 a b)
    = gradRow (fun k => x0 (ix2 a k)) (fun l => err (fun k => x0 (ix2 a k)) (fun k => x1 (ix2 0 k)) (fun k => x2 (ix2 a k)) l
        * inv * x1 (ix2 0 l)) b := by
  unfold k0_pay9
  pointwise
  rw [pay8_apply]

theorem pay1_apply (xo : Vec Ideal S1x2048 .f32) : k0_pay1 (F := Ideal) (k0_pay5 x0) (k0_pay7 x0 x1 x2) xo (ix2 0 b)
    = xo (ix2 0 b) + ∑ a : Fin 256, err (fun k => x0 (ix2 a k)) (fun k => x1 (ix2 0 k)) (fun k => x2 (ix2 a k)) b * inv
        * (x0 (ix2 a b) * rms fun k : Fin 2048 => x0 (ix2 a k)) := by
  unfold k0_pay1
  pointwise
  simp only [pay7_apply, pay5_apply]

theorem pay2_apply (xo : Vec Ideal S1x1 .f32) : k0_pay2 (F := Ideal) (k0_pay6 x0 x1 x2) xo (ix2 0 0)
    = xo (ix2 0 0) + ∑ a : Fin 256, lossRow (err (fun k => x0 (ix2 a k)) (fun k => x1 (ix2 0 k)) (fun k => x2 (ix2 a k))) := by
  unfold k0_pay2
  pointwise
  simp only [pay6_apply]
  exact congrArg (xo (ix2 0 0) + ·) (half_sum _)
end Pay

section Out
variable (x0 x2 : Vec Ideal S256x2048 .f32) (x1 xo6 : Vec Ideal S1x2048 .f32) (xo3 : Vec Ideal S1x1 .f32) (co : Dev nD) (i : grid0.Coords)
  (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S1x1 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole)

theorem out_A_3 (hc : cond0_0 i) :
    out0_A_3 (F := Ideal) co i arg1 harg1 arg2 harg2 arg3 harg3 arg4 harg4 arg5 harg5 arg6 harg6 arg7 harg7 hc x0 x1 x2 (ix2 0 0)
      = 0 + ∑ a : Fin 256, lossRow (err (fun k => x0 (ix2 a k)) (fun k => x1 (ix2 0 k)) (fun k => x2 (ix2 a k))) := by
  unfold out0_A_3
  rw [View.read_writes_eq_canon _ _ _ (cover0_A_3 co i arg1 harg1 arg2 harg2 arg3 harg3 arg4 harg4 arg5 harg5 arg6 harg6 arg7 harg7 hc x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  simp only [View.readCov_unit_zero (S := S1x1) _ hz2]
  rw [View.canon_cons_unit_zero (S := S1x1) hz2]
  refine (pay2_apply _ _ _ _).trans (congrArg (· + _) ?_)
  unfold k0_pay11
  pointwise

theorem out_B_3 (hc : ¬cond0_0 i) :
    out0_B_3 (F := Ideal) co i arg1 harg1 arg2 harg2 arg3 harg3 arg4 harg4 arg5 harg5 arg6 harg6 arg7 harg7 hc x0 x1 x2 xo3 xo6 (ix2 0 0)
      = xo3 (ix2 0 0) + ∑ a : Fin 256, lossRow (err (fun k => x0 (ix2 a k)) (fun k => x1 (ix2 0 k)) (fun k => x2 (ix2 a k))) := by
  unfold out0_B_3
  rw [View.read_writes_eq_canon _ _ _ (cover0_B_3 co i arg1 harg1 arg2 harg2 arg3 harg3 arg4 harg4 arg5 harg5 arg6 harg6 arg7 harg7 hc x0 x1 x2 xo3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S1x1) hz2]
  exact pay2_apply _ _ _ _

theorem out_A_4 (hc : cond0_0 i) (a : Fin 256) (b : Fin 2048) :
    out0_A_4 (F := Ideal) co i arg1 harg1 arg2 harg2 arg3 harg3 arg4 harg4 arg5 harg5 arg6 harg6 arg7 harg7 hc x0 x1 x2 (ix2 a b)
      = gradRow (fun k => x0 (ix2 a k)) (fun l => err (fun k => x0 (ix2 a k)) (fun k => x1 (ix2 0 k)) (fun k => x2 (ix2 a k)) l * inv * x1 (ix2 0 l)) b := by
  unfold out0_A_4
  rw [View.read_writes_eq_canon _ _ _ (cover0_A_4 co i arg1 harg1 arg2 harg2 arg3 harg3 arg4 harg4 arg5 harg5 arg6 harg6 arg7 harg7 hc x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S256x2048) hz2]
  exact pay8_apply _ _ _ a b

theorem out_B_4 (hc : ¬cond0_0 i) (a : Fin 256) (b : Fin 2048) :
    out0_B_4 (F := Ideal) co i arg1 harg1 arg2 harg2 arg3 harg3 arg4 harg4 arg5 harg5 arg6 harg6 arg7 harg7 hc x0 x1 x2 xo3 xo6 (ix2 a b)
      = gradRow (fun k => x0 (ix2 a k)) (fun l => err (fun k => x0 (ix2 a k)) (fun k => x1 (ix2 0 k)) (fun k => x2 (ix2 a k)) l * inv * x1 (ix2 0 l)) b := by
  unfold out0_B_4
  rw [View.read_writes_eq_canon _ _ _ (cover0_B_4 co i arg1 harg1 arg2 harg2 arg3 harg3 arg4 harg4 arg5 harg5 arg6 harg6 arg7 harg7 hc x0 x1 x2 xo3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S256x2048) hz2]
  exact pay8_apply _ _ _ a b

theorem out_A_5 (hc : cond0_0 i) (a : Fin 256) (b : Fin 2048) :
    out0_A_5 (F := Ideal) co i arg1 harg1 arg2 harg2 arg3 harg3 arg4 harg4 arg5 harg5 arg6 harg6 arg7 harg7 hc x0 x1 x2 (ix2 a b)
      = gradRow (fun k => x0 (ix2 a k)) (fun l => err (fun k => x0 (ix2 a k)) (fun k => x1 (ix2 0 k)) (fun k => x2 (ix2 a k)) l * inv * x1 (ix2 0 l)) b := by
  unfold out0_A_5
  rw [View.read_writes_eq_canon _ _ _ (cover0_A_5 co i arg1 harg1 arg2 harg2 arg3 harg3 arg4 harg4 arg5 harg5 arg6 harg6 arg7 harg7 hc x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S256x2048) hz2]
  exact pay9_apply _ _ _ a b

theorem out_B_5 (hc : ¬cond0_0 i) (a : Fin 256) (b : Fin 2048) :
    out0_B_5 (F := Ideal) co i arg1 harg1 arg2 harg2 arg3 harg3 arg4 harg4 arg5 harg5 arg6 harg6 arg7 harg7 hc x0 x1 x2 xo3 xo6 (ix2 a b)
      = gradRow (fun k => x0 (ix2 a k)) (fun l => err (fun k => x0 (ix2 a k)) (fun k => x1 (ix2 0 k)) (fun k => x2 (ix2 a k)) l * inv * x1 (ix2 0 l)) b := by
  unfold out0_B_5
  rw [View.read_writes_eq_canon _ _ _ (cover0_B_5 co i arg1 harg1 arg2 harg2 arg3 harg3 arg4 harg4 arg5 harg5 arg6 harg6 arg7 harg7 hc x0 x1 x2 xo3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S256x2048) hz2]
  exact pay9_apply _ _ _ a b

theorem out_A_6 (hc : cond0_0 i) (b : Fin 2048) :
    out0_A_6 (F := Ideal) co i arg1 harg1 arg2 harg2 arg3 harg3 arg4 harg4 arg5 harg5 arg6 harg6 arg7 harg7 hc x0 x1 x2 (ix2 0 b)
      = 0 + ∑ a : Fin 256, err (fun k => x0 (ix2 a k)) (fun k => x1 (ix2 0 k)) (fun k => x2 (ix2 a k)) b * inv * (x0 (ix2 a b) * rms fun k : Fin 2048 => x0 (ix2 a k)) := by
  unfold out0_A_6
  rw [View.read_writes_eq_canon _ _ _ (cover0_A_6 co i arg1 harg1 arg2 harg2 arg3 harg3 arg4 harg4 arg5 harg5 arg6 harg6 arg7 harg7 hc x0 x1 x2)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  simp only [View.readCov_unit_zero (S := S1x2048) _ hz2]
  rw [View.canon_cons_unit_zero (S := S1x2048) hz2]
  refine (pay1_apply _ _ _ b _).trans (congrArg (· + _) ?_)
  unfold k0_pay10
  pointwise

theorem out_B_6 (hc : ¬cond0_0 i) (b : Fin 2048) :
    out0_B_6 (F := Ideal) co i arg1 harg1 arg2 harg2 arg3 harg3 arg4 harg4 arg5 harg5 arg6 harg6 arg7 harg7 hc x0 x1 x2 xo3 xo6 (ix2 0 b)
      = xo6 (ix2 0 b) + ∑ a : Fin 256, err (fun k => x0 (ix2 a k)) (fun k => x1 (ix2 0 k)) (fun k => x2 (ix2 a k)) b * inv * (x0 (ix2 a b) * rms fun k : Fin 2048 => x0 (ix2 a k)) := by
  unfold out0_B_6
  rw [View.read_writes_eq_canon _ _ _ (cover0_B_6 co i arg1 harg1 arg2 harg2 arg3 harg3 arg4 harg4 arg5 harg5 arg6 harg6 arg7 harg7 hc x0 x1 x2 xo3 xo6)]
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, View.ld_unit_zero (S := S1x1) hz2, shapeCast_self]
  rw [View.canon_unit_zero (S := S1x2048) hz2]
  exact pay1_apply _ _ _ b _
end Out

section Ref
open Cert.ReferenceLhIdeal.Read
variable (x0 x2 : Vec Ideal ReferenceLhIdeal.S4096x2048 .f32) (x1 : Vec Ideal ReferenceLhIdeal.S2048 .f32) (a : Fin 4096) (b : Fin 2048)

theorem ref_msq : val_main_v6 (F := Ideal) x0 (ix2 a 0) = msq fun k : Fin 2048 => x0 (ix2 a k) := by
  pointwise [val_main_v6, val_main_v5, val_main_v4, val_main_v3, val_main_v2, val_main_v1, val_main_v0, val_main_cst, val_main_cst_0, val_main_cst_1]
  rfl

theorem ref_rms : val_main_v7 (F := Ideal) x0 (ix2 a 0) = rms fun k : Fin 2048 => x0 (ix2 a k) := by
  pointwise [val_main_v7]
  rw [ref_msq]
  rfl

theorem ref_hat : val_main_v12 (F := Ideal) x0 (ix2 a b) = x0 (ix2 a b) * rms fun k : Fin 2048 => x0 (ix2 a k) := by
  pointwise [val_main_v12, val_main_v11]
  rw [ref_rms]

theorem ref_err : val_main_v16 (F := Ideal) x0 x1 x2 (ix2 a b) = err (fun k => x0 (ix2 a k)) (fun k => x1 (ix1 k)) (fun k => x2 (ix2 a k)) b := by
  pointwise [val_main_v16, val_main_v15, val_main_v14, val_main_v13]
  rw [ref_hat]
  rfl

theorem ref_cot : val_main_v30 (F := Ideal) x0 x1 x2 (ix2 a b) = err (fun k => x0 (ix2 a k)) (fun k => x1 (ix1 k)) (fun k => x2 (ix2 a k)) b * inv := by
  pointwise [val_main_v30, val_main_v29, val_main_v28, val_main_v27, val_main_v26, val_main_v25, val_main_v19, val_main_v18, val_main_cst_3, val_main_cst_8, val_main_cst_9, val_main_cst_10]
  rw [ref_err, ← scale]
  rfl

theorem ref_cotg : val_main_v35 (F := Ideal) x0 x1 x2 (ix2 a b) = err (fun k => x0 (ix2 a k)) (fun k => x1 (ix1 k)) (fun k => x2 (ix2 a k)) b * inv * x1 (ix1 b) := by
  pointwise [val_main_v35, val_main_v34, val_main_v13]
  rw [ref_cot]

theorem ref_dx : val_main_v50 (F := Ideal) x0 x1 x2 (ix2 a b)
    = gradRow (fun k => x0 (ix2 a k)) (fun l => err (fun k => x0 (ix2 a k)) (fun k => x1 (ix1 k)) (fun k => x2 (ix2 a k)) l * inv * x1 (ix1 l)) b := by
  pointwise [val_main_v50, val_main_v49, val_main_v48, val_main_v47, val_main_v46, val_main_v45, val_main_v44, val_main_v43, val_main_v42, val_main_v41, val_main_v40, val_main_v39, val_main_v38, val_main_v37, val_main_v10, val_main_v9, val_main_v8, val_main_cst_2, val_main_cst_13, val_main_cst_14, val_main_cst_15]
  simp only [Fin.sum_univ_one, ref_cotg, ref_rms, ref_msq]
  rw [← grad_eq]
  rfl

theorem ref_dxb : val_main_v52 (F := Ideal) x0 x1 x2 (ix2 a b)
    = gradRow (fun k => x0 (ix2 a k)) (fun l => err (fun k => x0 (ix2 a k)) (fun k => x1 (ix1 k)) (fun k => x2 (ix2 a k)) l * inv * x1 (ix1 l)) b := by
  pointwise [val_main_v52]
  rw [ref_dx]

theorem ref_dg : val_main_v53 (F := Ideal) x0 x1 x2 (ix2 0 b)
    = ∑ a : Fin 4096, err (fun k => x0 (ix2 a k)) (fun k => x1 (ix1 k)) (fun k => x2 (ix2 a k)) b * inv * (x0 (ix2 a b) * rms fun k : Fin 2048 => x0 (ix2 a k)) := by
  pointwise [val_main_v53, val_main_v36, val_main_v33, val_main_v32, val_main_v31, val_main_cst_11, val_main_cst_12]
  rw [Fin.sum_univ_one]
  refine Finset.sum_congr rfl fun a _ => (mul_comm (_ : EReal) _).trans ?_
  rw [ref_cot, ref_hat]

theorem ref_loss : val_main_v51 (F := Ideal) x0 x1 x2 (ix2 0 0) = ∑ a : Fin 4096, lossRow (err (fun k => x0 (ix2 a k)) (fun k => x1 (ix1 k)) (fun k => x2 (ix2 a k))) := by
  pointwise [val_main_v51, val_main_v24, val_main_v23, val_main_v22, val_main_v21, val_main_v20, val_main_v17, val_main_cst_4, val_main_cst_5, val_main_cst_6, val_main_cst_7]
  simp only [ref_err]
  exact half_sum _
end Ref

variable (m : (ℓ : Loc nD τ sig) → Buf (Elt Ideal) ℓ) (c : Dev nD)

/-- The arguments, read at natural numbers. -/
def aX (t l : ℕ) : EReal := at2 (m ((c : Thread nD τ).loc main_arg0)) t l
def aG (l : ℕ) : EReal := at1 (m ((c : Thread nD τ).loc main_arg1)) l
def aT (t l : ℕ) : EReal := at2 (m ((c : Thread nD τ).loc main_arg2)) t l

/-! The results at a row and a column of the arguments. -/

def errAt (X : ℕ → ℕ → EReal) (G : ℕ → EReal) (T : ℕ → ℕ → EReal) (r l : ℕ) : EReal := X r l * rmsN (X r) * G l - T r l
def lossAt (X : ℕ → ℕ → EReal) (G : ℕ → EReal) (T : ℕ → ℕ → EReal) (r : ℕ) : EReal := lossRow fun k => errAt X G T r k.val
def inAt (X : ℕ → ℕ → EReal) (G : ℕ → EReal) (T : ℕ → ℕ → EReal) (r l : ℕ) : EReal :=
  gradN (X r) (fun k => errAt X G T r k * inv * G k) l
def gainAt (X : ℕ → ℕ → EReal) (G : ℕ → EReal) (T : ℕ → ℕ → EReal) (l r : ℕ) : EReal :=
  errAt X G T r l * inv * (X r l * rmsN (X r))

section Row
variable {X T : ℕ → ℕ → EReal} {G : ℕ → EReal} {r : ℕ} {x g t : Fin 2048 → EReal}
  (hx : ∀ k, x k = X r k.val) (hg : ∀ k, g k = G k.val) (ht : ∀ k, t k = T r k.val)
include hx hg ht

theorem err_row (b : Fin 2048) : err x g t b = errAt X G T r b.val := by
  unfold err errAt
  rw [hx b, hg b, ht b, rmsN_eq _ hx]

theorem loss_row : lossRow (err x g t) = lossAt X G T r := congrArg lossRow (funext (err_row hx hg ht))

theorem dx_row (b : Fin 2048) : gradRow x (fun l => err x g t l * inv * g l) b = inAt X G T r b.val :=
  gradN_eq _ _ b hx fun k => by rw [err_row hx hg ht k, hg k]

theorem dg_row (b : Fin 2048) : err x g t b * inv * (x b * rms x) = gainAt X G T b.val r := by
  unfold gainAt
  rw [err_row hx hg ht b, hx b, rmsN_eq _ hx]
end Row

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![0, 0] := (by decide +kernel : ∀ t : Fin grid0.N, _)
theorem idx6 : ∀ t : Fin cfg0.N, win0_6.index t = ![0, 0] := (by decide +kernel : ∀ t : Fin grid0.N, _)

theorem lt16 (t : Fin cfg0.N) : t.val < 16 := lt_of_lt_of_eq t.isLt N_0

/-- The gain as the kernel's row. -/
theorem gain_row (l : Fin 2048) : V m c main_v0 (ix2 0 l) = aG m c l.val := by
  refine Eq.trans ?_ (at1_of_lt _ l.isLt).symm
  entry_read
  pointwise

theorem blk1 (t : Fin cfg0.N) (l : Fin 2048) : (iblk m c 1 t) (ix2 0 l) = aG m c l.val := by
  refine Eq.trans ?_ (gain_row m c l)
  blk_ext [iblk, idx1 t]

theorem blk0 (t : Fin cfg0.N) (a : Fin 256) (l : Fin 2048) : (iblk m c 0 t) (ix2 a l) = aX m c (t.val * 256 + a.val) l.val := by
  have ht := lt16 t
  have ha := a.isLt
  refine Eq.trans ?_ (at2_of_lt _ (by omega) l.isLt).symm
  blk_ext [iblk, V, idx0 t]

theorem blk2 (t : Fin cfg0.N) (a : Fin 256) (l : Fin 2048) : (iblk m c 2 t) (ix2 a l) = aT m c (t.val * 256 + a.val) l.val := by
  have ht := lt16 t
  have ha := a.isLt
  refine Eq.trans ?_ (at2_of_lt _ (by omega) l.isLt).symm
  blk_ext [iblk, V, idx2 t]

theorem rows4 (t : Fin cfg0.N) (a : Fin 256) (b : Fin 2048) :
    (outsAt0 m c t.val t.isLt).2.1 (ix2 a b) = inAt (aX m c) (aG m c) (aT m c) (t.val * 256 + a.val) b.val := by
  by_cases h0 : t.val % 16 = 0
  · rw [outsAt0_A m c t h0]
    dsimp only
    exact (out_A_4 _ _ _ _ _ _ _ _ _ _ _ _ _ _ _ _ _ _ _ _ a b).trans (dx_row (fun k => blk0 m c t a k) (blk1 m c t) (fun k => blk2 m c t a k) b)
  · rw [outsAt0_B m c t h0]
    dsimp only
    exact (out_B_4 _ _ _ _ _ _ _ _ _ _ _ _ _ _ _ _ _ _ _ _ _ _ a b).trans (dx_row (fun k => blk0 m c t a k) (blk1 m c t) (fun k => blk2 m c t a k) b)

theorem rows5 (t : Fin cfg0.N) (a : Fin 256) (b : Fin 2048) :
    (outsAt0 m c t.val t.isLt).2.2.1 (ix2 a b) = inAt (aX m c) (aG m c) (aT m c) (t.val * 256 + a.val) b.val := by
  by_cases h0 : t.val % 16 = 0
  · rw [outsAt0_A m c t h0]
    dsimp only
    exact (out_A_5 _ _ _ _ _ _ _ _ _ _ _ _ _ _ _ _ _ _ _ _ a b).trans (dx_row (fun k => blk0 m c t a k) (blk1 m c t) (fun k => blk2 m c t a k) b)
  · rw [outsAt0_B m c t h0]
    dsimp only
    exact (out_B_5 _ _ _ _ _ _ _ _ _ _ _ _ _ _ _ _ _ _ _ _ _ _ a b).trans (dx_row (fun k => blk0 m c t a k) (blk1 m c t) (fun k => blk2 m c t a k) b)

theorem losses : ∀ (n : ℕ) (hn : n < cfg0.N),
    (outsAt0 m c n hn).1 (ix2 0 0) = ∑ x ∈ Finset.range ((n + 1) * 256), lossAt (aX m c) (aG m c) (aT m c) x := by
  intro n
  induction n with
  | zero =>
    intro hn
    rw [outsAt0_A m c ⟨0, hn⟩ (Nat.zero_mod _)]
    dsimp only
    refine (out_A_3 _ _ _ _ _ _ _ _ _ _ _ _ _ _ _ _ _ _ _ _).trans ?_
    refine (congrArg (0 + ·) (Finset.sum_congr rfl fun a _ => loss_row (fun k => blk0 m c ⟨0, hn⟩ a k) (blk1 m c ⟨0, hn⟩) (fun k => blk2 m c ⟨0, hn⟩ a k))).trans ?_
    rw [← sum_tile]
    simp
  | succ n ih =>
    intro hn
    have hN : n + 1 < 16 := lt_of_lt_of_eq hn N_0
    rw [outsAt0_B m c ⟨n + 1, hn⟩ (by show ¬(n + 1) % 16 = 0; omega)]
    dsimp only
    refine (out_B_3 _ _ _ _ _ _ _ _ _ _ _ _ _ _ _ _ _ _ _ _ _ _).trans ?_
    rw [← sum_tile]
    exact congrArg₂ (· + ·) (ih _) (Finset.sum_congr rfl fun a _ => loss_row (fun k => blk0 m c ⟨n + 1, hn⟩ a k) (blk1 m c ⟨n + 1, hn⟩) (fun k => blk2 m c ⟨n + 1, hn⟩ a k))

theorem gains : ∀ (n : ℕ) (hn : n < cfg0.N) (b : Fin 2048),
    (outsAt0 m c n hn).2.2.2 (ix2 0 b) = ∑ x ∈ Finset.range ((n + 1) * 256), gainAt (aX m c) (aG m c) (aT m c) b.val x := by
  intro n
  induction n with
  | zero =>
    intro hn b
    rw [outsAt0_A m c ⟨0, hn⟩ (Nat.zero_mod _)]
    dsimp only
    refine (out_A_6 _ _ _ _ _ _ _ _ _ _ _ _ _ _ _ _ _ _ _ _ b).trans ?_
    refine (congrArg (0 + ·) (Finset.sum_congr rfl fun a _ => dg_row (fun k => blk0 m c ⟨0, hn⟩ a k) (blk1 m c ⟨0, hn⟩) (fun k => blk2 m c ⟨0, hn⟩ a k) b)).trans ?_
    rw [← sum_tile]
    simp
  | succ n ih =>
    intro hn b
    have hN : n + 1 < 16 := lt_of_lt_of_eq hn N_0
    rw [outsAt0_B m c ⟨n + 1, hn⟩ (by show ¬(n + 1) % 16 = 0; omega)]
    dsimp only
    refine (out_B_6 _ _ _ _ _ _ _ _ _ _ _ _ _ _ _ _ _ _ _ _ _ _ b).trans ?_
    rw [← sum_tile]
    exact congrArg₂ (· + ·) (ih _ _) (Finset.sum_congr rfl fun a _ => dg_row (fun k => blk0 m c ⟨n + 1, hn⟩ a k) (blk1 m c ⟨n + 1, hn⟩) (fun k => blk2 m c ⟨n + 1, hn⟩ a k) b)

/-- The result arrays. -/
def G3 : Vec Ideal S1x1 .f32 := fun _ => ∑ x ∈ Finset.range 4096, lossAt (aX m c) (aG m c) (aT m c) x
def G4 : Vec Ideal S4096x2048 .f32 := fun i => inAt (aX m c) (aG m c) (aT m c) (i 0).val (i 1).val
def G5 : Vec Ideal S4096x2048 .bf16 := fun i => inAt (aX m c) (aG m c) (aT m c) (i 0).val (i 1).val
def G6 : Vec Ideal S1x2048 .f32 := fun i => ∑ x ∈ Finset.range 4096, gainAt (aX m c) (aG m c) (aT m c) (i 1).val x

theorem final4 : (dats m 0 c).arrAt 4 cfg0.N = G4 m c := by
  refine (dats m 0 c).arrAt_eq_of_covers 4 _ (by decide +kernel) fun t hf y => ?_
  blk_simp
  rw [after0_4]
  idx_vars y
  refine (rows4 m c t _ _).trans ?_
  unfold G4
  blk_simp [idx4 t]

theorem final5 : (dats m 0 c).arrAt 5 cfg0.N = G5 m c := by
  refine (dats m 0 c).arrAt_eq_of_covers 5 _ (by decide +kernel) fun t hf y => ?_
  blk_simp
  rw [after0_5]
  idx_vars y
  refine (rows5 m c t _ _).trans ?_
  unfold G5
  blk_simp [idx5 t]

theorem final3 : (dats m 0 c).arrAt 3 cfg0.N = G3 m c := by
  refine (dats m 0 c).arrAt_eq_of_covers 3 _ (by decide +kernel) fun t hf y => ?_
  blk_simp
  rw [after0_3]
  have h1 : t.val % 16 = 15 := (flush0_3 t).mp hf
  have ht := lt16 t
  have e : t.val = 15 := by omega
  idx_vars y
  obtain rfl : y0 = 0 := Subsingleton.elim _ _
  obtain rfl : y1 = 0 := Subsingleton.elim _ _
  refine (losses m c t.val t.isLt).trans ?_
  unfold G3
  rw [e]

theorem final6 : (dats m 0 c).arrAt 6 cfg0.N = G6 m c := by
  refine (dats m 0 c).arrAt_eq_of_covers 6 _ (by decide +kernel) fun t hf y => ?_
  blk_simp
  rw [after0_6]
  have h1 : t.val % 16 = 15 := (flush0_6 t).mp hf
  have ht := lt16 t
  have e : t.val = 15 := by omega
  idx_vars y
  obtain rfl : y0 = 0 := Subsingleton.elim _ _
  refine (gains m c t.val t.isLt _).trans ?_
  unfold G6
  rw [e]
  blk_simp [idx6 t]

theorem ref3 : ReferenceLhIdeal.Read.val_main_v51 (F := Ideal) (m ((c.tc : Thread nD τ).loc main_arg0)) (m ((c.tc : Thread nD τ).loc main_arg1)) (m ((c.tc : Thread nD τ).loc main_arg2)) = G3 m c := by
  funext j
  idx_vars j
  obtain rfl : j0 = 0 := Subsingleton.elim _ _
  obtain rfl : j1 = 0 := Subsingleton.elim _ _
  refine (ref_loss _ _ _).trans ?_
  unfold G3
  rw [← sum_all]
  exact Finset.sum_congr rfl fun a _ => loss_row (fun k => at2_eq _ _ _ rfl rfl) (fun k => (at1_of_lt _ k.isLt).symm) (fun k => at2_eq _ _ _ rfl rfl)

theorem ref4 : ReferenceLhIdeal.Read.val_main_v50 (F := Ideal) (m ((c.tc : Thread nD τ).loc main_arg0)) (m ((c.tc : Thread nD τ).loc main_arg1)) (m ((c.tc : Thread nD τ).loc main_arg2)) = G4 m c := by
  funext j
  idx_vars j
  exact (ref_dx _ _ _ _ _).trans (dx_row (fun k => at2_eq _ _ _ rfl rfl) (fun k => (at1_of_lt _ k.isLt).symm) (fun k => at2_eq _ _ _ rfl rfl) _)

theorem ref5 : ReferenceLhIdeal.Read.val_main_v52 (F := Ideal) (m ((c.tc : Thread nD τ).loc main_arg0)) (m ((c.tc : Thread nD τ).loc main_arg1)) (m ((c.tc : Thread nD τ).loc main_arg2)) = G5 m c := by
  funext j
  idx_vars j
  exact (ref_dxb _ _ _ _ _).trans (dx_row (fun k => at2_eq _ _ _ rfl rfl) (fun k => (at1_of_lt _ k.isLt).symm) (fun k => at2_eq _ _ _ rfl rfl) _)

theorem ref6 : ReferenceLhIdeal.Read.val_main_v53 (F := Ideal) (m ((c.tc : Thread nD τ).loc main_arg0)) (m ((c.tc : Thread nD τ).loc main_arg1)) (m ((c.tc : Thread nD τ).loc main_arg2)) = G6 m c := by
  funext j
  idx_vars j
  obtain rfl : j0 = 0 := Subsingleton.elim _ _
  refine (ref_dg _ _ _ _).trans ?_
  unfold G6
  rw [← sum_all]
  exact Finset.sum_congr rfl fun a _ => dg_row (fun k => at2_eq _ _ _ rfl rfl) (fun k => (at1_of_lt _ k.isLt).symm) (fun k => at2_eq _ _ _ rfl rfl) _

theorem algebraic : Cert.algebraic_KernelLhIdeal_ReferenceLhIdeal := by
  intro m g m' g' _ hagree
  refine ⟨fun c => G3 m c, fun c => G4 m c, fun c => G5 m c, fun c => G6 m c, ?_, ?_⟩
  · refine (θ_run _ _ _).mono (fun r h c => ?_) (Cert.KernelLhIdeal.Value.run_blocks (F := Ideal) m g)
    obtain ⟨h0, h1, h2, h3, hrest⟩ := h c
    exact ⟨h0.trans (final3 m c), h1.trans (final4 m c), h2.trans (final5 m c), h3.trans (final6 m c), hrest⟩
  · refine (θ_run _ _ _).mono (fun r h c => ?_) (Cert.ReferenceLhIdeal.Value.run (F := Ideal) m' g')
    obtain ⟨a0, a1, a2⟩ := hagree c
    obtain ⟨h0, h1, h2, h3, hrest⟩ := h c
    refine ⟨?_, ?_, ?_, ?_, hrest⟩
    · refine (h0.trans (Cert.ReferenceLhIdeal.Read.val_main_v51_eq _ _ _)).trans ?_
      rw [a0, a1, a2]
      exact ref3 m c
    · refine (h1.trans (Cert.ReferenceLhIdeal.Read.val_main_v50_eq _ _)).trans ?_
      rw [a0, a1, a2]
      exact ref4 m c
    · refine (h2.trans (Cert.ReferenceLhIdeal.Read.val_main_v52_eq _ _)).trans ?_
      rw [a0, a1, a2]
      exact ref5 m c
    · refine (h3.trans (Cert.ReferenceLhIdeal.Read.val_main_v53_eq _ _ _)).trans ?_
      rw [a0, a1, a2]
      exact ref6 m c

end Cert.Loss
-- ==== Proof.AdamMath.lean ====
module
public import Idealize.ShloMosaic.Lib.Pipeline.ValueKit
public import Idealize.ShloMosaic.Lib.Pointwise
@[expose] public section
noncomputable section

/-! One AdamW step of one weight, over the extended reals: the constants are the training step's. -/

namespace Cert.Adam
open Idealize.ShloMosaic Idealize.SL.Sem

/-- The new first moment. -/
def firstMoment (g m : EReal) : EReal := Ideal.ofBits FTy.f32 0x3F666666#32 * m + Ideal.ofBits FTy.f32 0x3DCCCCCD#32 * g

/-- The new second moment. -/
def secondMoment (g v : EReal) : EReal := Ideal.ofBits FTy.f32 0x3F7FBE77#32 * v + Ideal.ofBits FTy.f32 0x3A83126F#32 * (g * g)

/-- The weight's change. -/
def change (w g m v : EReal) : EReal :=
  Ideal.ofBits FTy.f32 0xBA83126F#32
    * (Ideal.div (Ideal.div (firstMoment g m) (Ideal.ofBits FTy.f32 0x3F26BD02#32))
        (Ideal.sqrt (Ideal.div (secondMoment g v) (Ideal.ofBits FTy.f32 0x3C231ACC#32)) + Ideal.ofBits FTy.f32 0x322BCC77#32)
      + Ideal.ofBits FTy.f32 0x3C23D70A#32 * w)

/-! The same of arrays of any shape, entry by entry. -/
variable {S : Shape}

def firsts (g m : Vec Ideal S .f32) : Vec Ideal S .f32 := fun i => firstMoment (g i) (m i)
def seconds (g v : Vec Ideal S .f32) : Vec Ideal S .f32 := fun i => secondMoment (g i) (v i)
def changes (w g m v : Vec Ideal S .f32) : Vec Ideal S .f32 := fun i => change (w i) (g i) (m i) (v i)

end Cert.Adam
-- ==== Proof.AdamW.lean ====
module
public import proofs.«01_k».proof.Defs
public import proofs.«01_k».proof.Proof.Gen.KernelAdAIdeal.Value
public import proofs.«01_k».proof.Proof.Gen.ReferenceAdAIdeal.Read
public import proofs.«01_k».proof.Proof.Gen.KernelAdBIdeal.Value
public import proofs.«01_k».proof.Proof.Gen.ReferenceAdBIdeal.Read
public import proofs.«01_k».proof.Proof.Gen.KernelAdCIdeal.Value
public import proofs.«01_k».proof.Proof.Gen.ReferenceAdCIdeal.Read
public import proofs.«01_k».proof.Proof.Gen.KernelAdDIdeal.Value
public import proofs.«01_k».proof.Proof.Gen.ReferenceAdDIdeal.Read
public import proofs.«01_k».proof.Proof.Gen.KernelAdEIdeal.Value
public import proofs.«01_k».proof.Proof.Gen.ReferenceAdEIdeal.Read
public import proofs.«01_k».proof.Proof.Gen.KernelAdSIdeal.Value
public import proofs.«01_k».proof.Proof.Gen.ReferenceAdSIdeal.Read
public import proofs.«01_k».proof.Proof.AdamMath
public import proofs.«01_k».proof.Proof.Rows
@[expose] public section
set_option maxRecDepth 16384
noncomputable section

/-! The step of a weight of 2048 rows and 2304 columns, 128 rows at a point. -/

namespace Cert.Adam.AdA
open Cert.KernelAdAIdeal Cert.KernelAdAIdeal.Gen Cert.Rows Cert.Adam Idealize.ShloMosaic Idealize.ShloMosaic.TcCoe
open Idealize.SL Idealize.SL.Sem

section Out
variable (x0 x1 x2 x3 : Vec Ideal S128x2304 .f32)

theorem out4 : out0_4 (F := Ideal) x0 x1 x2 x3 = x1 := by
  unfold out0_4
  rw [View.canon_unit_zero (S := S128x2304) hz2]
  simp only [r0_0, View.ld_unit_zero (S := S128x2304) hz2]

theorem out5 : out0_5 (F := Ideal) x0 x1 x2 x3 = changes x0 x1 x2 x3 := by
  unfold out0_5
  rw [View.canon_unit_zero (S := S128x2304) hz2]
  simp only [r0_0, View.ld_unit_zero (S := S128x2304) hz2]
  rfl

theorem out6 : out0_6 (F := Ideal) x0 x1 x2 x3 = firsts x1 x2 := by
  unfold out0_6
  rw [View.canon_unit_zero (S := S128x2304) hz2]
  simp only [r0_0, View.ld_unit_zero (S := S128x2304) hz2]
  rfl

theorem out7 : out0_7 (F := Ideal) x0 x1 x2 x3 = seconds x1 x3 := by
  unfold out0_7
  rw [View.canon_unit_zero (S := S128x2304) hz2]
  simp only [r0_0, View.ld_unit_zero (S := S128x2304) hz2]
  rfl
end Out

variable (m : (ℓ : Loc nD τ sig) → Buf (Elt Ideal) ℓ) (c : Dev nD)

/-- The result arrays. -/
def G4 : Vec Ideal S2048x2304 .f32 := (m ((c.tc : Thread nD τ).loc main_arg1))
def G5 : Vec Ideal S2048x2304 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S2048x2304 .f32 := firsts (m ((c.tc : Thread nD τ).loc main_arg1)) (m ((c.tc : Thread nD τ).loc main_arg2))
def G7 : Vec Ideal S2048x2304 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdAIdeal_ReferenceAdAIdeal := by
  intro m g m' g' _ hagree
  refine ⟨fun c => G4 m c, fun c => G5 m c, fun c => G6 m c, fun c => G7 m c, ?_, ?_⟩
  · refine (θ_run _ _ _).mono (fun r h c => ?_) (Cert.KernelAdAIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdAIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdA

/-! The step of a weight of 1024 rows and 512 columns, 1024 rows at a point. -/

namespace Cert.Adam.AdB
open Cert.KernelAdBIdeal Cert.KernelAdBIdeal.Gen Cert.Rows Cert.Adam Idealize.ShloMosaic Idealize.ShloMosaic.TcCoe
open Idealize.SL Idealize.SL.Sem

section Out
variable (x0 x1 x2 x3 : Vec Ideal S1024x512 .f32)

theorem out4 : out0_4 (F := Ideal) x0 x1 x2 x3 = x1 := by
  unfold out0_4
  rw [View.canon_unit_zero (S := S1024x512) hz2]
  simp only [r0_0, View.ld_unit_zero (S := S1024x512) hz2]

theorem out5 : out0_5 (F := Ideal) x0 x1 x2 x3 = changes x0 x1 x2 x3 := by
  unfold out0_5
  rw [View.canon_unit_zero (S := S1024x512) hz2]
  simp only [r0_0, View.ld_unit_zero (S := S1024x512) hz2]
  rfl

theorem out6 : out0_6 (F := Ideal) x0 x1 x2 x3 = firsts x1 x2 := by
  unfold out0_6
  rw [View.canon_unit_zero (S := S1024x512) hz2]
  simp only [r0_0, View.ld_unit_zero (S := S1024x512) hz2]
  rfl

theorem out7 : out0_7 (F := Ideal) x0 x1 x2 x3 = seconds x1 x3 := by
  unfold out0_7
  rw [View.canon_unit_zero (S := S1024x512) hz2]
  simp only [r0_0, View.ld_unit_zero (S := S1024x512) hz2]
  rfl
end Out

variable (m : (ℓ : Loc nD τ sig) → Buf (Elt Ideal) ℓ) (c : Dev nD)

/-- The result arrays. -/
def G4 : Vec Ideal S1024x512 .f32 := (m ((c.tc : Thread nD τ).loc main_arg1))
def G5 : Vec Ideal S1024x512 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S1024x512 .f32 := firsts (m ((c.tc : Thread nD τ).loc main_arg1)) (m ((c.tc : Thread nD τ).loc main_arg2))
def G7 : Vec Ideal S1024x512 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdBIdeal_ReferenceAdBIdeal := by
  intro m g m' g' _ hagree
  refine ⟨fun c => G4 m c, fun c => G5 m c, fun c => G6 m c, fun c => G7 m c, ?_, ?_⟩
  · refine (θ_run _ _ _).mono (fun r h c => ?_) (Cert.KernelAdBIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdBIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdB

/-! The step of a weight of 512 rows and 2048 columns, 256 rows at a point. -/

namespace Cert.Adam.AdC
open Cert.KernelAdCIdeal Cert.KernelAdCIdeal.Gen Cert.Rows Cert.Adam Idealize.ShloMosaic Idealize.ShloMosaic.TcCoe
open Idealize.SL Idealize.SL.Sem

section Out
variable (x0 x1 x2 x3 : Vec Ideal S256x2048 .f32)

theorem out4 : out0_4 (F := Ideal) x0 x1 x2 x3 = x1 := by
  unfold out0_4
  rw [View.canon_unit_zero (S := S256x2048) hz2]
  simp only [r0_0, View.ld_unit_zero (S := S256x2048) hz2]

theorem out5 : out0_5 (F := Ideal) x0 x1 x2 x3 = changes x0 x1 x2 x3 := by
  unfold out0_5
  rw [View.canon_unit_zero (S := S256x2048) hz2]
  simp only [r0_0, View.ld_unit_zero (S := S256x2048) hz2]
  rfl

theorem out6 : out0_6 (F := Ideal) x0 x1 x2 x3 = firsts x1 x2 := by
  unfold out0_6
  rw [View.canon_unit_zero (S := S256x2048) hz2]
  simp only [r0_0, View.ld_unit_zero (S := S256x2048) hz2]
  rfl

theorem out7 : out0_7 (F := Ideal) x0 x1 x2 x3 = seconds x1 x3 := by
  unfold out0_7
  rw [View.canon_unit_zero (S := S256x2048) hz2]
  simp only [r0_0, View.ld_unit_zero (S := S256x2048) hz2]
  rfl
end Out

variable (m : (ℓ : Loc nD τ sig) → Buf (Elt Ideal) ℓ) (c : Dev nD)

/-- The result arrays. -/
def G4 : Vec Ideal S512x2048 .f32 := (m ((c.tc : Thread nD τ).loc main_arg1))
def G5 : Vec Ideal S512x2048 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S512x2048 .f32 := firsts (m ((c.tc : Thread nD τ).loc main_arg1)) (m ((c.tc : Thread nD τ).loc main_arg2))
def G7 : Vec Ideal S512x2048 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdCIdeal_ReferenceAdCIdeal := by
  intro m g m' g' _ hagree
  refine ⟨fun c => G4 m c, fun c => G5 m c, fun c => G6 m c, fun c => G7 m c, ?_, ?_⟩
  · refine (θ_run _ _ _).mono (fun r h c => ?_) (Cert.KernelAdCIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdCIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdC

/-! The step of a weight of 2048 rows and 2816 columns, 128 rows at a point. -/

namespace Cert.Adam.AdD
open Cert.KernelAdDIdeal Cert.KernelAdDIdeal.Gen Cert.Rows Cert.Adam Idealize.ShloMosaic Idealize.ShloMosaic.TcCoe
open Idealize.SL Idealize.SL.Sem

section Out
variable (x0 x1 x2 x3 : Vec Ideal S128x2816 .f32)

theorem out4 : out0_4 (F := Ideal) x0 x1 x2 x3 = x1 := by
  unfold out0_4
  rw [View.canon_unit_zero (S := S128x2816) hz2]
  simp only [r0_0, View.ld_unit_zero (S := S128x2816) hz2]

theorem out5 : out0_5 (F := Ideal) x0 x1 x2 x3 = changes x0 x1 x2 x3 := by
  unfold out0_5
  rw [View.canon_unit_zero (S := S128x2816) hz2]
  simp only [r0_0, View.ld_unit_zero (S := S128x2816) hz2]
  rfl

theorem out6 : out0_6 (F := Ideal) x0 x1 x2 x3 = firsts x1 x2 := by
  unfold out0_6
  rw [View.canon_unit_zero (S := S128x2816) hz2]
  simp only [r0_0, View.ld_unit_zero (S := S128x2816) hz2]
  rfl

theorem out7 : out0_7 (F := Ideal) x0 x1 x2 x3 = seconds x1 x3 := by
  unfold out0_7
  rw [View.canon_unit_zero (S := S128x2816) hz2]
  simp only [r0_0, View.ld_unit_zero (S := S128x2816) hz2]
  rfl
end Out

variable (m : (ℓ : Loc nD τ sig) → Buf (Elt Ideal) ℓ) (c : Dev nD)

/-- The result arrays. -/
def G4 : Vec Ideal S2048x2816 .f32 := (m ((c.tc : Thread nD τ).loc main_arg1))
def G5 : Vec Ideal S2048x2816 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S2048x2816 .f32 := firsts (m ((c.tc : Thread nD τ).loc main_arg1)) (m ((c.tc : Thread nD τ).loc main_arg2))
def G7 : Vec Ideal S2048x2816 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdDIdeal_ReferenceAdDIdeal := by
  intro m g m' g' _ hagree
  refine ⟨fun c => G4 m c, fun c => G5 m c, fun c => G6 m c, fun c => G7 m c, ?_, ?_⟩
  · refine (θ_run _ _ _).mono (fun r h c => ?_) (Cert.KernelAdDIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdDIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdD

/-! The step of a weight of 1408 rows and 2048 columns, 176 rows at a point. -/

namespace Cert.Adam.AdE
open Cert.KernelAdEIdeal Cert.KernelAdEIdeal.Gen Cert.Rows Cert.Adam Idealize.ShloMosaic Idealize.ShloMosaic.TcCoe
open Idealize.SL Idealize.SL.Sem

section Out
variable (x0 x1 x2 x3 : Vec Ideal S176x2048 .f32)

theorem out4 : out0_4 (F := Ideal) x0 x1 x2 x3 = x1 := by
  unfold out0_4
  rw [View.canon_unit_zero (S := S176x2048) hz2]
  simp only [r0_0, View.ld_unit_zero (S := S176x2048) hz2]

theorem out5 : out0_5 (F := Ideal) x0 x1 x2 x3 = changes x0 x1 x2 x3 := by
  unfold out0_5
  rw [View.canon_unit_zero (S := S176x2048) hz2]
  simp only [r0_0, View.ld_unit_zero (S := S176x2048) hz2]
  rfl

theorem out6 : out0_6 (F := Ideal) x0 x1 x2 x3 = firsts x1 x2 := by
  unfold out0_6
  rw [View.canon_unit_zero (S := S176x2048) hz2]
  simp only [r0_0, View.ld_unit_zero (S := S176x2048) hz2]
  rfl

theorem out7 : out0_7 (F := Ideal) x0 x1 x2 x3 = seconds x1 x3 := by
  unfold out0_7
  rw [View.canon_unit_zero (S := S176x2048) hz2]
  simp only [r0_0, View.ld_unit_zero (S := S176x2048) hz2]
  rfl
end Out

variable (m : (ℓ : Loc nD τ sig) → Buf (Elt Ideal) ℓ) (c : Dev nD)

/-- The result arrays. -/
def G4 : Vec Ideal S1408x2048 .f32 := (m ((c.tc : Thread nD τ).loc main_arg1))
def G5 : Vec Ideal S1408x2048 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S1408x2048 .f32 := firsts (m ((c.tc : Thread nD τ).loc main_arg1)) (m ((c.tc : Thread nD τ).loc main_arg2))
def G7 : Vec Ideal S1408x2048 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdEIdeal_ReferenceAdEIdeal := by
  intro m g m' g' _ hagree
  refine ⟨fun c => G4 m c, fun c => G5 m c, fun c => G6 m c, fun c => G7 m c, ?_, ?_⟩
  · refine (θ_run _ _ _).mono (fun r h c => ?_) (Cert.KernelAdEIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdEIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdE

/-! The step of a weight of 1192 rows and 128 columns, 1192 rows at a point. -/

namespace Cert.Adam.AdS
open Cert.KernelAdSIdeal Cert.KernelAdSIdeal.Gen Cert.Rows Cert.Adam Idealize.ShloMosaic Idealize.ShloMosaic.TcCoe
open Idealize.SL Idealize.SL.Sem

section Out
variable (x0 x1 x2 x3 : Vec Ideal S1192x128 .f32)

theorem out4 : out0_4 (F := Ideal) x0 x1 x2 x3 = x1 := by
  unfold out0_4
  rw [View.canon_unit_zero (S := S1192x128) hz2]
  simp only [r0_0, View.ld_unit_zero (S := S1192x128) hz2]

theorem out5 : out0_5 (F := Ideal) x0 x1 x2 x3 = changes x0 x1 x2 x3 := by
  unfold out0_5
  rw [View.canon_unit_zero (S := S1192x128) hz2]
  simp only [r0_0, View.ld_unit_zero (S := S1192x128) hz2]
  rfl

theorem out6 : out0_6 (F := Ideal) x0 x1 x2 x3 = firsts x1 x2 := by
  unfold out0_6
  rw [View.canon_unit_zero (S := S1192x128) hz2]
  simp only [r0_0, View.ld_unit_zero (S := S1192x128) hz2]
  rfl

theorem out7 : out0_7 (F := Ideal) x0 x1 x2 x3 = seconds x1 x3 := by
  unfold out0_7
  rw [View.canon_unit_zero (S := S1192x128) hz2]
  simp only [r0_0, View.ld_unit_zero (S := S1192x128) hz2]
  rfl
end Out

variable (m : (ℓ : Loc nD τ sig) → Buf (Elt Ideal) ℓ) (c : Dev nD)

/-- The result arrays. -/
def G4 : Vec Ideal S1192x128 .f32 := (m ((c.tc : Thread nD τ).loc main_arg1))
def G5 : Vec Ideal S1192x128 .f32 := changes (m ((c.tc : Thread nD τ).loc main_arg0)) (m ((c.tc : Thread nD τ).loc main_arg1)) (m ((c.tc : Thread nD τ).loc main_arg2)) (m ((c.tc : Thread nD τ).loc main_arg3))
def G6 : Vec Ideal S1192x128 .f32 := firsts (m ((c.tc : Thread nD τ).loc main_arg1)) (m ((c.tc : Thread nD τ).loc main_arg2))
def G7 : Vec Ideal S1192x128 .f32 := seconds (m ((c.tc : Thread nD τ).loc main_arg1)) (m ((c.tc : Thread nD τ).loc main_arg3))

theorem final4 : (dats m 0 c).arrAt 4 cfg0.N = G4 m c := by
  refine (dats m 0 c).arrAt_eq_of_covers 4 _ (by decide +kernel) fun t hf y => ?_
  blk_simp
  rw [after0_4]
  refine (congrFun (out4 _ _ _ _) y).trans ?_
  rfl

theorem final5 : (dats m 0 c).arrAt 5 cfg0.N = G5 m c := by
  refine (dats m 0 c).arrAt_eq_of_covers 5 _ (by decide +kernel) fun t hf y => ?_
  blk_simp
  rw [after0_5]
  refine (congrFun (out5 _ _ _ _) y).trans ?_
  rfl

theorem final6 : (dats m 0 c).arrAt 6 cfg0.N = G6 m c := by
  refine (dats m 0 c).arrAt_eq_of_covers 6 _ (by decide +kernel) fun t hf y => ?_
  blk_simp
  rw [after0_6]
  refine (congrFun (out6 _ _ _ _) y).trans ?_
  rfl

theorem final7 : (dats m 0 c).arrAt 7 cfg0.N = G7 m c := by
  refine (dats m 0 c).arrAt_eq_of_covers 7 _ (by decide +kernel) fun t hf y => ?_
  blk_simp
  rw [after0_7]
  refine (congrFun (out7 _ _ _ _) y).trans ?_
  rfl

theorem algebraic : Cert.algebraic_KernelAdSIdeal_ReferenceAdSIdeal := by
  intro m g m' g' _ hagree
  refine ⟨fun c => G4 m c, fun c => G5 m c, fun c => G6 m c, fun c => G7 m c, ?_, ?_⟩
  · refine (θ_run _ _ _).mono (fun r h c => ?_) (Cert.KernelAdSIdeal.Value.run_blocks (F := Ideal) m g)
    obtain ⟨h0, h1, h2, h3, hrest⟩ := h c
    exact ⟨h0.trans (final4 m c), h1.trans (final5 m c), h2.trans (final6 m c), h3.trans (final7 m c), hrest⟩
  · refine (θ_run _ _ _).mono (fun r h c => ?_) (Cert.ReferenceAdSIdeal.Value.run (F := Ideal) m' g')
    obtain ⟨a0, a1, a2, a3⟩ := hagree c
    obtain ⟨h0, h1, h2, h3, hrest⟩ := h c
    refine ⟨h0.trans a1, h1.trans ?_, h2.trans ?_, h3.trans ?_, hrest⟩
    · rw [a0, a1, a2, a3]
      rfl
    · rw [a1, a2]
      rfl
    · rw [a1, a3]
      rfl

end Cert.Adam.AdS
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelLo
public import proofs.«01_k».proof.Proof.Gen.KernelLo.Skeleton
public import proofs.«01_k».proof.Proof.Gen.KernelLo.Launch
public import proofs.«01_k».proof.Proof.Gen.KernelLo.Points
public import proofs.«01_k».proof.Proof.Gen.KernelLo.Frame
public import proofs.«01_k».proof.Proof.Gen.KernelLoIdeal
public import proofs.«01_k».proof.Proof.Gen.KernelLoIdeal.Skeleton
public import proofs.«01_k».proof.Proof.Gen.KernelLoIdeal.Launch
public import proofs.«01_k».proof.Proof.Gen.KernelLoIdeal.Points
public import proofs.«01_k».proof.Proof.Gen.KernelLoIdeal.Frame
public import proofs.«01_k».proof.Proof.Gen.KernelLoIdeal.Value
public import proofs.«01_k».proof.Proof.Gen.ReferenceLoIdeal
public import proofs.«01_k».proof.Proof.Gen.ReferenceLoIdeal.Run
public import proofs.«01_k».proof.Proof.Gen.ReferenceLoIdeal.Read
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelDownW
public import proofs.«01_k».proof.Proof.Gen.KernelDownW.Skeleton
public import proofs.«01_k».proof.Proof.Gen.KernelDownW.Launch
public import proofs.«01_k».proof.Proof.Gen.KernelDownW.Points
public import proofs.«01_k».proof.Proof.Gen.KernelDownW.Frame
public import proofs.«01_k».proof.Proof.Gen.KernelDownWIdeal
public import proofs.«01_k».proof.Proof.Gen.KernelDownWIdeal.Skeleton
public import proofs.«01_k».proof.Proof.Gen.KernelDownWIdeal.Launch
public import proofs.«01_k».proof.Proof.Gen.KernelDownWIdeal.Points
public import proofs.«01_k».proof.Proof.Gen.KernelDownWIdeal.Frame
public import proofs.«01_k».proof.Proof.Gen.KernelDownWIdeal.Value
public import proofs.«01_k».proof.Proof.Gen.ReferenceDownWIdeal
public import proofs.«01_k».proof.Proof.Gen.ReferenceDownWIdeal.Run
public import proofs.«01_k».proof.Proof.Gen.ReferenceDownWIdeal.Read
public import proofs.«01_k».proof.Proof.Gen.KernelDownX
public import proofs.«01_k».proof.Proof.Gen.KernelDownX.Skeleton
public import proofs.«01_k».proof.Proof.Gen.KernelDownX.Launch
public import proofs.«01_k».proof.Proof.Gen.KernelDownX.Points
public import proofs.«01_k».proof.Proof.Gen.KernelDownX.Frame
public import proofs.«01_k».proof.Proof.Gen.KernelDownXIdeal
public import proofs.«01_k».proof.Proof.Gen.KernelDownXIdeal.Skeleton
public import proofs.«01_k».proof.Proof.Gen.KernelDownXIdeal.Launch
public import proofs.«01_k».proof.Proof.Gen.KernelDownXIdeal.Points
public import proofs.«01_k».proof.Proof.Gen.KernelDownXIdeal.Frame
public import proofs.«01_k».proof.Proof.Gen.KernelDownXIdeal.Value
public import proofs.«01_k».proof.Proof.Gen.ReferenceDownXIdeal
public import proofs.«01_k».proof.Proof.Gen.ReferenceDownXIdeal.Run
public import proofs.«01_k».proof.Proof.Gen.ReferenceDownXIdeal.Read
public import proofs.«01_k».proof.Proof.Gen.KernelUpW
public import proofs.«01_k».proof.Proof.Gen.KernelUpW.Skeleton
public import proofs.«01_k».proof.Proof.Gen.KernelUpW.Launch
public import proofs.«01_k».proof.Proof.Gen.KernelUpW.Points
public import proofs.«01_k».proof.Proof.Gen.KernelUpW.Frame
public import proofs.«01_k».proof.Proof.Gen.KernelUpWIdeal
public import proofs.«01_k».proof.Proof.Gen.KernelUpWIdeal.Skeleton
public import proofs.«01_k».proof.Proof.Gen.KernelUpWIdeal.Launch
public import proofs.«01_k».proof.Proof.Gen.KernelUpWIdeal.Points
public import proofs.«01_k».proof.Proof.Gen.KernelUpWIdeal.Frame
public import proofs.«01_k».proof.Proof.Gen.KernelUpWIdeal.Value
public import proofs.«01_k».proof.Proof.Gen.ReferenceUpWIdeal
public import proofs.«01_k».proof.Proof.Gen.ReferenceUpWIdeal.Run
public import proofs.«01_k».proof.Proof.Gen.ReferenceUpWIdeal.Read
public import proofs.«01_k».proof.Proof.Gen.KernelUpX
public import proofs.«01_k».proof.Proof.Gen.KernelUpX.Skeleton
public import proofs.«01_k».proof.Proof.Gen.KernelUpX.Launch
public import proofs.«01_k».proof.Proof.Gen.KernelUpX.Points
public import proofs.«01_k».proof.Proof.Gen.KernelUpX.Frame
public import proofs.«01_k».proof.Proof.Gen.KernelUpXIdeal
public import proofs.«01_k».proof.Proof.Gen.KernelUpXIdeal.Skeleton
public import proofs.«01_k».proof.Proof.Gen.KernelUpXIdeal.Launch
public import proofs.«01_k».proof.Proof.Gen.KernelUpXIdeal.Points
public import proofs.«01_k».proof.Proof.Gen.KernelUpXIdeal.Frame
public import proofs.«01_k».proof.Proof.Gen.KernelUpXIdeal.Value
public import proofs.«01_k».proof.Proof.Gen.ReferenceUpXIdeal
public import proofs.«01_k».proof.Proof.Gen.ReferenceUpXIdeal.Run
public import proofs.«01_k».proof.Proof.Gen.ReferenceUpXIdeal.Read
public import proofs.«01_k».proof.Proof.Gen.KernelOW
public import proofs.«01_k».proof.Proof.Gen.KernelOW.Skeleton
public import proofs.«01_k».proof.Proof.Gen.KernelOW.Launch
public import proofs.«01_k».proof.Proof.Gen.KernelOW.Points
public import proofs.«01_k».proof.Proof.Gen.KernelOW.Frame
public import proofs.«01_k».proof.Proof.Gen.KernelOWIdeal
public import proofs.«01_k».proof.Proof.Gen.KernelOWIdeal.Skeleton
public import proofs.«01_k».proof.Proof.Gen.KernelOWIdeal.Launch
public import proofs.«01_k».proof.Proof.Gen.KernelOWIdeal.Points
public import proofs.«01_k».proof.Proof.Gen.KernelOWIdeal.Frame
public import proofs.«01_k».proof.Proof.Gen.KernelOWIdeal.Value
public import proofs.«01_k».proof.Proof.Gen.ReferenceOWIdeal
public import proofs.«01_k».proof.Proof.Gen.ReferenceOWIdeal.Run
public import proofs.«01_k».proof.Proof.Gen.ReferenceOWIdeal.Read
public import proofs.«01_k».proof.Proof.Gen.KernelOX
public import proofs.«01_k».proof.Proof.Gen.KernelOX.Skeleton
public import proofs.«01_k».proof.Proof.Gen.KernelOX.Launch
public import proofs.«01_k».proof.Proof.Gen.KernelOX.Points
public import proofs.«01_k».proof.Proof.Gen.KernelOX.Frame
public import proofs.«01_k».proof.Proof.Gen.KernelOXIdeal
public import proofs.«01_k».proof.Proof.Gen.KernelOXIdeal.Skeleton
public import proofs.«01_k».proof.Proof.Gen.KernelOXIdeal.Launch
public import proofs.«01_k».proof.Proof.Gen.KernelOXIdeal.Points
public import proofs.«01_k».proof.Proof.Gen.KernelOXIdeal.Frame
public import proofs.«01_k».proof.Proof.Gen.KernelOXIdeal.Value
public import proofs.«01_k».proof.Proof.Gen.ReferenceOXIdeal
public import proofs.«01_k».proof.Proof.Gen.ReferenceOXIdeal.Run
public import proofs.«01_k».proof.Proof.Gen.ReferenceOXIdeal.Read
public import proofs.«01_k».proof.Proof.Gen.KernelLoW
public import proofs.«01_k».proof.Proof.Gen.KernelLoW.Skeleton
public import proofs.«01_k».proof.Proof.Gen.KernelLoW.Launch
public import proofs.«01_k».proof.Proof.Gen.KernelLoW.Points
public import proofs.«01_k».proof.Proof.Gen.KernelLoW.Frame
public import proofs.«01_k».proof.Proof.Gen.KernelLoWIdeal
public import proofs.«01_k».proof.Proof.Gen.KernelLoWIdeal.Skeleton
public import proofs.«01_k».proof.Proof.Gen.KernelLoWIdeal.Launch
public import proofs.«01_k».proof.Proof.Gen.KernelLoWIdeal.Points
public import proofs.«01_k».proof.Proof.Gen.KernelLoWIdeal.Frame
public import proofs.«01_k».proof.Proof.Gen.KernelLoWIdeal.Value
public import proofs.«01_k».proof.Proof.Gen.ReferenceLoWIdeal
public import proofs.«01_k».proof.Proof.Gen.ReferenceLoWIdeal.Run
public import proofs.«01_k».proof.Proof.Gen.ReferenceLoWIdeal.Read
public import proofs.«01_k».proof.Proof.Gen.KernelLoX
public import proofs.«01_k».proof.Proof.Gen.KernelLoX.Skeleton
public import proofs.«01_k».proof.Proof.Gen.KernelLoX.Launch
public import proofs.«01_k».proof.Proof.Gen.KernelLoX.Points
public import proofs.«01_k».proof.Proof.Gen.KernelLoX.Frame
public import proofs.«01_k».proof.Proof.Gen.KernelLoXIdeal
public import proofs.«01_k».proof.Proof.Gen.KernelLoXIdeal.Skeleton
public import proofs.«01_k».proof.Proof.Gen.KernelLoXIdeal.Launch
public import proofs.«01_k».proof.Proof.Gen.KernelLoXIdeal.Points
public import proofs.«01_k».proof.Proof.Gen.KernelLoXIdeal.Frame
public import proofs.«01_k».proof.Proof.Gen.KernelLoXIdeal.Value
public import proofs.«01_k».proof.Proof.Gen.ReferenceLoXIdeal
public import proofs.«01_k».proof.Proof.Gen.ReferenceLoXIdeal.Run
public import proofs.«01_k».proof.Proof.Gen.ReferenceLoXIdeal.Read
public import proofs.«01_k».proof.Proof.Gen.KernelInW
public import proofs.«01_k».proof.Proof.Gen.KernelInW.Skeleton
public import proofs.«01_k».proof.Proof.Gen.KernelInW.Launch
public import proofs.«01_k».proof.Proof.Gen.KernelInW.Points
public import proofs.«01_k».proof.Proof.Gen.KernelInW.Frame
public import proofs.«01_k».proof.Proof.Gen.KernelInWIdeal
public import proofs.«01_k».proof.Proof.Gen.KernelInWIdeal.Skeleton
public import proofs.«01_k».proof.Proof.Gen.KernelInWIdeal.Launch
public import proofs.«01_k».proof.Proof.Gen.KernelInWIdeal.Points
public import proofs.«01_k».proof.Proof.Gen.KernelInWIdeal.Frame
public import proofs.«01_k».proof.Proof.Gen.KernelInWIdeal.Value
public import proofs.«01_k».proof.Proof.Gen.ReferenceInWIdeal
public import proofs.«01_k».proof.Proof.Gen.ReferenceInWIdeal.Run
public import proofs.«01_k».proof.Proof.Gen.ReferenceInWIdeal.Read
public import proofs.«01_k».proof.Proof.Gen.KernelInX
public import proofs.«01_k».proof.Proof.Gen.KernelInX.Skeleton
public import proofs.«01_k».proof.Proof.Gen.KernelInX.Launch
public import proofs.«01_k».proof.Proof.Gen.KernelInX.Points
public import proofs.«01_k».proof.Proof.Gen.KernelInX.Frame
public import proofs.«01_k».proof.Proof.Gen.KernelInXIdeal
public import proofs.«01_k».proof.Proof.Gen.KernelInXIdeal.Skeleton
public import proofs.«01_k».proof.Proof.Gen.KernelInXIdeal.Launch
public import proofs.«01_k».proof.Proof.Gen.KernelInXIdeal.Points
public import proofs.«01_k».proof.Proof.Gen.KernelInXIdeal.Frame
public import proofs.«01_k».proof.Proof.Gen.KernelInXIdeal.Value
public import proofs.«01_k».proof.Proof.Gen.ReferenceInXIdeal
public import proofs.«01_k».proof.Proof.Gen.ReferenceInXIdeal.Run
public import proofs.«01_k».proof.Proof.Gen.ReferenceInXIdeal.Read
public import proofs.«01_k».proof.Proof.Gen.KernelFf
public import proofs.«01_k».proof.Proof.Gen.KernelFf.Skeleton
public import proofs.«01_k».proof.Proof.Gen.KernelFf.Launch
public import proofs.«01_k».proof.Proof.Gen.KernelFf.Points
public import proofs.«01_k».proof.Proof.Gen.KernelFf.Frame
public import proofs.«01_k».proof.Proof.Gen.KernelFfIdeal
public import proofs.«01_k».proof.Proof.Gen.KernelFfIdeal.Skeleton
public import proofs.«01_k».proof.Proof.Gen.KernelFfIdeal.Launch
public import proofs.«01_k».proof.Proof.Gen.KernelFfIdeal.Points
public import proofs.«01_k».proof.Proof.Gen.KernelFfIdeal.Frame
public import proofs.«01_k».proof.Proof.Gen.KernelFfIdeal.Value
public import proofs.«01_k».proof.Proof.Gen.ReferenceFfIdeal
public import proofs.«01_k».proof.Proof.Gen.ReferenceFfIdeal.Run
public import proofs.«01_k».proof.Proof.Gen.ReferenceFfIdeal.Read
public import proofs.«01_k».proof.Proof.Gen.KernelMg
public import proofs.«01_k».proof.Proof.Gen.KernelMg.Skeleton
public import proofs.«01_k».proof.Proof.Gen.KernelMg.Launch
public import proofs.«01_k».proof.Proof.Gen.KernelMg.Points
public import proofs.«01_k».proof.Proof.Gen.KernelMg.Frame
public import proofs.«01_k».proof.Proof.Gen.KernelMgIdeal
public import proofs.«01_k».proof.Proof.Gen.KernelMgIdeal.Skeleton
public import proofs.«01_k».proof.Proof.Gen.KernelMgIdeal.Launch
public import proofs.«01_k».proof.Proof.Gen.KernelMgIdeal.Points
public import proofs.«01_k».proof.Proof.Gen.KernelMgIdeal.Frame
public import proofs.«01_k».proof.Proof.Gen.KernelMgIdeal.Value
public import proofs.«01_k».proof.Proof.Gen.ReferenceMgIdeal
public import proofs.«01_k».proof.Proof.Gen.ReferenceMgIdeal.Run
public import proofs.«01_k».proof.Proof.Gen.ReferenceMgIdeal.Read
public import proofs.«01_k».proof.Proof.Gen.KernelMgB
public import proofs.«01_k».proof.Proof.Gen.KernelMgB.Skeleton
public import proofs.«01_k».proof.Proof.Gen.KernelMgB.Launch
public import proofs.«01_k».proof.Proof.Gen.KernelMgB.Points
public import proofs.«01_k».proof.Proof.Gen.KernelMgB.Frame
public import proofs.«01_k».proof.Proof.Gen.KernelMgBIdeal
public import proofs.«01_k».proof.Proof.Gen.KernelMgBIdeal.Skeleton
public import proofs.«01_k».proof.Proof.Gen.KernelMgBIdeal.Launch
public import proofs.«01_k».proof.Proof.Gen.KernelMgBIdeal.Points
public import proofs.«01_k».proof.Proof.Gen.KernelMgBIdeal.Frame
public import proofs.«01_k».proof.Proof.Gen.KernelMgBIdeal.Value
public import proofs.«01_k».proof.Proof.Gen.ReferenceMgBIdeal
public import proofs.«01_k».proof.Proof.Gen.ReferenceMgBIdeal.Run
public import proofs.«01_k».proof.Proof.Gen.ReferenceMgBIdeal.Read
public import proofs.«01_k».proof.Proof.Gen.KernelRmM
public import proofs.«01_k».proof.Proof.Gen.KernelRmM.Skeleton
public import proofs.«01_k».proof.Proof.Gen.KernelRmM.Launch
public import proofs.«01_k».proof.Proof.Gen.KernelRmM.Points
public import proofs.«01_k».proof.Proof.Gen.KernelRmM.Frame
public import proofs.«01_k».proof.Proof.Gen.KernelRmMIdeal
public import proofs.«01_k».proof.Proof.Gen.KernelRmMIdeal.Skeleton
public import proofs.«01_k».proof.Proof.Gen.KernelRmMIdeal.Launch
public import proofs.«01_k».proof.Proof.Gen.KernelRmMIdeal.Points
public import proofs.«01_k».proof.Proof.Gen.KernelRmMIdeal.Frame
public import proofs.«01_k».proof.Proof.Gen.KernelRmMIdeal.Value
public import proofs.«01_k».proof.Proof.Gen.ReferenceRmMIdeal
public import proofs.«01_k».proof.Proof.Gen.ReferenceRmMIdeal.Run
public import proofs.«01_k».proof.Proof.Gen.ReferenceRmMIdeal.Read
public import proofs.«01_k».proof.Proof.Gen.KernelRmF
public import proofs.«01_k».proof.Proof.Gen.KernelRmF.Skeleton
public import proofs.«01_k».proof.Proof.Gen.KernelRmF.Launch
public import proofs.«01_k».proof.Proof.Gen.KernelRmF.Points
public import proofs.«01_k».proof.Proof.Gen.KernelRmF.Frame
public import proofs.«01_k».proof.Proof.Gen.KernelRmFIdeal
public import proofs.«01_k».proof.Proof.Gen.KernelRmFIdeal.Skeleton
public import proofs.«01_k».proof.Proof.Gen.KernelRmFIdeal.Launch
public import proofs.«01_k».proof.Proof.Gen.KernelRmFIdeal.Points
public import proofs.«01_k».proof.Proof.Gen.KernelRmFIdeal.Frame
public import proofs.«01_k».proof.Proof.Gen.KernelRmFIdeal.Value
public import proofs.«01_k».proof.Proof.Gen.ReferenceRmFIdeal
public import proofs.«01_k».proof.Proof.Gen.ReferenceRmFIdeal.Run
public import proofs.«01_k».proof.Proof.Gen.ReferenceRmFIdeal.Read
public import proofs.«01_k».proof.Proof.Gen.KernelRm
public import proofs.«01_k».proof.Proof.Gen.KernelRm.Skeleton
public import proofs.«01_k».proof.Proof.Gen.KernelRm.Launch
public import proofs.«01_k».proof.Proof.Gen.KernelRm.Points
public import proofs.«01_k».proof.Proof.Gen.KernelRm.Frame
public import proofs.«01_k».proof.Proof.Gen.KernelRmIdeal
public import proofs.«01_k».proof.Proof.Gen.KernelRmIdeal.Skeleton
public import proofs.«01_k».proof.Proof.Gen.KernelRmIdeal.Launch
public import proofs.«01_k».proof.Proof.Gen.KernelRmIdeal.Points
public import proofs.«01_k».proof.Proof.Gen.KernelRmIdeal.Frame
public import proofs.«01_k».proof.Proof.Gen.KernelRmIdeal.Value
public import proofs.«01_k».proof.Proof.Gen.ReferenceRmIdeal
public import proofs.«01_k».proof.Proof.Gen.ReferenceRmIdeal.Run
public import proofs.«01_k».proof.Proof.Gen.ReferenceRmIdeal.Read
public import proofs.«01_k».proof.Proof.Gen.KernelScF
public import proofs.«01_k».proof.Proof.Gen.KernelScF.Skeleton
public import proofs.«01_k».proof.Proof.Gen.KernelScF.Launch
public import proofs.«01_k».proof.Proof.Gen.KernelScF.Points
public import proofs.«01_k».proof.Proof.Gen.KernelScF.Frame
public import proofs.«01_k».proof.Proof.Gen.KernelScFIdeal
public import proofs.«01_k».proof.Proof.Gen.KernelScFIdeal.Skeleton
public import proofs.«01_k».proof.Proof.Gen.KernelScFIdeal.Launch
public import proofs.«01_k».proof.Proof.Gen.KernelScFIdeal.Points
public import proofs.«01_k».proof.Proof.Gen.KernelScFIdeal.Frame
public import proofs.«01_k».proof.Proof.Gen.KernelScFIdeal.Value
public import proofs.«01_k».proof.Proof.Gen.ReferenceScFIdeal
public import proofs.«01_k».proof.Proof.Gen.ReferenceScFIdeal.Run
public import proofs.«01_k».proof.Proof.Gen.ReferenceScFIdeal.Read
public import proofs.«01_k».proof.Proof.Gen.KernelFfF
public import proofs.«01_k».proof.Proof.Gen.KernelFfF.Skeleton
public import proofs.«01_k».proof.Proof.Gen.KernelFfF.Launch
public import proofs.«01_k».proof.Proof.Gen.KernelFfF.Points
public import proofs.«01_k».proof.Proof.Gen.KernelFfF.Frame
public import proofs.«01_k».proof.Proof.Gen.KernelFfFIdeal
public import proofs.«01_k».proof.Proof.Gen.KernelFfFIdeal.Skeleton
public import proofs.«01_k».proof.Proof.Gen.KernelFfFIdeal.Launch
public import proofs.«01_k».proof.Proof.Gen.KernelFfFIdeal.Points
public import proofs.«01_k».proof.Proof.Gen.KernelFfFIdeal.Frame
public import proofs.«01_k».proof.Proof.Gen.KernelFfFIdeal.Value
public import proofs.«01_k».proof.Proof.Gen.ReferenceFfFIdeal
public import proofs.«01_k».proof.Proof.Gen.ReferenceFfFIdeal.Run
public import proofs.«01_k».proof.Proof.Gen.ReferenceFfFIdeal.Read
public import proofs.«01_k».proof.Proof.Gen.KernelLh
public import proofs.«01_k».proof.Proof.Gen.KernelLh.Skeleton
public import proofs.«01_k».proof.Proof.Gen.KernelLh.Launch
public import proofs.«01_k».proof.Proof.Gen.KernelLh.Points
public import proofs.«01_k».proof.Proof.Gen.KernelLh.Frame
public import proofs.«01_k».proof.Proof.Gen.KernelLhIdeal
public import proofs.«01_k».proof.Proof.Gen.KernelLhIdeal.Skeleton
public import proofs.«01_k».proof.Proof.Gen.KernelLhIdeal.Launch
public import proofs.«01_k».proof.Proof.Gen.KernelLhIdeal.Points
public import proofs.«01_k».proof.Proof.Gen.KernelLhIdeal.Frame
public import proofs.«01_k».proof.Proof.Gen.KernelLhIdeal.Value
public import proofs.«01_k».proof.Proof.Gen.ReferenceLhIdeal
public import proofs.«01_k».proof.Proof.Gen.ReferenceLhIdeal.Run
public import proofs.«01_k».proof.Proof.Gen.ReferenceLhIdeal.Read
public import proofs.«01_k».proof.Proof.Gen.KernelAdA
public import proofs.«01_k».proof.Proof.Gen.KernelAdA.Skeleton
public import proofs.«01_k».proof.Proof.Gen.KernelAdA.Launch
public import proofs.«01_k».proof.Proof.Gen.KernelAdA.Points
public import proofs.«01_k».proof.Proof.Gen.KernelAdA.Frame
public import proofs.«01_k».proof.Proof.Gen.KernelAdAIdeal
public import proofs.«01_k».proof.Proof.Gen.KernelAdAIdeal.Skeleton
public import proofs.«01_k».proof.Proof.Gen.KernelAdAIdeal.Launch
public import proofs.«01_k».proof.Proof.Gen.KernelAdAIdeal.Points
public import proofs.«01_k».proof.Proof.Gen.KernelAdAIdeal.Frame
public import proofs.«01_k».proof.Proof.Gen.KernelAdAIdeal.Value
public import proofs.«01_k».proof.Proof.Gen.ReferenceAdAIdeal
public import proofs.«01_k».proof.Proof.Gen.ReferenceAdAIdeal.Run
public import proofs.«01_k».proof.Proof.Gen.ReferenceAdAIdeal.Read
public import proofs.«01_k».proof.Proof.Gen.KernelAdB
public import proofs.«01_k».proof.Proof.Gen.KernelAdB.Skeleton
public import proofs.«01_k».proof.Proof.Gen.KernelAdB.Launch
public import proofs.«01_k».proof.Proof.Gen.KernelAdB.Points
public import proofs.«01_k».proof.Proof.Gen.KernelAdB.Frame
public import proofs.«01_k».proof.Proof.Gen.KernelAdBIdeal
public import proofs.«01_k».proof.Proof.Gen.KernelAdBIdeal.Skeleton
public import proofs.«01_k».proof.Proof.Gen.KernelAdBIdeal.Launch
public import proofs.«01_k».proof.Proof.Gen.KernelAdBIdeal.Points
public import proofs.«01_k».proof.Proof.Gen.KernelAdBIdeal.Frame
public import proofs.«01_k».proof.Proof.Gen.KernelAdBIdeal.Value
public import proofs.«01_k».proof.Proof.Gen.ReferenceAdBIdeal
public import proofs.«01_k».proof.Proof.Gen.ReferenceAdBIdeal.Run
public import proofs.«01_k».proof.Proof.Gen.ReferenceAdBIdeal.Read
public import proofs.«01_k».proof.Proof.Gen.KernelAdC
public import proofs.«01_k».proof.Proof.Gen.KernelAdC.Skeleton
public import proofs.«01_k».proof.Proof.Gen.KernelAdC.Launch
public import proofs.«01_k».proof.Proof.Gen.KernelAdC.Points
public import proofs.«01_k».proof.Proof.Gen.KernelAdC.Frame
public import proofs.«01_k».proof.Proof.Gen.KernelAdCIdeal
public import proofs.«01_k».proof.Proof.Gen.KernelAdCIdeal.Skeleton
public import proofs.«01_k».proof.Proof.Gen.KernelAdCIdeal.Launch
public import proofs.«01_k».proof.Proof.Gen.KernelAdCIdeal.Points
public import proofs.«01_k».proof.Proof.Gen.KernelAdCIdeal.Frame
public import proofs.«01_k».proof.Proof.Gen.KernelAdCIdeal.Value
public import proofs.«01_k».proof.Proof.Gen.ReferenceAdCIdeal
public import proofs.«01_k».proof.Proof.Gen.ReferenceAdCIdeal.Run
public import proofs.«01_k».proof.Proof.Gen.ReferenceAdCIdeal.Read
public import proofs.«01_k».proof.Proof.Gen.KernelAdD
public import proofs.«01_k».proof.Proof.Gen.KernelAdD.Skeleton
public import proofs.«01_k».proof.Proof.Gen.KernelAdD.Launch
public import proofs.«01_k».proof.Proof.Gen.KernelAdD.Points
public import proofs.«01_k».proof.Proof.Gen.KernelAdD.Frame
public import proofs.«01_k».proof.Proof.Gen.KernelAdDIdeal
public import proofs.«01_k».proof.Proof.Gen.KernelAdDIdeal.Skeleton
public import proofs.«01_k».proof.Proof.Gen.KernelAdDIdeal.Launch
public import proofs.«01_k».proof.Proof.Gen.KernelAdDIdeal.Points
public import proofs.«01_k».proof.Proof.Gen.KernelAdDIdeal.Frame
public import proofs.«01_k».proof.Proof.Gen.KernelAdDIdeal.Value
public import proofs.«01_k».proof.Proof.Gen.ReferenceAdDIdeal
public import proofs.«01_k».proof.Proof.Gen.ReferenceAdDIdeal.Run
public import proofs.«01_k».proof.Proof.Gen.ReferenceAdDIdeal.Read
public import proofs.«01_k».proof.Proof.Gen.KernelAdE
public import proofs.«01_k».proof.Proof.Gen.KernelAdE.Skeleton
public import proofs.«01_k».proof.Proof.Gen.KernelAdE.Launch
public import proofs.«01_k».proof.Proof.Gen.KernelAdE.Points
public import proofs.«01_k».proof.Proof.Gen.KernelAdE.Frame
public import proofs.«01_k».proof.Proof.Gen.KernelAdEIdeal
public import proofs.«01_k».proof.Proof.Gen.KernelAdEIdeal.Skeleton
public import proofs.«01_k».proof.Proof.Gen.KernelAdEIdeal.Launch
public import proofs.«01_k».proof.Proof.Gen.KernelAdEIdeal.Points
public import proofs.«01_k».proof.Proof.Gen.KernelAdEIdeal.Frame
public import proofs.«01_k».proof.Proof.Gen.KernelAdEIdeal.Value
public import proofs.«01_k».proof.Proof.Gen.ReferenceAdEIdeal
public import proofs.«01_k».proof.Proof.Gen.ReferenceAdEIdeal.Run
public import proofs.«01_k».proof.Proof.Gen.ReferenceAdEIdeal.Read
public import proofs.«01_k».proof.Proof.Gen.KernelAdS
public import proofs.«01_k».proof.Proof.Gen.KernelAdS.Skeleton
public import proofs.«01_k».proof.Proof.Gen.KernelAdS.Launch
public import proofs.«01_k».proof.Proof.Gen.KernelAdS.Points
public import proofs.«01_k».proof.Proof.Gen.KernelAdS.Frame
public import proofs.«01_k».proof.Proof.Gen.KernelAdSIdeal
public import proofs.«01_k».proof.Proof.Gen.KernelAdSIdeal.Skeleton
public import proofs.«01_k».proof.Proof.Gen.KernelAdSIdeal.Launch
public import proofs.«01_k».proof.Proof.Gen.KernelAdSIdeal.Points
public import proofs.«01_k».proof.Proof.Gen.KernelAdSIdeal.Frame
public import proofs.«01_k».proof.Proof.Gen.KernelAdSIdeal.Value
public import proofs.«01_k».proof.Proof.Gen.ReferenceAdSIdeal
public import proofs.«01_k».proof.Proof.Gen.ReferenceAdSIdeal.Run
public import proofs.«01_k».proof.Proof.Gen.ReferenceAdSIdeal.Read
public import proofs.«01_k».proof.Proof.ScClaims
public import proofs.«01_k».proof.Proof.MmForward
public import proofs.«01_k».proof.Proof.MmWeight
public import proofs.«01_k».proof.Proof.MmInput
public import proofs.«01_k».proof.Proof.MmSlabs
public import proofs.«01_k».proof.Proof.FfClaims
public import proofs.«01_k».proof.Proof.MergeForward
public import proofs.«01_k».proof.Proof.MergeBackward
public import proofs.«01_k».proof.Proof.NormMix
public import proofs.«01_k».proof.Proof.NormFfn
public import proofs.«01_k».proof.Proof.NormForward
public import proofs.«01_k».proof.Proof.ScForward
public import proofs.«01_k».proof.Proof.FfForward
public import proofs.«01_k».proof.Proof.LossHead
public import proofs.«01_k».proof.Proof.AdamW
public import Idealize.ShloMosaic.Adequacy
public import Idealize.ShloMosaic.Init

@[expose] public section

noncomputable section

namespace Cert.Proof

open Idealize.ShloMosaic Idealize.SL.Sem

/-! Each reference's frame, from its run. -/

theorem frame_Reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem frame_ReferenceIn : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)

theorem frame_ReferenceLo : Cert.quiescent_ReferenceLoIdeal := fun m ρ _ =>
  (θ_run Cert.ReferenceLoIdeal.defs _ _).mono (fun r h => ⟨fun c => (h c).2, Idealize.ShloMosaic.sem_eq_zero_of_no_sems (by decide) r.2⟩)
    (Cert.ReferenceLoIdeal.Value.run (F := Ideal) m ρ)

theorem frame_ReferenceO : Cert.quiescent_ReferenceOIdeal := fun m ρ _ =>
  (θ_run Cert.ReferenceOIdeal.defs _ _).mono (fun r h => ⟨fun c => (h c).2, Idealize.ShloMosaic.sem_eq_zero_of_no_sems (by decide) r.2⟩)
    (Cert.ReferenceOIdeal.Value.run (F := Ideal) m ρ)

theorem frame_ReferenceUp : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)

theorem frame_ReferenceDown : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)

theorem frame_ReferenceDownW : Cert.quiescent_ReferenceDownWIdeal := fun m ρ _ =>
  (θ_run Cert.ReferenceDownWIdeal.defs _ _).mono (fun r h => ⟨fun c => (h c).2, Idealize.ShloMosaic.sem_eq_zero_of_no_sems (by decide) r.2⟩)
    (Cert.ReferenceDownWIdeal.Value.run (F := Ideal) m ρ)

theorem frame_ReferenceDownX : Cert.quiescent_ReferenceDownXIdeal := fun m ρ _ =>
  (θ_run Cert.ReferenceDownXIdeal.defs _ _).mono (fun r h => ⟨fun c => (h c).2, Idealize.ShloMosaic.sem_eq_zero_of_no_sems (by decide) r.2⟩)
    (Cert.ReferenceDownXIdeal.Value.run (F := Ideal) m ρ)

theorem frame_ReferenceUpW : Cert.quiescent_ReferenceUpWIdeal := fun m ρ _ =>
  (θ_run Cert.ReferenceUpWIdeal.defs _ _).mono (fun r h => ⟨fun c => (h c).2, Idealize.ShloMosaic.sem_eq_zero_of_no_sems (by decide) r.2⟩)
    (Cert.ReferenceUpWIdeal.Value.run (F := Ideal) m ρ)

theorem frame_ReferenceUpX : Cert.quiescent_ReferenceUpXIdeal := fun m ρ _ =>
  (θ_run Cert.ReferenceUpXIdeal.defs _ _).mono (fun r h => ⟨fun c => (h c).2, Idealize.ShloMosaic.sem_eq_zero_of_no_sems (by decide) r.2⟩)
    (Cert.ReferenceUpXIdeal.Value.run (F := Ideal) m ρ)

theorem frame_ReferenceOW : Cert.quiescent_ReferenceOWIdeal := fun m ρ _ =>
  (θ_run Cert.ReferenceOWIdeal.defs _ _).mono (fun r h => ⟨fun c => (h c).2, Idealize.ShloMosaic.sem_eq_zero_of_no_sems (by decide) r.2⟩)
    (Cert.ReferenceOWIdeal.Value.run (F := Ideal) m ρ)

theorem frame_ReferenceOX : Cert.quiescent_ReferenceOXIdeal := fun m ρ _ =>
  (θ_run Cert.ReferenceOXIdeal.defs _ _).mono (fun r h => ⟨fun c => (h c).2, Idealize.ShloMosaic.sem_eq_zero_of_no_sems (by decide) r.2⟩)
    (Cert.ReferenceOXIdeal.Value.run (F := Ideal) m ρ)

theorem frame_ReferenceLoW : Cert.quiescent_ReferenceLoWIdeal := fun m ρ _ =>
  (θ_run Cert.ReferenceLoWIdeal.defs _ _).mono (fun r h => ⟨fun c => (h c).2, Idealize.ShloMosaic.sem_eq_zero_of_no_sems (by decide) r.2⟩)
    (Cert.ReferenceLoWIdeal.Value.run (F := Ideal) m ρ)

theorem frame_ReferenceLoX : Cert.quiescent_ReferenceLoXIdeal := fun m ρ _ =>
  (θ_run Cert.ReferenceLoXIdeal.defs _ _).mono (fun r h => ⟨fun c => (h c).2, Idealize.ShloMosaic.sem_eq_zero_of_no_sems (by decide) r.2⟩)
    (Cert.ReferenceLoXIdeal.Value.run (F := Ideal) m ρ)

theorem frame_ReferenceInW : Cert.quiescent_ReferenceInWIdeal := fun m ρ _ =>
  (θ_run Cert.ReferenceInWIdeal.defs _ _).mono (fun r h => ⟨fun c => (h c).2, Idealize.ShloMosaic.sem_eq_zero_of_no_sems (by decide) r.2⟩)
    (Cert.ReferenceInWIdeal.Value.run (F := Ideal) m ρ)

theorem frame_ReferenceInX : Cert.quiescent_ReferenceInXIdeal := fun m ρ _ =>
  (θ_run Cert.ReferenceInXIdeal.defs _ _).mono (fun r h => ⟨fun c => (h c).2, Idealize.ShloMosaic.sem_eq_zero_of_no_sems (by decide) r.2⟩)
    (Cert.ReferenceInXIdeal.Value.run (F := Ideal) m ρ)

theorem frame_ReferenceFf : Cert.quiescent_ReferenceFfIdeal := fun m ρ _ =>
  (θ_run Cert.ReferenceFfIdeal.defs _ _).mono (fun r h => ⟨fun c => (h c).2.2.2, Idealize.ShloMosaic.sem_eq_zero_of_no_sems (by decide) r.2⟩)
    (Cert.ReferenceFfIdeal.Value.run (F := Ideal) m ρ)

theorem frame_ReferenceMg : Cert.quiescent_ReferenceMgIdeal := fun m ρ _ =>
  (θ_run Cert.ReferenceMgIdeal.defs _ _).mono (fun r h => ⟨fun c => (h c).2, Idealize.ShloMosaic.sem_eq_zero_of_no_sems (by decide) r.2⟩)
    (Cert.ReferenceMgIdeal.Value.run (F := Ideal) m ρ)

theorem frame_ReferenceMgB : Cert.quiescent_ReferenceMgBIdeal := fun m ρ _ =>
  (θ_run Cert.ReferenceMgBIdeal.defs _ _).mono (fun r h => ⟨fun c => (h c).2.2.2, Idealize.ShloMosaic.sem_eq_zero_of_no_sems (by decide) r.2⟩)
    (Cert.ReferenceMgBIdeal.Value.run (F := Ideal) m ρ)

theorem frame_ReferenceRmM : Cert.quiescent_ReferenceRmMIdeal := fun m ρ _ =>
  (θ_run Cert.ReferenceRmMIdeal.defs _ _).mono (fun r h => ⟨fun c => (h c).2.2, Idealize.ShloMosaic.sem_eq_zero_of_no_sems (by decide) r.2⟩)
    (Cert.ReferenceRmMIdeal.Value.run (F := Ideal) m ρ)

theorem frame_ReferenceRmF : Cert.quiescent_ReferenceRmFIdeal := fun m ρ _ =>
  (θ_run Cert.ReferenceRmFIdeal.defs _ _).mono (fun r h => ⟨fun c => (h c).2.2.2, Idealize.ShloMosaic.sem_eq_zero_of_no_sems (by decide) r.2⟩)
    (Cert.ReferenceRmFIdeal.Value.run (F := Ideal) m ρ)

theorem frame_ReferenceRm : Cert.quiescent_ReferenceRmIdeal := fun m ρ _ =>
  (θ_run Cert.ReferenceRmIdeal.defs _ _).mono (fun r h => ⟨fun c => (h c).2, Idealize.ShloMosaic.sem_eq_zero_of_no_sems (by decide) r.2⟩)
    (Cert.ReferenceRmIdeal.Value.run (F := Ideal) m ρ)

theorem frame_ReferenceScF : Cert.quiescent_ReferenceScFIdeal := fun m ρ _ =>
  (θ_run Cert.ReferenceScFIdeal.defs _ _).mono (fun r h => ⟨fun c => (h c).2, Idealize.ShloMosaic.sem_eq_zero_of_no_sems (by decide) r.2⟩)
    (Cert.ReferenceScFIdeal.Value.run (F := Ideal) m ρ)

theorem frame_ReferenceFfF : Cert.quiescent_ReferenceFfFIdeal := fun m ρ _ =>
  (θ_run Cert.ReferenceFfFIdeal.defs _ _).mono (fun r h => ⟨fun c => (h c).2, Idealize.ShloMosaic.sem_eq_zero_of_no_sems (by decide) r.2⟩)
    (Cert.ReferenceFfFIdeal.Value.run (F := Ideal) m ρ)

theorem frame_ReferenceLh : Cert.quiescent_ReferenceLhIdeal := fun m ρ _ =>
  (θ_run Cert.ReferenceLhIdeal.defs _ _).mono (fun r h => ⟨fun c => (h c).2.2.2.2, Idealize.ShloMosaic.sem_eq_zero_of_no_sems (by decide) r.2⟩)
    (Cert.ReferenceLhIdeal.Value.run (F := Ideal) m ρ)

theorem frame_ReferenceAdA : Cert.quiescent_ReferenceAdAIdeal := fun m ρ _ =>
  (θ_run Cert.ReferenceAdAIdeal.defs _ _).mono (fun r h => ⟨fun c => (h c).2.2.2.2, Idealize.ShloMosaic.sem_eq_zero_of_no_sems (by decide) r.2⟩)
    (Cert.ReferenceAdAIdeal.Value.run (F := Ideal) m ρ)

theorem frame_ReferenceAdB : Cert.quiescent_ReferenceAdBIdeal := fun m ρ _ =>
  (θ_run Cert.ReferenceAdBIdeal.defs _ _).mono (fun r h => ⟨fun c => (h c).2.2.2.2, Idealize.ShloMosaic.sem_eq_zero_of_no_sems (by decide) r.2⟩)
    (Cert.ReferenceAdBIdeal.Value.run (F := Ideal) m ρ)

theorem frame_ReferenceAdC : Cert.quiescent_ReferenceAdCIdeal := fun m ρ _ =>
  (θ_run Cert.ReferenceAdCIdeal.defs _ _).mono (fun r h => ⟨fun c => (h c).2.2.2.2, Idealize.ShloMosaic.sem_eq_zero_of_no_sems (by decide) r.2⟩)
    (Cert.ReferenceAdCIdeal.Value.run (F := Ideal) m ρ)

theorem frame_ReferenceAdD : Cert.quiescent_ReferenceAdDIdeal := fun m ρ _ =>
  (θ_run Cert.ReferenceAdDIdeal.defs _ _).mono (fun r h => ⟨fun c => (h c).2.2.2.2, Idealize.ShloMosaic.sem_eq_zero_of_no_sems (by decide) r.2⟩)
    (Cert.ReferenceAdDIdeal.Value.run (F := Ideal) m ρ)

theorem frame_ReferenceAdE : Cert.quiescent_ReferenceAdEIdeal := fun m ρ _ =>
  (θ_run Cert.ReferenceAdEIdeal.defs _ _).mono (fun r h => ⟨fun c => (h c).2.2.2.2, Idealize.ShloMosaic.sem_eq_zero_of_no_sems (by decide) r.2⟩)
    (Cert.ReferenceAdEIdeal.Value.run (F := Ideal) m ρ)

theorem frame_ReferenceAdS : Cert.quiescent_ReferenceAdSIdeal := fun m ρ _ =>
  (θ_run Cert.ReferenceAdSIdeal.defs _ _).mono (fun r h => ⟨fun c => (h c).2.2.2.2, Idealize.ShloMosaic.sem_eq_zero_of_no_sems (by decide) r.2⟩)
    (Cert.ReferenceAdSIdeal.Value.run (F := Ideal) m ρ)

theorem claim : Cert.Claim :=
  ⟨Cert.Kernel2.Gen.facts, Cert.Kernel2Ideal.Gen.facts, Cert.Reference2Ideal.Gen.facts,
    Cert.KernelIn.Gen.facts, Cert.KernelInIdeal.Gen.facts, Cert.ReferenceInIdeal.Gen.facts,
    Cert.KernelLo.Gen.facts, Cert.KernelLoIdeal.Gen.facts, Cert.ReferenceLoIdeal.Gen.facts,
    Cert.KernelO.Gen.facts, Cert.KernelOIdeal.Gen.facts, Cert.ReferenceOIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelDownW.Gen.facts, Cert.KernelDownWIdeal.Gen.facts, Cert.ReferenceDownWIdeal.Gen.facts,
    Cert.KernelDownX.Gen.facts, Cert.KernelDownXIdeal.Gen.facts, Cert.ReferenceDownXIdeal.Gen.facts,
    Cert.KernelUpW.Gen.facts, Cert.KernelUpWIdeal.Gen.facts, Cert.ReferenceUpWIdeal.Gen.facts,
    Cert.KernelUpX.Gen.facts, Cert.KernelUpXIdeal.Gen.facts, Cert.ReferenceUpXIdeal.Gen.facts,
    Cert.KernelOW.Gen.facts, Cert.KernelOWIdeal.Gen.facts, Cert.ReferenceOWIdeal.Gen.facts,
    Cert.KernelOX.Gen.facts, Cert.KernelOXIdeal.Gen.facts, Cert.ReferenceOXIdeal.Gen.facts,
    Cert.KernelLoW.Gen.facts, Cert.KernelLoWIdeal.Gen.facts, Cert.ReferenceLoWIdeal.Gen.facts,
    Cert.KernelLoX.Gen.facts, Cert.KernelLoXIdeal.Gen.facts, Cert.ReferenceLoXIdeal.Gen.facts,
    Cert.KernelInW.Gen.facts, Cert.KernelInWIdeal.Gen.facts, Cert.ReferenceInWIdeal.Gen.facts,
    Cert.KernelInX.Gen.facts, Cert.KernelInXIdeal.Gen.facts, Cert.ReferenceInXIdeal.Gen.facts,
    Cert.KernelFf.Gen.facts, Cert.KernelFfIdeal.Gen.facts, Cert.ReferenceFfIdeal.Gen.facts,
    Cert.KernelMg.Gen.facts, Cert.KernelMgIdeal.Gen.facts, Cert.ReferenceMgIdeal.Gen.facts,
    Cert.KernelMgB.Gen.facts, Cert.KernelMgBIdeal.Gen.facts, Cert.ReferenceMgBIdeal.Gen.facts,
    Cert.KernelRmM.Gen.facts, Cert.KernelRmMIdeal.Gen.facts, Cert.ReferenceRmMIdeal.Gen.facts,
    Cert.KernelRmF.Gen.facts, Cert.KernelRmFIdeal.Gen.facts, Cert.ReferenceRmFIdeal.Gen.facts,
    Cert.KernelRm.Gen.facts, Cert.KernelRmIdeal.Gen.facts, Cert.ReferenceRmIdeal.Gen.facts,
    Cert.KernelScF.Gen.facts, Cert.KernelScFIdeal.Gen.facts, Cert.ReferenceScFIdeal.Gen.facts,
    Cert.KernelFfF.Gen.facts, Cert.KernelFfFIdeal.Gen.facts, Cert.ReferenceFfFIdeal.Gen.facts,
    Cert.KernelLh.Gen.facts, Cert.KernelLhIdeal.Gen.facts, Cert.ReferenceLhIdeal.Gen.facts,
    Cert.KernelAdA.Gen.facts, Cert.KernelAdAIdeal.Gen.facts, Cert.ReferenceAdAIdeal.Gen.facts,
    Cert.KernelAdB.Gen.facts, Cert.KernelAdBIdeal.Gen.facts, Cert.ReferenceAdBIdeal.Gen.facts,
    Cert.KernelAdC.Gen.facts, Cert.KernelAdCIdeal.Gen.facts, Cert.ReferenceAdCIdeal.Gen.facts,
    Cert.KernelAdD.Gen.facts, Cert.KernelAdDIdeal.Gen.facts, Cert.ReferenceAdDIdeal.Gen.facts,
    Cert.KernelAdE.Gen.facts, Cert.KernelAdEIdeal.Gen.facts, Cert.ReferenceAdEIdeal.Gen.facts,
    Cert.KernelAdS.Gen.facts, Cert.KernelAdSIdeal.Gen.facts, Cert.ReferenceAdSIdeal.Gen.facts,
    Cert.Pre_finite.facts,
    Cert.On_gates_written.facts,
    fun m ρ _ => Cert.Kernel2.Gen.frame m ρ, fun m ρ _ => Cert.Kernel2Ideal.Gen.frame m ρ, frame_Reference2,
    fun m ρ _ => Cert.KernelIn.Gen.frame m ρ, fun m ρ _ => Cert.KernelInIdeal.Gen.frame m ρ, frame_ReferenceIn,
    fun m ρ _ => Cert.KernelLo.Gen.frame m ρ, fun m ρ _ => Cert.KernelLoIdeal.Gen.frame m ρ, frame_ReferenceLo,
    fun m ρ _ => Cert.KernelO.Gen.frame m ρ, fun m ρ _ => Cert.KernelOIdeal.Gen.frame m ρ, frame_ReferenceO,
    fun m ρ _ => Cert.KernelUp.Gen.frame m ρ, fun m ρ _ => Cert.KernelUpIdeal.Gen.frame m ρ, frame_ReferenceUp,
    fun m ρ _ => Cert.KernelDown.Gen.frame m ρ, fun m ρ _ => Cert.KernelDownIdeal.Gen.frame m ρ, frame_ReferenceDown,
    fun m ρ _ => Cert.KernelDownW.Gen.frame m ρ, fun m ρ _ => Cert.KernelDownWIdeal.Gen.frame m ρ, frame_ReferenceDownW,
    fun m ρ _ => Cert.KernelDownX.Gen.frame m ρ, fun m ρ _ => Cert.KernelDownXIdeal.Gen.frame m ρ, frame_ReferenceDownX,
    fun m ρ _ => Cert.KernelUpW.Gen.frame m ρ, fun m ρ _ => Cert.KernelUpWIdeal.Gen.frame m ρ, frame_ReferenceUpW,
    fun m ρ _ => Cert.KernelUpX.Gen.frame m ρ, fun m ρ _ => Cert.KernelUpXIdeal.Gen.frame m ρ, frame_ReferenceUpX,
    fun m ρ _ => Cert.KernelOW.Gen.frame m ρ, fun m ρ _ => Cert.KernelOWIdeal.Gen.frame m ρ, frame_ReferenceOW,
    fun m ρ _ => Cert.KernelOX.Gen.frame m ρ, fun m ρ _ => Cert.KernelOXIdeal.Gen.frame m ρ, frame_ReferenceOX,
    fun m ρ _ => Cert.KernelLoW.Gen.frame m ρ, fun m ρ _ => Cert.KernelLoWIdeal.Gen.frame m ρ, frame_ReferenceLoW,
    fun m ρ _ => Cert.KernelLoX.Gen.frame m ρ, fun m ρ _ => Cert.KernelLoXIdeal.Gen.frame m ρ, frame_ReferenceLoX,
    fun m ρ _ => Cert.KernelInW.Gen.frame m ρ, fun m ρ _ => Cert.KernelInWIdeal.Gen.frame m ρ, frame_ReferenceInW,
    fun m ρ _ => Cert.KernelInX.Gen.frame m ρ, fun m ρ _ => Cert.KernelInXIdeal.Gen.frame m ρ, frame_ReferenceInX,
    fun m ρ _ => Cert.KernelFf.Gen.frame m ρ, fun m ρ _ => Cert.KernelFfIdeal.Gen.frame m ρ, fun m ρ _ => Cert.KernelFfIdeal.Gen.frame m ρ, frame_ReferenceFf, fun m ρ _ => frame_ReferenceFf m ρ trivial,
    fun m ρ _ => Cert.KernelMg.Gen.frame m ρ, fun m ρ _ => Cert.KernelMgIdeal.Gen.frame m ρ, frame_ReferenceMg,
    fun m ρ _ => Cert.KernelMgB.Gen.frame m ρ, fun m ρ _ => Cert.KernelMgBIdeal.Gen.frame m ρ, frame_ReferenceMgB,
    fun m ρ _ => Cert.KernelRmM.Gen.frame m ρ, fun m ρ _ => Cert.KernelRmMIdeal.Gen.frame m ρ, frame_ReferenceRmM,
    fun m ρ _ => Cert.KernelRmF.Gen.frame m ρ, fun m ρ _ => Cert.KernelRmFIdeal.Gen.frame m ρ, frame_ReferenceRmF,
    fun m ρ _ => Cert.KernelRm.Gen.frame m ρ, fun m ρ _ => Cert.KernelRmIdeal.Gen.frame m ρ, frame_ReferenceRm,
    fun m ρ _ => Cert.KernelScF.Gen.frame m ρ, fun m ρ _ => Cert.KernelScFIdeal.Gen.frame m ρ, frame_ReferenceScF,
    fun m ρ _ => Cert.KernelFfF.Gen.frame m ρ, fun m ρ _ => Cert.KernelFfFIdeal.Gen.frame m ρ, frame_ReferenceFfF,
    fun m ρ _ => Cert.KernelLh.Gen.frame m ρ, fun m ρ _ => Cert.KernelLhIdeal.Gen.frame m ρ, frame_ReferenceLh,
    fun m ρ _ => Cert.KernelAdA.Gen.frame m ρ, fun m ρ _ => Cert.KernelAdAIdeal.Gen.frame m ρ, frame_ReferenceAdA,
    fun m ρ _ => Cert.KernelAdB.Gen.frame m ρ, fun m ρ _ => Cert.KernelAdBIdeal.Gen.frame m ρ, frame_ReferenceAdB,
    fun m ρ _ => Cert.KernelAdC.Gen.frame m ρ, fun m ρ _ => Cert.KernelAdCIdeal.Gen.frame m ρ, frame_ReferenceAdC,
    fun m ρ _ => Cert.KernelAdD.Gen.frame m ρ, fun m ρ _ => Cert.KernelAdDIdeal.Gen.frame m ρ, frame_ReferenceAdD,
    fun m ρ _ => Cert.KernelAdE.Gen.frame m ρ, fun m ρ _ => Cert.KernelAdEIdeal.Gen.frame m ρ, frame_ReferenceAdE,
    fun m ρ _ => Cert.KernelAdS.Gen.frame m ρ, fun m ρ _ => Cert.KernelAdSIdeal.Gen.frame m ρ, frame_ReferenceAdS,
    trivial, Cert.Sc.Claims.algebraic,
    trivial, Cert.Mm.In.algebraic,
    trivial, Cert.Mm.Lo.algebraic,
    trivial, Cert.Mm.O.algebraic,
    trivial, Cert.Mm.Up.algebraic,
    trivial, Cert.Mm.Down.algebraic,
    trivial, Cert.Mm.DownW.algebraic,
    trivial, Cert.Mm.DownX.algebraic,
    trivial, Cert.Mm.UpW.algebraic,
    trivial, Cert.Mm.UpX.algebraic,
    trivial, Cert.Mm.OW.algebraic,
    trivial, Cert.Mm.OX.algebraic,
    trivial, Cert.Mm.LoW.algebraic,
    trivial, Cert.Mm.LoX.algebraic,
    trivial, Cert.Mm.InW.algebraic,
    trivial, Cert.Mm.InX.algebraic,
    trivial, Cert.Ff.Claims.algebraic,
    trivial, Cert.Merge.algebraic,
    trivial, Cert.MergeBack.algebraic,
    trivial, Cert.Norm.Mix.algebraic,
    trivial, Cert.Norm.Ffn.algebraic,
    trivial, Cert.Norm.Forward.algebraic,
    trivial, Cert.ScFwd.algebraic,
    trivial, Cert.FfFwd.algebraic,
    trivial, Cert.Loss.algebraic,
    trivial, Cert.Adam.AdA.algebraic,
    trivial, Cert.Adam.AdB.algebraic,
    trivial, Cert.Adam.AdC.algebraic,
    trivial, Cert.Adam.AdD.algebraic,
    trivial, Cert.Adam.AdE.algebraic,
    trivial, Cert.Adam.AdS.algebraic⟩

end Cert.Proof

end
